-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_InProj (m : (ℓ : Loc Cert.InProj.nD Cert.InProj.τ Cert.InProj.sig) → Buf (Elt Bits) ℓ) : Prop :=
  True

def Pre_InProjIdeal (m : (ℓ : Loc Cert.InProjIdeal.nD Cert.InProjIdeal.τ Cert.InProjIdeal.sig) → Buf (Elt Ideal) ℓ) : Prop :=
  True

def Pre_InProjReferenceIdeal (m : (ℓ : Loc Cert.InProjReferenceIdeal.nD Cert.InProjReferenceIdeal.τ Cert.InProjReferenceIdeal.sig) → Buf (Elt Ideal) ℓ) : Prop :=
  True

def Pre_OutProj (m : (ℓ : Loc Cert.OutProj.nD Cert.OutProj.τ Cert.OutProj.sig) → Buf (Elt Bits) ℓ) : Prop :=
  True

def Pre_OutProjIdeal (m : (ℓ : Loc Cert.OutProjIdeal.nD Cert.OutProjIdeal.τ Cert.OutProjIdeal.sig) → Buf (Elt Ideal) ℓ) : Prop :=
  True

def Pre_OutProjReferenceIdeal (m : (ℓ : Loc Cert.OutProjReferenceIdeal.nD Cert.OutProjReferenceIdeal.τ Cert.OutProjReferenceIdeal.sig) → Buf (Elt Ideal) ℓ) : Prop :=
  True

def Pre_Ff1 (m : (ℓ : Loc Cert.Ff1.nD Cert.Ff1.τ Cert.Ff1.sig) → Buf (Elt Bits) ℓ) : Prop :=
  True

def Pre_Ff1Ideal (m : (ℓ : Loc Cert.Ff1Ideal.nD Cert.Ff1Ideal.τ Cert.Ff1Ideal.sig) → Buf (Elt Ideal) ℓ) : Prop :=
  True

def Pre_Ff1ReferenceIdeal (m : (ℓ : Loc Cert.Ff1ReferenceIdeal.nD Cert.Ff1ReferenceIdeal.τ Cert.Ff1ReferenceIdeal.sig) → Buf (Elt Ideal) ℓ) : Prop :=
  True

def Pre_Ff2 (m : (ℓ : Loc Cert.Ff2.nD Cert.Ff2.τ Cert.Ff2.sig) → Buf (Elt Bits) ℓ) : Prop :=
  True

def Pre_Ff2Ideal (m : (ℓ : Loc Cert.Ff2Ideal.nD Cert.Ff2Ideal.τ Cert.Ff2Ideal.sig) → Buf (Elt Ideal) ℓ) : Prop :=
  True

def Pre_Ff2ReferenceIdeal (m : (ℓ : Loc Cert.Ff2ReferenceIdeal.nD Cert.Ff2ReferenceIdeal.τ Cert.Ff2ReferenceIdeal.sig) → Buf (Elt Ideal) ℓ) : Prop :=
  True

def Pre_Ff2Dw (m : (ℓ : Loc Cert.Ff2Dw.nD Cert.Ff2Dw.τ Cert.Ff2Dw.sig) → Buf (Elt Bits) ℓ) : Prop :=
  True

def Pre_Ff2DwIdeal (m : (ℓ : Loc Cert.Ff2DwIdeal.nD Cert.Ff2DwIdeal.τ Cert.Ff2DwIdeal.sig) → Buf (Elt Ideal) ℓ) : Prop :=
  True

def Pre_Ff2DwReferenceIdeal (m : (ℓ : Loc Cert.Ff2DwReferenceIdeal.nD Cert.Ff2DwReferenceIdeal.τ Cert.Ff2DwReferenceIdeal.sig) → Buf (Elt Ideal) ℓ) : Prop :=
  True

def Pre_Ff2Dlhs (m : (ℓ : Loc Cert.Ff2Dlhs.nD Cert.Ff2Dlhs.τ Cert.Ff2Dlhs.sig) → Buf (Elt Bits) ℓ) : Prop :=
  True

def Pre_Ff2DlhsIdeal (m : (ℓ : Loc Cert.Ff2DlhsIdeal.nD Cert.Ff2DlhsIdeal.τ Cert.Ff2DlhsIdeal.sig) → Buf (Elt Ideal) ℓ) : Prop :=
  True

def Pre_Ff2DlhsReferenceIdeal (m : (ℓ : Loc Cert.Ff2DlhsReferenceIdeal.nD Cert.Ff2DlhsReferenceIdeal.τ Cert.Ff2DlhsReferenceIdeal.sig) → Buf (Elt Ideal) ℓ) : Prop :=
  True

def Pre_Ff1Dlhs (m : (ℓ : Loc Cert.Ff1Dlhs.nD Cert.Ff1Dlhs.τ Cert.Ff1Dlhs.sig) → Buf (Elt Bits) ℓ) : Prop :=
  True

def Pre_Ff1DlhsIdeal (m : (ℓ : Loc Cert.Ff1DlhsIdeal.nD Cert.Ff1DlhsIdeal.τ Cert.Ff1DlhsIdeal.sig) → Buf (Elt Ideal) ℓ) : Prop :=
  True

def Pre_Ff1DlhsReferenceIdeal (m : (ℓ : Loc Cert.Ff1DlhsReferenceIdeal.nD Cert.Ff1DlhsReferenceIdeal.τ Cert.Ff1DlhsReferenceIdeal.sig) → Buf (Elt Ideal) ℓ) : Prop :=
  True

def Pre_Ff1Dw (m : (ℓ : Loc Cert.Ff1Dw.nD Cert.Ff1Dw.τ Cert.Ff1Dw.sig) → Buf (Elt Bits) ℓ) : Prop :=
  True

def Pre_Ff1DwIdeal (m : (ℓ : Loc Cert.Ff1DwIdeal.nD Cert.Ff1DwIdeal.τ Cert.Ff1DwIdeal.sig) → Buf (Elt Ideal) ℓ) : Prop :=
  True

def Pre_Ff1DwReferenceIdeal (m : (ℓ : Loc Cert.Ff1DwReferenceIdeal.nD Cert.Ff1DwReferenceIdeal.τ Cert.Ff1DwReferenceIdeal.sig) → Buf (Elt Ideal) ℓ) : Prop :=
  True

def Pre_OutProjDw (m : (ℓ : Loc Cert.OutProjDw.nD Cert.OutProjDw.τ Cert.OutProjDw.sig) → Buf (Elt Bits) ℓ) : Prop :=
  True

def Pre_OutProjDwIdeal (m : (ℓ : Loc Cert.OutProjDwIdeal.nD Cert.OutProjDwIdeal.τ Cert.OutProjDwIdeal.sig) → Buf (Elt Ideal) ℓ) : Prop :=
  True

def Pre_OutProjDwReferenceIdeal (m : (ℓ : Loc Cert.OutProjDwReferenceIdeal.nD Cert.OutProjDwReferenceIdeal.τ Cert.OutProjDwReferenceIdeal.sig) → Buf (Elt Ideal) ℓ) : Prop :=
  True

def Pre_OutProjDlhs (m : (ℓ : Loc Cert.OutProjDlhs.nD Cert.OutProjDlhs.τ Cert.OutProjDlhs.sig) → Buf (Elt Bits) ℓ) : Prop :=
  True

def Pre_OutProjDlhsIdeal (m : (ℓ : Loc Cert.OutProjDlhsIdeal.nD Cert.OutProjDlhsIdeal.τ Cert.OutProjDlhsIdeal.sig) → Buf (Elt Ideal) ℓ) : Prop :=
  True

def Pre_OutProjDlhsReferenceIdeal (m : (ℓ : Loc Cert.OutProjDlhsReferenceIdeal.nD Cert.OutProjDlhsReferenceIdeal.τ Cert.OutProjDlhsReferenceIdeal.sig) → Buf (Elt Ideal) ℓ) : Prop :=
  True

def Pre_InProjDw (m : (ℓ : Loc Cert.InProjDw.nD Cert.InProjDw.τ Cert.InProjDw.sig) → Buf (Elt Bits) ℓ) : Prop :=
  True

def Pre_InProjDwIdeal (m : (ℓ : Loc Cert.InProjDwIdeal.nD Cert.InProjDwIdeal.τ Cert.InProjDwIdeal.sig) → Buf (Elt Ideal) ℓ) : Prop :=
  True

def Pre_InProjDwReferenceIdeal (m : (ℓ : Loc Cert.InProjDwReferenceIdeal.nD Cert.InProjDwReferenceIdeal.τ Cert.InProjDwReferenceIdeal.sig) → Buf (Elt Ideal) ℓ) : Prop :=
  True

def Pre_InProjDlhs (m : (ℓ : Loc Cert.InProjDlhs.nD Cert.InProjDlhs.τ Cert.InProjDlhs.sig) → Buf (Elt Bits) ℓ) : Prop :=
  True

def Pre_InProjDlhsIdeal (m : (ℓ : Loc Cert.InProjDlhsIdeal.nD Cert.InProjDlhsIdeal.τ Cert.InProjDlhsIdeal.sig) → Buf (Elt Ideal) ℓ) : Prop :=
  True

def Pre_InProjDlhsReferenceIdeal (m : (ℓ : Loc Cert.InProjDlhsReferenceIdeal.nD Cert.InProjDlhsReferenceIdeal.τ Cert.InProjDlhsReferenceIdeal.sig) → Buf (Elt Ideal) ℓ) : Prop :=
  True

def Pre_AdamwIn (m : (ℓ : Loc Cert.AdamwIn.nD Cert.AdamwIn.τ Cert.AdamwIn.sig) → Buf (Elt Bits) ℓ) : Prop :=
  True

def Pre_AdamwInIdeal (m : (ℓ : Loc Cert.AdamwInIdeal.nD Cert.AdamwInIdeal.τ Cert.AdamwInIdeal.sig) → Buf (Elt Ideal) ℓ) : Prop :=
  True

def Pre_AdamwInReferenceIdeal (m : (ℓ : Loc Cert.AdamwInReferenceIdeal.nD Cert.AdamwInReferenceIdeal.τ Cert.AdamwInReferenceIdeal.sig) → Buf (Elt Ideal) ℓ) : Prop :=
  True

def Pre_AdamwOut (m : (ℓ : Loc Cert.AdamwOut.nD Cert.AdamwOut.τ Cert.AdamwOut.sig) → Buf (Elt Bits) ℓ) : Prop :=
  True

def Pre_AdamwOutIdeal (m : (ℓ : Loc Cert.AdamwOutIdeal.nD Cert.AdamwOutIdeal.τ Cert.AdamwOutIdeal.sig) → Buf (Elt Ideal) ℓ) : Prop :=
  True

def Pre_AdamwOutReferenceIdeal (m : (ℓ : Loc Cert.AdamwOutReferenceIdeal.nD Cert.AdamwOutReferenceIdeal.τ Cert.AdamwOutReferenceIdeal.sig) → Buf (Elt Ideal) ℓ) : Prop :=
  True

def Pre_AdamwFf (m : (ℓ : Loc Cert.AdamwFf.nD Cert.AdamwFf.τ Cert.AdamwFf.sig) → Buf (Elt Bits) ℓ) : Prop :=
  True

def Pre_AdamwFfIdeal (m : (ℓ : Loc Cert.AdamwFfIdeal.nD Cert.AdamwFfIdeal.τ Cert.AdamwFfIdeal.sig) → Buf (Elt Ideal) ℓ) : Prop :=
  True

def Pre_AdamwFfReferenceIdeal (m : (ℓ : Loc Cert.AdamwFfReferenceIdeal.nD Cert.AdamwFfReferenceIdeal.τ Cert.AdamwFfReferenceIdeal.sig) → Buf (Elt Ideal) ℓ) : Prop :=
  True

def Pre_NormMixBwd (m : (ℓ : Loc Cert.NormMixBwd.nD Cert.NormMixBwd.τ Cert.NormMixBwd.sig) → Buf (Elt Bits) ℓ) : Prop :=
  True

def Pre_NormMixBwdIdeal (m : (ℓ : Loc Cert.NormMixBwdIdeal.nD Cert.NormMixBwdIdeal.τ Cert.NormMixBwdIdeal.sig) → Buf (Elt Ideal) ℓ) : Prop :=
  True

def Pre_NormMixBwdReferenceIdeal (m : (ℓ : Loc Cert.NormMixBwdReferenceIdeal.nD Cert.NormMixBwdReferenceIdeal.τ Cert.NormMixBwdReferenceIdeal.sig) → Buf (Elt Ideal) ℓ) : Prop :=
  True

def Pre_NormFfnBwd (m : (ℓ : Loc Cert.NormFfnBwd.nD Cert.NormFfnBwd.τ Cert.NormFfnBwd.sig) → Buf (Elt Bits) ℓ) : Prop :=
  True

def Pre_NormFfnBwdIdeal (m : (ℓ : Loc Cert.NormFfnBwdIdeal.nD Cert.NormFfnBwdIdeal.τ Cert.NormFfnBwdIdeal.sig) → Buf (Elt Ideal) ℓ) : Prop :=
  True

def Pre_NormFfnBwdReferenceIdeal (m : (ℓ : Loc Cert.NormFfnBwdReferenceIdeal.nD Cert.NormFfnBwdReferenceIdeal.τ Cert.NormFfnBwdReferenceIdeal.sig) → Buf (Elt Ideal) ℓ) : Prop :=
  True

def Pre_LossHead (m : (ℓ : Loc Cert.LossHead.nD Cert.LossHead.τ Cert.LossHead.sig) → Buf (Elt Bits) ℓ) : Prop :=
  True

def Pre_LossHeadIdeal (m : (ℓ : Loc Cert.LossHeadIdeal.nD Cert.LossHeadIdeal.τ Cert.LossHeadIdeal.sig) → Buf (Elt Ideal) ℓ) : Prop :=
  True

def Pre_LossHeadReferenceIdeal (m : (ℓ : Loc Cert.LossHeadReferenceIdeal.nD Cert.LossHeadReferenceIdeal.τ Cert.LossHeadReferenceIdeal.sig) → Buf (Elt Ideal) ℓ) : Prop :=
  True

def Pre_NormFfn (m : (ℓ : Loc Cert.NormFfn.nD Cert.NormFfn.τ Cert.NormFfn.sig) → Buf (Elt Bits) ℓ) : Prop :=
  True

def Pre_NormFfnIdeal (m : (ℓ : Loc Cert.NormFfnIdeal.nD Cert.NormFfnIdeal.τ Cert.NormFfnIdeal.sig) → Buf (Elt Ideal) ℓ) : Prop :=
  True

def Pre_NormFfnReferenceIdeal (m : (ℓ : Loc Cert.NormFfnReferenceIdeal.nD Cert.NormFfnReferenceIdeal.τ Cert.NormFfnReferenceIdeal.sig) → Buf (Elt Ideal) ℓ) : Prop :=
  True

def Pre_GateDw (m : (ℓ : Loc Cert.GateDw.nD Cert.GateDw.τ Cert.GateDw.sig) → Buf (Elt Bits) ℓ) : Prop :=
  True

def Pre_GateDwIdeal (m : (ℓ : Loc Cert.GateDwIdeal.nD Cert.GateDwIdeal.τ Cert.GateDwIdeal.sig) → Buf (Elt Ideal) ℓ) : Prop :=
  True

def Pre_GateDwReferenceIdeal (m : (ℓ : Loc Cert.GateDwReferenceIdeal.nD Cert.GateDwReferenceIdeal.τ Cert.GateDwReferenceIdeal.sig) → Buf (Elt Ideal) ℓ) : Prop :=
  True

def Pre_GateDlhs (m : (ℓ : Loc Cert.GateDlhs.nD Cert.GateDlhs.τ Cert.GateDlhs.sig) → Buf (Elt Bits) ℓ) : Prop :=
  True

def Pre_GateDlhsIdeal (m : (ℓ : Loc Cert.GateDlhsIdeal.nD Cert.GateDlhsIdeal.τ Cert.GateDlhsIdeal.sig) → Buf (Elt Ideal) ℓ) : Prop :=
  True

def Pre_GateDlhsReferenceIdeal (m : (ℓ : Loc Cert.GateDlhsReferenceIdeal.nD Cert.GateDlhsReferenceIdeal.τ Cert.GateDlhsReferenceIdeal.sig) → Buf (Elt Ideal) ℓ) : Prop :=
  True

def Pre_AdamwEarly (m : (ℓ : Loc Cert.AdamwEarly.nD Cert.AdamwEarly.τ Cert.AdamwEarly.sig) → Buf (Elt Bits) ℓ) : Prop :=
  True

def Pre_AdamwEarlyIdeal (m : (ℓ : Loc Cert.AdamwEarlyIdeal.nD Cert.AdamwEarlyIdeal.τ Cert.AdamwEarlyIdeal.sig) → Buf (Elt Ideal) ℓ) : Prop :=
  True

def Pre_AdamwEarlyReferenceIdeal (m : (ℓ : Loc Cert.AdamwEarlyReferenceIdeal.nD Cert.AdamwEarlyReferenceIdeal.τ Cert.AdamwEarlyReferenceIdeal.sig) → Buf (Elt Ideal) ℓ) : Prop :=
  True

def Pre_AdamwLate (m : (ℓ : Loc Cert.AdamwLate.nD Cert.AdamwLate.τ Cert.AdamwLate.sig) → Buf (Elt Bits) ℓ) : Prop :=
  True

def Pre_AdamwLateIdeal (m : (ℓ : Loc Cert.AdamwLateIdeal.nD Cert.AdamwLateIdeal.τ Cert.AdamwLateIdeal.sig) → Buf (Elt Ideal) ℓ) : Prop :=
  True

def Pre_AdamwLateReferenceIdeal (m : (ℓ : Loc Cert.AdamwLateReferenceIdeal.nD Cert.AdamwLateReferenceIdeal.τ Cert.AdamwLateReferenceIdeal.sig) → Buf (Elt Ideal) ℓ) : Prop :=
  True

def Pre_ForgetBwd (m : (ℓ : Loc Cert.ForgetBwd.nD Cert.ForgetBwd.τ Cert.ForgetBwd.sig) → Buf (Elt Bits) ℓ) : Prop :=
  True

def Pre_ForgetBwdIdeal (m : (ℓ : Loc Cert.ForgetBwdIdeal.nD Cert.ForgetBwdIdeal.τ Cert.ForgetBwdIdeal.sig) → Buf (Elt Ideal) ℓ) : Prop :=
  True

def Pre_ForgetBwdReferenceIdeal (m : (ℓ : Loc Cert.ForgetBwdReferenceIdeal.nD Cert.ForgetBwdReferenceIdeal.τ Cert.ForgetBwdReferenceIdeal.sig) → Buf (Elt Ideal) ℓ) : Prop :=
  True

def Pre_ForgetFwd (m : (ℓ : Loc Cert.ForgetFwd.nD Cert.ForgetFwd.τ Cert.ForgetFwd.sig) → Buf (Elt Bits) ℓ) : Prop :=
  True

def Pre_ForgetFwdIdeal (m : (ℓ : Loc Cert.ForgetFwdIdeal.nD Cert.ForgetFwdIdeal.τ Cert.ForgetFwdIdeal.sig) → Buf (Elt Ideal) ℓ) : Prop :=
  True

def Pre_ForgetFwdReferenceIdeal (m : (ℓ : Loc Cert.ForgetFwdReferenceIdeal.nD Cert.ForgetFwdReferenceIdeal.τ Cert.ForgetFwdReferenceIdeal.sig) → Buf (Elt Ideal) ℓ) : Prop :=
  True

def Pre_NormMix (m : (ℓ : Loc Cert.NormMix.nD Cert.NormMix.τ Cert.NormMix.sig) → Buf (Elt Bits) ℓ) : Prop :=
  True

def Pre_NormMixIdeal (m : (ℓ : Loc Cert.NormMixIdeal.nD Cert.NormMixIdeal.τ Cert.NormMixIdeal.sig) → Buf (Elt Ideal) ℓ) : Prop :=
  True

def Pre_NormMixReferenceIdeal (m : (ℓ : Loc Cert.NormMixReferenceIdeal.nD Cert.NormMixReferenceIdeal.τ Cert.NormMixReferenceIdeal.sig) → Buf (Elt Ideal) ℓ) : Prop :=
  True

def Pre_AddHalves [hPre_half_named : Cert.Pre_half_named.Facts] (m : (ℓ : Loc Cert.AddHalves.nD Cert.AddHalves.τ Cert.AddHalves.sig) → Buf (Elt Bits) ℓ) : Prop :=
  ∀ c : Dev Cert.AddHalves.nD,
    (Cert.Pre_half_named.fn (F := Bits) (m ((c.tc : Thread Cert.AddHalves.nD Cert.AddHalves.τ).loc Cert.AddHalves.main_arg0)) (m ((c.tc : Thread Cert.AddHalves.nD Cert.AddHalves.τ).loc Cert.AddHalves.main_arg1)) (m ((c.tc : Thread Cert.AddHalves.nD Cert.AddHalves.τ).loc Cert.AddHalves.main_arg2))) = (fun _ => 1#1)

def Pre_AddHalvesIdeal [hPre_half_named : Cert.Pre_half_named.Facts] (m : (ℓ : Loc Cert.AddHalvesIdeal.nD Cert.AddHalvesIdeal.τ Cert.AddHalvesIdeal.sig) → Buf (Elt Ideal) ℓ) : Prop :=
  ∀ c : Dev Cert.AddHalvesIdeal.nD,
    (Cert.Pre_half_named.fn (F := Ideal) (m ((c.tc : Thread Cert.AddHalvesIdeal.nD Cert.AddHalvesIdeal.τ).loc Cert.AddHalvesIdeal.main_arg0)) (m ((c.tc : Thread Cert.AddHalvesIdeal.nD Cert.AddHalvesIdeal.τ).loc Cert.AddHalvesIdeal.main_arg1)) (m ((c.tc : Thread Cert.AddHalvesIdeal.nD Cert.AddHalvesIdeal.τ).loc Cert.AddHalvesIdeal.main_arg2))) = (fun _ => 1#1)

def Pre_AddHalvesReferenceIdeal [hPre_half_named : Cert.Pre_half_named.Facts] (m : (ℓ : Loc Cert.AddHalvesReferenceIdeal.nD Cert.AddHalvesReferenceIdeal.τ Cert.AddHalvesReferenceIdeal.sig) → Buf (Elt Ideal) ℓ) : Prop :=
  ∀ c : Dev Cert.AddHalvesReferenceIdeal.nD,
    (Cert.Pre_half_named.fn (F := Ideal) (m ((c.tc : Thread Cert.AddHalvesReferenceIdeal.nD Cert.AddHalvesReferenceIdeal.τ).loc Cert.AddHalvesReferenceIdeal.main_arg0)) (m ((c.tc : Thread Cert.AddHalvesReferenceIdeal.nD Cert.AddHalvesReferenceIdeal.τ).loc Cert.AddHalvesReferenceIdeal.main_arg1)) (m ((c.tc : Thread Cert.AddHalvesReferenceIdeal.nD Cert.AddHalvesReferenceIdeal.τ).loc Cert.AddHalvesReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_InProj [hInProj : Cert.InProj.Facts] : Prop :=
  ∀ (m : (ℓ : Loc Cert.InProj.nD Cert.InProj.τ Cert.InProj.sig) → Buf (Elt Bits) ℓ) (g : Dev Cert.InProj.nD → PrngReg), Pre_InProj m →
    θ_run (Cert.InProj.defs (F := Bits)) (onTc (τ := Cert.InProj.τ) (Cert.InProj.main (F := Bits))) ⟨m, fun _ => 0, g⟩ (fun r => (∀ c : Dev Cert.InProj.nD,
      r.2.mem ((c.tc : Thread Cert.InProj.nD Cert.InProj.τ).loc Cert.InProj.main_arg0) = m ((c.tc : Thread Cert.InProj.nD Cert.InProj.τ).loc Cert.InProj.main_arg0)
      ∧ r.2.mem ((c.tc : Thread Cert.InProj.nD Cert.InProj.τ).loc Cert.InProj.main_arg1) = m ((c.tc : Thread Cert.InProj.nD Cert.InProj.τ).loc Cert.InProj.main_arg1))
      ∧ r.2.sem = fun _ => 0)

def quiescent_InProjIdeal [hInProjIdeal : Cert.InProjIdeal.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1))
      ∧ r.2.sem = fun _ => 0)

def quiescent_InProjReferenceIdeal [hInProjReferenceIdeal : Cert.InProjReferenceIdeal.Facts] : Prop :=
  ∀ (m : (ℓ : Loc Cert.InProjReferenceIdeal.nD Cert.InProjReferenceIdeal.τ Cert.InProjReferenceIdeal.sig) → Buf (Elt Ideal) ℓ) (g : Dev Cert.InProjReferenceIdeal.nD → PrngReg), Pre_InProjReferenceIdeal m →
    θ_run (Cert.InProjReferenceIdeal.defs (F := Ideal)) (onTc (τ := Cert.InProjReferenceIdeal.τ) (Cert.InProjReferenceIdeal.main (F := Ideal))) ⟨m, fun _ => 0, g⟩ (fun r => (∀ c : Dev Cert.InProjReferenceIdeal.nD,
      r.2.mem ((c.tc : Thread Cert.InProjReferenceIdeal.nD Cert.InProjReferenceIdeal.τ).loc Cert.InProjReferenceIdeal.main_arg0) = m ((c.tc : Thread Cert.InProjReferenceIdeal.nD Cert.InProjReferenceIdeal.τ).loc Cert.InProjReferenceIdeal.main_arg0)
      ∧ r.2.mem ((c.tc : Thread Cert.InProjReferenceIdeal.nD Cert.InProjReferenceIdeal.τ).loc Cert.InProjReferenceIdeal.main_arg1) = m ((c.tc : Thread Cert.InProjReferenceIdeal.nD Cert.InProjReferenceIdeal.τ).loc Cert.InProjReferenceIdeal.main_arg1))
      ∧ r.2.sem = fun _ => 0)

def quiescent_OutProj [hOutProj : Cert.OutProj.Facts] : Prop :=
  ∀ (m : (ℓ : Loc Cert.OutProj.nD Cert.OutProj.τ Cert.OutProj.sig) → Buf (Elt Bits) ℓ) (g : Dev Cert.OutProj.nD → PrngReg), Pre_OutProj m →
    θ_run (Cert.OutProj.defs (F := Bits)) (onTc (τ := Cert.OutProj.τ) (Cert.OutProj.main (F := Bits))) ⟨m, fun _ => 0, g⟩ (fun r => (∀ c : Dev Cert.OutProj.nD,
      r.2.mem ((c.tc : Thread Cert.OutProj.nD Cert.OutProj.τ).loc Cert.OutProj.main_arg0) = m ((c.tc : Thread Cert.OutProj.nD Cert.OutProj.τ).loc Cert.OutProj.main_arg0)
      ∧ r.2.mem ((c.tc : Thread Cert.OutProj.nD Cert.OutProj.τ).loc Cert.OutProj.main_arg1) = m ((c.tc : Thread Cert.OutProj.nD Cert.OutProj.τ).loc Cert.OutProj.main_arg1)
      ∧ r.2.mem ((c.tc : Thread Cert.OutProj.nD Cert.OutProj.τ).loc Cert.OutProj.main_arg2) = m ((c.tc : Thread Cert.OutProj.nD Cert.OutProj.τ).loc Cert.OutProj.main_arg2))
      ∧ r.2.sem = fun _ => 0)

def quiescent_OutProjIdeal [hOutProjIdeal : Cert.OutProjIdeal.Facts] : Prop :=
  ∀ (m : (ℓ : Loc Cert.OutProjIdeal.nD Cert.OutProjIdeal.τ Cert.OutProjIdeal.sig) → Buf (Elt Ideal) ℓ) (g : Dev Cert.OutProjIdeal.nD → PrngReg), Pre_OutProjIdeal m →
    θ_run (Cert.OutProjIdeal.defs (F := Ideal)) (onTc (τ := Cert.OutProjIdeal.τ) (Cert.OutProjIdeal.main (F := Ideal))) ⟨m, fun _ => 0, g⟩ (fun r => (∀ c : Dev Cert.OutProjIdeal.nD,
      r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
      ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
      ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2))
      ∧ r.2.sem = fun _ => 0)

def quiescent_OutProjReferenceIdeal [hOutProjReferenceIdeal : Cert.OutProjReferenceIdeal.Facts] : Prop :=
  ∀ (m : (ℓ : Loc Cert.OutProjReferenceIdeal.nD Cert.OutProjReferenceIdeal.τ Cert.OutProjReferenceIdeal.sig) → Buf (Elt Ideal) ℓ) (g : Dev Cert.OutProjReferenceIdeal.nD → PrngReg), Pre_OutProjReferenceIdeal m →
    θ_run (Cert.OutProjReferenceIdeal.defs (F := Ideal)) (onTc (τ := Cert.OutProjReferenceIdeal.τ) (Cert.OutProjReferenceIdeal.main (F := Ideal))) ⟨m, fun _ => 0, g⟩ (fun r => (∀ c : Dev Cert.OutProjReferenceIdeal.nD,
      r.2.mem ((c.tc : Thread Cert.OutProjReferenceIdeal.nD Cert.OutProjReferenceIdeal.τ).loc Cert.OutProjReferenceIdeal.main_arg0) = m ((c.tc : Thread Cert.OutProjReferenceIdeal.nD Cert.OutProjReferenceIdeal.τ).loc Cert.OutProjReferenceIdeal.main_arg0)
      ∧ r.2.mem ((c.tc : Thread Cert.OutProjReferenceIdeal.nD Cert.OutProjReferenceIdeal.τ).loc Cert.OutProjReferenceIdeal.main_arg1) = m ((c.tc : Thread Cert.OutProjReferenceIdeal.nD Cert.OutProjReferenceIdeal.τ).loc Cert.OutProjReferenceIdeal.main_arg1)
      ∧ r.2.mem ((c.tc : Thread Cert.OutProjReferenceIdeal.nD Cert.OutProjReferenceIdeal.τ).loc Cert.OutProjReferenceIdeal.main_arg2) = m ((c.tc : Thread Cert.OutProjReferenceIdeal.nD Cert.OutProjReferenceIdeal.τ).loc Cert.OutProjReferenceIdeal.main_arg2))
      ∧ r.2.sem = fun _ => 0)

def quiescent_Ff1 [hFf1 : Cert.Ff1.Facts] : Prop :=
  ∀ (m : (ℓ : Loc Cert.Ff1.nD Cert.Ff1.τ Cert.Ff1.sig) → Buf (Elt Bits) ℓ) (g : Dev Cert.Ff1.nD → PrngReg), Pre_Ff1 m →
    θ_run (Cert.Ff1.defs (F := Bits)) (onTc (τ := Cert.Ff1.τ) (Cert.Ff1.main (F := Bits))) ⟨m, fun _ => 0, g⟩ (fun r => (∀ c : Dev Cert.Ff1.nD,
      r.2.mem ((c.tc : Thread Cert.Ff1.nD Cert.Ff1.τ).loc Cert.Ff1.main_arg0) = m ((c.tc : Thread Cert.Ff1.nD Cert.Ff1.τ).loc Cert.Ff1.main_arg0)
      ∧ r.2.mem ((c.tc : Thread Cert.Ff1.nD Cert.Ff1.τ).loc Cert.Ff1.main_arg1) = m ((c.tc : Thread Cert.Ff1.nD Cert.Ff1.τ).loc Cert.Ff1.main_arg1))
      ∧ r.2.sem = fun _ => 0)

def quiescent_Ff1Ideal [hFf1Ideal : Cert.Ff1Ideal.Facts] : Prop :=
  ∀ (m : (ℓ : Loc Cert.Ff1Ideal.nD Cert.Ff1Ideal.τ Cert.Ff1Ideal.sig) → Buf (Elt Ideal) ℓ) (g : Dev Cert.Ff1Ideal.nD → PrngReg), Pre_Ff1Ideal m →
    θ_run (Cert.Ff1Ideal.defs (F := Ideal)) (onTc (τ := Cert.Ff1Ideal.τ) (Cert.Ff1Ideal.main (F := Ideal))) ⟨m, fun _ => 0, g⟩ (fun r => (∀ c : Dev Cert.Ff1Ideal.nD,
      r.2.mem ((c.tc : Thread Cert.Ff1Ideal.nD Cert.Ff1Ideal.τ).loc Cert.Ff1Ideal.main_arg0) = m ((c.tc : Thread Cert.Ff1Ideal.nD Cert.Ff1Ideal.τ).loc Cert.Ff1Ideal.main_arg0)
      ∧ r.2.mem ((c.tc : Thread Cert.Ff1Ideal.nD Cert.Ff1Ideal.τ).loc Cert.Ff1Ideal.main_arg1) = m ((c.tc : Thread Cert.Ff1Ideal.nD Cert.Ff1Ideal.τ).loc Cert.Ff1Ideal.main_arg1))
      ∧ r.2.sem = fun _ => 0)

def quiescent_Ff1ReferenceIdeal [hFf1ReferenceIdeal : Cert.Ff1ReferenceIdeal.Facts] : Prop :=
  ∀ (m : (ℓ : Loc Cert.Ff1ReferenceIdeal.nD Cert.Ff1ReferenceIdeal.τ Cert.Ff1ReferenceIdeal.sig) → Buf (Elt Ideal) ℓ) (g : Dev Cert.Ff1ReferenceIdeal.nD → PrngReg), Pre_Ff1ReferenceIdeal m →
    θ_run (Cert.Ff1ReferenceIdeal.defs (F := Ideal)) (onTc (τ := Cert.Ff1ReferenceIdeal.τ) (Cert.Ff1ReferenceIdeal.main (F := Ideal))) ⟨m, fun _ => 0, g⟩ (fun r => (∀ c : Dev Cert.Ff1ReferenceIdeal.nD,
      r.2.mem ((c.tc : Thread Cert.Ff1ReferenceIdeal.nD Cert.Ff1ReferenceIdeal.τ).loc Cert.Ff1ReferenceIdeal.main_arg0) = m ((c.tc : Thread Cert.Ff1ReferenceIdeal.nD Cert.Ff1ReferenceIdeal.τ).loc Cert.Ff1ReferenceIdeal.main_arg0)
      ∧ r.2.mem ((c.tc : Thread Cert.Ff1ReferenceIdeal.nD Cert.Ff1ReferenceIdeal.τ).loc Cert.Ff1ReferenceIdeal.main_arg1) = m ((c.tc : Thread Cert.Ff1ReferenceIdeal.nD Cert.Ff1ReferenceIdeal.τ).loc Cert.Ff1ReferenceIdeal.main_arg1))
      ∧ r.2.sem = fun _ => 0)

def quiescent_Ff2 [hFf2 : Cert.Ff2.Facts] : Prop :=
  ∀ (m : (ℓ : Loc Cert.Ff2.nD Cert.Ff2.τ Cert.Ff2.sig) → Buf (Elt Bits) ℓ) (g : Dev Cert.Ff2.nD → PrngReg), Pre_Ff2 m →
    θ_run (Cert.Ff2.defs (F := Bits)) (onTc (τ := Cert.Ff2.τ) (Cert.Ff2.main (F := Bits))) ⟨m, fun _ => 0, g⟩ (fun r => (∀ c : Dev Cert.Ff2.nD,
      r.2.mem ((c.tc : Thread Cert.Ff2.nD Cert.Ff2.τ).loc Cert.Ff2.main_arg0) = m ((c.tc : Thread Cert.Ff2.nD Cert.Ff2.τ).loc Cert.Ff2.main_arg0)
      ∧ r.2.mem ((c.tc : Thread Cert.Ff2.nD Cert.Ff2.τ).loc Cert.Ff2.main_arg1) = m ((c.tc : Thread Cert.Ff2.nD Cert.Ff2.τ).loc Cert.Ff2.main_arg1)
      ∧ r.2.mem ((c.tc : Thread Cert.Ff2.nD Cert.Ff2.τ).loc Cert.Ff2.main_arg2) = m ((c.tc : Thread Cert.Ff2.nD Cert.Ff2.τ).loc Cert.Ff2.main_arg2))
      ∧ r.2.sem = fun _ => 0)

def quiescent_Ff2Ideal [hFf2Ideal : Cert.Ff2Ideal.Facts] : Prop :=
  ∀ (m : (ℓ : Loc Cert.Ff2Ideal.nD Cert.Ff2Ideal.τ Cert.Ff2Ideal.sig) → Buf (Elt Ideal) ℓ) (g : Dev Cert.Ff2Ideal.nD → PrngReg), Pre_Ff2Ideal m →
    θ_run (Cert.Ff2Ideal.defs (F := Ideal)) (onTc (τ := Cert.Ff2Ideal.τ) (Cert.Ff2Ideal.main (F := Ideal))) ⟨m, fun _ => 0, g⟩ (fun r => (∀ c : Dev Cert.Ff2Ideal.nD,
      r.2.mem ((c.tc : Thread Cert.Ff2Ideal.nD Cert.Ff2Ideal.τ).loc Cert.Ff2Ideal.main_arg0) = m ((c.tc : Thread Cert.Ff2Ideal.nD Cert.Ff2Ideal.τ).loc Cert.Ff2Ideal.main_arg0)
      ∧ r.2.mem ((c.tc : Thread Cert.Ff2Ideal.nD Cert.Ff2Ideal.τ).loc Cert.Ff2Ideal.main_arg1) = m ((c.tc : Thread Cert.Ff2Ideal.nD Cert.Ff2Ideal.τ).loc Cert.Ff2Ideal.main_arg1)
      ∧ r.2.mem ((c.tc : Thread Cert.Ff2Ideal.nD Cert.Ff2Ideal.τ).loc Cert.Ff2Ideal.main_arg2) = m ((c.tc : Thread Cert.Ff2Ideal.nD Cert.Ff2Ideal.τ).loc Cert.Ff2Ideal.main_arg2))
      ∧ r.2.sem = fun _ => 0)

def quiescent_Ff2ReferenceIdeal [hFf2ReferenceIdeal : Cert.Ff2ReferenceIdeal.Facts] : Prop :=
  ∀ (m : (ℓ : Loc Cert.Ff2ReferenceIdeal.nD Cert.Ff2ReferenceIdeal.τ Cert.Ff2ReferenceIdeal.sig) → Buf (Elt Ideal) ℓ) (g : Dev Cert.Ff2ReferenceIdeal.nD → PrngReg), Pre_Ff2ReferenceIdeal m →
    θ_run (Cert.Ff2ReferenceIdeal.defs (F := Ideal)) (onTc (τ := Cert.Ff2ReferenceIdeal.τ) (Cert.Ff2ReferenceIdeal.main (F := Ideal))) ⟨m, fun _ => 0, g⟩ (fun r => (∀ c : Dev Cert.Ff2ReferenceIdeal.nD,
      r.2.mem ((c.tc : Thread Cert.Ff2ReferenceIdeal.nD Cert.Ff2ReferenceIdeal.τ).loc Cert.Ff2ReferenceIdeal.main_arg0) = m ((c.tc : Thread Cert.Ff2ReferenceIdeal.nD Cert.Ff2ReferenceIdeal.τ).loc Cert.Ff2ReferenceIdeal.main_arg0)
      ∧ r.2.mem ((c.tc : Thread Cert.Ff2ReferenceIdeal.nD Cert.Ff2ReferenceIdeal.τ).loc Cert.Ff2ReferenceIdeal.main_arg1) = m ((c.tc : Thread Cert.Ff2ReferenceIdeal.nD Cert.Ff2ReferenceIdeal.τ).loc Cert.Ff2ReferenceIdeal.main_arg1)
      ∧ r.2.mem ((c.tc : Thread Cert.Ff2ReferenceIdeal.nD Cert.Ff2ReferenceIdeal.τ).loc Cert.Ff2ReferenceIdeal.main_arg2) = m ((c.tc : Thread Cert.Ff2ReferenceIdeal.nD Cert.Ff2ReferenceIdeal.τ).loc Cert.Ff2ReferenceIdeal.main_arg2))
      ∧ r.2.sem = fun _ => 0)

def quiescent_Ff2Dw [hFf2Dw : Cert.Ff2Dw.Facts] : Prop :=
  ∀ (m : (ℓ : Loc Cert.Ff2Dw.nD Cert.Ff2Dw.τ Cert.Ff2Dw.sig) → Buf (Elt Bits) ℓ) (g : Dev Cert.Ff2Dw.nD → PrngReg), Pre_Ff2Dw m →
    θ_run (Cert.Ff2Dw.defs (F := Bits)) (onTc (τ := Cert.Ff2Dw.τ) (Cert.Ff2Dw.main (F := Bits))) ⟨m, fun _ => 0, g⟩ (fun r => (∀ c : Dev Cert.Ff2Dw.nD,
      r.2.mem ((c.tc : Thread Cert.Ff2Dw.nD Cert.Ff2Dw.τ).loc Cert.Ff2Dw.main_arg0) = m ((c.tc : Thread Cert.Ff2Dw.nD Cert.Ff2Dw.τ).loc Cert.Ff2Dw.main_arg0)
      ∧ r.2.mem ((c.tc : Thread Cert.Ff2Dw.nD Cert.Ff2Dw.τ).loc Cert.Ff2Dw.main_arg1) = m ((c.tc : Thread Cert.Ff2Dw.nD Cert.Ff2Dw.τ).loc Cert.Ff2Dw.main_arg1))
      ∧ r.2.sem = fun _ => 0)

def quiescent_Ff2DwIdeal [hFf2DwIdeal : Cert.Ff2DwIdeal.Facts] : Prop :=
  ∀ (m : (ℓ : Loc Cert.Ff2DwIdeal.nD Cert.Ff2DwIdeal.τ Cert.Ff2DwIdeal.sig) → Buf (Elt Ideal) ℓ) (g : Dev Cert.Ff2DwIdeal.nD → PrngReg), Pre_Ff2DwIdeal m →
    θ_run (Cert.Ff2DwIdeal.defs (F := Ideal)) (onTc (τ := Cert.Ff2DwIdeal.τ) (Cert.Ff2DwIdeal.main (F := Ideal))) ⟨m, fun _ => 0, g⟩ (fun r => (∀ c : Dev Cert.Ff2DwIdeal.nD,
      r.2.mem ((c.tc : Thread Cert.Ff2DwIdeal.nD Cert.Ff2DwIdeal.τ).loc Cert.Ff2DwIdeal.main_arg0) = m ((c.tc : Thread Cert.Ff2DwIdeal.nD Cert.Ff2DwIdeal.τ).loc Cert.Ff2DwIdeal.main_arg0)
      ∧ r.2.mem ((c.tc : Thread Cert.Ff2DwIdeal.nD Cert.Ff2DwIdeal.τ).loc Cert.Ff2DwIdeal.main_arg1) = m ((c.tc : Thread Cert.Ff2DwIdeal.nD Cert.Ff2DwIdeal.τ).loc Cert.Ff2DwIdeal.main_arg1))
      ∧ r.2.sem = fun _ => 0)

def quiescent_Ff2DwReferenceIdeal [hFf2DwReferenceIdeal : Cert.Ff2DwReferenceIdeal.Facts] : Prop :=
  ∀ (m : (ℓ : Loc Cert.Ff2DwReferenceIdeal.nD Cert.Ff2DwReferenceIdeal.τ Cert.Ff2DwReferenceIdeal.sig) → Buf (Elt Ideal) ℓ) (g : Dev Cert.Ff2DwReferenceIdeal.nD → PrngReg), Pre_Ff2DwReferenceIdeal m →
    θ_run (Cert.Ff2DwReferenceIdeal.defs (F := Ideal)) (onTc (τ := Cert.Ff2DwReferenceIdeal.τ) (Cert.Ff2DwReferenceIdeal.main (F := Ideal))) ⟨m, fun _ => 0, g⟩ (fun r => (∀ c : Dev Cert.Ff2DwReferenceIdeal.nD,
      r.2.mem ((c.tc : Thread Cert.Ff2DwReferenceIdeal.nD Cert.Ff2DwReferenceIdeal.τ).loc Cert.Ff2DwReferenceIdeal.main_arg0) = m ((c.tc : Thread Cert.Ff2DwReferenceIdeal.nD Cert.Ff2DwReferenceIdeal.τ).loc Cert.Ff2DwReferenceIdeal.main_arg0)
      ∧ r.2.mem ((c.tc : Thread Cert.Ff2DwReferenceIdeal.nD Cert.Ff2DwReferenceIdeal.τ).loc Cert.Ff2DwReferenceIdeal.main_arg1) = m ((c.tc : Thread Cert.Ff2DwReferenceIdeal.nD Cert.Ff2DwReferenceIdeal.τ).loc Cert.Ff2DwReferenceIdeal.main_arg1))
      ∧ r.2.sem = fun _ => 0)

def quiescent_Ff2Dlhs [hFf2Dlhs : Cert.Ff2Dlhs.Facts] : Prop :=
  ∀ (m : (ℓ : Loc Cert.Ff2Dlhs.nD Cert.Ff2Dlhs.τ Cert.Ff2Dlhs.sig) → Buf (Elt Bits) ℓ) (g : Dev Cert.Ff2Dlhs.nD → PrngReg), Pre_Ff2Dlhs m →
    θ_run (Cert.Ff2Dlhs.defs (F := Bits)) (onTc (τ := Cert.Ff2Dlhs.τ) (Cert.Ff2Dlhs.main (F := Bits))) ⟨m, fun _ => 0, g⟩ (fun r => (∀ c : Dev Cert.Ff2Dlhs.nD,
      r.2.mem ((c.tc : Thread Cert.Ff2Dlhs.nD Cert.Ff2Dlhs.τ).loc Cert.Ff2Dlhs.main_arg0) = m ((c.tc : Thread Cert.Ff2Dlhs.nD Cert.Ff2Dlhs.τ).loc Cert.Ff2Dlhs.main_arg0)
      ∧ r.2.mem ((c.tc : Thread Cert.Ff2Dlhs.nD Cert.Ff2Dlhs.τ).loc Cert.Ff2Dlhs.main_arg1) = m ((c.tc : Thread Cert.Ff2Dlhs.nD Cert.Ff2Dlhs.τ).loc Cert.Ff2Dlhs.main_arg1)
      ∧ r.2.mem ((c.tc : Thread Cert.Ff2Dlhs.nD Cert.Ff2Dlhs.τ).loc Cert.Ff2Dlhs.main_arg2) = m ((c.tc : Thread Cert.Ff2Dlhs.nD Cert.Ff2Dlhs.τ).loc Cert.Ff2Dlhs.main_arg2))
      ∧ r.2.sem = fun _ => 0)

def quiescent_Ff2DlhsIdeal [hFf2DlhsIdeal : Cert.Ff2DlhsIdeal.Facts] : Prop :=
  ∀ (m : (ℓ : Loc Cert.Ff2DlhsIdeal.nD Cert.Ff2DlhsIdeal.τ Cert.Ff2DlhsIdeal.sig) → Buf (Elt Ideal) ℓ) (g : Dev Cert.Ff2DlhsIdeal.nD → PrngReg), Pre_Ff2DlhsIdeal m →
    θ_run (Cert.Ff2DlhsIdeal.defs (F := Ideal)) (onTc (τ := Cert.Ff2DlhsIdeal.τ) (Cert.Ff2DlhsIdeal.main (F := Ideal))) ⟨m, fun _ => 0, g⟩ (fun r => (∀ c : Dev Cert.Ff2DlhsIdeal.nD,
      r.2.mem ((c.tc : Thread Cert.Ff2DlhsIdeal.nD Cert.Ff2DlhsIdeal.τ).loc Cert.Ff2DlhsIdeal.main_arg0) = m ((c.tc : Thread Cert.Ff2DlhsIdeal.nD Cert.Ff2DlhsIdeal.τ).loc Cert.Ff2DlhsIdeal.main_arg0)
      ∧ r.2.mem ((c.tc : Thread Cert.Ff2DlhsIdeal.nD Cert.Ff2DlhsIdeal.τ).loc Cert.Ff2DlhsIdeal.main_arg1) = m ((c.tc : Thread Cert.Ff2DlhsIdeal.nD Cert.Ff2DlhsIdeal.τ).loc Cert.Ff2DlhsIdeal.main_arg1)
      ∧ r.2.mem ((c.tc : Thread Cert.Ff2DlhsIdeal.nD Cert.Ff2DlhsIdeal.τ).loc Cert.Ff2DlhsIdeal.main_arg2) = m ((c.tc : Thread Cert.Ff2DlhsIdeal.nD Cert.Ff2DlhsIdeal.τ).loc Cert.Ff2DlhsIdeal.main_arg2))
      ∧ r.2.sem = fun _ => 0)

def quiescent_Ff2DlhsReferenceIdeal [hFf2DlhsReferenceIdeal : Cert.Ff2DlhsReferenceIdeal.Facts] : Prop :=
  ∀ (m : (ℓ : Loc Cert.Ff2DlhsReferenceIdeal.nD Cert.Ff2DlhsReferenceIdeal.τ Cert.Ff2DlhsReferenceIdeal.sig) → Buf (Elt Ideal) ℓ) (g : Dev Cert.Ff2DlhsReferenceIdeal.nD → PrngReg), Pre_Ff2DlhsReferenceIdeal m →
    θ_run (Cert.Ff2DlhsReferenceIdeal.defs (F := Ideal)) (onTc (τ := Cert.Ff2DlhsReferenceIdeal.τ) (Cert.Ff2DlhsReferenceIdeal.main (F := Ideal))) ⟨m, fun _ => 0, g⟩ (fun r => (∀ c : Dev Cert.Ff2DlhsReferenceIdeal.nD,
      r.2.mem ((c.tc : Thread Cert.Ff2DlhsReferenceIdeal.nD Cert.Ff2DlhsReferenceIdeal.τ).loc Cert.Ff2DlhsReferenceIdeal.main_arg0) = m ((c.tc : Thread Cert.Ff2DlhsReferenceIdeal.nD Cert.Ff2DlhsReferenceIdeal.τ).loc Cert.Ff2DlhsReferenceIdeal.main_arg0)
      ∧ r.2.mem ((c.tc : Thread Cert.Ff2DlhsReferenceIdeal.nD Cert.Ff2DlhsReferenceIdeal.τ).loc Cert.Ff2DlhsReferenceIdeal.main_arg1) = m ((c.tc : Thread Cert.Ff2DlhsReferenceIdeal.nD Cert.Ff2DlhsReferenceIdeal.τ).loc Cert.Ff2DlhsReferenceIdeal.main_arg1)
      ∧ r.2.mem ((c.tc : Thread Cert.Ff2DlhsReferenceIdeal.nD Cert.Ff2DlhsReferenceIdeal.τ).loc Cert.Ff2DlhsReferenceIdeal.main_arg2) = m ((c.tc : Thread Cert.Ff2DlhsReferenceIdeal.nD Cert.Ff2DlhsReferenceIdeal.τ).loc Cert.Ff2DlhsReferenceIdeal.main_arg2))
      ∧ r.2.sem = fun _ => 0)

def quiescent_Ff1Dlhs [hFf1Dlhs : Cert.Ff1Dlhs.Facts] : Prop :=
  ∀ (m : (ℓ : Loc Cert.Ff1Dlhs.nD Cert.Ff1Dlhs.τ Cert.Ff1Dlhs.sig) → Buf (Elt Bits) ℓ) (g : Dev Cert.Ff1Dlhs.nD → PrngReg), Pre_Ff1Dlhs m →
    θ_run (Cert.Ff1Dlhs.defs (F := Bits)) (onTc (τ := Cert.Ff1Dlhs.τ) (Cert.Ff1Dlhs.main (F := Bits))) ⟨m, fun _ => 0, g⟩ (fun r => (∀ c : Dev Cert.Ff1Dlhs.nD,
      r.2.mem ((c.tc : Thread Cert.Ff1Dlhs.nD Cert.Ff1Dlhs.τ).loc Cert.Ff1Dlhs.main_arg0) = m ((c.tc : Thread Cert.Ff1Dlhs.nD Cert.Ff1Dlhs.τ).loc Cert.Ff1Dlhs.main_arg0)
      ∧ r.2.mem ((c.tc : Thread Cert.Ff1Dlhs.nD Cert.Ff1Dlhs.τ).loc Cert.Ff1Dlhs.main_arg1) = m ((c.tc : Thread Cert.Ff1Dlhs.nD Cert.Ff1Dlhs.τ).loc Cert.Ff1Dlhs.main_arg1))
      ∧ r.2.sem = fun _ => 0)

def quiescent_Ff1DlhsIdeal [hFf1DlhsIdeal : Cert.Ff1DlhsIdeal.Facts] : Prop :=
  ∀ (m : (ℓ : Loc Cert.Ff1DlhsIdeal.nD Cert.Ff1DlhsIdeal.τ Cert.Ff1DlhsIdeal.sig) → Buf (Elt Ideal) ℓ) (g : Dev Cert.Ff1DlhsIdeal.nD → PrngReg), Pre_Ff1DlhsIdeal m →
    θ_run (Cert.Ff1DlhsIdeal.defs (F := Ideal)) (onTc (τ := Cert.Ff1DlhsIdeal.τ) (Cert.Ff1DlhsIdeal.main (F := Ideal))) ⟨m, fun _ => 0, g⟩ (fun r => (∀ c : Dev Cert.Ff1DlhsIdeal.nD,
      r.2.mem ((c.tc : Thread Cert.Ff1DlhsIdeal.nD Cert.Ff1DlhsIdeal.τ).loc Cert.Ff1DlhsIdeal.main_arg0) = m ((c.tc : Thread Cert.Ff1DlhsIdeal.nD Cert.Ff1DlhsIdeal.τ).loc Cert.Ff1DlhsIdeal.main_arg0)
      ∧ r.2.mem ((c.tc : Thread Cert.Ff1DlhsIdeal.nD Cert.Ff1DlhsIdeal.τ).loc Cert.Ff1DlhsIdeal.main_arg1) = m ((c.tc : Thread Cert.Ff1DlhsIdeal.nD Cert.Ff1DlhsIdeal.τ).loc Cert.Ff1DlhsIdeal.main_arg1))
      ∧ r.2.sem = fun _ => 0)

def quiescent_Ff1DlhsReferenceIdeal [hFf1DlhsReferenceIdeal : Cert.Ff1DlhsReferenceIdeal.Facts] : Prop :=
  ∀ (m : (ℓ : Loc Cert.Ff1DlhsReferenceIdeal.nD Cert.Ff1DlhsReferenceIdeal.τ Cert.Ff1DlhsReferenceIdeal.sig) → Buf (Elt Ideal) ℓ) (g : Dev Cert.Ff1DlhsReferenceIdeal.nD → PrngReg), Pre_Ff1DlhsReferenceIdeal m →
    θ_run (Cert.Ff1DlhsReferenceIdeal.defs (F := Ideal)) (onTc (τ := Cert.Ff1DlhsReferenceIdeal.τ) (Cert.Ff1DlhsReferenceIdeal.main (F := Ideal))) ⟨m, fun _ => 0, g⟩ (fun r => (∀ c : Dev Cert.Ff1DlhsReferenceIdeal.nD,
      r.2.mem ((c.tc : Thread Cert.Ff1DlhsReferenceIdeal.nD Cert.Ff1DlhsReferenceIdeal.τ).loc Cert.Ff1DlhsReferenceIdeal.main_arg0) = m ((c.tc : Thread Cert.Ff1DlhsReferenceIdeal.nD Cert.Ff1DlhsReferenceIdeal.τ).loc Cert.Ff1DlhsReferenceIdeal.main_arg0)
      ∧ r.2.mem ((c.tc : Thread Cert.Ff1DlhsReferenceIdeal.nD Cert.Ff1DlhsReferenceIdeal.τ).loc Cert.Ff1DlhsReferenceIdeal.main_arg1) = m ((c.tc : Thread Cert.Ff1DlhsReferenceIdeal.nD Cert.Ff1DlhsReferenceIdeal.τ).loc Cert.Ff1DlhsReferenceIdeal.main_arg1))
      ∧ r.2.sem = fun _ => 0)

def quiescent_Ff1Dw [hFf1Dw : Cert.Ff1Dw.Facts] : Prop :=
  ∀ (m : (ℓ : Loc Cert.Ff1Dw.nD Cert.Ff1Dw.τ Cert.Ff1Dw.sig) → Buf (Elt Bits) ℓ) (g : Dev Cert.Ff1Dw.nD → PrngReg), Pre_Ff1Dw m →
    θ_run (Cert.Ff1Dw.defs (F := Bits)) (onTc (τ := Cert.Ff1Dw.τ) (Cert.Ff1Dw.main (F := Bits))) ⟨m, fun _ => 0, g⟩ (fun r => (∀ c : Dev Cert.Ff1Dw.nD,
      r.2.mem ((c.tc : Thread Cert.Ff1Dw.nD Cert.Ff1Dw.τ).loc Cert.Ff1Dw.main_arg0) = m ((c.tc : Thread Cert.Ff1Dw.nD Cert.Ff1Dw.τ).loc Cert.Ff1Dw.main_arg0)
      ∧ r.2.mem ((c.tc : Thread Cert.Ff1Dw.nD Cert.Ff1Dw.τ).loc Cert.Ff1Dw.main_arg1) = m ((c.tc : Thread Cert.Ff1Dw.nD Cert.Ff1Dw.τ).loc Cert.Ff1Dw.main_arg1))
      ∧ r.2.sem = fun _ => 0)

def quiescent_Ff1DwIdeal [hFf1DwIdeal : Cert.Ff1DwIdeal.Facts] : Prop :=
  ∀ (m : (ℓ : Loc Cert.Ff1DwIdeal.nD Cert.Ff1DwIdeal.τ Cert.Ff1DwIdeal.sig) → Buf (Elt Ideal) ℓ) (g : Dev Cert.Ff1DwIdeal.nD → PrngReg), Pre_Ff1DwIdeal m →
    θ_run (Cert.Ff1DwIdeal.defs (F := Ideal)) (onTc (τ := Cert.Ff1DwIdeal.τ) (Cert.Ff1DwIdeal.main (F := Ideal))) ⟨m, fun _ => 0, g⟩ (fun r => (∀ c : Dev Cert.Ff1DwIdeal.nD,
      r.2.mem ((c.tc : Thread Cert.Ff1DwIdeal.nD Cert.Ff1DwIdeal.τ).loc Cert.Ff1DwIdeal.main_arg0) = m ((c.tc : Thread Cert.Ff1DwIdeal.nD Cert.Ff1DwIdeal.τ).loc Cert.Ff1DwIdeal.main_arg0)
      ∧ r.2.mem ((c.tc : Thread Cert.Ff1DwIdeal.nD Cert.Ff1DwIdeal.τ).loc Cert.Ff1DwIdeal.main_arg1) = m ((c.tc : Thread Cert.Ff1DwIdeal.nD Cert.Ff1DwIdeal.τ).loc Cert.Ff1DwIdeal.main_arg1))
      ∧ r.2.sem = fun _ => 0)

def quiescent_Ff1DwReferenceIdeal [hFf1DwReferenceIdeal : Cert.Ff1DwReferenceIdeal.Facts] : Prop :=
  ∀ (m : (ℓ : Loc Cert.Ff1DwReferenceIdeal.nD Cert.Ff1DwReferenceIdeal.τ Cert.Ff1DwReferenceIdeal.sig) → Buf (Elt Ideal) ℓ) (g : Dev Cert.Ff1DwReferenceIdeal.nD → PrngReg), Pre_Ff1DwReferenceIdeal m →
    θ_run (Cert.Ff1DwReferenceIdeal.defs (F := Ideal)) (onTc (τ := Cert.Ff1DwReferenceIdeal.τ) (Cert.Ff1DwReferenceIdeal.main (F := Ideal))) ⟨m, fun _ => 0, g⟩ (fun r => (∀ c : Dev Cert.Ff1DwReferenceIdeal.nD,
      r.2.mem ((c.tc : Thread Cert.Ff1DwReferenceIdeal.nD Cert.Ff1DwReferenceIdeal.τ).loc Cert.Ff1DwReferenceIdeal.main_arg0) = m ((c.tc : Thread Cert.Ff1DwReferenceIdeal.nD Cert.Ff1DwReferenceIdeal.τ).loc Cert.Ff1DwReferenceIdeal.main_arg0)
      ∧ r.2.mem ((c.tc : Thread Cert.Ff1DwReferenceIdeal.nD Cert.Ff1DwReferenceIdeal.τ).loc Cert.Ff1DwReferenceIdeal.main_arg1) = m ((c.tc : Thread Cert.Ff1DwReferenceIdeal.nD Cert.Ff1DwReferenceIdeal.τ).loc Cert.Ff1DwReferenceIdeal.main_arg1))
      ∧ r.2.sem = fun _ => 0)

def quiescent_OutProjDw [hOutProjDw : Cert.OutProjDw.Facts] : Prop :=
  ∀ (m : (ℓ : Loc Cert.OutProjDw.nD Cert.OutProjDw.τ Cert.OutProjDw.sig) → Buf (Elt Bits) ℓ) (g : Dev Cert.OutProjDw.nD → PrngReg), Pre_OutProjDw m →
    θ_run (Cert.OutProjDw.defs (F := Bits)) (onTc (τ := Cert.OutProjDw.τ) (Cert.OutProjDw.main (F := Bits))) ⟨m, fun _ => 0, g⟩ (fun r => (∀ c : Dev Cert.OutProjDw.nD,
      r.2.mem ((c.tc : Thread Cert.OutProjDw.nD Cert.OutProjDw.τ).loc Cert.OutProjDw.main_arg0) = m ((c.tc : Thread Cert.OutProjDw.nD Cert.OutProjDw.τ).loc Cert.OutProjDw.main_arg0)
      ∧ r.2.mem ((c.tc : Thread Cert.OutProjDw.nD Cert.OutProjDw.τ).loc Cert.OutProjDw.main_arg1) = m ((c.tc : Thread Cert.OutProjDw.nD Cert.OutProjDw.τ).loc Cert.OutProjDw.main_arg1))
      ∧ r.2.sem = fun _ => 0)

def quiescent_OutProjDwIdeal [hOutProjDwIdeal : Cert.OutProjDwIdeal.Facts] : Prop :=
  ∀ (m : (ℓ : Loc Cert.OutProjDwIdeal.nD Cert.OutProjDwIdeal.τ Cert.OutProjDwIdeal.sig) → Buf (Elt Ideal) ℓ) (g : Dev Cert.OutProjDwIdeal.nD → PrngReg), Pre_OutProjDwIdeal m →
    θ_run (Cert.OutProjDwIdeal.defs (F := Ideal)) (onTc (τ := Cert.OutProjDwIdeal.τ) (Cert.OutProjDwIdeal.main (F := Ideal))) ⟨m, fun _ => 0, g⟩ (fun r => (∀ c : Dev Cert.OutProjDwIdeal.nD,
      r.2.mem ((c.tc : Thread Cert.OutProjDwIdeal.nD Cert.OutProjDwIdeal.τ).loc Cert.OutProjDwIdeal.main_arg0) = m ((c.tc : Thread Cert.OutProjDwIdeal.nD Cert.OutProjDwIdeal.τ).loc Cert.OutProjDwIdeal.main_arg0)
      ∧ r.2.mem ((c.tc : Thread Cert.OutProjDwIdeal.nD Cert.OutProjDwIdeal.τ).loc Cert.OutProjDwIdeal.main_arg1) = m ((c.tc : Thread Cert.OutProjDwIdeal.nD Cert.OutProjDwIdeal.τ).loc Cert.OutProjDwIdeal.main_arg1))
      ∧ r.2.sem = fun _ => 0)

def quiescent_OutProjDwReferenceIdeal [hOutProjDwReferenceIdeal : Cert.OutProjDwReferenceIdeal.Facts] : Prop :=
  ∀ (m : (ℓ : Loc Cert.OutProjDwReferenceIdeal.nD Cert.OutProjDwReferenceIdeal.τ Cert.OutProjDwReferenceIdeal.sig) → Buf (Elt Ideal) ℓ) (g : Dev Cert.OutProjDwReferenceIdeal.nD → PrngReg), Pre_OutProjDwReferenceIdeal m →
    θ_run (Cert.OutProjDwReferenceIdeal.defs (F := Ideal)) (onTc (τ := Cert.OutProjDwReferenceIdeal.τ) (Cert.OutProjDwReferenceIdeal.main (F := Ideal))) ⟨m, fun _ => 0, g⟩ (fun r => (∀ c : Dev Cert.OutProjDwReferenceIdeal.nD,
      r.2.mem ((c.tc : Thread Cert.OutProjDwReferenceIdeal.nD Cert.OutProjDwReferenceIdeal.τ).loc Cert.OutProjDwReferenceIdeal.main_arg0) = m ((c.tc : Thread Cert.OutProjDwReferenceIdeal.nD Cert.OutProjDwReferenceIdeal.τ).loc Cert.OutProjDwReferenceIdeal.main_arg0)
      ∧ r.2.mem ((c.tc : Thread Cert.OutProjDwReferenceIdeal.nD Cert.OutProjDwReferenceIdeal.τ).loc Cert.OutProjDwReferenceIdeal.main_arg1) = m ((c.tc : Thread Cert.OutProjDwReferenceIdeal.nD Cert.OutProjDwReferenceIdeal.τ).loc Cert.OutProjDwReferenceIdeal.main_arg1))
      ∧ r.2.sem = fun _ => 0)

def quiescent_OutProjDlhs [hOutProjDlhs : Cert.OutProjDlhs.Facts] : Prop :=
  ∀ (m : (ℓ : Loc Cert.OutProjDlhs.nD Cert.OutProjDlhs.τ Cert.OutProjDlhs.sig) → Buf (Elt Bits) ℓ) (g : Dev Cert.OutProjDlhs.nD → PrngReg), Pre_OutProjDlhs m →
    θ_run (Cert.OutProjDlhs.defs (F := Bits)) (onTc (τ := Cert.OutProjDlhs.τ) (Cert.OutProjDlhs.main (F := Bits))) ⟨m, fun _ => 0, g⟩ (fun r => (∀ c : Dev Cert.OutProjDlhs.nD,
      r.2.mem ((c.tc : Thread Cert.OutProjDlhs.nD Cert.OutProjDlhs.τ).loc Cert.OutProjDlhs.main_arg0) = m ((c.tc : Thread Cert.OutProjDlhs.nD Cert.OutProjDlhs.τ).loc Cert.OutProjDlhs.main_arg0)
      ∧ r.2.mem ((c.tc : Thread Cert.OutProjDlhs.nD Cert.OutProjDlhs.τ).loc Cert.OutProjDlhs.main_arg1) = m ((c.tc : Thread Cert.OutProjDlhs.nD Cert.OutProjDlhs.τ).loc Cert.OutProjDlhs.main_arg1))
      ∧ r.2.sem = fun _ => 0)

def quiescent_OutProjDlhsIdeal [hOutProjDlhsIdeal : Cert.OutProjDlhsIdeal.Facts] : Prop :=
  ∀ (m : (ℓ : Loc Cert.OutProjDlhsIdeal.nD Cert.OutProjDlhsIdeal.τ Cert.OutProjDlhsIdeal.sig) → Buf (Elt Ideal) ℓ) (g : Dev Cert.OutProjDlhsIdeal.nD → PrngReg), Pre_OutProjDlhsIdeal m →
    θ_run (Cert.OutProjDlhsIdeal.defs (F := Ideal)) (onTc (τ := Cert.OutProjDlhsIdeal.τ) (Cert.OutProjDlhsIdeal.main (F := Ideal))) ⟨m, fun _ => 0, g⟩ (fun r => (∀ c : Dev Cert.OutProjDlhsIdeal.nD,
      r.2.mem ((c.tc : Thread Cert.OutProjDlhsIdeal.nD Cert.OutProjDlhsIdeal.τ).loc Cert.OutProjDlhsIdeal.main_arg0) = m ((c.tc : Thread Cert.OutProjDlhsIdeal.nD Cert.OutProjDlhsIdeal.τ).loc Cert.OutProjDlhsIdeal.main_arg0)
      ∧ r.2.mem ((c.tc : Thread Cert.OutProjDlhsIdeal.nD Cert.OutProjDlhsIdeal.τ).loc Cert.OutProjDlhsIdeal.main_arg1) = m ((c.tc : Thread Cert.OutProjDlhsIdeal.nD Cert.OutProjDlhsIdeal.τ).loc Cert.OutProjDlhsIdeal.main_arg1))
      ∧ r.2.sem = fun _ => 0)

def quiescent_OutProjDlhsReferenceIdeal [hOutProjDlhsReferenceIdeal : Cert.OutProjDlhsReferenceIdeal.Facts] : Prop :=
  ∀ (m : (ℓ : Loc Cert.OutProjDlhsReferenceIdeal.nD Cert.OutProjDlhsReferenceIdeal.τ Cert.OutProjDlhsReferenceIdeal.sig) → Buf (Elt Ideal) ℓ) (g : Dev Cert.OutProjDlhsReferenceIdeal.nD → PrngReg), Pre_OutProjDlhsReferenceIdeal m →
    θ_run (Cert.OutProjDlhsReferenceIdeal.defs (F := Ideal)) (onTc (τ := Cert.OutProjDlhsReferenceIdeal.τ) (Cert.OutProjDlhsReferenceIdeal.main (F := Ideal))) ⟨m, fun _ => 0, g⟩ (fun r => (∀ c : Dev Cert.OutProjDlhsReferenceIdeal.nD,
      r.2.mem ((c.tc : Thread Cert.OutProjDlhsReferenceIdeal.nD Cert.OutProjDlhsReferenceIdeal.τ).loc Cert.OutProjDlhsReferenceIdeal.main_arg0) = m ((c.tc : Thread Cert.OutProjDlhsReferenceIdeal.nD Cert.OutProjDlhsReferenceIdeal.τ).loc Cert.OutProjDlhsReferenceIdeal.main_arg0)
      ∧ r.2.mem ((c.tc : Thread Cert.OutProjDlhsReferenceIdeal.nD Cert.OutProjDlhsReferenceIdeal.τ).loc Cert.OutProjDlhsReferenceIdeal.main_arg1) = m ((c.tc : Thread Cert.OutProjDlhsReferenceIdeal.nD Cert.OutProjDlhsReferenceIdeal.τ).loc Cert.OutProjDlhsReferenceIdeal.main_arg1))
      ∧ r.2.sem = fun _ => 0)

def quiescent_InProjDw [hInProjDw : Cert.InProjDw.Facts] : Prop :=
  ∀ (m : (ℓ : Loc Cert.InProjDw.nD Cert.InProjDw.τ Cert.InProjDw.sig) → Buf (Elt Bits) ℓ) (g : Dev Cert.InProjDw.nD → PrngReg), Pre_InProjDw m →
    θ_run (Cert.InProjDw.defs (F := Bits)) (onTc (τ := Cert.InProjDw.τ) (Cert.InProjDw.main (F := Bits))) ⟨m, fun _ => 0, g⟩ (fun r => (∀ c : Dev Cert.InProjDw.nD,
      r.2.mem ((c.tc : Thread Cert.InProjDw.nD Cert.InProjDw.τ).loc Cert.InProjDw.main_arg0) = m ((c.tc : Thread Cert.InProjDw.nD Cert.InProjDw.τ).loc Cert.InProjDw.main_arg0)
      ∧ r.2.mem ((c.tc : Thread Cert.InProjDw.nD Cert.InProjDw.τ).loc Cert.InProjDw.main_arg1) = m ((c.tc : Thread Cert.InProjDw.nD Cert.InProjDw.τ).loc Cert.InProjDw.main_arg1))
      ∧ r.2.sem = fun _ => 0)

def quiescent_InProjDwIdeal [hInProjDwIdeal : Cert.InProjDwIdeal.Facts] : Prop :=
  ∀ (m : (ℓ : Loc Cert.InProjDwIdeal.nD Cert.InProjDwIdeal.τ Cert.InProjDwIdeal.sig) → Buf (Elt Ideal) ℓ) (g : Dev Cert.InProjDwIdeal.nD → PrngReg), Pre_InProjDwIdeal m →
    θ_run (Cert.InProjDwIdeal.defs (F := Ideal)) (onTc (τ := Cert.InProjDwIdeal.τ) (Cert.InProjDwIdeal.main (F := Ideal))) ⟨m, fun _ => 0, g⟩ (fun r => (∀ c : Dev Cert.InProjDwIdeal.nD,
      r.2.mem ((c.tc : Thread Cert.InProjDwIdeal.nD Cert.InProjDwIdeal.τ).loc Cert.InProjDwIdeal.main_arg0) = m ((c.tc : Thread Cert.InProjDwIdeal.nD Cert.InProjDwIdeal.τ).loc Cert.InProjDwIdeal.main_arg0)
      ∧ r.2.mem ((c.tc : Thread Cert.InProjDwIdeal.nD Cert.InProjDwIdeal.τ).loc Cert.InProjDwIdeal.main_arg1) = m ((c.tc : Thread Cert.InProjDwIdeal.nD Cert.InProjDwIdeal.τ).loc Cert.InProjDwIdeal.main_arg1))
      ∧ r.2.sem = fun _ => 0)

def quiescent_InProjDwReferenceIdeal [hInProjDwReferenceIdeal : Cert.InProjDwReferenceIdeal.Facts] : Prop :=
  ∀ (m : (ℓ : Loc Cert.InProjDwReferenceIdeal.nD Cert.InProjDwReferenceIdeal.τ Cert.InProjDwReferenceIdeal.sig) → Buf (Elt Ideal) ℓ) (g : Dev Cert.InProjDwReferenceIdeal.nD → PrngReg), Pre_InProjDwReferenceIdeal m →
    θ_run (Cert.InProjDwReferenceIdeal.defs (F := Ideal)) (onTc (τ := Cert.InProjDwReferenceIdeal.τ) (Cert.InProjDwReferenceIdeal.main (F := Ideal))) ⟨m, fun _ => 0, g⟩ (fun r => (∀ c : Dev Cert.InProjDwReferenceIdeal.nD,
      r.2.mem ((c.tc : Thread Cert.InProjDwReferenceIdeal.nD Cert.InProjDwReferenceIdeal.τ).loc Cert.InProjDwReferenceIdeal.main_arg0) = m ((c.tc : Thread Cert.InProjDwReferenceIdeal.nD Cert.InProjDwReferenceIdeal.τ).loc Cert.InProjDwReferenceIdeal.main_arg0)
      ∧ r.2.mem ((c.tc : Thread Cert.InProjDwReferenceIdeal.nD Cert.InProjDwReferenceIdeal.τ).loc Cert.InProjDwReferenceIdeal.main_arg1) = m ((c.tc : Thread Cert.InProjDwReferenceIdeal.nD Cert.InProjDwReferenceIdeal.τ).loc Cert.InProjDwReferenceIdeal.main_arg1))
      ∧ r.2.sem = fun _ => 0)

def quiescent_InProjDlhs [hInProjDlhs : Cert.InProjDlhs.Facts] : Prop :=
  ∀ (m : (ℓ : Loc Cert.InProjDlhs.nD Cert.InProjDlhs.τ Cert.InProjDlhs.sig) → Buf (Elt Bits) ℓ) (g : Dev Cert.InProjDlhs.nD → PrngReg), Pre_InProjDlhs m →
    θ_run (Cert.InProjDlhs.defs (F := Bits)) (onTc (τ := Cert.InProjDlhs.τ) (Cert.InProjDlhs.main (F := Bits))) ⟨m, fun _ => 0, g⟩ (fun r => (∀ c : Dev Cert.InProjDlhs.nD,
      r.2.mem ((c.tc : Thread Cert.InProjDlhs.nD Cert.InProjDlhs.τ).loc Cert.InProjDlhs.main_arg0) = m ((c.tc : Thread Cert.InProjDlhs.nD Cert.InProjDlhs.τ).loc Cert.InProjDlhs.main_arg0)
      ∧ r.2.mem ((c.tc : Thread Cert.InProjDlhs.nD Cert.InProjDlhs.τ).loc Cert.InProjDlhs.main_arg1) = m ((c.tc : Thread Cert.InProjDlhs.nD Cert.InProjDlhs.τ).loc Cert.InProjDlhs.main_arg1)
      ∧ r.2.mem ((c.tc : Thread Cert.InProjDlhs.nD Cert.InProjDlhs.τ).loc Cert.InProjDlhs.main_arg2) = m ((c.tc : Thread Cert.InProjDlhs.nD Cert.InProjDlhs.τ).loc Cert.InProjDlhs.main_arg2))
      ∧ r.2.sem = fun _ => 0)

def quiescent_InProjDlhsIdeal [hInProjDlhsIdeal : Cert.InProjDlhsIdeal.Facts] : Prop :=
  ∀ (m : (ℓ : Loc Cert.InProjDlhsIdeal.nD Cert.InProjDlhsIdeal.τ Cert.InProjDlhsIdeal.sig) → Buf (Elt Ideal) ℓ) (g : Dev Cert.InProjDlhsIdeal.nD → PrngReg), Pre_InProjDlhsIdeal m →
    θ_run (Cert.InProjDlhsIdeal.defs (F := Ideal)) (onTc (τ := Cert.InProjDlhsIdeal.τ) (Cert.InProjDlhsIdeal.main (F := Ideal))) ⟨m, fun _ => 0, g⟩ (fun r => (∀ c : Dev Cert.InProjDlhsIdeal.nD,
      r.2.mem ((c.tc : Thread Cert.InProjDlhsIdeal.nD Cert.InProjDlhsIdeal.τ).loc Cert.InProjDlhsIdeal.main_arg0) = m ((c.tc : Thread Cert.InProjDlhsIdeal.nD Cert.InProjDlhsIdeal.τ).loc Cert.InProjDlhsIdeal.main_arg0)
      ∧ r.2.mem ((c.tc : Thread Cert.InProjDlhsIdeal.nD Cert.InProjDlhsIdeal.τ).loc Cert.InProjDlhsIdeal.main_arg1) = m ((c.tc : Thread Cert.InProjDlhsIdeal.nD Cert.InProjDlhsIdeal.τ).loc Cert.InProjDlhsIdeal.main_arg1)
      ∧ r.2.mem ((c.tc : Thread Cert.InProjDlhsIdeal.nD Cert.InProjDlhsIdeal.τ).loc Cert.InProjDlhsIdeal.main_arg2) = m ((c.tc : Thread Cert.InProjDlhsIdeal.nD Cert.InProjDlhsIdeal.τ).loc Cert.InProjDlhsIdeal.main_arg2))
      ∧ r.2.sem = fun _ => 0)

def quiescent_InProjDlhsReferenceIdeal [hInProjDlhsReferenceIdeal : Cert.InProjDlhsReferenceIdeal.Facts] : Prop :=
  ∀ (m : (ℓ : Loc Cert.InProjDlhsReferenceIdeal.nD Cert.InProjDlhsReferenceIdeal.τ Cert.InProjDlhsReferenceIdeal.sig) → Buf (Elt Ideal) ℓ) (g : Dev Cert.InProjDlhsReferenceIdeal.nD → PrngReg), Pre_InProjDlhsReferenceIdeal m →
    θ_run (Cert.InProjDlhsReferenceIdeal.defs (F := Ideal)) (onTc (τ := Cert.InProjDlhsReferenceIdeal.τ) (Cert.InProjDlhsReferenceIdeal.main (F := Ideal))) ⟨m, fun _ => 0, g⟩ (fun r => (∀ c : Dev Cert.InProjDlhsReferenceIdeal.nD,
      r.2.mem ((c.tc : Thread Cert.InProjDlhsReferenceIdeal.nD Cert.InProjDlhsReferenceIdeal.τ).loc Cert.InProjDlhsReferenceIdeal.main_arg0) = m ((c.tc : Thread Cert.InProjDlhsReferenceIdeal.nD Cert.InProjDlhsReferenceIdeal.τ).loc Cert.InProjDlhsReferenceIdeal.main_arg0)
      ∧ r.2.mem ((c.tc : Thread Cert.InProjDlhsReferenceIdeal.nD Cert.InProjDlhsReferenceIdeal.τ).loc Cert.InProjDlhsReferenceIdeal.main_arg1) = m ((c.tc : Thread Cert.InProjDlhsReferenceIdeal.nD Cert.InProjDlhsReferenceIdeal.τ).loc Cert.InProjDlhsReferenceIdeal.main_arg1)
      ∧ r.2.mem ((c.tc : Thread Cert.InProjDlhsReferenceIdeal.nD Cert.InProjDlhsReferenceIdeal.τ).loc Cert.InProjDlhsReferenceIdeal.main_arg2) = m ((c.tc : Thread Cert.InProjDlhsReferenceIdeal.nD Cert.InProjDlhsReferenceIdeal.τ).loc Cert.InProjDlhsReferenceIdeal.main_arg2))
      ∧ r.2.sem = fun _ => 0)

def quiescent_AdamwIn [hAdamwIn : Cert.AdamwIn.Facts] : Prop :=
  ∀ (m : (ℓ : Loc Cert.AdamwIn.nD Cert.AdamwIn.τ Cert.AdamwIn.sig) → Buf (Elt Bits) ℓ) (g : Dev Cert.AdamwIn.nD → PrngReg), Pre_AdamwIn m →
    θ_run (Cert.AdamwIn.defs (F := Bits)) (onTc (τ := Cert.AdamwIn.τ) (Cert.AdamwIn.main (F := Bits))) ⟨m, fun _ => 0, g⟩ (fun r => (∀ c : Dev Cert.AdamwIn.nD,
      r.2.mem ((c.tc : Thread Cert.AdamwIn.nD Cert.AdamwIn.τ).loc Cert.AdamwIn.main_arg0) = m ((c.tc : Thread Cert.AdamwIn.nD Cert.AdamwIn.τ).loc Cert.AdamwIn.main_arg0)
      ∧ r.2.mem ((c.tc : Thread Cert.AdamwIn.nD Cert.AdamwIn.τ).loc Cert.AdamwIn.main_arg1) = m ((c.tc : Thread Cert.AdamwIn.nD Cert.AdamwIn.τ).loc Cert.AdamwIn.main_arg1)
      ∧ r.2.mem ((c.tc : Thread Cert.AdamwIn.nD Cert.AdamwIn.τ).loc Cert.AdamwIn.main_arg2) = m ((c.tc : Thread Cert.AdamwIn.nD Cert.AdamwIn.τ).loc Cert.AdamwIn.main_arg2)
      ∧ r.2.mem ((c.tc : Thread Cert.AdamwIn.nD Cert.AdamwIn.τ).loc Cert.AdamwIn.main_arg3) = m ((c.tc : Thread Cert.AdamwIn.nD Cert.AdamwIn.τ).loc Cert.AdamwIn.main_arg3))
      ∧ r.2.sem = fun _ => 0)

def quiescent_AdamwInIdeal [hAdamwInIdeal : Cert.AdamwInIdeal.Facts] : Prop :=
  ∀ (m : (ℓ : Loc Cert.AdamwInIdeal.nD Cert.AdamwInIdeal.τ Cert.AdamwInIdeal.sig) → Buf (Elt Ideal) ℓ) (g : Dev Cert.AdamwInIdeal.nD → PrngReg), Pre_AdamwInIdeal m →
    θ_run (Cert.AdamwInIdeal.defs (F := Ideal)) (onTc (τ := Cert.AdamwInIdeal.τ) (Cert.AdamwInIdeal.main (F := Ideal))) ⟨m, fun _ => 0, g⟩ (fun r => (∀ c : Dev Cert.AdamwInIdeal.nD,
      r.2.mem ((c.tc : Thread Cert.AdamwInIdeal.nD Cert.AdamwInIdeal.τ).loc Cert.AdamwInIdeal.main_arg0) = m ((c.tc : Thread Cert.AdamwInIdeal.nD Cert.AdamwInIdeal.τ).loc Cert.AdamwInIdeal.main_arg0)
      ∧ r.2.mem ((c.tc : Thread Cert.AdamwInIdeal.nD Cert.AdamwInIdeal.τ).loc Cert.AdamwInIdeal.main_arg1) = m ((c.tc : Thread Cert.AdamwInIdeal.nD Cert.AdamwInIdeal.τ).loc Cert.AdamwInIdeal.main_arg1)
      ∧ r.2.mem ((c.tc : Thread Cert.AdamwInIdeal.nD Cert.AdamwInIdeal.τ).loc Cert.AdamwInIdeal.main_arg2) = m ((c.tc : Thread Cert.AdamwInIdeal.nD Cert.AdamwInIdeal.τ).loc Cert.AdamwInIdeal.main_arg2)
      ∧ r.2.mem ((c.tc : Thread Cert.AdamwInIdeal.nD Cert.AdamwInIdeal.τ).loc Cert.AdamwInIdeal.main_arg3) = m ((c.tc : Thread Cert.AdamwInIdeal.nD Cert.AdamwInIdeal.τ).loc Cert.AdamwInIdeal.main_arg3))
      ∧ r.2.sem = fun _ => 0)

def quiescent_AdamwInReferenceIdeal [hAdamwInReferenceIdeal : Cert.AdamwInReferenceIdeal.Facts] : Prop :=
  ∀ (m : (ℓ : Loc Cert.AdamwInReferenceIdeal.nD Cert.AdamwInReferenceIdeal.τ Cert.AdamwInReferenceIdeal.sig) → Buf (Elt Ideal) ℓ) (g : Dev Cert.AdamwInReferenceIdeal.nD → PrngReg), Pre_AdamwInReferenceIdeal m →
    θ_run (Cert.AdamwInReferenceIdeal.defs (F := Ideal)) (onTc (τ := Cert.AdamwInReferenceIdeal.τ) (Cert.AdamwInReferenceIdeal.main (F := Ideal))) ⟨m, fun _ => 0, g⟩ (fun r => (∀ c : Dev Cert.AdamwInReferenceIdeal.nD,
      r.2.mem ((c.tc : Thread Cert.AdamwInReferenceIdeal.nD Cert.AdamwInReferenceIdeal.τ).loc Cert.AdamwInReferenceIdeal.main_arg0) = m ((c.tc : Thread Cert.AdamwInReferenceIdeal.nD Cert.AdamwInReferenceIdeal.τ).loc Cert.AdamwInReferenceIdeal.main_arg0)
      ∧ r.2.mem ((c.tc : Thread Cert.AdamwInReferenceIdeal.nD Cert.AdamwInReferenceIdeal.τ).loc Cert.AdamwInReferenceIdeal.main_arg1) = m ((c.tc : Thread Cert.AdamwInReferenceIdeal.nD Cert.AdamwInReferenceIdeal.τ).loc Cert.AdamwInReferenceIdeal.main_arg1)
      ∧ r.2.mem ((c.tc : Thread Cert.AdamwInReferenceIdeal.nD Cert.AdamwInReferenceIdeal.τ).loc Cert.AdamwInReferenceIdeal.main_arg2) = m ((c.tc : Thread Cert.AdamwInReferenceIdeal.nD Cert.AdamwInReferenceIdeal.τ).loc Cert.AdamwInReferenceIdeal.main_arg2)
      ∧ r.2.mem ((c.tc : Thread Cert.AdamwInReferenceIdeal.nD Cert.AdamwInReferenceIdeal.τ).loc Cert.AdamwInReferenceIdeal.main_arg3) = m ((c.tc : Thread Cert.AdamwInReferenceIdeal.nD Cert.AdamwInReferenceIdeal.τ).loc Cert.AdamwInReferenceIdeal.main_arg3))
      ∧ r.2.sem = fun _ => 0)

def quiescent_AdamwOut [hAdamwOut : Cert.AdamwOut.Facts] : Prop :=
  ∀ (m : (ℓ : Loc Cert.AdamwOut.nD Cert.AdamwOut.τ Cert.AdamwOut.sig) → Buf (Elt Bits) ℓ) (g : Dev Cert.AdamwOut.nD → PrngReg), Pre_AdamwOut m →
    θ_run (Cert.AdamwOut.defs (F := Bits)) (onTc (τ := Cert.AdamwOut.τ) (Cert.AdamwOut.main (F := Bits))) ⟨m, fun _ => 0, g⟩ (fun r => (∀ c : Dev Cert.AdamwOut.nD,
      r.2.mem ((c.tc : Thread Cert.AdamwOut.nD Cert.AdamwOut.τ).loc Cert.AdamwOut.main_arg0) = m ((c.tc : Thread Cert.AdamwOut.nD Cert.AdamwOut.τ).loc Cert.AdamwOut.main_arg0)
      ∧ r.2.mem ((c.tc : Thread Cert.AdamwOut.nD Cert.AdamwOut.τ).loc Cert.AdamwOut.main_arg1) = m ((c.tc : Thread Cert.AdamwOut.nD Cert.AdamwOut.τ).loc Cert.AdamwOut.main_arg1)
      ∧ r.2.mem ((c.tc : Thread Cert.AdamwOut.nD Cert.AdamwOut.τ).loc Cert.AdamwOut.main_arg2) = m ((c.tc : Thread Cert.AdamwOut.nD Cert.AdamwOut.τ).loc Cert.AdamwOut.main_arg2)
      ∧ r.2.mem ((c.tc : Thread Cert.AdamwOut.nD Cert.AdamwOut.τ).loc Cert.AdamwOut.main_arg3) = m ((c.tc : Thread Cert.AdamwOut.nD Cert.AdamwOut.τ).loc Cert.AdamwOut.main_arg3))
      ∧ r.2.sem = fun _ => 0)

def quiescent_AdamwOutIdeal [hAdamwOutIdeal : Cert.AdamwOutIdeal.Facts] : Prop :=
  ∀ (m : (ℓ : Loc Cert.AdamwOutIdeal.nD Cert.AdamwOutIdeal.τ Cert.AdamwOutIdeal.sig) → Buf (Elt Ideal) ℓ) (g : Dev Cert.AdamwOutIdeal.nD → PrngReg), Pre_AdamwOutIdeal m →
    θ_run (Cert.AdamwOutIdeal.defs (F := Ideal)) (onTc (τ := Cert.AdamwOutIdeal.τ) (Cert.AdamwOutIdeal.main (F := Ideal))) ⟨m, fun _ => 0, g⟩ (fun r => (∀ c : Dev Cert.AdamwOutIdeal.nD,
      r.2.mem ((c.tc : Thread Cert.AdamwOutIdeal.nD Cert.AdamwOutIdeal.τ).loc Cert.AdamwOutIdeal.main_arg0) = m ((c.tc : Thread Cert.AdamwOutIdeal.nD Cert.AdamwOutIdeal.τ).loc Cert.AdamwOutIdeal.main_arg0)
      ∧ r.2.mem ((c.tc : Thread Cert.AdamwOutIdeal.nD Cert.AdamwOutIdeal.τ).loc Cert.AdamwOutIdeal.main_arg1) = m ((c.tc : Thread Cert.AdamwOutIdeal.nD Cert.AdamwOutIdeal.τ).loc Cert.AdamwOutIdeal.main_arg1)
      ∧ r.2.mem ((c.tc : Thread Cert.AdamwOutIdeal.nD Cert.AdamwOutIdeal.τ).loc Cert.AdamwOutIdeal.main_arg2) = m ((c.tc : Thread Cert.AdamwOutIdeal.nD Cert.AdamwOutIdeal.τ).loc Cert.AdamwOutIdeal.main_arg2)
      ∧ r.2.mem ((c.tc : Thread Cert.AdamwOutIdeal.nD Cert.AdamwOutIdeal.τ).loc Cert.AdamwOutIdeal.main_arg3) = m ((c.tc : Thread Cert.AdamwOutIdeal.nD Cert.AdamwOutIdeal.τ).loc Cert.AdamwOutIdeal.main_arg3))
      ∧ r.2.sem = fun _ => 0)

def quiescent_AdamwOutReferenceIdeal [hAdamwOutReferenceIdeal : Cert.AdamwOutReferenceIdeal.Facts] : Prop :=
  ∀ (m : (ℓ : Loc Cert.AdamwOutReferenceIdeal.nD Cert.AdamwOutReferenceIdeal.τ Cert.AdamwOutReferenceIdeal.sig) → Buf (Elt Ideal) ℓ) (g : Dev Cert.AdamwOutReferenceIdeal.nD → PrngReg), Pre_AdamwOutReferenceIdeal m →
    θ_run (Cert.AdamwOutReferenceIdeal.defs (F := Ideal)) (onTc (τ := Cert.AdamwOutReferenceIdeal.τ) (Cert.AdamwOutReferenceIdeal.main (F := Ideal))) ⟨m, fun _ => 0, g⟩ (fun r => (∀ c : Dev Cert.AdamwOutReferenceIdeal.nD,
      r.2.mem ((c.tc : Thread Cert.AdamwOutReferenceIdeal.nD Cert.AdamwOutReferenceIdeal.τ).loc Cert.AdamwOutReferenceIdeal.main_arg0) = m ((c.tc : Thread Cert.AdamwOutReferenceIdeal.nD Cert.AdamwOutReferenceIdeal.τ).loc Cert.AdamwOutReferenceIdeal.main_arg0)
      ∧ r.2.mem ((c.tc : Thread Cert.AdamwOutReferenceIdeal.nD Cert.AdamwOutReferenceIdeal.τ).loc Cert.AdamwOutReferenceIdeal.main_arg1) = m ((c.tc : Thread Cert.AdamwOutReferenceIdeal.nD Cert.AdamwOutReferenceIdeal.τ).loc Cert.AdamwOutReferenceIdeal.main_arg1)
      ∧ r.2.mem ((c.tc : Thread Cert.AdamwOutReferenceIdeal.nD Cert.AdamwOutReferenceIdeal.τ).loc Cert.AdamwOutReferenceIdeal.main_arg2) = m ((c.tc : Thread Cert.AdamwOutReferenceIdeal.nD Cert.AdamwOutReferenceIdeal.τ).loc Cert.AdamwOutReferenceIdeal.main_arg2)
      ∧ r.2.mem ((c.tc : Thread Cert.AdamwOutReferenceIdeal.nD Cert.AdamwOutReferenceIdeal.τ).loc Cert.AdamwOutReferenceIdeal.main_arg3) = m ((c.tc : Thread Cert.AdamwOutReferenceIdeal.nD Cert.AdamwOutReferenceIdeal.τ).loc Cert.AdamwOutReferenceIdeal.main_arg3))
      ∧ r.2.sem = fun _ => 0)

def quiescent_AdamwFf [hAdamwFf : Cert.AdamwFf.Facts] : Prop :=
  ∀ (m : (ℓ : Loc Cert.AdamwFf.nD Cert.AdamwFf.τ Cert.AdamwFf.sig) → Buf (Elt Bits) ℓ) (g : Dev Cert.AdamwFf.nD → PrngReg), Pre_AdamwFf m →
    θ_run (Cert.AdamwFf.defs (F := Bits)) (onTc (τ := Cert.AdamwFf.τ) (Cert.AdamwFf.main (F := Bits))) ⟨m, fun _ => 0, g⟩ (fun r => (∀ c : Dev Cert.AdamwFf.nD,
      r.2.mem ((c.tc : Thread Cert.AdamwFf.nD Cert.AdamwFf.τ).loc Cert.AdamwFf.main_arg0) = m ((c.tc : Thread Cert.AdamwFf.nD Cert.AdamwFf.τ).loc Cert.AdamwFf.main_arg0)
      ∧ r.2.mem ((c.tc : Thread Cert.AdamwFf.nD Cert.AdamwFf.τ).loc Cert.AdamwFf.main_arg1) = m ((c.tc : Thread Cert.AdamwFf.nD Cert.AdamwFf.τ).loc Cert.AdamwFf.main_arg1)
      ∧ r.2.mem ((c.tc : Thread Cert.AdamwFf.nD Cert.AdamwFf.τ).loc Cert.AdamwFf.main_arg2) = m ((c.tc : Thread Cert.AdamwFf.nD Cert.AdamwFf.τ).loc Cert.AdamwFf.main_arg2)
      ∧ r.2.mem ((c.tc : Thread Cert.AdamwFf.nD Cert.AdamwFf.τ).loc Cert.AdamwFf.main_arg3) = m ((c.tc : Thread Cert.AdamwFf.nD Cert.AdamwFf.τ).loc Cert.AdamwFf.main_arg3))
      ∧ r.2.sem = fun _ => 0)

def quiescent_AdamwFfIdeal [hAdamwFfIdeal : Cert.AdamwFfIdeal.Facts] : Prop :=
  ∀ (m : (ℓ : Loc Cert.AdamwFfIdeal.nD Cert.AdamwFfIdeal.τ Cert.AdamwFfIdeal.sig) → Buf (Elt Ideal) ℓ) (g : Dev Cert.AdamwFfIdeal.nD → PrngReg), Pre_AdamwFfIdeal m →
    θ_run (Cert.AdamwFfIdeal.defs (F := Ideal)) (onTc (τ := Cert.AdamwFfIdeal.τ) (Cert.AdamwFfIdeal.main (F := Ideal))) ⟨m, fun _ => 0, g⟩ (fun r => (∀ c : Dev Cert.AdamwFfIdeal.nD,
      r.2.mem ((c.tc : Thread Cert.AdamwFfIdeal.nD Cert.AdamwFfIdeal.τ).loc Cert.AdamwFfIdeal.main_arg0) = m ((c.tc : Thread Cert.AdamwFfIdeal.nD Cert.AdamwFfIdeal.τ).loc Cert.AdamwFfIdeal.main_arg0)
      ∧ r.2.mem ((c.tc : Thread Cert.AdamwFfIdeal.nD Cert.AdamwFfIdeal.τ).loc Cert.AdamwFfIdeal.main_arg1) = m ((c.tc : Thread Cert.AdamwFfIdeal.nD Cert.AdamwFfIdeal.τ).loc Cert.AdamwFfIdeal.main_arg1)
      ∧ r.2.mem ((c.tc : Thread Cert.AdamwFfIdeal.nD Cert.AdamwFfIdeal.τ).loc Cert.AdamwFfIdeal.main_arg2) = m ((c.tc : Thread Cert.AdamwFfIdeal.nD Cert.AdamwFfIdeal.τ).loc Cert.AdamwFfIdeal.main_arg2)
      ∧ r.2.mem ((c.tc : Thread Cert.AdamwFfIdeal.nD Cert.AdamwFfIdeal.τ).loc Cert.AdamwFfIdeal.main_arg3) = m ((c.tc : Thread Cert.AdamwFfIdeal.nD Cert.AdamwFfIdeal.τ).loc Cert.AdamwFfIdeal.main_arg3))
      ∧ r.2.sem = fun _ => 0)

def quiescent_AdamwFfReferenceIdeal [hAdamwFfReferenceIdeal : Cert.AdamwFfReferenceIdeal.Facts] : Prop :=
  ∀ (m : (ℓ : Loc Cert.AdamwFfReferenceIdeal.nD Cert.AdamwFfReferenceIdeal.τ Cert.AdamwFfReferenceIdeal.sig) → Buf (Elt Ideal) ℓ) (g : Dev Cert.AdamwFfReferenceIdeal.nD → PrngReg), Pre_AdamwFfReferenceIdeal m →
    θ_run (Cert.AdamwFfReferenceIdeal.defs (F := Ideal)) (onTc (τ := Cert.AdamwFfReferenceIdeal.τ) (Cert.AdamwFfReferenceIdeal.main (F := Ideal))) ⟨m, fun _ => 0, g⟩ (fun r => (∀ c : Dev Cert.AdamwFfReferenceIdeal.nD,
      r.2.mem ((c.tc : Thread Cert.AdamwFfReferenceIdeal.nD Cert.AdamwFfReferenceIdeal.τ).loc Cert.AdamwFfReferenceIdeal.main_arg0) = m ((c.tc : Thread Cert.AdamwFfReferenceIdeal.nD Cert.AdamwFfReferenceIdeal.τ).loc Cert.AdamwFfReferenceIdeal.main_arg0)
      ∧ r.2.mem ((c.tc : Thread Cert.AdamwFfReferenceIdeal.nD Cert.AdamwFfReferenceIdeal.τ).loc Cert.AdamwFfReferenceIdeal.main_arg1) = m ((c.tc : Thread Cert.AdamwFfReferenceIdeal.nD Cert.AdamwFfReferenceIdeal.τ).loc Cert.AdamwFfReferenceIdeal.main_arg1)
      ∧ r.2.mem ((c.tc : Thread Cert.AdamwFfReferenceIdeal.nD Cert.AdamwFfReferenceIdeal.τ).loc Cert.AdamwFfReferenceIdeal.main_arg2) = m ((c.tc : Thread Cert.AdamwFfReferenceIdeal.nD Cert.AdamwFfReferenceIdeal.τ).loc Cert.AdamwFfReferenceIdeal.main_arg2)
      ∧ r.2.mem ((c.tc : Thread Cert.AdamwFfReferenceIdeal.nD Cert.AdamwFfReferenceIdeal.τ).loc Cert.AdamwFfReferenceIdeal.main_arg3) = m ((c.tc : Thread Cert.AdamwFfReferenceIdeal.nD Cert.AdamwFfReferenceIdeal.τ).loc Cert.AdamwFfReferenceIdeal.main_arg3))
      ∧ r.2.sem = fun _ => 0)

def quiescent_NormMixBwd [hNormMixBwd : Cert.NormMixBwd.Facts] : Prop :=
  ∀ (m : (ℓ : Loc Cert.NormMixBwd.nD Cert.NormMixBwd.τ Cert.NormMixBwd.sig) → Buf (Elt Bits) ℓ) (g : Dev Cert.NormMixBwd.nD → PrngReg), Pre_NormMixBwd m →
    θ_run (Cert.NormMixBwd.defs (F := Bits)) (onTc (τ := Cert.NormMixBwd.τ) (Cert.NormMixBwd.main (F := Bits))) ⟨m, fun _ => 0, g⟩ (fun r => (∀ c : Dev Cert.NormMixBwd.nD,
      r.2.mem ((c.tc : Thread Cert.NormMixBwd.nD Cert.NormMixBwd.τ).loc Cert.NormMixBwd.main_arg0) = m ((c.tc : Thread Cert.NormMixBwd.nD Cert.NormMixBwd.τ).loc Cert.NormMixBwd.main_arg0)
      ∧ r.2.mem ((c.tc : Thread Cert.NormMixBwd.nD Cert.NormMixBwd.τ).loc Cert.NormMixBwd.main_arg1) = m ((c.tc : Thread Cert.NormMixBwd.nD Cert.NormMixBwd.τ).loc Cert.NormMixBwd.main_arg1)
      ∧ r.2.mem ((c.tc : Thread Cert.NormMixBwd.nD Cert.NormMixBwd.τ).loc Cert.NormMixBwd.main_arg2) = m ((c.tc : Thread Cert.NormMixBwd.nD Cert.NormMixBwd.τ).loc Cert.NormMixBwd.main_arg2)
      ∧ r.2.mem ((c.tc : Thread Cert.NormMixBwd.nD Cert.NormMixBwd.τ).loc Cert.NormMixBwd.main_arg3) = m ((c.tc : Thread Cert.NormMixBwd.nD Cert.NormMixBwd.τ).loc Cert.NormMixBwd.main_arg3))
      ∧ r.2.sem = fun _ => 0)

def quiescent_NormMixBwdIdeal [hNormMixBwdIdeal : Cert.NormMixBwdIdeal.Facts] : Prop :=
  ∀ (m : (ℓ : Loc Cert.NormMixBwdIdeal.nD Cert.NormMixBwdIdeal.τ Cert.NormMixBwdIdeal.sig) → Buf (Elt Ideal) ℓ) (g : Dev Cert.NormMixBwdIdeal.nD → PrngReg), Pre_NormMixBwdIdeal m →
    θ_run (Cert.NormMixBwdIdeal.defs (F := Ideal)) (onTc (τ := Cert.NormMixBwdIdeal.τ) (Cert.NormMixBwdIdeal.main (F := Ideal))) ⟨m, fun _ => 0, g⟩ (fun r => (∀ c : Dev Cert.NormMixBwdIdeal.nD,
      r.2.mem ((c.tc : Thread Cert.NormMixBwdIdeal.nD Cert.NormMixBwdIdeal.τ).loc Cert.NormMixBwdIdeal.main_arg0) = m ((c.tc : Thread Cert.NormMixBwdIdeal.nD Cert.NormMixBwdIdeal.τ).loc Cert.NormMixBwdIdeal.main_arg0)
      ∧ r.2.mem ((c.tc : Thread Cert.NormMixBwdIdeal.nD Cert.NormMixBwdIdeal.τ).loc Cert.NormMixBwdIdeal.main_arg1) = m ((c.tc : Thread Cert.NormMixBwdIdeal.nD Cert.NormMixBwdIdeal.τ).loc Cert.NormMixBwdIdeal.main_arg1)
      ∧ r.2.mem ((c.tc : Thread Cert.NormMixBwdIdeal.nD Cert.NormMixBwdIdeal.τ).loc Cert.NormMixBwdIdeal.main_arg2) = m ((c.tc : Thread Cert.NormMixBwdIdeal.nD Cert.NormMixBwdIdeal.τ).loc Cert.NormMixBwdIdeal.main_arg2)
      ∧ r.2.mem ((c.tc : Thread Cert.NormMixBwdIdeal.nD Cert.NormMixBwdIdeal.τ).loc Cert.NormMixBwdIdeal.main_arg3) = m ((c.tc : Thread Cert.NormMixBwdIdeal.nD Cert.NormMixBwdIdeal.τ).loc Cert.NormMixBwdIdeal.main_arg3))
      ∧ r.2.sem = fun _ => 0)

def quiescent_NormMixBwdReferenceIdeal [hNormMixBwdReferenceIdeal : Cert.NormMixBwdReferenceIdeal.Facts] : Prop :=
  ∀ (m : (ℓ : Loc Cert.NormMixBwdReferenceIdeal.nD Cert.NormMixBwdReferenceIdeal.τ Cert.NormMixBwdReferenceIdeal.sig) → Buf (Elt Ideal) ℓ) (g : Dev Cert.NormMixBwdReferenceIdeal.nD → PrngReg), Pre_NormMixBwdReferenceIdeal m →
    θ_run (Cert.NormMixBwdReferenceIdeal.defs (F := Ideal)) (onTc (τ := Cert.NormMixBwdReferenceIdeal.τ) (Cert.NormMixBwdReferenceIdeal.main (F := Ideal))) ⟨m, fun _ => 0, g⟩ (fun r => (∀ c : Dev Cert.NormMixBwdReferenceIdeal.nD,
      r.2.mem ((c.tc : Thread Cert.NormMixBwdReferenceIdeal.nD Cert.NormMixBwdReferenceIdeal.τ).loc Cert.NormMixBwdReferenceIdeal.main_arg0) = m ((c.tc : Thread Cert.NormMixBwdReferenceIdeal.nD Cert.NormMixBwdReferenceIdeal.τ).loc Cert.NormMixBwdReferenceIdeal.main_arg0)
      ∧ r.2.mem ((c.tc : Thread Cert.NormMixBwdReferenceIdeal.nD Cert.NormMixBwdReferenceIdeal.τ).loc Cert.NormMixBwdReferenceIdeal.main_arg1) = m ((c.tc : Thread Cert.NormMixBwdReferenceIdeal.nD Cert.NormMixBwdReferenceIdeal.τ).loc Cert.NormMixBwdReferenceIdeal.main_arg1)
      ∧ r.2.mem ((c.tc : Thread Cert.NormMixBwdReferenceIdeal.nD Cert.NormMixBwdReferenceIdeal.τ).loc Cert.NormMixBwdReferenceIdeal.main_arg2) = m ((c.tc : Thread Cert.NormMixBwdReferenceIdeal.nD Cert.NormMixBwdReferenceIdeal.τ).loc Cert.NormMixBwdReferenceIdeal.main_arg2)
      ∧ r.2.mem ((c.tc : Thread Cert.NormMixBwdReferenceIdeal.nD Cert.NormMixBwdReferenceIdeal.τ).loc Cert.NormMixBwdReferenceIdeal.main_arg3) = m ((c.tc : Thread Cert.NormMixBwdReferenceIdeal.nD Cert.NormMixBwdReferenceIdeal.τ).loc Cert.NormMixBwdReferenceIdeal.main_arg3))
      ∧ r.2.sem = fun _ => 0)

def quiescent_NormFfnBwd [hNormFfnBwd : Cert.NormFfnBwd.Facts] : Prop :=
  ∀ (m : (ℓ : Loc Cert.NormFfnBwd.nD Cert.NormFfnBwd.τ Cert.NormFfnBwd.sig) → Buf (Elt Bits) ℓ) (g : Dev Cert.NormFfnBwd.nD → PrngReg), Pre_NormFfnBwd m →
    θ_run (Cert.NormFfnBwd.defs (F := Bits)) (onTc (τ := Cert.NormFfnBwd.τ) (Cert.NormFfnBwd.main (F := Bits))) ⟨m, fun _ => 0, g⟩ (fun r => (∀ c : Dev Cert.NormFfnBwd.nD,
      r.2.mem ((c.tc : Thread Cert.NormFfnBwd.nD Cert.NormFfnBwd.τ).loc Cert.NormFfnBwd.main_arg0) = m ((c.tc : Thread Cert.NormFfnBwd.nD Cert.NormFfnBwd.τ).loc Cert.NormFfnBwd.main_arg0)
      ∧ r.2.mem ((c.tc : Thread Cert.NormFfnBwd.nD Cert.NormFfnBwd.τ).loc Cert.NormFfnBwd.main_arg1) = m ((c.tc : Thread Cert.NormFfnBwd.nD Cert.NormFfnBwd.τ).loc Cert.NormFfnBwd.main_arg1)
      ∧ r.2.mem ((c.tc : Thread Cert.NormFfnBwd.nD Cert.NormFfnBwd.τ).loc Cert.NormFfnBwd.main_arg2) = m ((c.tc : Thread Cert.NormFfnBwd.nD Cert.NormFfnBwd.τ).loc Cert.NormFfnBwd.main_arg2)
      ∧ r.2.mem ((c.tc : Thread Cert.NormFfnBwd.nD Cert.NormFfnBwd.τ).loc Cert.NormFfnBwd.main_arg3) = m ((c.tc : Thread Cert.NormFfnBwd.nD Cert.NormFfnBwd.τ).loc Cert.NormFfnBwd.main_arg3))
      ∧ r.2.sem = fun _ => 0)

def quiescent_NormFfnBwdIdeal [hNormFfnBwdIdeal : Cert.NormFfnBwdIdeal.Facts] : Prop :=
  ∀ (m : (ℓ : Loc Cert.NormFfnBwdIdeal.nD Cert.NormFfnBwdIdeal.τ Cert.NormFfnBwdIdeal.sig) → Buf (Elt Ideal) ℓ) (g : Dev Cert.NormFfnBwdIdeal.nD → PrngReg), Pre_NormFfnBwdIdeal m →
    θ_run (Cert.NormFfnBwdIdeal.defs (F := Ideal)) (onTc (τ := Cert.NormFfnBwdIdeal.τ) (Cert.NormFfnBwdIdeal.main (F := Ideal))) ⟨m, fun _ => 0, g⟩ (fun r => (∀ c : Dev Cert.NormFfnBwdIdeal.nD,
      r.2.mem ((c.tc : Thread Cert.NormFfnBwdIdeal.nD Cert.NormFfnBwdIdeal.τ).loc Cert.NormFfnBwdIdeal.main_arg0) = m ((c.tc : Thread Cert.NormFfnBwdIdeal.nD Cert.NormFfnBwdIdeal.τ).loc Cert.NormFfnBwdIdeal.main_arg0)
      ∧ r.2.mem ((c.tc : Thread Cert.NormFfnBwdIdeal.nD Cert.NormFfnBwdIdeal.τ).loc Cert.NormFfnBwdIdeal.main_arg1) = m ((c.tc : Thread Cert.NormFfnBwdIdeal.nD Cert.NormFfnBwdIdeal.τ).loc Cert.NormFfnBwdIdeal.main_arg1)
      ∧ r.2.mem ((c.tc : Thread Cert.NormFfnBwdIdeal.nD Cert.NormFfnBwdIdeal.τ).loc Cert.NormFfnBwdIdeal.main_arg2) = m ((c.tc : Thread Cert.NormFfnBwdIdeal.nD Cert.NormFfnBwdIdeal.τ).loc Cert.NormFfnBwdIdeal.main_arg2)
      ∧ r.2.mem ((c.tc : Thread Cert.NormFfnBwdIdeal.nD Cert.NormFfnBwdIdeal.τ).loc Cert.NormFfnBwdIdeal.main_arg3) = m ((c.tc : Thread Cert.NormFfnBwdIdeal.nD Cert.NormFfnBwdIdeal.τ).loc Cert.NormFfnBwdIdeal.main_arg3))
      ∧ r.2.sem = fun _ => 0)

def quiescent_NormFfnBwdReferenceIdeal [hNormFfnBwdReferenceIdeal : Cert.NormFfnBwdReferenceIdeal.Facts] : Prop :=
  ∀ (m : (ℓ : Loc Cert.NormFfnBwdReferenceIdeal.nD Cert.NormFfnBwdReferenceIdeal.τ Cert.NormFfnBwdReferenceIdeal.sig) → Buf (Elt Ideal) ℓ) (g : Dev Cert.NormFfnBwdReferenceIdeal.nD → PrngReg), Pre_NormFfnBwdReferenceIdeal m →
    θ_run (Cert.NormFfnBwdReferenceIdeal.defs (F := Ideal)) (onTc (τ := Cert.NormFfnBwdReferenceIdeal.τ) (Cert.NormFfnBwdReferenceIdeal.main (F := Ideal))) ⟨m, fun _ => 0, g⟩ (fun r => (∀ c : Dev Cert.NormFfnBwdReferenceIdeal.nD,
      r.2.mem ((c.tc : Thread Cert.NormFfnBwdReferenceIdeal.nD Cert.NormFfnBwdReferenceIdeal.τ).loc Cert.NormFfnBwdReferenceIdeal.main_arg0) = m ((c.tc : Thread Cert.NormFfnBwdReferenceIdeal.nD Cert.NormFfnBwdReferenceIdeal.τ).loc Cert.NormFfnBwdReferenceIdeal.main_arg0)
      ∧ r.2.mem ((c.tc : Thread Cert.NormFfnBwdReferenceIdeal.nD Cert.NormFfnBwdReferenceIdeal.τ).loc Cert.NormFfnBwdReferenceIdeal.main_arg1) = m ((c.tc : Thread Cert.NormFfnBwdReferenceIdeal.nD Cert.NormFfnBwdReferenceIdeal.τ).loc Cert.NormFfnBwdReferenceIdeal.main_arg1)
      ∧ r.2.mem ((c.tc : Thread Cert.NormFfnBwdReferenceIdeal.nD Cert.NormFfnBwdReferenceIdeal.τ).loc Cert.NormFfnBwdReferenceIdeal.main_arg2) = m ((c.tc : Thread Cert.NormFfnBwdReferenceIdeal.nD Cert.NormFfnBwdReferenceIdeal.τ).loc Cert.NormFfnBwdReferenceIdeal.main_arg2)
      ∧ r.2.mem ((c.tc : Thread Cert.NormFfnBwdReferenceIdeal.nD Cert.NormFfnBwdReferenceIdeal.τ).loc Cert.NormFfnBwdReferenceIdeal.main_arg3) = m ((c.tc : Thread Cert.NormFfnBwdReferenceIdeal.nD Cert.NormFfnBwdReferenceIdeal.τ).loc Cert.NormFfnBwdReferenceIdeal.main_arg3))
      ∧ r.2.sem = fun _ => 0)

def quiescent_LossHead [hLossHead : Cert.LossHead.Facts] : Prop :=
  ∀ (m : (ℓ : Loc Cert.LossHead.nD Cert.LossHead.τ Cert.LossHead.sig) → Buf (Elt Bits) ℓ) (g : Dev Cert.LossHead.nD → PrngReg), Pre_LossHead m →
    θ_run (Cert.LossHead.defs (F := Bits)) (onTc (τ := Cert.LossHead.τ) (Cert.LossHead.main (F := Bits))) ⟨m, fun _ => 0, g⟩ (fun r => (∀ c : Dev Cert.LossHead.nD,
      r.2.mem ((c.tc : Thread Cert.LossHead.nD Cert.LossHead.τ).loc Cert.LossHead.main_arg0) = m ((c.tc : Thread Cert.LossHead.nD Cert.LossHead.τ).loc Cert.LossHead.main_arg0)
      ∧ r.2.mem ((c.tc : Thread Cert.LossHead.nD Cert.LossHead.τ).loc Cert.LossHead.main_arg1) = m ((c.tc : Thread Cert.LossHead.nD Cert.LossHead.τ).loc Cert.LossHead.main_arg1)
      ∧ r.2.mem ((c.tc : Thread Cert.LossHead.nD Cert.LossHead.τ).loc Cert.LossHead.main_arg2) = m ((c.tc : Thread Cert.LossHead.nD Cert.LossHead.τ).loc Cert.LossHead.main_arg2))
      ∧ r.2.sem = fun _ => 0)

def quiescent_LossHeadIdeal [hLossHeadIdeal : Cert.LossHeadIdeal.Facts] : Prop :=
  ∀ (m : (ℓ : Loc Cert.LossHeadIdeal.nD Cert.LossHeadIdeal.τ Cert.LossHeadIdeal.sig) → Buf (Elt Ideal) ℓ) (g : Dev Cert.LossHeadIdeal.nD → PrngReg), Pre_LossHeadIdeal m →
    θ_run (Cert.LossHeadIdeal.defs (F := Ideal)) (onTc (τ := Cert.LossHeadIdeal.τ) (Cert.LossHeadIdeal.main (F := Ideal))) ⟨m, fun _ => 0, g⟩ (fun r => (∀ c : Dev Cert.LossHeadIdeal.nD,
      r.2.mem ((c.tc : Thread Cert.LossHeadIdeal.nD Cert.LossHeadIdeal.τ).loc Cert.LossHeadIdeal.main_arg0) = m ((c.tc : Thread Cert.LossHeadIdeal.nD Cert.LossHeadIdeal.τ).loc Cert.LossHeadIdeal.main_arg0)
      ∧ r.2.mem ((c.tc : Thread Cert.LossHeadIdeal.nD Cert.LossHeadIdeal.τ).loc Cert.LossHeadIdeal.main_arg1) = m ((c.tc : Thread Cert.LossHeadIdeal.nD Cert.LossHeadIdeal.τ).loc Cert.LossHeadIdeal.main_arg1)
      ∧ r.2.mem ((c.tc : Thread Cert.LossHeadIdeal.nD Cert.LossHeadIdeal.τ).loc Cert.LossHeadIdeal.main_arg2) = m ((c.tc : Thread Cert.LossHeadIdeal.nD Cert.LossHeadIdeal.τ).loc Cert.LossHeadIdeal.main_arg2))
      ∧ r.2.sem = fun _ => 0)

def quiescent_LossHeadReferenceIdeal [hLossHeadReferenceIdeal : Cert.LossHeadReferenceIdeal.Facts] : Prop :=
  ∀ (m : (ℓ : Loc Cert.LossHeadReferenceIdeal.nD Cert.LossHeadReferenceIdeal.τ Cert.LossHeadReferenceIdeal.sig) → Buf (Elt Ideal) ℓ) (g : Dev Cert.LossHeadReferenceIdeal.nD → PrngReg), Pre_LossHeadReferenceIdeal m →
    θ_run (Cert.LossHeadReferenceIdeal.defs (F := Ideal)) (onTc (τ := Cert.LossHeadReferenceIdeal.τ) (Cert.LossHeadReferenceIdeal.main (F := Ideal))) ⟨m, fun _ => 0, g⟩ (fun r => (∀ c : Dev Cert.LossHeadReferenceIdeal.nD,
      r.2.mem ((c.tc : Thread Cert.LossHeadReferenceIdeal.nD Cert.LossHeadReferenceIdeal.τ).loc Cert.LossHeadReferenceIdeal.main_arg0) = m ((c.tc : Thread Cert.LossHeadReferenceIdeal.nD Cert.LossHeadReferenceIdeal.τ).loc Cert.LossHeadReferenceIdeal.main_arg0)
      ∧ r.2.mem ((c.tc : Thread Cert.LossHeadReferenceIdeal.nD Cert.LossHeadReferenceIdeal.τ).loc Cert.LossHeadReferenceIdeal.main_arg1) = m ((c.tc : Thread Cert.LossHeadReferenceIdeal.nD Cert.LossHeadReferenceIdeal.τ).loc Cert.LossHeadReferenceIdeal.main_arg1)
      ∧ r.2.mem ((c.tc : Thread Cert.LossHeadReferenceIdeal.nD Cert.LossHeadReferenceIdeal.τ).loc Cert.LossHeadReferenceIdeal.main_arg2) = m ((c.tc : Thread Cert.LossHeadReferenceIdeal.nD Cert.LossHeadReferenceIdeal.τ).loc Cert.LossHeadReferenceIdeal.main_arg2))
      ∧ r.2.sem = fun _ => 0)

def quiescent_NormFfn [hNormFfn : Cert.NormFfn.Facts] : Prop :=
  ∀ (m : (ℓ : Loc Cert.NormFfn.nD Cert.NormFfn.τ Cert.NormFfn.sig) → Buf (Elt Bits) ℓ) (g : Dev Cert.NormFfn.nD → PrngReg), Pre_NormFfn m →
    θ_run (Cert.NormFfn.defs (F := Bits)) (onTc (τ := Cert.NormFfn.τ) (Cert.NormFfn.main (F := Bits))) ⟨m, fun _ => 0, g⟩ (fun r => (∀ c : Dev Cert.NormFfn.nD,
      r.2.mem ((c.tc : Thread Cert.NormFfn.nD Cert.NormFfn.τ).loc Cert.NormFfn.main_arg0) = m ((c.tc : Thread Cert.NormFfn.nD Cert.NormFfn.τ).loc Cert.NormFfn.main_arg0)
      ∧ r.2.mem ((c.tc : Thread Cert.NormFfn.nD Cert.NormFfn.τ).loc Cert.NormFfn.main_arg1) = m ((c.tc : Thread Cert.NormFfn.nD Cert.NormFfn.τ).loc Cert.NormFfn.main_arg1))
      ∧ r.2.sem = fun _ => 0)

def quiescent_NormFfnIdeal [hNormFfnIdeal : Cert.NormFfnIdeal.Facts] : Prop :=
  ∀ (m : (ℓ : Loc Cert.NormFfnIdeal.nD Cert.NormFfnIdeal.τ Cert.NormFfnIdeal.sig) → Buf (Elt Ideal) ℓ) (g : Dev Cert.NormFfnIdeal.nD → PrngReg), Pre_NormFfnIdeal m →
    θ_run (Cert.NormFfnIdeal.defs (F := Ideal)) (onTc (τ := Cert.NormFfnIdeal.τ) (Cert.NormFfnIdeal.main (F := Ideal))) ⟨m, fun _ => 0, g⟩ (fun r => (∀ c : Dev Cert.NormFfnIdeal.nD,
      r.2.mem ((c.tc : Thread Cert.NormFfnIdeal.nD Cert.NormFfnIdeal.τ).loc Cert.NormFfnIdeal.main_arg0) = m ((c.tc : Thread Cert.NormFfnIdeal.nD Cert.NormFfnIdeal.τ).loc Cert.NormFfnIdeal.main_arg0)
      ∧ r.2.mem ((c.tc : Thread Cert.NormFfnIdeal.nD Cert.NormFfnIdeal.τ).loc Cert.NormFfnIdeal.main_arg1) = m ((c.tc : Thread Cert.NormFfnIdeal.nD Cert.NormFfnIdeal.τ).loc Cert.NormFfnIdeal.main_arg1))
      ∧ r.2.sem = fun _ => 0)

def quiescent_NormFfnReferenceIdeal [hNormFfnReferenceIdeal : Cert.NormFfnReferenceIdeal.Facts] : Prop :=
  ∀ (m : (ℓ : Loc Cert.NormFfnReferenceIdeal.nD Cert.NormFfnReferenceIdeal.τ Cert.NormFfnReferenceIdeal.sig) → Buf (Elt Ideal) ℓ) (g : Dev Cert.NormFfnReferenceIdeal.nD → PrngReg), Pre_NormFfnReferenceIdeal m →
    θ_run (Cert.NormFfnReferenceIdeal.defs (F := Ideal)) (onTc (τ := Cert.NormFfnReferenceIdeal.τ) (Cert.NormFfnReferenceIdeal.main (F := Ideal))) ⟨m, fun _ => 0, g⟩ (fun r => (∀ c : Dev Cert.NormFfnReferenceIdeal.nD,
      r.2.mem ((c.tc : Thread Cert.NormFfnReferenceIdeal.nD Cert.NormFfnReferenceIdeal.τ).loc Cert.NormFfnReferenceIdeal.main_arg0) = m ((c.tc : Thread Cert.NormFfnReferenceIdeal.nD Cert.NormFfnReferenceIdeal.τ).loc Cert.NormFfnReferenceIdeal.main_arg0)
      ∧ r.2.mem ((c.tc : Thread Cert.NormFfnReferenceIdeal.nD Cert.NormFfnReferenceIdeal.τ).loc Cert.NormFfnReferenceIdeal.main_arg1) = m ((c.tc : Thread Cert.NormFfnReferenceIdeal.nD Cert.NormFfnReferenceIdeal.τ).loc Cert.NormFfnReferenceIdeal.main_arg1))
      ∧ r.2.sem = fun _ => 0)

def quiescent_GateDw [hGateDw : Cert.GateDw.Facts] : Prop :=
  ∀ (m : (ℓ : Loc Cert.GateDw.nD Cert.GateDw.τ Cert.GateDw.sig) → Buf (Elt Bits) ℓ) (g : Dev Cert.GateDw.nD → PrngReg), Pre_GateDw m →
    θ_run (Cert.GateDw.defs (F := Bits)) (onTc (τ := Cert.GateDw.τ) (Cert.GateDw.main (F := Bits))) ⟨m, fun _ => 0, g⟩ (fun r => (∀ c : Dev Cert.GateDw.nD,
      r.2.mem ((c.tc : Thread Cert.GateDw.nD Cert.GateDw.τ).loc Cert.GateDw.main_arg0) = m ((c.tc : Thread Cert.GateDw.nD Cert.GateDw.τ).loc Cert.GateDw.main_arg0)
      ∧ r.2.mem ((c.tc : Thread Cert.GateDw.nD Cert.GateDw.τ).loc Cert.GateDw.main_arg1) = m ((c.tc : Thread Cert.GateDw.nD Cert.GateDw.τ).loc Cert.GateDw.main_arg1))
      ∧ r.2.sem = fun _ => 0)

def quiescent_GateDwIdeal [hGateDwIdeal : Cert.GateDwIdeal.Facts] : Prop :=
  ∀ (m : (ℓ : Loc Cert.GateDwIdeal.nD Cert.GateDwIdeal.τ Cert.GateDwIdeal.sig) → Buf (Elt Ideal) ℓ) (g : Dev Cert.GateDwIdeal.nD → PrngReg), Pre_GateDwIdeal m →
    θ_run (Cert.GateDwIdeal.defs (F := Ideal)) (onTc (τ := Cert.GateDwIdeal.τ) (Cert.GateDwIdeal.main (F := Ideal))) ⟨m, fun _ => 0, g⟩ (fun r => (∀ c : Dev Cert.GateDwIdeal.nD,
      r.2.mem ((c.tc : Thread Cert.GateDwIdeal.nD Cert.GateDwIdeal.τ).loc Cert.GateDwIdeal.main_arg0) = m ((c.tc : Thread Cert.GateDwIdeal.nD Cert.GateDwIdeal.τ).loc Cert.GateDwIdeal.main_arg0)
      ∧ r.2.mem ((c.tc : Thread Cert.GateDwIdeal.nD Cert.GateDwIdeal.τ).loc Cert.GateDwIdeal.main_arg1) = m ((c.tc : Thread Cert.GateDwIdeal.nD Cert.GateDwIdeal.τ).loc Cert.GateDwIdeal.main_arg1))
      ∧ r.2.sem = fun _ => 0)

def quiescent_GateDwReferenceIdeal [hGateDwReferenceIdeal : Cert.GateDwReferenceIdeal.Facts] : Prop :=
  ∀ (m : (ℓ : Loc Cert.GateDwReferenceIdeal.nD Cert.GateDwReferenceIdeal.τ Cert.GateDwReferenceIdeal.sig) → Buf (Elt Ideal) ℓ) (g : Dev Cert.GateDwReferenceIdeal.nD → PrngReg), Pre_GateDwReferenceIdeal m →
    θ_run (Cert.GateDwReferenceIdeal.defs (F := Ideal)) (onTc (τ := Cert.GateDwReferenceIdeal.τ) (Cert.GateDwReferenceIdeal.main (F := Ideal))) ⟨m, fun _ => 0, g⟩ (fun r => (∀ c : Dev Cert.GateDwReferenceIdeal.nD,
      r.2.mem ((c.tc : Thread Cert.GateDwReferenceIdeal.nD Cert.GateDwReferenceIdeal.τ).loc Cert.GateDwReferenceIdeal.main_arg0) = m ((c.tc : Thread Cert.GateDwReferenceIdeal.nD Cert.GateDwReferenceIdeal.τ).loc Cert.GateDwReferenceIdeal.main_arg0)
      ∧ r.2.mem ((c.tc : Thread Cert.GateDwReferenceIdeal.nD Cert.GateDwReferenceIdeal.τ).loc Cert.GateDwReferenceIdeal.main_arg1) = m ((c.tc : Thread Cert.GateDwReferenceIdeal.nD Cert.GateDwReferenceIdeal.τ).loc Cert.GateDwReferenceIdeal.main_arg1))
      ∧ r.2.sem = fun _ => 0)

def quiescent_GateDlhs [hGateDlhs : Cert.GateDlhs.Facts] : Prop :=
  ∀ (m : (ℓ : Loc Cert.GateDlhs.nD Cert.GateDlhs.τ Cert.GateDlhs.sig) → Buf (Elt Bits) ℓ) (g : Dev Cert.GateDlhs.nD → PrngReg), Pre_GateDlhs m →
    θ_run (Cert.GateDlhs.defs (F := Bits)) (onTc (τ := Cert.GateDlhs.τ) (Cert.GateDlhs.main (F := Bits))) ⟨m, fun _ => 0, g⟩ (fun r => (∀ c : Dev Cert.GateDlhs.nD,
      r.2.mem ((c.tc : Thread Cert.GateDlhs.nD Cert.GateDlhs.τ).loc Cert.GateDlhs.main_arg0) = m ((c.tc : Thread Cert.GateDlhs.nD Cert.GateDlhs.τ).loc Cert.GateDlhs.main_arg0)
      ∧ r.2.mem ((c.tc : Thread Cert.GateDlhs.nD Cert.GateDlhs.τ).loc Cert.GateDlhs.main_arg1) = m ((c.tc : Thread Cert.GateDlhs.nD Cert.GateDlhs.τ).loc Cert.GateDlhs.main_arg1))
      ∧ r.2.sem = fun _ => 0)

def quiescent_GateDlhsIdeal [hGateDlhsIdeal : Cert.GateDlhsIdeal.Facts] : Prop :=
  ∀ (m : (ℓ : Loc Cert.GateDlhsIdeal.nD Cert.GateDlhsIdeal.τ Cert.GateDlhsIdeal.sig) → Buf (Elt Ideal) ℓ) (g : Dev Cert.GateDlhsIdeal.nD → PrngReg), Pre_GateDlhsIdeal m →
    θ_run (Cert.GateDlhsIdeal.defs (F := Ideal)) (onTc (τ := Cert.GateDlhsIdeal.τ) (Cert.GateDlhsIdeal.main (F := Ideal))) ⟨m, fun _ => 0, g⟩ (fun r => (∀ c : Dev Cert.GateDlhsIdeal.nD,
      r.2.mem ((c.tc : Thread Cert.GateDlhsIdeal.nD Cert.GateDlhsIdeal.τ).loc Cert.GateDlhsIdeal.main_arg0) = m ((c.tc : Thread Cert.GateDlhsIdeal.nD Cert.GateDlhsIdeal.τ).loc Cert.GateDlhsIdeal.main_arg0)
      ∧ r.2.mem ((c.tc : Thread Cert.GateDlhsIdeal.nD Cert.GateDlhsIdeal.τ).loc Cert.GateDlhsIdeal.main_arg1) = m ((c.tc : Thread Cert.GateDlhsIdeal.nD Cert.GateDlhsIdeal.τ).loc Cert.GateDlhsIdeal.main_arg1))
      ∧ r.2.sem = fun _ => 0)

def quiescent_GateDlhsReferenceIdeal [hGateDlhsReferenceIdeal : Cert.GateDlhsReferenceIdeal.Facts] : Prop :=
  ∀ (m : (ℓ : Loc Cert.GateDlhsReferenceIdeal.nD Cert.GateDlhsReferenceIdeal.τ Cert.GateDlhsReferenceIdeal.sig) → Buf (Elt Ideal) ℓ) (g : Dev Cert.GateDlhsReferenceIdeal.nD → PrngReg), Pre_GateDlhsReferenceIdeal m →
    θ_run (Cert.GateDlhsReferenceIdeal.defs (F := Ideal)) (onTc (τ := Cert.GateDlhsReferenceIdeal.τ) (Cert.GateDlhsReferenceIdeal.main (F := Ideal))) ⟨m, fun _ => 0, g⟩ (fun r => (∀ c : Dev Cert.GateDlhsReferenceIdeal.nD,
      r.2.mem ((c.tc : Thread Cert.GateDlhsReferenceIdeal.nD Cert.GateDlhsReferenceIdeal.τ).loc Cert.GateDlhsReferenceIdeal.main_arg0) = m ((c.tc : Thread Cert.GateDlhsReferenceIdeal.nD Cert.GateDlhsReferenceIdeal.τ).loc Cert.GateDlhsReferenceIdeal.main_arg0)
      ∧ r.2.mem ((c.tc : Thread Cert.GateDlhsReferenceIdeal.nD Cert.GateDlhsReferenceIdeal.τ).loc Cert.GateDlhsReferenceIdeal.main_arg1) = m ((c.tc : Thread Cert.GateDlhsReferenceIdeal.nD Cert.GateDlhsReferenceIdeal.τ).loc Cert.GateDlhsReferenceIdeal.main_arg1))
      ∧ r.2.sem = fun _ => 0)

def quiescent_AdamwEarly [hAdamwEarly : Cert.AdamwEarly.Facts] : Prop :=
  ∀ (m : (ℓ : Loc Cert.AdamwEarly.nD Cert.AdamwEarly.τ Cert.AdamwEarly.sig) → Buf (Elt Bits) ℓ) (g : Dev Cert.AdamwEarly.nD → PrngReg), Pre_AdamwEarly m →
    θ_run (Cert.AdamwEarly.defs (F := Bits)) (onTc (τ := Cert.AdamwEarly.τ) (Cert.AdamwEarly.main (F := Bits))) ⟨m, fun _ => 0, g⟩ (fun r => (∀ c : Dev Cert.AdamwEarly.nD,
      r.2.mem ((c.tc : Thread Cert.AdamwEarly.nD Cert.AdamwEarly.τ).loc Cert.AdamwEarly.main_arg0) = m ((c.tc : Thread Cert.AdamwEarly.nD Cert.AdamwEarly.τ).loc Cert.AdamwEarly.main_arg0)
      ∧ r.2.mem ((c.tc : Thread Cert.AdamwEarly.nD Cert.AdamwEarly.τ).loc Cert.AdamwEarly.main_arg1) = m ((c.tc : Thread Cert.AdamwEarly.nD Cert.AdamwEarly.τ).loc Cert.AdamwEarly.main_arg1)
      ∧ r.2.mem ((c.tc : Thread Cert.AdamwEarly.nD Cert.AdamwEarly.τ).loc Cert.AdamwEarly.main_arg2) = m ((c.tc : Thread Cert.AdamwEarly.nD Cert.AdamwEarly.τ).loc Cert.AdamwEarly.main_arg2)
      ∧ r.2.mem ((c.tc : Thread Cert.AdamwEarly.nD Cert.AdamwEarly.τ).loc Cert.AdamwEarly.main_arg3) = m ((c.tc : Thread Cert.AdamwEarly.nD Cert.AdamwEarly.τ).loc Cert.AdamwEarly.main_arg3)
      ∧ r.2.mem ((c.tc : Thread Cert.AdamwEarly.nD Cert.AdamwEarly.τ).loc Cert.AdamwEarly.main_arg4) = m ((c.tc : Thread Cert.AdamwEarly.nD Cert.AdamwEarly.τ).loc Cert.AdamwEarly.main_arg4)
      ∧ r.2.mem ((c.tc : Thread Cert.AdamwEarly.nD Cert.AdamwEarly.τ).loc Cert.AdamwEarly.main_arg5) = m ((c.tc : Thread Cert.AdamwEarly.nD Cert.AdamwEarly.τ).loc Cert.AdamwEarly.main_arg5))
      ∧ r.2.sem = fun _ => 0)

def quiescent_AdamwEarlyIdeal [hAdamwEarlyIdeal : Cert.AdamwEarlyIdeal.Facts] : Prop :=
  ∀ (m : (ℓ : Loc Cert.AdamwEarlyIdeal.nD Cert.AdamwEarlyIdeal.τ Cert.AdamwEarlyIdeal.sig) → Buf (Elt Ideal) ℓ) (g : Dev Cert.AdamwEarlyIdeal.nD → PrngReg), Pre_AdamwEarlyIdeal m →
    θ_run (Cert.AdamwEarlyIdeal.defs (F := Ideal)) (onTc (τ := Cert.AdamwEarlyIdeal.τ) (Cert.AdamwEarlyIdeal.main (F := Ideal))) ⟨m, fun _ => 0, g⟩ (fun r => (∀ c : Dev Cert.AdamwEarlyIdeal.nD,
      r.2.mem ((c.tc : Thread Cert.AdamwEarlyIdeal.nD Cert.AdamwEarlyIdeal.τ).loc Cert.AdamwEarlyIdeal.main_arg0) = m ((c.tc : Thread Cert.AdamwEarlyIdeal.nD Cert.AdamwEarlyIdeal.τ).loc Cert.AdamwEarlyIdeal.main_arg0)
      ∧ r.2.mem ((c.tc : Thread Cert.AdamwEarlyIdeal.nD Cert.AdamwEarlyIdeal.τ).loc Cert.AdamwEarlyIdeal.main_arg1) = m ((c.tc : Thread Cert.AdamwEarlyIdeal.nD Cert.AdamwEarlyIdeal.τ).loc Cert.AdamwEarlyIdeal.main_arg1)
      ∧ r.2.mem ((c.tc : Thread Cert.AdamwEarlyIdeal.nD Cert.AdamwEarlyIdeal.τ).loc Cert.AdamwEarlyIdeal.main_arg2) = m ((c.tc : Thread Cert.AdamwEarlyIdeal.nD Cert.AdamwEarlyIdeal.τ).loc Cert.AdamwEarlyIdeal.main_arg2)
      ∧ r.2.mem ((c.tc : Thread Cert.AdamwEarlyIdeal.nD Cert.AdamwEarlyIdeal.τ).loc Cert.AdamwEarlyIdeal.main_arg3) = m ((c.tc : Thread Cert.AdamwEarlyIdeal.nD Cert.AdamwEarlyIdeal.τ).loc Cert.AdamwEarlyIdeal.main_arg3)
      ∧ r.2.mem ((c.tc : Thread Cert.AdamwEarlyIdeal.nD Cert.AdamwEarlyIdeal.τ).loc Cert.AdamwEarlyIdeal.main_arg4) = m ((c.tc : Thread Cert.AdamwEarlyIdeal.nD Cert.AdamwEarlyIdeal.τ).loc Cert.AdamwEarlyIdeal.main_arg4)
      ∧ r.2.mem ((c.tc : Thread Cert.AdamwEarlyIdeal.nD Cert.AdamwEarlyIdeal.τ).loc Cert.AdamwEarlyIdeal.main_arg5) = m ((c.tc : Thread Cert.AdamwEarlyIdeal.nD Cert.AdamwEarlyIdeal.τ).loc Cert.AdamwEarlyIdeal.main_arg5))
      ∧ r.2.sem = fun _ => 0)

def quiescent_AdamwEarlyReferenceIdeal [hAdamwEarlyReferenceIdeal : Cert.AdamwEarlyReferenceIdeal.Facts] : Prop :=
  ∀ (m : (ℓ : Loc Cert.AdamwEarlyReferenceIdeal.nD Cert.AdamwEarlyReferenceIdeal.τ Cert.AdamwEarlyReferenceIdeal.sig) → Buf (Elt Ideal) ℓ) (g : Dev Cert.AdamwEarlyReferenceIdeal.nD → PrngReg), Pre_AdamwEarlyReferenceIdeal m →
    θ_run (Cert.AdamwEarlyReferenceIdeal.defs (F := Ideal)) (onTc (τ := Cert.AdamwEarlyReferenceIdeal.τ) (Cert.AdamwEarlyReferenceIdeal.main (F := Ideal))) ⟨m, fun _ => 0, g⟩ (fun r => (∀ c : Dev Cert.AdamwEarlyReferenceIdeal.nD,
      r.2.mem ((c.tc : Thread Cert.AdamwEarlyReferenceIdeal.nD Cert.AdamwEarlyReferenceIdeal.τ).loc Cert.AdamwEarlyReferenceIdeal.main_arg0) = m ((c.tc : Thread Cert.AdamwEarlyReferenceIdeal.nD Cert.AdamwEarlyReferenceIdeal.τ).loc Cert.AdamwEarlyReferenceIdeal.main_arg0)
      ∧ r.2.mem ((c.tc : Thread Cert.AdamwEarlyReferenceIdeal.nD Cert.AdamwEarlyReferenceIdeal.τ).loc Cert.AdamwEarlyReferenceIdeal.main_arg1) = m ((c.tc : Thread Cert.AdamwEarlyReferenceIdeal.nD Cert.AdamwEarlyReferenceIdeal.τ).loc Cert.AdamwEarlyReferenceIdeal.main_arg1)
      ∧ r.2.mem ((c.tc : Thread Cert.AdamwEarlyReferenceIdeal.nD Cert.AdamwEarlyReferenceIdeal.τ).loc Cert.AdamwEarlyReferenceIdeal.main_arg2) = m ((c.tc : Thread Cert.AdamwEarlyReferenceIdeal.nD Cert.AdamwEarlyReferenceIdeal.τ).loc Cert.AdamwEarlyReferenceIdeal.main_arg2)
      ∧ r.2.mem ((c.tc : Thread Cert.AdamwEarlyReferenceIdeal.nD Cert.AdamwEarlyReferenceIdeal.τ).loc Cert.AdamwEarlyReferenceIdeal.main_arg3) = m ((c.tc : Thread Cert.AdamwEarlyReferenceIdeal.nD Cert.AdamwEarlyReferenceIdeal.τ).loc Cert.AdamwEarlyReferenceIdeal.main_arg3)
      ∧ r.2.mem ((c.tc : Thread Cert.AdamwEarlyReferenceIdeal.nD Cert.AdamwEarlyReferenceIdeal.τ).loc Cert.AdamwEarlyReferenceIdeal.main_arg4) = m ((c.tc : Thread Cert.AdamwEarlyReferenceIdeal.nD Cert.AdamwEarlyReferenceIdeal.τ).loc Cert.AdamwEarlyReferenceIdeal.main_arg4)
      ∧ r.2.mem ((c.tc : Thread Cert.AdamwEarlyReferenceIdeal.nD Cert.AdamwEarlyReferenceIdeal.τ).loc Cert.AdamwEarlyReferenceIdeal.main_arg5) = m ((c.tc : Thread Cert.AdamwEarlyReferenceIdeal.nD Cert.AdamwEarlyReferenceIdeal.τ).loc Cert.AdamwEarlyReferenceIdeal.main_arg5))
      ∧ r.2.sem = fun _ => 0)

def quiescent_AdamwLate [hAdamwLate : Cert.AdamwLate.Facts] : Prop :=
  ∀ (m : (ℓ : Loc Cert.AdamwLate.nD Cert.AdamwLate.τ Cert.AdamwLate.sig) → Buf (Elt Bits) ℓ) (g : Dev Cert.AdamwLate.nD → PrngReg), Pre_AdamwLate m →
    θ_run (Cert.AdamwLate.defs (F := Bits)) (onTc (τ := Cert.AdamwLate.τ) (Cert.AdamwLate.main (F := Bits))) ⟨m, fun _ => 0, g⟩ (fun r => (∀ c : Dev Cert.AdamwLate.nD,
      r.2.mem ((c.tc : Thread Cert.AdamwLate.nD Cert.AdamwLate.τ).loc Cert.AdamwLate.main_arg0) = m ((c.tc : Thread Cert.AdamwLate.nD Cert.AdamwLate.τ).loc Cert.AdamwLate.main_arg0)
      ∧ r.2.mem ((c.tc : Thread Cert.AdamwLate.nD Cert.AdamwLate.τ).loc Cert.AdamwLate.main_arg1) = m ((c.tc : Thread Cert.AdamwLate.nD Cert.AdamwLate.τ).loc Cert.AdamwLate.main_arg1)
      ∧ r.2.mem ((c.tc : Thread Cert.AdamwLate.nD Cert.AdamwLate.τ).loc Cert.AdamwLate.main_arg2) = m ((c.tc : Thread Cert.AdamwLate.nD Cert.AdamwLate.τ).loc Cert.AdamwLate.main_arg2)
      ∧ r.2.mem ((c.tc : Thread Cert.AdamwLate.nD Cert.AdamwLate.τ).loc Cert.AdamwLate.main_arg3) = m ((c.tc : Thread Cert.AdamwLate.nD Cert.AdamwLate.τ).loc Cert.AdamwLate.main_arg3)
      ∧ r.2.mem ((c.tc : Thread Cert.AdamwLate.nD Cert.AdamwLate.τ).loc Cert.AdamwLate.main_arg4) = m ((c.tc : Thread Cert.AdamwLate.nD Cert.AdamwLate.τ).loc Cert.AdamwLate.main_arg4)
      ∧ r.2.mem ((c.tc : Thread Cert.AdamwLate.nD Cert.AdamwLate.τ).loc Cert.AdamwLate.main_arg5) = m ((c.tc : Thread Cert.AdamwLate.nD Cert.AdamwLate.τ).loc Cert.AdamwLate.main_arg5))
      ∧ r.2.sem = fun _ => 0)

def quiescent_AdamwLateIdeal [hAdamwLateIdeal : Cert.AdamwLateIdeal.Facts] : Prop :=
  ∀ (m : (ℓ : Loc Cert.AdamwLateIdeal.nD Cert.AdamwLateIdeal.τ Cert.AdamwLateIdeal.sig) → Buf (Elt Ideal) ℓ) (g : Dev Cert.AdamwLateIdeal.nD → PrngReg), Pre_AdamwLateIdeal m →
    θ_run (Cert.AdamwLateIdeal.defs (F := Ideal)) (onTc (τ := Cert.AdamwLateIdeal.τ) (Cert.AdamwLateIdeal.main (F := Ideal))) ⟨m, fun _ => 0, g⟩ (fun r => (∀ c : Dev Cert.AdamwLateIdeal.nD,
      r.2.mem ((c.tc : Thread Cert.AdamwLateIdeal.nD Cert.AdamwLateIdeal.τ).loc Cert.AdamwLateIdeal.main_arg0) = m ((c.tc : Thread Cert.AdamwLateIdeal.nD Cert.AdamwLateIdeal.τ).loc Cert.AdamwLateIdeal.main_arg0)
      ∧ r.2.mem ((c.tc : Thread Cert.AdamwLateIdeal.nD Cert.AdamwLateIdeal.τ).loc Cert.AdamwLateIdeal.main_arg1) = m ((c.tc : Thread Cert.AdamwLateIdeal.nD Cert.AdamwLateIdeal.τ).loc Cert.AdamwLateIdeal.main_arg1)
      ∧ r.2.mem ((c.tc : Thread Cert.AdamwLateIdeal.nD Cert.AdamwLateIdeal.τ).loc Cert.AdamwLateIdeal.main_arg2) = m ((c.tc : Thread Cert.AdamwLateIdeal.nD Cert.AdamwLateIdeal.τ).loc Cert.AdamwLateIdeal.main_arg2)
      ∧ r.2.mem ((c.tc : Thread Cert.AdamwLateIdeal.nD Cert.AdamwLateIdeal.τ).loc Cert.AdamwLateIdeal.main_arg3) = m ((c.tc : Thread Cert.AdamwLateIdeal.nD Cert.AdamwLateIdeal.τ).loc Cert.AdamwLateIdeal.main_arg3)
      ∧ r.2.mem ((c.tc : Thread Cert.AdamwLateIdeal.nD Cert.AdamwLateIdeal.τ).loc Cert.AdamwLateIdeal.main_arg4) = m ((c.tc : Thread Cert.AdamwLateIdeal.nD Cert.AdamwLateIdeal.τ).loc Cert.AdamwLateIdeal.main_arg4)
      ∧ r.2.mem ((c.tc : Thread Cert.AdamwLateIdeal.nD Cert.AdamwLateIdeal.τ).loc Cert.AdamwLateIdeal.main_arg5) = m ((c.tc : Thread Cert.AdamwLateIdeal.nD Cert.AdamwLateIdeal.τ).loc Cert.AdamwLateIdeal.main_arg5))
      ∧ r.2.sem = fun _ => 0)

def quiescent_AdamwLateReferenceIdeal [hAdamwLateReferenceIdeal : Cert.AdamwLateReferenceIdeal.Facts] : Prop :=
  ∀ (m : (ℓ : Loc Cert.AdamwLateReferenceIdeal.nD Cert.AdamwLateReferenceIdeal.τ Cert.AdamwLateReferenceIdeal.sig) → Buf (Elt Ideal) ℓ) (g : Dev Cert.AdamwLateReferenceIdeal.nD → PrngReg), Pre_AdamwLateReferenceIdeal m →
    θ_run (Cert.AdamwLateReferenceIdeal.defs (F := Ideal)) (onTc (τ := Cert.AdamwLateReferenceIdeal.τ) (Cert.AdamwLateReferenceIdeal.main (F := Ideal))) ⟨m, fun _ => 0, g⟩ (fun r => (∀ c : Dev Cert.AdamwLateReferenceIdeal.nD,
      r.2.mem ((c.tc : Thread Cert.AdamwLateReferenceIdeal.nD Cert.AdamwLateReferenceIdeal.τ).loc Cert.AdamwLateReferenceIdeal.main_arg0) = m ((c.tc : Thread Cert.AdamwLateReferenceIdeal.nD Cert.AdamwLateReferenceIdeal.τ).loc Cert.AdamwLateReferenceIdeal.main_arg0)
      ∧ r.2.mem ((c.tc : Thread Cert.AdamwLateReferenceIdeal.nD Cert.AdamwLateReferenceIdeal.τ).loc Cert.AdamwLateReferenceIdeal.main_arg1) = m ((c.tc : Thread Cert.AdamwLateReferenceIdeal.nD Cert.AdamwLateReferenceIdeal.τ).loc Cert.AdamwLateReferenceIdeal.main_arg1)
      ∧ r.2.mem ((c.tc : Thread Cert.AdamwLateReferenceIdeal.nD Cert.AdamwLateReferenceIdeal.τ).loc Cert.AdamwLateReferenceIdeal.main_arg2) = m ((c.tc : Thread Cert.AdamwLateReferenceIdeal.nD Cert.AdamwLateReferenceIdeal.τ).loc Cert.AdamwLateReferenceIdeal.main_arg2)
      ∧ r.2.mem ((c.tc : Thread Cert.AdamwLateReferenceIdeal.nD Cert.AdamwLateReferenceIdeal.τ).loc Cert.AdamwLateReferenceIdeal.main_arg3) = m ((c.tc : Thread Cert.AdamwLateReferenceIdeal.nD Cert.AdamwLateReferenceIdeal.τ).loc Cert.AdamwLateReferenceIdeal.main_arg3)
      ∧ r.2.mem ((c.tc : Thread Cert.AdamwLateReferenceIdeal.nD Cert.AdamwLateReferenceIdeal.τ).loc Cert.AdamwLateReferenceIdeal.main_arg4) = m ((c.tc : Thread Cert.AdamwLateReferenceIdeal.nD Cert.AdamwLateReferenceIdeal.τ).loc Cert.AdamwLateReferenceIdeal.main_arg4)
      ∧ r.2.mem ((c.tc : Thread Cert.AdamwLateReferenceIdeal.nD Cert.AdamwLateReferenceIdeal.τ).loc Cert.AdamwLateReferenceIdeal.main_arg5) = m ((c.tc : Thread Cert.AdamwLateReferenceIdeal.nD Cert.AdamwLateReferenceIdeal.τ).loc Cert.AdamwLateReferenceIdeal.main_arg5))
      ∧ r.2.sem = fun _ => 0)

def quiescent_ForgetBwd [hForgetBwd : Cert.ForgetBwd.Facts] : Prop :=
  ∀ (m : (ℓ : Loc Cert.ForgetBwd.nD Cert.ForgetBwd.τ Cert.ForgetBwd.sig) → Buf (Elt Bits) ℓ) (g : Dev Cert.ForgetBwd.nD → PrngReg), Pre_ForgetBwd m →
    θ_run (Cert.ForgetBwd.defs (F := Bits)) (onTc (τ := Cert.ForgetBwd.τ) (Cert.ForgetBwd.main (F := Bits))) ⟨m, fun _ => 0, g⟩ (fun r => (∀ c : Dev Cert.ForgetBwd.nD,
      r.2.mem ((c.tc : Thread Cert.ForgetBwd.nD Cert.ForgetBwd.τ).loc Cert.ForgetBwd.main_arg0) = m ((c.tc : Thread Cert.ForgetBwd.nD Cert.ForgetBwd.τ).loc Cert.ForgetBwd.main_arg0)
      ∧ r.2.mem ((c.tc : Thread Cert.ForgetBwd.nD Cert.ForgetBwd.τ).loc Cert.ForgetBwd.main_arg1) = m ((c.tc : Thread Cert.ForgetBwd.nD Cert.ForgetBwd.τ).loc Cert.ForgetBwd.main_arg1))
      ∧ r.2.sem = fun _ => 0)

def quiescent_ForgetBwdIdeal [hForgetBwdIdeal : Cert.ForgetBwdIdeal.Facts] : Prop :=
  ∀ (m : (ℓ : Loc Cert.ForgetBwdIdeal.nD Cert.ForgetBwdIdeal.τ Cert.ForgetBwdIdeal.sig) → Buf (Elt Ideal) ℓ) (g : Dev Cert.ForgetBwdIdeal.nD → PrngReg), Pre_ForgetBwdIdeal m →
    θ_run (Cert.ForgetBwdIdeal.defs (F := Ideal)) (onTc (τ := Cert.ForgetBwdIdeal.τ) (Cert.ForgetBwdIdeal.main (F := Ideal))) ⟨m, fun _ => 0, g⟩ (fun r => (∀ c : Dev Cert.ForgetBwdIdeal.nD,
      r.2.mem ((c.tc : Thread Cert.ForgetBwdIdeal.nD Cert.ForgetBwdIdeal.τ).loc Cert.ForgetBwdIdeal.main_arg0) = m ((c.tc : Thread Cert.ForgetBwdIdeal.nD Cert.ForgetBwdIdeal.τ).loc Cert.ForgetBwdIdeal.main_arg0)
      ∧ r.2.mem ((c.tc : Thread Cert.ForgetBwdIdeal.nD Cert.ForgetBwdIdeal.τ).loc Cert.ForgetBwdIdeal.main_arg1) = m ((c.tc : Thread Cert.ForgetBwdIdeal.nD Cert.ForgetBwdIdeal.τ).loc Cert.ForgetBwdIdeal.main_arg1))
      ∧ r.2.sem = fun _ => 0)

def quiescent_ForgetBwdReferenceIdeal [hForgetBwdReferenceIdeal : Cert.ForgetBwdReferenceIdeal.Facts] : Prop :=
  ∀ (m : (ℓ : Loc Cert.ForgetBwdReferenceIdeal.nD Cert.ForgetBwdReferenceIdeal.τ Cert.ForgetBwdReferenceIdeal.sig) → Buf (Elt Ideal) ℓ) (g : Dev Cert.ForgetBwdReferenceIdeal.nD → PrngReg), Pre_ForgetBwdReferenceIdeal m →
    θ_run (Cert.ForgetBwdReferenceIdeal.defs (F := Ideal)) (onTc (τ := Cert.ForgetBwdReferenceIdeal.τ) (Cert.ForgetBwdReferenceIdeal.main (F := Ideal))) ⟨m, fun _ => 0, g⟩ (fun r => (∀ c : Dev Cert.ForgetBwdReferenceIdeal.nD,
      r.2.mem ((c.tc : Thread Cert.ForgetBwdReferenceIdeal.nD Cert.ForgetBwdReferenceIdeal.τ).loc Cert.ForgetBwdReferenceIdeal.main_arg0) = m ((c.tc : Thread Cert.ForgetBwdReferenceIdeal.nD Cert.ForgetBwdReferenceIdeal.τ).loc Cert.ForgetBwdReferenceIdeal.main_arg0)
      ∧ r.2.mem ((c.tc : Thread Cert.ForgetBwdReferenceIdeal.nD Cert.ForgetBwdReferenceIdeal.τ).loc Cert.ForgetBwdReferenceIdeal.main_arg1) = m ((c.tc : Thread Cert.ForgetBwdReferenceIdeal.nD Cert.ForgetBwdReferenceIdeal.τ).loc Cert.ForgetBwdReferenceIdeal.main_arg1))
      ∧ r.2.sem = fun _ => 0)

def quiescent_ForgetFwd [hForgetFwd : Cert.ForgetFwd.Facts] : Prop :=
  ∀ (m : (ℓ : Loc Cert.ForgetFwd.nD Cert.ForgetFwd.τ Cert.ForgetFwd.sig) → Buf (Elt Bits) ℓ) (g : Dev Cert.ForgetFwd.nD → PrngReg), Pre_ForgetFwd m →
    θ_run (Cert.ForgetFwd.defs (F := Bits)) (onTc (τ := Cert.ForgetFwd.τ) (Cert.ForgetFwd.main (F := Bits))) ⟨m, fun _ => 0, g⟩ (fun r => (∀ c : Dev Cert.ForgetFwd.nD,
      r.2.mem ((c.tc : Thread Cert.ForgetFwd.nD Cert.ForgetFwd.τ).loc Cert.ForgetFwd.main_arg0) = m ((c.tc : Thread Cert.ForgetFwd.nD Cert.ForgetFwd.τ).loc Cert.ForgetFwd.main_arg0)
      ∧ r.2.mem ((c.tc : Thread Cert.ForgetFwd.nD Cert.ForgetFwd.τ).loc Cert.ForgetFwd.main_arg1) = m ((c.tc : Thread Cert.ForgetFwd.nD Cert.ForgetFwd.τ).loc Cert.ForgetFwd.main_arg1)
      ∧ r.2.mem ((c.tc : Thread Cert.ForgetFwd.nD Cert.ForgetFwd.τ).loc Cert.ForgetFwd.main_arg2) = m ((c.tc : Thread Cert.ForgetFwd.nD Cert.ForgetFwd.τ).loc Cert.ForgetFwd.main_arg2))
      ∧ r.2.sem = fun _ => 0)

def quiescent_ForgetFwdIdeal [hForgetFwdIdeal : Cert.ForgetFwdIdeal.Facts] : Prop :=
  ∀ (m : (ℓ : Loc Cert.ForgetFwdIdeal.nD Cert.ForgetFwdIdeal.τ Cert.ForgetFwdIdeal.sig) → Buf (Elt Ideal) ℓ) (g : Dev Cert.ForgetFwdIdeal.nD → PrngReg), Pre_ForgetFwdIdeal m →
    θ_run (Cert.ForgetFwdIdeal.defs (F := Ideal)) (onTc (τ := Cert.ForgetFwdIdeal.τ) (Cert.ForgetFwdIdeal.main (F := Ideal))) ⟨m, fun _ => 0, g⟩ (fun r => (∀ c : Dev Cert.ForgetFwdIdeal.nD,
      r.2.mem ((c.tc : Thread Cert.ForgetFwdIdeal.nD Cert.ForgetFwdIdeal.τ).loc Cert.ForgetFwdIdeal.main_arg0) = m ((c.tc : Thread Cert.ForgetFwdIdeal.nD Cert.ForgetFwdIdeal.τ).loc Cert.ForgetFwdIdeal.main_arg0)
      ∧ r.2.mem ((c.tc : Thread Cert.ForgetFwdIdeal.nD Cert.ForgetFwdIdeal.τ).loc Cert.ForgetFwdIdeal.main_arg1) = m ((c.tc : Thread Cert.ForgetFwdIdeal.nD Cert.ForgetFwdIdeal.τ).loc Cert.ForgetFwdIdeal.main_arg1)
      ∧ r.2.mem ((c.tc : Thread Cert.ForgetFwdIdeal.nD Cert.ForgetFwdIdeal.τ).loc Cert.ForgetFwdIdeal.main_arg2) = m ((c.tc : Thread Cert.ForgetFwdIdeal.nD Cert.ForgetFwdIdeal.τ).loc Cert.ForgetFwdIdeal.main_arg2))
      ∧ r.2.sem = fun _ => 0)

def quiescent_ForgetFwdReferenceIdeal [hForgetFwdReferenceIdeal : Cert.ForgetFwdReferenceIdeal.Facts] : Prop :=
  ∀ (m : (ℓ : Loc Cert.ForgetFwdReferenceIdeal.nD Cert.ForgetFwdReferenceIdeal.τ Cert.ForgetFwdReferenceIdeal.sig) → Buf (Elt Ideal) ℓ) (g : Dev Cert.ForgetFwdReferenceIdeal.nD → PrngReg), Pre_ForgetFwdReferenceIdeal m →
    θ_run (Cert.ForgetFwdReferenceIdeal.defs (F := Ideal)) (onTc (τ := Cert.ForgetFwdReferenceIdeal.τ) (Cert.ForgetFwdReferenceIdeal.main (F := Ideal))) ⟨m, fun _ => 0, g⟩ (fun r => (∀ c : Dev Cert.ForgetFwdReferenceIdeal.nD,
      r.2.mem ((c.tc : Thread Cert.ForgetFwdReferenceIdeal.nD Cert.ForgetFwdReferenceIdeal.τ).loc Cert.ForgetFwdReferenceIdeal.main_arg0) = m ((c.tc : Thread Cert.ForgetFwdReferenceIdeal.nD Cert.ForgetFwdReferenceIdeal.τ).loc Cert.ForgetFwdReferenceIdeal.main_arg0)
      ∧ r.2.mem ((c.tc : Thread Cert.ForgetFwdReferenceIdeal.nD Cert.ForgetFwdReferenceIdeal.τ).loc Cert.ForgetFwdReferenceIdeal.main_arg1) = m ((c.tc : Thread Cert.ForgetFwdReferenceIdeal.nD Cert.ForgetFwdReferenceIdeal.τ).loc Cert.ForgetFwdReferenceIdeal.main_arg1)
      ∧ r.2.mem ((c.tc : Thread Cert.ForgetFwdReferenceIdeal.nD Cert.ForgetFwdReferenceIdeal.τ).loc Cert.ForgetFwdReferenceIdeal.main_arg2) = m ((c.tc : Thread Cert.ForgetFwdReferenceIdeal.nD Cert.ForgetFwdReferenceIdeal.τ).loc Cert.ForgetFwdReferenceIdeal.main_arg2))
      ∧ r.2.sem = fun _ => 0)

def quiescent_NormMix [hNormMix : Cert.NormMix.Facts] : Prop :=
  ∀ (m : (ℓ : Loc Cert.NormMix.nD Cert.NormMix.τ Cert.NormMix.sig) → Buf (Elt Bits) ℓ) (g : Dev Cert.NormMix.nD → PrngReg), Pre_NormMix m →
    θ_run (Cert.NormMix.defs (F := Bits)) (onTc (τ := Cert.NormMix.τ) (Cert.NormMix.main (F := Bits))) ⟨m, fun _ => 0, g⟩ (fun r => (∀ c : Dev Cert.NormMix.nD,
      r.2.mem ((c.tc : Thread Cert.NormMix.nD Cert.NormMix.τ).loc Cert.NormMix.main_arg0) = m ((c.tc : Thread Cert.NormMix.nD Cert.NormMix.τ).loc Cert.NormMix.main_arg0)
      ∧ r.2.mem ((c.tc : Thread Cert.NormMix.nD Cert.NormMix.τ).loc Cert.NormMix.main_arg1) = m ((c.tc : Thread Cert.NormMix.nD Cert.NormMix.τ).loc Cert.NormMix.main_arg1)
      ∧ r.2.mem ((c.tc : Thread Cert.NormMix.nD Cert.NormMix.τ).loc Cert.NormMix.main_arg2) = m ((c.tc : Thread Cert.NormMix.nD Cert.NormMix.τ).loc Cert.NormMix.main_arg2))
      ∧ r.2.sem = fun _ => 0)

def quiescent_NormMixIdeal [hNormMixIdeal : Cert.NormMixIdeal.Facts] : Prop :=
  ∀ (m : (ℓ : Loc Cert.NormMixIdeal.nD Cert.NormMixIdeal.τ Cert.NormMixIdeal.sig) → Buf (Elt Ideal) ℓ) (g : Dev Cert.NormMixIdeal.nD → PrngReg), Pre_NormMixIdeal m →
    θ_run (Cert.NormMixIdeal.defs (F := Ideal)) (onTc (τ := Cert.NormMixIdeal.τ) (Cert.NormMixIdeal.main (F := Ideal))) ⟨m, fun _ => 0, g⟩ (fun r => (∀ c : Dev Cert.NormMixIdeal.nD,
      r.2.mem ((c.tc : Thread Cert.NormMixIdeal.nD Cert.NormMixIdeal.τ).loc Cert.NormMixIdeal.main_arg0) = m ((c.tc : Thread Cert.NormMixIdeal.nD Cert.NormMixIdeal.τ).loc Cert.NormMixIdeal.main_arg0)
      ∧ r.2.mem ((c.tc : Thread Cert.NormMixIdeal.nD Cert.NormMixIdeal.τ).loc Cert.NormMixIdeal.main_arg1) = m ((c.tc : Thread Cert.NormMixIdeal.nD Cert.NormMixIdeal.τ).loc Cert.NormMixIdeal.main_arg1)
      ∧ r.2.mem ((c.tc : Thread Cert.NormMixIdeal.nD Cert.NormMixIdeal.τ).loc Cert.NormMixIdeal.main_arg2) = m ((c.tc : Thread Cert.NormMixIdeal.nD Cert.NormMixIdeal.τ).loc Cert.NormMixIdeal.main_arg2))
      ∧ r.2.sem = fun _ => 0)

def quiescent_NormMixReferenceIdeal [hNormMixReferenceIdeal : Cert.NormMixReferenceIdeal.Facts] : Prop :=
  ∀ (m : (ℓ : Loc Cert.NormMixReferenceIdeal.nD Cert.NormMixReferenceIdeal.τ Cert.NormMixReferenceIdeal.sig) → Buf (Elt Ideal) ℓ) (g : Dev Cert.NormMixReferenceIdeal.nD → PrngReg), Pre_NormMixReferenceIdeal m →
    θ_run (Cert.NormMixReferenceIdeal.defs (F := Ideal)) (onTc (τ := Cert.NormMixReferenceIdeal.τ) (Cert.NormMixReferenceIdeal.main (F := Ideal))) ⟨m, fun _ => 0, g⟩ (fun r => (∀ c : Dev Cert.NormMixReferenceIdeal.nD,
      r.2.mem ((c.tc : Thread Cert.NormMixReferenceIdeal.nD Cert.NormMixReferenceIdeal.τ).loc Cert.NormMixReferenceIdeal.main_arg0) = m ((c.tc : Thread Cert.NormMixReferenceIdeal.nD Cert.NormMixReferenceIdeal.τ).loc Cert.NormMixReferenceIdeal.main_arg0)
      ∧ r.2.mem ((c.tc : Thread Cert.NormMixReferenceIdeal.nD Cert.NormMixReferenceIdeal.τ).loc Cert.NormMixReferenceIdeal.main_arg1) = m ((c.tc : Thread Cert.NormMixReferenceIdeal.nD Cert.NormMixReferenceIdeal.τ).loc Cert.NormMixReferenceIdeal.main_arg1)
      ∧ r.2.mem ((c.tc : Thread Cert.NormMixReferenceIdeal.nD Cert.NormMixReferenceIdeal.τ).loc Cert.NormMixReferenceIdeal.main_arg2) = m ((c.tc : Thread Cert.NormMixReferenceIdeal.nD Cert.NormMixReferenceIdeal.τ).loc Cert.NormMixReferenceIdeal.main_arg2))
      ∧ r.2.sem = fun _ => 0)

def quiescent_AddHalves [hAddHalves : Cert.AddHalves.Facts] [hPre_half_named : Cert.Pre_half_named.Facts] : Prop :=
  ∀ (m : (ℓ : Loc Cert.AddHalves.nD Cert.AddHalves.τ Cert.AddHalves.sig) → Buf (Elt Bits) ℓ) (g : Dev Cert.AddHalves.nD → PrngReg), Pre_AddHalves m →
    θ_run (Cert.AddHalves.defs (F := Bits)) (onTc (τ := Cert.AddHalves.τ) (Cert.AddHalves.main (F := Bits))) ⟨m, fun _ => 0, g⟩ (fun r => (∀ c : Dev Cert.AddHalves.nD,
      r.2.mem ((c.tc : Thread Cert.AddHalves.nD Cert.AddHalves.τ).loc Cert.AddHalves.main_arg0) = m ((c.tc : Thread Cert.AddHalves.nD Cert.AddHalves.τ).loc Cert.AddHalves.main_arg0)
      ∧ r.2.mem ((c.tc : Thread Cert.AddHalves.nD Cert.AddHalves.τ).loc Cert.AddHalves.main_arg1) = m ((c.tc : Thread Cert.AddHalves.nD Cert.AddHalves.τ).loc Cert.AddHalves.main_arg1)
      ∧ r.2.mem ((c.tc : Thread Cert.AddHalves.nD Cert.AddHalves.τ).loc Cert.AddHalves.main_arg2) = m ((c.tc : Thread Cert.AddHalves.nD Cert.AddHalves.τ).loc Cert.AddHalves.main_arg2))
      ∧ r.2.sem = fun _ => 0)

def quiescent_AddHalvesIdeal [hAddHalvesIdeal : Cert.AddHalvesIdeal.Facts] [hPre_half_named : Cert.Pre_half_named.Facts] : Prop :=
  ∀ (m : (ℓ : Loc Cert.AddHalvesIdeal.nD Cert.AddHalvesIdeal.τ Cert.AddHalvesIdeal.sig) → Buf (Elt Ideal) ℓ) (g : Dev Cert.AddHalvesIdeal.nD → PrngReg), Pre_AddHalvesIdeal m →
    θ_run (Cert.AddHalvesIdeal.defs (F := Ideal)) (onTc (τ := Cert.AddHalvesIdeal.τ) (Cert.AddHalvesIdeal.main (F := Ideal))) ⟨m, fun _ => 0, g⟩ (fun r => (∀ c : Dev Cert.AddHalvesIdeal.nD,
      r.2.mem ((c.tc : Thread Cert.AddHalvesIdeal.nD Cert.AddHalvesIdeal.τ).loc Cert.AddHalvesIdeal.main_arg0) = m ((c.tc : Thread Cert.AddHalvesIdeal.nD Cert.AddHalvesIdeal.τ).loc Cert.AddHalvesIdeal.main_arg0)
      ∧ r.2.mem ((c.tc : Thread Cert.AddHalvesIdeal.nD Cert.AddHalvesIdeal.τ).loc Cert.AddHalvesIdeal.main_arg1) = m ((c.tc : Thread Cert.AddHalvesIdeal.nD Cert.AddHalvesIdeal.τ).loc Cert.AddHalvesIdeal.main_arg1)
      ∧ r.2.mem ((c.tc : Thread Cert.AddHalvesIdeal.nD Cert.AddHalvesIdeal.τ).loc Cert.AddHalvesIdeal.main_arg2) = m ((c.tc : Thread Cert.AddHalvesIdeal.nD Cert.AddHalvesIdeal.τ).loc Cert.AddHalvesIdeal.main_arg2))
      ∧ r.2.sem = fun _ => 0)

def quiescent_AddHalvesReferenceIdeal [hAddHalvesReferenceIdeal : Cert.AddHalvesReferenceIdeal.Facts] [hPre_half_named : Cert.Pre_half_named.Facts] : Prop :=
  ∀ (m : (ℓ : Loc Cert.AddHalvesReferenceIdeal.nD Cert.AddHalvesReferenceIdeal.τ Cert.AddHalvesReferenceIdeal.sig) → Buf (Elt Ideal) ℓ) (g : Dev Cert.AddHalvesReferenceIdeal.nD → PrngReg), Pre_AddHalvesReferenceIdeal m →
    θ_run (Cert.AddHalvesReferenceIdeal.defs (F := Ideal)) (onTc (τ := Cert.AddHalvesReferenceIdeal.τ) (Cert.AddHalvesReferenceIdeal.main (F := Ideal))) ⟨m, fun _ => 0, g⟩ (fun r => (∀ c : Dev Cert.AddHalvesReferenceIdeal.nD,
      r.2.mem ((c.tc : Thread Cert.AddHalvesReferenceIdeal.nD Cert.AddHalvesReferenceIdeal.τ).loc Cert.AddHalvesReferenceIdeal.main_arg0) = m ((c.tc : Thread Cert.AddHalvesReferenceIdeal.nD Cert.AddHalvesReferenceIdeal.τ).loc Cert.AddHalvesReferenceIdeal.main_arg0)
      ∧ r.2.mem ((c.tc : Thread Cert.AddHalvesReferenceIdeal.nD Cert.AddHalvesReferenceIdeal.τ).loc Cert.AddHalvesReferenceIdeal.main_arg1) = m ((c.tc : Thread Cert.AddHalvesReferenceIdeal.nD Cert.AddHalvesReferenceIdeal.τ).loc Cert.AddHalvesReferenceIdeal.main_arg1)
      ∧ r.2.mem ((c.tc : Thread Cert.AddHalvesReferenceIdeal.nD Cert.AddHalvesReferenceIdeal.τ).loc Cert.AddHalvesReferenceIdeal.main_arg2) = m ((c.tc : Thread Cert.AddHalvesReferenceIdeal.nD Cert.AddHalvesReferenceIdeal.τ).loc Cert.AddHalvesReferenceIdeal.main_arg2))
      ∧ r.2.sem = fun _ => 0)

def preserves_Kernel_KernelIdeal : Prop :=
  IdealRules.named_const.Statement Cert.KernelIdeal.κ "scale2" .f32 0x3E0293EE#32 (((Real.log 2)⁻¹ * (11863283 / 134217728) : ℝ) : EReal)
  ∧ IdealRules.named_const.Statement Cert.KernelIdeal.κ "log2e" .f32 0x3FB8AA3B#32 (((Real.log 2)⁻¹ : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v45_0)) (v1 : (c : Dev Cert.KernelIdeal.nD) → Buf (Elt Ideal) ((c.tc : Thread Cert.KernelIdeal.nD Cert.KernelIdeal.τ).loc Cert.KernelIdeal.main_v45_1)) (v2 : (c : Dev Cert.KernelIdeal.nD) → Buf (Elt Ideal) ((c.tc : Thread Cert.KernelIdeal.nD Cert.KernelIdeal.τ).loc Cert.KernelIdeal.main_v45_2)) (v3 : (c : Dev Cert.KernelIdeal.nD) → Buf (Elt Ideal) ((c.tc : Thread Cert.KernelIdeal.nD Cert.KernelIdeal.τ).loc Cert.KernelIdeal.main_v45_3)) (v4 : (c : Dev Cert.KernelIdeal.nD) → Buf (Elt Ideal) ((c.tc : Thread Cert.KernelIdeal.nD Cert.KernelIdeal.τ).loc Cert.KernelIdeal.main_v45_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v45_0) = v0 c
          ∧ r.2.mem ((c.tc : Thread Cert.KernelIdeal.nD Cert.KernelIdeal.τ).loc Cert.KernelIdeal.main_v45_1) = v1 c
          ∧ r.2.mem ((c.tc : Thread Cert.KernelIdeal.nD Cert.KernelIdeal.τ).loc Cert.KernelIdeal.main_v45_2) = v2 c
          ∧ r.2.mem ((c.tc : Thread Cert.KernelIdeal.nD Cert.KernelIdeal.τ).loc Cert.KernelIdeal.main_v45_3) = v3 c
          ∧ r.2.mem ((c.tc : Thread Cert.KernelIdeal.nD Cert.KernelIdeal.τ).loc Cert.KernelIdeal.main_v45_4) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v89) = v0 c
          ∧ r.2.mem ((c.tc : Thread Cert.ReferenceIdeal.nD Cert.ReferenceIdeal.τ).loc Cert.ReferenceIdeal.main_v92) = v1 c
          ∧ r.2.mem ((c.tc : Thread Cert.ReferenceIdeal.nD Cert.ReferenceIdeal.τ).loc Cert.ReferenceIdeal.main_v95) = v2 c
          ∧ r.2.mem ((c.tc : Thread Cert.ReferenceIdeal.nD Cert.ReferenceIdeal.τ).loc Cert.ReferenceIdeal.main_v96) = v3 c
          ∧ r.2.mem ((c.tc : Thread Cert.ReferenceIdeal.nD Cert.ReferenceIdeal.τ).loc Cert.ReferenceIdeal.main_v97) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_InProj_InProjIdeal : Prop :=
  True

def algebraic_InProjIdeal_InProjReferenceIdeal [hInProjIdeal : Cert.InProjIdeal.Facts] [hInProjReferenceIdeal : Cert.InProjReferenceIdeal.Facts] : Prop :=
  ∀ (m : (ℓ : Loc Cert.InProjIdeal.nD Cert.InProjIdeal.τ Cert.InProjIdeal.sig) → Buf (Elt Ideal) ℓ) (g : Dev Cert.InProjIdeal.nD → PrngReg)
    (m' : (ℓ : Loc Cert.InProjReferenceIdeal.nD Cert.InProjReferenceIdeal.τ Cert.InProjReferenceIdeal.sig) → Buf (Elt Ideal) ℓ) (g' : Dev Cert.InProjReferenceIdeal.nD → PrngReg), Pre_InProjIdeal m →
    (∀ c : Dev Cert.InProjIdeal.nD,
      m' ((c.tc : Thread Cert.InProjReferenceIdeal.nD Cert.InProjReferenceIdeal.τ).loc Cert.InProjReferenceIdeal.main_arg0) = m ((c.tc : Thread Cert.InProjIdeal.nD Cert.InProjIdeal.τ).loc Cert.InProjIdeal.main_arg0)
      ∧ m' ((c.tc : Thread Cert.InProjReferenceIdeal.nD Cert.InProjReferenceIdeal.τ).loc Cert.InProjReferenceIdeal.main_arg1) = m ((c.tc : Thread Cert.InProjIdeal.nD Cert.InProjIdeal.τ).loc Cert.InProjIdeal.main_arg1)) →
    ∃ (v0 : (c : Dev Cert.InProjIdeal.nD) → Buf (Elt Ideal) ((c.tc : Thread Cert.InProjIdeal.nD Cert.InProjIdeal.τ).loc Cert.InProjIdeal.main_v0)),
      θ_run (Cert.InProjIdeal.defs (F := Ideal)) (onTc (τ := Cert.InProjIdeal.τ) (Cert.InProjIdeal.main (F := Ideal))) ⟨m, fun _ => 0, g⟩ (fun r => ∀ c : Dev Cert.InProjIdeal.nD,
          r.2.mem ((c.tc : Thread Cert.InProjIdeal.nD Cert.InProjIdeal.τ).loc Cert.InProjIdeal.main_v0) = v0 c
          ∧ r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
          ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1))
      ∧ θ_run (Cert.InProjReferenceIdeal.defs (F := Ideal)) (onTc (τ := Cert.InProjReferenceIdeal.τ) (Cert.InProjReferenceIdeal.main (F := Ideal))) ⟨m', fun _ => 0, g'⟩ (fun r => ∀ c : Dev Cert.InProjReferenceIdeal.nD,
          r.2.mem ((c.tc : Thread Cert.InProjReferenceIdeal.nD Cert.InProjReferenceIdeal.τ).loc Cert.InProjReferenceIdeal.main_v3) = v0 c
          ∧ r.2.mem ((c.tc : Thread Cert.InProjReferenceIdeal.nD Cert.InProjReferenceIdeal.τ).loc Cert.InProjReferenceIdeal.main_arg0) = m' ((c.tc : Thread Cert.InProjReferenceIdeal.nD Cert.InProjReferenceIdeal.τ).loc Cert.InProjReferenceIdeal.main_arg0)
          ∧ r.2.mem ((c.tc : Thread Cert.InProjReferenceIdeal.nD Cert.InProjReferenceIdeal.τ).loc Cert.InProjReferenceIdeal.main_arg1) = m' ((c.tc : Thread Cert.InProjReferenceIdeal.nD Cert.InProjReferenceIdeal.τ).loc Cert.InProjReferenceIdeal.main_arg1))

def preserves_OutProj_OutProjIdeal : Prop :=
  True

def algebraic_OutProjIdeal_OutProjReferenceIdeal [hOutProjIdeal : Cert.OutProjIdeal.Facts] [hOutProjReferenceIdeal : Cert.OutProjReferenceIdeal.Facts] : Prop :=
  ∀ (m : (ℓ : Loc Cert.OutProjIdeal.nD Cert.OutProjIdeal.τ Cert.OutProjIdeal.sig) → Buf (Elt Ideal) ℓ) (g : Dev Cert.OutProjIdeal.nD → PrngReg)
    (m' : (ℓ : Loc Cert.OutProjReferenceIdeal.nD Cert.OutProjReferenceIdeal.τ Cert.OutProjReferenceIdeal.sig) → Buf (Elt Ideal) ℓ) (g' : Dev Cert.OutProjReferenceIdeal.nD → PrngReg), Pre_OutProjIdeal m →
    (∀ c : Dev Cert.OutProjIdeal.nD,
      m' ((c.tc : Thread Cert.OutProjReferenceIdeal.nD Cert.OutProjReferenceIdeal.τ).loc Cert.OutProjReferenceIdeal.main_arg0) = m ((c.tc : Thread Cert.OutProjIdeal.nD Cert.OutProjIdeal.τ).loc Cert.OutProjIdeal.main_arg0)
      ∧ m' ((c.tc : Thread Cert.OutProjReferenceIdeal.nD Cert.OutProjReferenceIdeal.τ).loc Cert.OutProjReferenceIdeal.main_arg1) = m ((c.tc : Thread Cert.OutProjIdeal.nD Cert.OutProjIdeal.τ).loc Cert.OutProjIdeal.main_arg1)
      ∧ m' ((c.tc : Thread Cert.OutProjReferenceIdeal.nD Cert.OutProjReferenceIdeal.τ).loc Cert.OutProjReferenceIdeal.main_arg2) = m ((c.tc : Thread Cert.OutProjIdeal.nD Cert.OutProjIdeal.τ).loc Cert.OutProjIdeal.main_arg2)) →
    ∃ (v0 : (c : Dev Cert.OutProjIdeal.nD) → Buf (Elt Ideal) ((c.tc : Thread Cert.OutProjIdeal.nD Cert.OutProjIdeal.τ).loc Cert.OutProjIdeal.main_v0)),
      θ_run (Cert.OutProjIdeal.defs (F := Ideal)) (onTc (τ := Cert.OutProjIdeal.τ) (Cert.OutProjIdeal.main (F := Ideal))) ⟨m, fun _ => 0, g⟩ (fun r => ∀ c : Dev Cert.OutProjIdeal.nD,
          r.2.mem ((c.tc : Thread Cert.OutProjIdeal.nD Cert.OutProjIdeal.τ).loc Cert.OutProjIdeal.main_v0) = v0 c
          ∧ r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
          ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
          ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2))
      ∧ θ_run (Cert.OutProjReferenceIdeal.defs (F := Ideal)) (onTc (τ := Cert.OutProjReferenceIdeal.τ) (Cert.OutProjReferenceIdeal.main (F := Ideal))) ⟨m', fun _ => 0, g'⟩ (fun r => ∀ c : Dev Cert.OutProjReferenceIdeal.nD,
          r.2.mem ((c.tc : Thread Cert.OutProjReferenceIdeal.nD Cert.OutProjReferenceIdeal.τ).loc Cert.OutProjReferenceIdeal.main_v3) = v0 c
          ∧ r.2.mem ((c.tc : Thread Cert.OutProjReferenceIdeal.nD Cert.OutProjReferenceIdeal.τ).loc Cert.OutProjReferenceIdeal.main_arg0) = m' ((c.tc : Thread Cert.OutProjReferenceIdeal.nD Cert.OutProjReferenceIdeal.τ).loc Cert.OutProjReferenceIdeal.main_arg0)
          ∧ r.2.mem ((c.tc : Thread Cert.OutProjReferenceIdeal.nD Cert.OutProjReferenceIdeal.τ).loc Cert.OutProjReferenceIdeal.main_arg1) = m' ((c.tc : Thread Cert.OutProjReferenceIdeal.nD Cert.OutProjReferenceIdeal.τ).loc Cert.OutProjReferenceIdeal.main_arg1)
          ∧ r.2.mem ((c.tc : Thread Cert.OutProjReferenceIdeal.nD Cert.OutProjReferenceIdeal.τ).loc Cert.OutProjReferenceIdeal.main_arg2) = m' ((c.tc : Thread Cert.OutProjReferenceIdeal.nD Cert.OutProjReferenceIdeal.τ).loc Cert.OutProjReferenceIdeal.main_arg2))

def preserves_Ff1_Ff1Ideal : Prop :=
  True

def algebraic_Ff1Ideal_Ff1ReferenceIdeal [hFf1Ideal : Cert.Ff1Ideal.Facts] [hFf1ReferenceIdeal : Cert.Ff1ReferenceIdeal.Facts] : Prop :=
  ∀ (m : (ℓ : Loc Cert.Ff1Ideal.nD Cert.Ff1Ideal.τ Cert.Ff1Ideal.sig) → Buf (Elt Ideal) ℓ) (g : Dev Cert.Ff1Ideal.nD → PrngReg)
    (m' : (ℓ : Loc Cert.Ff1ReferenceIdeal.nD Cert.Ff1ReferenceIdeal.τ Cert.Ff1ReferenceIdeal.sig) → Buf (Elt Ideal) ℓ) (g' : Dev Cert.Ff1ReferenceIdeal.nD → PrngReg), Pre_Ff1Ideal m →
    (∀ c : Dev Cert.Ff1Ideal.nD,
      m' ((c.tc : Thread Cert.Ff1ReferenceIdeal.nD Cert.Ff1ReferenceIdeal.τ).loc Cert.Ff1ReferenceIdeal.main_arg0) = m ((c.tc : Thread Cert.Ff1Ideal.nD Cert.Ff1Ideal.τ).loc Cert.Ff1Ideal.main_arg0)
      ∧ m' ((c.tc : Thread Cert.Ff1ReferenceIdeal.nD Cert.Ff1ReferenceIdeal.τ).loc Cert.Ff1ReferenceIdeal.main_arg1) = m ((c.tc : Thread Cert.Ff1Ideal.nD Cert.Ff1Ideal.τ).loc Cert.Ff1Ideal.main_arg1)) →
    ∃ (v0 : (c : Dev Cert.Ff1Ideal.nD) → Buf (Elt Ideal) ((c.tc : Thread Cert.Ff1Ideal.nD Cert.Ff1Ideal.τ).loc Cert.Ff1Ideal.main_v0)),
      θ_run (Cert.Ff1Ideal.defs (F := Ideal)) (onTc (τ := Cert.Ff1Ideal.τ) (Cert.Ff1Ideal.main (F := Ideal))) ⟨m, fun _ => 0, g⟩ (fun r => ∀ c : Dev Cert.Ff1Ideal.nD,
          r.2.mem ((c.tc : Thread Cert.Ff1Ideal.nD Cert.Ff1Ideal.τ).loc Cert.Ff1Ideal.main_v0) = v0 c
          ∧ r.2.mem ((c.tc : Thread Cert.Ff1Ideal.nD Cert.Ff1Ideal.τ).loc Cert.Ff1Ideal.main_arg0) = m ((c.tc : Thread Cert.Ff1Ideal.nD Cert.Ff1Ideal.τ).loc Cert.Ff1Ideal.main_arg0)
          ∧ r.2.mem ((c.tc : Thread Cert.Ff1Ideal.nD Cert.Ff1Ideal.τ).loc Cert.Ff1Ideal.main_arg1) = m ((c.tc : Thread Cert.Ff1Ideal.nD Cert.Ff1Ideal.τ).loc Cert.Ff1Ideal.main_arg1))
      ∧ θ_run (Cert.Ff1ReferenceIdeal.defs (F := Ideal)) (onTc (τ := Cert.Ff1ReferenceIdeal.τ) (Cert.Ff1ReferenceIdeal.main (F := Ideal))) ⟨m', fun _ => 0, g'⟩ (fun r => ∀ c : Dev Cert.Ff1ReferenceIdeal.nD,
          r.2.mem ((c.tc : Thread Cert.Ff1ReferenceIdeal.nD Cert.Ff1ReferenceIdeal.τ).loc Cert.Ff1ReferenceIdeal.main_v6) = v0 c
          ∧ r.2.mem ((c.tc : Thread Cert.Ff1ReferenceIdeal.nD Cert.Ff1ReferenceIdeal.τ).loc Cert.Ff1ReferenceIdeal.main_arg0) = m' ((c.tc : Thread Cert.Ff1ReferenceIdeal.nD Cert.Ff1ReferenceIdeal.τ).loc Cert.Ff1ReferenceIdeal.main_arg0)
          ∧ r.2.mem ((c.tc : Thread Cert.Ff1ReferenceIdeal.nD Cert.Ff1ReferenceIdeal.τ).loc Cert.Ff1ReferenceIdeal.main_arg1) = m' ((c.tc : Thread Cert.Ff1ReferenceIdeal.nD Cert.Ff1ReferenceIdeal.τ).loc Cert.Ff1ReferenceIdeal.main_arg1))

def preserves_Ff2_Ff2Ideal : Prop :=
  True

def algebraic_Ff2Ideal_Ff2ReferenceIdeal [hFf2Ideal : Cert.Ff2Ideal.Facts] [hFf2ReferenceIdeal : Cert.Ff2ReferenceIdeal.Facts] : Prop :=
  ∀ (m : (ℓ : Loc Cert.Ff2Ideal.nD Cert.Ff2Ideal.τ Cert.Ff2Ideal.sig) → Buf (Elt Ideal) ℓ) (g : Dev Cert.Ff2Ideal.nD → PrngReg)
    (m' : (ℓ : Loc Cert.Ff2ReferenceIdeal.nD Cert.Ff2ReferenceIdeal.τ Cert.Ff2ReferenceIdeal.sig) → Buf (Elt Ideal) ℓ) (g' : Dev Cert.Ff2ReferenceIdeal.nD → PrngReg), Pre_Ff2Ideal m →
    (∀ c : Dev Cert.Ff2Ideal.nD,
      m' ((c.tc : Thread Cert.Ff2ReferenceIdeal.nD Cert.Ff2ReferenceIdeal.τ).loc Cert.Ff2ReferenceIdeal.main_arg0) = m ((c.tc : Thread Cert.Ff2Ideal.nD Cert.Ff2Ideal.τ).loc Cert.Ff2Ideal.main_arg0)
      ∧ m' ((c.tc : Thread Cert.Ff2ReferenceIdeal.nD Cert.Ff2ReferenceIdeal.τ).loc Cert.Ff2ReferenceIdeal.main_arg1) = m ((c.tc : Thread Cert.Ff2Ideal.nD Cert.Ff2Ideal.τ).loc Cert.Ff2Ideal.main_arg1)
      ∧ m' ((c.tc : Thread Cert.Ff2ReferenceIdeal.nD Cert.Ff2ReferenceIdeal.τ).loc Cert.Ff2ReferenceIdeal.main_arg2) = m ((c.tc : Thread Cert.Ff2Ideal.nD Cert.Ff2Ideal.τ).loc Cert.Ff2Ideal.main_arg2)) →
    ∃ (v0 : (c : Dev Cert.Ff2Ideal.nD) → Buf (Elt Ideal) ((c.tc : Thread Cert.Ff2Ideal.nD Cert.Ff2Ideal.τ).loc Cert.Ff2Ideal.main_v0)),
      θ_run (Cert.Ff2Ideal.defs (F := Ideal)) (onTc (τ := Cert.Ff2Ideal.τ) (Cert.Ff2Ideal.main (F := Ideal))) ⟨m, fun _ => 0, g⟩ (fun r => ∀ c : Dev Cert.Ff2Ideal.nD,
          r.2.mem ((c.tc : Thread Cert.Ff2Ideal.nD Cert.Ff2Ideal.τ).loc Cert.Ff2Ideal.main_v0) = v0 c
          ∧ r.2.mem ((c.tc : Thread Cert.Ff2Ideal.nD Cert.Ff2Ideal.τ).loc Cert.Ff2Ideal.main_arg0) = m ((c.tc : Thread Cert.Ff2Ideal.nD Cert.Ff2Ideal.τ).loc Cert.Ff2Ideal.main_arg0)
          ∧ r.2.mem ((c.tc : Thread Cert.Ff2Ideal.nD Cert.Ff2Ideal.τ).loc Cert.Ff2Ideal.main_arg1) = m ((c.tc : Thread Cert.Ff2Ideal.nD Cert.Ff2Ideal.τ).loc Cert.Ff2Ideal.main_arg1)
          ∧ r.2.mem ((c.tc : Thread Cert.Ff2Ideal.nD Cert.Ff2Ideal.τ).loc Cert.Ff2Ideal.main_arg2) = m ((c.tc : Thread Cert.Ff2Ideal.nD Cert.Ff2Ideal.τ).loc Cert.Ff2Ideal.main_arg2))
      ∧ θ_run (Cert.Ff2ReferenceIdeal.defs (F := Ideal)) (onTc (τ := Cert.Ff2ReferenceIdeal.τ) (Cert.Ff2ReferenceIdeal.main (F := Ideal))) ⟨m', fun _ => 0, g'⟩ (fun r => ∀ c : Dev Cert.Ff2ReferenceIdeal.nD,
          r.2.mem ((c.tc : Thread Cert.Ff2ReferenceIdeal.nD Cert.Ff2ReferenceIdeal.τ).loc Cert.Ff2ReferenceIdeal.main_v4) = v0 c
          ∧ r.2.mem ((c.tc : Thread Cert.Ff2ReferenceIdeal.nD Cert.Ff2ReferenceIdeal.τ).loc Cert.Ff2ReferenceIdeal.main_arg0) = m' ((c.tc : Thread Cert.Ff2ReferenceIdeal.nD Cert.Ff2ReferenceIdeal.τ).loc Cert.Ff2ReferenceIdeal.main_arg0)
          ∧ r.2.mem ((c.tc : Thread Cert.Ff2ReferenceIdeal.nD Cert.Ff2ReferenceIdeal.τ).loc Cert.Ff2ReferenceIdeal.main_arg1) = m' ((c.tc : Thread Cert.Ff2ReferenceIdeal.nD Cert.Ff2ReferenceIdeal.τ).loc Cert.Ff2ReferenceIdeal.main_arg1)
          ∧ r.2.mem ((c.tc : Thread Cert.Ff2ReferenceIdeal.nD Cert.Ff2ReferenceIdeal.τ).loc Cert.Ff2ReferenceIdeal.main_arg2) = m' ((c.tc : Thread Cert.Ff2ReferenceIdeal.nD Cert.Ff2ReferenceIdeal.τ).loc Cert.Ff2ReferenceIdeal.main_arg2))

def preserves_Ff2Dw_Ff2DwIdeal : Prop :=
  True

def algebraic_Ff2DwIdeal_Ff2DwReferenceIdeal [hFf2DwIdeal : Cert.Ff2DwIdeal.Facts] [hFf2DwReferenceIdeal : Cert.Ff2DwReferenceIdeal.Facts] : Prop :=
  ∀ (m : (ℓ : Loc Cert.Ff2DwIdeal.nD Cert.Ff2DwIdeal.τ Cert.Ff2DwIdeal.sig) → Buf (Elt Ideal) ℓ) (g : Dev Cert.Ff2DwIdeal.nD → PrngReg)
    (m' : (ℓ : Loc Cert.Ff2DwReferenceIdeal.nD Cert.Ff2DwReferenceIdeal.τ Cert.Ff2DwReferenceIdeal.sig) → Buf (Elt Ideal) ℓ) (g' : Dev Cert.Ff2DwReferenceIdeal.nD → PrngReg), Pre_Ff2DwIdeal m →
    (∀ c : Dev Cert.Ff2DwIdeal.nD,
      m' ((c.tc : Thread Cert.Ff2DwReferenceIdeal.nD Cert.Ff2DwReferenceIdeal.τ).loc Cert.Ff2DwReferenceIdeal.main_arg0) = m ((c.tc : Thread Cert.Ff2DwIdeal.nD Cert.Ff2DwIdeal.τ).loc Cert.Ff2DwIdeal.main_arg0)
      ∧ m' ((c.tc : Thread Cert.Ff2DwReferenceIdeal.nD Cert.Ff2DwReferenceIdeal.τ).loc Cert.Ff2DwReferenceIdeal.main_arg1) = m ((c.tc : Thread Cert.Ff2DwIdeal.nD Cert.Ff2DwIdeal.τ).loc Cert.Ff2DwIdeal.main_arg1)) →
    ∃ (v0 : (c : Dev Cert.Ff2DwIdeal.nD) → Buf (Elt Ideal) ((c.tc : Thread Cert.Ff2DwIdeal.nD Cert.Ff2DwIdeal.τ).loc Cert.Ff2DwIdeal.main_v0)),
      θ_run (Cert.Ff2DwIdeal.defs (F := Ideal)) (onTc (τ := Cert.Ff2DwIdeal.τ) (Cert.Ff2DwIdeal.main (F := Ideal))) ⟨m, fun _ => 0, g⟩ (fun r => ∀ c : Dev Cert.Ff2DwIdeal.nD,
          r.2.mem ((c.tc : Thread Cert.Ff2DwIdeal.nD Cert.Ff2DwIdeal.τ).loc Cert.Ff2DwIdeal.main_v0) = v0 c
          ∧ r.2.mem ((c.tc : Thread Cert.Ff2DwIdeal.nD Cert.Ff2DwIdeal.τ).loc Cert.Ff2DwIdeal.main_arg0) = m ((c.tc : Thread Cert.Ff2DwIdeal.nD Cert.Ff2DwIdeal.τ).loc Cert.Ff2DwIdeal.main_arg0)
          ∧ r.2.mem ((c.tc : Thread Cert.Ff2DwIdeal.nD Cert.Ff2DwIdeal.τ).loc Cert.Ff2DwIdeal.main_arg1) = m ((c.tc : Thread Cert.Ff2DwIdeal.nD Cert.Ff2DwIdeal.τ).loc Cert.Ff2DwIdeal.main_arg1))
      ∧ θ_run (Cert.Ff2DwReferenceIdeal.defs (F := Ideal)) (onTc (τ := Cert.Ff2DwReferenceIdeal.τ) (Cert.Ff2DwReferenceIdeal.main (F := Ideal))) ⟨m', fun _ => 0, g'⟩ (fun r => ∀ c : Dev Cert.Ff2DwReferenceIdeal.nD,
          r.2.mem ((c.tc : Thread Cert.Ff2DwReferenceIdeal.nD Cert.Ff2DwReferenceIdeal.τ).loc Cert.Ff2DwReferenceIdeal.main_v7) = v0 c
          ∧ r.2.mem ((c.tc : Thread Cert.Ff2DwReferenceIdeal.nD Cert.Ff2DwReferenceIdeal.τ).loc Cert.Ff2DwReferenceIdeal.main_arg0) = m' ((c.tc : Thread Cert.Ff2DwReferenceIdeal.nD Cert.Ff2DwReferenceIdeal.τ).loc Cert.Ff2DwReferenceIdeal.main_arg0)
          ∧ r.2.mem ((c.tc : Thread Cert.Ff2DwReferenceIdeal.nD Cert.Ff2DwReferenceIdeal.τ).loc Cert.Ff2DwReferenceIdeal.main_arg1) = m' ((c.tc : Thread Cert.Ff2DwReferenceIdeal.nD Cert.Ff2DwReferenceIdeal.τ).loc Cert.Ff2DwReferenceIdeal.main_arg1))

def preserves_Ff2Dlhs_Ff2DlhsIdeal : Prop :=
  True

def algebraic_Ff2DlhsIdeal_Ff2DlhsReferenceIdeal [hFf2DlhsIdeal : Cert.Ff2DlhsIdeal.Facts] [hFf2DlhsReferenceIdeal : Cert.Ff2DlhsReferenceIdeal.Facts] : Prop :=
  ∀ (m : (ℓ : Loc Cert.Ff2DlhsIdeal.nD Cert.Ff2DlhsIdeal.τ Cert.Ff2DlhsIdeal.sig) → Buf (Elt Ideal) ℓ) (g : Dev Cert.Ff2DlhsIdeal.nD → PrngReg)
    (m' : (ℓ : Loc Cert.Ff2DlhsReferenceIdeal.nD Cert.Ff2DlhsReferenceIdeal.τ Cert.Ff2DlhsReferenceIdeal.sig) → Buf (Elt Ideal) ℓ) (g' : Dev Cert.Ff2DlhsReferenceIdeal.nD → PrngReg), Pre_Ff2DlhsIdeal m →
    (∀ c : Dev Cert.Ff2DlhsIdeal.nD,
      m' ((c.tc : Thread Cert.Ff2DlhsReferenceIdeal.nD Cert.Ff2DlhsReferenceIdeal.τ).loc Cert.Ff2DlhsReferenceIdeal.main_arg0) = m ((c.tc : Thread Cert.Ff2DlhsIdeal.nD Cert.Ff2DlhsIdeal.τ).loc Cert.Ff2DlhsIdeal.main_arg0)
      ∧ m' ((c.tc : Thread Cert.Ff2DlhsReferenceIdeal.nD Cert.Ff2DlhsReferenceIdeal.τ).loc Cert.Ff2DlhsReferenceIdeal.main_arg1) = m ((c.tc : Thread Cert.Ff2DlhsIdeal.nD Cert.Ff2DlhsIdeal.τ).loc Cert.Ff2DlhsIdeal.main_arg1)
      ∧ m' ((c.tc : Thread Cert.Ff2DlhsReferenceIdeal.nD Cert.Ff2DlhsReferenceIdeal.τ).loc Cert.Ff2DlhsReferenceIdeal.main_arg2) = m ((c.tc : Thread Cert.Ff2DlhsIdeal.nD Cert.Ff2DlhsIdeal.τ).loc Cert.Ff2DlhsIdeal.main_arg2)) →
    ∃ (v0 : (c : Dev Cert.Ff2DlhsIdeal.nD) → Buf (Elt Ideal) ((c.tc : Thread Cert.Ff2DlhsIdeal.nD Cert.Ff2DlhsIdeal.τ).loc Cert.Ff2DlhsIdeal.main_v0)),
      θ_run (Cert.Ff2DlhsIdeal.defs (F := Ideal)) (onTc (τ := Cert.Ff2DlhsIdeal.τ) (Cert.Ff2DlhsIdeal.main (F := Ideal))) ⟨m, fun _ => 0, g⟩ (fun r => ∀ c : Dev Cert.Ff2DlhsIdeal.nD,
          r.2.mem ((c.tc : Thread Cert.Ff2DlhsIdeal.nD Cert.Ff2DlhsIdeal.τ).loc Cert.Ff2DlhsIdeal.main_v0) = v0 c
          ∧ r.2.mem ((c.tc : Thread Cert.Ff2DlhsIdeal.nD Cert.Ff2DlhsIdeal.τ).loc Cert.Ff2DlhsIdeal.main_arg0) = m ((c.tc : Thread Cert.Ff2DlhsIdeal.nD Cert.Ff2DlhsIdeal.τ).loc Cert.Ff2DlhsIdeal.main_arg0)
          ∧ r.2.mem ((c.tc : Thread Cert.Ff2DlhsIdeal.nD Cert.Ff2DlhsIdeal.τ).loc Cert.Ff2DlhsIdeal.main_arg1) = m ((c.tc : Thread Cert.Ff2DlhsIdeal.nD Cert.Ff2DlhsIdeal.τ).loc Cert.Ff2DlhsIdeal.main_arg1)
          ∧ r.2.mem ((c.tc : Thread Cert.Ff2DlhsIdeal.nD Cert.Ff2DlhsIdeal.τ).loc Cert.Ff2DlhsIdeal.main_arg2) = m ((c.tc : Thread Cert.Ff2DlhsIdeal.nD Cert.Ff2DlhsIdeal.τ).loc Cert.Ff2DlhsIdeal.main_arg2))
      ∧ θ_run (Cert.Ff2DlhsReferenceIdeal.defs (F := Ideal)) (onTc (τ := Cert.Ff2DlhsReferenceIdeal.τ) (Cert.Ff2DlhsReferenceIdeal.main (F := Ideal))) ⟨m', fun _ => 0, g'⟩ (fun r => ∀ c : Dev Cert.Ff2DlhsReferenceIdeal.nD,
          r.2.mem ((c.tc : Thread Cert.Ff2DlhsReferenceIdeal.nD Cert.Ff2DlhsReferenceIdeal.τ).loc Cert.Ff2DlhsReferenceIdeal.main_v9) = v0 c
          ∧ r.2.mem ((c.tc : Thread Cert.Ff2DlhsReferenceIdeal.nD Cert.Ff2DlhsReferenceIdeal.τ).loc Cert.Ff2DlhsReferenceIdeal.main_arg0) = m' ((c.tc : Thread Cert.Ff2DlhsReferenceIdeal.nD Cert.Ff2DlhsReferenceIdeal.τ).loc Cert.Ff2DlhsReferenceIdeal.main_arg0)
          ∧ r.2.mem ((c.tc : Thread Cert.Ff2DlhsReferenceIdeal.nD Cert.Ff2DlhsReferenceIdeal.τ).loc Cert.Ff2DlhsReferenceIdeal.main_arg1) = m' ((c.tc : Thread Cert.Ff2DlhsReferenceIdeal.nD Cert.Ff2DlhsReferenceIdeal.τ).loc Cert.Ff2DlhsReferenceIdeal.main_arg1)
          ∧ r.2.mem ((c.tc : Thread Cert.Ff2DlhsReferenceIdeal.nD Cert.Ff2DlhsReferenceIdeal.τ).loc Cert.Ff2DlhsReferenceIdeal.main_arg2) = m' ((c.tc : Thread Cert.Ff2DlhsReferenceIdeal.nD Cert.Ff2DlhsReferenceIdeal.τ).loc Cert.Ff2DlhsReferenceIdeal.main_arg2))

def preserves_Ff1Dlhs_Ff1DlhsIdeal : Prop :=
  True

def algebraic_Ff1DlhsIdeal_Ff1DlhsReferenceIdeal [hFf1DlhsIdeal : Cert.Ff1DlhsIdeal.Facts] [hFf1DlhsReferenceIdeal : Cert.Ff1DlhsReferenceIdeal.Facts] : Prop :=
  ∀ (m : (ℓ : Loc Cert.Ff1DlhsIdeal.nD Cert.Ff1DlhsIdeal.τ Cert.Ff1DlhsIdeal.sig) → Buf (Elt Ideal) ℓ) (g : Dev Cert.Ff1DlhsIdeal.nD → PrngReg)
    (m' : (ℓ : Loc Cert.Ff1DlhsReferenceIdeal.nD Cert.Ff1DlhsReferenceIdeal.τ Cert.Ff1DlhsReferenceIdeal.sig) → Buf (Elt Ideal) ℓ) (g' : Dev Cert.Ff1DlhsReferenceIdeal.nD → PrngReg), Pre_Ff1DlhsIdeal m →
    (∀ c : Dev Cert.Ff1DlhsIdeal.nD,
      m' ((c.tc : Thread Cert.Ff1DlhsReferenceIdeal.nD Cert.Ff1DlhsReferenceIdeal.τ).loc Cert.Ff1DlhsReferenceIdeal.main_arg0) = m ((c.tc : Thread Cert.Ff1DlhsIdeal.nD Cert.Ff1DlhsIdeal.τ).loc Cert.Ff1DlhsIdeal.main_arg0)
      ∧ m' ((c.tc : Thread Cert.Ff1DlhsReferenceIdeal.nD Cert.Ff1DlhsReferenceIdeal.τ).loc Cert.Ff1DlhsReferenceIdeal.main_arg1) = m ((c.tc : Thread Cert.Ff1DlhsIdeal.nD Cert.Ff1DlhsIdeal.τ).loc Cert.Ff1DlhsIdeal.main_arg1)) →
    ∃ (v0 : (c : Dev Cert.Ff1DlhsIdeal.nD) → Buf (Elt Ideal) ((c.tc : Thread Cert.Ff1DlhsIdeal.nD Cert.Ff1DlhsIdeal.τ).loc Cert.Ff1DlhsIdeal.main_v0)),
      θ_run (Cert.Ff1DlhsIdeal.defs (F := Ideal)) (onTc (τ := Cert.Ff1DlhsIdeal.τ) (Cert.Ff1DlhsIdeal.main (F := Ideal))) ⟨m, fun _ => 0, g⟩ (fun r => ∀ c : Dev Cert.Ff1DlhsIdeal.nD,
          r.2.mem ((c.tc : Thread Cert.Ff1DlhsIdeal.nD Cert.Ff1DlhsIdeal.τ).loc Cert.Ff1DlhsIdeal.main_v0) = v0 c
          ∧ r.2.mem ((c.tc : Thread Cert.Ff1DlhsIdeal.nD Cert.Ff1DlhsIdeal.τ).loc Cert.Ff1DlhsIdeal.main_arg0) = m ((c.tc : Thread Cert.Ff1DlhsIdeal.nD Cert.Ff1DlhsIdeal.τ).loc Cert.Ff1DlhsIdeal.main_arg0)
          ∧ r.2.mem ((c.tc : Thread Cert.Ff1DlhsIdeal.nD Cert.Ff1DlhsIdeal.τ).loc Cert.Ff1DlhsIdeal.main_arg1) = m ((c.tc : Thread Cert.Ff1DlhsIdeal.nD Cert.Ff1DlhsIdeal.τ).loc Cert.Ff1DlhsIdeal.main_arg1))
      ∧ θ_run (Cert.Ff1DlhsReferenceIdeal.defs (F := Ideal)) (onTc (τ := Cert.Ff1DlhsReferenceIdeal.τ) (Cert.Ff1DlhsReferenceIdeal.main (F := Ideal))) ⟨m', fun _ => 0, g'⟩ (fun r => ∀ c : Dev Cert.Ff1DlhsReferenceIdeal.nD,
          r.2.mem ((c.tc : Thread Cert.Ff1DlhsReferenceIdeal.nD Cert.Ff1DlhsReferenceIdeal.τ).loc Cert.Ff1DlhsReferenceIdeal.main_v6) = v0 c
          ∧ r.2.mem ((c.tc : Thread Cert.Ff1DlhsReferenceIdeal.nD Cert.Ff1DlhsReferenceIdeal.τ).loc Cert.Ff1DlhsReferenceIdeal.main_arg0) = m' ((c.tc : Thread Cert.Ff1DlhsReferenceIdeal.nD Cert.Ff1DlhsReferenceIdeal.τ).loc Cert.Ff1DlhsReferenceIdeal.main_arg0)
          ∧ r.2.mem ((c.tc : Thread Cert.Ff1DlhsReferenceIdeal.nD Cert.Ff1DlhsReferenceIdeal.τ).loc Cert.Ff1DlhsReferenceIdeal.main_arg1) = m' ((c.tc : Thread Cert.Ff1DlhsReferenceIdeal.nD Cert.Ff1DlhsReferenceIdeal.τ).loc Cert.Ff1DlhsReferenceIdeal.main_arg1))

def preserves_Ff1Dw_Ff1DwIdeal : Prop :=
  True

def algebraic_Ff1DwIdeal_Ff1DwReferenceIdeal [hFf1DwIdeal : Cert.Ff1DwIdeal.Facts] [hFf1DwReferenceIdeal : Cert.Ff1DwReferenceIdeal.Facts] : Prop :=
  ∀ (m : (ℓ : Loc Cert.Ff1DwIdeal.nD Cert.Ff1DwIdeal.τ Cert.Ff1DwIdeal.sig) → Buf (Elt Ideal) ℓ) (g : Dev Cert.Ff1DwIdeal.nD → PrngReg)
    (m' : (ℓ : Loc Cert.Ff1DwReferenceIdeal.nD Cert.Ff1DwReferenceIdeal.τ Cert.Ff1DwReferenceIdeal.sig) → Buf (Elt Ideal) ℓ) (g' : Dev Cert.Ff1DwReferenceIdeal.nD → PrngReg), Pre_Ff1DwIdeal m →
    (∀ c : Dev Cert.Ff1DwIdeal.nD,
      m' ((c.tc : Thread Cert.Ff1DwReferenceIdeal.nD Cert.Ff1DwReferenceIdeal.τ).loc Cert.Ff1DwReferenceIdeal.main_arg0) = m ((c.tc : Thread Cert.Ff1DwIdeal.nD Cert.Ff1DwIdeal.τ).loc Cert.Ff1DwIdeal.main_arg0)
      ∧ m' ((c.tc : Thread Cert.Ff1DwReferenceIdeal.nD Cert.Ff1DwReferenceIdeal.τ).loc Cert.Ff1DwReferenceIdeal.main_arg1) = m ((c.tc : Thread Cert.Ff1DwIdeal.nD Cert.Ff1DwIdeal.τ).loc Cert.Ff1DwIdeal.main_arg1)) →
    ∃ (v0 : (c : Dev Cert.Ff1DwIdeal.nD) → Buf (Elt Ideal) ((c.tc : Thread Cert.Ff1DwIdeal.nD Cert.Ff1DwIdeal.τ).loc Cert.Ff1DwIdeal.main_v0)),
      θ_run (Cert.Ff1DwIdeal.defs (F := Ideal)) (onTc (τ := Cert.Ff1DwIdeal.τ) (Cert.Ff1DwIdeal.main (F := Ideal))) ⟨m, fun _ => 0, g⟩ (fun r => ∀ c : Dev Cert.Ff1DwIdeal.nD,
          r.2.mem ((c.tc : Thread Cert.Ff1DwIdeal.nD Cert.Ff1DwIdeal.τ).loc Cert.Ff1DwIdeal.main_v0) = v0 c
          ∧ r.2.mem ((c.tc : Thread Cert.Ff1DwIdeal.nD Cert.Ff1DwIdeal.τ).loc Cert.Ff1DwIdeal.main_arg0) = m ((c.tc : Thread Cert.Ff1DwIdeal.nD Cert.Ff1DwIdeal.τ).loc Cert.Ff1DwIdeal.main_arg0)
          ∧ r.2.mem ((c.tc : Thread Cert.Ff1DwIdeal.nD Cert.Ff1DwIdeal.τ).loc Cert.Ff1DwIdeal.main_arg1) = m ((c.tc : Thread Cert.Ff1DwIdeal.nD Cert.Ff1DwIdeal.τ).loc Cert.Ff1DwIdeal.main_arg1))
      ∧ θ_run (Cert.Ff1DwReferenceIdeal.defs (F := Ideal)) (onTc (τ := Cert.Ff1DwReferenceIdeal.τ) (Cert.Ff1DwReferenceIdeal.main (F := Ideal))) ⟨m', fun _ => 0, g'⟩ (fun r => ∀ c : Dev Cert.Ff1DwReferenceIdeal.nD,
          r.2.mem ((c.tc : Thread Cert.Ff1DwReferenceIdeal.nD Cert.Ff1DwReferenceIdeal.τ).loc Cert.Ff1DwReferenceIdeal.main_v8) = v0 c
          ∧ r.2.mem ((c.tc : Thread Cert.Ff1DwReferenceIdeal.nD Cert.Ff1DwReferenceIdeal.τ).loc Cert.Ff1DwReferenceIdeal.main_arg0) = m' ((c.tc : Thread Cert.Ff1DwReferenceIdeal.nD Cert.Ff1DwReferenceIdeal.τ).loc Cert.Ff1DwReferenceIdeal.main_arg0)
          ∧ r.2.mem ((c.tc : Thread Cert.Ff1DwReferenceIdeal.nD Cert.Ff1DwReferenceIdeal.τ).loc Cert.Ff1DwReferenceIdeal.main_arg1) = m' ((c.tc : Thread Cert.Ff1DwReferenceIdeal.nD Cert.Ff1DwReferenceIdeal.τ).loc Cert.Ff1DwReferenceIdeal.main_arg1))

def preserves_OutProjDw_OutProjDwIdeal : Prop :=
  True

def algebraic_OutProjDwIdeal_OutProjDwReferenceIdeal [hOutProjDwIdeal : Cert.OutProjDwIdeal.Facts] [hOutProjDwReferenceIdeal : Cert.OutProjDwReferenceIdeal.Facts] : Prop :=
  ∀ (m : (ℓ : Loc Cert.OutProjDwIdeal.nD Cert.OutProjDwIdeal.τ Cert.OutProjDwIdeal.sig) → Buf (Elt Ideal) ℓ) (g : Dev Cert.OutProjDwIdeal.nD → PrngReg)
    (m' : (ℓ : Loc Cert.OutProjDwReferenceIdeal.nD Cert.OutProjDwReferenceIdeal.τ Cert.OutProjDwReferenceIdeal.sig) → Buf (Elt Ideal) ℓ) (g' : Dev Cert.OutProjDwReferenceIdeal.nD → PrngReg), Pre_OutProjDwIdeal m →
    (∀ c : Dev Cert.OutProjDwIdeal.nD,
      m' ((c.tc : Thread Cert.OutProjDwReferenceIdeal.nD Cert.OutProjDwReferenceIdeal.τ).loc Cert.OutProjDwReferenceIdeal.main_arg0) = m ((c.tc : Thread Cert.OutProjDwIdeal.nD Cert.OutProjDwIdeal.τ).loc Cert.OutProjDwIdeal.main_arg0)
      ∧ m' ((c.tc : Thread Cert.OutProjDwReferenceIdeal.nD Cert.OutProjDwReferenceIdeal.τ).loc Cert.OutProjDwReferenceIdeal.main_arg1) = m ((c.tc : Thread Cert.OutProjDwIdeal.nD Cert.OutProjDwIdeal.τ).loc Cert.OutProjDwIdeal.main_arg1)) →
    ∃ (v0 : (c : Dev Cert.OutProjDwIdeal.nD) → Buf (Elt Ideal) ((c.tc : Thread Cert.OutProjDwIdeal.nD Cert.OutProjDwIdeal.τ).loc Cert.OutProjDwIdeal.main_v0)),
      θ_run (Cert.OutProjDwIdeal.defs (F := Ideal)) (onTc (τ := Cert.OutProjDwIdeal.τ) (Cert.OutProjDwIdeal.main (F := Ideal))) ⟨m, fun _ => 0, g⟩ (fun r => ∀ c : Dev Cert.OutProjDwIdeal.nD,
          r.2.mem ((c.tc : Thread Cert.OutProjDwIdeal.nD Cert.OutProjDwIdeal.τ).loc Cert.OutProjDwIdeal.main_v0) = v0 c
          ∧ r.2.mem ((c.tc : Thread Cert.OutProjDwIdeal.nD Cert.OutProjDwIdeal.τ).loc Cert.OutProjDwIdeal.main_arg0) = m ((c.tc : Thread Cert.OutProjDwIdeal.nD Cert.OutProjDwIdeal.τ).loc Cert.OutProjDwIdeal.main_arg0)
          ∧ r.2.mem ((c.tc : Thread Cert.OutProjDwIdeal.nD Cert.OutProjDwIdeal.τ).loc Cert.OutProjDwIdeal.main_arg1) = m ((c.tc : Thread Cert.OutProjDwIdeal.nD Cert.OutProjDwIdeal.τ).loc Cert.OutProjDwIdeal.main_arg1))
      ∧ θ_run (Cert.OutProjDwReferenceIdeal.defs (F := Ideal)) (onTc (τ := Cert.OutProjDwReferenceIdeal.τ) (Cert.OutProjDwReferenceIdeal.main (F := Ideal))) ⟨m', fun _ => 0, g'⟩ (fun r => ∀ c : Dev Cert.OutProjDwReferenceIdeal.nD,
          r.2.mem ((c.tc : Thread Cert.OutProjDwReferenceIdeal.nD Cert.OutProjDwReferenceIdeal.τ).loc Cert.OutProjDwReferenceIdeal.main_v6) = v0 c
          ∧ r.2.mem ((c.tc : Thread Cert.OutProjDwReferenceIdeal.nD Cert.OutProjDwReferenceIdeal.τ).loc Cert.OutProjDwReferenceIdeal.main_arg0) = m' ((c.tc : Thread Cert.OutProjDwReferenceIdeal.nD Cert.OutProjDwReferenceIdeal.τ).loc Cert.OutProjDwReferenceIdeal.main_arg0)
          ∧ r.2.mem ((c.tc : Thread Cert.OutProjDwReferenceIdeal.nD Cert.OutProjDwReferenceIdeal.τ).loc Cert.OutProjDwReferenceIdeal.main_arg1) = m' ((c.tc : Thread Cert.OutProjDwReferenceIdeal.nD Cert.OutProjDwReferenceIdeal.τ).loc Cert.OutProjDwReferenceIdeal.main_arg1))

def preserves_OutProjDlhs_OutProjDlhsIdeal : Prop :=
  True

def algebraic_OutProjDlhsIdeal_OutProjDlhsReferenceIdeal [hOutProjDlhsIdeal : Cert.OutProjDlhsIdeal.Facts] [hOutProjDlhsReferenceIdeal : Cert.OutProjDlhsReferenceIdeal.Facts] : Prop :=
  ∀ (m : (ℓ : Loc Cert.OutProjDlhsIdeal.nD Cert.OutProjDlhsIdeal.τ Cert.OutProjDlhsIdeal.sig) → Buf (Elt Ideal) ℓ) (g : Dev Cert.OutProjDlhsIdeal.nD → PrngReg)
    (m' : (ℓ : Loc Cert.OutProjDlhsReferenceIdeal.nD Cert.OutProjDlhsReferenceIdeal.τ Cert.OutProjDlhsReferenceIdeal.sig) → Buf (Elt Ideal) ℓ) (g' : Dev Cert.OutProjDlhsReferenceIdeal.nD → PrngReg), Pre_OutProjDlhsIdeal m →
    (∀ c : Dev Cert.OutProjDlhsIdeal.nD,
      m' ((c.tc : Thread Cert.OutProjDlhsReferenceIdeal.nD Cert.OutProjDlhsReferenceIdeal.τ).loc Cert.OutProjDlhsReferenceIdeal.main_arg0) = m ((c.tc : Thread Cert.OutProjDlhsIdeal.nD Cert.OutProjDlhsIdeal.τ).loc Cert.OutProjDlhsIdeal.main_arg0)
      ∧ m' ((c.tc : Thread Cert.OutProjDlhsReferenceIdeal.nD Cert.OutProjDlhsReferenceIdeal.τ).loc Cert.OutProjDlhsReferenceIdeal.main_arg1) = m ((c.tc : Thread Cert.OutProjDlhsIdeal.nD Cert.OutProjDlhsIdeal.τ).loc Cert.OutProjDlhsIdeal.main_arg1)) →
    ∃ (v0 : (c : Dev Cert.OutProjDlhsIdeal.nD) → Buf (Elt Ideal) ((c.tc : Thread Cert.OutProjDlhsIdeal.nD Cert.OutProjDlhsIdeal.τ).loc Cert.OutProjDlhsIdeal.main_v0)),
      θ_run (Cert.OutProjDlhsIdeal.defs (F := Ideal)) (onTc (τ := Cert.OutProjDlhsIdeal.τ) (Cert.OutProjDlhsIdeal.main (F := Ideal))) ⟨m, fun _ => 0, g⟩ (fun r => ∀ c : Dev Cert.OutProjDlhsIdeal.nD,
          r.2.mem ((c.tc : Thread Cert.OutProjDlhsIdeal.nD Cert.OutProjDlhsIdeal.τ).loc Cert.OutProjDlhsIdeal.main_v0) = v0 c
          ∧ r.2.mem ((c.tc : Thread Cert.OutProjDlhsIdeal.nD Cert.OutProjDlhsIdeal.τ).loc Cert.OutProjDlhsIdeal.main_arg0) = m ((c.tc : Thread Cert.OutProjDlhsIdeal.nD Cert.OutProjDlhsIdeal.τ).loc Cert.OutProjDlhsIdeal.main_arg0)
          ∧ r.2.mem ((c.tc : Thread Cert.OutProjDlhsIdeal.nD Cert.OutProjDlhsIdeal.τ).loc Cert.OutProjDlhsIdeal.main_arg1) = m ((c.tc : Thread Cert.OutProjDlhsIdeal.nD Cert.OutProjDlhsIdeal.τ).loc Cert.OutProjDlhsIdeal.main_arg1))
      ∧ θ_run (Cert.OutProjDlhsReferenceIdeal.defs (F := Ideal)) (onTc (τ := Cert.OutProjDlhsReferenceIdeal.τ) (Cert.OutProjDlhsReferenceIdeal.main (F := Ideal))) ⟨m', fun _ => 0, g'⟩ (fun r => ∀ c : Dev Cert.OutProjDlhsReferenceIdeal.nD,
          r.2.mem ((c.tc : Thread Cert.OutProjDlhsReferenceIdeal.nD Cert.OutProjDlhsReferenceIdeal.τ).loc Cert.OutProjDlhsReferenceIdeal.main_v4) = v0 c
          ∧ r.2.mem ((c.tc : Thread Cert.OutProjDlhsReferenceIdeal.nD Cert.OutProjDlhsReferenceIdeal.τ).loc Cert.OutProjDlhsReferenceIdeal.main_arg0) = m' ((c.tc : Thread Cert.OutProjDlhsReferenceIdeal.nD Cert.OutProjDlhsReferenceIdeal.τ).loc Cert.OutProjDlhsReferenceIdeal.main_arg0)
          ∧ r.2.mem ((c.tc : Thread Cert.OutProjDlhsReferenceIdeal.nD Cert.OutProjDlhsReferenceIdeal.τ).loc Cert.OutProjDlhsReferenceIdeal.main_arg1) = m' ((c.tc : Thread Cert.OutProjDlhsReferenceIdeal.nD Cert.OutProjDlhsReferenceIdeal.τ).loc Cert.OutProjDlhsReferenceIdeal.main_arg1))

def preserves_InProjDw_InProjDwIdeal : Prop :=
  True

def algebraic_InProjDwIdeal_InProjDwReferenceIdeal [hInProjDwIdeal : Cert.InProjDwIdeal.Facts] [hInProjDwReferenceIdeal : Cert.InProjDwReferenceIdeal.Facts] : Prop :=
  ∀ (m : (ℓ : Loc Cert.InProjDwIdeal.nD Cert.InProjDwIdeal.τ Cert.InProjDwIdeal.sig) → Buf (Elt Ideal) ℓ) (g : Dev Cert.InProjDwIdeal.nD → PrngReg)
    (m' : (ℓ : Loc Cert.InProjDwReferenceIdeal.nD Cert.InProjDwReferenceIdeal.τ Cert.InProjDwReferenceIdeal.sig) → Buf (Elt Ideal) ℓ) (g' : Dev Cert.InProjDwReferenceIdeal.nD → PrngReg), Pre_InProjDwIdeal m →
    (∀ c : Dev Cert.InProjDwIdeal.nD,
      m' ((c.tc : Thread Cert.InProjDwReferenceIdeal.nD Cert.InProjDwReferenceIdeal.τ).loc Cert.InProjDwReferenceIdeal.main_arg0) = m ((c.tc : Thread Cert.InProjDwIdeal.nD Cert.InProjDwIdeal.τ).loc Cert.InProjDwIdeal.main_arg0)
      ∧ m' ((c.tc : Thread Cert.InProjDwReferenceIdeal.nD Cert.InProjDwReferenceIdeal.τ).loc Cert.InProjDwReferenceIdeal.main_arg1) = m ((c.tc : Thread Cert.InProjDwIdeal.nD Cert.InProjDwIdeal.τ).loc Cert.InProjDwIdeal.main_arg1)) →
    ∃ (v0 : (c : Dev Cert.InProjDwIdeal.nD) → Buf (Elt Ideal) ((c.tc : Thread Cert.InProjDwIdeal.nD Cert.InProjDwIdeal.τ).loc Cert.InProjDwIdeal.main_v0)),
      θ_run (Cert.InProjDwIdeal.defs (F := Ideal)) (onTc (τ := Cert.InProjDwIdeal.τ) (Cert.InProjDwIdeal.main (F := Ideal))) ⟨m, fun _ => 0, g⟩ (fun r => ∀ c : Dev Cert.InProjDwIdeal.nD,
          r.2.mem ((c.tc : Thread Cert.InProjDwIdeal.nD Cert.InProjDwIdeal.τ).loc Cert.InProjDwIdeal.main_v0) = v0 c
          ∧ r.2.mem ((c.tc : Thread Cert.InProjDwIdeal.nD Cert.InProjDwIdeal.τ).loc Cert.InProjDwIdeal.main_arg0) = m ((c.tc : Thread Cert.InProjDwIdeal.nD Cert.InProjDwIdeal.τ).loc Cert.InProjDwIdeal.main_arg0)
          ∧ r.2.mem ((c.tc : Thread Cert.InProjDwIdeal.nD Cert.InProjDwIdeal.τ).loc Cert.InProjDwIdeal.main_arg1) = m ((c.tc : Thread Cert.InProjDwIdeal.nD Cert.InProjDwIdeal.τ).loc Cert.InProjDwIdeal.main_arg1))
      ∧ θ_run (Cert.InProjDwReferenceIdeal.defs (F := Ideal)) (onTc (τ := Cert.InProjDwReferenceIdeal.τ) (Cert.InProjDwReferenceIdeal.main (F := Ideal))) ⟨m', fun _ => 0, g'⟩ (fun r => ∀ c : Dev Cert.InProjDwReferenceIdeal.nD,
          r.2.mem ((c.tc : Thread Cert.InProjDwReferenceIdeal.nD Cert.InProjDwReferenceIdeal.τ).loc Cert.InProjDwReferenceIdeal.main_v5) = v0 c
          ∧ r.2.mem ((c.tc : Thread Cert.InProjDwReferenceIdeal.nD Cert.InProjDwReferenceIdeal.τ).loc Cert.InProjDwReferenceIdeal.main_arg0) = m' ((c.tc : Thread Cert.InProjDwReferenceIdeal.nD Cert.InProjDwReferenceIdeal.τ).loc Cert.InProjDwReferenceIdeal.main_arg0)
          ∧ r.2.mem ((c.tc : Thread Cert.InProjDwReferenceIdeal.nD Cert.InProjDwReferenceIdeal.τ).loc Cert.InProjDwReferenceIdeal.main_arg1) = m' ((c.tc : Thread Cert.InProjDwReferenceIdeal.nD Cert.InProjDwReferenceIdeal.τ).loc Cert.InProjDwReferenceIdeal.main_arg1))

def preserves_InProjDlhs_InProjDlhsIdeal : Prop :=
  True

def algebraic_InProjDlhsIdeal_InProjDlhsReferenceIdeal [hInProjDlhsIdeal : Cert.InProjDlhsIdeal.Facts] [hInProjDlhsReferenceIdeal : Cert.InProjDlhsReferenceIdeal.Facts] : Prop :=
  ∀ (m : (ℓ : Loc Cert.InProjDlhsIdeal.nD Cert.InProjDlhsIdeal.τ Cert.InProjDlhsIdeal.sig) → Buf (Elt Ideal) ℓ) (g : Dev Cert.InProjDlhsIdeal.nD → PrngReg)
    (m' : (ℓ : Loc Cert.InProjDlhsReferenceIdeal.nD Cert.InProjDlhsReferenceIdeal.τ Cert.InProjDlhsReferenceIdeal.sig) → Buf (Elt Ideal) ℓ) (g' : Dev Cert.InProjDlhsReferenceIdeal.nD → PrngReg), Pre_InProjDlhsIdeal m →
    (∀ c : Dev Cert.InProjDlhsIdeal.nD,
      m' ((c.tc : Thread Cert.InProjDlhsReferenceIdeal.nD Cert.InProjDlhsReferenceIdeal.τ).loc Cert.InProjDlhsReferenceIdeal.main_arg0) = m ((c.tc : Thread Cert.InProjDlhsIdeal.nD Cert.InProjDlhsIdeal.τ).loc Cert.InProjDlhsIdeal.main_arg0)
      ∧ m' ((c.tc : Thread Cert.InProjDlhsReferenceIdeal.nD Cert.InProjDlhsReferenceIdeal.τ).loc Cert.InProjDlhsReferenceIdeal.main_arg1) = m ((c.tc : Thread Cert.InProjDlhsIdeal.nD Cert.InProjDlhsIdeal.τ).loc Cert.InProjDlhsIdeal.main_arg1)
      ∧ m' ((c.tc : Thread Cert.InProjDlhsReferenceIdeal.nD Cert.InProjDlhsReferenceIdeal.τ).loc Cert.InProjDlhsReferenceIdeal.main_arg2) = m ((c.tc : Thread Cert.InProjDlhsIdeal.nD Cert.InProjDlhsIdeal.τ).loc Cert.InProjDlhsIdeal.main_arg2)) →
    ∃ (v0 : (c : Dev Cert.InProjDlhsIdeal.nD) → Buf (Elt Ideal) ((c.tc : Thread Cert.InProjDlhsIdeal.nD Cert.InProjDlhsIdeal.τ).loc Cert.InProjDlhsIdeal.main_v0)),
      θ_run (Cert.InProjDlhsIdeal.defs (F := Ideal)) (onTc (τ := Cert.InProjDlhsIdeal.τ) (Cert.InProjDlhsIdeal.main (F := Ideal))) ⟨m, fun _ => 0, g⟩ (fun r => ∀ c : Dev Cert.InProjDlhsIdeal.nD,
          r.2.mem ((c.tc : Thread Cert.InProjDlhsIdeal.nD Cert.InProjDlhsIdeal.τ).loc Cert.InProjDlhsIdeal.main_v0) = v0 c
          ∧ r.2.mem ((c.tc : Thread Cert.InProjDlhsIdeal.nD Cert.InProjDlhsIdeal.τ).loc Cert.InProjDlhsIdeal.main_arg0) = m ((c.tc : Thread Cert.InProjDlhsIdeal.nD Cert.InProjDlhsIdeal.τ).loc Cert.InProjDlhsIdeal.main_arg0)
          ∧ r.2.mem ((c.tc : Thread Cert.InProjDlhsIdeal.nD Cert.InProjDlhsIdeal.τ).loc Cert.InProjDlhsIdeal.main_arg1) = m ((c.tc : Thread Cert.InProjDlhsIdeal.nD Cert.InProjDlhsIdeal.τ).loc Cert.InProjDlhsIdeal.main_arg1)
          ∧ r.2.mem ((c.tc : Thread Cert.InProjDlhsIdeal.nD Cert.InProjDlhsIdeal.τ).loc Cert.InProjDlhsIdeal.main_arg2) = m ((c.tc : Thread Cert.InProjDlhsIdeal.nD Cert.InProjDlhsIdeal.τ).loc Cert.InProjDlhsIdeal.main_arg2))
      ∧ θ_run (Cert.InProjDlhsReferenceIdeal.defs (F := Ideal)) (onTc (τ := Cert.InProjDlhsReferenceIdeal.τ) (Cert.InProjDlhsReferenceIdeal.main (F := Ideal))) ⟨m', fun _ => 0, g'⟩ (fun r => ∀ c : Dev Cert.InProjDlhsReferenceIdeal.nD,
          r.2.mem ((c.tc : Thread Cert.InProjDlhsReferenceIdeal.nD Cert.InProjDlhsReferenceIdeal.τ).loc Cert.InProjDlhsReferenceIdeal.main_v5) = v0 c
          ∧ r.2.mem ((c.tc : Thread Cert.InProjDlhsReferenceIdeal.nD Cert.InProjDlhsReferenceIdeal.τ).loc Cert.InProjDlhsReferenceIdeal.main_arg0) = m' ((c.tc : Thread Cert.InProjDlhsReferenceIdeal.nD Cert.InProjDlhsReferenceIdeal.τ).loc Cert.InProjDlhsReferenceIdeal.main_arg0)
          ∧ r.2.mem ((c.tc : Thread Cert.InProjDlhsReferenceIdeal.nD Cert.InProjDlhsReferenceIdeal.τ).loc Cert.InProjDlhsReferenceIdeal.main_arg1) = m' ((c.tc : Thread Cert.InProjDlhsReferenceIdeal.nD Cert.InProjDlhsReferenceIdeal.τ).loc Cert.InProjDlhsReferenceIdeal.main_arg1)
          ∧ r.2.mem ((c.tc : Thread Cert.InProjDlhsReferenceIdeal.nD Cert.InProjDlhsReferenceIdeal.τ).loc Cert.InProjDlhsReferenceIdeal.main_arg2) = m' ((c.tc : Thread Cert.InProjDlhsReferenceIdeal.nD Cert.InProjDlhsReferenceIdeal.τ).loc Cert.InProjDlhsReferenceIdeal.main_arg2))

def preserves_AdamwIn_AdamwInIdeal : Prop :=
  True

def algebraic_AdamwInIdeal_AdamwInReferenceIdeal [hAdamwInIdeal : Cert.AdamwInIdeal.Facts] [hAdamwInReferenceIdeal : Cert.AdamwInReferenceIdeal.Facts] : Prop :=
  ∀ (m : (ℓ : Loc Cert.AdamwInIdeal.nD Cert.AdamwInIdeal.τ Cert.AdamwInIdeal.sig) → Buf (Elt Ideal) ℓ) (g : Dev Cert.AdamwInIdeal.nD → PrngReg)
    (m' : (ℓ : Loc Cert.AdamwInReferenceIdeal.nD Cert.AdamwInReferenceIdeal.τ Cert.AdamwInReferenceIdeal.sig) → Buf (Elt Ideal) ℓ) (g' : Dev Cert.AdamwInReferenceIdeal.nD → PrngReg), Pre_AdamwInIdeal m →
    (∀ c : Dev Cert.AdamwInIdeal.nD,
      m' ((c.tc : Thread Cert.AdamwInReferenceIdeal.nD Cert.AdamwInReferenceIdeal.τ).loc Cert.AdamwInReferenceIdeal.main_arg0) = m ((c.tc : Thread Cert.AdamwInIdeal.nD Cert.AdamwInIdeal.τ).loc Cert.AdamwInIdeal.main_arg0)
      ∧ m' ((c.tc : Thread Cert.AdamwInReferenceIdeal.nD Cert.AdamwInReferenceIdeal.τ).loc Cert.AdamwInReferenceIdeal.main_arg1) = m ((c.tc : Thread Cert.AdamwInIdeal.nD Cert.AdamwInIdeal.τ).loc Cert.AdamwInIdeal.main_arg1)
      ∧ m' ((c.tc : Thread Cert.AdamwInReferenceIdeal.nD Cert.AdamwInReferenceIdeal.τ).loc Cert.AdamwInReferenceIdeal.main_arg2) = m ((c.tc : Thread Cert.AdamwInIdeal.nD Cert.AdamwInIdeal.τ).loc Cert.AdamwInIdeal.main_arg2)
      ∧ m' ((c.tc : Thread Cert.AdamwInReferenceIdeal.nD Cert.AdamwInReferenceIdeal.τ).loc Cert.AdamwInReferenceIdeal.main_arg3) = m ((c.tc : Thread Cert.AdamwInIdeal.nD Cert.AdamwInIdeal.τ).loc Cert.AdamwInIdeal.main_arg3)) →
    ∃ (v0 : (c : Dev Cert.AdamwInIdeal.nD) → Buf (Elt Ideal) ((c.tc : Thread Cert.AdamwInIdeal.nD Cert.AdamwInIdeal.τ).loc Cert.AdamwInIdeal.main_v0_0)) (v1 : (c : Dev Cert.AdamwInIdeal.nD) → Buf (Elt Ideal) ((c.tc : Thread Cert.AdamwInIdeal.nD Cert.AdamwInIdeal.τ).loc Cert.AdamwInIdeal.main_v0_1)) (v2 : (c : Dev Cert.AdamwInIdeal.nD) → Buf (Elt Ideal) ((c.tc : Thread Cert.AdamwInIdeal.nD Cert.AdamwInIdeal.τ).loc Cert.AdamwInIdeal.main_v0_2)) (v3 : (c : Dev Cert.AdamwInIdeal.nD) → Buf (Elt Ideal) ((c.tc : Thread Cert.AdamwInIdeal.nD Cert.AdamwInIdeal.τ).loc Cert.AdamwInIdeal.main_v0_3)),
      θ_run (Cert.AdamwInIdeal.defs (F := Ideal)) (onTc (τ := Cert.AdamwInIdeal.τ) (Cert.AdamwInIdeal.main (F := Ideal))) ⟨m, fun _ => 0, g⟩ (fun r => ∀ c : Dev Cert.AdamwInIdeal.nD,
          r.2.mem ((c.tc : Thread Cert.AdamwInIdeal.nD Cert.AdamwInIdeal.τ).loc Cert.AdamwInIdeal.main_v0_0) = v0 c
          ∧ r.2.mem ((c.tc : Thread Cert.AdamwInIdeal.nD Cert.AdamwInIdeal.τ).loc Cert.AdamwInIdeal.main_v0_1) = v1 c
          ∧ r.2.mem ((c.tc : Thread Cert.AdamwInIdeal.nD Cert.AdamwInIdeal.τ).loc Cert.AdamwInIdeal.main_v0_2) = v2 c
          ∧ r.2.mem ((c.tc : Thread Cert.AdamwInIdeal.nD Cert.AdamwInIdeal.τ).loc Cert.AdamwInIdeal.main_v0_3) = v3 c
          ∧ r.2.mem ((c.tc : Thread Cert.AdamwInIdeal.nD Cert.AdamwInIdeal.τ).loc Cert.AdamwInIdeal.main_arg0) = m ((c.tc : Thread Cert.AdamwInIdeal.nD Cert.AdamwInIdeal.τ).loc Cert.AdamwInIdeal.main_arg0)
          ∧ r.2.mem ((c.tc : Thread Cert.AdamwInIdeal.nD Cert.AdamwInIdeal.τ).loc Cert.AdamwInIdeal.main_arg1) = m ((c.tc : Thread Cert.AdamwInIdeal.nD Cert.AdamwInIdeal.τ).loc Cert.AdamwInIdeal.main_arg1)
          ∧ r.2.mem ((c.tc : Thread Cert.AdamwInIdeal.nD Cert.AdamwInIdeal.τ).loc Cert.AdamwInIdeal.main_arg2) = m ((c.tc : Thread Cert.AdamwInIdeal.nD Cert.AdamwInIdeal.τ).loc Cert.AdamwInIdeal.main_arg2)
          ∧ r.2.mem ((c.tc : Thread Cert.AdamwInIdeal.nD Cert.AdamwInIdeal.τ).loc Cert.AdamwInIdeal.main_arg3) = m ((c.tc : Thread Cert.AdamwInIdeal.nD Cert.AdamwInIdeal.τ).loc Cert.AdamwInIdeal.main_arg3))
      ∧ θ_run (Cert.AdamwInReferenceIdeal.defs (F := Ideal)) (onTc (τ := Cert.AdamwInReferenceIdeal.τ) (Cert.AdamwInReferenceIdeal.main (F := Ideal))) ⟨m', fun _ => 0, g'⟩ (fun r => ∀ c : Dev Cert.AdamwInReferenceIdeal.nD,
          r.2.mem ((c.tc : Thread Cert.AdamwInReferenceIdeal.nD Cert.AdamwInReferenceIdeal.τ).loc Cert.AdamwInReferenceIdeal.main_arg1) = v0 c
          ∧ r.2.mem ((c.tc : Thread Cert.AdamwInReferenceIdeal.nD Cert.AdamwInReferenceIdeal.τ).loc Cert.AdamwInReferenceIdeal.main_v23) = v1 c
          ∧ r.2.mem ((c.tc : Thread Cert.AdamwInReferenceIdeal.nD Cert.AdamwInReferenceIdeal.τ).loc Cert.AdamwInReferenceIdeal.main_v4) = v2 c
          ∧ r.2.mem ((c.tc : Thread Cert.AdamwInReferenceIdeal.nD Cert.AdamwInReferenceIdeal.τ).loc Cert.AdamwInReferenceIdeal.main_v10) = v3 c
          ∧ r.2.mem ((c.tc : Thread Cert.AdamwInReferenceIdeal.nD Cert.AdamwInReferenceIdeal.τ).loc Cert.AdamwInReferenceIdeal.main_arg0) = m' ((c.tc : Thread Cert.AdamwInReferenceIdeal.nD Cert.AdamwInReferenceIdeal.τ).loc Cert.AdamwInReferenceIdeal.main_arg0)
          ∧ r.2.mem ((c.tc : Thread Cert.AdamwInReferenceIdeal.nD Cert.AdamwInReferenceIdeal.τ).loc Cert.AdamwInReferenceIdeal.main_arg1) = m' ((c.tc : Thread Cert.AdamwInReferenceIdeal.nD Cert.AdamwInReferenceIdeal.τ).loc Cert.AdamwInReferenceIdeal.main_arg1)
          ∧ r.2.mem ((c.tc : Thread Cert.AdamwInReferenceIdeal.nD Cert.AdamwInReferenceIdeal.τ).loc Cert.AdamwInReferenceIdeal.main_arg2) = m' ((c.tc : Thread Cert.AdamwInReferenceIdeal.nD Cert.AdamwInReferenceIdeal.τ).loc Cert.AdamwInReferenceIdeal.main_arg2)
          ∧ r.2.mem ((c.tc : Thread Cert.AdamwInReferenceIdeal.nD Cert.AdamwInReferenceIdeal.τ).loc Cert.AdamwInReferenceIdeal.main_arg3) = m' ((c.tc : Thread Cert.AdamwInReferenceIdeal.nD Cert.AdamwInReferenceIdeal.τ).loc Cert.AdamwInReferenceIdeal.main_arg3))

def preserves_AdamwOut_AdamwOutIdeal : Prop :=
  True

def algebraic_AdamwOutIdeal_AdamwOutReferenceIdeal [hAdamwOutIdeal : Cert.AdamwOutIdeal.Facts] [hAdamwOutReferenceIdeal : Cert.AdamwOutReferenceIdeal.Facts] : Prop :=
  ∀ (m : (ℓ : Loc Cert.AdamwOutIdeal.nD Cert.AdamwOutIdeal.τ Cert.AdamwOutIdeal.sig) → Buf (Elt Ideal) ℓ) (g : Dev Cert.AdamwOutIdeal.nD → PrngReg)
    (m' : (ℓ : Loc Cert.AdamwOutReferenceIdeal.nD Cert.AdamwOutReferenceIdeal.τ Cert.AdamwOutReferenceIdeal.sig) → Buf (Elt Ideal) ℓ) (g' : Dev Cert.AdamwOutReferenceIdeal.nD → PrngReg), Pre_AdamwOutIdeal m →
    (∀ c : Dev Cert.AdamwOutIdeal.nD,
      m' ((c.tc : Thread Cert.AdamwOutReferenceIdeal.nD Cert.AdamwOutReferenceIdeal.τ).loc Cert.AdamwOutReferenceIdeal.main_arg0) = m ((c.tc : Thread Cert.AdamwOutIdeal.nD Cert.AdamwOutIdeal.τ).loc Cert.AdamwOutIdeal.main_arg0)
      ∧ m' ((c.tc : Thread Cert.AdamwOutReferenceIdeal.nD Cert.AdamwOutReferenceIdeal.τ).loc Cert.AdamwOutReferenceIdeal.main_arg1) = m ((c.tc : Thread Cert.AdamwOutIdeal.nD Cert.AdamwOutIdeal.τ).loc Cert.AdamwOutIdeal.main_arg1)
      ∧ m' ((c.tc : Thread Cert.AdamwOutReferenceIdeal.nD Cert.AdamwOutReferenceIdeal.τ).loc Cert.AdamwOutReferenceIdeal.main_arg2) = m ((c.tc : Thread Cert.AdamwOutIdeal.nD Cert.AdamwOutIdeal.τ).loc Cert.AdamwOutIdeal.main_arg2)
      ∧ m' ((c.tc : Thread Cert.AdamwOutReferenceIdeal.nD Cert.AdamwOutReferenceIdeal.τ).loc Cert.AdamwOutReferenceIdeal.main_arg3) = m ((c.tc : Thread Cert.AdamwOutIdeal.nD Cert.AdamwOutIdeal.τ).loc Cert.AdamwOutIdeal.main_arg3)) →
    ∃ (v0 : (c : Dev Cert.AdamwOutIdeal.nD) → Buf (Elt Ideal) ((c.tc : Thread Cert.AdamwOutIdeal.nD Cert.AdamwOutIdeal.τ).loc Cert.AdamwOutIdeal.main_v0_0)) (v1 : (c : Dev Cert.AdamwOutIdeal.nD) → Buf (Elt Ideal) ((c.tc : Thread Cert.AdamwOutIdeal.nD Cert.AdamwOutIdeal.τ).loc Cert.AdamwOutIdeal.main_v0_1)) (v2 : (c : Dev Cert.AdamwOutIdeal.nD) → Buf (Elt Ideal) ((c.tc : Thread Cert.AdamwOutIdeal.nD Cert.AdamwOutIdeal.τ).loc Cert.AdamwOutIdeal.main_v0_2)) (v3 : (c : Dev Cert.AdamwOutIdeal.nD) → Buf (Elt Ideal) ((c.tc : Thread Cert.AdamwOutIdeal.nD Cert.AdamwOutIdeal.τ).loc Cert.AdamwOutIdeal.main_v0_3)),
      θ_run (Cert.AdamwOutIdeal.defs (F := Ideal)) (onTc (τ := Cert.AdamwOutIdeal.τ) (Cert.AdamwOutIdeal.main (F := Ideal))) ⟨m, fun _ => 0, g⟩ (fun r => ∀ c : Dev Cert.AdamwOutIdeal.nD,
          r.2.mem ((c.tc : Thread Cert.AdamwOutIdeal.nD Cert.AdamwOutIdeal.τ).loc Cert.AdamwOutIdeal.main_v0_0) = v0 c
          ∧ r.2.mem ((c.tc : Thread Cert.AdamwOutIdeal.nD Cert.AdamwOutIdeal.τ).loc Cert.AdamwOutIdeal.main_v0_1) = v1 c
          ∧ r.2.mem ((c.tc : Thread Cert.AdamwOutIdeal.nD Cert.AdamwOutIdeal.τ).loc Cert.AdamwOutIdeal.main_v0_2) = v2 c
          ∧ r.2.mem ((c.tc : Thread Cert.AdamwOutIdeal.nD Cert.AdamwOutIdeal.τ).loc Cert.AdamwOutIdeal.main_v0_3) = v3 c
          ∧ r.2.mem ((c.tc : Thread Cert.AdamwOutIdeal.nD Cert.AdamwOutIdeal.τ).loc Cert.AdamwOutIdeal.main_arg0) = m ((c.tc : Thread Cert.AdamwOutIdeal.nD Cert.AdamwOutIdeal.τ).loc Cert.AdamwOutIdeal.main_arg0)
          ∧ r.2.mem ((c.tc : Thread Cert.AdamwOutIdeal.nD Cert.AdamwOutIdeal.τ).loc Cert.AdamwOutIdeal.main_arg1) = m ((c.tc : Thread Cert.AdamwOutIdeal.nD Cert.AdamwOutIdeal.τ).loc Cert.AdamwOutIdeal.main_arg1)
          ∧ r.2.mem ((c.tc : Thread Cert.AdamwOutIdeal.nD Cert.AdamwOutIdeal.τ).loc Cert.AdamwOutIdeal.main_arg2) = m ((c.tc : Thread Cert.AdamwOutIdeal.nD Cert.AdamwOutIdeal.τ).loc Cert.AdamwOutIdeal.main_arg2)
          ∧ r.2.mem ((c.tc : Thread Cert.AdamwOutIdeal.nD Cert.AdamwOutIdeal.τ).loc Cert.AdamwOutIdeal.main_arg3) = m ((c.tc : Thread Cert.AdamwOutIdeal.nD Cert.AdamwOutIdeal.τ).loc Cert.AdamwOutIdeal.main_arg3))
      ∧ θ_run (Cert.AdamwOutReferenceIdeal.defs (F := Ideal)) (onTc (τ := Cert.AdamwOutReferenceIdeal.τ) (Cert.AdamwOutReferenceIdeal.main (F := Ideal))) ⟨m', fun _ => 0, g'⟩ (fun r => ∀ c : Dev Cert.AdamwOutReferenceIdeal.nD,
          r.2.mem ((c.tc : Thread Cert.AdamwOutReferenceIdeal.nD Cert.AdamwOutReferenceIdeal.τ).loc Cert.AdamwOutReferenceIdeal.main_arg1) = v0 c
          ∧ r.2.mem ((c.tc : Thread Cert.AdamwOutReferenceIdeal.nD Cert.AdamwOutReferenceIdeal.τ).loc Cert.AdamwOutReferenceIdeal.main_v23) = v1 c
          ∧ r.2.mem ((c.tc : Thread Cert.AdamwOutReferenceIdeal.nD Cert.AdamwOutReferenceIdeal.τ).loc Cert.AdamwOutReferenceIdeal.main_v4) = v2 c
          ∧ r.2.mem ((c.tc : Thread Cert.AdamwOutReferenceIdeal.nD Cert.AdamwOutReferenceIdeal.τ).loc Cert.AdamwOutReferenceIdeal.main_v10) = v3 c
          ∧ r.2.mem ((c.tc : Thread Cert.AdamwOutReferenceIdeal.nD Cert.AdamwOutReferenceIdeal.τ).loc Cert.AdamwOutReferenceIdeal.main_arg0) = m' ((c.tc : Thread Cert.AdamwOutReferenceIdeal.nD Cert.AdamwOutReferenceIdeal.τ).loc Cert.AdamwOutReferenceIdeal.main_arg0)
          ∧ r.2.mem ((c.tc : Thread Cert.AdamwOutReferenceIdeal.nD Cert.AdamwOutReferenceIdeal.τ).loc Cert.AdamwOutReferenceIdeal.main_arg1) = m' ((c.tc : Thread Cert.AdamwOutReferenceIdeal.nD Cert.AdamwOutReferenceIdeal.τ).loc Cert.AdamwOutReferenceIdeal.main_arg1)
          ∧ r.2.mem ((c.tc : Thread Cert.AdamwOutReferenceIdeal.nD Cert.AdamwOutReferenceIdeal.τ).loc Cert.AdamwOutReferenceIdeal.main_arg2) = m' ((c.tc : Thread Cert.AdamwOutReferenceIdeal.nD Cert.AdamwOutReferenceIdeal.τ).loc Cert.AdamwOutReferenceIdeal.main_arg2)
          ∧ r.2.mem ((c.tc : Thread Cert.AdamwOutReferenceIdeal.nD Cert.AdamwOutReferenceIdeal.τ).loc Cert.AdamwOutReferenceIdeal.main_arg3) = m' ((c.tc : Thread Cert.AdamwOutReferenceIdeal.nD Cert.AdamwOutReferenceIdeal.τ).loc Cert.AdamwOutReferenceIdeal.main_arg3))

def preserves_AdamwFf_AdamwFfIdeal : Prop :=
  True

def algebraic_AdamwFfIdeal_AdamwFfReferenceIdeal [hAdamwFfIdeal : Cert.AdamwFfIdeal.Facts] [hAdamwFfReferenceIdeal : Cert.AdamwFfReferenceIdeal.Facts] : Prop :=
  ∀ (m : (ℓ : Loc Cert.AdamwFfIdeal.nD Cert.AdamwFfIdeal.τ Cert.AdamwFfIdeal.sig) → Buf (Elt Ideal) ℓ) (g : Dev Cert.AdamwFfIdeal.nD → PrngReg)
    (m' : (ℓ : Loc Cert.AdamwFfReferenceIdeal.nD Cert.AdamwFfReferenceIdeal.τ Cert.AdamwFfReferenceIdeal.sig) → Buf (Elt Ideal) ℓ) (g' : Dev Cert.AdamwFfReferenceIdeal.nD → PrngReg), Pre_AdamwFfIdeal m →
    (∀ c : Dev Cert.AdamwFfIdeal.nD,
      m' ((c.tc : Thread Cert.AdamwFfReferenceIdeal.nD Cert.AdamwFfReferenceIdeal.τ).loc Cert.AdamwFfReferenceIdeal.main_arg0) = m ((c.tc : Thread Cert.AdamwFfIdeal.nD Cert.AdamwFfIdeal.τ).loc Cert.AdamwFfIdeal.main_arg0)
      ∧ m' ((c.tc : Thread Cert.AdamwFfReferenceIdeal.nD Cert.AdamwFfReferenceIdeal.τ).loc Cert.AdamwFfReferenceIdeal.main_arg1) = m ((c.tc : Thread Cert.AdamwFfIdeal.nD Cert.AdamwFfIdeal.τ).loc Cert.AdamwFfIdeal.main_arg1)
      ∧ m' ((c.tc : Thread Cert.AdamwFfReferenceIdeal.nD Cert.AdamwFfReferenceIdeal.τ).loc Cert.AdamwFfReferenceIdeal.main_arg2) = m ((c.tc : Thread Cert.AdamwFfIdeal.nD Cert.AdamwFfIdeal.τ).loc Cert.AdamwFfIdeal.main_arg2)
      ∧ m' ((c.tc : Thread Cert.AdamwFfReferenceIdeal.nD Cert.AdamwFfReferenceIdeal.τ).loc Cert.AdamwFfReferenceIdeal.main_arg3) = m ((c.tc : Thread Cert.AdamwFfIdeal.nD Cert.AdamwFfIdeal.τ).loc Cert.AdamwFfIdeal.main_arg3)) →
    ∃ (v0 : (c : Dev Cert.AdamwFfIdeal.nD) → Buf (Elt Ideal) ((c.tc : Thread Cert.AdamwFfIdeal.nD Cert.AdamwFfIdeal.τ).loc Cert.AdamwFfIdeal.main_v0_0)) (v1 : (c : Dev Cert.AdamwFfIdeal.nD) → Buf (Elt Ideal) ((c.tc : Thread Cert.AdamwFfIdeal.nD Cert.AdamwFfIdeal.τ).loc Cert.AdamwFfIdeal.main_v0_1)) (v2 : (c : Dev Cert.AdamwFfIdeal.nD) → Buf (Elt Ideal) ((c.tc : Thread Cert.AdamwFfIdeal.nD Cert.AdamwFfIdeal.τ).loc Cert.AdamwFfIdeal.main_v0_2)) (v3 : (c : Dev Cert.AdamwFfIdeal.nD) → Buf (Elt Ideal) ((c.tc : Thread Cert.AdamwFfIdeal.nD Cert.AdamwFfIdeal.τ).loc Cert.AdamwFfIdeal.main_v0_3)),
      θ_run (Cert.AdamwFfIdeal.defs (F := Ideal)) (onTc (τ := Cert.AdamwFfIdeal.τ) (Cert.AdamwFfIdeal.main (F := Ideal))) ⟨m, fun _ => 0, g⟩ (fun r => ∀ c : Dev Cert.AdamwFfIdeal.nD,
          r.2.mem ((c.tc : Thread Cert.AdamwFfIdeal.nD Cert.AdamwFfIdeal.τ).loc Cert.AdamwFfIdeal.main_v0_0) = v0 c
          ∧ r.2.mem ((c.tc : Thread Cert.AdamwFfIdeal.nD Cert.AdamwFfIdeal.τ).loc Cert.AdamwFfIdeal.main_v0_1) = v1 c
          ∧ r.2.mem ((c.tc : Thread Cert.AdamwFfIdeal.nD Cert.AdamwFfIdeal.τ).loc Cert.AdamwFfIdeal.main_v0_2) = v2 c
          ∧ r.2.mem ((c.tc : Thread Cert.AdamwFfIdeal.nD Cert.AdamwFfIdeal.τ).loc Cert.AdamwFfIdeal.main_v0_3) = v3 c
          ∧ r.2.mem ((c.tc : Thread Cert.AdamwFfIdeal.nD Cert.AdamwFfIdeal.τ).loc Cert.AdamwFfIdeal.main_arg0) = m ((c.tc : Thread Cert.AdamwFfIdeal.nD Cert.AdamwFfIdeal.τ).loc Cert.AdamwFfIdeal.main_arg0)
          ∧ r.2.mem ((c.tc : Thread Cert.AdamwFfIdeal.nD Cert.AdamwFfIdeal.τ).loc Cert.AdamwFfIdeal.main_arg1) = m ((c.tc : Thread Cert.AdamwFfIdeal.nD Cert.AdamwFfIdeal.τ).loc Cert.AdamwFfIdeal.main_arg1)
          ∧ r.2.mem ((c.tc : Thread Cert.AdamwFfIdeal.nD Cert.AdamwFfIdeal.τ).loc Cert.AdamwFfIdeal.main_arg2) = m ((c.tc : Thread Cert.AdamwFfIdeal.nD Cert.AdamwFfIdeal.τ).loc Cert.AdamwFfIdeal.main_arg2)
          ∧ r.2.mem ((c.tc : Thread Cert.AdamwFfIdeal.nD Cert.AdamwFfIdeal.τ).loc Cert.AdamwFfIdeal.main_arg3) = m ((c.tc : Thread Cert.AdamwFfIdeal.nD Cert.AdamwFfIdeal.τ).loc Cert.AdamwFfIdeal.main_arg3))
      ∧ θ_run (Cert.AdamwFfReferenceIdeal.defs (F := Ideal)) (onTc (τ := Cert.AdamwFfReferenceIdeal.τ) (Cert.AdamwFfReferenceIdeal.main (F := Ideal))) ⟨m', fun _ => 0, g'⟩ (fun r => ∀ c : Dev Cert.AdamwFfReferenceIdeal.nD,
          r.2.mem ((c.tc : Thread Cert.AdamwFfReferenceIdeal.nD Cert.AdamwFfReferenceIdeal.τ).loc Cert.AdamwFfReferenceIdeal.main_arg1) = v0 c
          ∧ r.2.mem ((c.tc : Thread Cert.AdamwFfReferenceIdeal.nD Cert.AdamwFfReferenceIdeal.τ).loc Cert.AdamwFfReferenceIdeal.main_v23) = v1 c
          ∧ r.2.mem ((c.tc : Thread Cert.AdamwFfReferenceIdeal.nD Cert.AdamwFfReferenceIdeal.τ).loc Cert.AdamwFfReferenceIdeal.main_v4) = v2 c
          ∧ r.2.mem ((c.tc : Thread Cert.AdamwFfReferenceIdeal.nD Cert.AdamwFfReferenceIdeal.τ).loc Cert.AdamwFfReferenceIdeal.main_v10) = v3 c
          ∧ r.2.mem ((c.tc : Thread Cert.AdamwFfReferenceIdeal.nD Cert.AdamwFfReferenceIdeal.τ).loc Cert.AdamwFfReferenceIdeal.main_arg0) = m' ((c.tc : Thread Cert.AdamwFfReferenceIdeal.nD Cert.AdamwFfReferenceIdeal.τ).loc Cert.AdamwFfReferenceIdeal.main_arg0)
          ∧ r.2.mem ((c.tc : Thread Cert.AdamwFfReferenceIdeal.nD Cert.AdamwFfReferenceIdeal.τ).loc Cert.AdamwFfReferenceIdeal.main_arg1) = m' ((c.tc : Thread Cert.AdamwFfReferenceIdeal.nD Cert.AdamwFfReferenceIdeal.τ).loc Cert.AdamwFfReferenceIdeal.main_arg1)
          ∧ r.2.mem ((c.tc : Thread Cert.AdamwFfReferenceIdeal.nD Cert.AdamwFfReferenceIdeal.τ).loc Cert.AdamwFfReferenceIdeal.main_arg2) = m' ((c.tc : Thread Cert.AdamwFfReferenceIdeal.nD Cert.AdamwFfReferenceIdeal.τ).loc Cert.AdamwFfReferenceIdeal.main_arg2)
          ∧ r.2.mem ((c.tc : Thread Cert.AdamwFfReferenceIdeal.nD Cert.AdamwFfReferenceIdeal.τ).loc Cert.AdamwFfReferenceIdeal.main_arg3) = m' ((c.tc : Thread Cert.AdamwFfReferenceIdeal.nD Cert.AdamwFfReferenceIdeal.τ).loc Cert.AdamwFfReferenceIdeal.main_arg3))

def preserves_NormMixBwd_NormMixBwdIdeal : Prop :=
  True

def algebraic_NormMixBwdIdeal_NormMixBwdReferenceIdeal [hNormMixBwdIdeal : Cert.NormMixBwdIdeal.Facts] [hNormMixBwdReferenceIdeal : Cert.NormMixBwdReferenceIdeal.Facts] : Prop :=
  ∀ (m : (ℓ : Loc Cert.NormMixBwdIdeal.nD Cert.NormMixBwdIdeal.τ Cert.NormMixBwdIdeal.sig) → Buf (Elt Ideal) ℓ) (g : Dev Cert.NormMixBwdIdeal.nD → PrngReg)
    (m' : (ℓ : Loc Cert.NormMixBwdReferenceIdeal.nD Cert.NormMixBwdReferenceIdeal.τ Cert.NormMixBwdReferenceIdeal.sig) → Buf (Elt Ideal) ℓ) (g' : Dev Cert.NormMixBwdReferenceIdeal.nD → PrngReg), Pre_NormMixBwdIdeal m →
    (∀ c : Dev Cert.NormMixBwdIdeal.nD,
      m' ((c.tc : Thread Cert.NormMixBwdReferenceIdeal.nD Cert.NormMixBwdReferenceIdeal.τ).loc Cert.NormMixBwdReferenceIdeal.main_arg0) = m ((c.tc : Thread Cert.NormMixBwdIdeal.nD Cert.NormMixBwdIdeal.τ).loc Cert.NormMixBwdIdeal.main_arg0)
      ∧ m' ((c.tc : Thread Cert.NormMixBwdReferenceIdeal.nD Cert.NormMixBwdReferenceIdeal.τ).loc Cert.NormMixBwdReferenceIdeal.main_arg1) = m ((c.tc : Thread Cert.NormMixBwdIdeal.nD Cert.NormMixBwdIdeal.τ).loc Cert.NormMixBwdIdeal.main_arg1)
      ∧ m' ((c.tc : Thread Cert.NormMixBwdReferenceIdeal.nD Cert.NormMixBwdReferenceIdeal.τ).loc Cert.NormMixBwdReferenceIdeal.main_arg2) = m ((c.tc : Thread Cert.NormMixBwdIdeal.nD Cert.NormMixBwdIdeal.τ).loc Cert.NormMixBwdIdeal.main_arg2)
      ∧ m' ((c.tc : Thread Cert.NormMixBwdReferenceIdeal.nD Cert.NormMixBwdReferenceIdeal.τ).loc Cert.NormMixBwdReferenceIdeal.main_arg3) = m ((c.tc : Thread Cert.NormMixBwdIdeal.nD Cert.NormMixBwdIdeal.τ).loc Cert.NormMixBwdIdeal.main_arg3)) →
    ∃ (v0 : (c : Dev Cert.NormMixBwdIdeal.nD) → Buf (Elt Ideal) ((c.tc : Thread Cert.NormMixBwdIdeal.nD Cert.NormMixBwdIdeal.τ).loc Cert.NormMixBwdIdeal.main_v0_0)) (v1 : (c : Dev Cert.NormMixBwdIdeal.nD) → Buf (Elt Ideal) ((c.tc : Thread Cert.NormMixBwdIdeal.nD Cert.NormMixBwdIdeal.τ).loc Cert.NormMixBwdIdeal.main_v0_1)),
      θ_run (Cert.NormMixBwdIdeal.defs (F := Ideal)) (onTc (τ := Cert.NormMixBwdIdeal.τ) (Cert.NormMixBwdIdeal.main (F := Ideal))) ⟨m, fun _ => 0, g⟩ (fun r => ∀ c : Dev Cert.NormMixBwdIdeal.nD,
          r.2.mem ((c.tc : Thread Cert.NormMixBwdIdeal.nD Cert.NormMixBwdIdeal.τ).loc Cert.NormMixBwdIdeal.main_v0_0) = v0 c
          ∧ r.2.mem ((c.tc : Thread Cert.NormMixBwdIdeal.nD Cert.NormMixBwdIdeal.τ).loc Cert.NormMixBwdIdeal.main_v0_1) = v1 c
          ∧ r.2.mem ((c.tc : Thread Cert.NormMixBwdIdeal.nD Cert.NormMixBwdIdeal.τ).loc Cert.NormMixBwdIdeal.main_arg0) = m ((c.tc : Thread Cert.NormMixBwdIdeal.nD Cert.NormMixBwdIdeal.τ).loc Cert.NormMixBwdIdeal.main_arg0)
          ∧ r.2.mem ((c.tc : Thread Cert.NormMixBwdIdeal.nD Cert.NormMixBwdIdeal.τ).loc Cert.NormMixBwdIdeal.main_arg1) = m ((c.tc : Thread Cert.NormMixBwdIdeal.nD Cert.NormMixBwdIdeal.τ).loc Cert.NormMixBwdIdeal.main_arg1)
          ∧ r.2.mem ((c.tc : Thread Cert.NormMixBwdIdeal.nD Cert.NormMixBwdIdeal.τ).loc Cert.NormMixBwdIdeal.main_arg2) = m ((c.tc : Thread Cert.NormMixBwdIdeal.nD Cert.NormMixBwdIdeal.τ).loc Cert.NormMixBwdIdeal.main_arg2)
          ∧ r.2.mem ((c.tc : Thread Cert.NormMixBwdIdeal.nD Cert.NormMixBwdIdeal.τ).loc Cert.NormMixBwdIdeal.main_arg3) = m ((c.tc : Thread Cert.NormMixBwdIdeal.nD Cert.NormMixBwdIdeal.τ).loc Cert.NormMixBwdIdeal.main_arg3))
      ∧ θ_run (Cert.NormMixBwdReferenceIdeal.defs (F := Ideal)) (onTc (τ := Cert.NormMixBwdReferenceIdeal.τ) (Cert.NormMixBwdReferenceIdeal.main (F := Ideal))) ⟨m', fun _ => 0, g'⟩ (fun r => ∀ c : Dev Cert.NormMixBwdReferenceIdeal.nD,
          r.2.mem ((c.tc : Thread Cert.NormMixBwdReferenceIdeal.nD Cert.NormMixBwdReferenceIdeal.τ).loc Cert.NormMixBwdReferenceIdeal.main_v38) = v0 c
          ∧ r.2.mem ((c.tc : Thread Cert.NormMixBwdReferenceIdeal.nD Cert.NormMixBwdReferenceIdeal.τ).loc Cert.NormMixBwdReferenceIdeal.main_v23) = v1 c
          ∧ r.2.mem ((c.tc : Thread Cert.NormMixBwdReferenceIdeal.nD Cert.NormMixBwdReferenceIdeal.τ).loc Cert.NormMixBwdReferenceIdeal.main_arg0) = m' ((c.tc : Thread Cert.NormMixBwdReferenceIdeal.nD Cert.NormMixBwdReferenceIdeal.τ).loc Cert.NormMixBwdReferenceIdeal.main_arg0)
          ∧ r.2.mem ((c.tc : Thread Cert.NormMixBwdReferenceIdeal.nD Cert.NormMixBwdReferenceIdeal.τ).loc Cert.NormMixBwdReferenceIdeal.main_arg1) = m' ((c.tc : Thread Cert.NormMixBwdReferenceIdeal.nD Cert.NormMixBwdReferenceIdeal.τ).loc Cert.NormMixBwdReferenceIdeal.main_arg1)
          ∧ r.2.mem ((c.tc : Thread Cert.NormMixBwdReferenceIdeal.nD Cert.NormMixBwdReferenceIdeal.τ).loc Cert.NormMixBwdReferenceIdeal.main_arg2) = m' ((c.tc : Thread Cert.NormMixBwdReferenceIdeal.nD Cert.NormMixBwdReferenceIdeal.τ).loc Cert.NormMixBwdReferenceIdeal.main_arg2)
          ∧ r.2.mem ((c.tc : Thread Cert.NormMixBwdReferenceIdeal.nD Cert.NormMixBwdReferenceIdeal.τ).loc Cert.NormMixBwdReferenceIdeal.main_arg3) = m' ((c.tc : Thread Cert.NormMixBwdReferenceIdeal.nD Cert.NormMixBwdReferenceIdeal.τ).loc Cert.NormMixBwdReferenceIdeal.main_arg3))

def preserves_NormFfnBwd_NormFfnBwdIdeal : Prop :=
  True

def algebraic_NormFfnBwdIdeal_NormFfnBwdReferenceIdeal [hNormFfnBwdIdeal : Cert.NormFfnBwdIdeal.Facts] [hNormFfnBwdReferenceIdeal : Cert.NormFfnBwdReferenceIdeal.Facts] : Prop :=
  ∀ (m : (ℓ : Loc Cert.NormFfnBwdIdeal.nD Cert.NormFfnBwdIdeal.τ Cert.NormFfnBwdIdeal.sig) → Buf (Elt Ideal) ℓ) (g : Dev Cert.NormFfnBwdIdeal.nD → PrngReg)
    (m' : (ℓ : Loc Cert.NormFfnBwdReferenceIdeal.nD Cert.NormFfnBwdReferenceIdeal.τ Cert.NormFfnBwdReferenceIdeal.sig) → Buf (Elt Ideal) ℓ) (g' : Dev Cert.NormFfnBwdReferenceIdeal.nD → PrngReg), Pre_NormFfnBwdIdeal m →
    (∀ c : Dev Cert.NormFfnBwdIdeal.nD,
      m' ((c.tc : Thread Cert.NormFfnBwdReferenceIdeal.nD Cert.NormFfnBwdReferenceIdeal.τ).loc Cert.NormFfnBwdReferenceIdeal.main_arg0) = m ((c.tc : Thread Cert.NormFfnBwdIdeal.nD Cert.NormFfnBwdIdeal.τ).loc Cert.NormFfnBwdIdeal.main_arg0)
      ∧ m' ((c.tc : Thread Cert.NormFfnBwdReferenceIdeal.nD Cert.NormFfnBwdReferenceIdeal.τ).loc Cert.NormFfnBwdReferenceIdeal.main_arg1) = m ((c.tc : Thread Cert.NormFfnBwdIdeal.nD Cert.NormFfnBwdIdeal.τ).loc Cert.NormFfnBwdIdeal.main_arg1)
      ∧ m' ((c.tc : Thread Cert.NormFfnBwdReferenceIdeal.nD Cert.NormFfnBwdReferenceIdeal.τ).loc Cert.NormFfnBwdReferenceIdeal.main_arg2) = m ((c.tc : Thread Cert.NormFfnBwdIdeal.nD Cert.NormFfnBwdIdeal.τ).loc Cert.NormFfnBwdIdeal.main_arg2)
      ∧ m' ((c.tc : Thread Cert.NormFfnBwdReferenceIdeal.nD Cert.NormFfnBwdReferenceIdeal.τ).loc Cert.NormFfnBwdReferenceIdeal.main_arg3) = m ((c.tc : Thread Cert.NormFfnBwdIdeal.nD Cert.NormFfnBwdIdeal.τ).loc Cert.NormFfnBwdIdeal.main_arg3)) →
    ∃ (v0 : (c : Dev Cert.NormFfnBwdIdeal.nD) → Buf (Elt Ideal) ((c.tc : Thread Cert.NormFfnBwdIdeal.nD Cert.NormFfnBwdIdeal.τ).loc Cert.NormFfnBwdIdeal.main_v0_0)) (v1 : (c : Dev Cert.NormFfnBwdIdeal.nD) → Buf (Elt Ideal) ((c.tc : Thread Cert.NormFfnBwdIdeal.nD Cert.NormFfnBwdIdeal.τ).loc Cert.NormFfnBwdIdeal.main_v0_1)) (v2 : (c : Dev Cert.NormFfnBwdIdeal.nD) → Buf (Elt Ideal) ((c.tc : Thread Cert.NormFfnBwdIdeal.nD Cert.NormFfnBwdIdeal.τ).loc Cert.NormFfnBwdIdeal.main_v0_2)),
      θ_run (Cert.NormFfnBwdIdeal.defs (F := Ideal)) (onTc (τ := Cert.NormFfnBwdIdeal.τ) (Cert.NormFfnBwdIdeal.main (F := Ideal))) ⟨m, fun _ => 0, g⟩ (fun r => ∀ c : Dev Cert.NormFfnBwdIdeal.nD,
          r.2.mem ((c.tc : Thread Cert.NormFfnBwdIdeal.nD Cert.NormFfnBwdIdeal.τ).loc Cert.NormFfnBwdIdeal.main_v0_0) = v0 c
          ∧ r.2.mem ((c.tc : Thread Cert.NormFfnBwdIdeal.nD Cert.NormFfnBwdIdeal.τ).loc Cert.NormFfnBwdIdeal.main_v0_1) = v1 c
          ∧ r.2.mem ((c.tc : Thread Cert.NormFfnBwdIdeal.nD Cert.NormFfnBwdIdeal.τ).loc Cert.NormFfnBwdIdeal.main_v0_2) = v2 c
          ∧ r.2.mem ((c.tc : Thread Cert.NormFfnBwdIdeal.nD Cert.NormFfnBwdIdeal.τ).loc Cert.NormFfnBwdIdeal.main_arg0) = m ((c.tc : Thread Cert.NormFfnBwdIdeal.nD Cert.NormFfnBwdIdeal.τ).loc Cert.NormFfnBwdIdeal.main_arg0)
          ∧ r.2.mem ((c.tc : Thread Cert.NormFfnBwdIdeal.nD Cert.NormFfnBwdIdeal.τ).loc Cert.NormFfnBwdIdeal.main_arg1) = m ((c.tc : Thread Cert.NormFfnBwdIdeal.nD Cert.NormFfnBwdIdeal.τ).loc Cert.NormFfnBwdIdeal.main_arg1)
          ∧ r.2.mem ((c.tc : Thread Cert.NormFfnBwdIdeal.nD Cert.NormFfnBwdIdeal.τ).loc Cert.NormFfnBwdIdeal.main_arg2) = m ((c.tc : Thread Cert.NormFfnBwdIdeal.nD Cert.NormFfnBwdIdeal.τ).loc Cert.NormFfnBwdIdeal.main_arg2)
          ∧ r.2.mem ((c.tc : Thread Cert.NormFfnBwdIdeal.nD Cert.NormFfnBwdIdeal.τ).loc Cert.NormFfnBwdIdeal.main_arg3) = m ((c.tc : Thread Cert.NormFfnBwdIdeal.nD Cert.NormFfnBwdIdeal.τ).loc Cert.NormFfnBwdIdeal.main_arg3))
      ∧ θ_run (Cert.NormFfnBwdReferenceIdeal.defs (F := Ideal)) (onTc (τ := Cert.NormFfnBwdReferenceIdeal.τ) (Cert.NormFfnBwdReferenceIdeal.main (F := Ideal))) ⟨m', fun _ => 0, g'⟩ (fun r => ∀ c : Dev Cert.NormFfnBwdReferenceIdeal.nD,
          r.2.mem ((c.tc : Thread Cert.NormFfnBwdReferenceIdeal.nD Cert.NormFfnBwdReferenceIdeal.τ).loc Cert.NormFfnBwdReferenceIdeal.main_v38) = v0 c
          ∧ r.2.mem ((c.tc : Thread Cert.NormFfnBwdReferenceIdeal.nD Cert.NormFfnBwdReferenceIdeal.τ).loc Cert.NormFfnBwdReferenceIdeal.main_v23) = v1 c
          ∧ r.2.mem ((c.tc : Thread Cert.NormFfnBwdReferenceIdeal.nD Cert.NormFfnBwdReferenceIdeal.τ).loc Cert.NormFfnBwdReferenceIdeal.main_v40) = v2 c
          ∧ r.2.mem ((c.tc : Thread Cert.NormFfnBwdReferenceIdeal.nD Cert.NormFfnBwdReferenceIdeal.τ).loc Cert.NormFfnBwdReferenceIdeal.main_arg0) = m' ((c.tc : Thread Cert.NormFfnBwdReferenceIdeal.nD Cert.NormFfnBwdReferenceIdeal.τ).loc Cert.NormFfnBwdReferenceIdeal.main_arg0)
          ∧ r.2.mem ((c.tc : Thread Cert.NormFfnBwdReferenceIdeal.nD Cert.NormFfnBwdReferenceIdeal.τ).loc Cert.NormFfnBwdReferenceIdeal.main_arg1) = m' ((c.tc : Thread Cert.NormFfnBwdReferenceIdeal.nD Cert.NormFfnBwdReferenceIdeal.τ).loc Cert.NormFfnBwdReferenceIdeal.main_arg1)
          ∧ r.2.mem ((c.tc : Thread Cert.NormFfnBwdReferenceIdeal.nD Cert.NormFfnBwdReferenceIdeal.τ).loc Cert.NormFfnBwdReferenceIdeal.main_arg2) = m' ((c.tc : Thread Cert.NormFfnBwdReferenceIdeal.nD Cert.NormFfnBwdReferenceIdeal.τ).loc Cert.NormFfnBwdReferenceIdeal.main_arg2)
          ∧ r.2.mem ((c.tc : Thread Cert.NormFfnBwdReferenceIdeal.nD Cert.NormFfnBwdReferenceIdeal.τ).loc Cert.NormFfnBwdReferenceIdeal.main_arg3) = m' ((c.tc : Thread Cert.NormFfnBwdReferenceIdeal.nD Cert.NormFfnBwdReferenceIdeal.τ).loc Cert.NormFfnBwdReferenceIdeal.main_arg3))

def preserves_LossHead_LossHeadIdeal : Prop :=
  True

def algebraic_LossHeadIdeal_LossHeadReferenceIdeal [hLossHeadIdeal : Cert.LossHeadIdeal.Facts] [hLossHeadReferenceIdeal : Cert.LossHeadReferenceIdeal.Facts] : Prop :=
  ∀ (m : (ℓ : Loc Cert.LossHeadIdeal.nD Cert.LossHeadIdeal.τ Cert.LossHeadIdeal.sig) → Buf (Elt Ideal) ℓ) (g : Dev Cert.LossHeadIdeal.nD → PrngReg)
    (m' : (ℓ : Loc Cert.LossHeadReferenceIdeal.nD Cert.LossHeadReferenceIdeal.τ Cert.LossHeadReferenceIdeal.sig) → Buf (Elt Ideal) ℓ) (g' : Dev Cert.LossHeadReferenceIdeal.nD → PrngReg), Pre_LossHeadIdeal m →
    (∀ c : Dev Cert.LossHeadIdeal.nD,
      m' ((c.tc : Thread Cert.LossHeadReferenceIdeal.nD Cert.LossHeadReferenceIdeal.τ).loc Cert.LossHeadReferenceIdeal.main_arg0) = m ((c.tc : Thread Cert.LossHeadIdeal.nD Cert.LossHeadIdeal.τ).loc Cert.LossHeadIdeal.main_arg0)
      ∧ m' ((c.tc : Thread Cert.LossHeadReferenceIdeal.nD Cert.LossHeadReferenceIdeal.τ).loc Cert.LossHeadReferenceIdeal.main_arg1) = m ((c.tc : Thread Cert.LossHeadIdeal.nD Cert.LossHeadIdeal.τ).loc Cert.LossHeadIdeal.main_arg1)
      ∧ m' ((c.tc : Thread Cert.LossHeadReferenceIdeal.nD Cert.LossHeadReferenceIdeal.τ).loc Cert.LossHeadReferenceIdeal.main_arg2) = m ((c.tc : Thread Cert.LossHeadIdeal.nD Cert.LossHeadIdeal.τ).loc Cert.LossHeadIdeal.main_arg2)) →
    ∃ (v0 : (c : Dev Cert.LossHeadIdeal.nD) → Buf (Elt Ideal) ((c.tc : Thread Cert.LossHeadIdeal.nD Cert.LossHeadIdeal.τ).loc Cert.LossHeadIdeal.main_v0_0)) (v1 : (c : Dev Cert.LossHeadIdeal.nD) → Buf (Elt Ideal) ((c.tc : Thread Cert.LossHeadIdeal.nD Cert.LossHeadIdeal.τ).loc Cert.LossHeadIdeal.main_v0_1)) (v2 : (c : Dev Cert.LossHeadIdeal.nD) → Buf (Elt Ideal) ((c.tc : Thread Cert.LossHeadIdeal.nD Cert.LossHeadIdeal.τ).loc Cert.LossHeadIdeal.main_v0_2)) (v3 : (c : Dev Cert.LossHeadIdeal.nD) → Buf (Elt Ideal) ((c.tc : Thread Cert.LossHeadIdeal.nD Cert.LossHeadIdeal.τ).loc Cert.LossHeadIdeal.main_v0_3)),
      θ_run (Cert.LossHeadIdeal.defs (F := Ideal)) (onTc (τ := Cert.LossHeadIdeal.τ) (Cert.LossHeadIdeal.main (F := Ideal))) ⟨m, fun _ => 0, g⟩ (fun r => ∀ c : Dev Cert.LossHeadIdeal.nD,
          r.2.mem ((c.tc : Thread Cert.LossHeadIdeal.nD Cert.LossHeadIdeal.τ).loc Cert.LossHeadIdeal.main_v0_0) = v0 c
          ∧ r.2.mem ((c.tc : Thread Cert.LossHeadIdeal.nD Cert.LossHeadIdeal.τ).loc Cert.LossHeadIdeal.main_v0_1) = v1 c
          ∧ r.2.mem ((c.tc : Thread Cert.LossHeadIdeal.nD Cert.LossHeadIdeal.τ).loc Cert.LossHeadIdeal.main_v0_2) = v2 c
          ∧ r.2.mem ((c.tc : Thread Cert.LossHeadIdeal.nD Cert.LossHeadIdeal.τ).loc Cert.LossHeadIdeal.main_v0_3) = v3 c
          ∧ r.2.mem ((c.tc : Thread Cert.LossHeadIdeal.nD Cert.LossHeadIdeal.τ).loc Cert.LossHeadIdeal.main_arg0) = m ((c.tc : Thread Cert.LossHeadIdeal.nD Cert.LossHeadIdeal.τ).loc Cert.LossHeadIdeal.main_arg0)
          ∧ r.2.mem ((c.tc : Thread Cert.LossHeadIdeal.nD Cert.LossHeadIdeal.τ).loc Cert.LossHeadIdeal.main_arg1) = m ((c.tc : Thread Cert.LossHeadIdeal.nD Cert.LossHeadIdeal.τ).loc Cert.LossHeadIdeal.main_arg1)
          ∧ r.2.mem ((c.tc : Thread Cert.LossHeadIdeal.nD Cert.LossHeadIdeal.τ).loc Cert.LossHeadIdeal.main_arg2) = m ((c.tc : Thread Cert.LossHeadIdeal.nD Cert.LossHeadIdeal.τ).loc Cert.LossHeadIdeal.main_arg2))
      ∧ θ_run (Cert.LossHeadReferenceIdeal.defs (F := Ideal)) (onTc (τ := Cert.LossHeadReferenceIdeal.τ) (Cert.LossHeadReferenceIdeal.main (F := Ideal))) ⟨m', fun _ => 0, g'⟩ (fun r => ∀ c : Dev Cert.LossHeadReferenceIdeal.nD,
          r.2.mem ((c.tc : Thread Cert.LossHeadReferenceIdeal.nD Cert.LossHeadReferenceIdeal.τ).loc Cert.LossHeadReferenceIdeal.main_v52) = v0 c
          ∧ r.2.mem ((c.tc : Thread Cert.LossHeadReferenceIdeal.nD Cert.LossHeadReferenceIdeal.τ).loc Cert.LossHeadReferenceIdeal.main_v53) = v1 c
          ∧ r.2.mem ((c.tc : Thread Cert.LossHeadReferenceIdeal.nD Cert.LossHeadReferenceIdeal.τ).loc Cert.LossHeadReferenceIdeal.main_v38) = v2 c
          ∧ r.2.mem ((c.tc : Thread Cert.LossHeadReferenceIdeal.nD Cert.LossHeadReferenceIdeal.τ).loc Cert.LossHeadReferenceIdeal.main_v54) = v3 c
          ∧ r.2.mem ((c.tc : Thread Cert.LossHeadReferenceIdeal.nD Cert.LossHeadReferenceIdeal.τ).loc Cert.LossHeadReferenceIdeal.main_arg0) = m' ((c.tc : Thread Cert.LossHeadReferenceIdeal.nD Cert.LossHeadReferenceIdeal.τ).loc Cert.LossHeadReferenceIdeal.main_arg0)
          ∧ r.2.mem ((c.tc : Thread Cert.LossHeadReferenceIdeal.nD Cert.LossHeadReferenceIdeal.τ).loc Cert.LossHeadReferenceIdeal.main_arg1) = m' ((c.tc : Thread Cert.LossHeadReferenceIdeal.nD Cert.LossHeadReferenceIdeal.τ).loc Cert.LossHeadReferenceIdeal.main_arg1)
          ∧ r.2.mem ((c.tc : Thread Cert.LossHeadReferenceIdeal.nD Cert.LossHeadReferenceIdeal.τ).loc Cert.LossHeadReferenceIdeal.main_arg2) = m' ((c.tc : Thread Cert.LossHeadReferenceIdeal.nD Cert.LossHeadReferenceIdeal.τ).loc Cert.LossHeadReferenceIdeal.main_arg2))

def preserves_NormFfn_NormFfnIdeal : Prop :=
  True

def algebraic_NormFfnIdeal_NormFfnReferenceIdeal [hNormFfnIdeal : Cert.NormFfnIdeal.Facts] [hNormFfnReferenceIdeal : Cert.NormFfnReferenceIdeal.Facts] : Prop :=
  ∀ (m : (ℓ : Loc Cert.NormFfnIdeal.nD Cert.NormFfnIdeal.τ Cert.NormFfnIdeal.sig) → Buf (Elt Ideal) ℓ) (g : Dev Cert.NormFfnIdeal.nD → PrngReg)
    (m' : (ℓ : Loc Cert.NormFfnReferenceIdeal.nD Cert.NormFfnReferenceIdeal.τ Cert.NormFfnReferenceIdeal.sig) → Buf (Elt Ideal) ℓ) (g' : Dev Cert.NormFfnReferenceIdeal.nD → PrngReg), Pre_NormFfnIdeal m →
    (∀ c : Dev Cert.NormFfnIdeal.nD,
      m' ((c.tc : Thread Cert.NormFfnReferenceIdeal.nD Cert.NormFfnReferenceIdeal.τ).loc Cert.NormFfnReferenceIdeal.main_arg0) = m ((c.tc : Thread Cert.NormFfnIdeal.nD Cert.NormFfnIdeal.τ).loc Cert.NormFfnIdeal.main_arg0)
      ∧ m' ((c.tc : Thread Cert.NormFfnReferenceIdeal.nD Cert.NormFfnReferenceIdeal.τ).loc Cert.NormFfnReferenceIdeal.main_arg1) = m ((c.tc : Thread Cert.NormFfnIdeal.nD Cert.NormFfnIdeal.τ).loc Cert.NormFfnIdeal.main_arg1)) →
    ∃ (v0 : (c : Dev Cert.NormFfnIdeal.nD) → Buf (Elt Ideal) ((c.tc : Thread Cert.NormFfnIdeal.nD Cert.NormFfnIdeal.τ).loc Cert.NormFfnIdeal.main_v0)),
      θ_run (Cert.NormFfnIdeal.defs (F := Ideal)) (onTc (τ := Cert.NormFfnIdeal.τ) (Cert.NormFfnIdeal.main (F := Ideal))) ⟨m, fun _ => 0, g⟩ (fun r => ∀ c : Dev Cert.NormFfnIdeal.nD,
          r.2.mem ((c.tc : Thread Cert.NormFfnIdeal.nD Cert.NormFfnIdeal.τ).loc Cert.NormFfnIdeal.main_v0) = v0 c
          ∧ r.2.mem ((c.tc : Thread Cert.NormFfnIdeal.nD Cert.NormFfnIdeal.τ).loc Cert.NormFfnIdeal.main_arg0) = m ((c.tc : Thread Cert.NormFfnIdeal.nD Cert.NormFfnIdeal.τ).loc Cert.NormFfnIdeal.main_arg0)
          ∧ r.2.mem ((c.tc : Thread Cert.NormFfnIdeal.nD Cert.NormFfnIdeal.τ).loc Cert.NormFfnIdeal.main_arg1) = m ((c.tc : Thread Cert.NormFfnIdeal.nD Cert.NormFfnIdeal.τ).loc Cert.NormFfnIdeal.main_arg1))
      ∧ θ_run (Cert.NormFfnReferenceIdeal.defs (F := Ideal)) (onTc (τ := Cert.NormFfnReferenceIdeal.τ) (Cert.NormFfnReferenceIdeal.main (F := Ideal))) ⟨m', fun _ => 0, g'⟩ (fun r => ∀ c : Dev Cert.NormFfnReferenceIdeal.nD,
          r.2.mem ((c.tc : Thread Cert.NormFfnReferenceIdeal.nD Cert.NormFfnReferenceIdeal.τ).loc Cert.NormFfnReferenceIdeal.main_v14) = v0 c
          ∧ r.2.mem ((c.tc : Thread Cert.NormFfnReferenceIdeal.nD Cert.NormFfnReferenceIdeal.τ).loc Cert.NormFfnReferenceIdeal.main_arg0) = m' ((c.tc : Thread Cert.NormFfnReferenceIdeal.nD Cert.NormFfnReferenceIdeal.τ).loc Cert.NormFfnReferenceIdeal.main_arg0)
          ∧ r.2.mem ((c.tc : Thread Cert.NormFfnReferenceIdeal.nD Cert.NormFfnReferenceIdeal.τ).loc Cert.NormFfnReferenceIdeal.main_arg1) = m' ((c.tc : Thread Cert.NormFfnReferenceIdeal.nD Cert.NormFfnReferenceIdeal.τ).loc Cert.NormFfnReferenceIdeal.main_arg1))

def preserves_GateDw_GateDwIdeal : Prop :=
  True

def algebraic_GateDwIdeal_GateDwReferenceIdeal [hGateDwIdeal : Cert.GateDwIdeal.Facts] [hGateDwReferenceIdeal : Cert.GateDwReferenceIdeal.Facts] : Prop :=
  ∀ (m : (ℓ : Loc Cert.GateDwIdeal.nD Cert.GateDwIdeal.τ Cert.GateDwIdeal.sig) → Buf (Elt Ideal) ℓ) (g : Dev Cert.GateDwIdeal.nD → PrngReg)
    (m' : (ℓ : Loc Cert.GateDwReferenceIdeal.nD Cert.GateDwReferenceIdeal.τ Cert.GateDwReferenceIdeal.sig) → Buf (Elt Ideal) ℓ) (g' : Dev Cert.GateDwReferenceIdeal.nD → PrngReg), Pre_GateDwIdeal m →
    (∀ c : Dev Cert.GateDwIdeal.nD,
      m' ((c.tc : Thread Cert.GateDwReferenceIdeal.nD Cert.GateDwReferenceIdeal.τ).loc Cert.GateDwReferenceIdeal.main_arg0) = m ((c.tc : Thread Cert.GateDwIdeal.nD Cert.GateDwIdeal.τ).loc Cert.GateDwIdeal.main_arg0)
      ∧ m' ((c.tc : Thread Cert.GateDwReferenceIdeal.nD Cert.GateDwReferenceIdeal.τ).loc Cert.GateDwReferenceIdeal.main_arg1) = m ((c.tc : Thread Cert.GateDwIdeal.nD Cert.GateDwIdeal.τ).loc Cert.GateDwIdeal.main_arg1)) →
    ∃ (v0 : (c : Dev Cert.GateDwIdeal.nD) → Buf (Elt Ideal) ((c.tc : Thread Cert.GateDwIdeal.nD Cert.GateDwIdeal.τ).loc Cert.GateDwIdeal.main_v0)),
      θ_run (Cert.GateDwIdeal.defs (F := Ideal)) (onTc (τ := Cert.GateDwIdeal.τ) (Cert.GateDwIdeal.main (F := Ideal))) ⟨m, fun _ => 0, g⟩ (fun r => ∀ c : Dev Cert.GateDwIdeal.nD,
          r.2.mem ((c.tc : Thread Cert.GateDwIdeal.nD Cert.GateDwIdeal.τ).loc Cert.GateDwIdeal.main_v0) = v0 c
          ∧ r.2.mem ((c.tc : Thread Cert.GateDwIdeal.nD Cert.GateDwIdeal.τ).loc Cert.GateDwIdeal.main_arg0) = m ((c.tc : Thread Cert.GateDwIdeal.nD Cert.GateDwIdeal.τ).loc Cert.GateDwIdeal.main_arg0)
          ∧ r.2.mem ((c.tc : Thread Cert.GateDwIdeal.nD Cert.GateDwIdeal.τ).loc Cert.GateDwIdeal.main_arg1) = m ((c.tc : Thread Cert.GateDwIdeal.nD Cert.GateDwIdeal.τ).loc Cert.GateDwIdeal.main_arg1))
      ∧ θ_run (Cert.GateDwReferenceIdeal.defs (F := Ideal)) (onTc (τ := Cert.GateDwReferenceIdeal.τ) (Cert.GateDwReferenceIdeal.main (F := Ideal))) ⟨m', fun _ => 0, g'⟩ (fun r => ∀ c : Dev Cert.GateDwReferenceIdeal.nD,
          r.2.mem ((c.tc : Thread Cert.GateDwReferenceIdeal.nD Cert.GateDwReferenceIdeal.τ).loc Cert.GateDwReferenceIdeal.main_v5) = v0 c
          ∧ r.2.mem ((c.tc : Thread Cert.GateDwReferenceIdeal.nD Cert.GateDwReferenceIdeal.τ).loc Cert.GateDwReferenceIdeal.main_arg0) = m' ((c.tc : Thread Cert.GateDwReferenceIdeal.nD Cert.GateDwReferenceIdeal.τ).loc Cert.GateDwReferenceIdeal.main_arg0)
          ∧ r.2.mem ((c.tc : Thread Cert.GateDwReferenceIdeal.nD Cert.GateDwReferenceIdeal.τ).loc Cert.GateDwReferenceIdeal.main_arg1) = m' ((c.tc : Thread Cert.GateDwReferenceIdeal.nD Cert.GateDwReferenceIdeal.τ).loc Cert.GateDwReferenceIdeal.main_arg1))

def preserves_GateDlhs_GateDlhsIdeal : Prop :=
  True

def algebraic_GateDlhsIdeal_GateDlhsReferenceIdeal [hGateDlhsIdeal : Cert.GateDlhsIdeal.Facts] [hGateDlhsReferenceIdeal : Cert.GateDlhsReferenceIdeal.Facts] : Prop :=
  ∀ (m : (ℓ : Loc Cert.GateDlhsIdeal.nD Cert.GateDlhsIdeal.τ Cert.GateDlhsIdeal.sig) → Buf (Elt Ideal) ℓ) (g : Dev Cert.GateDlhsIdeal.nD → PrngReg)
    (m' : (ℓ : Loc Cert.GateDlhsReferenceIdeal.nD Cert.GateDlhsReferenceIdeal.τ Cert.GateDlhsReferenceIdeal.sig) → Buf (Elt Ideal) ℓ) (g' : Dev Cert.GateDlhsReferenceIdeal.nD → PrngReg), Pre_GateDlhsIdeal m →
    (∀ c : Dev Cert.GateDlhsIdeal.nD,
      m' ((c.tc : Thread Cert.GateDlhsReferenceIdeal.nD Cert.GateDlhsReferenceIdeal.τ).loc Cert.GateDlhsReferenceIdeal.main_arg0) = m ((c.tc : Thread Cert.GateDlhsIdeal.nD Cert.GateDlhsIdeal.τ).loc Cert.GateDlhsIdeal.main_arg0)
      ∧ m' ((c.tc : Thread Cert.GateDlhsReferenceIdeal.nD Cert.GateDlhsReferenceIdeal.τ).loc Cert.GateDlhsReferenceIdeal.main_arg1) = m ((c.tc : Thread Cert.GateDlhsIdeal.nD Cert.GateDlhsIdeal.τ).loc Cert.GateDlhsIdeal.main_arg1)) →
    ∃ (v0 : (c : Dev Cert.GateDlhsIdeal.nD) → Buf (Elt Ideal) ((c.tc : Thread Cert.GateDlhsIdeal.nD Cert.GateDlhsIdeal.τ).loc Cert.GateDlhsIdeal.main_v0)),
      θ_run (Cert.GateDlhsIdeal.defs (F := Ideal)) (onTc (τ := Cert.GateDlhsIdeal.τ) (Cert.GateDlhsIdeal.main (F := Ideal))) ⟨m, fun _ => 0, g⟩ (fun r => ∀ c : Dev Cert.GateDlhsIdeal.nD,
          r.2.mem ((c.tc : Thread Cert.GateDlhsIdeal.nD Cert.GateDlhsIdeal.τ).loc Cert.GateDlhsIdeal.main_v0) = v0 c
          ∧ r.2.mem ((c.tc : Thread Cert.GateDlhsIdeal.nD Cert.GateDlhsIdeal.τ).loc Cert.GateDlhsIdeal.main_arg0) = m ((c.tc : Thread Cert.GateDlhsIdeal.nD Cert.GateDlhsIdeal.τ).loc Cert.GateDlhsIdeal.main_arg0)
          ∧ r.2.mem ((c.tc : Thread Cert.GateDlhsIdeal.nD Cert.GateDlhsIdeal.τ).loc Cert.GateDlhsIdeal.main_arg1) = m ((c.tc : Thread Cert.GateDlhsIdeal.nD Cert.GateDlhsIdeal.τ).loc Cert.GateDlhsIdeal.main_arg1))
      ∧ θ_run (Cert.GateDlhsReferenceIdeal.defs (F := Ideal)) (onTc (τ := Cert.GateDlhsReferenceIdeal.τ) (Cert.GateDlhsReferenceIdeal.main (F := Ideal))) ⟨m', fun _ => 0, g'⟩ (fun r => ∀ c : Dev Cert.GateDlhsReferenceIdeal.nD,
          r.2.mem ((c.tc : Thread Cert.GateDlhsReferenceIdeal.nD Cert.GateDlhsReferenceIdeal.τ).loc Cert.GateDlhsReferenceIdeal.main_v4) = v0 c
          ∧ r.2.mem ((c.tc : Thread Cert.GateDlhsReferenceIdeal.nD Cert.GateDlhsReferenceIdeal.τ).loc Cert.GateDlhsReferenceIdeal.main_arg0) = m' ((c.tc : Thread Cert.GateDlhsReferenceIdeal.nD Cert.GateDlhsReferenceIdeal.τ).loc Cert.GateDlhsReferenceIdeal.main_arg0)
          ∧ r.2.mem ((c.tc : Thread Cert.GateDlhsReferenceIdeal.nD Cert.GateDlhsReferenceIdeal.τ).loc Cert.GateDlhsReferenceIdeal.main_arg1) = m' ((c.tc : Thread Cert.GateDlhsReferenceIdeal.nD Cert.GateDlhsReferenceIdeal.τ).loc Cert.GateDlhsReferenceIdeal.main_arg1))

def preserves_AdamwEarly_AdamwEarlyIdeal : Prop :=
  True

def algebraic_AdamwEarlyIdeal_AdamwEarlyReferenceIdeal [hAdamwEarlyIdeal : Cert.AdamwEarlyIdeal.Facts] [hAdamwEarlyReferenceIdeal : Cert.AdamwEarlyReferenceIdeal.Facts] : Prop :=
  ∀ (m : (ℓ : Loc Cert.AdamwEarlyIdeal.nD Cert.AdamwEarlyIdeal.τ Cert.AdamwEarlyIdeal.sig) → Buf (Elt Ideal) ℓ) (g : Dev Cert.AdamwEarlyIdeal.nD → PrngReg)
    (m' : (ℓ : Loc Cert.AdamwEarlyReferenceIdeal.nD Cert.AdamwEarlyReferenceIdeal.τ Cert.AdamwEarlyReferenceIdeal.sig) → Buf (Elt Ideal) ℓ) (g' : Dev Cert.AdamwEarlyReferenceIdeal.nD → PrngReg), Pre_AdamwEarlyIdeal m →
    (∀ c : Dev Cert.AdamwEarlyIdeal.nD,
      m' ((c.tc : Thread Cert.AdamwEarlyReferenceIdeal.nD Cert.AdamwEarlyReferenceIdeal.τ).loc Cert.AdamwEarlyReferenceIdeal.main_arg0) = m ((c.tc : Thread Cert.AdamwEarlyIdeal.nD Cert.AdamwEarlyIdeal.τ).loc Cert.AdamwEarlyIdeal.main_arg0)
      ∧ m' ((c.tc : Thread Cert.AdamwEarlyReferenceIdeal.nD Cert.AdamwEarlyReferenceIdeal.τ).loc Cert.AdamwEarlyReferenceIdeal.main_arg1) = m ((c.tc : Thread Cert.AdamwEarlyIdeal.nD Cert.AdamwEarlyIdeal.τ).loc Cert.AdamwEarlyIdeal.main_arg1)
      ∧ m' ((c.tc : Thread Cert.AdamwEarlyReferenceIdeal.nD Cert.AdamwEarlyReferenceIdeal.τ).loc Cert.AdamwEarlyReferenceIdeal.main_arg2) = m ((c.tc : Thread Cert.AdamwEarlyIdeal.nD Cert.AdamwEarlyIdeal.τ).loc Cert.AdamwEarlyIdeal.main_arg2)
      ∧ m' ((c.tc : Thread Cert.AdamwEarlyReferenceIdeal.nD Cert.AdamwEarlyReferenceIdeal.τ).loc Cert.AdamwEarlyReferenceIdeal.main_arg3) = m ((c.tc : Thread Cert.AdamwEarlyIdeal.nD Cert.AdamwEarlyIdeal.τ).loc Cert.AdamwEarlyIdeal.main_arg3)
      ∧ m' ((c.tc : Thread Cert.AdamwEarlyReferenceIdeal.nD Cert.AdamwEarlyReferenceIdeal.τ).loc Cert.AdamwEarlyReferenceIdeal.main_arg4) = m ((c.tc : Thread Cert.AdamwEarlyIdeal.nD Cert.AdamwEarlyIdeal.τ).loc Cert.AdamwEarlyIdeal.main_arg4)
      ∧ m' ((c.tc : Thread Cert.AdamwEarlyReferenceIdeal.nD Cert.AdamwEarlyReferenceIdeal.τ).loc Cert.AdamwEarlyReferenceIdeal.main_arg5) = m ((c.tc : Thread Cert.AdamwEarlyIdeal.nD Cert.AdamwEarlyIdeal.τ).loc Cert.AdamwEarlyIdeal.main_arg5)) →
    ∃ (v0 : (c : Dev Cert.AdamwEarlyIdeal.nD) → Buf (Elt Ideal) ((c.tc : Thread Cert.AdamwEarlyIdeal.nD Cert.AdamwEarlyIdeal.τ).loc Cert.AdamwEarlyIdeal.main_v0_0)) (v1 : (c : Dev Cert.AdamwEarlyIdeal.nD) → Buf (Elt Ideal) ((c.tc : Thread Cert.AdamwEarlyIdeal.nD Cert.AdamwEarlyIdeal.τ).loc Cert.AdamwEarlyIdeal.main_v0_1)) (v2 : (c : Dev Cert.AdamwEarlyIdeal.nD) → Buf (Elt Ideal) ((c.tc : Thread Cert.AdamwEarlyIdeal.nD Cert.AdamwEarlyIdeal.τ).loc Cert.AdamwEarlyIdeal.main_v0_2)) (v3 : (c : Dev Cert.AdamwEarlyIdeal.nD) → Buf (Elt Ideal) ((c.tc : Thread Cert.AdamwEarlyIdeal.nD Cert.AdamwEarlyIdeal.τ).loc Cert.AdamwEarlyIdeal.main_v0_3)),
      θ_run (Cert.AdamwEarlyIdeal.defs (F := Ideal)) (onTc (τ := Cert.AdamwEarlyIdeal.τ) (Cert.AdamwEarlyIdeal.main (F := Ideal))) ⟨m, fun _ => 0, g⟩ (fun r => ∀ c : Dev Cert.AdamwEarlyIdeal.nD,
          r.2.mem ((c.tc : Thread Cert.AdamwEarlyIdeal.nD Cert.AdamwEarlyIdeal.τ).loc Cert.AdamwEarlyIdeal.main_v0_0) = v0 c
          ∧ r.2.mem ((c.tc : Thread Cert.AdamwEarlyIdeal.nD Cert.AdamwEarlyIdeal.τ).loc Cert.AdamwEarlyIdeal.main_v0_1) = v1 c
          ∧ r.2.mem ((c.tc : Thread Cert.AdamwEarlyIdeal.nD Cert.AdamwEarlyIdeal.τ).loc Cert.AdamwEarlyIdeal.main_v0_2) = v2 c
          ∧ r.2.mem ((c.tc : Thread Cert.AdamwEarlyIdeal.nD Cert.AdamwEarlyIdeal.τ).loc Cert.AdamwEarlyIdeal.main_v0_3) = v3 c
          ∧ r.2.mem ((c.tc : Thread Cert.AdamwEarlyIdeal.nD Cert.AdamwEarlyIdeal.τ).loc Cert.AdamwEarlyIdeal.main_arg0) = m ((c.tc : Thread Cert.AdamwEarlyIdeal.nD Cert.AdamwEarlyIdeal.τ).loc Cert.AdamwEarlyIdeal.main_arg0)
          ∧ r.2.mem ((c.tc : Thread Cert.AdamwEarlyIdeal.nD Cert.AdamwEarlyIdeal.τ).loc Cert.AdamwEarlyIdeal.main_arg1) = m ((c.tc : Thread Cert.AdamwEarlyIdeal.nD Cert.AdamwEarlyIdeal.τ).loc Cert.AdamwEarlyIdeal.main_arg1)
          ∧ r.2.mem ((c.tc : Thread Cert.AdamwEarlyIdeal.nD Cert.AdamwEarlyIdeal.τ).loc Cert.AdamwEarlyIdeal.main_arg2) = m ((c.tc : Thread Cert.AdamwEarlyIdeal.nD Cert.AdamwEarlyIdeal.τ).loc Cert.AdamwEarlyIdeal.main_arg2)
          ∧ r.2.mem ((c.tc : Thread Cert.AdamwEarlyIdeal.nD Cert.AdamwEarlyIdeal.τ).loc Cert.AdamwEarlyIdeal.main_arg3) = m ((c.tc : Thread Cert.AdamwEarlyIdeal.nD Cert.AdamwEarlyIdeal.τ).loc Cert.AdamwEarlyIdeal.main_arg3)
          ∧ r.2.mem ((c.tc : Thread Cert.AdamwEarlyIdeal.nD Cert.AdamwEarlyIdeal.τ).loc Cert.AdamwEarlyIdeal.main_arg4) = m ((c.tc : Thread Cert.AdamwEarlyIdeal.nD Cert.AdamwEarlyIdeal.τ).loc Cert.AdamwEarlyIdeal.main_arg4)
          ∧ r.2.mem ((c.tc : Thread Cert.AdamwEarlyIdeal.nD Cert.AdamwEarlyIdeal.τ).loc Cert.AdamwEarlyIdeal.main_arg5) = m ((c.tc : Thread Cert.AdamwEarlyIdeal.nD Cert.AdamwEarlyIdeal.τ).loc Cert.AdamwEarlyIdeal.main_arg5))
      ∧ θ_run (Cert.AdamwEarlyReferenceIdeal.defs (F := Ideal)) (onTc (τ := Cert.AdamwEarlyReferenceIdeal.τ) (Cert.AdamwEarlyReferenceIdeal.main (F := Ideal))) ⟨m', fun _ => 0, g'⟩ (fun r => ∀ c : Dev Cert.AdamwEarlyReferenceIdeal.nD,
          r.2.mem ((c.tc : Thread Cert.AdamwEarlyReferenceIdeal.nD Cert.AdamwEarlyReferenceIdeal.τ).loc Cert.AdamwEarlyReferenceIdeal.main_v11) = v0 c
          ∧ r.2.mem ((c.tc : Thread Cert.AdamwEarlyReferenceIdeal.nD Cert.AdamwEarlyReferenceIdeal.τ).loc Cert.AdamwEarlyReferenceIdeal.main_v35) = v1 c
          ∧ r.2.mem ((c.tc : Thread Cert.AdamwEarlyReferenceIdeal.nD Cert.AdamwEarlyReferenceIdeal.τ).loc Cert.AdamwEarlyReferenceIdeal.main_v16) = v2 c
          ∧ r.2.mem ((c.tc : Thread Cert.AdamwEarlyReferenceIdeal.nD Cert.AdamwEarlyReferenceIdeal.τ).loc Cert.AdamwEarlyReferenceIdeal.main_v22) = v3 c
          ∧ r.2.mem ((c.tc : Thread Cert.AdamwEarlyReferenceIdeal.nD Cert.AdamwEarlyReferenceIdeal.τ).loc Cert.AdamwEarlyReferenceIdeal.main_arg0) = m' ((c.tc : Thread Cert.AdamwEarlyReferenceIdeal.nD Cert.AdamwEarlyReferenceIdeal.τ).loc Cert.AdamwEarlyReferenceIdeal.main_arg0)
          ∧ r.2.mem ((c.tc : Thread Cert.AdamwEarlyReferenceIdeal.nD Cert.AdamwEarlyReferenceIdeal.τ).loc Cert.AdamwEarlyReferenceIdeal.main_arg1) = m' ((c.tc : Thread Cert.AdamwEarlyReferenceIdeal.nD Cert.AdamwEarlyReferenceIdeal.τ).loc Cert.AdamwEarlyReferenceIdeal.main_arg1)
          ∧ r.2.mem ((c.tc : Thread Cert.AdamwEarlyReferenceIdeal.nD Cert.AdamwEarlyReferenceIdeal.τ).loc Cert.AdamwEarlyReferenceIdeal.main_arg2) = m' ((c.tc : Thread Cert.AdamwEarlyReferenceIdeal.nD Cert.AdamwEarlyReferenceIdeal.τ).loc Cert.AdamwEarlyReferenceIdeal.main_arg2)
          ∧ r.2.mem ((c.tc : Thread Cert.AdamwEarlyReferenceIdeal.nD Cert.AdamwEarlyReferenceIdeal.τ).loc Cert.AdamwEarlyReferenceIdeal.main_arg3) = m' ((c.tc : Thread Cert.AdamwEarlyReferenceIdeal.nD Cert.AdamwEarlyReferenceIdeal.τ).loc Cert.AdamwEarlyReferenceIdeal.main_arg3)
          ∧ r.2.mem ((c.tc : Thread Cert.AdamwEarlyReferenceIdeal.nD Cert.AdamwEarlyReferenceIdeal.τ).loc Cert.AdamwEarlyReferenceIdeal.main_arg4) = m' ((c.tc : Thread Cert.AdamwEarlyReferenceIdeal.nD Cert.AdamwEarlyReferenceIdeal.τ).loc Cert.AdamwEarlyReferenceIdeal.main_arg4)
          ∧ r.2.mem ((c.tc : Thread Cert.AdamwEarlyReferenceIdeal.nD Cert.AdamwEarlyReferenceIdeal.τ).loc Cert.AdamwEarlyReferenceIdeal.main_arg5) = m' ((c.tc : Thread Cert.AdamwEarlyReferenceIdeal.nD Cert.AdamwEarlyReferenceIdeal.τ).loc Cert.AdamwEarlyReferenceIdeal.main_arg5))

def preserves_AdamwLate_AdamwLateIdeal : Prop :=
  True

def algebraic_AdamwLateIdeal_AdamwLateReferenceIdeal [hAdamwLateIdeal : Cert.AdamwLateIdeal.Facts] [hAdamwLateReferenceIdeal : Cert.AdamwLateReferenceIdeal.Facts] : Prop :=
  ∀ (m : (ℓ : Loc Cert.AdamwLateIdeal.nD Cert.AdamwLateIdeal.τ Cert.AdamwLateIdeal.sig) → Buf (Elt Ideal) ℓ) (g : Dev Cert.AdamwLateIdeal.nD → PrngReg)
    (m' : (ℓ : Loc Cert.AdamwLateReferenceIdeal.nD Cert.AdamwLateReferenceIdeal.τ Cert.AdamwLateReferenceIdeal.sig) → Buf (Elt Ideal) ℓ) (g' : Dev Cert.AdamwLateReferenceIdeal.nD → PrngReg), Pre_AdamwLateIdeal m →
    (∀ c : Dev Cert.AdamwLateIdeal.nD,
      m' ((c.tc : Thread Cert.AdamwLateReferenceIdeal.nD Cert.AdamwLateReferenceIdeal.τ).loc Cert.AdamwLateReferenceIdeal.main_arg0) = m ((c.tc : Thread Cert.AdamwLateIdeal.nD Cert.AdamwLateIdeal.τ).loc Cert.AdamwLateIdeal.main_arg0)
      ∧ m' ((c.tc : Thread Cert.AdamwLateReferenceIdeal.nD Cert.AdamwLateReferenceIdeal.τ).loc Cert.AdamwLateReferenceIdeal.main_arg1) = m ((c.tc : Thread Cert.AdamwLateIdeal.nD Cert.AdamwLateIdeal.τ).loc Cert.AdamwLateIdeal.main_arg1)
      ∧ m' ((c.tc : Thread Cert.AdamwLateReferenceIdeal.nD Cert.AdamwLateReferenceIdeal.τ).loc Cert.AdamwLateReferenceIdeal.main_arg2) = m ((c.tc : Thread Cert.AdamwLateIdeal.nD Cert.AdamwLateIdeal.τ).loc Cert.AdamwLateIdeal.main_arg2)
      ∧ m' ((c.tc : Thread Cert.AdamwLateReferenceIdeal.nD Cert.AdamwLateReferenceIdeal.τ).loc Cert.AdamwLateReferenceIdeal.main_arg3) = m ((c.tc : Thread Cert.AdamwLateIdeal.nD Cert.AdamwLateIdeal.τ).loc Cert.AdamwLateIdeal.main_arg3)
      ∧ m' ((c.tc : Thread Cert.AdamwLateReferenceIdeal.nD Cert.AdamwLateReferenceIdeal.τ).loc Cert.AdamwLateReferenceIdeal.main_arg4) = m ((c.tc : Thread Cert.AdamwLateIdeal.nD Cert.AdamwLateIdeal.τ).loc Cert.AdamwLateIdeal.main_arg4)
      ∧ m' ((c.tc : Thread Cert.AdamwLateReferenceIdeal.nD Cert.AdamwLateReferenceIdeal.τ).loc Cert.AdamwLateReferenceIdeal.main_arg5) = m ((c.tc : Thread Cert.AdamwLateIdeal.nD Cert.AdamwLateIdeal.τ).loc Cert.AdamwLateIdeal.main_arg5)) →
    ∃ (v0 : (c : Dev Cert.AdamwLateIdeal.nD) → Buf (Elt Ideal) ((c.tc : Thread Cert.AdamwLateIdeal.nD Cert.AdamwLateIdeal.τ).loc Cert.AdamwLateIdeal.main_v0_0)) (v1 : (c : Dev Cert.AdamwLateIdeal.nD) → Buf (Elt Ideal) ((c.tc : Thread Cert.AdamwLateIdeal.nD Cert.AdamwLateIdeal.τ).loc Cert.AdamwLateIdeal.main_v0_1)) (v2 : (c : Dev Cert.AdamwLateIdeal.nD) → Buf (Elt Ideal) ((c.tc : Thread Cert.AdamwLateIdeal.nD Cert.AdamwLateIdeal.τ).loc Cert.AdamwLateIdeal.main_v0_2)) (v3 : (c : Dev Cert.AdamwLateIdeal.nD) → Buf (Elt Ideal) ((c.tc : Thread Cert.AdamwLateIdeal.nD Cert.AdamwLateIdeal.τ).loc Cert.AdamwLateIdeal.main_v0_3)),
      θ_run (Cert.AdamwLateIdeal.defs (F := Ideal)) (onTc (τ := Cert.AdamwLateIdeal.τ) (Cert.AdamwLateIdeal.main (F := Ideal))) ⟨m, fun _ => 0, g⟩ (fun r => ∀ c : Dev Cert.AdamwLateIdeal.nD,
          r.2.mem ((c.tc : Thread Cert.AdamwLateIdeal.nD Cert.AdamwLateIdeal.τ).loc Cert.AdamwLateIdeal.main_v0_0) = v0 c
          ∧ r.2.mem ((c.tc : Thread Cert.AdamwLateIdeal.nD Cert.AdamwLateIdeal.τ).loc Cert.AdamwLateIdeal.main_v0_1) = v1 c
          ∧ r.2.mem ((c.tc : Thread Cert.AdamwLateIdeal.nD Cert.AdamwLateIdeal.τ).loc Cert.AdamwLateIdeal.main_v0_2) = v2 c
          ∧ r.2.mem ((c.tc : Thread Cert.AdamwLateIdeal.nD Cert.AdamwLateIdeal.τ).loc Cert.AdamwLateIdeal.main_v0_3) = v3 c
          ∧ r.2.mem ((c.tc : Thread Cert.AdamwLateIdeal.nD Cert.AdamwLateIdeal.τ).loc Cert.AdamwLateIdeal.main_arg0) = m ((c.tc : Thread Cert.AdamwLateIdeal.nD Cert.AdamwLateIdeal.τ).loc Cert.AdamwLateIdeal.main_arg0)
          ∧ r.2.mem ((c.tc : Thread Cert.AdamwLateIdeal.nD Cert.AdamwLateIdeal.τ).loc Cert.AdamwLateIdeal.main_arg1) = m ((c.tc : Thread Cert.AdamwLateIdeal.nD Cert.AdamwLateIdeal.τ).loc Cert.AdamwLateIdeal.main_arg1)
          ∧ r.2.mem ((c.tc : Thread Cert.AdamwLateIdeal.nD Cert.AdamwLateIdeal.τ).loc Cert.AdamwLateIdeal.main_arg2) = m ((c.tc : Thread Cert.AdamwLateIdeal.nD Cert.AdamwLateIdeal.τ).loc Cert.AdamwLateIdeal.main_arg2)
          ∧ r.2.mem ((c.tc : Thread Cert.AdamwLateIdeal.nD Cert.AdamwLateIdeal.τ).loc Cert.AdamwLateIdeal.main_arg3) = m ((c.tc : Thread Cert.AdamwLateIdeal.nD Cert.AdamwLateIdeal.τ).loc Cert.AdamwLateIdeal.main_arg3)
          ∧ r.2.mem ((c.tc : Thread Cert.AdamwLateIdeal.nD Cert.AdamwLateIdeal.τ).loc Cert.AdamwLateIdeal.main_arg4) = m ((c.tc : Thread Cert.AdamwLateIdeal.nD Cert.AdamwLateIdeal.τ).loc Cert.AdamwLateIdeal.main_arg4)
          ∧ r.2.mem ((c.tc : Thread Cert.AdamwLateIdeal.nD Cert.AdamwLateIdeal.τ).loc Cert.AdamwLateIdeal.main_arg5) = m ((c.tc : Thread Cert.AdamwLateIdeal.nD Cert.AdamwLateIdeal.τ).loc Cert.AdamwLateIdeal.main_arg5))
      ∧ θ_run (Cert.AdamwLateReferenceIdeal.defs (F := Ideal)) (onTc (τ := Cert.AdamwLateReferenceIdeal.τ) (Cert.AdamwLateReferenceIdeal.main (F := Ideal))) ⟨m', fun _ => 0, g'⟩ (fun r => ∀ c : Dev Cert.AdamwLateReferenceIdeal.nD,
          r.2.mem ((c.tc : Thread Cert.AdamwLateReferenceIdeal.nD Cert.AdamwLateReferenceIdeal.τ).loc Cert.AdamwLateReferenceIdeal.main_v11) = v0 c
          ∧ r.2.mem ((c.tc : Thread Cert.AdamwLateReferenceIdeal.nD Cert.AdamwLateReferenceIdeal.τ).loc Cert.AdamwLateReferenceIdeal.main_v35) = v1 c
          ∧ r.2.mem ((c.tc : Thread Cert.AdamwLateReferenceIdeal.nD Cert.AdamwLateReferenceIdeal.τ).loc Cert.AdamwLateReferenceIdeal.main_v16) = v2 c
          ∧ r.2.mem ((c.tc : Thread Cert.AdamwLateReferenceIdeal.nD Cert.AdamwLateReferenceIdeal.τ).loc Cert.AdamwLateReferenceIdeal.main_v22) = v3 c
          ∧ r.2.mem ((c.tc : Thread Cert.AdamwLateReferenceIdeal.nD Cert.AdamwLateReferenceIdeal.τ).loc Cert.AdamwLateReferenceIdeal.main_arg0) = m' ((c.tc : Thread Cert.AdamwLateReferenceIdeal.nD Cert.AdamwLateReferenceIdeal.τ).loc Cert.AdamwLateReferenceIdeal.main_arg0)
          ∧ r.2.mem ((c.tc : Thread Cert.AdamwLateReferenceIdeal.nD Cert.AdamwLateReferenceIdeal.τ).loc Cert.AdamwLateReferenceIdeal.main_arg1) = m' ((c.tc : Thread Cert.AdamwLateReferenceIdeal.nD Cert.AdamwLateReferenceIdeal.τ).loc Cert.AdamwLateReferenceIdeal.main_arg1)
          ∧ r.2.mem ((c.tc : Thread Cert.AdamwLateReferenceIdeal.nD Cert.AdamwLateReferenceIdeal.τ).loc Cert.AdamwLateReferenceIdeal.main_arg2) = m' ((c.tc : Thread Cert.AdamwLateReferenceIdeal.nD Cert.AdamwLateReferenceIdeal.τ).loc Cert.AdamwLateReferenceIdeal.main_arg2)
          ∧ r.2.mem ((c.tc : Thread Cert.AdamwLateReferenceIdeal.nD Cert.AdamwLateReferenceIdeal.τ).loc Cert.AdamwLateReferenceIdeal.main_arg3) = m' ((c.tc : Thread Cert.AdamwLateReferenceIdeal.nD Cert.AdamwLateReferenceIdeal.τ).loc Cert.AdamwLateReferenceIdeal.main_arg3)
          ∧ r.2.mem ((c.tc : Thread Cert.AdamwLateReferenceIdeal.nD Cert.AdamwLateReferenceIdeal.τ).loc Cert.AdamwLateReferenceIdeal.main_arg4) = m' ((c.tc : Thread Cert.AdamwLateReferenceIdeal.nD Cert.AdamwLateReferenceIdeal.τ).loc Cert.AdamwLateReferenceIdeal.main_arg4)
          ∧ r.2.mem ((c.tc : Thread Cert.AdamwLateReferenceIdeal.nD Cert.AdamwLateReferenceIdeal.τ).loc Cert.AdamwLateReferenceIdeal.main_arg5) = m' ((c.tc : Thread Cert.AdamwLateReferenceIdeal.nD Cert.AdamwLateReferenceIdeal.τ).loc Cert.AdamwLateReferenceIdeal.main_arg5))

def preserves_ForgetBwd_ForgetBwdIdeal : Prop :=
  True

def algebraic_ForgetBwdIdeal_ForgetBwdReferenceIdeal [hForgetBwdIdeal : Cert.ForgetBwdIdeal.Facts] [hForgetBwdReferenceIdeal : Cert.ForgetBwdReferenceIdeal.Facts] : Prop :=
  ∀ (m : (ℓ : Loc Cert.ForgetBwdIdeal.nD Cert.ForgetBwdIdeal.τ Cert.ForgetBwdIdeal.sig) → Buf (Elt Ideal) ℓ) (g : Dev Cert.ForgetBwdIdeal.nD → PrngReg)
    (m' : (ℓ : Loc Cert.ForgetBwdReferenceIdeal.nD Cert.ForgetBwdReferenceIdeal.τ Cert.ForgetBwdReferenceIdeal.sig) → Buf (Elt Ideal) ℓ) (g' : Dev Cert.ForgetBwdReferenceIdeal.nD → PrngReg), Pre_ForgetBwdIdeal m →
    (∀ c : Dev Cert.ForgetBwdIdeal.nD,
      m' ((c.tc : Thread Cert.ForgetBwdReferenceIdeal.nD Cert.ForgetBwdReferenceIdeal.τ).loc Cert.ForgetBwdReferenceIdeal.main_arg0) = m ((c.tc : Thread Cert.ForgetBwdIdeal.nD Cert.ForgetBwdIdeal.τ).loc Cert.ForgetBwdIdeal.main_arg0)
      ∧ m' ((c.tc : Thread Cert.ForgetBwdReferenceIdeal.nD Cert.ForgetBwdReferenceIdeal.τ).loc Cert.ForgetBwdReferenceIdeal.main_arg1) = m ((c.tc : Thread Cert.ForgetBwdIdeal.nD Cert.ForgetBwdIdeal.τ).loc Cert.ForgetBwdIdeal.main_arg1)) →
    ∃ (v0 : (c : Dev Cert.ForgetBwdIdeal.nD) → Buf (Elt Ideal) ((c.tc : Thread Cert.ForgetBwdIdeal.nD Cert.ForgetBwdIdeal.τ).loc Cert.ForgetBwdIdeal.main_v0_0)) (v1 : (c : Dev Cert.ForgetBwdIdeal.nD) → Buf (Elt Ideal) ((c.tc : Thread Cert.ForgetBwdIdeal.nD Cert.ForgetBwdIdeal.τ).loc Cert.ForgetBwdIdeal.main_v0_1)),
      θ_run (Cert.ForgetBwdIdeal.defs (F := Ideal)) (onTc (τ := Cert.ForgetBwdIdeal.τ) (Cert.ForgetBwdIdeal.main (F := Ideal))) ⟨m, fun _ => 0, g⟩ (fun r => ∀ c : Dev Cert.ForgetBwdIdeal.nD,
          r.2.mem ((c.tc : Thread Cert.ForgetBwdIdeal.nD Cert.ForgetBwdIdeal.τ).loc Cert.ForgetBwdIdeal.main_v0_0) = v0 c
          ∧ r.2.mem ((c.tc : Thread Cert.ForgetBwdIdeal.nD Cert.ForgetBwdIdeal.τ).loc Cert.ForgetBwdIdeal.main_v0_1) = v1 c
          ∧ r.2.mem ((c.tc : Thread Cert.ForgetBwdIdeal.nD Cert.ForgetBwdIdeal.τ).loc Cert.ForgetBwdIdeal.main_arg0) = m ((c.tc : Thread Cert.ForgetBwdIdeal.nD Cert.ForgetBwdIdeal.τ).loc Cert.ForgetBwdIdeal.main_arg0)
          ∧ r.2.mem ((c.tc : Thread Cert.ForgetBwdIdeal.nD Cert.ForgetBwdIdeal.τ).loc Cert.ForgetBwdIdeal.main_arg1) = m ((c.tc : Thread Cert.ForgetBwdIdeal.nD Cert.ForgetBwdIdeal.τ).loc Cert.ForgetBwdIdeal.main_arg1))
      ∧ θ_run (Cert.ForgetBwdReferenceIdeal.defs (F := Ideal)) (onTc (τ := Cert.ForgetBwdReferenceIdeal.τ) (Cert.ForgetBwdReferenceIdeal.main (F := Ideal))) ⟨m', fun _ => 0, g'⟩ (fun r => ∀ c : Dev Cert.ForgetBwdReferenceIdeal.nD,
          r.2.mem ((c.tc : Thread Cert.ForgetBwdReferenceIdeal.nD Cert.ForgetBwdReferenceIdeal.τ).loc Cert.ForgetBwdReferenceIdeal.main_v16) = v0 c
          ∧ r.2.mem ((c.tc : Thread Cert.ForgetBwdReferenceIdeal.nD Cert.ForgetBwdReferenceIdeal.τ).loc Cert.ForgetBwdReferenceIdeal.main_v18) = v1 c
          ∧ r.2.mem ((c.tc : Thread Cert.ForgetBwdReferenceIdeal.nD Cert.ForgetBwdReferenceIdeal.τ).loc Cert.ForgetBwdReferenceIdeal.main_arg0) = m' ((c.tc : Thread Cert.ForgetBwdReferenceIdeal.nD Cert.ForgetBwdReferenceIdeal.τ).loc Cert.ForgetBwdReferenceIdeal.main_arg0)
          ∧ r.2.mem ((c.tc : Thread Cert.ForgetBwdReferenceIdeal.nD Cert.ForgetBwdReferenceIdeal.τ).loc Cert.ForgetBwdReferenceIdeal.main_arg1) = m' ((c.tc : Thread Cert.ForgetBwdReferenceIdeal.nD Cert.ForgetBwdReferenceIdeal.τ).loc Cert.ForgetBwdReferenceIdeal.main_arg1))

def preserves_ForgetFwd_ForgetFwdIdeal : Prop :=
  True

def algebraic_ForgetFwdIdeal_ForgetFwdReferenceIdeal [hForgetFwdIdeal : Cert.ForgetFwdIdeal.Facts] [hForgetFwdReferenceIdeal : Cert.ForgetFwdReferenceIdeal.Facts] : Prop :=
  ∀ (m : (ℓ : Loc Cert.ForgetFwdIdeal.nD Cert.ForgetFwdIdeal.τ Cert.ForgetFwdIdeal.sig) → Buf (Elt Ideal) ℓ) (g : Dev Cert.ForgetFwdIdeal.nD → PrngReg)
    (m' : (ℓ : Loc Cert.ForgetFwdReferenceIdeal.nD Cert.ForgetFwdReferenceIdeal.τ Cert.ForgetFwdReferenceIdeal.sig) → Buf (Elt Ideal) ℓ) (g' : Dev Cert.ForgetFwdReferenceIdeal.nD → PrngReg), Pre_ForgetFwdIdeal m →
    (∀ c : Dev Cert.ForgetFwdIdeal.nD,
      m' ((c.tc : Thread Cert.ForgetFwdReferenceIdeal.nD Cert.ForgetFwdReferenceIdeal.τ).loc Cert.ForgetFwdReferenceIdeal.main_arg0) = m ((c.tc : Thread Cert.ForgetFwdIdeal.nD Cert.ForgetFwdIdeal.τ).loc Cert.ForgetFwdIdeal.main_arg0)
      ∧ m' ((c.tc : Thread Cert.ForgetFwdReferenceIdeal.nD Cert.ForgetFwdReferenceIdeal.τ).loc Cert.ForgetFwdReferenceIdeal.main_arg1) = m ((c.tc : Thread Cert.ForgetFwdIdeal.nD Cert.ForgetFwdIdeal.τ).loc Cert.ForgetFwdIdeal.main_arg1)
      ∧ m' ((c.tc : Thread Cert.ForgetFwdReferenceIdeal.nD Cert.ForgetFwdReferenceIdeal.τ).loc Cert.ForgetFwdReferenceIdeal.main_arg2) = m ((c.tc : Thread Cert.ForgetFwdIdeal.nD Cert.ForgetFwdIdeal.τ).loc Cert.ForgetFwdIdeal.main_arg2)) →
    ∃ (v0 : (c : Dev Cert.ForgetFwdIdeal.nD) → Buf (Elt Ideal) ((c.tc : Thread Cert.ForgetFwdIdeal.nD Cert.ForgetFwdIdeal.τ).loc Cert.ForgetFwdIdeal.main_v0_0)) (v1 : (c : Dev Cert.ForgetFwdIdeal.nD) → Buf (Elt Ideal) ((c.tc : Thread Cert.ForgetFwdIdeal.nD Cert.ForgetFwdIdeal.τ).loc Cert.ForgetFwdIdeal.main_v0_1)),
      θ_run (Cert.ForgetFwdIdeal.defs (F := Ideal)) (onTc (τ := Cert.ForgetFwdIdeal.τ) (Cert.ForgetFwdIdeal.main (F := Ideal))) ⟨m, fun _ => 0, g⟩ (fun r => ∀ c : Dev Cert.ForgetFwdIdeal.nD,
          r.2.mem ((c.tc : Thread Cert.ForgetFwdIdeal.nD Cert.ForgetFwdIdeal.τ).loc Cert.ForgetFwdIdeal.main_v0_0) = v0 c
          ∧ r.2.mem ((c.tc : Thread Cert.ForgetFwdIdeal.nD Cert.ForgetFwdIdeal.τ).loc Cert.ForgetFwdIdeal.main_v0_1) = v1 c
          ∧ r.2.mem ((c.tc : Thread Cert.ForgetFwdIdeal.nD Cert.ForgetFwdIdeal.τ).loc Cert.ForgetFwdIdeal.main_arg0) = m ((c.tc : Thread Cert.ForgetFwdIdeal.nD Cert.ForgetFwdIdeal.τ).loc Cert.ForgetFwdIdeal.main_arg0)
          ∧ r.2.mem ((c.tc : Thread Cert.ForgetFwdIdeal.nD Cert.ForgetFwdIdeal.τ).loc Cert.ForgetFwdIdeal.main_arg1) = m ((c.tc : Thread Cert.ForgetFwdIdeal.nD Cert.ForgetFwdIdeal.τ).loc Cert.ForgetFwdIdeal.main_arg1)
          ∧ r.2.mem ((c.tc : Thread Cert.ForgetFwdIdeal.nD Cert.ForgetFwdIdeal.τ).loc Cert.ForgetFwdIdeal.main_arg2) = m ((c.tc : Thread Cert.ForgetFwdIdeal.nD Cert.ForgetFwdIdeal.τ).loc Cert.ForgetFwdIdeal.main_arg2))
      ∧ θ_run (Cert.ForgetFwdReferenceIdeal.defs (F := Ideal)) (onTc (τ := Cert.ForgetFwdReferenceIdeal.τ) (Cert.ForgetFwdReferenceIdeal.main (F := Ideal))) ⟨m', fun _ => 0, g'⟩ (fun r => ∀ c : Dev Cert.ForgetFwdReferenceIdeal.nD,
          r.2.mem ((c.tc : Thread Cert.ForgetFwdReferenceIdeal.nD Cert.ForgetFwdReferenceIdeal.τ).loc Cert.ForgetFwdReferenceIdeal.main_v4) = v0 c
          ∧ r.2.mem ((c.tc : Thread Cert.ForgetFwdReferenceIdeal.nD Cert.ForgetFwdReferenceIdeal.τ).loc Cert.ForgetFwdReferenceIdeal.main_v6) = v1 c
          ∧ r.2.mem ((c.tc : Thread Cert.ForgetFwdReferenceIdeal.nD Cert.ForgetFwdReferenceIdeal.τ).loc Cert.ForgetFwdReferenceIdeal.main_arg0) = m' ((c.tc : Thread Cert.ForgetFwdReferenceIdeal.nD Cert.ForgetFwdReferenceIdeal.τ).loc Cert.ForgetFwdReferenceIdeal.main_arg0)
          ∧ r.2.mem ((c.tc : Thread Cert.ForgetFwdReferenceIdeal.nD Cert.ForgetFwdReferenceIdeal.τ).loc Cert.ForgetFwdReferenceIdeal.main_arg1) = m' ((c.tc : Thread Cert.ForgetFwdReferenceIdeal.nD Cert.ForgetFwdReferenceIdeal.τ).loc Cert.ForgetFwdReferenceIdeal.main_arg1)
          ∧ r.2.mem ((c.tc : Thread Cert.ForgetFwdReferenceIdeal.nD Cert.ForgetFwdReferenceIdeal.τ).loc Cert.ForgetFwdReferenceIdeal.main_arg2) = m' ((c.tc : Thread Cert.ForgetFwdReferenceIdeal.nD Cert.ForgetFwdReferenceIdeal.τ).loc Cert.ForgetFwdReferenceIdeal.main_arg2))

def preserves_NormMix_NormMixIdeal : Prop :=
  True

def algebraic_NormMixIdeal_NormMixReferenceIdeal [hNormMixIdeal : Cert.NormMixIdeal.Facts] [hNormMixReferenceIdeal : Cert.NormMixReferenceIdeal.Facts] : Prop :=
  ∀ (m : (ℓ : Loc Cert.NormMixIdeal.nD Cert.NormMixIdeal.τ Cert.NormMixIdeal.sig) → Buf (Elt Ideal) ℓ) (g : Dev Cert.NormMixIdeal.nD → PrngReg)
    (m' : (ℓ : Loc Cert.NormMixReferenceIdeal.nD Cert.NormMixReferenceIdeal.τ Cert.NormMixReferenceIdeal.sig) → Buf (Elt Ideal) ℓ) (g' : Dev Cert.NormMixReferenceIdeal.nD → PrngReg), Pre_NormMixIdeal m →
    (∀ c : Dev Cert.NormMixIdeal.nD,
      m' ((c.tc : Thread Cert.NormMixReferenceIdeal.nD Cert.NormMixReferenceIdeal.τ).loc Cert.NormMixReferenceIdeal.main_arg0) = m ((c.tc : Thread Cert.NormMixIdeal.nD Cert.NormMixIdeal.τ).loc Cert.NormMixIdeal.main_arg0)
      ∧ m' ((c.tc : Thread Cert.NormMixReferenceIdeal.nD Cert.NormMixReferenceIdeal.τ).loc Cert.NormMixReferenceIdeal.main_arg1) = m ((c.tc : Thread Cert.NormMixIdeal.nD Cert.NormMixIdeal.τ).loc Cert.NormMixIdeal.main_arg1)
      ∧ m' ((c.tc : Thread Cert.NormMixReferenceIdeal.nD Cert.NormMixReferenceIdeal.τ).loc Cert.NormMixReferenceIdeal.main_arg2) = m ((c.tc : Thread Cert.NormMixIdeal.nD Cert.NormMixIdeal.τ).loc Cert.NormMixIdeal.main_arg2)) →
    ∃ (v0 : (c : Dev Cert.NormMixIdeal.nD) → Buf (Elt Ideal) ((c.tc : Thread Cert.NormMixIdeal.nD Cert.NormMixIdeal.τ).loc Cert.NormMixIdeal.main_v0)),
      θ_run (Cert.NormMixIdeal.defs (F := Ideal)) (onTc (τ := Cert.NormMixIdeal.τ) (Cert.NormMixIdeal.main (F := Ideal))) ⟨m, fun _ => 0, g⟩ (fun r => ∀ c : Dev Cert.NormMixIdeal.nD,
          r.2.mem ((c.tc : Thread Cert.NormMixIdeal.nD Cert.NormMixIdeal.τ).loc Cert.NormMixIdeal.main_v0) = v0 c
          ∧ r.2.mem ((c.tc : Thread Cert.NormMixIdeal.nD Cert.NormMixIdeal.τ).loc Cert.NormMixIdeal.main_arg0) = m ((c.tc : Thread Cert.NormMixIdeal.nD Cert.NormMixIdeal.τ).loc Cert.NormMixIdeal.main_arg0)
          ∧ r.2.mem ((c.tc : Thread Cert.NormMixIdeal.nD Cert.NormMixIdeal.τ).loc Cert.NormMixIdeal.main_arg1) = m ((c.tc : Thread Cert.NormMixIdeal.nD Cert.NormMixIdeal.τ).loc Cert.NormMixIdeal.main_arg1)
          ∧ r.2.mem ((c.tc : Thread Cert.NormMixIdeal.nD Cert.NormMixIdeal.τ).loc Cert.NormMixIdeal.main_arg2) = m ((c.tc : Thread Cert.NormMixIdeal.nD Cert.NormMixIdeal.τ).loc Cert.NormMixIdeal.main_arg2))
      ∧ θ_run (Cert.NormMixReferenceIdeal.defs (F := Ideal)) (onTc (τ := Cert.NormMixReferenceIdeal.τ) (Cert.NormMixReferenceIdeal.main (F := Ideal))) ⟨m', fun _ => 0, g'⟩ (fun r => ∀ c : Dev Cert.NormMixReferenceIdeal.nD,
          r.2.mem ((c.tc : Thread Cert.NormMixReferenceIdeal.nD Cert.NormMixReferenceIdeal.τ).loc Cert.NormMixReferenceIdeal.main_v14) = v0 c
          ∧ r.2.mem ((c.tc : Thread Cert.NormMixReferenceIdeal.nD Cert.NormMixReferenceIdeal.τ).loc Cert.NormMixReferenceIdeal.main_arg0) = m' ((c.tc : Thread Cert.NormMixReferenceIdeal.nD Cert.NormMixReferenceIdeal.τ).loc Cert.NormMixReferenceIdeal.main_arg0)
          ∧ r.2.mem ((c.tc : Thread Cert.NormMixReferenceIdeal.nD Cert.NormMixReferenceIdeal.τ).loc Cert.NormMixReferenceIdeal.main_arg1) = m' ((c.tc : Thread Cert.NormMixReferenceIdeal.nD Cert.NormMixReferenceIdeal.τ).loc Cert.NormMixReferenceIdeal.main_arg1)
          ∧ r.2.mem ((c.tc : Thread Cert.NormMixReferenceIdeal.nD Cert.NormMixReferenceIdeal.τ).loc Cert.NormMixReferenceIdeal.main_arg2) = m' ((c.tc : Thread Cert.NormMixReferenceIdeal.nD Cert.NormMixReferenceIdeal.τ).loc Cert.NormMixReferenceIdeal.main_arg2))

def preserves_AddHalves_AddHalvesIdeal : Prop :=
  True

def algebraic_AddHalvesIdeal_AddHalvesReferenceIdeal [hAddHalvesIdeal : Cert.AddHalvesIdeal.Facts] [hAddHalvesReferenceIdeal : Cert.AddHalvesReferenceIdeal.Facts] [hPre_half_named : Cert.Pre_half_named.Facts] : Prop :=
  ∀ (m : (ℓ : Loc Cert.AddHalvesIdeal.nD Cert.AddHalvesIdeal.τ Cert.AddHalvesIdeal.sig) → Buf (Elt Ideal) ℓ) (g : Dev Cert.AddHalvesIdeal.nD → PrngReg)
    (m' : (ℓ : Loc Cert.AddHalvesReferenceIdeal.nD Cert.AddHalvesReferenceIdeal.τ Cert.AddHalvesReferenceIdeal.sig) → Buf (Elt Ideal) ℓ) (g' : Dev Cert.AddHalvesReferenceIdeal.nD → PrngReg), Pre_AddHalvesIdeal m →
    (∀ c : Dev Cert.AddHalvesIdeal.nD,
      m' ((c.tc : Thread Cert.AddHalvesReferenceIdeal.nD Cert.AddHalvesReferenceIdeal.τ).loc Cert.AddHalvesReferenceIdeal.main_arg0) = m ((c.tc : Thread Cert.AddHalvesIdeal.nD Cert.AddHalvesIdeal.τ).loc Cert.AddHalvesIdeal.main_arg0)
      ∧ m' ((c.tc : Thread Cert.AddHalvesReferenceIdeal.nD Cert.AddHalvesReferenceIdeal.τ).loc Cert.AddHalvesReferenceIdeal.main_arg1) = m ((c.tc : Thread Cert.AddHalvesIdeal.nD Cert.AddHalvesIdeal.τ).loc Cert.AddHalvesIdeal.main_arg1)
      ∧ m' ((c.tc : Thread Cert.AddHalvesReferenceIdeal.nD Cert.AddHalvesReferenceIdeal.τ).loc Cert.AddHalvesReferenceIdeal.main_arg2) = m ((c.tc : Thread Cert.AddHalvesIdeal.nD Cert.AddHalvesIdeal.τ).loc Cert.AddHalvesIdeal.main_arg2)) →
    ∃ (v0 : (c : Dev Cert.AddHalvesIdeal.nD) → Buf (Elt Ideal) ((c.tc : Thread Cert.AddHalvesIdeal.nD Cert.AddHalvesIdeal.τ).loc Cert.AddHalvesIdeal.main_v0)),
      θ_run (Cert.AddHalvesIdeal.defs (F := Ideal)) (onTc (τ := Cert.AddHalvesIdeal.τ) (Cert.AddHalvesIdeal.main (F := Ideal))) ⟨m, fun _ => 0, g⟩ (fun r => ∀ c : Dev Cert.AddHalvesIdeal.nD,
          r.2.mem ((c.tc : Thread Cert.AddHalvesIdeal.nD Cert.AddHalvesIdeal.τ).loc Cert.AddHalvesIdeal.main_v0) = v0 c
          ∧ r.2.mem ((c.tc : Thread Cert.AddHalvesIdeal.nD Cert.AddHalvesIdeal.τ).loc Cert.AddHalvesIdeal.main_arg0) = m ((c.tc : Thread Cert.AddHalvesIdeal.nD Cert.AddHalvesIdeal.τ).loc Cert.AddHalvesIdeal.main_arg0)
          ∧ r.2.mem ((c.tc : Thread Cert.AddHalvesIdeal.nD Cert.AddHalvesIdeal.τ).loc Cert.AddHalvesIdeal.main_arg1) = m ((c.tc : Thread Cert.AddHalvesIdeal.nD Cert.AddHalvesIdeal.τ).loc Cert.AddHalvesIdeal.main_arg1)
          ∧ r.2.mem ((c.tc : Thread Cert.AddHalvesIdeal.nD Cert.AddHalvesIdeal.τ).loc Cert.AddHalvesIdeal.main_arg2) = m ((c.tc : Thread Cert.AddHalvesIdeal.nD Cert.AddHalvesIdeal.τ).loc Cert.AddHalvesIdeal.main_arg2))
      ∧ θ_run (Cert.AddHalvesReferenceIdeal.defs (F := Ideal)) (onTc (τ := Cert.AddHalvesReferenceIdeal.τ) (Cert.AddHalvesReferenceIdeal.main (F := Ideal))) ⟨m', fun _ => 0, g'⟩ (fun r => ∀ c : Dev Cert.AddHalvesReferenceIdeal.nD,
          r.2.mem ((c.tc : Thread Cert.AddHalvesReferenceIdeal.nD Cert.AddHalvesReferenceIdeal.τ).loc Cert.AddHalvesReferenceIdeal.main_v9) = v0 c
          ∧ r.2.mem ((c.tc : Thread Cert.AddHalvesReferenceIdeal.nD Cert.AddHalvesReferenceIdeal.τ).loc Cert.AddHalvesReferenceIdeal.main_arg0) = m' ((c.tc : Thread Cert.AddHalvesReferenceIdeal.nD Cert.AddHalvesReferenceIdeal.τ).loc Cert.AddHalvesReferenceIdeal.main_arg0)
          ∧ r.2.mem ((c.tc : Thread Cert.AddHalvesReferenceIdeal.nD Cert.AddHalvesReferenceIdeal.τ).loc Cert.AddHalvesReferenceIdeal.main_arg1) = m' ((c.tc : Thread Cert.AddHalvesReferenceIdeal.nD Cert.AddHalvesReferenceIdeal.τ).loc Cert.AddHalvesReferenceIdeal.main_arg1)
          ∧ r.2.mem ((c.tc : Thread Cert.AddHalvesReferenceIdeal.nD Cert.AddHalvesReferenceIdeal.τ).loc Cert.AddHalvesReferenceIdeal.main_arg2) = m' ((c.tc : Thread Cert.AddHalvesReferenceIdeal.nD Cert.AddHalvesReferenceIdeal.τ).loc Cert.AddHalvesReferenceIdeal.main_arg2))

def Claim : Prop :=
  ∃ (hKernel : Cert.Kernel.Facts) (hKernelIdeal : Cert.KernelIdeal.Facts) (hReferenceIdeal : Cert.ReferenceIdeal.Facts) (hInProj : Cert.InProj.Facts) (hInProjIdeal : Cert.InProjIdeal.Facts) (hInProjReferenceIdeal : Cert.InProjReferenceIdeal.Facts) (hOutProj : Cert.OutProj.Facts) (hOutProjIdeal : Cert.OutProjIdeal.Facts) (hOutProjReferenceIdeal : Cert.OutProjReferenceIdeal.Facts) (hFf1 : Cert.Ff1.Facts) (hFf1Ideal : Cert.Ff1Ideal.Facts) (hFf1ReferenceIdeal : Cert.Ff1ReferenceIdeal.Facts) (hFf2 : Cert.Ff2.Facts) (hFf2Ideal : Cert.Ff2Ideal.Facts) (hFf2ReferenceIdeal : Cert.Ff2ReferenceIdeal.Facts) (hFf2Dw : Cert.Ff2Dw.Facts) (hFf2DwIdeal : Cert.Ff2DwIdeal.Facts) (hFf2DwReferenceIdeal : Cert.Ff2DwReferenceIdeal.Facts) (hFf2Dlhs : Cert.Ff2Dlhs.Facts) (hFf2DlhsIdeal : Cert.Ff2DlhsIdeal.Facts) (hFf2DlhsReferenceIdeal : Cert.Ff2DlhsReferenceIdeal.Facts) (hFf1Dlhs : Cert.Ff1Dlhs.Facts) (hFf1DlhsIdeal : Cert.Ff1DlhsIdeal.Facts) (hFf1DlhsReferenceIdeal : Cert.Ff1DlhsReferenceIdeal.Facts) (hFf1Dw : Cert.Ff1Dw.Facts) (hFf1DwIdeal : Cert.Ff1DwIdeal.Facts) (hFf1DwReferenceIdeal : Cert.Ff1DwReferenceIdeal.Facts) (hOutProjDw : Cert.OutProjDw.Facts) (hOutProjDwIdeal : Cert.OutProjDwIdeal.Facts) (hOutProjDwReferenceIdeal : Cert.OutProjDwReferenceIdeal.Facts) (hOutProjDlhs : Cert.OutProjDlhs.Facts) (hOutProjDlhsIdeal : Cert.OutProjDlhsIdeal.Facts) (hOutProjDlhsReferenceIdeal : Cert.OutProjDlhsReferenceIdeal.Facts) (hInProjDw : Cert.InProjDw.Facts) (hInProjDwIdeal : Cert.InProjDwIdeal.Facts) (hInProjDwReferenceIdeal : Cert.InProjDwReferenceIdeal.Facts) (hInProjDlhs : Cert.InProjDlhs.Facts) (hInProjDlhsIdeal : Cert.InProjDlhsIdeal.Facts) (hInProjDlhsReferenceIdeal : Cert.InProjDlhsReferenceIdeal.Facts) (hAdamwIn : Cert.AdamwIn.Facts) (hAdamwInIdeal : Cert.AdamwInIdeal.Facts) (hAdamwInReferenceIdeal : Cert.AdamwInReferenceIdeal.Facts) (hAdamwOut : Cert.AdamwOut.Facts) (hAdamwOutIdeal : Cert.AdamwOutIdeal.Facts) (hAdamwOutReferenceIdeal : Cert.AdamwOutReferenceIdeal.Facts) (hAdamwFf : Cert.AdamwFf.Facts) (hAdamwFfIdeal : Cert.AdamwFfIdeal.Facts) (hAdamwFfReferenceIdeal : Cert.AdamwFfReferenceIdeal.Facts) (hNormMixBwd : Cert.NormMixBwd.Facts) (hNormMixBwdIdeal : Cert.NormMixBwdIdeal.Facts) (hNormMixBwdReferenceIdeal : Cert.NormMixBwdReferenceIdeal.Facts) (hNormFfnBwd : Cert.NormFfnBwd.Facts) (hNormFfnBwdIdeal : Cert.NormFfnBwdIdeal.Facts) (hNormFfnBwdReferenceIdeal : Cert.NormFfnBwdReferenceIdeal.Facts) (hLossHead : Cert.LossHead.Facts) (hLossHeadIdeal : Cert.LossHeadIdeal.Facts) (hLossHeadReferenceIdeal : Cert.LossHeadReferenceIdeal.Facts) (hNormFfn : Cert.NormFfn.Facts) (hNormFfnIdeal : Cert.NormFfnIdeal.Facts) (hNormFfnReferenceIdeal : Cert.NormFfnReferenceIdeal.Facts) (hGateDw : Cert.GateDw.Facts) (hGateDwIdeal : Cert.GateDwIdeal.Facts) (hGateDwReferenceIdeal : Cert.GateDwReferenceIdeal.Facts) (hGateDlhs : Cert.GateDlhs.Facts) (hGateDlhsIdeal : Cert.GateDlhsIdeal.Facts) (hGateDlhsReferenceIdeal : Cert.GateDlhsReferenceIdeal.Facts) (hAdamwEarly : Cert.AdamwEarly.Facts) (hAdamwEarlyIdeal : Cert.AdamwEarlyIdeal.Facts) (hAdamwEarlyReferenceIdeal : Cert.AdamwEarlyReferenceIdeal.Facts) (hAdamwLate : Cert.AdamwLate.Facts) (hAdamwLateIdeal : Cert.AdamwLateIdeal.Facts) (hAdamwLateReferenceIdeal : Cert.AdamwLateReferenceIdeal.Facts) (hForgetBwd : Cert.ForgetBwd.Facts) (hForgetBwdIdeal : Cert.ForgetBwdIdeal.Facts) (hForgetBwdReferenceIdeal : Cert.ForgetBwdReferenceIdeal.Facts) (hForgetFwd : Cert.ForgetFwd.Facts) (hForgetFwdIdeal : Cert.ForgetFwdIdeal.Facts) (hForgetFwdReferenceIdeal : Cert.ForgetFwdReferenceIdeal.Facts) (hNormMix : Cert.NormMix.Facts) (hNormMixIdeal : Cert.NormMixIdeal.Facts) (hNormMixReferenceIdeal : Cert.NormMixReferenceIdeal.Facts) (hAddHalves : Cert.AddHalves.Facts) (hAddHalvesIdeal : Cert.AddHalvesIdeal.Facts) (hAddHalvesReferenceIdeal : Cert.AddHalvesReferenceIdeal.Facts) (hPre_finite : Cert.Pre_finite.Facts) (hPre_half_named : Cert.Pre_half_named.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_InProj (hInProj := hInProj)
    ∧ quiescent_InProjIdeal (hInProjIdeal := hInProjIdeal)
    ∧ quiescent_InProjReferenceIdeal (hInProjReferenceIdeal := hInProjReferenceIdeal)
    ∧ quiescent_OutProj (hOutProj := hOutProj)
    ∧ quiescent_OutProjIdeal (hOutProjIdeal := hOutProjIdeal)
    ∧ quiescent_OutProjReferenceIdeal (hOutProjReferenceIdeal := hOutProjReferenceIdeal)
    ∧ quiescent_Ff1 (hFf1 := hFf1)
    ∧ quiescent_Ff1Ideal (hFf1Ideal := hFf1Ideal)
    ∧ quiescent_Ff1ReferenceIdeal (hFf1ReferenceIdeal := hFf1ReferenceIdeal)
    ∧ quiescent_Ff2 (hFf2 := hFf2)
    ∧ quiescent_Ff2Ideal (hFf2Ideal := hFf2Ideal)
    ∧ quiescent_Ff2ReferenceIdeal (hFf2ReferenceIdeal := hFf2ReferenceIdeal)
    ∧ quiescent_Ff2Dw (hFf2Dw := hFf2Dw)
    ∧ quiescent_Ff2DwIdeal (hFf2DwIdeal := hFf2DwIdeal)
    ∧ quiescent_Ff2DwReferenceIdeal (hFf2DwReferenceIdeal := hFf2DwReferenceIdeal)
    ∧ quiescent_Ff2Dlhs (hFf2Dlhs := hFf2Dlhs)
    ∧ quiescent_Ff2DlhsIdeal (hFf2DlhsIdeal := hFf2DlhsIdeal)
    ∧ quiescent_Ff2DlhsReferenceIdeal (hFf2DlhsReferenceIdeal := hFf2DlhsReferenceIdeal)
    ∧ quiescent_Ff1Dlhs (hFf1Dlhs := hFf1Dlhs)
    ∧ quiescent_Ff1DlhsIdeal (hFf1DlhsIdeal := hFf1DlhsIdeal)
    ∧ quiescent_Ff1DlhsReferenceIdeal (hFf1DlhsReferenceIdeal := hFf1DlhsReferenceIdeal)
    ∧ quiescent_Ff1Dw (hFf1Dw := hFf1Dw)
    ∧ quiescent_Ff1DwIdeal (hFf1DwIdeal := hFf1DwIdeal)
    ∧ quiescent_Ff1DwReferenceIdeal (hFf1DwReferenceIdeal := hFf1DwReferenceIdeal)
    ∧ quiescent_OutProjDw (hOutProjDw := hOutProjDw)
    ∧ quiescent_OutProjDwIdeal (hOutProjDwIdeal := hOutProjDwIdeal)
    ∧ quiescent_OutProjDwReferenceIdeal (hOutProjDwReferenceIdeal := hOutProjDwReferenceIdeal)
    ∧ quiescent_OutProjDlhs (hOutProjDlhs := hOutProjDlhs)
    ∧ quiescent_OutProjDlhsIdeal (hOutProjDlhsIdeal := hOutProjDlhsIdeal)
    ∧ quiescent_OutProjDlhsReferenceIdeal (hOutProjDlhsReferenceIdeal := hOutProjDlhsReferenceIdeal)
    ∧ quiescent_InProjDw (hInProjDw := hInProjDw)
    ∧ quiescent_InProjDwIdeal (hInProjDwIdeal := hInProjDwIdeal)
    ∧ quiescent_InProjDwReferenceIdeal (hInProjDwReferenceIdeal := hInProjDwReferenceIdeal)
    ∧ quiescent_InProjDlhs (hInProjDlhs := hInProjDlhs)
    ∧ quiescent_InProjDlhsIdeal (hInProjDlhsIdeal := hInProjDlhsIdeal)
    ∧ quiescent_InProjDlhsReferenceIdeal (hInProjDlhsReferenceIdeal := hInProjDlhsReferenceIdeal)
    ∧ quiescent_AdamwIn (hAdamwIn := hAdamwIn)
    ∧ quiescent_AdamwInIdeal (hAdamwInIdeal := hAdamwInIdeal)
    ∧ quiescent_AdamwInReferenceIdeal (hAdamwInReferenceIdeal := hAdamwInReferenceIdeal)
    ∧ quiescent_AdamwOut (hAdamwOut := hAdamwOut)
    ∧ quiescent_AdamwOutIdeal (hAdamwOutIdeal := hAdamwOutIdeal)
    ∧ quiescent_AdamwOutReferenceIdeal (hAdamwOutReferenceIdeal := hAdamwOutReferenceIdeal)
    ∧ quiescent_AdamwFf (hAdamwFf := hAdamwFf)
    ∧ quiescent_AdamwFfIdeal (hAdamwFfIdeal := hAdamwFfIdeal)
    ∧ quiescent_AdamwFfReferenceIdeal (hAdamwFfReferenceIdeal := hAdamwFfReferenceIdeal)
    ∧ quiescent_NormMixBwd (hNormMixBwd := hNormMixBwd)
    ∧ quiescent_NormMixBwdIdeal (hNormMixBwdIdeal := hNormMixBwdIdeal)
    ∧ quiescent_NormMixBwdReferenceIdeal (hNormMixBwdReferenceIdeal := hNormMixBwdReferenceIdeal)
    ∧ quiescent_NormFfnBwd (hNormFfnBwd := hNormFfnBwd)
    ∧ quiescent_NormFfnBwdIdeal (hNormFfnBwdIdeal := hNormFfnBwdIdeal)
    ∧ quiescent_NormFfnBwdReferenceIdeal (hNormFfnBwdReferenceIdeal := hNormFfnBwdReferenceIdeal)
    ∧ quiescent_LossHead (hLossHead := hLossHead)
    ∧ quiescent_LossHeadIdeal (hLossHeadIdeal := hLossHeadIdeal)
    ∧ quiescent_LossHeadReferenceIdeal (hLossHeadReferenceIdeal := hLossHeadReferenceIdeal)
    ∧ quiescent_NormFfn (hNormFfn := hNormFfn)
    ∧ quiescent_NormFfnIdeal (hNormFfnIdeal := hNormFfnIdeal)
    ∧ quiescent_NormFfnReferenceIdeal (hNormFfnReferenceIdeal := hNormFfnReferenceIdeal)
    ∧ quiescent_GateDw (hGateDw := hGateDw)
    ∧ quiescent_GateDwIdeal (hGateDwIdeal := hGateDwIdeal)
    ∧ quiescent_GateDwReferenceIdeal (hGateDwReferenceIdeal := hGateDwReferenceIdeal)
    ∧ quiescent_GateDlhs (hGateDlhs := hGateDlhs)
    ∧ quiescent_GateDlhsIdeal (hGateDlhsIdeal := hGateDlhsIdeal)
    ∧ quiescent_GateDlhsReferenceIdeal (hGateDlhsReferenceIdeal := hGateDlhsReferenceIdeal)
    ∧ quiescent_AdamwEarly (hAdamwEarly := hAdamwEarly)
    ∧ quiescent_AdamwEarlyIdeal (hAdamwEarlyIdeal := hAdamwEarlyIdeal)
    ∧ quiescent_AdamwEarlyReferenceIdeal (hAdamwEarlyReferenceIdeal := hAdamwEarlyReferenceIdeal)
    ∧ quiescent_AdamwLate (hAdamwLate := hAdamwLate)
    ∧ quiescent_AdamwLateIdeal (hAdamwLateIdeal := hAdamwLateIdeal)
    ∧ quiescent_AdamwLateReferenceIdeal (hAdamwLateReferenceIdeal := hAdamwLateReferenceIdeal)
    ∧ quiescent_ForgetBwd (hForgetBwd := hForgetBwd)
    ∧ quiescent_ForgetBwdIdeal (hForgetBwdIdeal := hForgetBwdIdeal)
    ∧ quiescent_ForgetBwdReferenceIdeal (hForgetBwdReferenceIdeal := hForgetBwdReferenceIdeal)
    ∧ quiescent_ForgetFwd (hForgetFwd := hForgetFwd)
    ∧ quiescent_ForgetFwdIdeal (hForgetFwdIdeal := hForgetFwdIdeal)
    ∧ quiescent_ForgetFwdReferenceIdeal (hForgetFwdReferenceIdeal := hForgetFwdReferenceIdeal)
    ∧ quiescent_NormMix (hNormMix := hNormMix)
    ∧ quiescent_NormMixIdeal (hNormMixIdeal := hNormMixIdeal)
    ∧ quiescent_NormMixReferenceIdeal (hNormMixReferenceIdeal := hNormMixReferenceIdeal)
    ∧ quiescent_AddHalves (hAddHalves := hAddHalves) (hPre_half_named := hPre_half_named)
    ∧ quiescent_AddHalvesIdeal (hAddHalvesIdeal := hAddHalvesIdeal) (hPre_half_named := hPre_half_named)
    ∧ quiescent_AddHalvesReferenceIdeal (hAddHalvesReferenceIdeal := hAddHalvesReferenceIdeal) (hPre_half_named := hPre_half_named)
    ∧ preserves_Kernel_KernelIdeal
    ∧ algebraic_KernelIdeal_ReferenceIdeal_pre_finite (hKernelIdeal := hKernelIdeal) (hReferenceIdeal := hReferenceIdeal) (hPre_finite := hPre_finite)
    ∧ preserves_InProj_InProjIdeal
    ∧ algebraic_InProjIdeal_InProjReferenceIdeal (hInProjIdeal := hInProjIdeal) (hInProjReferenceIdeal := hInProjReferenceIdeal)
    ∧ preserves_OutProj_OutProjIdeal
    ∧ algebraic_OutProjIdeal_OutProjReferenceIdeal (hOutProjIdeal := hOutProjIdeal) (hOutProjReferenceIdeal := hOutProjReferenceIdeal)
    ∧ preserves_Ff1_Ff1Ideal
    ∧ algebraic_Ff1Ideal_Ff1ReferenceIdeal (hFf1Ideal := hFf1Ideal) (hFf1ReferenceIdeal := hFf1ReferenceIdeal)
    ∧ preserves_Ff2_Ff2Ideal
    ∧ algebraic_Ff2Ideal_Ff2ReferenceIdeal (hFf2Ideal := hFf2Ideal) (hFf2ReferenceIdeal := hFf2ReferenceIdeal)
    ∧ preserves_Ff2Dw_Ff2DwIdeal
    ∧ algebraic_Ff2DwIdeal_Ff2DwReferenceIdeal (hFf2DwIdeal := hFf2DwIdeal) (hFf2DwReferenceIdeal := hFf2DwReferenceIdeal)
    ∧ preserves_Ff2Dlhs_Ff2DlhsIdeal
    ∧ algebraic_Ff2DlhsIdeal_Ff2DlhsReferenceIdeal (hFf2DlhsIdeal := hFf2DlhsIdeal) (hFf2DlhsReferenceIdeal := hFf2DlhsReferenceIdeal)
    ∧ preserves_Ff1Dlhs_Ff1DlhsIdeal
    ∧ algebraic_Ff1DlhsIdeal_Ff1DlhsReferenceIdeal (hFf1DlhsIdeal := hFf1DlhsIdeal) (hFf1DlhsReferenceIdeal := hFf1DlhsReferenceIdeal)
    ∧ preserves_Ff1Dw_Ff1DwIdeal
    ∧ algebraic_Ff1DwIdeal_Ff1DwReferenceIdeal (hFf1DwIdeal := hFf1DwIdeal) (hFf1DwReferenceIdeal := hFf1DwReferenceIdeal)
    ∧ preserves_OutProjDw_OutProjDwIdeal
    ∧ algebraic_OutProjDwIdeal_OutProjDwReferenceIdeal (hOutProjDwIdeal := hOutProjDwIdeal) (hOutProjDwReferenceIdeal := hOutProjDwReferenceIdeal)
    ∧ preserves_OutProjDlhs_OutProjDlhsIdeal
    ∧ algebraic_OutProjDlhsIdeal_OutProjDlhsReferenceIdeal (hOutProjDlhsIdeal := hOutProjDlhsIdeal) (hOutProjDlhsReferenceIdeal := hOutProjDlhsReferenceIdeal)
    ∧ preserves_InProjDw_InProjDwIdeal
    ∧ algebraic_InProjDwIdeal_InProjDwReferenceIdeal (hInProjDwIdeal := hInProjDwIdeal) (hInProjDwReferenceIdeal := hInProjDwReferenceIdeal)
    ∧ preserves_InProjDlhs_InProjDlhsIdeal
    ∧ algebraic_InProjDlhsIdeal_InProjDlhsReferenceIdeal (hInProjDlhsIdeal := hInProjDlhsIdeal) (hInProjDlhsReferenceIdeal := hInProjDlhsReferenceIdeal)
    ∧ preserves_AdamwIn_AdamwInIdeal
    ∧ algebraic_AdamwInIdeal_AdamwInReferenceIdeal (hAdamwInIdeal := hAdamwInIdeal) (hAdamwInReferenceIdeal := hAdamwInReferenceIdeal)
    ∧ preserves_AdamwOut_AdamwOutIdeal
    ∧ algebraic_AdamwOutIdeal_AdamwOutReferenceIdeal (hAdamwOutIdeal := hAdamwOutIdeal) (hAdamwOutReferenceIdeal := hAdamwOutReferenceIdeal)
    ∧ preserves_AdamwFf_AdamwFfIdeal
    ∧ algebraic_AdamwFfIdeal_AdamwFfReferenceIdeal (hAdamwFfIdeal := hAdamwFfIdeal) (hAdamwFfReferenceIdeal := hAdamwFfReferenceIdeal)
    ∧ preserves_NormMixBwd_NormMixBwdIdeal
    ∧ algebraic_NormMixBwdIdeal_NormMixBwdReferenceIdeal (hNormMixBwdIdeal := hNormMixBwdIdeal) (hNormMixBwdReferenceIdeal := hNormMixBwdReferenceIdeal)
    ∧ preserves_NormFfnBwd_NormFfnBwdIdeal
    ∧ algebraic_NormFfnBwdIdeal_NormFfnBwdReferenceIdeal (hNormFfnBwdIdeal := hNormFfnBwdIdeal) (hNormFfnBwdReferenceIdeal := hNormFfnBwdReferenceIdeal)
    ∧ preserves_LossHead_LossHeadIdeal
    ∧ algebraic_LossHeadIdeal_LossHeadReferenceIdeal (hLossHeadIdeal := hLossHeadIdeal) (hLossHeadReferenceIdeal := hLossHeadReferenceIdeal)
    ∧ preserves_NormFfn_NormFfnIdeal
    ∧ algebraic_NormFfnIdeal_NormFfnReferenceIdeal (hNormFfnIdeal := hNormFfnIdeal) (hNormFfnReferenceIdeal := hNormFfnReferenceIdeal)
    ∧ preserves_GateDw_GateDwIdeal
    ∧ algebraic_GateDwIdeal_GateDwReferenceIdeal (hGateDwIdeal := hGateDwIdeal) (hGateDwReferenceIdeal := hGateDwReferenceIdeal)
    ∧ preserves_GateDlhs_GateDlhsIdeal
    ∧ algebraic_GateDlhsIdeal_GateDlhsReferenceIdeal (hGateDlhsIdeal := hGateDlhsIdeal) (hGateDlhsReferenceIdeal := hGateDlhsReferenceIdeal)
    ∧ preserves_AdamwEarly_AdamwEarlyIdeal
    ∧ algebraic_AdamwEarlyIdeal_AdamwEarlyReferenceIdeal (hAdamwEarlyIdeal := hAdamwEarlyIdeal) (hAdamwEarlyReferenceIdeal := hAdamwEarlyReferenceIdeal)
    ∧ preserves_AdamwLate_AdamwLateIdeal
    ∧ algebraic_AdamwLateIdeal_AdamwLateReferenceIdeal (hAdamwLateIdeal := hAdamwLateIdeal) (hAdamwLateReferenceIdeal := hAdamwLateReferenceIdeal)
    ∧ preserves_ForgetBwd_ForgetBwdIdeal
    ∧ algebraic_ForgetBwdIdeal_ForgetBwdReferenceIdeal (hForgetBwdIdeal := hForgetBwdIdeal) (hForgetBwdReferenceIdeal := hForgetBwdReferenceIdeal)
    ∧ preserves_ForgetFwd_ForgetFwdIdeal
    ∧ algebraic_ForgetFwdIdeal_ForgetFwdReferenceIdeal (hForgetFwdIdeal := hForgetFwdIdeal) (hForgetFwdReferenceIdeal := hForgetFwdReferenceIdeal)
    ∧ preserves_NormMix_NormMixIdeal
    ∧ algebraic_NormMixIdeal_NormMixReferenceIdeal (hNormMixIdeal := hNormMixIdeal) (hNormMixReferenceIdeal := hNormMixReferenceIdeal)
    ∧ preserves_AddHalves_AddHalvesIdeal
    ∧ algebraic_AddHalvesIdeal_AddHalvesReferenceIdeal (hAddHalvesIdeal := hAddHalvesIdeal) (hAddHalvesReferenceIdeal := hAddHalvesReferenceIdeal) (hPre_half_named := hPre_half_named)
-- ==== Pre_finite.lean ====
abbrev S4096x5120 : Shape := ⟨2, ![4096, 5120]⟩
abbrev S8x4096 : Shape := ⟨2, ![8, 4096]⟩
abbrev S4096x1024 : Shape := ⟨2, ![4096, 1024]⟩
abbrev S_ : Shape := ⟨0, ![]⟩

class Facts : Prop where
  bitsLt_bf16_f32 : FTy.bits .bf16 < FTy.bits .f32
  bcast_S_S4096x5120 : S_.BroadcastsInDim S4096x5120 (![] : Fin 0 → Fin S4096x5120.rank)
  reducesTo_S4096x5120_S_d0_1 : S4096x5120.ReducesTo [0, 1] S_
  h_S_ : 0 < S_.numel
  bcast_S_S8x4096 : S_.BroadcastsInDim S8x4096 (![] : Fin 0 → Fin S8x4096.rank)
  reducesTo_S8x4096_S_d0_1 : S8x4096.ReducesTo [0, 1] S_
  bcast_S_S4096x1024 : S_.BroadcastsInDim S4096x1024 (![] : Fin 0 → Fin S4096x1024.rank)
  reducesTo_S4096x1024_S_d0_1 : S4096x1024.ReducesTo [0, 1] S_

variable [Facts]

def fn {F : FTy → Type} [FloatOps F] (main_arg0 : FVec F S4096x5120 .bf16) (main_arg1 : FVec F S8x4096 .f32) (main_arg2 : FVec F S4096x1024 .bf16) : IVec S_ 1 :=
  let main_v0 : FVec F S4096x5120 .f32 := (extf .f32 · bitsLt_bf16_f32) main_arg0
  let main_v1 : FVec F S4096x5120 .f32 := Host.absf main_v0
  let main_cst : FVec F S_ .f32 := constant S_ .f32 0x7F800000#32
  let main_v2 : FVec F S4096x5120 .f32 := broadcastInDim S4096x5120 ![] bcast_S_S4096x5120 main_cst
  let main_v3 : IVec S4096x5120 1 := cmpf .olt main_v1 main_v2
  let main_c : IVec S_ 1 := constantI S_ 1 1#1
  let main_v4 : IVec S_ 1 := (fun x v => Host.reduce IntOp.andi x v reducesTo_S4096x5120_S_d0_1 h_S_) main_v3 main_c
  let main_v5 : FVec F S8x4096 .f32 := Host.absf main_arg1
  let main_cst_0 : FVec F S_ .f32 := constant S_ .f32 0x7F800000#32
  let main_v6 : FVec F S8x4096 .f32 := broadcastInDim S8x4096 ![] bcast_S_S8x4096 main_cst_0
  let main_v7 : IVec S8x4096 1 := cmpf .olt main_v5 main_v6
  let main_c_1 : IVec S_ 1 := constantI S_ 1 1#1
  let main_v8 : IVec S_ 1 := (fun x v => Host.reduce IntOp.andi x v reducesTo_S8x4096_S_d0_1 h_S_) main_v7 main_c_1
  let main_v9 : IVec S_ 1 := andi main_v4 main_v8
  let main_v10 : FVec F S4096x1024 .f32 := (extf .f32 · bitsLt_bf16_f32) main_arg2
  let main_v11 : FVec F S4096x1024 .f32 := Host.absf main_v10
  let main_cst_2 : FVec F S_ .f32 := constant S_ .f32 0x7F800000#32
  let main_v12 : FVec F S4096x1024 .f32 := broadcastInDim S4096x1024 ![] bcast_S_S4096x1024 main_cst_2
  let main_v13 : IVec S4096x1024 1 := cmpf .olt main_v11 main_v12
  let main_c_3 : IVec S_ 1 := constantI S_ 1 1#1
  let main_v14 : IVec S_ 1 := (fun x v => Host.reduce IntOp.andi x v reducesTo_S4096x1024_S_d0_1 h_S_) main_v13 main_c_3
  let main_v15 : IVec S_ 1 := andi main_v9 main_v14
  main_v15
-- ==== Pre_half_named.lean ====
abbrev S4x2048x2048 : Shape := ⟨3, ![4, 2048, 2048]⟩
abbrev S4x2048x1024 : Shape := ⟨3, ![4, 2048, 1024]⟩
abbrev S2 : Shape := ⟨1, ![2]⟩
abbrev S1 : Shape := ⟨1, ![1]⟩
abbrev S_ : Shape := ⟨0, ![]⟩

class Facts : Prop where
  slices_S2_S1_1 : S2.Slices ![1] S1
  shapeCasts_S1_S_ : S1.ShapeCasts S_

variable [Facts]

def fn {F : FTy → Type} [FloatOps F] (main_arg0 : FVec F S4x2048x2048 .bf16) (main_arg1 : FVec F S4x2048x1024 .bf16) (main_arg2 : IVec S2 32) : IVec S_ 1 :=
  let main_v0 : IVec S1 32 := (extractStridedSlice S1 ![1] · slices_S2_S1_1) main_arg2
  let main_v1 : IVec S_ 32 := shapeCast S_ main_v0 shapeCasts_S1_S_
  let main_c : IVec S_ 32 := constantI S_ 32 0#32
  let main_v2 : IVec S_ 1 := cmpi .eq main_v1 main_c
  let main_v3 : IVec S1 32 := (extractStridedSlice S1 ![1] · slices_S2_S1_1) main_arg2
  let main_v4 : IVec S_ 32 := shapeCast S_ main_v3 shapeCasts_S1_S_
  let main_c_0 : IVec S_ 32 := constantI S_ 32 1#32
  let main_v5 : IVec S_ 1 := cmpi .eq main_v4 main_c_0
  let main_v6 : IVec S_ 1 := ori main_v2 main_v5
  main_v6
-- ==== Kernel.lean ====
abbrev S4096x5120 : Shape := ⟨2, ![4096, 5120]⟩
abbrev S8x4096 : Shape := ⟨2, ![8, 4096]⟩
abbrev S4096x1024 : Shape := ⟨2, ![4096, 1024]⟩
abbrev S10 : Shape := ⟨1, ![10]⟩
abbrev S4096x8x128 : Shape := ⟨3, ![4096, 8, 128]⟩
abbrev S8x4096x128 : Shape := ⟨3, ![8, 4096, 128]⟩
abbrev S4096 : Shape := ⟨1, ![4096]⟩
abbrev S8x4096x4096 : Shape := ⟨3, ![8, 4096, 4096]⟩
abbrev S_ : Shape := ⟨0, ![]⟩
abbrev S8x1x4096 : Shape := ⟨3, ![8, 1, 4096]⟩
abbrev S1x1x4096 : Shape := ⟨3, ![1, 1, 4096]⟩
abbrev S1x4096x1 : Shape := ⟨3, ![1, 4096, 1]⟩
abbrev S1x4096x4096 : Shape := ⟨3, ![1, 4096, 4096]⟩
abbrev S8x4096x1 : Shape := ⟨3, ![8, 4096, 1]⟩
abbrev S1024x256 : Shape := ⟨2, ![1024, 256]⟩
abbrev S1 : Shape := ⟨1, ![1]⟩
abbrev S2x1024x128 : Shape := ⟨3, ![2, 1024, 128]⟩
abbrev S2x1x1024 : Shape := ⟨3, ![2, 1, 1024]⟩
abbrev S4096x256 : Shape := ⟨2, ![4096, 256]⟩
abbrev S2x1x4096 : Shape := ⟨3, ![2, 1, 4096]⟩
abbrev S2x4096x128 : Shape := ⟨3, ![2, 4096, 128]⟩
abbrev S1024x128 : Shape := ⟨2, ![1024, 128]⟩
abbrev S1024 : Shape := ⟨1, ![1024]⟩
abbrev S1024x1 : Shape := ⟨2, ![1024, 1]⟩
abbrev S1x1x1024 : Shape := ⟨3, ![1, 1, 1024]⟩
abbrev S1x1024 : Shape := ⟨2, ![1, 1024]⟩
abbrev S1024x1024 : Shape := ⟨2, ![1024, 1024]⟩
abbrev S1x1024x128 : Shape := ⟨3, ![1, 1024, 128]⟩
abbrev S512x128 : Shape := ⟨2, ![512, 128]⟩
abbrev S512 : Shape := ⟨1, ![512]⟩
abbrev S512x1 : Shape := ⟨2, ![512, 1]⟩
abbrev S1x1x512 : Shape := ⟨3, ![1, 1, 512]⟩
abbrev S1x512 : Shape := ⟨2, ![1, 512]⟩
abbrev S512x512 : Shape := ⟨2, ![512, 512]⟩
abbrev S1x512x128 : Shape := ⟨3, ![1, 512, 128]⟩
abbrev S512x1024 : Shape := ⟨2, ![512, 1024]⟩
abbrev S1x4096x128 : Shape := ⟨3, ![1, 4096, 128]⟩
abbrev S4096x128 : Shape := ⟨2, ![4096, 128]⟩
abbrev S128x4096 : Shape := ⟨2, ![128, 4096]⟩
abbrev S1x4096 : Shape := ⟨2, ![1, 4096]⟩

abbrev nBuf : Space → Nat
  | .hbm => 61
  | .vmem => 29
  | .smem => 2
  | _ => 0

abbrev bufTy : (tb : Table) → Fin (tcTables nBuf tb) → BufTy
  | .hbm, ⟨0, _⟩ => ⟨S4096x5120, .bf16⟩
  | .hbm, ⟨1, _⟩ => ⟨S8x4096, .f32⟩
  | .hbm, ⟨2, _⟩ => ⟨S4096x1024, .bf16⟩
  | .hbm, ⟨3, _⟩ => ⟨S4096x1024, .bf16⟩
  | .hbm, ⟨4, _⟩ => ⟨S4096x1024, .f32⟩
  | .hbm, ⟨5, _⟩ => ⟨S4096x8x128, .f32⟩
  | .hbm, ⟨6, _⟩ => ⟨S8x4096x128, .f32⟩
  | .hbm, ⟨7, _⟩ => ⟨S4096x1024, .bf16⟩
  | .hbm, ⟨8, _⟩ => ⟨S4096x1024, .f32⟩
  | .hbm, ⟨9, _⟩ => ⟨S4096x8x128, .f32⟩
  | .hbm, ⟨10, _⟩ => ⟨S8x4096x128, .f32⟩
  | .hbm, ⟨11, _⟩ => ⟨S4096x1024, .bf16⟩
  | .hbm, ⟨12, _⟩ => ⟨S4096x1024, .f32⟩
  | .hbm, ⟨13, _⟩ => ⟨S4096x8x128, .f32⟩
  | .hbm, ⟨14, _⟩ => ⟨S8x4096x128, .f32⟩
  | .hbm, ⟨15, _⟩ => ⟨S4096, .i32⟩
  | .hbm, ⟨16, _⟩ => ⟨S8x4096x4096, .f32⟩
  | .hbm, ⟨17, _⟩ => ⟨S_, .f32⟩
  | .hbm, ⟨18, _⟩ => ⟨S8x4096x4096, .f32⟩
  | .hbm, ⟨19, _⟩ => ⟨S8x4096x4096, .f32⟩
  | .hbm, ⟨20, _⟩ => ⟨S8x1x4096, .f32⟩
  | .hbm, ⟨21, _⟩ => ⟨S8x4096x4096, .f32⟩
  | .hbm, ⟨22, _⟩ => ⟨S8x4096x4096, .f32⟩
  | .hbm, ⟨23, _⟩ => ⟨S1x1x4096, .i32⟩
  | .hbm, ⟨24, _⟩ => ⟨S1x4096x1, .i32⟩
  | .hbm, ⟨25, _⟩ => ⟨S1x4096x4096, .i32⟩
  | .hbm, ⟨26, _⟩ => ⟨S1x4096x4096, .i32⟩
  | .hbm, ⟨27, _⟩ => ⟨S1x4096x4096, .i1⟩
  | .hbm, ⟨28, _⟩ => ⟨S_, .f32⟩
  | .hbm, ⟨29, _⟩ => ⟨S_, .f32⟩
  | .hbm, ⟨30, _⟩ => ⟨S8x4096x4096, .i1⟩
  | .hbm, ⟨31, _⟩ => ⟨S8x4096x4096, .f32⟩
  | .hbm, ⟨32, _⟩ => ⟨S8x4096x4096, .f32⟩
  | .hbm, ⟨33, _⟩ => ⟨S_, .f32⟩
  | .hbm, ⟨34, _⟩ => ⟨S8x4096, .f32⟩
  | .hbm, ⟨35, _⟩ => ⟨S8x4096x1, .f32⟩
  | .hbm, ⟨36, _⟩ => ⟨S8x4096x4096, .f32⟩
  | .hbm, ⟨37, _⟩ => ⟨S8x4096x4096, .f32⟩
  | .hbm, ⟨38, _⟩ => ⟨S8x4096x4096, .f32⟩
  | .hbm, ⟨39, _⟩ => ⟨S_, .f32⟩
  | .hbm, ⟨40, _⟩ => ⟨S8x4096, .f32⟩
  | .hbm, ⟨41, _⟩ => ⟨S8x4096x1, .f32⟩
  | .hbm, ⟨42, _⟩ => ⟨S8x4096x4096, .f32⟩
  | .hbm, ⟨43, _⟩ => ⟨S8x4096x4096, .f32⟩
  | .hbm, ⟨44, _⟩ => ⟨S8x4096x128, .f32⟩
  | .hbm, ⟨45, _⟩ => ⟨S4096x8x128, .f32⟩
  | .hbm, ⟨46, _⟩ => ⟨S4096x1024, .f32⟩
  | .hbm, ⟨47, _⟩ => ⟨S4096x1024, .bf16⟩
  | .hbm, ⟨48, _⟩ => ⟨S8x4096x1, .f32⟩
  | .hbm, ⟨49, _⟩ => ⟨S8x4096x1, .f32⟩
  | .hbm, ⟨50, _⟩ => ⟨S_, .f32⟩
  | .hbm, ⟨51, _⟩ => ⟨S_, .f32⟩
  | .hbm, ⟨52, _⟩ => ⟨S8x4096x1, .f32⟩
  | .hbm, ⟨53, _⟩ => ⟨S8x4096x1, .f32⟩
  | .hbm, ⟨54, _⟩ => ⟨S8x4096x128, .f32⟩
  | .hbm, ⟨55, _⟩ => ⟨S8x1x4096, .f32⟩
  | .hbm, ⟨56, _⟩ => ⟨S4096x1024, .bf16⟩
  | .hbm, ⟨57, _⟩ => ⟨S4096x1024, .bf16⟩
  | .hbm, ⟨58, _⟩ => ⟨S4096x1024, .bf16⟩
  | .hbm, ⟨59, _⟩ => ⟨S8x1x4096, .f32⟩
  | .hbm, ⟨60, _⟩ => ⟨S8x1x4096, .f32⟩
  | .local _ .vmem, ⟨0, _⟩ => ⟨S1024x256, .bf16⟩
  | .local _ .vmem, ⟨1, _⟩ => ⟨S1024x256, .bf16⟩
  | .local _ .vmem, ⟨2, _⟩ => ⟨S1024x256, .bf16⟩
  | .local _ .vmem, ⟨3, _⟩ => ⟨S1024x256, .bf16⟩
  | .local _ .vmem, ⟨4, _⟩ => ⟨S1024x256, .bf16⟩
  | .local _ .vmem, ⟨5, _⟩ => ⟨S1024x256, .bf16⟩
  | .local _ .vmem, ⟨6, _⟩ => ⟨S1024x256, .bf16⟩
  | .local _ .vmem, ⟨7, _⟩ => ⟨S1024x256, .bf16⟩
  | .local _ .vmem, ⟨8, _⟩ => ⟨S1024x256, .bf16⟩
  | .local _ .vmem, ⟨9, _⟩ => ⟨S1024x256, .bf16⟩
  | .local _ .vmem, ⟨10, _⟩ => ⟨S2x1024x128, .f32⟩
  | .local _ .vmem, ⟨11, _⟩ => ⟨S2x1024x128, .f32⟩
  | .local _ .vmem, ⟨12, _⟩ => ⟨S2x1x1024, .f32⟩
  | .local _ .vmem, ⟨13, _⟩ => ⟨S2x1x1024, .f32⟩
  | .local _ .vmem, ⟨14, _⟩ => ⟨S4096x256, .bf16⟩
  | .local _ .vmem, ⟨15, _⟩ => ⟨S4096x256, .bf16⟩
  | .local _ .vmem, ⟨16, _⟩ => ⟨S1024x256, .bf16⟩
  | .local _ .vmem, ⟨17, _⟩ => ⟨S1024x256, .bf16⟩
  | .local _ .vmem, ⟨18, _⟩ => ⟨S1024x256, .bf16⟩
  | .local _ .vmem, ⟨19, _⟩ => ⟨S1024x256, .bf16⟩
  | .local _ .vmem, ⟨20, _⟩ => ⟨S2x1x1024, .f32⟩
  | .local _ .vmem, ⟨21, _⟩ => ⟨S2x1x1024, .f32⟩
  | .local _ .vmem, ⟨22, _⟩ => ⟨S2x1x4096, .f32⟩
  | .local _ .vmem, ⟨23, _⟩ => ⟨S2x1x4096, .f32⟩
  | .local _ .vmem, ⟨24, _⟩ => ⟨S2x4096x128, .f32⟩
  | .local _ .vmem, ⟨25, _⟩ => ⟨S2x1024x128, .f32⟩
  | .local _ .vmem, ⟨26, _⟩ => ⟨S2x1024x128, .f32⟩
  | .local _ .vmem, ⟨27, _⟩ => ⟨S2x1x1024, .f32⟩
  | .local _ .vmem, ⟨28, _⟩ => ⟨S2x4096x128, .f32⟩
  | .local _ .smem, ⟨0, _⟩ => ⟨S10, .i32⟩
  | .local _ .smem, ⟨1, _⟩ => ⟨S10, .i32⟩
  | _, _ => ⟨S4096x5120, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_cst : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_cst_1 : Ref sig .tc := ⟨.hbm, 28, rfl⟩
abbrev main_call0_v0 : Ref sig .tc := ⟨.hbm, 29, rfl⟩
abbrev main_call0_v1 : Ref sig .tc := ⟨.hbm, 30, rfl⟩
abbrev main_call0_v2 : Ref sig .tc := ⟨.hbm, 31, rfl⟩
abbrev main_v24 : Ref sig .tc := ⟨.hbm, 32, rfl⟩
abbrev main_cst_2 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_cst_3 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_cst_4 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45_0 : Ref sig .tc := ⟨.hbm, 56, rfl⟩
abbrev main_v45_1 : Ref sig .tc := ⟨.hbm, 57, rfl⟩
abbrev main_v45_2 : Ref sig .tc := ⟨.hbm, 58, rfl⟩
abbrev main_v45_3 : Ref sig .tc := ⟨.hbm, 59, rfl⟩
abbrev main_v45_4 : Ref sig .tc := ⟨.hbm, 60, rfl⟩
abbrev main_c : Ref sig .tc := ⟨.smem, 0, rfl⟩
abbrev main_c_0 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_scratch0 : Ref sig .tc := ⟨.vmem, 24, rfl⟩
abbrev cc0_scratch1 : Ref sig .tc := ⟨.vmem, 25, rfl⟩
abbrev cc0_scratch2 : Ref sig .tc := ⟨.vmem, 26, rfl⟩
abbrev cc0_scratch3 : Ref sig .tc := ⟨.vmem, 27, rfl⟩
abbrev cc0_scratch4 : Ref sig .tc := ⟨.vmem, 28, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23

abbrev nD : Nat := 1
abbrev τ : Topo := Topo.v7x

variable {F : FTy → Type} [FloatOps F]

abbrev grid0 : Pipeline.Grid := ⟨2, ![4, 10], ![false, false]⟩

abbrev pre0 : Pipeline.Prefetch sig := ⟨2, ![main_c.idx, main_c_0.idx], fun | 0 => main_c.names | 1 => main_c_0.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg1 : BitVec 32 := BitVec.ofNat 32 (i 1).val
  let v0 : Index := Scalar.indexCast arg1
  ![v0.toNat]
def k0_mult1 (v1 : BitVec 32) : BitVec 32 :=
  let c1024_i32 : BitVec 32 := 1024#32
  let v67 : BitVec 32 := Scalar.muli v1 c1024_i32
  let c0_i32_39 : BitVec 32 := 0#32
  let v68 : BitVec 32 := Scalar.addi v67 c0_i32_39
  v68
def k0_cond3 (v1 : BitVec 32) (v3 : BitVec 32) : BitVec 1 :=
  let v10 : BitVec 1 := Scalar.cmpi .sgt v1 v3
  let v11 : BitVec 32 := Scalar.extui v10
  let c0_i32_2 : BitVec 32 := 0#32
  let v12 : BitVec 1 := Scalar.cmpi .ne v11 c0_i32_2
  v12

def k0_off2 (v1 : BitVec 32) : Fin 3 → Nat :=
  let c0_40 : Index := 0#32
  let c1024_i32 : BitVec 32 := 1024#32
  let v67 : BitVec 32 := Scalar.muli v1 c1024_i32
  let c0_i32_39 : BitVec 32 := 0#32
  let v68 : BitVec 32 := Scalar.addi v67 c0_i32_39
  let v69 : BitVec 32 := v68
  let v70 : Index := Scalar.indexCast v69
  let c0_41 : Index := 0#32
  ![0, v70.toNat, 0]
def k0_mult2 (v1 : BitVec 32) : BitVec 32 :=
  let c1024_i32_90 : BitVec 32 := 1024#32
  let v144 : BitVec 32 := Scalar.muli v1 c1024_i32_90
  let c0_i32_91 : BitVec 32 := 0#32
  let v145 : BitVec 32 := Scalar.addi v144 c0_i32_91
  v145
def k0_off3 (v1 : BitVec 32) : Fin 3 → Nat :=
  let c1_92 : Index := 1#32
  let c1024_i32_90 : BitVec 32 := 1024#32
  let v144 : BitVec 32 := Scalar.muli v1 c1024_i32_90
  let c0_i32_91 : BitVec 32 := 0#32
  let v145 : BitVec 32 := Scalar.addi v144 c0_i32_91
  let v146 : BitVec 32 := v145
  let v147 : Index := Scalar.indexCast v146
  let c0_93 : Index := 0#32
  ![1, v147.toNat, 0]
def k0_mult3 (v1 : BitVec 32) : BitVec 32 :=
  let c1024_i32 : BitVec 32 := 1024#32
  let v76 : BitVec 32 := Scalar.muli v1 c1024_i32
  let c0_i32_42 : BitVec 32 := 0#32
  let v77 : BitVec 32 := Scalar.addi v76 c0_i32_42
  v77
def k0_cond4 (v1 : BitVec 32) (v3 : BitVec 32) : BitVec 1 :=
  let v13 : BitVec 1 := Scalar.cmpi .eq v1 v3
  let v14 : BitVec 32 := Scalar.extui v13
  let c0_i32_3 : BitVec 32 := 0#32
  let v15 : BitVec 1 := Scalar.cmpi .ne v14 c0_i32_3
  v15

def k0_off4 (v1 : BitVec 32) (c0_i32_42 : BitVec 32) : Fin 3 → Nat :=
  let c0_43 : Index := 0#32
  let c1024_i32 : BitVec 32 := 1024#32
  let v76 : BitVec 32 := Scalar.muli v1 c1024_i32
  let v77 : BitVec 32 := Scalar.addi v76 c0_i32_42
  let v78 : BitVec 32 := v77
  let v79 : Index := Scalar.indexCast v78
  let c0_44 : Index := 0#32
  ![0, v79.toNat, 0]
def k0_mult4 (v1 : BitVec 32) : BitVec 32 :=
  let c1024_i32_96 : BitVec 32 := 1024#32
  let v162 : BitVec 32 := Scalar.muli v1 c1024_i32_96
  let c512_i32_97 : BitVec 32 := 512#32
  let v163 : BitVec 32 := Scalar.addi v162 c512_i32_97
  v163
def k0_mult5 (v1 : BitVec 32) : BitVec 32 :=
  let c1024_i32_151 : BitVec 32 := 1024#32
  let v248 : BitVec 32 := Scalar.muli v1 c1024_i32_151
  let c0_i32_152 : BitVec 32 := 0#32
  let v249 : BitVec 32 := Scalar.addi v248 c0_i32_152
  v249
def k0_off5 (v1 : BitVec 32) (c0_i32_152 : BitVec 32) : Fin 3 → Nat :=
  let c1_153 : Index := 1#32
  let c1024_i32_151 : BitVec 32 := 1024#32
  let v248 : BitVec 32 := Scalar.muli v1 c1024_i32_151
  let v249 : BitVec 32 := Scalar.addi v248 c0_i32_152
  let v250 : BitVec 32 := v249
  let v251 : Index := Scalar.indexCast v250
  let c0_154 : Index := 0#32
  ![1, v251.toNat, 0]
def k0_mult6 (v1 : BitVec 32) : BitVec 32 :=
  let c1024_i32_208 : BitVec 32 := 1024#32
  let v334 : BitVec 32 := Scalar.muli v1 c1024_i32_208
  let c512_i32_209 : BitVec 32 := 512#32
  let v335 : BitVec 32 := Scalar.addi v334 c512_i32_209
  v335

def k0_chk1 (v1 : BitVec 32) (v3 : BitVec 32) : Prop :=
  (∀ (k0_h3 : k0_cond3 v1 v3 = 1#1), 128 ∣ (k0_mult1 v1).toNat) ∧
  (∀ (k0_h3 : k0_cond3 v1 v3 = 1#1), ∀ a, (k0_off2 v1) a + S1x1024x128.size a ≤ S2x4096x128.size a) ∧
  (∀ (k0_h3 : k0_cond3 v1 v3 = 1#1), 128 ∣ (k0_mult2 v1).toNat) ∧
  (∀ (k0_h3 : k0_cond3 v1 v3 = 1#1), ∀ a, (k0_off3 v1) a + S1x1024x128.size a ≤ S2x4096x128.size a) ∧
  (∀ (k0_h4 : k0_cond4 v1 v3 = 1#1), 128 ∣ (k0_mult3 v1).toNat) ∧
  (∀ (k0_h4 : k0_cond4 v1 v3 = 1#1), ∀ (r : Fin 2), ∀ a, (k0_off4 v1 (BitVec.ofNat 32 (512 * r.val))) a + S1x512x128.size a ≤ S2x4096x128.size a) ∧
  (∀ (k0_h4 : k0_cond4 v1 v3 = 1#1), 128 ∣ (k0_mult4 v1).toNat) ∧
  (∀ (k0_h4 : k0_cond4 v1 v3 = 1#1), 128 ∣ (k0_mult5 v1).toNat) ∧
  (∀ (k0_h4 : k0_cond4 v1 v3 = 1#1), ∀ (r : Fin 2), ∀ a, (k0_off5 v1 (BitVec.ofNat 32 (512 * r.val))) a + S1x512x128.size a ≤ S2x4096x128.size a) ∧
  (∀ (k0_h4 : k0_cond4 v1 v3 = 1#1), 128 ∣ (k0_mult6 v1).toNat)
theorem k0_mult1_dvd : ∀ (v1 : BitVec 32) (v3 : BitVec 32) (k0_hw1 : k0_chk1 v1 v3), ∀ (k0_h3 : k0_cond3 v1 v3 = 1#1), 128 ∣ (k0_mult1 v1).toNat := fun v1 v3 k0_hw1 k0_h3 => k0_hw1.1 k0_h3
theorem k0_off2_inb : ∀ (v1 : BitVec 32) (v3 : BitVec 32) (k0_hw1 : k0_chk1 v1 v3), ∀ (k0_h3 : k0_cond3 v1 v3 = 1#1), ∀ a, (k0_off2 v1) a + S1x1024x128.size a ≤ S2x4096x128.size a := fun v1 v3 k0_hw1 k0_h3 => k0_hw1.2.1 k0_h3
theorem k0_mult2_dvd : ∀ (v1 : BitVec 32) (v3 : BitVec 32) (k0_hw1 : k0_chk1 v1 v3), ∀ (k0_h3 : k0_cond3 v1 v3 = 1#1), 128 ∣ (k0_mult2 v1).toNat := fun v1 v3 k0_hw1 k0_h3 => k0_hw1.2.2.1 k0_h3
theorem k0_off3_inb : ∀ (v1 : BitVec 32) (v3 : BitVec 32) (k0_hw1 : k0_chk1 v1 v3), ∀ (k0_h3 : k0_cond3 v1 v3 = 1#1), ∀ a, (k0_off3 v1) a + S1x1024x128.size a ≤ S2x4096x128.size a := fun v1 v3 k0_hw1 k0_h3 => k0_hw1.2.2.2.1 k0_h3
theorem k0_mult3_dvd : ∀ (v1 : BitVec 32) (v3 : BitVec 32) (k0_hw1 : k0_chk1 v1 v3), ∀ (k0_h4 : k0_cond4 v1 v3 = 1#1), 128 ∣ (k0_mult3 v1).toNat := fun v1 v3 k0_hw1 k0_h4 => k0_hw1.2.2.2.2.1 k0_h4
theorem k0_off4_inb : ∀ (v1 : BitVec 32) (v3 : BitVec 32) (k0_hw1 : k0_chk1 v1 v3), ∀ (k0_h4 : k0_cond4 v1 v3 = 1#1), ∀ (r : Fin 2), ∀ a, (k0_off4 v1 (BitVec.ofNat 32 (512 * r.val))) a + S1x512x128.size a ≤ S2x4096x128.size a := fun v1 v3 k0_hw1 k0_h4 r => k0_hw1.2.2.2.2.2.1 k0_h4 r
theorem k0_mult4_dvd : ∀ (v1 : BitVec 32) (v3 : BitVec 32) (k0_hw1 : k0_chk1 v1 v3), ∀ (k0_h4 : k0_cond4 v1 v3 = 1#1), 128 ∣ (k0_mult4 v1).toNat := fun v1 v3 k0_hw1 k0_h4 => k0_hw1.2.2.2.2.2.2.1 k0_h4
theorem k0_mult5_dvd : ∀ (v1 : BitVec 32) (v3 : BitVec 32) (k0_hw1 : k0_chk1 v1 v3), ∀ (k0_h4 : k0_cond4 v1 v3 = 1#1), 128 ∣ (k0_mult5 v1).toNat := fun v1 v3 k0_hw1 k0_h4 => k0_hw1.2.2.2.2.2.2.2.1 k0_h4
theorem k0_off5_inb : ∀ (v1 : BitVec 32) (v3 : BitVec 32) (k0_hw1 : k0_chk1 v1 v3), ∀ (k0_h4 : k0_cond4 v1 v3 = 1#1), ∀ (r : Fin 2), ∀ a, (k0_off5 v1 (BitVec.ofNat 32 (512 * r.val))) a + S1x512x128.size a ≤ S2x4096x128.size a := fun v1 v3 k0_hw1 k0_h4 r => k0_hw1.2.2.2.2.2.2.2.2.1 k0_h4 r
theorem k0_mult6_dvd : ∀ (v1 : BitVec 32) (v3 : BitVec 32) (k0_hw1 : k0_chk1 v1 v3), ∀ (k0_h4 : k0_cond4 v1 v3 = 1#1), 128 ∣ (k0_mult6 v1).toNat := fun v1 v3 k0_hw1 k0_h4 => k0_hw1.2.2.2.2.2.2.2.2.2 k0_h4

def k0_cond6 (i : grid0.Coords) : BitVec 1 :=
  let arg1 : BitVec 32 := BitVec.ofNat 32 (i 1).val
  let c9_i32 : BitVec 32 := 9#32
  let v19 : BitVec 1 := Scalar.cmpi .eq arg1 c9_i32
  let v20 : BitVec 32 := Scalar.extui v19
  let c0_i32_5 : BitVec 32 := 0#32
  let v21 : BitVec 1 := Scalar.cmpi .ne v20 c0_i32_5
  v21

def k0_cond5 (v1 : BitVec 32) : BitVec 1 :=
  let c3_i32 : BitVec 32 := 3#32
  let v16 : BitVec 1 := Scalar.cmpi .eq v1 c3_i32
  let v17 : BitVec 32 := Scalar.extui v16
  let c0_i32_4 : BitVec 32 := 0#32
  let v18 : BitVec 1 := Scalar.cmpi .ne v17 c0_i32_4
  v18

def cc0_transform_0 (k0_off1_inb : ∀ i : grid0.Coords, ∀ a, (k0_off1 i) a + S1.size a ≤ S10.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S10) ![v0.toNat] S1.size (k0_off1_inb i)) numel1_S1
  let c0_i32 : BitVec 32 := 0#32
  let v2 : BitVec 32 := Scalar.addi c0_i32 arg0
  let c0_i32_0 : BitVec 32 := 0#32
  ![v1.toNat, v2.toNat]

def cc0_transform_1 (k0_off1_inb : ∀ i : grid0.Coords, ∀ a, (k0_off1 i) a + S1.size a ≤ S10.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 1 (Rect.unit (s := S10) ![v0.toNat] S1.size (k0_off1_inb i)) numel1_S1
  let c4_i32 : BitVec 32 := 4#32
  let v2 : BitVec 32 := Scalar.addi c4_i32 arg0
  let c0_i32 : BitVec 32 := 0#32
  ![v1.toNat, v2.toNat]

def cc0_transform_2 (k0_off1_inb : ∀ i : grid0.Coords, ∀ a, (k0_off1 i) a + S1.size a ≤ S10.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 1 (Rect.unit (s := S10) ![v0.toNat] S1.size (k0_off1_inb i)) numel1_S1
  let c8_i32 : BitVec 32 := 8#32
  let v2 : BitVec 32 := Scalar.addi c8_i32 arg0
  let c0_i32 : BitVec 32 := 0#32
  ![v1.toNat, v2.toNat]

def cc0_transform_3 (k0_off1_inb : ∀ i : grid0.Coords, ∀ a, (k0_off1 i) a + S1.size a ≤ S10.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S10) ![v0.toNat] S1.size (k0_off1_inb i)) numel1_S1
  let c0_i32 : BitVec 32 := 0#32
  let v2 : BitVec 32 := Scalar.addi c0_i32 arg0
  let c0_i32_0 : BitVec 32 := 0#32
  ![v1.toNat, v2.toNat]

def cc0_transform_4 (k0_off1_inb : ∀ i : grid0.Coords, ∀ a, (k0_off1 i) a + S1.size a ≤ S10.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S10) ![v0.toNat] S1.size (k0_off1_inb i)) numel1_S1
  let c0_i32 : BitVec 32 := 0#32
  let v2 : BitVec 32 := Scalar.addi c0_i32 arg0
  let c0_i32_0 : BitVec 32 := 0#32
  ![v1.toNat, v2.toNat]

def cc0_transform_5 (k0_off1_inb : ∀ i : grid0.Coords, ∀ a, (k0_off1 i) a + S1.size a ≤ S10.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S10) ![v0.toNat] S1.size (k0_off1_inb i)) numel1_S1
  let c0_i32 : BitVec 32 := 0#32
  let c0_i32_0 : BitVec 32 := 0#32
  ![arg0.toNat, v1.toNat, c0_i32.toNat]

def cc0_transform_6 (k0_off1_inb : ∀ i : grid0.Coords, ∀ a, (k0_off1 i) a + S1.size a ≤ S10.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 1 (Rect.unit (s := S10) ![v0.toNat] S1.size (k0_off1_inb i)) numel1_S1
  let c0_i32 : BitVec 32 := 0#32
  let c0_i32_0 : BitVec 32 := 0#32
  ![arg0.toNat, c0_i32.toNat, v1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_8 (k0_off1_inb : ∀ i : grid0.Coords, ∀ a, (k0_off1 i) a + S1.size a ≤ S10.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 1 (Rect.unit (s := S10) ![v0.toNat] S1.size (k0_off1_inb i)) numel1_S1
  let c0_i32 : BitVec 32 := 0#32
  let v2 : BitVec 32 := Scalar.addi c0_i32 arg0
  let c0_i32_0 : BitVec 32 := 0#32
  ![v1.toNat, v2.toNat]

def cc0_transform_9 (k0_off1_inb : ∀ i : grid0.Coords, ∀ a, (k0_off1 i) a + S1.size a ≤ S10.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 1 (Rect.unit (s := S10) ![v0.toNat] S1.size (k0_off1_inb i)) numel1_S1
  let c0_i32 : BitVec 32 := 0#32
  let v2 : BitVec 32 := Scalar.addi c0_i32 arg0
  let c0_i32_0 : BitVec 32 := 0#32
  ![v1.toNat, v2.toNat]

def cc0_transform_10 (k0_off1_inb : ∀ i : grid0.Coords, ∀ a, (k0_off1 i) a + S1.size a ≤ S10.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 1 (Rect.unit (s := S10) ![v0.toNat] S1.size (k0_off1_inb i)) numel1_S1
  let c0_i32 : BitVec 32 := 0#32
  let c0_i32_0 : BitVec 32 := 0#32
  ![arg0.toNat, c0_i32.toNat, v1.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S2x1024x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S2x1x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S4096x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1024x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1024x256 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S2x1x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S2x1x4096 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]
-- ==== KernelIdeal.lean ====
variable {F : FTy → Type} [FloatOps F] [Named F]
def κ : String → Option EReal := fun
  | "log2e" => some (((Real.log 2)⁻¹ : ℝ) : EReal)
  | "scale2" => some (((Real.log 2)⁻¹ * (11863283 / 134217728) : ℝ) : EReal)
  | _ => none
-- ==== ReferenceIdeal.lean ====
abbrev S4096x5120 : Shape := ⟨2, ![4096, 5120]⟩
abbrev S8x4096 : Shape := ⟨2, ![8, 4096]⟩
abbrev S4096x1024 : Shape := ⟨2, ![4096, 1024]⟩
abbrev S4096x8x128 : Shape := ⟨3, ![4096, 8, 128]⟩
abbrev S8x4096x128 : Shape := ⟨3, ![8, 4096, 128]⟩
abbrev S4096 : Shape := ⟨1, ![4096]⟩
abbrev S8x4096x4096 : Shape := ⟨3, ![8, 4096, 4096]⟩
abbrev S_ : Shape := ⟨0, ![]⟩
abbrev S8x4096x1 : Shape := ⟨3, ![8, 4096, 1]⟩
abbrev S8x1x4096 : Shape := ⟨3, ![8, 1, 4096]⟩
abbrev S1x1x4096 : Shape := ⟨3, ![1, 1, 4096]⟩
abbrev S1x4096x1 : Shape := ⟨3, ![1, 4096, 1]⟩
abbrev S1x4096x4096 : Shape := ⟨3, ![1, 4096, 4096]⟩
abbrev S8x128x4096 : Shape := ⟨3, ![8, 128, 4096]⟩

abbrev nBuf : Space → Nat
  | .hbm => 127
  | .vmem => 0
  | .smem => 0
  | _ => 0

abbrev bufTy : (tb : Table) → Fin (tcTables nBuf tb) → BufTy
  | .hbm, ⟨0, _⟩ => ⟨S4096x5120, .bf16⟩
  | .hbm, ⟨1, _⟩ => ⟨S8x4096, .f32⟩
  | .hbm, ⟨2, _⟩ => ⟨S4096x1024, .bf16⟩
  | .hbm, ⟨3, _⟩ => ⟨S4096x1024, .bf16⟩
  | .hbm, ⟨4, _⟩ => ⟨S4096x1024, .f32⟩
  | .hbm, ⟨5, _⟩ => ⟨S4096x8x128, .f32⟩
  | .hbm, ⟨6, _⟩ => ⟨S8x4096x128, .f32⟩
  | .hbm, ⟨7, _⟩ => ⟨S4096x1024, .bf16⟩
  | .hbm, ⟨8, _⟩ => ⟨S4096x1024, .f32⟩
  | .hbm, ⟨9, _⟩ => ⟨S4096x8x128, .f32⟩
  | .hbm, ⟨10, _⟩ => ⟨S8x4096x128, .f32⟩
  | .hbm, ⟨11, _⟩ => ⟨S4096x1024, .bf16⟩
  | .hbm, ⟨12, _⟩ => ⟨S4096x1024, .f32⟩
  | .hbm, ⟨13, _⟩ => ⟨S4096x8x128, .f32⟩
  | .hbm, ⟨14, _⟩ => ⟨S8x4096x128, .f32⟩
  | .hbm, ⟨15, _⟩ => ⟨S4096, .i32⟩
  | .hbm, ⟨16, _⟩ => ⟨S8x4096x4096, .f32⟩
  | .hbm, ⟨17, _⟩ => ⟨S_, .f32⟩
  | .hbm, ⟨18, _⟩ => ⟨S8x4096x4096, .f32⟩
  | .hbm, ⟨19, _⟩ => ⟨S8x4096x4096, .f32⟩
  | .hbm, ⟨20, _⟩ => ⟨S8x4096x1, .f32⟩
  | .hbm, ⟨21, _⟩ => ⟨S8x4096x4096, .f32⟩
  | .hbm, ⟨22, _⟩ => ⟨S8x4096x4096, .f32⟩
  | .hbm, ⟨23, _⟩ => ⟨S8x1x4096, .f32⟩
  | .hbm, ⟨24, _⟩ => ⟨S8x4096x4096, .f32⟩
  | .hbm, ⟨25, _⟩ => ⟨S8x4096x4096, .f32⟩
  | .hbm, ⟨26, _⟩ => ⟨S1x1x4096, .i32⟩
  | .hbm, ⟨27, _⟩ => ⟨S1x4096x1, .i32⟩
  | .hbm, ⟨28, _⟩ => ⟨S1x4096x4096, .i32⟩
  | .hbm, ⟨29, _⟩ => ⟨S1x4096x4096, .i32⟩
  | .hbm, ⟨30, _⟩ => ⟨S1x4096x4096, .i1⟩
  | .hbm, ⟨31, _⟩ => ⟨S_, .f32⟩
  | .hbm, ⟨32, _⟩ => ⟨S_, .f32⟩
  | .hbm, ⟨33, _⟩ => ⟨S8x4096x4096, .i1⟩
  | .hbm, ⟨34, _⟩ => ⟨S8x4096x4096, .f32⟩
  | .hbm, ⟨35, _⟩ => ⟨S8x4096x4096, .f32⟩
  | .hbm, ⟨36, _⟩ => ⟨S_, .f32⟩
  | .hbm, ⟨37, _⟩ => ⟨S8x4096x4096, .f32⟩
  | .hbm, ⟨38, _⟩ => ⟨S_, .f32⟩
  | .hbm, ⟨39, _⟩ => ⟨S8x4096, .f32⟩
  | .hbm, ⟨40, _⟩ => ⟨S8x4096x1, .f32⟩
  | .hbm, ⟨41, _⟩ => ⟨S8x4096x4096, .f32⟩
  | .hbm, ⟨42, _⟩ => ⟨S8x4096x4096, .i1⟩
  | .hbm, ⟨43, _⟩ => ⟨S8x4096x4096, .f32⟩
  | .hbm, ⟨44, _⟩ => ⟨S_, .f32⟩
  | .hbm, ⟨45, _⟩ => ⟨S8x4096, .f32⟩
  | .hbm, ⟨46, _⟩ => ⟨S_, .f32⟩
  | .hbm, ⟨47, _⟩ => ⟨S8x4096, .f32⟩
  | .hbm, ⟨48, _⟩ => ⟨S8x4096, .f32⟩
  | .hbm, ⟨49, _⟩ => ⟨S_, .f32⟩
  | .hbm, ⟨50, _⟩ => ⟨S8x4096, .f32⟩
  | .hbm, ⟨51, _⟩ => ⟨S8x4096, .i1⟩
  | .hbm, ⟨52, _⟩ => ⟨S_, .f32⟩
  | .hbm, ⟨53, _⟩ => ⟨S8x4096, .f32⟩
  | .hbm, ⟨54, _⟩ => ⟨S8x4096, .i1⟩
  | .hbm, ⟨55, _⟩ => ⟨S_, .f32⟩
  | .hbm, ⟨56, _⟩ => ⟨S8x4096, .f32⟩
  | .hbm, ⟨57, _⟩ => ⟨S_, .f32⟩
  | .hbm, ⟨58, _⟩ => ⟨S8x4096, .f32⟩
  | .hbm, ⟨59, _⟩ => ⟨S_, .f32⟩
  | .hbm, ⟨60, _⟩ => ⟨S8x4096, .f32⟩
  | .hbm, ⟨61, _⟩ => ⟨S8x4096, .f32⟩
  | .hbm, ⟨62, _⟩ => ⟨S8x4096, .f32⟩
  | .hbm, ⟨63, _⟩ => ⟨S8x4096x1, .f32⟩
  | .hbm, ⟨64, _⟩ => ⟨S8x4096x4096, .f32⟩
  | .hbm, ⟨65, _⟩ => ⟨S8x4096x4096, .f32⟩
  | .hbm, ⟨66, _⟩ => ⟨S8x4096x4096, .f32⟩
  | .hbm, ⟨67, _⟩ => ⟨S_, .f32⟩
  | .hbm, ⟨68, _⟩ => ⟨S8x4096, .f32⟩
  | .hbm, ⟨69, _⟩ => ⟨S8x4096x1, .f32⟩
  | .hbm, ⟨70, _⟩ => ⟨S8x4096x4096, .f32⟩
  | .hbm, ⟨71, _⟩ => ⟨S8x4096x4096, .f32⟩
  | .hbm, ⟨72, _⟩ => ⟨S8x4096x1, .f32⟩
  | .hbm, ⟨73, _⟩ => ⟨S_, .f32⟩
  | .hbm, ⟨74, _⟩ => ⟨S8x4096x1, .f32⟩
  | .hbm, ⟨75, _⟩ => ⟨S8x4096x1, .f32⟩
  | .hbm, ⟨76, _⟩ => ⟨S8x4096x128, .f32⟩
  | .hbm, ⟨77, _⟩ => ⟨S4096x1024, .f32⟩
  | .hbm, ⟨78, _⟩ => ⟨S4096x8x128, .f32⟩
  | .hbm, ⟨79, _⟩ => ⟨S8x4096x128, .f32⟩
  | .hbm, ⟨80, _⟩ => ⟨S8x128x4096, .f32⟩
  | .hbm, ⟨81, _⟩ => ⟨S8x4096x128, .f32⟩
  | .hbm, ⟨82, _⟩ => ⟨S8x4096x4096, .f32⟩
  | .hbm, ⟨83, _⟩ => ⟨S8x4096x4096, .f32⟩
  | .hbm, ⟨84, _⟩ => ⟨S8x4096x4096, .f32⟩
  | .hbm, ⟨85, _⟩ => ⟨S8x4096x4096, .f32⟩
  | .hbm, ⟨86, _⟩ => ⟨S_, .f32⟩
  | .hbm, ⟨87, _⟩ => ⟨S8x4096, .f32⟩
  | .hbm, ⟨88, _⟩ => ⟨S8x4096x1, .f32⟩
  | .hbm, ⟨89, _⟩ => ⟨S8x4096x1, .f32⟩
  | .hbm, ⟨90, _⟩ => ⟨S8x4096x4096, .f32⟩
  | .hbm, ⟨91, _⟩ => ⟨S8x4096x4096, .f32⟩
  | .hbm, ⟨92, _⟩ => ⟨S_, .f32⟩
  | .hbm, ⟨93, _⟩ => ⟨S8x4096, .f32⟩
  | .hbm, ⟨94, _⟩ => ⟨S8x4096x4096, .f32⟩
  | .hbm, ⟨95, _⟩ => ⟨S8x4096x4096, .f32⟩
  | .hbm, ⟨96, _⟩ => ⟨S8x4096x4096, .f32⟩
  | .hbm, ⟨97, _⟩ => ⟨S_, .f32⟩
  | .hbm, ⟨98, _⟩ => ⟨S8x4096x4096, .f32⟩
  | .hbm, ⟨99, _⟩ => ⟨S8x4096x4096, .f32⟩
  | .hbm, ⟨100, _⟩ => ⟨S8x4096x4096, .f32⟩
  | .hbm, ⟨101, _⟩ => ⟨S_, .f32⟩
  | .hbm, ⟨102, _⟩ => ⟨S8x4096, .f32⟩
  | .hbm, ⟨103, _⟩ => ⟨S8x1x4096, .f32⟩
  | .hbm, ⟨104, _⟩ => ⟨S_, .f32⟩
  | .hbm, ⟨105, _⟩ => ⟨S8x4096, .f32⟩
  | .hbm, ⟨106, _⟩ => ⟨S_, .f32⟩
  | .hbm, ⟨107, _⟩ => ⟨S8x4096, .f32⟩
  | .hbm, ⟨108, _⟩ => ⟨S8x4096x1, .f32⟩
  | .hbm, ⟨109, _⟩ => ⟨S_, .f32⟩
  | .hbm, ⟨110, _⟩ => ⟨S8x4096, .f32⟩
  | .hbm, ⟨111, _⟩ => ⟨S_, .f32⟩
  | .hbm, ⟨112, _⟩ => ⟨S8x4096x4096, .f32⟩
  | .hbm, ⟨113, _⟩ => ⟨S8x4096x4096, .f32⟩
  | .hbm, ⟨114, _⟩ => ⟨S8x4096x128, .f32⟩
  | .hbm, ⟨115, _⟩ => ⟨S8x4096x128, .f32⟩
  | .hbm, ⟨116, _⟩ => ⟨S4096x8x128, .f32⟩
  | .hbm, ⟨117, _⟩ => ⟨S4096x1024, .f32⟩
  | .hbm, ⟨118, _⟩ => ⟨S4096x1024, .bf16⟩
  | .hbm, ⟨119, _⟩ => ⟨S4096x8x128, .f32⟩
  | .hbm, ⟨120, _⟩ => ⟨S4096x1024, .f32⟩
  | .hbm, ⟨121, _⟩ => ⟨S4096x1024, .bf16⟩
  | .hbm, ⟨122, _⟩ => ⟨S4096x8x128, .f32⟩
  | .hbm, ⟨123, _⟩ => ⟨S4096x1024, .f32⟩
  | .hbm, ⟨124, _⟩ => ⟨S4096x1024, .bf16⟩
  | .hbm, ⟨125, _⟩ => ⟨S8x1x4096, .f32⟩
  | .hbm, ⟨126, _⟩ => ⟨S8x1x4096, .f32⟩
  | _, _ => ⟨S4096x5120, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_cst : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_cst_0 : Ref sig .tc := ⟨.hbm, 31, rfl⟩
abbrev main_call0_v0 : Ref sig .tc := ⟨.hbm, 32, rfl⟩
abbrev main_v27_1 : Ref sig .tc := ⟨.hbm, 33, rfl⟩
abbrev main_call0_v2 : Ref sig .tc := ⟨.hbm, 34, rfl⟩
abbrev main_v27_0 : Ref sig .tc := ⟨.hbm, 35, rfl⟩
abbrev main_call0_cst : Ref sig .tc := ⟨.hbm, 36, rfl⟩
abbrev main_v27_2 : Ref sig .tc := ⟨.hbm, 37, rfl⟩
abbrev main_cst_1 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_cst_2 : Ref sig .tc := ⟨.hbm, 44, rfl⟩
abbrev main_v33 : Ref sig .tc := ⟨.hbm, 45, rfl⟩
abbrev main_cst_3 : Ref sig .tc := ⟨.hbm, 46, rfl⟩
abbrev main_v34 : Ref sig .tc := ⟨.hbm, 47, rfl⟩
abbrev main_v35 : Ref sig .tc := ⟨.hbm, 48, rfl⟩
abbrev main_cst_4 : Ref sig .tc := ⟨.hbm, 49, rfl⟩
abbrev main_v36 : Ref sig .tc := ⟨.hbm, 50, rfl⟩
abbrev main_v37 : Ref sig .tc := ⟨.hbm, 51, rfl⟩
abbrev main_cst_5 : Ref sig .tc := ⟨.hbm, 52, rfl⟩
abbrev main_v38 : Ref sig .tc := ⟨.hbm, 53, rfl⟩
abbrev main_v39 : Ref sig .tc := ⟨.hbm, 54, rfl⟩
abbrev main_cst_6 : Ref sig .tc := ⟨.hbm, 55, rfl⟩
abbrev main_v40 : Ref sig .tc := ⟨.hbm, 56, rfl⟩
abbrev main_cst_7 : Ref sig .tc := ⟨.hbm, 57, rfl⟩
abbrev main_v41 : Ref sig .tc := ⟨.hbm, 58, rfl⟩
abbrev main_cst_8 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_cst_9 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_cst_10 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_cst_11 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_cst_12 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_call1_cst : Ref sig .tc := ⟨.hbm, 97, rfl⟩
abbrev main_call1_v0 : Ref sig .tc := ⟨.hbm, 98, rfl⟩
abbrev main_v75 : Ref sig .tc := ⟨.hbm, 99, rfl⟩
abbrev main_v76 : Ref sig .tc := ⟨.hbm, 100, rfl⟩
abbrev main_cst_13 : Ref sig .tc := ⟨.hbm, 101, rfl⟩
abbrev main_v77 : Ref sig .tc := ⟨.hbm, 102, rfl⟩
abbrev main_v78 : Ref sig .tc := ⟨.hbm, 103, rfl⟩
abbrev main_cst_14 : Ref sig .tc := ⟨.hbm, 104, rfl⟩
abbrev main_v79 : Ref sig .tc := ⟨.hbm, 105, rfl⟩
abbrev main_cst_15 : Ref sig .tc := ⟨.hbm, 106, rfl⟩
abbrev main_v80 : Ref sig .tc := ⟨.hbm, 107, rfl⟩
abbrev main_v81 : Ref sig .tc := ⟨.hbm, 108, rfl⟩
abbrev main_cst_16 : Ref sig .tc := ⟨.hbm, 109, rfl⟩
abbrev main_v82 : Ref sig .tc := ⟨.hbm, 110, rfl⟩
abbrev main_cst_17 : Ref sig .tc := ⟨.hbm, 111, rfl⟩
abbrev main_v83 : Ref sig .tc := ⟨.hbm, 112, rfl⟩
abbrev main_v84 : Ref sig .tc := ⟨.hbm, 113, rfl⟩
abbrev main_v85 : Ref sig .tc := ⟨.hbm, 114, rfl⟩
abbrev main_v86 : Ref sig .tc := ⟨.hbm, 115, rfl⟩
abbrev main_v87 : Ref sig .tc := ⟨.hbm, 116, rfl⟩
abbrev main_v88 : Ref sig .tc := ⟨.hbm, 117, rfl⟩
abbrev main_v89 : Ref sig .tc := ⟨.hbm, 118, rfl⟩
abbrev main_v90 : Ref sig .tc := ⟨.hbm, 119, rfl⟩
abbrev main_v91 : Ref sig .tc := ⟨.hbm, 120, rfl⟩
abbrev main_v92 : Ref sig .tc := ⟨.hbm, 121, rfl⟩
abbrev main_v93 : Ref sig .tc := ⟨.hbm, 122, rfl⟩
abbrev main_v94 : Ref sig .tc := ⟨.hbm, 123, rfl⟩
abbrev main_v95 : Ref sig .tc := ⟨.hbm, 124, rfl⟩
abbrev main_v96 : Ref sig .tc := ⟨.hbm, 125, rfl⟩
abbrev main_v97 : Ref sig .tc := ⟨.hbm, 126, rfl⟩

abbrev nD : Nat := 1
abbrev τ : Topo := Topo.v7x

variable {F : FTy → Type} [FloatOps F]
-- ==== InProj.lean ====
abbrev S4096x2048 : Shape := ⟨2, ![4096, 2048]⟩
abbrev S5120x2048 : Shape := ⟨2, ![5120, 2048]⟩
abbrev S4096x5120 : Shape := ⟨2, ![4096, 5120]⟩
abbrev S2048x2048 : Shape := ⟨2, ![2048, 2048]⟩
abbrev S1024x2048 : Shape := ⟨2, ![1024, 2048]⟩
abbrev S2048x1024 : Shape := ⟨2, ![2048, 1024]⟩
abbrev S256x2048 : Shape := ⟨2, ![256, 2048]⟩
abbrev S2048x256 : Shape := ⟨2, ![2048, 256]⟩

abbrev nBuf : Space → Nat
  | .hbm => 3
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S5120x2048, .bf16⟩
  | .hbm, ⟨2, _⟩ => ⟨S4096x5120, .bf16⟩
  | .local _ .vmem, ⟨0, _⟩ => ⟨S2048x2048, .bf16⟩
  | .local _ .vmem, ⟨1, _⟩ => ⟨S2048x2048, .bf16⟩
  | .local _ .vmem, ⟨2, _⟩ => ⟨S1024x2048, .bf16⟩
  | .local _ .vmem, ⟨3, _⟩ => ⟨S1024x2048, .bf16⟩
  | .local _ .vmem, ⟨4, _⟩ => ⟨S2048x1024, .bf16⟩
  | .local _ .vmem, ⟨5, _⟩ => ⟨S2048x1024, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 5, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InProjReferenceIdeal.lean ====
abbrev S4096x2048 : Shape := ⟨2, ![4096, 2048]⟩
abbrev S5120x2048 : Shape := ⟨2, ![5120, 2048]⟩
abbrev S4096x5120 : Shape := ⟨2, ![4096, 5120]⟩

abbrev nBuf : Space → Nat
  | .hbm => 6
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S5120x2048, .bf16⟩
  | .hbm, ⟨2, _⟩ => ⟨S4096x2048, .f32⟩
  | .hbm, ⟨3, _⟩ => ⟨S5120x2048, .f32⟩
  | .hbm, ⟨4, _⟩ => ⟨S4096x5120, .f32⟩
  | .hbm, ⟨5, _⟩ => ⟨S4096x5120, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== OutProj.lean ====
abbrev S4096x2048 : Shape := ⟨2, ![4096, 2048]⟩
abbrev S2048x2048 : Shape := ⟨2, ![2048, 2048]⟩
abbrev S1024x2048 : Shape := ⟨2, ![1024, 2048]⟩
abbrev S2048x1024 : Shape := ⟨2, ![2048, 1024]⟩
abbrev S1024x1024 : Shape := ⟨2, ![1024, 1024]⟩
abbrev S2048x256 : Shape := ⟨2, ![2048, 256]⟩
abbrev S1024x256 : Shape := ⟨2, ![1024, 256]⟩

abbrev nBuf : Space → Nat
  | .hbm => 4
  | .vmem => 8
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S4096x2048, .f32⟩
  | .hbm, ⟨3, _⟩ => ⟨S4096x2048, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== OutProjReferenceIdeal.lean ====
abbrev S4096x2048 : Shape := ⟨2, ![4096, 2048]⟩
abbrev S2048x2048 : Shape := ⟨2, ![2048, 2048]⟩

abbrev nBuf : Space → Nat
  | .hbm => 7
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S4096x2048, .f32⟩
  | .hbm, ⟨3, _⟩ => ⟨S4096x2048, .f32⟩
  | .hbm, ⟨4, _⟩ => ⟨S2048x2048, .f32⟩
  | .hbm, ⟨5, _⟩ => ⟨S4096x2048, .f32⟩
  | .hbm, ⟨6, _⟩ => ⟨S4096x2048, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Ff1.lean ====
abbrev S4096x2048 : Shape := ⟨2, ![4096, 2048]⟩
abbrev S4x2048x2048 : Shape := ⟨3, ![4, 2048, 2048]⟩
abbrev S4096x8192 : Shape := ⟨2, ![4096, 8192]⟩
abbrev S2048x2048 : Shape := ⟨2, ![2048, 2048]⟩
abbrev S1x2048x1024 : Shape := ⟨3, ![1, 2048, 1024]⟩
abbrev S2048x1024 : Shape := ⟨2, ![2048, 1024]⟩
abbrev S1x2048x256 : Shape := ⟨3, ![1, 2048, 256]⟩
abbrev S2048x256 : Shape := ⟨2, ![2048, 256]⟩

abbrev nBuf : Space → Nat
  | .hbm => 3
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S4x2048x2048, .bf16⟩
  | .hbm, ⟨2, _⟩ => ⟨S4096x8192, .bf16⟩
  | .local _ .vmem, ⟨0, _⟩ => ⟨S2048x2048, .bf16⟩
  | .local _ .vmem, ⟨1, _⟩ => ⟨S2048x2048, .bf16⟩
  | .local _ .vmem, ⟨2, _⟩ => ⟨S1x2048x1024, .bf16⟩
  | .local _ .vmem, ⟨3, _⟩ => ⟨S1x2048x1024, .bf16⟩
  | .local _ .vmem, ⟨4, _⟩ => ⟨S2048x1024, .bf16⟩
  | .local _ .vmem, ⟨5, _⟩ => ⟨S2048x1024, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg2.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Ff1ReferenceIdeal.lean ====
abbrev S4096x2048 : Shape := ⟨2, ![4096, 2048]⟩
abbrev S4x2048x2048 : Shape := ⟨3, ![4, 2048, 2048]⟩
abbrev S2048x4x2048 : Shape := ⟨3, ![2048, 4, 2048]⟩
abbrev S2048x8192 : Shape := ⟨2, ![2048, 8192]⟩
abbrev S4096x8192 : Shape := ⟨2, ![4096, 8192]⟩
abbrev S_ : Shape := ⟨0, ![]⟩

abbrev nBuf : Space → Nat
  | .hbm => 11
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4x2048x2048, .bf16⟩
  | .hbm, ⟨2, _⟩ => ⟨S4096x2048, .f32⟩
  | .hbm, ⟨3, _⟩ => ⟨S4x2048x2048, .f32⟩
  | .hbm, ⟨4, _⟩ => ⟨S2048x4x2048, .f32⟩
  | .hbm, ⟨5, _⟩ => ⟨S2048x8192, .f32⟩
  | .hbm, ⟨6, _⟩ => ⟨S4096x8192, .f32⟩
  | .hbm, ⟨7, _⟩ => ⟨S_, .f32⟩
  | .hbm, ⟨8, _⟩ => ⟨S4096x8192, .f32⟩
  | .hbm, ⟨9, _⟩ => ⟨S4096x8192, .f32⟩
  | .hbm, ⟨10, _⟩ => ⟨S4096x8192, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_call0_cst : Ref sig .tc := ⟨.hbm, 7, rfl⟩
abbrev main_call0_v0 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]
-- ==== Ff2.lean ====
abbrev S4096x8192 : Shape := ⟨2, ![4096, 8192]⟩
abbrev S8192x2048 : Shape := ⟨2, ![8192, 2048]⟩
abbrev S4096x2048 : Shape := ⟨2, ![4096, 2048]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 4
  | .vmem => 9
  | .smem => 0
  | _ => 0

abbrev bufTy : (tb : Table) → Fin (tcTables nBuf tb) → BufTy
  | .hbm, ⟨0, _⟩ => ⟨S4096x8192, .bf16⟩
  | .hbm, ⟨1, _⟩ => ⟨S8192x2048, .bf16⟩
  | .hbm, ⟨2, _⟩ => ⟨S4096x2048, .f32⟩
  | .hbm, ⟨3, _⟩ => ⟨S4096x2048, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S4096x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 2, 4], ![false, false, false]⟩

def k0_cond3 (i : grid0.Coords) : BitVec 1 :=
  let arg2 : BitVec 32 := BitVec.ofNat 32 (i 2).val
  let c3_i32_6 : BitVec 32 := 3#32
  let v14 : BitVec 1 := Scalar.cmpi .eq arg2 c3_i32_6
  let v15 : BitVec 32 := Scalar.extui v14
  let c0_i32_7 : BitVec 32 := 0#32
  let v16 : BitVec 1 := Scalar.cmpi .ne v15 c0_i32_7
  v16

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Ff2ReferenceIdeal.lean ====
abbrev S4096x8192 : Shape := ⟨2, ![4096, 8192]⟩
abbrev S8192x2048 : Shape := ⟨2, ![8192, 2048]⟩
abbrev S4096x2048 : Shape := ⟨2, ![4096, 2048]⟩

abbrev nBuf : Space → Nat
  | .hbm => 8
  | .vmem => 0
  | .smem => 0
  | _ => 0

abbrev bufTy : (tb : Table) → Fin (tcTables nBuf tb) → BufTy
  | .hbm, ⟨0, _⟩ => ⟨S4096x8192, .bf16⟩
  | .hbm, ⟨1, _⟩ => ⟨S8192x2048, .bf16⟩
  | .hbm, ⟨2, _⟩ => ⟨S4096x2048, .f32⟩
  | .hbm, ⟨3, _⟩ => ⟨S4096x8192, .f32⟩
  | .hbm, ⟨4, _⟩ => ⟨S4096x8192, .f32⟩
  | .hbm, ⟨5, _⟩ => ⟨S8192x2048, .f32⟩
  | .hbm, ⟨6, _⟩ => ⟨S4096x2048, .f32⟩
  | .hbm, ⟨7, _⟩ => ⟨S4096x2048, .f32⟩
  | _, _ => ⟨S4096x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Ff2Dw.lean ====
abbrev S4096x8192 : Shape := ⟨2, ![4096, 8192]⟩
abbrev S4096x2048 : Shape := ⟨2, ![4096, 2048]⟩
abbrev S8192x2048 : Shape := ⟨2, ![8192, 2048]⟩
abbrev S2048x1024 : Shape := ⟨2, ![2048, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x8192, .bf16⟩
  | .hbm, ⟨1, _⟩ => ⟨S4096x2048, .bf16⟩
  | .hbm, ⟨2, _⟩ => ⟨S8192x2048, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S4096x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 2], ![false, false, false]⟩

def k0_cond3 (i : grid0.Coords) : BitVec 1 :=
  let arg2 : BitVec 32 := BitVec.ofNat 32 (i 2).val
  let c1_i32_6 : BitVec 32 := 1#32
  let v14 : BitVec 1 := Scalar.cmpi .eq arg2 c1_i32_6
  let v15 : BitVec 32 := Scalar.extui v14
  let c0_i32_7 : BitVec 32 := 0#32
  let v16 : BitVec 1 := Scalar.cmpi .ne v15 c0_i32_7
  v16

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Ff2DwReferenceIdeal.lean ====
abbrev S4096x8192 : Shape := ⟨2, ![4096, 8192]⟩
abbrev S4096x2048 : Shape := ⟨2, ![4096, 2048]⟩
abbrev S_ : Shape := ⟨0, ![]⟩
abbrev S8192x2048 : Shape := ⟨2, ![8192, 2048]⟩
abbrev S2048x8192 : Shape := ⟨2, ![2048, 8192]⟩

abbrev nBuf : Space → Nat
  | .hbm => 11
  | .vmem => 0
  | .smem => 0
  | _ => 0

abbrev bufTy : (tb : Table) → Fin (tcTables nBuf tb) → BufTy
  | .hbm, ⟨0, _⟩ => ⟨S4096x8192, .bf16⟩
  | .hbm, ⟨1, _⟩ => ⟨S4096x2048, .bf16⟩
  | .hbm, ⟨2, _⟩ => ⟨S4096x8192, .f32⟩
  | .hbm, ⟨3, _⟩ => ⟨S_, .f32⟩
  | .hbm, ⟨4, _⟩ => ⟨S8192x2048, .f32⟩
  | .hbm, ⟨5, _⟩ => ⟨S4096x8192, .f32⟩
  | .hbm, ⟨6, _⟩ => ⟨S4096x2048, .f32⟩
  | .hbm, ⟨7, _⟩ => ⟨S4096x2048, .f32⟩
  | .hbm, ⟨8, _⟩ => ⟨S2048x8192, .f32⟩
  | .hbm, ⟨9, _⟩ => ⟨S8192x2048, .f32⟩
  | .hbm, ⟨10, _⟩ => ⟨S8192x2048, .bf16⟩
  | _, _ => ⟨S4096x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Ff2Dlhs.lean ====
abbrev S4096x2048 : Shape := ⟨2, ![4096, 2048]⟩
abbrev S8192x2048 : Shape := ⟨2, ![8192, 2048]⟩
abbrev S4096x8192 : Shape := ⟨2, ![4096, 8192]⟩
abbrev S2048x2048 : Shape := ⟨2, ![2048, 2048]⟩
abbrev S1024x2048 : Shape := ⟨2, ![1024, 2048]⟩
abbrev S2048x1024 : Shape := ⟨2, ![2048, 1024]⟩
abbrev S256x2048 : Shape := ⟨2, ![256, 2048]⟩
abbrev S2048x256 : Shape := ⟨2, ![2048, 256]⟩

abbrev nBuf : Space → Nat
  | .hbm => 4
  | .vmem => 8
  | .smem => 0
  | _ => 0

abbrev bufTy : (tb : Table) → Fin (tcTables nBuf tb) → BufTy
  | .hbm, ⟨0, _⟩ => ⟨S4096x2048, .bf16⟩
  | .hbm, ⟨1, _⟩ => ⟨S8192x2048, .bf16⟩
  | .hbm, ⟨2, _⟩ => ⟨S4096x8192, .bf16⟩
  | .hbm, ⟨3, _⟩ => ⟨S4096x8192, .bf16⟩
  | .local _ .vmem, ⟨0, _⟩ => ⟨S2048x2048, .bf16⟩
  | .local _ .vmem, ⟨1, _⟩ => ⟨S2048x2048, .bf16⟩
  | .local _ .vmem, ⟨2, _⟩ => ⟨S1024x2048, .bf16⟩
  | .local _ .vmem, ⟨3, _⟩ => ⟨S1024x2048, .bf16⟩
  | .local _ .vmem, ⟨4, _⟩ => ⟨S2048x1024, .bf16⟩
  | .local _ .vmem, ⟨5, _⟩ => ⟨S2048x1024, .bf16⟩
  | .local _ .vmem, ⟨6, _⟩ => ⟨S2048x1024, .bf16⟩
  | .local _ .vmem, ⟨7, _⟩ => ⟨S2048x1024, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S2048x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Ff2DlhsReferenceIdeal.lean ====
abbrev S4096x2048 : Shape := ⟨2, ![4096, 2048]⟩
abbrev S8192x2048 : Shape := ⟨2, ![8192, 2048]⟩
abbrev S4096x8192 : Shape := ⟨2, ![4096, 8192]⟩

abbrev nBuf : Space → Nat
  | .hbm => 13
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S8192x2048, .bf16⟩
  | .hbm, ⟨2, _⟩ => ⟨S4096x8192, .bf16⟩
  | .hbm, ⟨3, _⟩ => ⟨S4096x8192, .f32⟩
  | .hbm, ⟨4, _⟩ => ⟨S4096x8192, .f32⟩
  | .hbm, ⟨5, _⟩ => ⟨S8192x2048, .f32⟩
  | .hbm, ⟨6, _⟩ => ⟨S4096x2048, .f32⟩
  | .hbm, ⟨7, _⟩ => ⟨S4096x2048, .f32⟩
  | .hbm, ⟨8, _⟩ => ⟨S4096x8192, .f32⟩
  | .hbm, ⟨9, _⟩ => ⟨S4096x8192, .f32⟩
  | .hbm, ⟨10, _⟩ => ⟨S4096x8192, .f32⟩
  | .hbm, ⟨11, _⟩ => ⟨S4096x8192, .f32⟩
  | .hbm, ⟨12, _⟩ => ⟨S4096x8192, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩

abbrev nD : Nat := 1
abbrev τ : Topo := Topo.v7x

variable {F : FTy → Type} [FloatOps F]
-- ==== Ff1Dlhs.lean ====
abbrev S4096x8192 : Shape := ⟨2, ![4096, 8192]⟩
abbrev S4x2048x2048 : Shape := ⟨3, ![4, 2048, 2048]⟩
abbrev S4096x2048 : Shape := ⟨2, ![4096, 2048]⟩
abbrev S1024x2048 : Shape := ⟨2, ![1024, 2048]⟩
abbrev S1x1024x2048 : Shape := ⟨3, ![1, 1024, 2048]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x8192, .bf16⟩
  | .hbm, ⟨1, _⟩ => ⟨S4x2048x2048, .bf16⟩
  | .hbm, ⟨2, _⟩ => ⟨S4096x2048, .f32⟩
  | .local _ .vmem, ⟨0, _⟩ => ⟨S1024x2048, .bf16⟩
  | .local _ .vmem, ⟨1, _⟩ => ⟨S1024x2048, .bf16⟩
  | .local _ .vmem, ⟨2, _⟩ => ⟨S1x1024x2048, .bf16⟩
  | .local _ .vmem, ⟨3, _⟩ => ⟨S1x1024x2048, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 4], ![false, false, false]⟩

def k0_cond3 (i : grid0.Coords) : BitVec 1 :=
  let arg2 : BitVec 32 := BitVec.ofNat 32 (i 2).val
  let c3_i32_7 : BitVec 32 := 3#32
  let v12 : BitVec 1 := Scalar.cmpi .eq arg2 c3_i32_7
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg1.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Ff1DlhsReferenceIdeal.lean ====
abbrev S4096x8192 : Shape := ⟨2, ![4096, 8192]⟩
abbrev S4x2048x2048 : Shape := ⟨3, ![4, 2048, 2048]⟩
abbrev S_ : Shape := ⟨0, ![]⟩
abbrev S4096x2048 : Shape := ⟨2, ![4096, 2048]⟩
abbrev S2048x4x2048 : Shape := ⟨3, ![2048, 4, 2048]⟩
abbrev S2048x8192 : Shape := ⟨2, ![2048, 8192]⟩

abbrev nBuf : Space → Nat
  | .hbm => 10
  | .vmem => 0
  | .smem => 0
  | _ => 0

abbrev bufTy : (tb : Table) → Fin (tcTables nBuf tb) → BufTy
  | .hbm, ⟨0, _⟩ => ⟨S4096x8192, .bf16⟩
  | .hbm, ⟨1, _⟩ => ⟨S4x2048x2048, .bf16⟩
  | .hbm, ⟨2, _⟩ => ⟨S_, .f32⟩
  | .hbm, ⟨3, _⟩ => ⟨S4096x2048, .f32⟩
  | .hbm, ⟨4, _⟩ => ⟨S4x2048x2048, .f32⟩
  | .hbm, ⟨5, _⟩ => ⟨S2048x4x2048, .f32⟩
  | .hbm, ⟨6, _⟩ => ⟨S2048x8192, .f32⟩
  | .hbm, ⟨7, _⟩ => ⟨S4096x8192, .f32⟩
  | .hbm, ⟨8, _⟩ => ⟨S4096x8192, .f32⟩
  | .hbm, ⟨9, _⟩ => ⟨S4096x2048, .f32⟩
  | _, _ => ⟨S4096x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Ff1Dw.lean ====
abbrev S4096x2048 : Shape := ⟨2, ![4096, 2048]⟩
abbrev S4096x8192 : Shape := ⟨2, ![4096, 8192]⟩
abbrev S4x2048x2048 : Shape := ⟨3, ![4, 2048, 2048]⟩
abbrev S4096x1024 : Shape := ⟨2, ![4096, 1024]⟩
abbrev S1x1024x1024 : Shape := ⟨3, ![1, 1024, 1024]⟩
abbrev S4096x256 : Shape := ⟨2, ![4096, 256]⟩
abbrev S1024x256 : Shape := ⟨2, ![1024, 256]⟩
abbrev S1x1024x256 : Shape := ⟨3, ![1, 1024, 256]⟩

abbrev nBuf : Space → Nat
  | .hbm => 3
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S4096x8192, .bf16⟩
  | .hbm, ⟨2, _⟩ => ⟨S4x2048x2048, .bf16⟩
  | .local _ .vmem, ⟨0, _⟩ => ⟨S4096x1024, .bf16⟩
  | .local _ .vmem, ⟨1, _⟩ => ⟨S4096x1024, .bf16⟩
  | .local _ .vmem, ⟨2, _⟩ => ⟨S4096x1024, .bf16⟩
  | .local _ .vmem, ⟨3, _⟩ => ⟨S4096x1024, .bf16⟩
  | .local _ .vmem, ⟨4, _⟩ => ⟨S1x1024x1024, .bf16⟩
  | .local _ .vmem, ⟨5, _⟩ => ⟨S1x1024x1024, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg0.toNat, v26.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Ff1DwReferenceIdeal.lean ====
abbrev S4096x2048 : Shape := ⟨2, ![4096, 2048]⟩
abbrev S4096x8192 : Shape := ⟨2, ![4096, 8192]⟩
abbrev S_ : Shape := ⟨0, ![]⟩
abbrev S2048x8192 : Shape := ⟨2, ![2048, 8192]⟩
abbrev S8192x2048 : Shape := ⟨2, ![8192, 2048]⟩
abbrev S2048x4x2048 : Shape := ⟨3, ![2048, 4, 2048]⟩
abbrev S4x2048x2048 : Shape := ⟨3, ![4, 2048, 2048]⟩

abbrev nBuf : Space → Nat
  | .hbm => 12
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x8192, .bf16⟩
  | .hbm, ⟨2, _⟩ => ⟨S_, .f32⟩
  | .hbm, ⟨3, _⟩ => ⟨S2048x8192, .f32⟩
  | .hbm, ⟨4, _⟩ => ⟨S4096x2048, .f32⟩
  | .hbm, ⟨5, _⟩ => ⟨S4096x8192, .f32⟩
  | .hbm, ⟨6, _⟩ => ⟨S4096x8192, .f32⟩
  | .hbm, ⟨7, _⟩ => ⟨S8192x2048, .f32⟩
  | .hbm, ⟨8, _⟩ => ⟨S2048x8192, .f32⟩
  | .hbm, ⟨9, _⟩ => ⟨S2048x4x2048, .f32⟩
  | .hbm, ⟨10, _⟩ => ⟨S4x2048x2048, .f32⟩
  | .hbm, ⟨11, _⟩ => ⟨S4x2048x2048, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== OutProjDw.lean ====
abbrev S4096x2048 : Shape := ⟨2, ![4096, 2048]⟩
abbrev S2048x2048 : Shape := ⟨2, ![2048, 2048]⟩
abbrev S4096x1024 : Shape := ⟨2, ![4096, 1024]⟩
abbrev S1024x1024 : Shape := ⟨2, ![1024, 1024]⟩
abbrev S4096x256 : Shape := ⟨2, ![4096, 256]⟩
abbrev S1024x256 : Shape := ⟨2, ![1024, 256]⟩

abbrev nBuf : Space → Nat
  | .hbm => 3
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S4096x2048, .bf16⟩
  | .hbm, ⟨2, _⟩ => ⟨S2048x2048, .bf16⟩
  | .local _ .vmem, ⟨0, _⟩ => ⟨S4096x1024, .bf16⟩
  | .local _ .vmem, ⟨1, _⟩ => ⟨S4096x1024, .bf16⟩
  | .local _ .vmem, ⟨2, _⟩ => ⟨S4096x1024, .bf16⟩
  | .local _ .vmem, ⟨3, _⟩ => ⟨S4096x1024, .bf16⟩
  | .local _ .vmem, ⟨4, _⟩ => ⟨S1024x1024, .bf16⟩
  | .local _ .vmem, ⟨5, _⟩ => ⟨S1024x1024, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== OutProjDwReferenceIdeal.lean ====
abbrev S4096x2048 : Shape := ⟨2, ![4096, 2048]⟩
abbrev S_ : Shape := ⟨0, ![]⟩
abbrev S2048x2048 : Shape := ⟨2, ![2048, 2048]⟩

abbrev nBuf : Space → Nat
  | .hbm => 10
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x2048, .bf16⟩
  | .hbm, ⟨2, _⟩ => ⟨S_, .f32⟩
  | .hbm, ⟨3, _⟩ => ⟨S2048x2048, .f32⟩
  | .hbm, ⟨4, _⟩ => ⟨S4096x2048, .f32⟩
  | .hbm, ⟨5, _⟩ => ⟨S4096x2048, .f32⟩
  | .hbm, ⟨6, _⟩ => ⟨S4096x2048, .f32⟩
  | .hbm, ⟨7, _⟩ => ⟨S2048x2048, .f32⟩
  | .hbm, ⟨8, _⟩ => ⟨S2048x2048, .f32⟩
  | .hbm, ⟨9, _⟩ => ⟨S2048x2048, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== OutProjDlhs.lean ====
abbrev S4096x2048 : Shape := ⟨2, ![4096, 2048]⟩
abbrev S2048x2048 : Shape := ⟨2, ![2048, 2048]⟩
abbrev S1024x2048 : Shape := ⟨2, ![1024, 2048]⟩
abbrev S1024x1024 : Shape := ⟨2, ![1024, 1024]⟩
abbrev S256x2048 : Shape := ⟨2, ![256, 2048]⟩
abbrev S1024x256 : Shape := ⟨2, ![1024, 256]⟩

abbrev nBuf : Space → Nat
  | .hbm => 3
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S4096x2048, .f32⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1024x1024, .f32⟩
  | .local _ .vmem, ⟨5, _⟩ => ⟨S1024x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== OutProjDlhsReferenceIdeal.lean ====
abbrev S4096x2048 : Shape := ⟨2, ![4096, 2048]⟩
abbrev S2048x2048 : Shape := ⟨2, ![2048, 2048]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S_, .f32⟩
  | .hbm, ⟨3, _⟩ => ⟨S4096x2048, .f32⟩
  | .hbm, ⟨4, _⟩ => ⟨S2048x2048, .f32⟩
  | .hbm, ⟨5, _⟩ => ⟨S4096x2048, .f32⟩
  | .hbm, ⟨6, _⟩ => ⟨S4096x2048, .f32⟩
  | .hbm, ⟨7, _⟩ => ⟨S4096x2048, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== InProjDw.lean ====
abbrev S4096x5120 : Shape := ⟨2, ![4096, 5120]⟩
abbrev S4096x2048 : Shape := ⟨2, ![4096, 2048]⟩
abbrev S5120x2048 : Shape := ⟨2, ![5120, 2048]⟩
abbrev S4096x1024 : Shape := ⟨2, ![4096, 1024]⟩
abbrev S1024x1024 : Shape := ⟨2, ![1024, 1024]⟩
abbrev S4096x256 : Shape := ⟨2, ![4096, 256]⟩
abbrev S1024x256 : Shape := ⟨2, ![1024, 256]⟩

abbrev nBuf : Space → Nat
  | .hbm => 3
  | .vmem => 6
  | .smem => 0
  | _ => 0

abbrev bufTy : (tb : Table) → Fin (tcTables nBuf tb) → BufTy
  | .hbm, ⟨0, _⟩ => ⟨S4096x5120, .bf16⟩
  | .hbm, ⟨1, _⟩ => ⟨S4096x2048, .bf16⟩
  | .hbm, ⟨2, _⟩ => ⟨S5120x2048, .bf16⟩
  | .local _ .vmem, ⟨0, _⟩ => ⟨S4096x1024, .bf16⟩
  | .local _ .vmem, ⟨1, _⟩ => ⟨S4096x1024, .bf16⟩
  | .local _ .vmem, ⟨2, _⟩ => ⟨S4096x1024, .bf16⟩
  | .local _ .vmem, ⟨3, _⟩ => ⟨S4096x1024, .bf16⟩
  | .local _ .vmem, ⟨4, _⟩ => ⟨S1024x1024, .bf16⟩
  | .local _ .vmem, ⟨5, _⟩ => ⟨S1024x1024, .bf16⟩
  | _, _ => ⟨S4096x5120, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![5, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InProjDwReferenceIdeal.lean ====
abbrev S4096x5120 : Shape := ⟨2, ![4096, 5120]⟩
abbrev S4096x2048 : Shape := ⟨2, ![4096, 2048]⟩
abbrev S_ : Shape := ⟨0, ![]⟩
abbrev S5120x2048 : Shape := ⟨2, ![5120, 2048]⟩

abbrev nBuf : Space → Nat
  | .hbm => 9
  | .vmem => 0
  | .smem => 0
  | _ => 0

abbrev bufTy : (tb : Table) → Fin (tcTables nBuf tb) → BufTy
  | .hbm, ⟨0, _⟩ => ⟨S4096x5120, .bf16⟩
  | .hbm, ⟨1, _⟩ => ⟨S4096x2048, .bf16⟩
  | .hbm, ⟨2, _⟩ => ⟨S_, .f32⟩
  | .hbm, ⟨3, _⟩ => ⟨S5120x2048, .f32⟩
  | .hbm, ⟨4, _⟩ => ⟨S4096x2048, .f32⟩
  | .hbm, ⟨5, _⟩ => ⟨S4096x5120, .f32⟩
  | .hbm, ⟨6, _⟩ => ⟨S4096x5120, .f32⟩
  | .hbm, ⟨7, _⟩ => ⟨S5120x2048, .f32⟩
  | .hbm, ⟨8, _⟩ => ⟨S5120x2048, .bf16⟩
  | _, _ => ⟨S4096x5120, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== InProjDlhs.lean ====
abbrev S4096x5120 : Shape := ⟨2, ![4096, 5120]⟩
abbrev S5120x2048 : Shape := ⟨2, ![5120, 2048]⟩
abbrev S4096x2048 : Shape := ⟨2, ![4096, 2048]⟩
abbrev S1024x2560 : Shape := ⟨2, ![1024, 2560]⟩
abbrev S2560x1024 : Shape := ⟨2, ![2560, 1024]⟩
abbrev S1024x1024 : Shape := ⟨2, ![1024, 1024]⟩

abbrev nBuf : Space → Nat
  | .hbm => 4
  | .vmem => 9
  | .smem => 0
  | _ => 0

abbrev bufTy : (tb : Table) → Fin (tcTables nBuf tb) → BufTy
  | .hbm, ⟨0, _⟩ => ⟨S4096x5120, .bf16⟩
  | .hbm, ⟨1, _⟩ => ⟨S5120x2048, .bf16⟩
  | .hbm, ⟨2, _⟩ => ⟨S4096x2048, .f32⟩
  | .hbm, ⟨3, _⟩ => ⟨S4096x2048, .f32⟩
  | .local _ .vmem, ⟨0, _⟩ => ⟨S1024x2560, .bf16⟩
  | .local _ .vmem, ⟨1, _⟩ => ⟨S1024x2560, .bf16⟩
  | .local _ .vmem, ⟨2, _⟩ => ⟨S2560x1024, .bf16⟩
  | .local _ .vmem, ⟨3, _⟩ => ⟨S2560x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S4096x5120, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 2, 2], ![false, false, false]⟩

def k0_cond3 (i : grid0.Coords) : BitVec 1 :=
  let arg2 : BitVec 32 := BitVec.ofNat 32 (i 2).val
  let c1_i32_6 : BitVec 32 := 1#32
  let v11 : BitVec 1 := Scalar.cmpi .eq arg2 c1_i32_6
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2560 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2560x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== InProjDlhsReferenceIdeal.lean ====
abbrev S4096x5120 : Shape := ⟨2, ![4096, 5120]⟩
abbrev S5120x2048 : Shape := ⟨2, ![5120, 2048]⟩
abbrev S4096x2048 : Shape := ⟨2, ![4096, 2048]⟩
abbrev S_ : Shape := ⟨0, ![]⟩

abbrev nBuf : Space → Nat
  | .hbm => 10
  | .vmem => 0
  | .smem => 0
  | _ => 0

abbrev bufTy : (tb : Table) → Fin (tcTables nBuf tb) → BufTy
  | .hbm, ⟨0, _⟩ => ⟨S4096x5120, .bf16⟩
  | .hbm, ⟨1, _⟩ => ⟨S5120x2048, .bf16⟩
  | .hbm, ⟨2, _⟩ => ⟨S4096x2048, .f32⟩
  | .hbm, ⟨3, _⟩ => ⟨S_, .f32⟩
  | .hbm, ⟨4, _⟩ => ⟨S4096x2048, .f32⟩
  | .hbm, ⟨5, _⟩ => ⟨S5120x2048, .f32⟩
  | .hbm, ⟨6, _⟩ => ⟨S4096x5120, .f32⟩
  | .hbm, ⟨7, _⟩ => ⟨S4096x5120, .f32⟩
  | .hbm, ⟨8, _⟩ => ⟨S4096x2048, .f32⟩
  | .hbm, ⟨9, _⟩ => ⟨S4096x2048, .f32⟩
  | _, _ => ⟨S4096x5120, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]
-- ==== AdamwIn.lean ====
abbrev S1282x2048 : Shape := ⟨2, ![1282, 2048]⟩
abbrev S1282x256 : Shape := ⟨2, ![1282, 256]⟩

abbrev nBuf : Space → Nat
  | .hbm => 8
  | .vmem => 16
  | .smem => 0
  | _ => 0

abbrev bufTy : (tb : Table) → Fin (tcTables nBuf tb) → BufTy
  | .hbm, ⟨0, _⟩ => ⟨S1282x2048, .f32⟩
  | .hbm, ⟨1, _⟩ => ⟨S1282x2048, .f32⟩
  | .hbm, ⟨2, _⟩ => ⟨S1282x2048, .f32⟩
  | .hbm, ⟨3, _⟩ => ⟨S1282x2048, .f32⟩
  | .hbm, ⟨4, _⟩ => ⟨S1282x2048, .f32⟩
  | .hbm, ⟨5, _⟩ => ⟨S1282x2048, .f32⟩
  | .hbm, ⟨6, _⟩ => ⟨S1282x2048, .f32⟩
  | .hbm, ⟨7, _⟩ => ⟨S1282x2048, .f32⟩
  | .local _ .vmem, ⟨0, _⟩ => ⟨S1282x256, .f32⟩
  | .local _ .vmem, ⟨1, _⟩ => ⟨S1282x256, .f32⟩
  | .local _ .vmem, ⟨2, _⟩ => ⟨S1282x256, .f32⟩
  | .local _ .vmem, ⟨3, _⟩ => ⟨S1282x256, .f32⟩
  | .local _ .vmem, ⟨4, _⟩ => ⟨S1282x256, .f32⟩
  | .local _ .vmem, ⟨5, _⟩ => ⟨S1282x256, .f32⟩
  | .local _ .vmem, ⟨6, _⟩ => ⟨S1282x256, .f32⟩
  | .local _ .vmem, ⟨7, _⟩ => ⟨S1282x256, .f32⟩
  | .local _ .vmem, ⟨8, _⟩ => ⟨S1282x256, .f32⟩
  | .local _ .vmem, ⟨9, _⟩ => ⟨S1282x256, .f32⟩
  | .local _ .vmem, ⟨10, _⟩ => ⟨S1282x256, .f32⟩
  | .local _ .vmem, ⟨11, _⟩ => ⟨S1282x256, .f32⟩
  | .local _ .vmem, ⟨12, _⟩ => ⟨S1282x256, .f32⟩
  | .local _ .vmem, ⟨13, _⟩ => ⟨S1282x256, .f32⟩
  | .local _ .vmem, ⟨14, _⟩ => ⟨S1282x256, .f32⟩
  | .local _ .vmem, ⟨15, _⟩ => ⟨S1282x256, .f32⟩
  | _, _ => ⟨S1282x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![1, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1282x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1282x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1282x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1282x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1282x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1282x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1282x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1282x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== AdamwInReferenceIdeal.lean ====
abbrev S1282x2048 : Shape := ⟨2, ![1282, 2048]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1282x2048, .f32⟩
  | .hbm, ⟨1, _⟩ => ⟨S1282x2048, .f32⟩
  | .hbm, ⟨2, _⟩ => ⟨S1282x2048, .f32⟩
  | .hbm, ⟨3, _⟩ => ⟨S1282x2048, .f32⟩
  | .hbm, ⟨4, _⟩ => ⟨S_, .f32⟩
  | .hbm, ⟨5, _⟩ => ⟨S1282x2048, .f32⟩
  | .hbm, ⟨6, _⟩ => ⟨S1282x2048, .f32⟩
  | .hbm, ⟨7, _⟩ => ⟨S_, .f32⟩
  | .hbm, ⟨8, _⟩ => ⟨S1282x2048, .f32⟩
  | .hbm, ⟨9, _⟩ => ⟨S1282x2048, .f32⟩
  | .hbm, ⟨10, _⟩ => ⟨S1282x2048, .f32⟩
  | .hbm, ⟨11, _⟩ => ⟨S_, .f32⟩
  | .hbm, ⟨12, _⟩ => ⟨S1282x2048, .f32⟩
  | .hbm, ⟨13, _⟩ => ⟨S1282x2048, .f32⟩
  | .hbm, ⟨14, _⟩ => ⟨S1282x2048, .f32⟩
  | .hbm, ⟨15, _⟩ => ⟨S_, .f32⟩
  | .hbm, ⟨16, _⟩ => ⟨S1282x2048, .f32⟩
  | .hbm, ⟨17, _⟩ => ⟨S1282x2048, .f32⟩
  | .hbm, ⟨18, _⟩ => ⟨S1282x2048, .f32⟩
  | .hbm, ⟨19, _⟩ => ⟨S_, .f32⟩
  | .hbm, ⟨20, _⟩ => ⟨S1282x2048, .f32⟩
  | .hbm, ⟨21, _⟩ => ⟨S1282x2048, .f32⟩
  | .hbm, ⟨22, _⟩ => ⟨S_, .f32⟩
  | .hbm, ⟨23, _⟩ => ⟨S1282x2048, .f32⟩
  | .hbm, ⟨24, _⟩ => ⟨S1282x2048, .f32⟩
  | .hbm, ⟨25, _⟩ => ⟨S1282x2048, .f32⟩
  | .hbm, ⟨26, _⟩ => ⟨S_, .f32⟩
  | .hbm, ⟨27, _⟩ => ⟨S1282x2048, .f32⟩
  | .hbm, ⟨28, _⟩ => ⟨S1282x2048, .f32⟩
  | .hbm, ⟨29, _⟩ => ⟨S1282x2048, .f32⟩
  | .hbm, ⟨30, _⟩ => ⟨S_, .f32⟩
  | .hbm, ⟨31, _⟩ => ⟨S1282x2048, .f32⟩
  | .hbm, ⟨32, _⟩ => ⟨S1282x2048, .f32⟩
  | .hbm, ⟨33, _⟩ => ⟨S1282x2048, .f32⟩
  | .hbm, ⟨34, _⟩ => ⟨S_, .f32⟩
  | .hbm, ⟨35, _⟩ => ⟨S1282x2048, .f32⟩
  | .hbm, ⟨36, _⟩ => ⟨S1282x2048, .f32⟩
  | _, _ => ⟨S1282x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamwOut.lean ====
abbrev S512x2048 : Shape := ⟨2, ![512, 2048]⟩
abbrev S256x2048 : Shape := ⟨2, ![256, 2048]⟩

abbrev nBuf : Space → Nat
  | .hbm => 8
  | .vmem => 16
  | .smem => 0
  | _ => 0

abbrev bufTy : (tb : Table) → Fin (tcTables nBuf tb) → BufTy
  | .hbm, ⟨0, _⟩ => ⟨S512x2048, .f32⟩
  | .hbm, ⟨1, _⟩ => ⟨S512x2048, .f32⟩
  | .hbm, ⟨2, _⟩ => ⟨S512x2048, .f32⟩
  | .hbm, ⟨3, _⟩ => ⟨S512x2048, .f32⟩
  | .hbm, ⟨4, _⟩ => ⟨S512x2048, .f32⟩
  | .hbm, ⟨5, _⟩ => ⟨S512x2048, .f32⟩
  | .hbm, ⟨6, _⟩ => ⟨S512x2048, .f32⟩
  | .hbm, ⟨7, _⟩ => ⟨S512x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .f32⟩
  | .local _ .vmem, ⟨8, _⟩ => ⟨S256x2048, .f32⟩
  | .local _ .vmem, ⟨9, _⟩ => ⟨S256x2048, .f32⟩
  | .local _ .vmem, ⟨10, _⟩ => ⟨S256x2048, .f32⟩
  | .local _ .vmem, ⟨11, _⟩ => ⟨S256x2048, .f32⟩
  | .local _ .vmem, ⟨12, _⟩ => ⟨S256x2048, .f32⟩
  | .local _ .vmem, ⟨13, _⟩ => ⟨S256x2048, .f32⟩
  | .local _ .vmem, ⟨14, _⟩ => ⟨S256x2048, .f32⟩
  | .local _ .vmem, ⟨15, _⟩ => ⟨S256x2048, .f32⟩
  | _, _ => ⟨S512x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![2, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S256x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== AdamwOutReferenceIdeal.lean ====
abbrev S512x2048 : Shape := ⟨2, ![512, 2048]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S512x2048, .f32⟩
  | .hbm, ⟨1, _⟩ => ⟨S512x2048, .f32⟩
  | .hbm, ⟨2, _⟩ => ⟨S512x2048, .f32⟩
  | .hbm, ⟨3, _⟩ => ⟨S512x2048, .f32⟩
  | .hbm, ⟨4, _⟩ => ⟨S_, .f32⟩
  | .hbm, ⟨5, _⟩ => ⟨S512x2048, .f32⟩
  | .hbm, ⟨6, _⟩ => ⟨S512x2048, .f32⟩
  | .hbm, ⟨7, _⟩ => ⟨S_, .f32⟩
  | .hbm, ⟨8, _⟩ => ⟨S512x2048, .f32⟩
  | .hbm, ⟨9, _⟩ => ⟨S512x2048, .f32⟩
  | .hbm, ⟨10, _⟩ => ⟨S512x2048, .f32⟩
  | .hbm, ⟨11, _⟩ => ⟨S_, .f32⟩
  | .hbm, ⟨12, _⟩ => ⟨S512x2048, .f32⟩
  | .hbm, ⟨13, _⟩ => ⟨S512x2048, .f32⟩
  | .hbm, ⟨14, _⟩ => ⟨S512x2048, .f32⟩
  | .hbm, ⟨15, _⟩ => ⟨S_, .f32⟩
  | .hbm, ⟨16, _⟩ => ⟨S512x2048, .f32⟩
  | .hbm, ⟨17, _⟩ => ⟨S512x2048, .f32⟩
  | .hbm, ⟨18, _⟩ => ⟨S512x2048, .f32⟩
  | .hbm, ⟨19, _⟩ => ⟨S_, .f32⟩
  | .hbm, ⟨20, _⟩ => ⟨S512x2048, .f32⟩
  | .hbm, ⟨21, _⟩ => ⟨S512x2048, .f32⟩
  | .hbm, ⟨22, _⟩ => ⟨S_, .f32⟩
  | .hbm, ⟨23, _⟩ => ⟨S512x2048, .f32⟩
  | .hbm, ⟨24, _⟩ => ⟨S512x2048, .f32⟩
  | .hbm, ⟨25, _⟩ => ⟨S512x2048, .f32⟩
  | .hbm, ⟨26, _⟩ => ⟨S_, .f32⟩
  | .hbm, ⟨27, _⟩ => ⟨S512x2048, .f32⟩
  | .hbm, ⟨28, _⟩ => ⟨S512x2048, .f32⟩
  | .hbm, ⟨29, _⟩ => ⟨S512x2048, .f32⟩
  | .hbm, ⟨30, _⟩ => ⟨S_, .f32⟩
  | .hbm, ⟨31, _⟩ => ⟨S512x2048, .f32⟩
  | .hbm, ⟨32, _⟩ => ⟨S512x2048, .f32⟩
  | .hbm, ⟨33, _⟩ => ⟨S512x2048, .f32⟩
  | .hbm, ⟨34, _⟩ => ⟨S_, .f32⟩
  | .hbm, ⟨35, _⟩ => ⟨S512x2048, .f32⟩
  | .hbm, ⟨36, _⟩ => ⟨S512x2048, .f32⟩
  | _, _ => ⟨S512x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamwFf.lean ====
abbrev S2048x2048 : Shape := ⟨2, ![2048, 2048]⟩
abbrev S256x2048 : Shape := ⟨2, ![256, 2048]⟩

abbrev nBuf : Space → Nat
  | .hbm => 8
  | .vmem => 16
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x2048, .f32⟩
  | .hbm, ⟨3, _⟩ => ⟨S2048x2048, .f32⟩
  | .hbm, ⟨4, _⟩ => ⟨S2048x2048, .f32⟩
  | .hbm, ⟨5, _⟩ => ⟨S2048x2048, .f32⟩
  | .hbm, ⟨6, _⟩ => ⟨S2048x2048, .f32⟩
  | .hbm, ⟨7, _⟩ => ⟨S2048x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .f32⟩
  | .local _ .vmem, ⟨8, _⟩ => ⟨S256x2048, .f32⟩
  | .local _ .vmem, ⟨9, _⟩ => ⟨S256x2048, .f32⟩
  | .local _ .vmem, ⟨10, _⟩ => ⟨S256x2048, .f32⟩
  | .local _ .vmem, ⟨11, _⟩ => ⟨S256x2048, .f32⟩
  | .local _ .vmem, ⟨12, _⟩ => ⟨S256x2048, .f32⟩
  | .local _ .vmem, ⟨13, _⟩ => ⟨S256x2048, .f32⟩
  | .local _ .vmem, ⟨14, _⟩ => ⟨S256x2048, .f32⟩
  | .local _ .vmem, ⟨15, _⟩ => ⟨S256x2048, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![8, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S256x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== AdamwFfReferenceIdeal.lean ====
abbrev S2048x2048 : Shape := ⟨2, ![2048, 2048]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x2048, .f32⟩
  | .hbm, ⟨3, _⟩ => ⟨S2048x2048, .f32⟩
  | .hbm, ⟨4, _⟩ => ⟨S_, .f32⟩
  | .hbm, ⟨5, _⟩ => ⟨S2048x2048, .f32⟩
  | .hbm, ⟨6, _⟩ => ⟨S2048x2048, .f32⟩
  | .hbm, ⟨7, _⟩ => ⟨S_, .f32⟩
  | .hbm, ⟨8, _⟩ => ⟨S2048x2048, .f32⟩
  | .hbm, ⟨9, _⟩ => ⟨S2048x2048, .f32⟩
  | .hbm, ⟨10, _⟩ => ⟨S2048x2048, .f32⟩
  | .hbm, ⟨11, _⟩ => ⟨S_, .f32⟩
  | .hbm, ⟨12, _⟩ => ⟨S2048x2048, .f32⟩
  | .hbm, ⟨13, _⟩ => ⟨S2048x2048, .f32⟩
  | .hbm, ⟨14, _⟩ => ⟨S2048x2048, .f32⟩
  | .hbm, ⟨15, _⟩ => ⟨S_, .f32⟩
  | .hbm, ⟨16, _⟩ => ⟨S2048x2048, .f32⟩
  | .hbm, ⟨17, _⟩ => ⟨S2048x2048, .f32⟩
  | .hbm, ⟨18, _⟩ => ⟨S2048x2048, .f32⟩
  | .hbm, ⟨19, _⟩ => ⟨S_, .f32⟩
  | .hbm, ⟨20, _⟩ => ⟨S2048x2048, .f32⟩
  | .hbm, ⟨21, _⟩ => ⟨S2048x2048, .f32⟩
  | .hbm, ⟨22, _⟩ => ⟨S_, .f32⟩
  | .hbm, ⟨23, _⟩ => ⟨S2048x2048, .f32⟩
  | .hbm, ⟨24, _⟩ => ⟨S2048x2048, .f32⟩
  | .hbm, ⟨25, _⟩ => ⟨S2048x2048, .f32⟩
  | .hbm, ⟨26, _⟩ => ⟨S_, .f32⟩
  | .hbm, ⟨27, _⟩ => ⟨S2048x2048, .f32⟩
  | .hbm, ⟨28, _⟩ => ⟨S2048x2048, .f32⟩
  | .hbm, ⟨29, _⟩ => ⟨S2048x2048, .f32⟩
  | .hbm, ⟨30, _⟩ => ⟨S_, .f32⟩
  | .hbm, ⟨31, _⟩ => ⟨S2048x2048, .f32⟩
  | .hbm, ⟨32, _⟩ => ⟨S2048x2048, .f32⟩
  | .hbm, ⟨33, _⟩ => ⟨S2048x2048, .f32⟩
  | .hbm, ⟨34, _⟩ => ⟨S_, .f32⟩
  | .hbm, ⟨35, _⟩ => ⟨S2048x2048, .f32⟩
  | .hbm, ⟨36, _⟩ => ⟨S2048x2048, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== NormMixBwd.lean ====
abbrev S4096x2048 : Shape := ⟨2, ![4096, 2048]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩
abbrev S2048 : Shape := ⟨1, ![2048]⟩

abbrev nBuf : Space → Nat
  | .hbm => 6
  | .vmem => 10
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S4096x2048, .f32⟩
  | .hbm, ⟨3, _⟩ => ⟨S1x2048, .f32⟩
  | .hbm, ⟨4, _⟩ => ⟨S4096x2048, .f32⟩
  | .hbm, ⟨5, _⟩ => ⟨S1x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S1x2048, .f32⟩
  | .local _ .vmem, ⟨7, _⟩ => ⟨S256x2048, .f32⟩
  | .local _ .vmem, ⟨8, _⟩ => ⟨S256x2048, .f32⟩
  | .local _ .vmem, ⟨9, _⟩ => ⟨S1x2048, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== NormMixBwdReferenceIdeal.lean ====
abbrev S4096x2048 : Shape := ⟨2, ![4096, 2048]⟩
abbrev S1x2048 : Shape := ⟨2, ![1, 2048]⟩
abbrev S_ : Shape := ⟨0, ![]⟩
abbrev S4096 : Shape := ⟨1, ![4096]⟩
abbrev S4096x1 : Shape := ⟨2, ![4096, 1]⟩
abbrev S2048 : Shape := ⟨1, ![2048]⟩

abbrev nBuf : Space → Nat
  | .hbm => 52
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S4096x2048, .f32⟩
  | .hbm, ⟨3, _⟩ => ⟨S1x2048, .f32⟩
  | .hbm, ⟨4, _⟩ => ⟨S4096x2048, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S_, .f32⟩
  | .hbm, ⟨17, _⟩ => ⟨S4096x1, .f32⟩
  | .hbm, ⟨18, _⟩ => ⟨S4096x1, .f32⟩
  | .hbm, ⟨19, _⟩ => ⟨S4096x2048, .f32⟩
  | .hbm, ⟨20, _⟩ => ⟨S4096x2048, .f32⟩
  | .hbm, ⟨21, _⟩ => ⟨S2048, .f32⟩
  | .hbm, ⟨22, _⟩ => ⟨S1x2048, .f32⟩
  | .hbm, ⟨23, _⟩ => ⟨S4096x2048, .f32⟩
  | .hbm, ⟨24, _⟩ => ⟨S4096x2048, .f32⟩
  | .hbm, ⟨25, _⟩ => ⟨S4096x2048, .f32⟩
  | .hbm, ⟨26, _⟩ => ⟨S_, .f32⟩
  | .hbm, ⟨27, _⟩ => ⟨S2048, .f32⟩
  | .hbm, ⟨28, _⟩ => ⟨S1x2048, .f32⟩
  | .hbm, ⟨29, _⟩ => ⟨S4096x2048, .f32⟩
  | .hbm, ⟨30, _⟩ => ⟨S4096x2048, .f32⟩
  | .hbm, ⟨31, _⟩ => ⟨S_, .f32⟩
  | .hbm, ⟨32, _⟩ => ⟨S2048, .f32⟩
  | .hbm, ⟨33, _⟩ => ⟨S1x2048, .f32⟩
  | .hbm, ⟨34, _⟩ => ⟨S4096x2048, .f32⟩
  | .hbm, ⟨35, _⟩ => ⟨S_, .f32⟩
  | .hbm, ⟨36, _⟩ => ⟨S4096, .f32⟩
  | .hbm, ⟨37, _⟩ => ⟨S4096x1, .f32⟩
  | .hbm, ⟨38, _⟩ => ⟨S4096x2048, .f32⟩
  | .hbm, ⟨39, _⟩ => ⟨S4096x2048, .f32⟩
  | .hbm, ⟨40, _⟩ => ⟨S4096x1, .f32⟩
  | .hbm, ⟨41, _⟩ => ⟨S_, .f32⟩
  | .hbm, ⟨42, _⟩ => ⟨S4096x1, .f32⟩
  | .hbm, ⟨43, _⟩ => ⟨S4096x1, .f32⟩
  | .hbm, ⟨44, _⟩ => ⟨S_, .f32⟩
  | .hbm, ⟨45, _⟩ => ⟨S4096, .f32⟩
  | .hbm, ⟨46, _⟩ => ⟨S4096x2048, .f32⟩
  | .hbm, ⟨47, _⟩ => ⟨S4096x2048, .f32⟩
  | .hbm, ⟨48, _⟩ => ⟨S4096x2048, .f32⟩
  | .hbm, ⟨49, _⟩ => ⟨S4096x2048, .f32⟩
  | .hbm, ⟨50, _⟩ => ⟨S4096x2048, .f32⟩
  | .hbm, ⟨51, _⟩ => ⟨S4096x2048, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_3 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_4 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_5 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_cst_6 : Ref sig .tc := ⟨.hbm, 41, rfl⟩
abbrev main_v30 : Ref sig .tc := ⟨.hbm, 42, rfl⟩
abbrev main_v31 : Ref sig .tc := ⟨.hbm, 43, rfl⟩
abbrev main_cst_7 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩

abbrev nD : Nat := 1
abbrev τ : Topo := Topo.v7x

variable {F : FTy → Type} [FloatOps F]
-- ==== NormFfnBwd.lean ====
abbrev S4096x2048 : Shape := ⟨2, ![4096, 2048]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩
abbrev S2048 : Shape := ⟨1, ![2048]⟩

abbrev nBuf : Space → Nat
  | .hbm => 7
  | .vmem => 12
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S4096x2048, .f32⟩
  | .hbm, ⟨3, _⟩ => ⟨S1x2048, .f32⟩
  | .hbm, ⟨4, _⟩ => ⟨S4096x2048, .f32⟩
  | .hbm, ⟨5, _⟩ => ⟨S1x2048, .f32⟩
  | .hbm, ⟨6, _⟩ => ⟨S4096x2048, .bf16⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S1x2048, .f32⟩
  | .local _ .vmem, ⟨7, _⟩ => ⟨S256x2048, .f32⟩
  | .local _ .vmem, ⟨8, _⟩ => ⟨S256x2048, .f32⟩
  | .local _ .vmem, ⟨9, _⟩ => ⟨S1x2048, .f32⟩
  | .local _ .vmem, ⟨10, _⟩ => ⟨S256x2048, .bf16⟩
  | .local _ .vmem, ⟨11, _⟩ => ⟨S256x2048, .bf16⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== NormFfnBwdReferenceIdeal.lean ====
abbrev S4096x2048 : Shape := ⟨2, ![4096, 2048]⟩
abbrev S1x2048 : Shape := ⟨2, ![1, 2048]⟩
abbrev S_ : Shape := ⟨0, ![]⟩
abbrev S4096 : Shape := ⟨1, ![4096]⟩
abbrev S4096x1 : Shape := ⟨2, ![4096, 1]⟩
abbrev S2048 : Shape := ⟨1, ![2048]⟩

abbrev nBuf : Space → Nat
  | .hbm => 54
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S4096x2048, .f32⟩
  | .hbm, ⟨3, _⟩ => ⟨S1x2048, .f32⟩
  | .hbm, ⟨4, _⟩ => ⟨S4096x2048, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S_, .f32⟩
  | .hbm, ⟨17, _⟩ => ⟨S4096x1, .f32⟩
  | .hbm, ⟨18, _⟩ => ⟨S4096x1, .f32⟩
  | .hbm, ⟨19, _⟩ => ⟨S4096x2048, .f32⟩
  | .hbm, ⟨20, _⟩ => ⟨S4096x2048, .f32⟩
  | .hbm, ⟨21, _⟩ => ⟨S2048, .f32⟩
  | .hbm, ⟨22, _⟩ => ⟨S1x2048, .f32⟩
  | .hbm, ⟨23, _⟩ => ⟨S4096x2048, .f32⟩
  | .hbm, ⟨24, _⟩ => ⟨S4096x2048, .f32⟩
  | .hbm, ⟨25, _⟩ => ⟨S4096x2048, .f32⟩
  | .hbm, ⟨26, _⟩ => ⟨S_, .f32⟩
  | .hbm, ⟨27, _⟩ => ⟨S2048, .f32⟩
  | .hbm, ⟨28, _⟩ => ⟨S1x2048, .f32⟩
  | .hbm, ⟨29, _⟩ => ⟨S4096x2048, .f32⟩
  | .hbm, ⟨30, _⟩ => ⟨S4096x2048, .f32⟩
  | .hbm, ⟨31, _⟩ => ⟨S_, .f32⟩
  | .hbm, ⟨32, _⟩ => ⟨S2048, .f32⟩
  | .hbm, ⟨33, _⟩ => ⟨S1x2048, .f32⟩
  | .hbm, ⟨34, _⟩ => ⟨S4096x2048, .f32⟩
  | .hbm, ⟨35, _⟩ => ⟨S_, .f32⟩
  | .hbm, ⟨36, _⟩ => ⟨S4096, .f32⟩
  | .hbm, ⟨37, _⟩ => ⟨S4096x1, .f32⟩
  | .hbm, ⟨38, _⟩ => ⟨S4096x2048, .f32⟩
  | .hbm, ⟨39, _⟩ => ⟨S4096x2048, .f32⟩
  | .hbm, ⟨40, _⟩ => ⟨S4096x1, .f32⟩
  | .hbm, ⟨41, _⟩ => ⟨S_, .f32⟩
  | .hbm, ⟨42, _⟩ => ⟨S4096x1, .f32⟩
  | .hbm, ⟨43, _⟩ => ⟨S4096x1, .f32⟩
  | .hbm, ⟨44, _⟩ => ⟨S_, .f32⟩
  | .hbm, ⟨45, _⟩ => ⟨S4096, .f32⟩
  | .hbm, ⟨46, _⟩ => ⟨S4096x2048, .f32⟩
  | .hbm, ⟨47, _⟩ => ⟨S4096x2048, .f32⟩
  | .hbm, ⟨48, _⟩ => ⟨S4096x2048, .f32⟩
  | .hbm, ⟨49, _⟩ => ⟨S4096x2048, .f32⟩
  | .hbm, ⟨50, _⟩ => ⟨S4096x2048, .f32⟩
  | .hbm, ⟨51, _⟩ => ⟨S4096x2048, .f32⟩
  | .hbm, ⟨52, _⟩ => ⟨S4096x2048, .f32⟩
  | .hbm, ⟨53, _⟩ => ⟨S4096x2048, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_3 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_4 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_5 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_cst_6 : Ref sig .tc := ⟨.hbm, 41, rfl⟩
abbrev main_v30 : Ref sig .tc := ⟨.hbm, 42, rfl⟩
abbrev main_v31 : Ref sig .tc := ⟨.hbm, 43, rfl⟩
abbrev main_cst_7 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩

abbrev nD : Nat := 1
abbrev τ : Topo := Topo.v7x

variable {F : FTy → Type} [FloatOps F]
-- ==== LossHead.lean ====
abbrev S4096x2048 : Shape := ⟨2, ![4096, 2048]⟩
abbrev S1x2048 : Shape := ⟨2, ![1, 2048]⟩
abbrev S1x1 : Shape := ⟨2, ![1, 1]⟩
abbrev S256x2048 : Shape := ⟨2, ![256, 2048]⟩
abbrev S256 : Shape := ⟨1, ![256]⟩
abbrev S256x1 : Shape := ⟨2, ![256, 1]⟩
abbrev S1 : Shape := ⟨1, ![1]⟩
abbrev S2048 : Shape := ⟨1, ![2048]⟩

abbrev nBuf : Space → Nat
  | .hbm => 7
  | .vmem => 11
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S1x2048, .f32⟩
  | .hbm, ⟨3, _⟩ => ⟨S4096x2048, .f32⟩
  | .hbm, ⟨4, _⟩ => ⟨S4096x2048, .bf16⟩
  | .hbm, ⟨5, _⟩ => ⟨S1x2048, .f32⟩
  | .hbm, ⟨6, _⟩ => ⟨S1x1, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S1x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .bf16⟩
  | .local _ .vmem, ⟨8, _⟩ => ⟨S256x2048, .bf16⟩
  | .local _ .vmem, ⟨9, _⟩ => ⟨S1x2048, .f32⟩
  | .local _ .vmem, ⟨10, _⟩ => ⟨S1x1, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev main_v0_3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== LossHeadReferenceIdeal.lean ====
abbrev S4096x2048 : Shape := ⟨2, ![4096, 2048]⟩
abbrev S1x2048 : Shape := ⟨2, ![1, 2048]⟩
abbrev S_ : Shape := ⟨0, ![]⟩
abbrev S4096 : Shape := ⟨1, ![4096]⟩
abbrev S4096x1 : Shape := ⟨2, ![4096, 1]⟩
abbrev S2048 : Shape := ⟨1, ![2048]⟩
abbrev S1x1 : Shape := ⟨2, ![1, 1]⟩

abbrev nBuf : Space → Nat
  | .hbm => 75
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S1x2048, .f32⟩
  | .hbm, ⟨3, _⟩ => ⟨S4096x2048, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S4096x2048, .f32⟩
  | .hbm, ⟨19, _⟩ => ⟨S4096x2048, .f32⟩
  | .hbm, ⟨20, _⟩ => ⟨S2048, .f32⟩
  | .hbm, ⟨21, _⟩ => ⟨S1x2048, .f32⟩
  | .hbm, ⟨22, _⟩ => ⟨S4096x2048, .f32⟩
  | .hbm, ⟨23, _⟩ => ⟨S4096x2048, .f32⟩
  | .hbm, ⟨24, _⟩ => ⟨S4096x2048, .f32⟩
  | .hbm, ⟨25, _⟩ => ⟨S4096x2048, .f32⟩
  | .hbm, ⟨26, _⟩ => ⟨S_, .f32⟩
  | .hbm, ⟨27, _⟩ => ⟨S4096x2048, .f32⟩
  | .hbm, ⟨28, _⟩ => ⟨S4096x2048, .f32⟩
  | .hbm, ⟨29, _⟩ => ⟨S_, .f32⟩
  | .hbm, ⟨30, _⟩ => ⟨S4096, .f32⟩
  | .hbm, ⟨31, _⟩ => ⟨S_, .f32⟩
  | .hbm, ⟨32, _⟩ => ⟨S4096, .f32⟩
  | .hbm, ⟨33, _⟩ => ⟨S4096, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S4096, .f32⟩
  | .hbm, ⟨42, _⟩ => ⟨S_, .f32⟩
  | .hbm, ⟨43, _⟩ => ⟨S4096, .f32⟩
  | .hbm, ⟨44, _⟩ => ⟨S4096, .f32⟩
  | .hbm, ⟨45, _⟩ => ⟨S4096x2048, .f32⟩
  | .hbm, ⟨46, _⟩ => ⟨S4096x2048, .f32⟩
  | .hbm, ⟨47, _⟩ => ⟨S4096x2048, .f32⟩
  | .hbm, ⟨48, _⟩ => ⟨S_, .f32⟩
  | .hbm, ⟨49, _⟩ => ⟨S2048, .f32⟩
  | .hbm, ⟨50, _⟩ => ⟨S1x2048, .f32⟩
  | .hbm, ⟨51, _⟩ => ⟨S4096x2048, .f32⟩
  | .hbm, ⟨52, _⟩ => ⟨S4096x2048, .f32⟩
  | .hbm, ⟨53, _⟩ => ⟨S_, .f32⟩
  | .hbm, ⟨54, _⟩ => ⟨S2048, .f32⟩
  | .hbm, ⟨55, _⟩ => ⟨S1x2048, .f32⟩
  | .hbm, ⟨56, _⟩ => ⟨S4096x2048, .f32⟩
  | .hbm, ⟨57, _⟩ => ⟨S_, .f32⟩
  | .hbm, ⟨58, _⟩ => ⟨S4096, .f32⟩
  | .hbm, ⟨59, _⟩ => ⟨S4096x1, .f32⟩
  | .hbm, ⟨60, _⟩ => ⟨S4096x2048, .f32⟩
  | .hbm, ⟨61, _⟩ => ⟨S4096x2048, .f32⟩
  | .hbm, ⟨62, _⟩ => ⟨S4096x1, .f32⟩
  | .hbm, ⟨63, _⟩ => ⟨S_, .f32⟩
  | .hbm, ⟨64, _⟩ => ⟨S4096x1, .f32⟩
  | .hbm, ⟨65, _⟩ => ⟨S4096x1, .f32⟩
  | .hbm, ⟨66, _⟩ => ⟨S_, .f32⟩
  | .hbm, ⟨67, _⟩ => ⟨S4096, .f32⟩
  | .hbm, ⟨68, _⟩ => ⟨S4096x2048, .f32⟩
  | .hbm, ⟨69, _⟩ => ⟨S4096x2048, .f32⟩
  | .hbm, ⟨70, _⟩ => ⟨S4096x2048, .f32⟩
  | .hbm, ⟨71, _⟩ => ⟨S4096x2048, .f32⟩
  | .hbm, ⟨72, _⟩ => ⟨S4096x2048, .f32⟩
  | .hbm, ⟨73, _⟩ => ⟨S4096x2048, .bf16⟩
  | .hbm, ⟨74, _⟩ => ⟨S1x1, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_3 : Ref sig .tc := ⟨.hbm, 26, rfl⟩
abbrev main_v19 : Ref sig .tc := ⟨.hbm, 27, rfl⟩
abbrev main_v20 : Ref sig .tc := ⟨.hbm, 28, rfl⟩
abbrev main_cst_4 : Ref sig .tc := ⟨.hbm, 29, rfl⟩
abbrev main_v21 : Ref sig .tc := ⟨.hbm, 30, rfl⟩
abbrev main_cst_5 : Ref sig .tc := ⟨.hbm, 31, rfl⟩
abbrev main_v22 : Ref sig .tc := ⟨.hbm, 32, rfl⟩
abbrev main_v23 : Ref sig .tc := ⟨.hbm, 33, rfl⟩
abbrev main_cst_6 : Ref sig .tc := ⟨.hbm, 34, rfl⟩
abbrev main_v24 : Ref sig .tc := ⟨.hbm, 35, rfl⟩
abbrev main_cst_7 : Ref sig .tc := ⟨.hbm, 36, rfl⟩
abbrev main_v25 : Ref sig .tc := ⟨.hbm, 37, rfl⟩
abbrev main_cst_8 : Ref sig .tc := ⟨.hbm, 38, rfl⟩
abbrev main_cst_9 : Ref sig .tc := ⟨.hbm, 39, rfl⟩
abbrev main_v26 : Ref sig .tc := ⟨.hbm, 40, rfl⟩
abbrev main_v27 : Ref sig .tc := ⟨.hbm, 41, rfl⟩
abbrev main_cst_10 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_cst_11 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_cst_12 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_cst_13 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_cst_14 : Ref sig .tc := ⟨.hbm, 63, rfl⟩
abbrev main_v45 : Ref sig .tc := ⟨.hbm, 64, rfl⟩
abbrev main_v46 : Ref sig .tc := ⟨.hbm, 65, rfl⟩
abbrev main_cst_15 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩

abbrev nD : Nat := 1
abbrev τ : Topo := Topo.v7x

variable {F : FTy → Type} [FloatOps F]
-- ==== NormFfn.lean ====
abbrev S4096x2048 : Shape := ⟨2, ![4096, 2048]⟩
abbrev S1x2048 : Shape := ⟨2, ![1, 2048]⟩
abbrev S512x2048 : Shape := ⟨2, ![512, 2048]⟩
abbrev S512 : Shape := ⟨1, ![512]⟩
abbrev S512x1 : Shape := ⟨2, ![512, 1]⟩

abbrev nBuf : Space → Nat
  | .hbm => 3
  | .vmem => 5
  | .smem => 0
  | _ => 0

abbrev bufTy : (tb : Table) → Fin (tcTables nBuf tb) → BufTy
  | .hbm, ⟨0, _⟩ => ⟨S4096x2048, .f32⟩
  | .hbm, ⟨1, _⟩ => ⟨S1x2048, .f32⟩
  | .hbm, ⟨2, _⟩ => ⟨S4096x2048, .bf16⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S512x2048, .bf16⟩
  | .local _ .vmem, ⟨4, _⟩ => ⟨S512x2048, .bf16⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== NormFfnReferenceIdeal.lean ====
abbrev S4096x2048 : Shape := ⟨2, ![4096, 2048]⟩
abbrev S1x2048 : Shape := ⟨2, ![1, 2048]⟩
abbrev S_ : Shape := ⟨0, ![]⟩
abbrev S4096 : Shape := ⟨1, ![4096]⟩
abbrev S4096x1 : Shape := ⟨2, ![4096, 1]⟩
abbrev S2048 : Shape := ⟨1, ![2048]⟩

abbrev nBuf : Space → Nat
  | .hbm => 20
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S1x2048, .f32⟩
  | .hbm, ⟨2, _⟩ => ⟨S4096x2048, .f32⟩
  | .hbm, ⟨3, _⟩ => ⟨S_, .f32⟩
  | .hbm, ⟨4, _⟩ => ⟨S4096, .f32⟩
  | .hbm, ⟨5, _⟩ => ⟨S4096x1, .f32⟩
  | .hbm, ⟨6, _⟩ => ⟨S_, .f32⟩
  | .hbm, ⟨7, _⟩ => ⟨S4096x1, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S4096x1, .f32⟩
  | .hbm, ⟨13, _⟩ => ⟨S4096x2048, .f32⟩
  | .hbm, ⟨14, _⟩ => ⟨S4096x2048, .f32⟩
  | .hbm, ⟨15, _⟩ => ⟨S2048, .f32⟩
  | .hbm, ⟨16, _⟩ => ⟨S1x2048, .f32⟩
  | .hbm, ⟨17, _⟩ => ⟨S4096x2048, .f32⟩
  | .hbm, ⟨18, _⟩ => ⟨S4096x2048, .f32⟩
  | .hbm, ⟨19, _⟩ => ⟨S4096x2048, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩

abbrev nD : Nat := 1
abbrev τ : Topo := Topo.v7x

variable {F : FTy → Type} [FloatOps F]
-- ==== GateDw.lean ====
abbrev S4096x128 : Shape := ⟨2, ![4096, 128]⟩
abbrev S4096x2048 : Shape := ⟨2, ![4096, 2048]⟩
abbrev S128x2048 : Shape := ⟨2, ![128, 2048]⟩
abbrev S2048x128 : Shape := ⟨2, ![2048, 128]⟩
abbrev S2048x1024 : Shape := ⟨2, ![2048, 1024]⟩
abbrev S128x1024 : Shape := ⟨2, ![128, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x128, .bf16⟩
  | .hbm, ⟨1, _⟩ => ⟨S4096x2048, .bf16⟩
  | .hbm, ⟨2, _⟩ => ⟨S128x2048, .bf16⟩
  | .local _ .vmem, ⟨0, _⟩ => ⟨S2048x128, .bf16⟩
  | .local _ .vmem, ⟨1, _⟩ => ⟨S2048x128, .bf16⟩
  | .local _ .vmem, ⟨2, _⟩ => ⟨S2048x1024, .bf16⟩
  | .local _ .vmem, ⟨3, _⟩ => ⟨S2048x1024, .bf16⟩
  | .local _ .vmem, ⟨4, _⟩ => ⟨S128x1024, .bf16⟩
  | .local _ .vmem, ⟨5, _⟩ => ⟨S128x1024, .bf16⟩
  | .local _ .vmem, ⟨6, _⟩ => ⟨S128x1024, .f32⟩
  | _, _ => ⟨S4096x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 2], ![false, false, false]⟩

def k0_cond3 (i : grid0.Coords) : BitVec 1 :=
  let arg2 : BitVec 32 := BitVec.ofNat 32 (i 2).val
  let c1_i32_6 : BitVec 32 := 1#32
  let v11 : BitVec 1 := Scalar.cmpi .eq arg2 c1_i32_6
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S128x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GateDwReferenceIdeal.lean ====
abbrev S4096x128 : Shape := ⟨2, ![4096, 128]⟩
abbrev S4096x2048 : Shape := ⟨2, ![4096, 2048]⟩
abbrev S_ : Shape := ⟨0, ![]⟩
abbrev S128x2048 : Shape := ⟨2, ![128, 2048]⟩

abbrev nBuf : Space → Nat
  | .hbm => 9
  | .vmem => 0
  | .smem => 0
  | _ => 0

abbrev bufTy : (tb : Table) → Fin (tcTables nBuf tb) → BufTy
  | .hbm, ⟨0, _⟩ => ⟨S4096x128, .bf16⟩
  | .hbm, ⟨1, _⟩ => ⟨S4096x2048, .bf16⟩
  | .hbm, ⟨2, _⟩ => ⟨S_, .f32⟩
  | .hbm, ⟨3, _⟩ => ⟨S128x2048, .f32⟩
  | .hbm, ⟨4, _⟩ => ⟨S4096x2048, .f32⟩
  | .hbm, ⟨5, _⟩ => ⟨S4096x128, .f32⟩
  | .hbm, ⟨6, _⟩ => ⟨S4096x128, .f32⟩
  | .hbm, ⟨7, _⟩ => ⟨S128x2048, .f32⟩
  | .hbm, ⟨8, _⟩ => ⟨S128x2048, .bf16⟩
  | _, _ => ⟨S4096x128, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== GateDlhs.lean ====
abbrev S4096x128 : Shape := ⟨2, ![4096, 128]⟩
abbrev S128x2048 : Shape := ⟨2, ![128, 2048]⟩
abbrev S4096x2048 : Shape := ⟨2, ![4096, 2048]⟩
abbrev S1024x128 : Shape := ⟨2, ![1024, 128]⟩
abbrev S128x1024 : Shape := ⟨2, ![128, 1024]⟩
abbrev S1024x1024 : Shape := ⟨2, ![1024, 1024]⟩
abbrev S128x256 : Shape := ⟨2, ![128, 256]⟩
abbrev S1024x256 : Shape := ⟨2, ![1024, 256]⟩

abbrev nBuf : Space → Nat
  | .hbm => 3
  | .vmem => 6
  | .smem => 0
  | _ => 0

abbrev bufTy : (tb : Table) → Fin (tcTables nBuf tb) → BufTy
  | .hbm, ⟨0, _⟩ => ⟨S4096x128, .bf16⟩
  | .hbm, ⟨1, _⟩ => ⟨S128x2048, .bf16⟩
  | .hbm, ⟨2, _⟩ => ⟨S4096x2048, .f32⟩
  | .local _ .vmem, ⟨0, _⟩ => ⟨S1024x128, .bf16⟩
  | .local _ .vmem, ⟨1, _⟩ => ⟨S1024x128, .bf16⟩
  | .local _ .vmem, ⟨2, _⟩ => ⟨S128x1024, .bf16⟩
  | .local _ .vmem, ⟨3, _⟩ => ⟨S128x1024, .bf16⟩
  | .local _ .vmem, ⟨4, _⟩ => ⟨S1024x1024, .f32⟩
  | .local _ .vmem, ⟨5, _⟩ => ⟨S1024x1024, .f32⟩
  | _, _ => ⟨S4096x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S128x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GateDlhsReferenceIdeal.lean ====
abbrev S4096x128 : Shape := ⟨2, ![4096, 128]⟩
abbrev S128x2048 : Shape := ⟨2, ![128, 2048]⟩
abbrev S_ : Shape := ⟨0, ![]⟩
abbrev S4096x2048 : Shape := ⟨2, ![4096, 2048]⟩

abbrev nBuf : Space → Nat
  | .hbm => 8
  | .vmem => 0
  | .smem => 0
  | _ => 0

abbrev bufTy : (tb : Table) → Fin (tcTables nBuf tb) → BufTy
  | .hbm, ⟨0, _⟩ => ⟨S4096x128, .bf16⟩
  | .hbm, ⟨1, _⟩ => ⟨S128x2048, .bf16⟩
  | .hbm, ⟨2, _⟩ => ⟨S_, .f32⟩
  | .hbm, ⟨3, _⟩ => ⟨S4096x2048, .f32⟩
  | .hbm, ⟨4, _⟩ => ⟨S128x2048, .f32⟩
  | .hbm, ⟨5, _⟩ => ⟨S4096x128, .f32⟩
  | .hbm, ⟨6, _⟩ => ⟨S4096x128, .f32⟩
  | .hbm, ⟨7, _⟩ => ⟨S4096x2048, .f32⟩
  | _, _ => ⟨S4096x128, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== AdamwEarly.lean ====
abbrev S2 : Shape := ⟨1, ![2]⟩
abbrev S8x1104x128 : Shape := ⟨3, ![8, 1104, 128]⟩
abbrev S1104x128 : Shape := ⟨2, ![1104, 128]⟩
abbrev S1 : Shape := ⟨1, ![1]⟩
abbrev S1x1104x128 : Shape := ⟨3, ![1, 1104, 128]⟩

abbrev nBuf : Space → Nat
  | .hbm => 9
  | .vmem => 9
  | .smem => 1
  | _ => 0

abbrev bufTy : (tb : Table) → Fin (tcTables nBuf tb) → BufTy
  | .hbm, ⟨0, _⟩ => ⟨S8x1104x128, .f32⟩
  | .hbm, ⟨1, _⟩ => ⟨S1104x128, .f32⟩
  | .hbm, ⟨2, _⟩ => ⟨S1104x128, .f32⟩
  | .hbm, ⟨3, _⟩ => ⟨S1104x128, .f32⟩
  | .hbm, ⟨4, _⟩ => ⟨S1104x128, .f32⟩
  | .hbm, ⟨5, _⟩ => ⟨S1104x128, .f32⟩
  | .hbm, ⟨6, _⟩ => ⟨S1104x128, .f32⟩
  | .hbm, ⟨7, _⟩ => ⟨S1104x128, .f32⟩
  | .hbm, ⟨8, _⟩ => ⟨S1104x128, .f32⟩
  | .local _ .vmem, ⟨0, _⟩ => ⟨S8x1104x128, .f32⟩
  | .local _ .vmem, ⟨1, _⟩ => ⟨S1104x128, .f32⟩
  | .local _ .vmem, ⟨2, _⟩ => ⟨S1104x128, .f32⟩
  | .local _ .vmem, ⟨3, _⟩ => ⟨S1104x128, .f32⟩
  | .local _ .vmem, ⟨4, _⟩ => ⟨S1104x128, .f32⟩
  | .local _ .vmem, ⟨5, _⟩ => ⟨S1104x128, .f32⟩
  | .local _ .vmem, ⟨6, _⟩ => ⟨S1104x128, .f32⟩
  | .local _ .vmem, ⟨7, _⟩ => ⟨S1104x128, .f32⟩
  | .local _ .vmem, ⟨8, _⟩ => ⟨S1104x128, .f32⟩
  | .local _ .smem, ⟨0, _⟩ => ⟨S2, .i32⟩
  | _, _ => ⟨S8x1104x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_arg0 : Ref sig .tc := ⟨.smem, 0, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := ⟨1, ![1], ![false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S8x1104x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1104x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1104x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1104x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1104x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1104x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1104x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1104x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1104x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== AdamwEarlyReferenceIdeal.lean ====
abbrev S2 : Shape := ⟨1, ![2]⟩
abbrev S8x1104x128 : Shape := ⟨3, ![8, 1104, 128]⟩
abbrev S1104x128 : Shape := ⟨2, ![1104, 128]⟩
abbrev S8 : Shape := ⟨1, ![8]⟩
abbrev S1 : Shape := ⟨1, ![1]⟩
abbrev S_ : Shape := ⟨0, ![]⟩
abbrev S8x1x1 : Shape := ⟨3, ![8, 1, 1]⟩

abbrev nBuf : Space → Nat
  | .hbm => 55
  | .vmem => 0
  | .smem => 0
  | _ => 0

abbrev bufTy : (tb : Table) → Fin (tcTables nBuf tb) → BufTy
  | .hbm, ⟨0, _⟩ => ⟨S2, .i32⟩
  | .hbm, ⟨1, _⟩ => ⟨S8x1104x128, .f32⟩
  | .hbm, ⟨2, _⟩ => ⟨S1104x128, .f32⟩
  | .hbm, ⟨3, _⟩ => ⟨S1104x128, .f32⟩
  | .hbm, ⟨4, _⟩ => ⟨S1104x128, .f32⟩
  | .hbm, ⟨5, _⟩ => ⟨S1104x128, .f32⟩
  | .hbm, ⟨6, _⟩ => ⟨S8, .i32⟩
  | .hbm, ⟨7, _⟩ => ⟨S1, .i32⟩
  | .hbm, ⟨8, _⟩ => ⟨S_, .i32⟩
  | .hbm, ⟨9, _⟩ => ⟨S_, .i32⟩
  | .hbm, ⟨10, _⟩ => ⟨S_, .i32⟩
  | .hbm, ⟨11, _⟩ => ⟨S1, .i32⟩
  | .hbm, ⟨12, _⟩ => ⟨S_, .i32⟩
  | .hbm, ⟨13, _⟩ => ⟨S_, .i32⟩
  | .hbm, ⟨14, _⟩ => ⟨S8, .i32⟩
  | .hbm, ⟨15, _⟩ => ⟨S8, .i1⟩
  | .hbm, ⟨16, _⟩ => ⟨S8x1x1, .i1⟩
  | .hbm, ⟨17, _⟩ => ⟨S8x1104x128, .i1⟩
  | .hbm, ⟨18, _⟩ => ⟨S8x1104x128, .f32⟩
  | .hbm, ⟨19, _⟩ => ⟨S8x1104x128, .f32⟩
  | .hbm, ⟨20, _⟩ => ⟨S_, .f32⟩
  | .hbm, ⟨21, _⟩ => ⟨S1104x128, .f32⟩
  | .hbm, ⟨22, _⟩ => ⟨S_, .f32⟩
  | .hbm, ⟨23, _⟩ => ⟨S1104x128, .f32⟩
  | .hbm, ⟨24, _⟩ => ⟨S1104x128, .f32⟩
  | .hbm, ⟨25, _⟩ => ⟨S_, .f32⟩
  | .hbm, ⟨26, _⟩ => ⟨S1104x128, .f32⟩
  | .hbm, ⟨27, _⟩ => ⟨S1104x128, .f32⟩
  | .hbm, ⟨28, _⟩ => ⟨S1104x128, .f32⟩
  | .hbm, ⟨29, _⟩ => ⟨S_, .f32⟩
  | .hbm, ⟨30, _⟩ => ⟨S1104x128, .f32⟩
  | .hbm, ⟨31, _⟩ => ⟨S1104x128, .f32⟩
  | .hbm, ⟨32, _⟩ => ⟨S1104x128, .f32⟩
  | .hbm, ⟨33, _⟩ => ⟨S_, .f32⟩
  | .hbm, ⟨34, _⟩ => ⟨S1104x128, .f32⟩
  | .hbm, ⟨35, _⟩ => ⟨S1104x128, .f32⟩
  | .hbm, ⟨36, _⟩ => ⟨S1104x128, .f32⟩
  | .hbm, ⟨37, _⟩ => ⟨S_, .f32⟩
  | .hbm, ⟨38, _⟩ => ⟨S1104x128, .f32⟩
  | .hbm, ⟨39, _⟩ => ⟨S1104x128, .f32⟩
  | .hbm, ⟨40, _⟩ => ⟨S_, .f32⟩
  | .hbm, ⟨41, _⟩ => ⟨S1104x128, .f32⟩
  | .hbm, ⟨42, _⟩ => ⟨S1104x128, .f32⟩
  | .hbm, ⟨43, _⟩ => ⟨S1104x128, .f32⟩
  | .hbm, ⟨44, _⟩ => ⟨S_, .f32⟩
  | .hbm, ⟨45, _⟩ => ⟨S1104x128, .f32⟩
  | .hbm, ⟨46, _⟩ => ⟨S1104x128, .f32⟩
  | .hbm, ⟨47, _⟩ => ⟨S1104x128, .f32⟩
  | .hbm, ⟨48, _⟩ => ⟨S_, .f32⟩
  | .hbm, ⟨49, _⟩ => ⟨S1104x128, .f32⟩
  | .hbm, ⟨50, _⟩ => ⟨S1104x128, .f32⟩
  | .hbm, ⟨51, _⟩ => ⟨S1104x128, .f32⟩
  | .hbm, ⟨52, _⟩ => ⟨S_, .f32⟩
  | .hbm, ⟨53, _⟩ => ⟨S1104x128, .f32⟩
  | .hbm, ⟨54, _⟩ => ⟨S1104x128, .f32⟩
  | _, _ => ⟨S2, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_c : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_call0_v0 : Ref sig .tc := ⟨.hbm, 17, rfl⟩
abbrev main_call0_v1 : Ref sig .tc := ⟨.hbm, 18, rfl⟩
abbrev main_v10 : Ref sig .tc := ⟨.hbm, 19, rfl⟩
abbrev main_cst : Ref sig .tc := ⟨.hbm, 20, rfl⟩
abbrev main_v11 : Ref sig .tc := ⟨.hbm, 21, rfl⟩
abbrev main_cst_0 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_cst_2 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_cst_3 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_cst_4 : Ref sig .tc := ⟨.hbm, 37, rfl⟩
abbrev main_v23 : Ref sig .tc := ⟨.hbm, 38, rfl⟩
abbrev main_v24 : Ref sig .tc := ⟨.hbm, 39, rfl⟩
abbrev main_cst_5 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_cst_6 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_cst_7 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_cst_8 : Ref sig .tc := ⟨.hbm, 52, rfl⟩
abbrev main_v34 : Ref sig .tc := ⟨.hbm, 53, rfl⟩
abbrev main_v35 : Ref sig .tc := ⟨.hbm, 54, rfl⟩

abbrev nD : Nat := 1
abbrev τ : Topo := Topo.v7x

variable {F : FTy → Type} [FloatOps F]
-- ==== AdamwLate.lean ====
abbrev S2 : Shape := ⟨1, ![2]⟩
abbrev S8x16x128 : Shape := ⟨3, ![8, 16, 128]⟩
abbrev S16x128 : Shape := ⟨2, ![16, 128]⟩
abbrev S1 : Shape := ⟨1, ![1]⟩
abbrev S1x16x128 : Shape := ⟨3, ![1, 16, 128]⟩

abbrev nBuf : Space → Nat
  | .hbm => 9
  | .vmem => 9
  | .smem => 1
  | _ => 0

abbrev bufTy : (tb : Table) → Fin (tcTables nBuf tb) → BufTy
  | .hbm, ⟨0, _⟩ => ⟨S8x16x128, .f32⟩
  | .hbm, ⟨1, _⟩ => ⟨S16x128, .f32⟩
  | .hbm, ⟨2, _⟩ => ⟨S16x128, .f32⟩
  | .hbm, ⟨3, _⟩ => ⟨S16x128, .f32⟩
  | .hbm, ⟨4, _⟩ => ⟨S16x128, .f32⟩
  | .hbm, ⟨5, _⟩ => ⟨S16x128, .f32⟩
  | .hbm, ⟨6, _⟩ => ⟨S16x128, .f32⟩
  | .hbm, ⟨7, _⟩ => ⟨S16x128, .f32⟩
  | .hbm, ⟨8, _⟩ => ⟨S16x128, .f32⟩
  | .local _ .vmem, ⟨0, _⟩ => ⟨S8x16x128, .f32⟩
  | .local _ .vmem, ⟨1, _⟩ => ⟨S16x128, .f32⟩
  | .local _ .vmem, ⟨2, _⟩ => ⟨S16x128, .f32⟩
  | .local _ .vmem, ⟨3, _⟩ => ⟨S16x128, .f32⟩
  | .local _ .vmem, ⟨4, _⟩ => ⟨S16x128, .f32⟩
  | .local _ .vmem, ⟨5, _⟩ => ⟨S16x128, .f32⟩
  | .local _ .vmem, ⟨6, _⟩ => ⟨S16x128, .f32⟩
  | .local _ .vmem, ⟨7, _⟩ => ⟨S16x128, .f32⟩
  | .local _ .vmem, ⟨8, _⟩ => ⟨S16x128, .f32⟩
  | .local _ .smem, ⟨0, _⟩ => ⟨S2, .i32⟩
  | _, _ => ⟨S8x16x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_arg0 : Ref sig .tc := ⟨.smem, 0, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := ⟨1, ![1], ![false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S8x16x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S16x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S16x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S16x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S16x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S16x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S16x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S16x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S16x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== AdamwLateReferenceIdeal.lean ====
abbrev S2 : Shape := ⟨1, ![2]⟩
abbrev S8x16x128 : Shape := ⟨3, ![8, 16, 128]⟩
abbrev S16x128 : Shape := ⟨2, ![16, 128]⟩
abbrev S8 : Shape := ⟨1, ![8]⟩
abbrev S1 : Shape := ⟨1, ![1]⟩
abbrev S_ : Shape := ⟨0, ![]⟩
abbrev S8x1x1 : Shape := ⟨3, ![8, 1, 1]⟩

abbrev nBuf : Space → Nat
  | .hbm => 55
  | .vmem => 0
  | .smem => 0
  | _ => 0

abbrev bufTy : (tb : Table) → Fin (tcTables nBuf tb) → BufTy
  | .hbm, ⟨0, _⟩ => ⟨S2, .i32⟩
  | .hbm, ⟨1, _⟩ => ⟨S8x16x128, .f32⟩
  | .hbm, ⟨2, _⟩ => ⟨S16x128, .f32⟩
  | .hbm, ⟨3, _⟩ => ⟨S16x128, .f32⟩
  | .hbm, ⟨4, _⟩ => ⟨S16x128, .f32⟩
  | .hbm, ⟨5, _⟩ => ⟨S16x128, .f32⟩
  | .hbm, ⟨6, _⟩ => ⟨S8, .i32⟩
  | .hbm, ⟨7, _⟩ => ⟨S1, .i32⟩
  | .hbm, ⟨8, _⟩ => ⟨S_, .i32⟩
  | .hbm, ⟨9, _⟩ => ⟨S_, .i32⟩
  | .hbm, ⟨10, _⟩ => ⟨S_, .i32⟩
  | .hbm, ⟨11, _⟩ => ⟨S1, .i32⟩
  | .hbm, ⟨12, _⟩ => ⟨S_, .i32⟩
  | .hbm, ⟨13, _⟩ => ⟨S_, .i32⟩
  | .hbm, ⟨14, _⟩ => ⟨S8, .i32⟩
  | .hbm, ⟨15, _⟩ => ⟨S8, .i1⟩
  | .hbm, ⟨16, _⟩ => ⟨S8x1x1, .i1⟩
  | .hbm, ⟨17, _⟩ => ⟨S8x16x128, .i1⟩
  | .hbm, ⟨18, _⟩ => ⟨S8x16x128, .f32⟩
  | .hbm, ⟨19, _⟩ => ⟨S8x16x128, .f32⟩
  | .hbm, ⟨20, _⟩ => ⟨S_, .f32⟩
  | .hbm, ⟨21, _⟩ => ⟨S16x128, .f32⟩
  | .hbm, ⟨22, _⟩ => ⟨S_, .f32⟩
  | .hbm, ⟨23, _⟩ => ⟨S16x128, .f32⟩
  | .hbm, ⟨24, _⟩ => ⟨S16x128, .f32⟩
  | .hbm, ⟨25, _⟩ => ⟨S_, .f32⟩
  | .hbm, ⟨26, _⟩ => ⟨S16x128, .f32⟩
  | .hbm, ⟨27, _⟩ => ⟨S16x128, .f32⟩
  | .hbm, ⟨28, _⟩ => ⟨S16x128, .f32⟩
  | .hbm, ⟨29, _⟩ => ⟨S_, .f32⟩
  | .hbm, ⟨30, _⟩ => ⟨S16x128, .f32⟩
  | .hbm, ⟨31, _⟩ => ⟨S16x128, .f32⟩
  | .hbm, ⟨32, _⟩ => ⟨S16x128, .f32⟩
  | .hbm, ⟨33, _⟩ => ⟨S_, .f32⟩
  | .hbm, ⟨34, _⟩ => ⟨S16x128, .f32⟩
  | .hbm, ⟨35, _⟩ => ⟨S16x128, .f32⟩
  | .hbm, ⟨36, _⟩ => ⟨S16x128, .f32⟩
  | .hbm, ⟨37, _⟩ => ⟨S_, .f32⟩
  | .hbm, ⟨38, _⟩ => ⟨S16x128, .f32⟩
  | .hbm, ⟨39, _⟩ => ⟨S16x128, .f32⟩
  | .hbm, ⟨40, _⟩ => ⟨S_, .f32⟩
  | .hbm, ⟨41, _⟩ => ⟨S16x128, .f32⟩
  | .hbm, ⟨42, _⟩ => ⟨S16x128, .f32⟩
  | .hbm, ⟨43, _⟩ => ⟨S16x128, .f32⟩
  | .hbm, ⟨44, _⟩ => ⟨S_, .f32⟩
  | .hbm, ⟨45, _⟩ => ⟨S16x128, .f32⟩
  | .hbm, ⟨46, _⟩ => ⟨S16x128, .f32⟩
  | .hbm, ⟨47, _⟩ => ⟨S16x128, .f32⟩
  | .hbm, ⟨48, _⟩ => ⟨S_, .f32⟩
  | .hbm, ⟨49, _⟩ => ⟨S16x128, .f32⟩
  | .hbm, ⟨50, _⟩ => ⟨S16x128, .f32⟩
  | .hbm, ⟨51, _⟩ => ⟨S16x128, .f32⟩
  | .hbm, ⟨52, _⟩ => ⟨S_, .f32⟩
  | .hbm, ⟨53, _⟩ => ⟨S16x128, .f32⟩
  | .hbm, ⟨54, _⟩ => ⟨S16x128, .f32⟩
  | _, _ => ⟨S2, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_c : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_call0_v0 : Ref sig .tc := ⟨.hbm, 17, rfl⟩
abbrev main_call0_v1 : Ref sig .tc := ⟨.hbm, 18, rfl⟩
abbrev main_v10 : Ref sig .tc := ⟨.hbm, 19, rfl⟩
abbrev main_cst : Ref sig .tc := ⟨.hbm, 20, rfl⟩
abbrev main_v11 : Ref sig .tc := ⟨.hbm, 21, rfl⟩
abbrev main_cst_0 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_cst_2 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_cst_3 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_cst_4 : Ref sig .tc := ⟨.hbm, 37, rfl⟩
abbrev main_v23 : Ref sig .tc := ⟨.hbm, 38, rfl⟩
abbrev main_v24 : Ref sig .tc := ⟨.hbm, 39, rfl⟩
abbrev main_cst_5 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_cst_6 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_cst_7 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_cst_8 : Ref sig .tc := ⟨.hbm, 52, rfl⟩
abbrev main_v34 : Ref sig .tc := ⟨.hbm, 53, rfl⟩
abbrev main_v35 : Ref sig .tc := ⟨.hbm, 54, rfl⟩

abbrev nD : Nat := 1
abbrev τ : Topo := Topo.v7x

variable {F : FTy → Type} [FloatOps F]
-- ==== ForgetBwd.lean ====
abbrev S4096x128 : Shape := ⟨2, ![4096, 128]⟩
abbrev S1x128 : Shape := ⟨2, ![1, 128]⟩
abbrev S256x128 : Shape := ⟨2, ![256, 128]⟩
abbrev S256x256 : Shape := ⟨2, ![256, 256]⟩
abbrev S128 : Shape := ⟨1, ![128]⟩

abbrev nBuf : Space → Nat
  | .hbm => 4
  | .vmem => 8
  | .smem => 0
  | _ => 0

abbrev bufTy : (tb : Table) → Fin (tcTables nBuf tb) → BufTy
  | .hbm, ⟨0, _⟩ => ⟨S4096x128, .f32⟩
  | .hbm, ⟨1, _⟩ => ⟨S4096x128, .f32⟩
  | .hbm, ⟨2, _⟩ => ⟨S4096x128, .bf16⟩
  | .hbm, ⟨3, _⟩ => ⟨S1x128, .f32⟩
  | .local _ .vmem, ⟨0, _⟩ => ⟨S256x128, .f32⟩
  | .local _ .vmem, ⟨1, _⟩ => ⟨S256x128, .f32⟩
  | .local _ .vmem, ⟨2, _⟩ => ⟨S256x128, .f32⟩
  | .local _ .vmem, ⟨3, _⟩ => ⟨S256x128, .f32⟩
  | .local _ .vmem, ⟨4, _⟩ => ⟨S256x128, .bf16⟩
  | .local _ .vmem, ⟨5, _⟩ => ⟨S256x128, .bf16⟩
  | .local _ .vmem, ⟨6, _⟩ => ⟨S1x128, .f32⟩
  | .local _ .vmem, ⟨7, _⟩ => ⟨S1x128, .f32⟩
  | _, _ => ⟨S4096x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]
-- ==== ForgetBwdReferenceIdeal.lean ====
abbrev S4096x128 : Shape := ⟨2, ![4096, 128]⟩
abbrev S4096 : Shape := ⟨1, ![4096]⟩
abbrev S4096x1 : Shape := ⟨2, ![4096, 1]⟩
abbrev S1x4096 : Shape := ⟨2, ![1, 4096]⟩
abbrev S4096x4096 : Shape := ⟨2, ![4096, 4096]⟩
abbrev S_ : Shape := ⟨0, ![]⟩
abbrev S128 : Shape := ⟨1, ![128]⟩
abbrev S1x128 : Shape := ⟨2, ![1, 128]⟩

abbrev nBuf : Space → Nat
  | .hbm => 28
  | .vmem => 0
  | .smem => 0
  | _ => 0

abbrev bufTy : (tb : Table) → Fin (tcTables nBuf tb) → BufTy
  | .hbm, ⟨0, _⟩ => ⟨S4096x128, .f32⟩
  | .hbm, ⟨1, _⟩ => ⟨S4096x128, .f32⟩
  | .hbm, ⟨2, _⟩ => ⟨S4096, .i32⟩
  | .hbm, ⟨3, _⟩ => ⟨S4096x1, .i32⟩
  | .hbm, ⟨4, _⟩ => ⟨S1x4096, .i32⟩
  | .hbm, ⟨5, _⟩ => ⟨S4096x4096, .i32⟩
  | .hbm, ⟨6, _⟩ => ⟨S4096x4096, .i32⟩
  | .hbm, ⟨7, _⟩ => ⟨S4096x4096, .i1⟩
  | .hbm, ⟨8, _⟩ => ⟨S_, .f32⟩
  | .hbm, ⟨9, _⟩ => ⟨S_, .f32⟩
  | .hbm, ⟨10, _⟩ => ⟨S4096x4096, .f32⟩
  | .hbm, ⟨11, _⟩ => ⟨S4096x4096, .f32⟩
  | .hbm, ⟨12, _⟩ => ⟨S4096x4096, .f32⟩
  | .hbm, ⟨13, _⟩ => ⟨S4096x128, .f32⟩
  | .hbm, ⟨14, _⟩ => ⟨S4096x128, .f32⟩
  | .hbm, ⟨15, _⟩ => ⟨S4096x128, .f32⟩
  | .hbm, ⟨16, _⟩ => ⟨S4096x128, .f32⟩
  | .hbm, ⟨17, _⟩ => ⟨S_, .f32⟩
  | .hbm, ⟨18, _⟩ => ⟨S4096x128, .f32⟩
  | .hbm, ⟨19, _⟩ => ⟨S4096x128, .f32⟩
  | .hbm, ⟨20, _⟩ => ⟨S_, .f32⟩
  | .hbm, ⟨21, _⟩ => ⟨S4096x128, .f32⟩
  | .hbm, ⟨22, _⟩ => ⟨S4096x128, .f32⟩
  | .hbm, ⟨23, _⟩ => ⟨S4096x128, .f32⟩
  | .hbm, ⟨24, _⟩ => ⟨S4096x128, .bf16⟩
  | .hbm, ⟨25, _⟩ => ⟨S_, .f32⟩
  | .hbm, ⟨26, _⟩ => ⟨S128, .f32⟩
  | .hbm, ⟨27, _⟩ => ⟨S1x128, .f32⟩
  | _, _ => ⟨S4096x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_cst : Ref sig .tc := ⟨.hbm, 8, rfl⟩
abbrev main_cst_0 : Ref sig .tc := ⟨.hbm, 9, rfl⟩
abbrev main_call0_v0 : Ref sig .tc := ⟨.hbm, 10, rfl⟩
abbrev main_call0_v1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_cst_2 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_3 : Ref sig .tc := ⟨.hbm, 25, rfl⟩
abbrev main_v17 : Ref sig .tc := ⟨.hbm, 26, rfl⟩
abbrev main_v18 : Ref sig .tc := ⟨.hbm, 27, rfl⟩

abbrev nD : Nat := 1
abbrev τ : Topo := Topo.v7x

variable {F : FTy → Type} [FloatOps F]
-- ==== ForgetFwd.lean ====
abbrev S4096x2048 : Shape := ⟨2, ![4096, 2048]⟩
abbrev S128x2048 : Shape := ⟨2, ![128, 2048]⟩
abbrev S1x128 : Shape := ⟨2, ![1, 128]⟩
abbrev S4096x128 : Shape := ⟨2, ![4096, 128]⟩
abbrev S256x2048 : Shape := ⟨2, ![256, 2048]⟩
abbrev S256x128 : Shape := ⟨2, ![256, 128]⟩
abbrev S256x256 : Shape := ⟨2, ![256, 256]⟩

abbrev nBuf : Space → Nat
  | .hbm => 5
  | .vmem => 9
  | .smem => 0
  | _ => 0

abbrev bufTy : (tb : Table) → Fin (tcTables nBuf tb) → BufTy
  | .hbm, ⟨0, _⟩ => ⟨S4096x2048, .bf16⟩
  | .hbm, ⟨1, _⟩ => ⟨S128x2048, .bf16⟩
  | .hbm, ⟨2, _⟩ => ⟨S1x128, .f32⟩
  | .hbm, ⟨3, _⟩ => ⟨S4096x128, .f32⟩
  | .hbm, ⟨4, _⟩ => ⟨S4096x128, .f32⟩
  | .local _ .vmem, ⟨0, _⟩ => ⟨S256x2048, .bf16⟩
  | .local _ .vmem, ⟨1, _⟩ => ⟨S256x2048, .bf16⟩
  | .local _ .vmem, ⟨2, _⟩ => ⟨S128x2048, .bf16⟩
  | .local _ .vmem, ⟨3, _⟩ => ⟨S1x128, .f32⟩
  | .local _ .vmem, ⟨4, _⟩ => ⟨S256x128, .f32⟩
  | .local _ .vmem, ⟨5, _⟩ => ⟨S256x128, .f32⟩
  | .local _ .vmem, ⟨6, _⟩ => ⟨S256x128, .f32⟩
  | .local _ .vmem, ⟨7, _⟩ => ⟨S256x128, .f32⟩
  | .local _ .vmem, ⟨8, _⟩ => ⟨S1x128, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ForgetFwdReferenceIdeal.lean ====
abbrev S4096x2048 : Shape := ⟨2, ![4096, 2048]⟩
abbrev S128x2048 : Shape := ⟨2, ![128, 2048]⟩
abbrev S1x128 : Shape := ⟨2, ![1, 128]⟩
abbrev S4096x128 : Shape := ⟨2, ![4096, 128]⟩
abbrev S_ : Shape := ⟨0, ![]⟩

abbrev nBuf : Space → Nat
  | .hbm => 27
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S128x2048, .bf16⟩
  | .hbm, ⟨2, _⟩ => ⟨S1x128, .f32⟩
  | .hbm, ⟨3, _⟩ => ⟨S4096x2048, .f32⟩
  | .hbm, ⟨4, _⟩ => ⟨S128x2048, .f32⟩
  | .hbm, ⟨5, _⟩ => ⟨S4096x128, .f32⟩
  | .hbm, ⟨6, _⟩ => ⟨S4096x128, .f32⟩
  | .hbm, ⟨7, _⟩ => ⟨S4096x128, .f32⟩
  | .hbm, ⟨8, _⟩ => ⟨S4096x128, .f32⟩
  | .hbm, ⟨9, _⟩ => ⟨S_, .f32⟩
  | .hbm, ⟨10, _⟩ => ⟨S4096x128, .f32⟩
  | .hbm, ⟨11, _⟩ => ⟨S4096x128, .f32⟩
  | .hbm, ⟨12, _⟩ => ⟨S4096x128, .f32⟩
  | .hbm, ⟨13, _⟩ => ⟨S4096x128, .f32⟩
  | .hbm, ⟨14, _⟩ => ⟨S4096x128, .i1⟩
  | .hbm, ⟨15, _⟩ => ⟨S4096x128, .f32⟩
  | .hbm, ⟨16, _⟩ => ⟨S4096x128, .f32⟩
  | .hbm, ⟨17, _⟩ => ⟨S4096x128, .f32⟩
  | .hbm, ⟨18, _⟩ => ⟨S4096x128, .f32⟩
  | .hbm, ⟨19, _⟩ => ⟨S4096x128, .f32⟩
  | .hbm, ⟨20, _⟩ => ⟨S4096x128, .f32⟩
  | .hbm, ⟨21, _⟩ => ⟨S4096x128, .f32⟩
  | .hbm, ⟨22, _⟩ => ⟨S4096x128, .f32⟩
  | .hbm, ⟨23, _⟩ => ⟨S4096x128, .f32⟩
  | .hbm, ⟨24, _⟩ => ⟨S_, .f32⟩
  | .hbm, ⟨25, _⟩ => ⟨S_, .f32⟩
  | .hbm, ⟨26, _⟩ => ⟨S4096x128, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_call0_v0 : Ref sig .tc := ⟨.hbm, 8, rfl⟩
abbrev main_call0_call0_cst : Ref sig .tc := ⟨.hbm, 9, rfl⟩
abbrev main_call0_call0_v0 : Ref sig .tc := ⟨.hbm, 10, rfl⟩
abbrev main_call0_call0_v1 : Ref sig .tc := ⟨.hbm, 11, rfl⟩
abbrev main_call0_call0_v2 : Ref sig .tc := ⟨.hbm, 12, rfl⟩
abbrev main_call0_call0_v3 : Ref sig .tc := ⟨.hbm, 13, rfl⟩
abbrev main_call0_call0_v4 : Ref sig .tc := ⟨.hbm, 14, rfl⟩
abbrev main_call0_call0_v5 : Ref sig .tc := ⟨.hbm, 15, rfl⟩
abbrev main_call0_call0_v6 : Ref sig .tc := ⟨.hbm, 16, rfl⟩
abbrev main_call0_call0_v7 : Ref sig .tc := ⟨.hbm, 17, rfl⟩
abbrev main_call0_call0_v8 : Ref sig .tc := ⟨.hbm, 18, rfl⟩
abbrev main_call0_call0_v9 : Ref sig .tc := ⟨.hbm, 19, rfl⟩
abbrev main_call0_call0_v10 : Ref sig .tc := ⟨.hbm, 20, rfl⟩
abbrev main_call0_call0_v11 : Ref sig .tc := ⟨.hbm, 21, rfl⟩
abbrev main_call0_v1 : Ref sig .tc := ⟨.hbm, 22, rfl⟩
abbrev main_v5 : Ref sig .tc := ⟨.hbm, 23, rfl⟩
abbrev main_call1_call0_cst : Ref sig .tc := ⟨.hbm, 24, rfl⟩
abbrev main_call1_call0_v0 : Ref sig .tc := ⟨.hbm, 25, rfl⟩
abbrev main_v6 : Ref sig .tc := ⟨.hbm, 26, rfl⟩

abbrev nD : Nat := 1
abbrev τ : Topo := Topo.v7x

variable {F : FTy → Type} [FloatOps F]
-- ==== NormMix.lean ====
abbrev S2 : Shape := ⟨1, ![2]⟩
abbrev S4096x2048 : Shape := ⟨2, ![4096, 2048]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩

abbrev nBuf : Space → Nat
  | .hbm => 3
  | .vmem => 5
  | .smem => 1
  | _ => 0

abbrev bufTy : (tb : Table) → Fin (tcTables nBuf tb) → BufTy
  | .hbm, ⟨0, _⟩ => ⟨S4096x2048, .f32⟩
  | .hbm, ⟨1, _⟩ => ⟨S1x2048, .f32⟩
  | .hbm, ⟨2, _⟩ => ⟨S4096x2048, .bf16⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S256x2048, .bf16⟩
  | .local _ .vmem, ⟨4, _⟩ => ⟨S256x2048, .bf16⟩
  | .local _ .smem, ⟨0, _⟩ => ⟨S2, .i32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_v0 : Ref sig .tc := ⟨.hbm, 2, rfl⟩
abbrev main_arg0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def k0_cond1 (i : grid0.Coords) : BitVec 1 :=
  let arg0 : BitVec 32 := BitVec.ofNat 32 (i 0).val
  let c0_i32 : BitVec 32 := 0#32
  let v0 : BitVec 1 := Scalar.cmpi .sge arg0 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let c0_i32 : BitVec 32 := 0#32
  let v0 : BitVec 32 := Scalar.subi arg0 c0_i32
  let c0_i32_0 : BitVec 32 := 0#32
  let c15_i32 : BitVec 32 := 15#32
  let v1 : BitVec 32 := Scalar.maxsi c0_i32_0 v0
  let v2 : BitVec 32 := Scalar.minsi c15_i32 v1
  let c0_i32_1 : BitVec 32 := 0#32
  let c0_i32_2 : BitVec 32 := 0#32
  ![v2.toNat, c0_i32_1.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let v0 : BitVec 32 := Scalar.subi arg0 c0_i32
  let c0_i32_0 : BitVec 32 := 0#32
  let c15_i32 : BitVec 32 := 15#32
  let v1 : BitVec 32 := Scalar.maxsi c0_i32_0 v0
  let v2 : BitVec 32 := Scalar.minsi c15_i32 v1
  let c0_i32_1 : BitVec 32 := 0#32
  let c0_i32_2 : BitVec 32 := 0#32
  ![v2.toNat, c0_i32_1.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== NormMixReferenceIdeal.lean ====
abbrev S2 : Shape := ⟨1, ![2]⟩
abbrev S4096x2048 : Shape := ⟨2, ![4096, 2048]⟩
abbrev S1x2048 : Shape := ⟨2, ![1, 2048]⟩
abbrev S_ : Shape := ⟨0, ![]⟩
abbrev S4096 : Shape := ⟨1, ![4096]⟩
abbrev S4096x1 : Shape := ⟨2, ![4096, 1]⟩
abbrev S2048 : Shape := ⟨1, ![2048]⟩

abbrev nBuf : Space → Nat
  | .hbm => 21
  | .vmem => 0
  | .smem => 0
  | _ => 0

abbrev bufTy : (tb : Table) → Fin (tcTables nBuf tb) → BufTy
  | .hbm, ⟨0, _⟩ => ⟨S2, .i32⟩
  | .hbm, ⟨1, _⟩ => ⟨S4096x2048, .f32⟩
  | .hbm, ⟨2, _⟩ => ⟨S1x2048, .f32⟩
  | .hbm, ⟨3, _⟩ => ⟨S4096x2048, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S4096x1, .f32⟩
  | .hbm, ⟨14, _⟩ => ⟨S4096x2048, .f32⟩
  | .hbm, ⟨15, _⟩ => ⟨S4096x2048, .f32⟩
  | .hbm, ⟨16, _⟩ => ⟨S2048, .f32⟩
  | .hbm, ⟨17, _⟩ => ⟨S1x2048, .f32⟩
  | .hbm, ⟨18, _⟩ => ⟨S4096x2048, .f32⟩
  | .hbm, ⟨19, _⟩ => ⟨S4096x2048, .f32⟩
  | .hbm, ⟨20, _⟩ => ⟨S4096x2048, .bf16⟩
  | _, _ => ⟨S2, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩

abbrev nD : Nat := 1
abbrev τ : Topo := Topo.v7x

variable {F : FTy → Type} [FloatOps F]
-- ==== AddHalves.lean ====
abbrev S4x2048x2048 : Shape := ⟨3, ![4, 2048, 2048]⟩
abbrev S4x2048x1024 : Shape := ⟨3, ![4, 2048, 1024]⟩
abbrev S2 : Shape := ⟨1, ![2]⟩
abbrev S1x1024x1024 : Shape := ⟨3, ![1, 1024, 1024]⟩
abbrev S1 : Shape := ⟨1, ![1]⟩
abbrev S1024x1024 : Shape := ⟨2, ![1024, 1024]⟩

abbrev nBuf : Space → Nat
  | .hbm => 3
  | .vmem => 6
  | .smem => 1
  | _ => 0

abbrev bufTy : (tb : Table) → Fin (tcTables nBuf tb) → BufTy
  | .hbm, ⟨0, _⟩ => ⟨S4x2048x2048, .bf16⟩
  | .hbm, ⟨1, _⟩ => ⟨S4x2048x1024, .bf16⟩
  | .hbm, ⟨2, _⟩ => ⟨S4x2048x1024, .bf16⟩
  | .local _ .vmem, ⟨0, _⟩ => ⟨S1x1024x1024, .bf16⟩
  | .local _ .vmem, ⟨1, _⟩ => ⟨S1x1024x1024, .bf16⟩
  | .local _ .vmem, ⟨2, _⟩ => ⟨S1x1024x1024, .bf16⟩
  | .local _ .vmem, ⟨3, _⟩ => ⟨S1x1024x1024, .bf16⟩
  | .local _ .vmem, ⟨4, _⟩ => ⟨S1x1024x1024, .bf16⟩
  | .local _ .vmem, ⟨5, _⟩ => ⟨S1x1024x1024, .bf16⟩
  | .local _ .smem, ⟨0, _⟩ => ⟨S2, .i32⟩
  | _, _ => ⟨S4x2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_arg2 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

abbrev pre0 : Pipeline.Prefetch sig := ⟨1, ![main_arg2.idx], fun | 0 => main_arg2.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S2_S1_1 : ∀ a, (![1] : Fin 1 → Nat) a + S1.size a ≤ S2.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1 : Index := 1#32
  let v0 : BitVec 32 := pf.at 0 (Rect.unit (s := S2) ![1] S1.size inb_S2_S1_1) numel1_S1
  let c1_i32 : BitVec 32 := 1#32
  let v1 : BitVec 32 := Scalar.muli v0 c1_i32
  let v2 : BitVec 32 := Scalar.addi v1 arg2
  let c0_i32 : BitVec 32 := 0#32
  ![arg0.toNat, arg1.toNat, v2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage0_0 : Fin 2 → Memref sig .tc .vmem S1x1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]
-- ==== AddHalvesReferenceIdeal.lean ====
abbrev S4x2048x2048 : Shape := ⟨3, ![4, 2048, 2048]⟩
abbrev S4x2048x1024 : Shape := ⟨3, ![4, 2048, 1024]⟩
abbrev S2 : Shape := ⟨1, ![2]⟩
abbrev S1 : Shape := ⟨1, ![1]⟩
abbrev S_ : Shape := ⟨0, ![]⟩

abbrev nBuf : Space → Nat
  | .hbm => 14
  | .vmem => 0
  | .smem => 0
  | _ => 0

abbrev bufTy : (tb : Table) → Fin (tcTables nBuf tb) → BufTy
  | .hbm, ⟨0, _⟩ => ⟨S4x2048x2048, .bf16⟩
  | .hbm, ⟨1, _⟩ => ⟨S4x2048x1024, .bf16⟩
  | .hbm, ⟨2, _⟩ => ⟨S2, .i32⟩
  | .hbm, ⟨3, _⟩ => ⟨S1, .i32⟩
  | .hbm, ⟨4, _⟩ => ⟨S_, .i32⟩
  | .hbm, ⟨5, _⟩ => ⟨S_, .i32⟩
  | .hbm, ⟨6, _⟩ => ⟨S_, .i1⟩
  | .hbm, ⟨7, _⟩ => ⟨S4x2048x1024, .bf16⟩
  | .hbm, ⟨8, _⟩ => ⟨S4x2048x1024, .bf16⟩
  | .hbm, ⟨9, _⟩ => ⟨S4x2048x1024, .bf16⟩
  | .hbm, ⟨10, _⟩ => ⟨S4x2048x1024, .f32⟩
  | .hbm, ⟨11, _⟩ => ⟨S4x2048x1024, .f32⟩
  | .hbm, ⟨12, _⟩ => ⟨S4x2048x1024, .f32⟩
  | .hbm, ⟨13, _⟩ => ⟨S4x2048x1024, .bf16⟩
  | _, _ => ⟨S4x2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_c : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩

abbrev nD : Nat := 1
abbrev τ : Topo := Topo.v7x

variable {F : FTy → Type} [FloatOps F]
-- ==== Proof.Own.lean ====
/- Loads and stores of a kernel body over buffers known by what they read as: a buffer held whole is a function of its
   index, a load picks a rectangle of it and a store overlays one. -/
module

public import Idealize.ShloMosaic.Rules
public import Idealize.ShloMosaic.Lib.Memref
public import Idealize.ShloMosaic.Lib.Writes

@[expose] public section

noncomputable section

namespace Cert.Attn

open Idealize.ShloMosaic
open Idealize.SL
open Idealize.SL.RA Idealize.SL.Sem Idealize.SL.ProofMode
open Idealize.SL.BI (sProp)
open scoped Idealize.SL.BI
open Idealize.SL.BI.BIBase Idealize.SL.BI.Laws

/-- What a load at the coordinates `r` takes out of the contents `X`. -/
def pick {s : Shape} {α : Type} (X : s.Idx → α) (r : LoadRect s) : r.shape.Idx → α := fun x => X (r.idx x)

/-- The contents `X` with the rectangle `r` replaced by `w`. -/
def put {s : Shape} {α : Type} (X : s.Idx → α) (r : Rect s) (w : r.shape.Idx → α) : s.Idx → α :=
  fun y => match preimage? r.emb y with
    | some x => w x
    | none => X y

/-- Inside the rectangle the overlaid contents are the payload's. -/
theorem put_emb {s : Shape} {α : Type} (X : s.Idx → α) (r : Rect s) (w : r.shape.Idx → α) (x : r.shape.Idx) :
    put X r w (r.emb x) = w x := by
  unfold put; rw [preimage?_emb]

/-- Outside the rectangle they are the old ones. -/
theorem put_of_ne {s : Shape} {α : Type} (X : s.Idx → α) (r : Rect s) (w : r.shape.Idx → α) (y : s.Idx)
    (h : ∀ x, r.emb x ≠ y) : put X r w y = X y := by
  unfold put; rw [preimage?_eq_none h]

/-- What a memref reads after an unmasked store through a rectangle of it is the overlay of what it read before. -/
theorem read_store {sig : RefSig} {κ : Kind} {sp : Space} {s : Shape} {e : EltTy} {Val : EltTy → Type}
    (v : View sig κ sp s e) (r : Rect s) (f : v.ty.Contents Val) (w : r.shape.Idx → Val e) :
    v.read Val ((v.slice r).write Val f w Finset.univ) = put (v.read Val f) r w := by
  funext y
  by_cases h : ∃ x, r.emb x = y
  · obtain ⟨x, rfl⟩ := h
    rw [put_emb, View.read_slice_write_emb r f w (Finset.mem_univ x)]
  · have h' : ∀ x, r.emb x ≠ y := fun x hx => h ⟨x, hx⟩
    rw [put_of_ne _ _ _ _ h', View.read_slice_write_of_not_mem r f w Finset.univ]
    intro hm
    obtain ⟨x, -, hx⟩ := Finset.mem_map.mp hm
    exact h' x hx

section Rules

variable {nD : Nat} {τ : Topo} {sig : RefSig} {Ix : Type} [DecidableEq Ix]
variable {Val : EltTy → Type} {Name : Type} [DecidableEq Name]
variable {U : Type} [URA U]
variable {Lvl : Type} {Λ : Labels}
variable [Preorder Lvl] {defs : Defs nD τ sig Val Λ} (𝒱 : Variants) (c : Thread nD τ) (bd : Option 𝒱.V) (E : Set Name)
variable {s : Shape} {e : EltTy} {α : Type} {Q : α → sProp (MT nD τ sig Ix Val Name U Lvl)}

/-- A load at the head of a program, from resources that hold the buffer at `X`: it goes on at what `X` holds there. -/
theorem load_of {cs : CoreSpace} {m : Memref sig c.2.kind cs s e} {r : LoadRect s} {hl : m.view.LoadsAt r}
    {k : (r.shape.Idx → Val e) → Prog (TpuEff nD τ sig Val Λ c.2) α} {q : PosShare TreeShare} {X : s.Idx → Val e}
    {P R : sProp (MT nD τ sig Ix Val Name U Lvl)}
    (h : P ⊢ iprop(owns c m q X ∗ R)) (h' : iprop(owns c m q X ∗ R) ⊢ P)
    (hk : P ⊢ wp frame (wpE defs 𝒱 c bd) E (k (pick X r)) Q) :
    P ⊢ wp frame (wpE defs 𝒱 c bd) E (.op (.load m r hl) k) Q := by
  refine h.trans ?_
  unfold owns
  iintro ⟨⟨%f, %hf, Hm⟩, HR⟩
  iapply (wp_load 𝒱 c bd E (m := m) (r := r) (hl := hl) (S := m.view.set) (q := q) (f := f)
    (show m.view.setOn r.set ⊆ m.view.set from Finset.map_subset_map.mpr (Finset.subset_univ _))) $$ Hm
  iintro Hm
  rw [show m.view.readAt Val r f = pick X r from by subst hf; rfl]
  iapply hk
  iapply h'
  unfold owns
  isplitl [Hm]
  · iexists f; isplitr
    · ipureintro; exact hf
    · iexact Hm
  iexact HR

/-- A store at the head of a program, from resources that hold the buffer at `X`: it goes on with the overlay. -/
theorem store_of {cs : CoreSpace} {m : Memref sig c.2.kind cs s e} {r : Rect s} {w : r.shape.Idx → Val e}
    {hx : (m.access r).Stores Finset.univ} {hm : Finset.univ = Finset.univ ∨ ∀ a, r.stride a = 1}
    {k : PUnit → Prog (TpuEff nD τ sig Val Λ c.2) α} {X : s.Idx → Val e}
    {P P' R : sProp (MT nD τ sig Ix Val Name U Lvl)}
    (h : P ⊢ iprop(owns c m fullShare X ∗ R)) (h' : iprop(owns c m fullShare (put X r w) ∗ R) ⊢ P')
    (hk : P' ⊢ wp frame (wpE defs 𝒱 c bd) E (k ⟨⟩) Q) :
    P ⊢ wp frame (wpE defs 𝒱 c bd) E (.op (.store m r w Finset.univ hx hm) k) Q := by
  refine h.trans ?_
  unfold owns
  iintro ⟨⟨%f, %hf, Hm⟩, HR⟩
  iapply (wp_store 𝒱 c bd E (m := m) (r := r) (w := w) (hx := hx) (hm := hm) (Mk := Finset.univ) (S := m.view.set) (f := f)
    (show (m.access r).setOn Finset.univ ⊆ m.view.set from m.setOn_access_subset r _)) $$ Hm
  iintro Hm
  iapply hk
  iapply h'
  unfold owns
  isplitl [Hm]
  · iexists ((m.access r).write Val f w Finset.univ); isplitr
    · ipureintro; exact (read_store m.view r f w).trans (by rw [hf])
    · iexact Hm
  iexact HR

end Rules

end Cert.Attn

end
-- ==== Proof.State.lean ====
/- The buffers a grid point of the attention backward works on, as one state: what each of them reads as, the assertion that
   holds them all, and the two steps (a load, a store) of each. -/
module

public import proofs.«01_k».proof.Proof.Own
public import proofs.«01_k».proof.Proof.Gen.KernelIdeal.Skeleton
public import proofs.«01_k».proof.Proof.Gen.KernelIdeal.Launch

@[expose] public section

set_option maxRecDepth 16384

noncomputable section

namespace Cert.KernelIdeal.Attn

open Cert.KernelIdeal Cert.KernelIdeal.Gen Cert.Attn
open Idealize.ShloMosaic Idealize.ShloMosaic.TcCoe
open Idealize.SL Idealize.SL.RA Idealize.SL.Sem Idealize.SL.ProofMode
open Idealize.SL.BI (sProp Entails)
open scoped Idealize.SL.BI
open Idealize.SL.BI.BIBase Idealize.SL.BI.Laws

variable {F : FTy → Type} [FloatOps F] [Named F]

/-- What the seventeen blocks and accumulators of a grid point read as. -/
structure St (F : FTy → Type) where
  q : S1024x256.Idx → Elt F .bf16
  k : S1024x256.Idx → Elt F .bf16
  v : S1024x256.Idx → Elt F .bf16
  o : S1024x256.Idx → Elt F .bf16
  d : S1024x256.Idx → Elt F .bf16
  ls : S2x1024x128.Idx → Elt F .f32
  fk : S2x1x1024.Idx → Elt F .f32
  odq : S4096x256.Idx → Elt F .bf16
  odk : S1024x256.Idx → Elt F .bf16
  odv : S1024x256.Idx → Elt F .bf16
  odf : S2x1x1024.Idx → Elt F .f32
  ofq : S2x1x4096.Idx → Elt F .f32
  sdq : S2x4096x128.Idx → Elt F .f32
  sdk : S2x1024x128.Idx → Elt F .f32
  sdv : S2x1024x128.Idx → Elt F .f32
  sdf : S2x1x1024.Idx → Elt F .f32
  sfq : S2x4096x128.Idx → Elt F .f32

/-- The memrefs the body runs on. -/
structure Mr where
  m2 : Memref sig .tc .smem S10 .i32
  h2 : m2.IsWhole
  m3 : Memref sig .tc .smem S10 .i32
  h3 : m3.IsWhole
  m4 : Memref sig .tc .vmem S1024x256 .bf16
  h4 : m4.IsWhole
  m5 : Memref sig .tc .vmem S1024x256 .bf16
  h5 : m5.IsWhole
  m6 : Memref sig .tc .vmem S1024x256 .bf16
  h6 : m6.IsWhole
  m7 : Memref sig .tc .vmem S1024x256 .bf16
  h7 : m7.IsWhole
  m8 : Memref sig .tc .vmem S1024x256 .bf16
  h8 : m8.IsWhole
  m9 : Memref sig .tc .vmem S2x1024x128 .f32
  h9 : m9.IsWhole
  m10 : Memref sig .tc .vmem S2x1x1024 .f32
  h10 : m10.IsWhole
  m11 : Memref sig .tc .vmem S4096x256 .bf16
  h11 : m11.IsWhole
  m12 : Memref sig .tc .vmem S1024x256 .bf16
  h12 : m12.IsWhole
  m13 : Memref sig .tc .vmem S1024x256 .bf16
  h13 : m13.IsWhole
  m14 : Memref sig .tc .vmem S2x1x1024 .f32
  h14 : m14.IsWhole
  m15 : Memref sig .tc .vmem S2x1x4096 .f32
  h15 : m15.IsWhole
  m16 : Memref sig .tc .vmem S2x4096x128 .f32
  h16 : m16.IsWhole
  m17 : Memref sig .tc .vmem S2x1024x128 .f32
  h17 : m17.IsWhole
  m18 : Memref sig .tc .vmem S2x1024x128 .f32
  h18 : m18.IsWhole
  m19 : Memref sig .tc .vmem S2x1x1024 .f32
  h19 : m19.IsWhole
  m20 : Memref sig .tc .vmem S2x4096x128 .f32
  h20 : m20.IsWhole

/-- The resource algebra of the certificate. -/
local notation "𝕄" => MT nD τ sig Unit (Elt F) ℕ (UR sig nD τ) ℕ

/-- The state with `q` replaced. -/
def St.set_q (σ : St F) (X : S1024x256.Idx → Elt F .bf16) : St F := { σ with q := X }
/-- The state with `k` replaced. -/
def St.set_k (σ : St F) (X : S1024x256.Idx → Elt F .bf16) : St F := { σ with k := X }
/-- The state with `v` replaced. -/
def St.set_v (σ : St F) (X : S1024x256.Idx → Elt F .bf16) : St F := { σ with v := X }
/-- The state with `o` replaced. -/
def St.set_o (σ : St F) (X : S1024x256.Idx → Elt F .bf16) : St F := { σ with o := X }
/-- The state with `d` replaced. -/
def St.set_d (σ : St F) (X : S1024x256.Idx → Elt F .bf16) : St F := { σ with d := X }
/-- The state with `ls` replaced. -/
def St.set_ls (σ : St F) (X : S2x1024x128.Idx → Elt F .f32) : St F := { σ with ls := X }
/-- The state with `fk` replaced. -/
def St.set_fk (σ : St F) (X : S2x1x1024.Idx → Elt F .f32) : St F := { σ with fk := X }
/-- The state with `odq` replaced. -/
def St.set_odq (σ : St F) (X : S4096x256.Idx → Elt F .bf16) : St F := { σ with odq := X }
/-- The state with `odk` replaced. -/
def St.set_odk (σ : St F) (X : S1024x256.Idx → Elt F .bf16) : St F := { σ with odk := X }
/-- The state with `odv` replaced. -/
def St.set_odv (σ : St F) (X : S1024x256.Idx → Elt F .bf16) : St F := { σ with odv := X }
/-- The state with `odf` replaced. -/
def St.set_odf (σ : St F) (X : S2x1x1024.Idx → Elt F .f32) : St F := { σ with odf := X }
/-- The state with `ofq` replaced. -/
def St.set_ofq (σ : St F) (X : S2x1x4096.Idx → Elt F .f32) : St F := { σ with ofq := X }
/-- The state with `sdq` replaced. -/
def St.set_sdq (σ : St F) (X : S2x4096x128.Idx → Elt F .f32) : St F := { σ with sdq := X }
/-- The state with `sdk` replaced. -/
def St.set_sdk (σ : St F) (X : S2x1024x128.Idx → Elt F .f32) : St F := { σ with sdk := X }
/-- The state with `sdv` replaced. -/
def St.set_sdv (σ : St F) (X : S2x1024x128.Idx → Elt F .f32) : St F := { σ with sdv := X }
/-- The state with `sdf` replaced. -/
def St.set_sdf (σ : St F) (X : S2x1x1024.Idx → Elt F .f32) : St F := { σ with sdf := X }
/-- The state with `sfq` replaced. -/
def St.set_sfq (σ : St F) (X : S2x4096x128.Idx → Elt F .f32) : St F := { σ with sfq := X }

/-- All seventeen held in full at the state `σ`, beside `R`. -/
def Held (c : Dev nD) (M : Mr) (R : sProp 𝕄) (σ : St F) : sProp 𝕄 :=
  iprop(owns (c : Thread nD τ) M.m4 fullShare σ.q ∗ owns (c : Thread nD τ) M.m5 fullShare σ.k ∗ owns (c : Thread nD τ) M.m6 fullShare σ.v ∗ owns (c : Thread nD τ) M.m7 fullShare σ.o ∗ owns (c : Thread nD τ) M.m8 fullShare σ.d ∗ owns (c : Thread nD τ) M.m9 fullShare σ.ls ∗ owns (c : Thread nD τ) M.m10 fullShare σ.fk ∗ owns (c : Thread nD τ) M.m11 fullShare σ.odq ∗ owns (c : Thread nD τ) M.m12 fullShare σ.odk ∗ owns (c : Thread nD τ) M.m13 fullShare σ.odv ∗ owns (c : Thread nD τ) M.m14 fullShare σ.odf ∗ owns (c : Thread nD τ) M.m15 fullShare σ.ofq ∗ owns (c : Thread nD τ) M.m16 fullShare σ.sdq ∗ owns (c : Thread nD τ) M.m17 fullShare σ.sdk ∗ owns (c : Thread nD τ) M.m18 fullShare σ.sdv ∗ owns (c : Thread nD τ) M.m19 fullShare σ.sdf ∗ owns (c : Thread nD τ) M.m20 fullShare σ.sfq ∗ R)

omit [FloatOps F] [Named F] in
theorem swap_le (A B C : sProp 𝕄) : iprop(A ∗ B ∗ C) ⊢ iprop(B ∗ A ∗ C) := by
  iintro ⟨HA, HB, HC⟩
  isplitl [HB]; · iexact HB
  isplitl [HA]; · iexact HA
  iexact HC
omit [FloatOps F] [Named F] in
theorem swap (A B C : sProp 𝕄) : iprop(A ∗ B ∗ C) = iprop(B ∗ A ∗ C) :=
  Entails.antisymm (swap_le A B C) (swap_le B A C)

omit [FloatOps F] [Named F] in
/-- At every contents, the assertion `f` is `A` beside something that the contents don't enter. -/
def Parts {T : Type} (A f : T → sProp 𝕄) : Prop := ∃ P : sProp 𝕄, ∀ X, f X = iprop(A X ∗ P)

omit [FloatOps F] [Named F] in
theorem Parts.here {T : Type} {A : T → sProp 𝕄} {C : sProp 𝕄} : Parts A fun X => iprop(A X ∗ C) :=
  ⟨C, fun _ => rfl⟩

omit [FloatOps F] [Named F] in
theorem Parts.there {T : Type} {A f : T → sProp 𝕄} {B : sProp 𝕄} (h : Parts A f) : Parts A fun X => iprop(B ∗ f X) := by
  obtain ⟨P, h⟩ := h
  exact ⟨iprop(B ∗ P), fun X => (congrArg (fun Y => iprop(B ∗ Y)) (h X)).trans (swap B (A X) P)⟩

/-- The memref `mem` is one of the seventeen, `get` is what it reads as in a state, and `set` replaces that. -/
structure Slot {s : Shape} {e : EltTy} (mem : Mr → Memref sig .tc .vmem s e) (get : St F → s.Idx → Elt F e)
    (set : St F → (s.Idx → Elt F e) → St F) : Prop where
  back : ∀ σ, set σ (get σ) = σ
  parts : ∀ (c : Dev nD) (M : Mr) (R : sProp 𝕄) (σ : St F),
    Parts (fun X => owns (c : Thread nD τ) (mem M) fullShare X) fun X => Held c M R (set σ X)

/-- The step of a load. -/
theorem load_at {s : Shape} {e : EltTy} {mem : Mr → Memref sig .tc .vmem s e}
    {get : St F → s.Idx → Elt F e} {set : St F → (s.Idx → Elt F e) → St F} (b : Slot mem get set)
    {c : Dev nD} {M : Mr} {R : sProp 𝕄} {σ : St F} {α : Type} {Q : α → sProp 𝕄} {r : LoadRect s} {hl : (mem M).view.LoadsAt r} {k : (r.shape.Idx → Elt F e) → Prog (TpuEff nD τ sig (Elt F) Λ₀ .tc) α}
    (hk : Held c M R σ ⊢ wp frame (wpE (defs₀ (F := F)) Variants.none (c : Thread nD τ) none) Set.univ (k (pick (get σ) r)) Q) :
    Held c M R σ ⊢ wp frame (wpE (defs₀ (F := F)) Variants.none (c : Thread nD τ) none) Set.univ (Prog.lift (.load (mem M) r hl) >>= k) Q := by
  obtain ⟨P, h⟩ := b.parts c M R σ
  have h1 : Held c M R σ = iprop(owns (c : Thread nD τ) (mem M) fullShare (get σ) ∗ P) :=
    (congrArg (Held c M R) (b.back σ)).symm.trans (h _)
  exact load_of Variants.none (c : Thread nD τ) none Set.univ (Entails.of_eq h1) (Entails.of_eq h1.symm) hk

/-- The step of a store. -/
theorem store_at {s : Shape} {e : EltTy} {mem : Mr → Memref sig .tc .vmem s e}
    {get : St F → s.Idx → Elt F e} {set : St F → (s.Idx → Elt F e) → St F} (b : Slot mem get set)
    {c : Dev nD} {M : Mr} {R : sProp 𝕄} {σ : St F} {α : Type} {Q : α → sProp 𝕄}
    {r : Rect s} {w : r.shape.Idx → Elt F e} {hx : ((mem M).access r).Stores Finset.univ}
    {hm : Finset.univ = Finset.univ ∨ ∀ a, r.stride a = 1} {k : PUnit → Prog (TpuEff nD τ sig (Elt F) Λ₀ .tc) α}
    (hk : Held c M R (set σ (put (get σ) r w)) ⊢ wp frame (wpE (defs₀ (F := F)) Variants.none (c : Thread nD τ) none) Set.univ (k ⟨⟩) Q) :
    Held c M R σ ⊢ wp frame (wpE (defs₀ (F := F)) Variants.none (c : Thread nD τ) none) Set.univ (Prog.lift (.store (mem M) r w Finset.univ hx hm) >>= k) Q := by
  obtain ⟨P, h⟩ := b.parts c M R σ
  have h1 : Held c M R σ = iprop(owns (c : Thread nD τ) (mem M) fullShare (get σ) ∗ P) :=
    (congrArg (Held c M R) (b.back σ)).symm.trans (h _)
  exact store_of Variants.none (c : Thread nD τ) none Set.univ (Entails.of_eq h1) (Entails.of_eq (h _).symm) hk

/-- The buffer that `q` is read from. -/
theorem slot_q : Slot (F := F) Mr.m4 St.q St.set_q where
  back _ := rfl
  parts c M R σ := by
    unfold Held St.set_q
    dsimp only
    exact .here
/-- The buffer that `k` is read from. -/
theorem slot_k : Slot (F := F) Mr.m5 St.k St.set_k where
  back _ := rfl
  parts c M R σ := by
    unfold Held St.set_k
    dsimp only
    exact .there .here
/-- The buffer that `v` is read from. -/
theorem slot_v : Slot (F := F) Mr.m6 St.v St.set_v where
  back _ := rfl
  parts c M R σ := by
    unfold Held St.set_v
    dsimp only
    exact .there (.there .here)
/-- The buffer that `o` is read from. -/
theorem slot_o : Slot (F := F) Mr.m7 St.o St.set_o where
  back _ := rfl
  parts c M R σ := by
    unfold Held St.set_o
    dsimp only
    exact .there (.there (.there .here))
/-- The buffer that `d` is read from. -/
theorem slot_d : Slot (F := F) Mr.m8 St.d St.set_d where
  back _ := rfl
  parts c M R σ := by
    unfold Held St.set_d
    dsimp only
    exact .there (.there (.there (.there .here)))
/-- The buffer that `ls` is read from. -/
theorem slot_ls : Slot (F := F) Mr.m9 St.ls St.set_ls where
  back _ := rfl
  parts c M R σ := by
    unfold Held St.set_ls
    dsimp only
    exact .there (.there (.there (.there (.there .here))))
/-- The buffer that `fk` is read from. -/
theorem slot_fk : Slot (F := F) Mr.m10 St.fk St.set_fk where
  back _ := rfl
  parts c M R σ := by
    unfold Held St.set_fk
    dsimp only
    exact .there (.there (.there (.there (.there (.there .here)))))
/-- The buffer that `odq` is read from. -/
theorem slot_odq : Slot (F := F) Mr.m11 St.odq St.set_odq where
  back _ := rfl
  parts c M R σ := by
    unfold Held St.set_odq
    dsimp only
    exact .there (.there (.there (.there (.there (.there (.there .here))))))
/-- The buffer that `odk` is read from. -/
theorem slot_odk : Slot (F := F) Mr.m12 St.odk St.set_odk where
  back _ := rfl
  parts c M R σ := by
    unfold Held St.set_odk
    dsimp only
    exact .there (.there (.there (.there (.there (.there (.there (.there .here)))))))
/-- The buffer that `odv` is read from. -/
theorem slot_odv : Slot (F := F) Mr.m13 St.odv St.set_odv where
  back _ := rfl
  parts c M R σ := by
    unfold Held St.set_odv
    dsimp only
    exact .there (.there (.there (.there (.there (.there (.there (.there (.there .here))))))))
/-- The buffer that `odf` is read from. -/
theorem slot_odf : Slot (F := F) Mr.m14 St.odf St.set_odf where
  back _ := rfl
  parts c M R σ := by
    unfold Held St.set_odf
    dsimp only
    exact .there (.there (.there (.there (.there (.there (.there (.there (.there (.there .here)))))))))
/-- The buffer that `ofq` is read from. -/
theorem slot_ofq : Slot (F := F) Mr.m15 St.ofq St.set_ofq where
  back _ := rfl
  parts c M R σ := by
    unfold Held St.set_ofq
    dsimp only
    exact .there (.there (.there (.there (.there (.there (.there (.there (.there (.there (.there .here))))))))))
/-- The buffer that `sdq` is read from. -/
theorem slot_sdq : Slot (F := F) Mr.m16 St.sdq St.set_sdq where
  back _ := rfl
  parts c M R σ := by
    unfold Held St.set_sdq
    dsimp only
    exact .there (.there (.there (.there (.there (.there (.there (.there (.there (.there (.there (.there .here)))))))))))
/-- The buffer that `sdk` is read from. -/
theorem slot_sdk : Slot (F := F) Mr.m17 St.sdk St.set_sdk where
  back _ := rfl
  parts c M R σ := by
    unfold Held St.set_sdk
    dsimp only
    exact .there (.there (.there (.there (.there (.there (.there (.there (.there (.there (.there (.there (.there .here))))))))))))
/-- The buffer that `sdv` is read from. -/
theorem slot_sdv : Slot (F := F) Mr.m18 St.sdv St.set_sdv where
  back _ := rfl
  parts c M R σ := by
    unfold Held St.set_sdv
    dsimp only
    exact .there (.there (.there (.there (.there (.there (.there (.there (.there (.there (.there (.there (.there (.there .here)))))))))))))
/-- The buffer that `sdf` is read from. -/
theorem slot_sdf : Slot (F := F) Mr.m19 St.sdf St.set_sdf where
  back _ := rfl
  parts c M R σ := by
    unfold Held St.set_sdf
    dsimp only
    exact .there (.there (.there (.there (.there (.there (.there (.there (.there (.there (.there (.there (.there (.there (.there .here))))))))))))))
/-- The buffer that `sfq` is read from. -/
theorem slot_sfq : Slot (F := F) Mr.m20 St.sfq St.set_sfq where
  back _ := rfl
  parts c M R σ := by
    unfold Held St.set_sfq
    dsimp only
    exact .there (.there (.there (.there (.there (.there (.there (.there (.there (.there (.there (.there (.there (.there (.there (.there .here)))))))))))))))

end Cert.KernelIdeal.Attn

end
-- ==== Proof.Point.lean ====
/- One grid point of the attention backward run on the state of its buffers: each part of the body as a function of the state,
   and that the part, run from buffers that hold a state, ends with them holding the function's. -/
module

public import proofs.«01_k».proof.Proof.State

@[expose] public section

set_option maxRecDepth 16384

noncomputable section

namespace Cert.KernelIdeal.Attn

open Cert.KernelIdeal Cert.KernelIdeal.Gen Cert.Attn
open Idealize.ShloMosaic Idealize.ShloMosaic.TcCoe
open Idealize.SL Idealize.SL.RA Idealize.SL.Sem Idealize.SL.ProofMode
open Idealize.SL.BI (sProp Entails)
open scoped Idealize.SL.BI
open Idealize.SL.BI.BIBase Idealize.SL.BI.Laws

variable {F : FTy → Type} [FloatOps F] [Named F]

local notation "𝕄" => MT nD τ sig Unit (Elt F) ℕ (UR sig nD τ) ℕ

/-- A program of the body, run on a device, ends where `Q` holds. -/
abbrev runs {α : Type} (c : Dev nD) (p : Prog (TpuEff nD τ sig (Elt F) Λ₀ .tc) α) (Q : α → sProp 𝕄) : sProp 𝕄 :=
  wp frame (wpE (defs₀ (F := F)) Variants.none (c : Thread nD τ) none) Set.univ p Q

section Shape

variable {c : Dev nD} {M : Mr} {R : sProp 𝕄} {σ σ' : St F} {α β : Type}

/-- A part run before the rest of the body. -/
theorem bind_run {p : Prog (TpuEff nD τ sig (Elt F) Λ₀ .tc) α} {k : α → Prog (TpuEff nD τ sig (Elt F) Λ₀ .tc) β} {Q : β → sProp 𝕄} {P : sProp 𝕄}
    (h : P ⊢ runs c p
      (fun a => runs c (k a) Q)) :
    P ⊢ runs c (p >>= k) Q := by
  unfold runs; rw [wp_bind_eq]; exact h

/-- The end of a part. -/
theorem pure_run {a : α} {Q : α → sProp 𝕄} {P : sProp 𝕄} (h : P ⊢ Q a) :
    P ⊢ runs c (pure a) Q :=
  h.trans (le_wp_ret frame _ _ _ _)

/-- A check whose proposition holds. -/
theorem assume_run {C : Prop} {d : Decidable C} {k : PLift C → Prog (TpuEff nD τ sig (Elt F) Λ₀ .tc) α} {Q : α → sProp 𝕄} {P : sProp 𝕄} (h : C)
    (hk : P ⊢ runs c (k ⟨h⟩) Q) :
    P ⊢ runs c (Prog.lift (TpuEff.assume C d) >>= k) Q :=
  hk.trans (wp_assume Variants.none (c : Thread nD τ) none Set.univ (k := k) h)

/-- A word read from a table held at any share. -/
theorem smem_run {m : Memref sig .tc .smem S10 .i32} {r : Rect S10} {h1 : r.shape.numel = 1} {hp : EltTy.packing .i32 = 1}
    {k : Elt F .i32 → Prog (TpuEff nD τ sig (Elt F) Λ₀ .tc) α} {q : PosShare TreeShare} {X : S10.Idx → Elt F .i32} {Q : α → sProp 𝕄} {P R : sProp 𝕄}
    (h : P = iprop(owns (c : Thread nD τ) m q X ∗ R))
    (hk : P ⊢ runs c (k (X (r.toLoadRect.idx (Shape.Idx.first (h1.symm ▸ Nat.one_pos))))) Q) :
    P ⊢ runs c (smemLoad m r h1 hp >>= k) Q :=
  load_of (k := fun f => k (f (Shape.Idx.first (h1.symm ▸ Nat.one_pos)))) Variants.none (c : Thread nD τ) none Set.univ (Entails.of_eq h) (Entails.of_eq h.symm) hk

/-- A branch, from one state to one state, before the rest `J` of the body. -/
theorem dite_run {C : Prop} [Decidable C] {A : C → Prog (TpuEff nD τ sig (Elt F) Λ₀ .tc) α} {B : ¬ C → Prog (TpuEff nD τ sig (Elt F) Λ₀ .tc) α}
    {Q : α → sProp 𝕄} {P P' : sProp 𝕄} (J : PUnit → Prog (TpuEff nD τ sig (Elt F) Λ₀ .tc) α)
    (hk : P' ⊢ runs c (J ⟨⟩) Q)
    (hA : ∀ h : C, (P' ⊢ runs c (J ⟨⟩) Q) →
      (P ⊢ runs c (A h) Q))
    (hB : ∀ h : ¬ C, (P' ⊢ runs c (J ⟨⟩) Q) →
      (P ⊢ runs c (B h) Q)) :
    P ⊢ runs c (dite C A B) Q := by
  by_cases h : C
  · rw [dif_pos h]; exact hA h hk
  · rw [dif_neg h]; exact hB h hk

end Shape

/-! The rectangles of a block of two heads that the body takes of one head: all its rows, the upper half (`top`, `T`) and the
    lower half (`low`), of a block of columns (`box`), of an accumulator (`acc`) and of an array with a row for each head (`row`). -/

abbrev box0 := Rect.unit (s := S1024x256) ![0, 0] S1024x128.size inb_S1024x256_S1024x128_0_0

abbrev box1 := Rect.unit (s := S1024x256) ![0, 128] S1024x128.size inb_S1024x256_S1024x128_0_128

abbrev top0 := Rect.unit (s := S1024x256) ![0, 0] S512x128.size inb_S1024x256_S512x128_0_0

abbrev top1 := Rect.unit (s := S1024x256) ![0, 128] S512x128.size inb_S1024x256_S512x128_0_128

abbrev low0 := Rect.unit (s := S1024x256) ![512, 0] S512x128.size inb_S1024x256_S512x128_512_0

abbrev low1 := Rect.unit (s := S1024x256) ![512, 128] S512x128.size inb_S1024x256_S512x128_512_128

abbrev acc0 := Rect.unit (s := S2x1024x128) ![0, 0, 0] S1x1024x128.size inb_S2x1024x128_S1x1024x128_0_0_0

abbrev acc1 := Rect.unit (s := S2x1024x128) ![1, 0, 0] S1x1024x128.size inb_S2x1024x128_S1x1024x128_1_0_0

abbrev accT0 := Rect.unit (s := S2x1024x128) ![0, 0, 0] S1x512x128.size inb_S2x1024x128_S1x512x128_0_0_0

abbrev accT1 := Rect.unit (s := S2x1024x128) ![1, 0, 0] S1x512x128.size inb_S2x1024x128_S1x512x128_1_0_0

abbrev row0 := Rect.unit (s := S2x1x1024) ![0, 0, 0] S1x1x1024.size inb_S2x1x1024_S1x1x1024_0_0_0

abbrev row1 := Rect.unit (s := S2x1x1024) ![1, 0, 0] S1x1x1024.size inb_S2x1x1024_S1x1x1024_1_0_0

abbrev rowT0 := Rect.unit (s := S2x1x1024) ![0, 0, 0] S1x1x512.size inb_S2x1x1024_S1x1x512_0_0_0

abbrev rowT1 := Rect.unit (s := S2x1x1024) ![1, 0, 0] S1x1x512.size inb_S2x1x1024_S1x1x512_1_0_0

/-- What part 1 of the body makes of the state, and the values it hands on. -/
def f1  (σ : St F) : St F × (Σ' (v22 : Vec F S1024x128 .bf16) (v23 : Vec F S1024x128 .bf16) (v50 : FVec F S1024x1024 .f32) (v51 : FVec F S1024x1024 .bf16), FVec F S1024x128 .f32) :=
  let v22 := pick σ.q box0.toLoadRect
  let v23 := pick σ.k box0.toLoadRect
  let v24 := pick σ.v box0.toLoadRect
  let v25 := pick σ.d box0.toLoadRect
  let v27 := pick σ.o box0.toLoadRect
  let v33 := pick σ.fk row0.toLoadRect
  let v42 := pick σ.ls acc0.toLoadRect
  let v52 := pick σ.sdv acc0.toLoadRect
  (σ, ⟨v22, v23, k0_pay17 v22 v23 v24 v25 v27 v33 v42, k0_pay18 v22 v23 v24 v25 v27 v33 v42, k0_pay19 v22 v23 v25 v33 v42 v52⟩)

/-- Part 1 of the body ends where `f1` says. -/
theorem run1 {c : Dev nD} {M : Mr} {R : sProp 𝕄} (i : grid0.Coords)  {σ : St F} {Q : (Σ' (v22 : Vec F S1024x128 .bf16) (v23 : Vec F S1024x128 .bf16) (v50 : FVec F S1024x1024 .f32) (v51 : FVec F S1024x1024 .bf16), FVec F S1024x128 .f32) → sProp 𝕄}
    (hk : Held c M R (f1  σ).1 ⊢ Q ⟨(f1  σ).2.1, (f1  σ).2.2.1, (f1  σ).2.2.2.1, (f1  σ).2.2.2.2.1, (f1  σ).2.2.2.2.2⟩) :
    Held c M R σ ⊢ runs c (k0_part1 (F := F) i M.m2 M.h2 M.m3 M.h3 M.m4 M.h4 M.m5 M.h5 M.m6 M.h6 M.m7 M.h7 M.m8 M.h8 M.m9 M.h9 M.m10 M.h10 M.m11 M.h11 M.m12 M.h12 M.m13 M.h13 M.m14 M.h14 M.m15 M.h15 M.m16 M.h16 M.m17 M.h17 M.m18 M.h18 M.m19 M.h19 M.m20 M.h20 ) Q := by
  rw [k0_part1_eq_skeleton]; unfold k0_part1_skel
  refine load_at slot_q ?_
  refine load_at slot_k ?_
  refine load_at slot_v ?_
  refine load_at slot_d ?_
  refine load_at slot_o ?_
  refine load_at slot_fk ?_
  refine load_at slot_ls ?_
  refine load_at slot_sdv ?_
  exact pure_run hk

/-- What part 2 of the body makes of the state, and the values it hands on. -/
def f2 (v1 : Elt F .i32) (v3 : Elt F .i32) (k0_hw1 : k0_chk1 v1 v3) (k0_h3 : k0_cond3 v1 v3 = 1#1) (v22 : Vec F S1024x128 .bf16) (v23 : Vec F S1024x128 .bf16) (v50 : FVec F S1024x1024 .f32) (v51 : FVec F S1024x1024 .bf16) (v56 : FVec F S1024x128 .f32) (σ : St F) : St F × (BitVec 32) :=
  let σ1 := σ.set_sdv (put σ.sdv acc0 (k0_pay20 v56))
  let v60 := pick σ1.sdk acc0.toLoadRect
  let σ2 := σ1.set_sdk (put σ1.sdk acc0 (k0_pay21 v22 v51 v60))
  let v67 : BitVec 32 := Scalar.muli v1 1024#32
  let v68 : BitVec 32 := Scalar.addi v67 0#32
  let v69 : BitVec 32 := v68
  let v71 := pick σ2.sdq (Rect.unit (s := S2x4096x128) (k0_off2 v1) S1x1024x128.size (k0_off2_inb v1 v3 k0_hw1 k0_h3)).toLoadRect
  let σ3 := σ2.set_sdq (put σ2.sdq (Rect.unit (s := S2x4096x128) (k0_off2 v1) S1x1024x128.size (k0_off2_inb v1 v3 k0_hw1 k0_h3)) (k0_pay22 v23 v51 v71))
  let v79 := pick σ3.sdf row0.toLoadRect
  let σ4 := σ3.set_sdf (put σ3.sdf row0 (k0_pay23 v50 v79))
  (σ4, v69)

/-- Part 2 of the body ends where `f2` says. -/
theorem run2 {c : Dev nD} {M : Mr} {R : sProp 𝕄} (i : grid0.Coords) (v1 : Elt F .i32) (v3 : Elt F .i32) (k0_hw1 : k0_chk1 v1 v3) (k0_h3 : k0_cond3 v1 v3 = 1#1) (v22 : Vec F S1024x128 .bf16) (v23 : Vec F S1024x128 .bf16) (v50 : FVec F S1024x1024 .f32) (v51 : FVec F S1024x1024 .bf16) (v56 : FVec F S1024x128 .f32) {σ : St F} {Q : (BitVec 32) → sProp 𝕄}
    (hk : Held c M R (f2 v1 v3 k0_hw1 k0_h3 v22 v23 v50 v51 v56 σ).1 ⊢ Q (f2 v1 v3 k0_hw1 k0_h3 v22 v23 v50 v51 v56 σ).2) :
    Held c M R σ ⊢ runs c (k0_part2 (F := F) i M.m2 M.h2 M.m3 M.h3 M.m4 M.h4 M.m5 M.h5 M.m6 M.h6 M.m7 M.h7 M.m8 M.h8 M.m9 M.h9 M.m10 M.h10 M.m11 M.h11 M.m12 M.h12 M.m13 M.h13 M.m14 M.h14 M.m15 M.h15 M.m16 M.h16 M.m17 M.h17 M.m18 M.h18 M.m19 M.h19 M.m20 M.h20 v1 v3 k0_hw1 k0_h3 v22 v23 v50 v51 v56) Q := by
  rw [k0_part2_eq_skeleton]; unfold k0_part2_skel
  refine load_at slot_sdv ?_
  refine store_at slot_sdv ?_
  refine load_at slot_sdk ?_
  refine load_at slot_sdk ?_
  refine store_at slot_sdk ?_
  refine load_at slot_sdq ?_
  refine load_at slot_sdq ?_
  refine store_at slot_sdq ?_
  refine load_at slot_sdf ?_
  refine load_at slot_sdf ?_
  refine store_at slot_sdf ?_
  exact pure_run hk

/-- What part 3 of the body makes of the state, and the values it hands on. -/
def f3 (v1 : Elt F .i32) (v3 : Elt F .i32) (k0_hw1 : k0_chk1 v1 v3) (k0_h3 : k0_cond3 v1 v3 = 1#1) (v50 : FVec F S1024x1024 .f32) (v69 : BitVec 32) (σ : St F) : St F × (Σ' (v99 : Vec F S1024x128 .bf16) (v100 : Vec F S1024x128 .bf16) (v101 : Vec F S1024x128 .bf16) (v102 : Vec F S1024x128 .bf16) (v109 : FVec F S1024x1 .f32), FVec F S1024x1024 .f32) :=
  let v88 := pick σ.sfq (Rect.unit (s := S2x4096x128) (k0_off2 v1) S1x1024x128.size (k0_off2_inb v1 v3 k0_hw1 k0_h3)).toLoadRect
  let σ1 := σ.set_sfq (put σ.sfq (Rect.unit (s := S2x4096x128) (k0_off2 v1) S1x1024x128.size (k0_off2_inb v1 v3 k0_hw1 k0_h3)) (k0_pay24 v50 v88))
  let v99 := pick σ1.q box1.toLoadRect
  let v100 := pick σ1.k box1.toLoadRect
  let v101 := pick σ1.v box1.toLoadRect
  let v102 := pick σ1.d box1.toLoadRect
  let v104 := pick σ1.o box1.toLoadRect
  let v110 := pick σ1.fk row1.toLoadRect
  let v119 := pick σ1.ls acc1.toLoadRect
  (σ1, ⟨v99, v100, v101, v102, k0_pay25 v102 v104, k0_pay26 v99 v100 v110 v119⟩)

/-- Part 3 of the body ends where `f3` says. -/
theorem run3 {c : Dev nD} {M : Mr} {R : sProp 𝕄} (i : grid0.Coords) (v1 : Elt F .i32) (v3 : Elt F .i32) (k0_hw1 : k0_chk1 v1 v3) (k0_h3 : k0_cond3 v1 v3 = 1#1) (v50 : FVec F S1024x1024 .f32) (v69 : BitVec 32) {σ : St F} {Q : (Σ' (v99 : Vec F S1024x128 .bf16) (v100 : Vec F S1024x128 .bf16) (v101 : Vec F S1024x128 .bf16) (v102 : Vec F S1024x128 .bf16) (v109 : FVec F S1024x1 .f32), FVec F S1024x1024 .f32) → sProp 𝕄}
    (hk : Held c M R (f3 v1 v3 k0_hw1 k0_h3 v50 v69 σ).1 ⊢ Q ⟨(f3 v1 v3 k0_hw1 k0_h3 v50 v69 σ).2.1, (f3 v1 v3 k0_hw1 k0_h3 v50 v69 σ).2.2.1, (f3 v1 v3 k0_hw1 k0_h3 v50 v69 σ).2.2.2.1, (f3 v1 v3 k0_hw1 k0_h3 v50 v69 σ).2.2.2.2.1, (f3 v1 v3 k0_hw1 k0_h3 v50 v69 σ).2.2.2.2.2.1, (f3 v1 v3 k0_hw1 k0_h3 v50 v69 σ).2.2.2.2.2.2⟩) :
    Held c M R σ ⊢ runs c (k0_part3 (F := F) i M.m2 M.h2 M.m3 M.h3 M.m4 M.h4 M.m5 M.h5 M.m6 M.h6 M.m7 M.h7 M.m8 M.h8 M.m9 M.h9 M.m10 M.h10 M.m11 M.h11 M.m12 M.h12 M.m13 M.h13 M.m14 M.h14 M.m15 M.h15 M.m16 M.h16 M.m17 M.h17 M.m18 M.h18 M.m19 M.h19 M.m20 M.h20 v1 v3 k0_hw1 k0_h3 v50 v69) Q := by
  rw [k0_part3_eq_skeleton]; unfold k0_part3_skel
  refine load_at slot_sfq ?_
  refine load_at slot_sfq ?_
  refine store_at slot_sfq ?_
  refine load_at slot_q ?_
  refine load_at slot_k ?_
  refine load_at slot_v ?_
  refine load_at slot_d ?_
  refine load_at slot_o ?_
  refine load_at slot_fk ?_
  refine load_at slot_ls ?_
  exact pure_run hk

/-- What part 4 of the body makes of the state, and the values it hands on. -/
def f4 (v1 : Elt F .i32) (v3 : Elt F .i32) (k0_hw1 : k0_chk1 v1 v3) (k0_h3 : k0_cond3 v1 v3 = 1#1) (v99 : Vec F S1024x128 .bf16) (v100 : Vec F S1024x128 .bf16) (v101 : Vec F S1024x128 .bf16) (v102 : Vec F S1024x128 .bf16) (v109 : FVec F S1024x1 .f32) (v122 : FVec F S1024x1024 .f32) (σ : St F) : St F × (Σ' (v127 : FVec F S1024x1024 .f32), BitVec 32) :=
  let v129 := pick σ.sdv acc1.toLoadRect
  let σ1 := σ.set_sdv (put σ.sdv acc1 (k0_pay30 v102 v122 v129))
  let v137 := pick σ1.sdk acc1.toLoadRect
  let σ2 := σ1.set_sdk (put σ1.sdk acc1 (k0_pay31 v99 v101 v102 v109 v122 v137))
  let v144 : BitVec 32 := Scalar.muli v1 1024#32
  let v145 : BitVec 32 := Scalar.addi v144 0#32
  let v146 : BitVec 32 := v145
  let v148 := pick σ2.sdq (Rect.unit (s := S2x4096x128) (k0_off3 v1) S1x1024x128.size (k0_off3_inb v1 v3 k0_hw1 k0_h3)).toLoadRect
  let σ3 := σ2.set_sdq (put σ2.sdq (Rect.unit (s := S2x4096x128) (k0_off3 v1) S1x1024x128.size (k0_off3_inb v1 v3 k0_hw1 k0_h3)) (k0_pay32 v100 v101 v102 v109 v122 v148))
  (σ3, ⟨k0_pay28 v101 v102 v109 v122, v146⟩)

/-- Part 4 of the body ends where `f4` says. -/
theorem run4 {c : Dev nD} {M : Mr} {R : sProp 𝕄} (i : grid0.Coords) (v1 : Elt F .i32) (v3 : Elt F .i32) (k0_hw1 : k0_chk1 v1 v3) (k0_h3 : k0_cond3 v1 v3 = 1#1) (v99 : Vec F S1024x128 .bf16) (v100 : Vec F S1024x128 .bf16) (v101 : Vec F S1024x128 .bf16) (v102 : Vec F S1024x128 .bf16) (v109 : FVec F S1024x1 .f32) (v122 : FVec F S1024x1024 .f32) {σ : St F} {Q : (Σ' (v127 : FVec F S1024x1024 .f32), BitVec 32) → sProp 𝕄}
    (hk : Held c M R (f4 v1 v3 k0_hw1 k0_h3 v99 v100 v101 v102 v109 v122 σ).1 ⊢ Q ⟨(f4 v1 v3 k0_hw1 k0_h3 v99 v100 v101 v102 v109 v122 σ).2.1, (f4 v1 v3 k0_hw1 k0_h3 v99 v100 v101 v102 v109 v122 σ).2.2⟩) :
    Held c M R σ ⊢ runs c (k0_part4 (F := F) i M.m2 M.h2 M.m3 M.h3 M.m4 M.h4 M.m5 M.h5 M.m6 M.h6 M.m7 M.h7 M.m8 M.h8 M.m9 M.h9 M.m10 M.h10 M.m11 M.h11 M.m12 M.h12 M.m13 M.h13 M.m14 M.h14 M.m15 M.h15 M.m16 M.h16 M.m17 M.h17 M.m18 M.h18 M.m19 M.h19 M.m20 M.h20 v1 v3 k0_hw1 k0_h3 v99 v100 v101 v102 v109 v122) Q := by
  rw [k0_part4_eq_skeleton]; unfold k0_part4_skel
  refine load_at slot_sdv ?_
  refine load_at slot_sdv ?_
  refine store_at slot_sdv ?_
  refine load_at slot_sdk ?_
  refine load_at slot_sdk ?_
  refine store_at slot_sdk ?_
  refine load_at slot_sdq ?_
  refine load_at slot_sdq ?_
  refine store_at slot_sdq ?_
  exact pure_run hk

/-- What part 5 of the body makes of the state, and the values it hands on. -/
def f5  (σ : St F) : St F × (Σ' (v22 : Vec F S512x128 .bf16) (v23 : Vec F S512x128 .bf16) (v25 : Vec F S512x128 .bf16) (v55 : FVec F S512x512 .f32) (v56 : FVec F S512x512 .f32), FVec F S512x512 .f32) :=
  let v22 := pick σ.q top0.toLoadRect
  let v23 := pick σ.k top0.toLoadRect
  let v24 := pick σ.v top0.toLoadRect
  let v25 := pick σ.d top0.toLoadRect
  let v27 := pick σ.o top0.toLoadRect
  let v33 := pick σ.fk rowT0.toLoadRect
  let v42 := pick σ.ls accT0.toLoadRect
  (σ, ⟨v22, v23, v25, k0_pay33 v22 v23 v33 v42, k0_pay34 v24 v25, k0_pay35 v25 v27⟩)

/-- Part 5 of the body ends where `f5` says. -/
theorem run5 {c : Dev nD} {M : Mr} {R : sProp 𝕄} (i : grid0.Coords)  {σ : St F} {Q : (Σ' (v22 : Vec F S512x128 .bf16) (v23 : Vec F S512x128 .bf16) (v25 : Vec F S512x128 .bf16) (v55 : FVec F S512x512 .f32) (v56 : FVec F S512x512 .f32), FVec F S512x512 .f32) → sProp 𝕄}
    (hk : Held c M R (f5  σ).1 ⊢ Q ⟨(f5  σ).2.1, (f5  σ).2.2.1, (f5  σ).2.2.2.1, (f5  σ).2.2.2.2.1, (f5  σ).2.2.2.2.2.1, (f5  σ).2.2.2.2.2.2⟩) :
    Held c M R σ ⊢ runs c (k0_part5 (F := F) i M.m2 M.h2 M.m3 M.h3 M.m4 M.h4 M.m5 M.h5 M.m6 M.h6 M.m7 M.h7 M.m8 M.h8 M.m9 M.h9 M.m10 M.h10 M.m11 M.h11 M.m12 M.h12 M.m13 M.h13 M.m14 M.h14 M.m15 M.h15 M.m16 M.h16 M.m17 M.h17 M.m18 M.h18 M.m19 M.h19 M.m20 M.h20 ) Q := by
  rw [k0_part5_eq_skeleton]; unfold k0_part5_skel
  refine load_at slot_q ?_
  refine load_at slot_k ?_
  refine load_at slot_v ?_
  refine load_at slot_d ?_
  refine load_at slot_o ?_
  refine load_at slot_fk ?_
  refine load_at slot_ls ?_
  exact pure_run hk

/-- What part 6 of the body makes of the state, and the values it hands on. -/
def f6 (v1 : Elt F .i32) (v3 : Elt F .i32) (k0_hw1 : k0_chk1 v1 v3) (k0_h4 : k0_cond4 v1 v3 = 1#1) (v22 : Vec F S512x128 .bf16) (v23 : Vec F S512x128 .bf16) (v25 : Vec F S512x128 .bf16) (v55 : FVec F S512x512 .f32) (v56 : FVec F S512x512 .f32) (v57 : FVec F S512x512 .f32) (σ : St F) : St F × (Σ' (v59 : FVec F S512x512 .f32) (v78 : BitVec 32), FVec F S1x512 .f32) :=
  let v61 := pick σ.sdv accT0.toLoadRect
  let σ1 := σ.set_sdv (put σ.sdv accT0 (k0_pay38 v25 v55 v61))
  let v69 := pick σ1.sdk accT0.toLoadRect
  let σ2 := σ1.set_sdk (put σ1.sdk accT0 (k0_pay39 v22 v55 v56 v57 v69))
  let v76 : BitVec 32 := Scalar.muli v1 1024#32
  let v77 : BitVec 32 := Scalar.addi v76 0#32
  let v78 : BitVec 32 := v77
  let v80 := pick σ2.sdq (Rect.unit (s := S2x4096x128) (k0_off4 v1 0#32) S1x512x128.size (k0_off4_inb v1 v3 k0_hw1 k0_h4 0)).toLoadRect
  let σ3 := σ2.set_sdq (put σ2.sdq (Rect.unit (s := S2x4096x128) (k0_off4 v1 0#32) S1x512x128.size (k0_off4_inb v1 v3 k0_hw1 k0_h4 0)) (k0_pay40 v23 v55 v56 v57 v80))
  let v88 := pick σ3.sdf rowT0.toLoadRect
  (σ3, ⟨k0_pay36 v55 v56 v57, v78, k0_pay41 v88⟩)

/-- Part 6 of the body ends where `f6` says. -/
theorem run6 {c : Dev nD} {M : Mr} {R : sProp 𝕄} (i : grid0.Coords) (v1 : Elt F .i32) (v3 : Elt F .i32) (k0_hw1 : k0_chk1 v1 v3) (k0_h4 : k0_cond4 v1 v3 = 1#1) (v22 : Vec F S512x128 .bf16) (v23 : Vec F S512x128 .bf16) (v25 : Vec F S512x128 .bf16) (v55 : FVec F S512x512 .f32) (v56 : FVec F S512x512 .f32) (v57 : FVec F S512x512 .f32) {σ : St F} {Q : (Σ' (v59 : FVec F S512x512 .f32) (v78 : BitVec 32), FVec F S1x512 .f32) → sProp 𝕄}
    (hk : Held c M R (f6 v1 v3 k0_hw1 k0_h4 v22 v23 v25 v55 v56 v57 σ).1 ⊢ Q ⟨(f6 v1 v3 k0_hw1 k0_h4 v22 v23 v25 v55 v56 v57 σ).2.1, (f6 v1 v3 k0_hw1 k0_h4 v22 v23 v25 v55 v56 v57 σ).2.2.1, (f6 v1 v3 k0_hw1 k0_h4 v22 v23 v25 v55 v56 v57 σ).2.2.2⟩) :
    Held c M R σ ⊢ runs c (k0_part6 (F := F) i M.m2 M.h2 M.m3 M.h3 M.m4 M.h4 M.m5 M.h5 M.m6 M.h6 M.m7 M.h7 M.m8 M.h8 M.m9 M.h9 M.m10 M.h10 M.m11 M.h11 M.m12 M.h12 M.m13 M.h13 M.m14 M.h14 M.m15 M.h15 M.m16 M.h16 M.m17 M.h17 M.m18 M.h18 M.m19 M.h19 M.m20 M.h20 v1 v3 k0_hw1 k0_h4 v22 v23 v25 v55 v56 v57) Q := by
  rw [k0_part6_eq_skeleton]; unfold k0_part6_skel
  refine load_at slot_sdv ?_
  refine load_at slot_sdv ?_
  refine store_at slot_sdv ?_
  refine load_at slot_sdk ?_
  refine load_at slot_sdk ?_
  refine store_at slot_sdk ?_
  refine load_at slot_sdq ?_
  refine load_at slot_sdq ?_
  refine store_at slot_sdq ?_
  refine load_at slot_sdf ?_
  exact pure_run hk

/-- What part 7 of the body makes of the state, and the values it hands on. -/
def f7 (v1 : Elt F .i32) (v3 : Elt F .i32) (k0_hw1 : k0_chk1 v1 v3) (k0_h4 : k0_cond4 v1 v3 = 1#1) (v59 : FVec F S512x512 .f32) (v78 : BitVec 32) (v89 : FVec F S1x512 .f32) (σ : St F) : St F × (Σ' (v108 : Vec F S512x128 .bf16) (v109 : Vec F S1024x128 .bf16) (v110 : Vec F S1024x128 .bf16) (v111 : Vec F S512x128 .bf16) (v118 : FVec F S512x1 .f32) (v120 : FVec F S1x1024 .f32), FVec F S512x1024 .f32) :=
  let σ1 := σ.set_sdf (put σ.sdf rowT0 (k0_pay42 v59 v89))
  let v97 := pick σ1.sfq (Rect.unit (s := S2x4096x128) (k0_off4 v1 0#32) S1x512x128.size (k0_off4_inb v1 v3 k0_hw1 k0_h4 0)).toLoadRect
  let σ2 := σ1.set_sfq (put σ1.sfq (Rect.unit (s := S2x4096x128) (k0_off4 v1 0#32) S1x512x128.size (k0_off4_inb v1 v3 k0_hw1 k0_h4 0)) (k0_pay43 v59 v97))
  let v108 := pick σ2.q low0.toLoadRect
  let v109 := pick σ2.k box0.toLoadRect
  let v110 := pick σ2.v box0.toLoadRect
  let v111 := pick σ2.d low0.toLoadRect
  let v113 := pick σ2.o low0.toLoadRect
  let v119 := pick σ2.fk row0.toLoadRect
  (σ2, ⟨v108, v109, v110, v111, k0_pay44 v111 v113, k0_pay45 v119, k0_pay46 v108 v109⟩)

/-- Part 7 of the body ends where `f7` says. -/
theorem run7 {c : Dev nD} {M : Mr} {R : sProp 𝕄} (i : grid0.Coords) (v1 : Elt F .i32) (v3 : Elt F .i32) (k0_hw1 : k0_chk1 v1 v3) (k0_h4 : k0_cond4 v1 v3 = 1#1) (v59 : FVec F S512x512 .f32) (v78 : BitVec 32) (v89 : FVec F S1x512 .f32) {σ : St F} {Q : (Σ' (v108 : Vec F S512x128 .bf16) (v109 : Vec F S1024x128 .bf16) (v110 : Vec F S1024x128 .bf16) (v111 : Vec F S512x128 .bf16) (v118 : FVec F S512x1 .f32) (v120 : FVec F S1x1024 .f32), FVec F S512x1024 .f32) → sProp 𝕄}
    (hk : Held c M R (f7 v1 v3 k0_hw1 k0_h4 v59 v78 v89 σ).1 ⊢ Q ⟨(f7 v1 v3 k0_hw1 k0_h4 v59 v78 v89 σ).2.1, (f7 v1 v3 k0_hw1 k0_h4 v59 v78 v89 σ).2.2.1, (f7 v1 v3 k0_hw1 k0_h4 v59 v78 v89 σ).2.2.2.1, (f7 v1 v3 k0_hw1 k0_h4 v59 v78 v89 σ).2.2.2.2.1, (f7 v1 v3 k0_hw1 k0_h4 v59 v78 v89 σ).2.2.2.2.2.1, (f7 v1 v3 k0_hw1 k0_h4 v59 v78 v89 σ).2.2.2.2.2.2.1, (f7 v1 v3 k0_hw1 k0_h4 v59 v78 v89 σ).2.2.2.2.2.2.2⟩) :
    Held c M R σ ⊢ runs c (k0_part7 (F := F) i M.m2 M.h2 M.m3 M.h3 M.m4 M.h4 M.m5 M.h5 M.m6 M.h6 M.m7 M.h7 M.m8 M.h8 M.m9 M.h9 M.m10 M.h10 M.m11 M.h11 M.m12 M.h12 M.m13 M.h13 M.m14 M.h14 M.m15 M.h15 M.m16 M.h16 M.m17 M.h17 M.m18 M.h18 M.m19 M.h19 M.m20 M.h20 v1 v3 k0_hw1 k0_h4 v59 v78 v89) Q := by
  rw [k0_part7_eq_skeleton]; unfold k0_part7_skel
  refine load_at slot_sdf ?_
  refine store_at slot_sdf ?_
  refine load_at slot_sfq ?_
  refine load_at slot_sfq ?_
  refine store_at slot_sfq ?_
  refine load_at slot_q ?_
  refine load_at slot_k ?_
  refine load_at slot_v ?_
  refine load_at slot_d ?_
  refine load_at slot_o ?_
  refine load_at slot_fk ?_
  exact pure_run hk

/-- What part 8 of the body makes of the state, and the values it hands on. -/
def f8 (v108 : Vec F S512x128 .bf16) (v110 : Vec F S1024x128 .bf16) (v111 : Vec F S512x128 .bf16) (v118 : FVec F S512x1 .f32) (v120 : FVec F S1x1024 .f32) (v123 : FVec F S512x1024 .f32) (σ : St F) : St F × (Σ' (v145 : FVec F S512x1024 .f32) (v146 : FVec F S512x1024 .bf16), FVec F S1024x128 .f32) :=
  let v128 := pick σ.ls (Rect.unit (s := S2x1024x128) ![0, 512, 0] S1x512x128.size inb_S2x1024x128_S1x512x128_0_512_0).toLoadRect
  let v147 := pick σ.sdv acc0.toLoadRect
  let σ1 := σ.set_sdv (put σ.sdv acc0 (k0_pay50 v111 v120 v123 v128 v147))
  let v155 := pick σ1.sdk acc0.toLoadRect
  (σ1, ⟨k0_pay48 v110 v111 v118 v120 v123 v128, k0_pay49 v110 v111 v118 v120 v123 v128, k0_pay51 v108 v110 v111 v118 v120 v123 v128 v155⟩)

/-- Part 8 of the body ends where `f8` says. -/
theorem run8 {c : Dev nD} {M : Mr} {R : sProp 𝕄} (i : grid0.Coords) (v108 : Vec F S512x128 .bf16) (v110 : Vec F S1024x128 .bf16) (v111 : Vec F S512x128 .bf16) (v118 : FVec F S512x1 .f32) (v120 : FVec F S1x1024 .f32) (v123 : FVec F S512x1024 .f32) {σ : St F} {Q : (Σ' (v145 : FVec F S512x1024 .f32) (v146 : FVec F S512x1024 .bf16), FVec F S1024x128 .f32) → sProp 𝕄}
    (hk : Held c M R (f8 v108 v110 v111 v118 v120 v123 σ).1 ⊢ Q ⟨(f8 v108 v110 v111 v118 v120 v123 σ).2.1, (f8 v108 v110 v111 v118 v120 v123 σ).2.2.1, (f8 v108 v110 v111 v118 v120 v123 σ).2.2.2⟩) :
    Held c M R σ ⊢ runs c (k0_part8 (F := F) i M.m2 M.h2 M.m3 M.h3 M.m4 M.h4 M.m5 M.h5 M.m6 M.h6 M.m7 M.h7 M.m8 M.h8 M.m9 M.h9 M.m10 M.h10 M.m11 M.h11 M.m12 M.h12 M.m13 M.h13 M.m14 M.h14 M.m15 M.h15 M.m16 M.h16 M.m17 M.h17 M.m18 M.h18 M.m19 M.h19 M.m20 M.h20 v108 v110 v111 v118 v120 v123) Q := by
  rw [k0_part8_eq_skeleton]; unfold k0_part8_skel
  refine load_at slot_ls ?_
  refine load_at slot_sdv ?_
  refine load_at slot_sdv ?_
  refine store_at slot_sdv ?_
  refine load_at slot_sdk ?_
  refine load_at slot_sdk ?_
  exact pure_run hk

/-- What part 9 of the body makes of the state, and the values it hands on. -/
def f9 (v1 : Elt F .i32) (v3 : Elt F .i32) (k0_hw1 : k0_chk1 v1 v3) (k0_h4 : k0_cond4 v1 v3 = 1#1) (v109 : Vec F S1024x128 .bf16) (v145 : FVec F S512x1024 .f32) (v146 : FVec F S512x1024 .bf16) (v158 : FVec F S1024x128 .f32) (σ : St F) : St F × (Vec F S512x128 .bf16) :=
  let σ1 := σ.set_sdk (put σ.sdk acc0 (k0_pay52 v158))
  let v166 := pick σ1.sdq (Rect.unit (s := S2x4096x128) (k0_off4 v1 512#32) S1x512x128.size (k0_off4_inb v1 v3 k0_hw1 k0_h4 1)).toLoadRect
  let σ2 := σ1.set_sdq (put σ1.sdq (Rect.unit (s := S2x4096x128) (k0_off4 v1 512#32) S1x512x128.size (k0_off4_inb v1 v3 k0_hw1 k0_h4 1)) (k0_pay53 v109 v146 v166))
  let v174 := pick σ2.sdf row0.toLoadRect
  let σ3 := σ2.set_sdf (put σ2.sdf row0 (k0_pay54 v145 v174))
  let v183 := pick σ3.sfq (Rect.unit (s := S2x4096x128) (k0_off4 v1 512#32) S1x512x128.size (k0_off4_inb v1 v3 k0_hw1 k0_h4 1)).toLoadRect
  let σ4 := σ3.set_sfq (put σ3.sfq (Rect.unit (s := S2x4096x128) (k0_off4 v1 512#32) S1x512x128.size (k0_off4_inb v1 v3 k0_hw1 k0_h4 1)) (k0_pay55 v145 v183))
  let v194 := pick σ4.q top1.toLoadRect
  (σ4, v194)

/-- Part 9 of the body ends where `f9` says. -/
theorem run9 {c : Dev nD} {M : Mr} {R : sProp 𝕄} (i : grid0.Coords) (v1 : Elt F .i32) (v3 : Elt F .i32) (k0_hw1 : k0_chk1 v1 v3) (k0_h4 : k0_cond4 v1 v3 = 1#1) (v109 : Vec F S1024x128 .bf16) (v145 : FVec F S512x1024 .f32) (v146 : FVec F S512x1024 .bf16) (v158 : FVec F S1024x128 .f32) {σ : St F} {Q : (Vec F S512x128 .bf16) → sProp 𝕄}
    (hk : Held c M R (f9 v1 v3 k0_hw1 k0_h4 v109 v145 v146 v158 σ).1 ⊢ Q (f9 v1 v3 k0_hw1 k0_h4 v109 v145 v146 v158 σ).2) :
    Held c M R σ ⊢ runs c (k0_part9 (F := F) i M.m2 M.h2 M.m3 M.h3 M.m4 M.h4 M.m5 M.h5 M.m6 M.h6 M.m7 M.h7 M.m8 M.h8 M.m9 M.h9 M.m10 M.h10 M.m11 M.h11 M.m12 M.h12 M.m13 M.h13 M.m14 M.h14 M.m15 M.h15 M.m16 M.h16 M.m17 M.h17 M.m18 M.h18 M.m19 M.h19 M.m20 M.h20 v1 v3 k0_hw1 k0_h4 v109 v145 v146 v158) Q := by
  rw [k0_part9_eq_skeleton]; unfold k0_part9_skel
  refine store_at slot_sdk ?_
  refine load_at slot_sdq ?_
  refine load_at slot_sdq ?_
  refine store_at slot_sdq ?_
  refine load_at slot_sdf ?_
  refine load_at slot_sdf ?_
  refine store_at slot_sdf ?_
  refine load_at slot_sfq ?_
  refine load_at slot_sfq ?_
  refine store_at slot_sfq ?_
  refine load_at slot_q ?_
  exact pure_run hk

/-- What part 10 of the body makes of the state, and the values it hands on. -/
def f10 (v194 : Vec F S512x128 .bf16) (σ : St F) : St F × (Σ' (v195 : Vec F S512x128 .bf16) (v197 : Vec F S512x128 .bf16) (v227 : FVec F S512x512 .f32) (v231 : FVec F S512x512 .f32), FVec F S512x512 .bf16) :=
  let v195 := pick σ.k top1.toLoadRect
  let v196 := pick σ.v top1.toLoadRect
  let v197 := pick σ.d top1.toLoadRect
  let v199 := pick σ.o top1.toLoadRect
  let v205 := pick σ.fk rowT1.toLoadRect
  let v214 := pick σ.ls accT1.toLoadRect
  (σ, ⟨v195, v197, k0_pay56 v194 v195 v205 v214, k0_pay57 v194 v195 v196 v197 v199 v205 v214, k0_pay58 v194 v195 v196 v197 v199 v205 v214⟩)

/-- Part 10 of the body ends where `f10` says. -/
theorem run10 {c : Dev nD} {M : Mr} {R : sProp 𝕄} (i : grid0.Coords) (v194 : Vec F S512x128 .bf16) {σ : St F} {Q : (Σ' (v195 : Vec F S512x128 .bf16) (v197 : Vec F S512x128 .bf16) (v227 : FVec F S512x512 .f32) (v231 : FVec F S512x512 .f32), FVec F S512x512 .bf16) → sProp 𝕄}
    (hk : Held c M R (f10 v194 σ).1 ⊢ Q ⟨(f10 v194 σ).2.1, (f10 v194 σ).2.2.1, (f10 v194 σ).2.2.2.1, (f10 v194 σ).2.2.2.2.1, (f10 v194 σ).2.2.2.2.2⟩) :
    Held c M R σ ⊢ runs c (k0_part10 (F := F) i M.m2 M.h2 M.m3 M.h3 M.m4 M.h4 M.m5 M.h5 M.m6 M.h6 M.m7 M.h7 M.m8 M.h8 M.m9 M.h9 M.m10 M.h10 M.m11 M.h11 M.m12 M.h12 M.m13 M.h13 M.m14 M.h14 M.m15 M.h15 M.m16 M.h16 M.m17 M.h17 M.m18 M.h18 M.m19 M.h19 M.m20 M.h20 v194) Q := by
  rw [k0_part10_eq_skeleton]; unfold k0_part10_skel
  refine load_at slot_k ?_
  refine load_at slot_v ?_
  refine load_at slot_d ?_
  refine load_at slot_o ?_
  refine load_at slot_fk ?_
  refine load_at slot_ls ?_
  exact pure_run hk

/-- What part 11 of the body makes of the state, and the values it hands on. -/
def f11 (v1 : Elt F .i32) (v3 : Elt F .i32) (k0_hw1 : k0_chk1 v1 v3) (k0_h4 : k0_cond4 v1 v3 = 1#1) (v194 : Vec F S512x128 .bf16) (v195 : Vec F S512x128 .bf16) (v197 : Vec F S512x128 .bf16) (v227 : FVec F S512x512 .f32) (v231 : FVec F S512x512 .f32) (v232 : FVec F S512x512 .bf16) (σ : St F) : St F × (Σ' (v250 : BitVec 32), FVec F S1x512 .f32) :=
  let v233 := pick σ.sdv accT1.toLoadRect
  let σ1 := σ.set_sdv (put σ.sdv accT1 (k0_pay59 v197 v227 v233))
  let v241 := pick σ1.sdk accT1.toLoadRect
  let σ2 := σ1.set_sdk (put σ1.sdk accT1 (k0_pay60 v194 v232 v241))
  let v248 : BitVec 32 := Scalar.muli v1 1024#32
  let v249 : BitVec 32 := Scalar.addi v248 0#32
  let v250 : BitVec 32 := v249
  let v252 := pick σ2.sdq (Rect.unit (s := S2x4096x128) (k0_off5 v1 0#32) S1x512x128.size (k0_off5_inb v1 v3 k0_hw1 k0_h4 0)).toLoadRect
  let σ3 := σ2.set_sdq (put σ2.sdq (Rect.unit (s := S2x4096x128) (k0_off5 v1 0#32) S1x512x128.size (k0_off5_inb v1 v3 k0_hw1 k0_h4 0)) (k0_pay61 v195 v232 v252))
  let v260 := pick σ3.sdf rowT1.toLoadRect
  (σ3, ⟨v250, k0_pay62 v231 v260⟩)

/-- Part 11 of the body ends where `f11` says. -/
theorem run11 {c : Dev nD} {M : Mr} {R : sProp 𝕄} (i : grid0.Coords) (v1 : Elt F .i32) (v3 : Elt F .i32) (k0_hw1 : k0_chk1 v1 v3) (k0_h4 : k0_cond4 v1 v3 = 1#1) (v194 : Vec F S512x128 .bf16) (v195 : Vec F S512x128 .bf16) (v197 : Vec F S512x128 .bf16) (v227 : FVec F S512x512 .f32) (v231 : FVec F S512x512 .f32) (v232 : FVec F S512x512 .bf16) {σ : St F} {Q : (Σ' (v250 : BitVec 32), FVec F S1x512 .f32) → sProp 𝕄}
    (hk : Held c M R (f11 v1 v3 k0_hw1 k0_h4 v194 v195 v197 v227 v231 v232 σ).1 ⊢ Q ⟨(f11 v1 v3 k0_hw1 k0_h4 v194 v195 v197 v227 v231 v232 σ).2.1, (f11 v1 v3 k0_hw1 k0_h4 v194 v195 v197 v227 v231 v232 σ).2.2⟩) :
    Held c M R σ ⊢ runs c (k0_part11 (F := F) i M.m2 M.h2 M.m3 M.h3 M.m4 M.h4 M.m5 M.h5 M.m6 M.h6 M.m7 M.h7 M.m8 M.h8 M.m9 M.h9 M.m10 M.h10 M.m11 M.h11 M.m12 M.h12 M.m13 M.h13 M.m14 M.h14 M.m15 M.h15 M.m16 M.h16 M.m17 M.h17 M.m18 M.h18 M.m19 M.h19 M.m20 M.h20 v1 v3 k0_hw1 k0_h4 v194 v195 v197 v227 v231 v232) Q := by
  rw [k0_part11_eq_skeleton]; unfold k0_part11_skel
  refine load_at slot_sdv ?_
  refine load_at slot_sdv ?_
  refine store_at slot_sdv ?_
  refine load_at slot_sdk ?_
  refine load_at slot_sdk ?_
  refine store_at slot_sdk ?_
  refine load_at slot_sdq ?_
  refine load_at slot_sdq ?_
  refine store_at slot_sdq ?_
  refine load_at slot_sdf ?_
  exact pure_run hk

/-- What part 12 of the body makes of the state, and the values it hands on. -/
def f12 (v1 : Elt F .i32) (v3 : Elt F .i32) (k0_hw1 : k0_chk1 v1 v3) (k0_h4 : k0_cond4 v1 v3 = 1#1) (v231 : FVec F S512x512 .f32) (v250 : BitVec 32) (v264 : FVec F S1x512 .f32) (σ : St F) : St F × (Σ' (v280 : Vec F S512x128 .bf16) (v281 : Vec F S1024x128 .bf16) (v282 : Vec F S1024x128 .bf16) (v283 : Vec F S512x128 .bf16) (v290 : FVec F S512x1 .f32) (v295 : FVec F S512x1024 .f32), FVec F S512x1024 .f32) :=
  let σ1 := σ.set_sdf (put σ.sdf rowT1 (k0_pay63 v264))
  let v269 := pick σ1.sfq (Rect.unit (s := S2x4096x128) (k0_off5 v1 0#32) S1x512x128.size (k0_off5_inb v1 v3 k0_hw1 k0_h4 0)).toLoadRect
  let σ2 := σ1.set_sfq (put σ1.sfq (Rect.unit (s := S2x4096x128) (k0_off5 v1 0#32) S1x512x128.size (k0_off5_inb v1 v3 k0_hw1 k0_h4 0)) (k0_pay64 v231 v269))
  let v280 := pick σ2.q low1.toLoadRect
  let v281 := pick σ2.k box1.toLoadRect
  let v282 := pick σ2.v box1.toLoadRect
  let v283 := pick σ2.d low1.toLoadRect
  let v285 := pick σ2.o low1.toLoadRect
  let v291 := pick σ2.fk row1.toLoadRect
  (σ2, ⟨v280, v281, v282, v283, k0_pay65 v283 v285, k0_pay66 v280 v281, k0_pay67 v291⟩)

/-- Part 12 of the body ends where `f12` says. -/
theorem run12 {c : Dev nD} {M : Mr} {R : sProp 𝕄} (i : grid0.Coords) (v1 : Elt F .i32) (v3 : Elt F .i32) (k0_hw1 : k0_chk1 v1 v3) (k0_h4 : k0_cond4 v1 v3 = 1#1) (v231 : FVec F S512x512 .f32) (v250 : BitVec 32) (v264 : FVec F S1x512 .f32) {σ : St F} {Q : (Σ' (v280 : Vec F S512x128 .bf16) (v281 : Vec F S1024x128 .bf16) (v282 : Vec F S1024x128 .bf16) (v283 : Vec F S512x128 .bf16) (v290 : FVec F S512x1 .f32) (v295 : FVec F S512x1024 .f32), FVec F S512x1024 .f32) → sProp 𝕄}
    (hk : Held c M R (f12 v1 v3 k0_hw1 k0_h4 v231 v250 v264 σ).1 ⊢ Q ⟨(f12 v1 v3 k0_hw1 k0_h4 v231 v250 v264 σ).2.1, (f12 v1 v3 k0_hw1 k0_h4 v231 v250 v264 σ).2.2.1, (f12 v1 v3 k0_hw1 k0_h4 v231 v250 v264 σ).2.2.2.1, (f12 v1 v3 k0_hw1 k0_h4 v231 v250 v264 σ).2.2.2.2.1, (f12 v1 v3 k0_hw1 k0_h4 v231 v250 v264 σ).2.2.2.2.2.1, (f12 v1 v3 k0_hw1 k0_h4 v231 v250 v264 σ).2.2.2.2.2.2.1, (f12 v1 v3 k0_hw1 k0_h4 v231 v250 v264 σ).2.2.2.2.2.2.2⟩) :
    Held c M R σ ⊢ runs c (k0_part12 (F := F) i M.m2 M.h2 M.m3 M.h3 M.m4 M.h4 M.m5 M.h5 M.m6 M.h6 M.m7 M.h7 M.m8 M.h8 M.m9 M.h9 M.m10 M.h10 M.m11 M.h11 M.m12 M.h12 M.m13 M.h13 M.m14 M.h14 M.m15 M.h15 M.m16 M.h16 M.m17 M.h17 M.m18 M.h18 M.m19 M.h19 M.m20 M.h20 v1 v3 k0_hw1 k0_h4 v231 v250 v264) Q := by
  rw [k0_part12_eq_skeleton]; unfold k0_part12_skel
  refine load_at slot_sdf ?_
  refine store_at slot_sdf ?_
  refine load_at slot_sfq ?_
  refine load_at slot_sfq ?_
  refine store_at slot_sfq ?_
  refine load_at slot_q ?_
  refine load_at slot_k ?_
  refine load_at slot_v ?_
  refine load_at slot_d ?_
  refine load_at slot_o ?_
  refine load_at slot_fk ?_
  exact pure_run hk

/-- What part 13 of the body makes of the state, and the values it hands on. -/
def f13 (v1 : Elt F .i32) (v280 : Vec F S512x128 .bf16) (v282 : Vec F S1024x128 .bf16) (v283 : Vec F S512x128 .bf16) (v290 : FVec F S512x1 .f32) (v295 : FVec F S512x1024 .f32) (v298 : FVec F S512x1024 .f32) (σ : St F) : St F × (Σ' (v317 : FVec F S512x1024 .f32) (v318 : FVec F S512x1024 .bf16), BitVec 32) :=
  let v300 := pick σ.ls (Rect.unit (s := S2x1024x128) ![1, 512, 0] S1x512x128.size inb_S2x1024x128_S1x512x128_1_512_0).toLoadRect
  let v319 := pick σ.sdv acc1.toLoadRect
  let σ1 := σ.set_sdv (put σ.sdv acc1 (k0_pay71 v283 v295 v298 v300 v319))
  let v327 := pick σ1.sdk acc1.toLoadRect
  let σ2 := σ1.set_sdk (put σ1.sdk acc1 (k0_pay72 v280 v282 v283 v290 v295 v298 v300 v327))
  let v334 : BitVec 32 := Scalar.muli v1 1024#32
  (σ2, ⟨k0_pay69 v282 v283 v290 v295 v298 v300, k0_pay70 v282 v283 v290 v295 v298 v300, v334⟩)

/-- Part 13 of the body ends where `f13` says. -/
theorem run13 {c : Dev nD} {M : Mr} {R : sProp 𝕄} (i : grid0.Coords) (v1 : Elt F .i32) (v280 : Vec F S512x128 .bf16) (v282 : Vec F S1024x128 .bf16) (v283 : Vec F S512x128 .bf16) (v290 : FVec F S512x1 .f32) (v295 : FVec F S512x1024 .f32) (v298 : FVec F S512x1024 .f32) {σ : St F} {Q : (Σ' (v317 : FVec F S512x1024 .f32) (v318 : FVec F S512x1024 .bf16), BitVec 32) → sProp 𝕄}
    (hk : Held c M R (f13 v1 v280 v282 v283 v290 v295 v298 σ).1 ⊢ Q ⟨(f13 v1 v280 v282 v283 v290 v295 v298 σ).2.1, (f13 v1 v280 v282 v283 v290 v295 v298 σ).2.2.1, (f13 v1 v280 v282 v283 v290 v295 v298 σ).2.2.2⟩) :
    Held c M R σ ⊢ runs c (k0_part13 (F := F) i M.m2 M.h2 M.m3 M.h3 M.m4 M.h4 M.m5 M.h5 M.m6 M.h6 M.m7 M.h7 M.m8 M.h8 M.m9 M.h9 M.m10 M.h10 M.m11 M.h11 M.m12 M.h12 M.m13 M.h13 M.m14 M.h14 M.m15 M.h15 M.m16 M.h16 M.m17 M.h17 M.m18 M.h18 M.m19 M.h19 M.m20 M.h20 v1 v280 v282 v283 v290 v295 v298) Q := by
  rw [k0_part13_eq_skeleton]; unfold k0_part13_skel
  refine load_at slot_ls ?_
  refine load_at slot_sdv ?_
  refine load_at slot_sdv ?_
  refine store_at slot_sdv ?_
  refine load_at slot_sdk ?_
  refine load_at slot_sdk ?_
  refine store_at slot_sdk ?_
  exact pure_run hk

/-- What part 14 of the body makes of the state, and the values it hands on. -/
def f14 (v1 : Elt F .i32) (v3 : Elt F .i32) (k0_hw1 : k0_chk1 v1 v3) (k0_h4 : k0_cond4 v1 v3 = 1#1) (σ : St F) : St F × (FVec F S1x512x128 .f32) :=
  let r1 := f5  σ
  let v22 := r1.2.1
  let v23 := r1.2.2.1
  let v25 := r1.2.2.2.1
  let v55 := r1.2.2.2.2.1
  let v56 := r1.2.2.2.2.2.1
  let v57 := r1.2.2.2.2.2.2
  let σ1 := r1.1
  let r2 := f6 v1 v3 k0_hw1 k0_h4 v22 v23 v25 v55 v56 v57 σ1
  let v59 := r2.2.1
  let v78 := r2.2.2.1
  let v89 := r2.2.2.2
  let σ2 := r2.1
  let r3 := f7 v1 v3 k0_hw1 k0_h4 v59 v78 v89 σ2
  let v108 := r3.2.1
  let v109 := r3.2.2.1
  let v110 := r3.2.2.2.1
  let v111 := r3.2.2.2.2.1
  let v118 := r3.2.2.2.2.2.1
  let v120 := r3.2.2.2.2.2.2.1
  let v123 := r3.2.2.2.2.2.2.2
  let σ3 := r3.1
  let r4 := f8 v108 v110 v111 v118 v120 v123 σ3
  let v145 := r4.2.1
  let v146 := r4.2.2.1
  let v158 := r4.2.2.2
  let σ4 := r4.1
  let r5 := f9 v1 v3 k0_hw1 k0_h4 v109 v145 v146 v158 σ4
  let v194 := r5.2
  let σ5 := r5.1
  let r6 := f10 v194 σ5
  let v195 := r6.2.1
  let v197 := r6.2.2.1
  let v227 := r6.2.2.2.1
  let v231 := r6.2.2.2.2.1
  let v232 := r6.2.2.2.2.2
  let σ6 := r6.1
  let r7 := f11 v1 v3 k0_hw1 k0_h4 v194 v195 v197 v227 v231 v232 σ6
  let v250 := r7.2.1
  let v264 := r7.2.2
  let σ7 := r7.1
  let r8 := f12 v1 v3 k0_hw1 k0_h4 v231 v250 v264 σ7
  let v280 := r8.2.1
  let v281 := r8.2.2.1
  let v282 := r8.2.2.2.1
  let v283 := r8.2.2.2.2.1
  let v290 := r8.2.2.2.2.2.1
  let v295 := r8.2.2.2.2.2.2.1
  let v298 := r8.2.2.2.2.2.2.2
  let σ8 := r8.1
  let r9 := f13 v1 v280 v282 v283 v290 v295 v298 σ8
  let v317 := r9.2.1
  let v318 := r9.2.2.1
  let σ9 := r9.1
  let v338 := pick σ9.sdq (Rect.unit (s := S2x4096x128) (k0_off5 v1 512#32) S1x512x128.size (k0_off5_inb v1 v3 k0_hw1 k0_h4 1)).toLoadRect
  let σ10 := σ9.set_sdq (put σ9.sdq (Rect.unit (s := S2x4096x128) (k0_off5 v1 512#32) S1x512x128.size (k0_off5_inb v1 v3 k0_hw1 k0_h4 1)) (k0_pay73 v281 v318 v338))
  let v346 := pick σ10.sdf row1.toLoadRect
  let σ11 := σ10.set_sdf (put σ10.sdf row1 (k0_pay74 v317 v346))
  let v355 := pick σ11.sfq (Rect.unit (s := S2x4096x128) (k0_off5 v1 512#32) S1x512x128.size (k0_off5_inb v1 v3 k0_hw1 k0_h4 1)).toLoadRect
  (σ11, (k0_pay75 v317 v355))

/-- Part 14 of the body ends where `f14` says. -/
theorem run14 {c : Dev nD} {M : Mr} {R : sProp 𝕄} (i : grid0.Coords) (v1 : Elt F .i32) (v3 : Elt F .i32) (k0_hw1 : k0_chk1 v1 v3) (k0_h4 : k0_cond4 v1 v3 = 1#1) {σ : St F} {Q : (FVec F S1x512x128 .f32) → sProp 𝕄}
    (hk : Held c M R (f14 v1 v3 k0_hw1 k0_h4 σ).1 ⊢ Q (f14 v1 v3 k0_hw1 k0_h4 σ).2) :
    Held c M R σ ⊢ runs c (k0_part14 (F := F) i M.m2 M.h2 M.m3 M.h3 M.m4 M.h4 M.m5 M.h5 M.m6 M.h6 M.m7 M.h7 M.m8 M.h8 M.m9 M.h9 M.m10 M.h10 M.m11 M.h11 M.m12 M.h12 M.m13 M.h13 M.m14 M.h14 M.m15 M.h15 M.m16 M.h16 M.m17 M.h17 M.m18 M.h18 M.m19 M.h19 M.m20 M.h20 v1 v3 k0_hw1 k0_h4) Q := by
  rw [k0_part14_eq_skeleton]; unfold k0_part14_skel
  refine bind_run (run5 _ ?_)
  refine bind_run (run6 _ _ _ _ _ _ _ _ _ _ _ ?_)
  refine bind_run (run7 _ _ _ _ _ _ _ _ ?_)
  refine bind_run (run8 _ _ _ _ _ _ _ ?_)
  refine bind_run (run9 _ _ _ _ _ _ _ _ _ ?_)
  refine bind_run (run10 _ _ ?_)
  refine bind_run (run11 _ _ _ _ _ _ _ _ _ _ _ ?_)
  refine bind_run (run12 _ _ _ _ _ _ _ _ ?_)
  refine bind_run (run13 _ _ _ _ _ _ _ _ ?_)
  refine load_at slot_sdq ?_
  refine load_at slot_sdq ?_
  refine store_at slot_sdq ?_
  refine load_at slot_sdf ?_
  refine load_at slot_sdf ?_
  refine store_at slot_sdf ?_
  refine load_at slot_sfq ?_
  refine load_at slot_sfq ?_
  exact pure_run hk

/-- Whether the point is a pair of heads' first one. -/
def c1 (i : grid0.Coords) : BitVec 1 := Scalar.cmpi .ne (Scalar.extui (Scalar.cmpi .eq (BitVec.ofNat 32 (i 1).val) 0#32) : BitVec 32) 0#32

/-- Whether the point is on the diagonal. -/
def c2 (v1 v3 : BitVec 32) : BitVec 1 := Scalar.cmpi .ne (Scalar.extui (Scalar.cmpi .eq v1 v3) : BitVec 32) 0#32

/-- The branch `init` taken. -/
def initT (i : grid0.Coords) (σ : St F) : St F :=
  let σ1 := σ.set_sdq (put σ.sdq (Rect.unit (s := S2x4096x128) ![0, 0, 0] S2x4096x128.size inb_S2x4096x128_S2x4096x128_0_0_0) (k0_pay1 (F := F)))
  let σ2 := σ1.set_sfq (put σ1.sfq (Rect.unit (s := S2x4096x128) ![0, 0, 0] S2x4096x128.size inb_S2x4096x128_S2x4096x128_0_0_0) (k0_pay2 (F := F)))
  σ2

/-- The branch `init`. -/
def initS (i : grid0.Coords) (σ : St F) : St F := if c1 i = 1#1 then initT i σ else σ

/-- The branch `kv` taken. -/
def kvT (v1 v3 : Elt F .i32) (σ : St F) : St F :=
  let σ1 := σ.set_sdk (put σ.sdk (Rect.unit (s := S2x1024x128) ![0, 0, 0] S2x1024x128.size inb_S2x1024x128_S2x1024x128_0_0_0) (k0_pay3 (F := F)))
  let σ2 := σ1.set_sdv (put σ1.sdv (Rect.unit (s := S2x1024x128) ![0, 0, 0] S2x1024x128.size inb_S2x1024x128_S2x1024x128_0_0_0) (k0_pay4 (F := F)))
  let σ3 := σ2.set_sdf (put σ2.sdf (Rect.unit (s := S2x1x1024) ![0, 0, 0] S2x1x1024.size inb_S2x1x1024_S2x1x1024_0_0_0) (k0_pay5 (F := F)))
  σ3

/-- The branch `kv`. -/
def kvS (v1 v3 : Elt F .i32) (σ : St F) : St F := if c2 v1 v3 = 1#1 then kvT v1 v3 σ else σ

/-- The branch `off` taken. -/
def offT (v1 v3 : Elt F .i32) (k0_hw1 : k0_chk1 v1 v3) (k0_h3 : k0_cond3 v1 v3 = 1#1) (σ : St F) : St F :=
  let r1 := f1  σ
  let v22 := r1.2.1
  let v23 := r1.2.2.1
  let v50 := r1.2.2.2.1
  let v51 := r1.2.2.2.2.1
  let v56 := r1.2.2.2.2.2
  let σ1 := r1.1
  let r2 := f2 v1 v3 k0_hw1 k0_h3 v22 v23 v50 v51 v56 σ1
  let v69 := r2.2
  let σ2 := r2.1
  let r3 := f3 v1 v3 k0_hw1 k0_h3 v50 v69 σ2
  let v99 := r3.2.1
  let v100 := r3.2.2.1
  let v101 := r3.2.2.2.1
  let v102 := r3.2.2.2.2.1
  let v109 := r3.2.2.2.2.2.1
  let v122 := r3.2.2.2.2.2.2
  let σ3 := r3.1
  let r4 := f4 v1 v3 k0_hw1 k0_h3 v99 v100 v101 v102 v109 v122 σ3
  let v127 := r4.2.1
  let σ4 := r4.1
  let v156 := pick σ4.sdf row1.toLoadRect
  let σ5 := σ4.set_sdf (put σ4.sdf row1 (k0_pay6 v127 v156))
  let v165 := pick σ5.sfq (Rect.unit (s := S2x4096x128) (k0_off3 v1) S1x1024x128.size (k0_off3_inb v1 v3 k0_hw1 k0_h3)).toLoadRect
  let σ6 := σ5.set_sfq (put σ5.sfq (Rect.unit (s := S2x4096x128) (k0_off3 v1) S1x1024x128.size (k0_off3_inb v1 v3 k0_hw1 k0_h3)) (k0_pay7 v127 v165))
  σ6

/-- The branch `off`. -/
def offS (v1 v3 : Elt F .i32) (k0_hw1 : k0_chk1 v1 v3) (σ : St F) : St F := if k0_h3 : k0_cond3 v1 v3 = 1#1 then offT v1 v3 k0_hw1 k0_h3 σ else σ

/-- The branch `diag` taken. -/
def diagT (v1 v3 : Elt F .i32) (k0_hw1 : k0_chk1 v1 v3) (k0_h4 : k0_cond4 v1 v3 = 1#1) (σ : St F) : St F :=
  let r1 := f14 v1 v3 k0_hw1 k0_h4 σ
  let v365 := r1.2
  let σ1 := r1.1
  let σ2 := σ1.set_sfq (put σ1.sfq (Rect.unit (s := S2x4096x128) (k0_off5 v1 512#32) S1x512x128.size (k0_off5_inb v1 v3 k0_hw1 k0_h4 1)) v365)
  σ2

/-- The branch `diag`. -/
def diagS (v1 v3 : Elt F .i32) (k0_hw1 : k0_chk1 v1 v3) (σ : St F) : St F := if k0_h4 : k0_cond4 v1 v3 = 1#1 then diagT v1 v3 k0_hw1 k0_h4 σ else σ

/-- The branch `flush` taken. -/
def flushT (v1 : Elt F .i32) (σ : St F) : St F :=
  let v22 := pick σ.sdk acc0.toLoadRect
  let σ1 := σ.set_odk (put σ.odk box0 (k0_pay8 v22))
  let v28 := pick σ1.sdv acc0.toLoadRect
  let σ2 := σ1.set_odv (put σ1.odv box0 (k0_pay9 v28))
  let v32 := pick σ2.sdk acc1.toLoadRect
  let σ3 := σ2.set_odk (put σ2.odk box1 (k0_pay10 v32))
  let v38 := pick σ3.sdv acc1.toLoadRect
  let σ4 := σ3.set_odv (put σ3.odv box1 (k0_pay11 v38))
  let v42 := pick σ4.sdf (Rect.unit (s := S2x1x1024) ![0, 0, 0] S2x1x1024.size inb_S2x1x1024_S2x1x1024_0_0_0).toLoadRect
  let σ5 := σ4.set_odf (put σ4.odf (Rect.unit (s := S2x1x1024) ![0, 0, 0] S2x1x1024.size inb_S2x1x1024_S2x1x1024_0_0_0) v42)
  σ5

/-- The branch `flush`. -/
def flushS (v1 : Elt F .i32) (σ : St F) : St F := if k0_cond5 v1 = 1#1 then flushT v1 σ else σ

/-- The branch `fin` taken. -/
def finT (i : grid0.Coords) (σ : St F) : St F :=
  let v22 := pick σ.sdq (Rect.unit (s := S2x4096x128) ![0, 0, 0] S1x4096x128.size inb_S2x4096x128_S1x4096x128_0_0_0).toLoadRect
  let σ1 := σ.set_odq (put σ.odq (Rect.unit (s := S4096x256) ![0, 0] S4096x128.size inb_S4096x256_S4096x128_0_0) (k0_pay12 v22))
  let v28 := pick σ1.sfq (Rect.unit (s := S2x4096x128) ![0, 0, 0] S1x4096x128.size inb_S2x4096x128_S1x4096x128_0_0_0).toLoadRect
  let σ2 := σ1.set_ofq (put σ1.ofq (Rect.unit (s := S2x1x4096) ![0, 0, 0] S1x1x4096.size inb_S2x1x4096_S1x1x4096_0_0_0) (k0_pay13 v28))
  let v35 := pick σ2.sdq (Rect.unit (s := S2x4096x128) ![1, 0, 0] S1x4096x128.size inb_S2x4096x128_S1x4096x128_1_0_0).toLoadRect
  let σ3 := σ2.set_odq (put σ2.odq (Rect.unit (s := S4096x256) ![0, 128] S4096x128.size inb_S4096x256_S4096x128_0_128) (k0_pay14 v35))
  let v41 := pick σ3.sfq (Rect.unit (s := S2x4096x128) ![1, 0, 0] S1x4096x128.size inb_S2x4096x128_S1x4096x128_1_0_0).toLoadRect
  let σ4 := σ3.set_ofq (put σ3.ofq (Rect.unit (s := S2x1x4096) ![1, 0, 0] S1x1x4096.size inb_S2x1x4096_S1x1x4096_1_0_0) (k0_pay15 v41))
  σ4

/-- The branch `fin`. -/
def finS (i : grid0.Coords) (σ : St F) : St F := if k0_cond6 i = 1#1 then finT i σ else σ

/-- What a grid point makes of the state. -/
def pointS (i : grid0.Coords) (v1 v3 : Elt F .i32) (k0_hw1 : k0_chk1 v1 v3) (σ : St F) : St F :=
  (finS i (flushS v1 (diagS v1 v3 k0_hw1 (offS v1 v3 k0_hw1 (kvS v1 v3 (initS i σ))))))

/-- The two tables at the words they hold, beside `R`. -/
def Tabs (c : Dev nD) (M : Mr) (q2 q3 : PosShare TreeShare) (T2 T3 : S10.Idx → Elt F .i32) (R : sProp 𝕄) : sProp 𝕄 :=
  iprop(owns (c : Thread nD τ) M.m2 q2 T2 ∗ owns (c : Thread nD τ) M.m3 q3 T3 ∗ R)

/-- The place of a table the point reads. -/
def at1 (i : grid0.Coords) : S10.Idx :=
  (Rect.unit (s := S10) (k0_off1 i) S1.size (k0_off1_inb i)).toLoadRect.idx (Shape.Idx.first ((numel1_S1 : S1.numel = 1).symm ▸ Nat.one_pos))

theorem front_table2 (c : Dev nD) (M : Mr) (q2 q3 : PosShare TreeShare) (T2 T3 : S10.Idx → Elt F .i32) (R : sProp 𝕄) (σ : St F) :
    Held c M (Tabs c M q2 q3 T2 T3 R) σ = iprop(owns (c : Thread nD τ) M.m2 q2 T2 ∗ Held c M iprop(owns (c : Thread nD τ) M.m3 q3 T3 ∗ R) σ) := by
  unfold Held Tabs; simp only [swap _ (owns (c : Thread nD τ) M.m2 q2 T2)]

theorem front_table3 (c : Dev nD) (M : Mr) (q2 q3 : PosShare TreeShare) (T2 T3 : S10.Idx → Elt F .i32) (R : sProp 𝕄) (σ : St F) :
    Held c M (Tabs c M q2 q3 T2 T3 R) σ = iprop(owns (c : Thread nD τ) M.m3 q3 T3 ∗ Held c M iprop(owns (c : Thread nD τ) M.m2 q2 T2 ∗ R) σ) := by
  unfold Held Tabs
  simp only [swap _ (owns (c : Thread nD τ) M.m3 q3 T3)]

set_option maxHeartbeats 2000000 in
/-- A grid point, run from buffers that hold a state, ends with them holding `pointS` of it. -/
theorem run_point {c : Dev nD} {M : Mr} {R : sProp 𝕄} (i : grid0.Coords) {q2 q3 : PosShare TreeShare} {T2 T3 : S10.Idx → Elt F .i32}
    (k0_hw1 : k0_chk1 (T2 (at1 i)) (T3 (at1 i))) {σ : St F} {Q : PUnit → sProp 𝕄}
    (hk : Held c M (Tabs c M q2 q3 T2 T3 R) (pointS i (T2 (at1 i)) (T3 (at1 i)) k0_hw1 σ) ⊢ Q ⟨⟩) :
    Held c M (Tabs c M q2 q3 T2 T3 R) σ
      ⊢ runs c (cc0_attn_bwd (F := F) i M.m2 M.h2 M.m3 M.h3 M.m4 M.h4 M.m5 M.h5 M.m6 M.h6 M.m7 M.h7 M.m8 M.h8 M.m9 M.h9 M.m10 M.h10 M.m11 M.h11 M.m12 M.h12 M.m13 M.h13 M.m14 M.h14 M.m15 M.h15 M.m16 M.h16 M.m17 M.h17 M.m18 M.h18 M.m19 M.h19 M.m20 M.h20) Q := by
  rw [cc0_attn_bwd_eq_skeleton]; unfold cc0_attn_bwd_skel
  refine smem_run (front_table2 c M q2 q3 T2 T3 R σ) ?_
  refine smem_run (front_table3 c M q2 q3 T2 T3 R σ) ?_
  refine assume_run k0_hw1 ?_

  extract_lets
  rename_i J6 J5 J4 J3 J2 J1
  refine dite_run (P' := Held c M (Tabs c M q2 q3 T2 T3 R) (initS i σ)) J1 ?_ (fun h hk => ?_) (fun h hk => ?_)
  rotate_left
  · clear_value J1
    replace h : c1 i = 1#1 := h
    rw [initS, if_pos h] at hk
    refine load_at slot_sdq ?_
    refine store_at slot_sdq ?_
    refine load_at slot_sfq ?_
    refine store_at slot_sfq ?_
    exact hk
  · clear_value J1
    replace h : ¬ c1 i = 1#1 := h
    rw [initS, if_neg h] at hk
    exact hk
  refine dite_run (P' := Held c M (Tabs c M q2 q3 T2 T3 R) (kvS (T2 (at1 i)) (T3 (at1 i)) (initS i σ))) J2 ?_ (fun h hk => ?_) (fun h hk => ?_)
  rotate_left
  · clear_value J2
    replace h : c2 (T2 (at1 i)) (T3 (at1 i)) = 1#1 := h
    rw [kvS, if_pos h] at hk
    refine load_at slot_sdk ?_
    refine store_at slot_sdk ?_
    refine load_at slot_sdv ?_
    refine store_at slot_sdv ?_
    refine load_at slot_sdf ?_
    refine store_at slot_sdf ?_
    exact hk
  · clear_value J2
    replace h : ¬ c2 (T2 (at1 i)) (T3 (at1 i)) = 1#1 := h
    rw [kvS, if_neg h] at hk
    exact hk
  refine dite_run (P' := Held c M (Tabs c M q2 q3 T2 T3 R) (offS (T2 (at1 i)) (T3 (at1 i)) k0_hw1 (kvS (T2 (at1 i)) (T3 (at1 i)) (initS i σ)))) J3 ?_ (fun h hk => ?_) (fun h hk => ?_)
  rotate_left
  · clear_value J3
    replace h : k0_cond3 (T2 (at1 i)) (T3 (at1 i)) = 1#1 := h
    rw [offS, dif_pos h] at hk
    refine bind_run (run1 _ ?_)
    refine bind_run (run2 _ _ _ _ _ _ _ _ _ _ ?_)
    refine bind_run (run3 _ _ _ _ _ _ _ ?_)
    refine bind_run (run4 _ _ _ _ _ _ _ _ _ _ _ ?_)
    refine load_at slot_sdf ?_
    refine load_at slot_sdf ?_
    refine store_at slot_sdf ?_
    refine load_at slot_sfq ?_
    refine load_at slot_sfq ?_
    refine store_at slot_sfq ?_
    exact hk
  · clear_value J3
    replace h : ¬ k0_cond3 (T2 (at1 i)) (T3 (at1 i)) = 1#1 := h
    rw [offS, dif_neg h] at hk
    exact hk
  refine dite_run (P' := Held c M (Tabs c M q2 q3 T2 T3 R) (diagS (T2 (at1 i)) (T3 (at1 i)) k0_hw1 (offS (T2 (at1 i)) (T3 (at1 i)) k0_hw1 (kvS (T2 (at1 i)) (T3 (at1 i)) (initS i σ))))) J4 ?_ (fun h hk => ?_) (fun h hk => ?_)
  rotate_left
  · clear_value J4
    replace h : k0_cond4 (T2 (at1 i)) (T3 (at1 i)) = 1#1 := h
    rw [diagS, dif_pos h] at hk
    refine bind_run (run14 _ _ _ _ _ ?_)
    refine store_at slot_sfq ?_
    exact hk
  · clear_value J4
    replace h : ¬ k0_cond4 (T2 (at1 i)) (T3 (at1 i)) = 1#1 := h
    rw [diagS, dif_neg h] at hk
    exact hk
  refine dite_run (P' := Held c M (Tabs c M q2 q3 T2 T3 R) (flushS (T2 (at1 i)) (diagS (T2 (at1 i)) (T3 (at1 i)) k0_hw1 (offS (T2 (at1 i)) (T3 (at1 i)) k0_hw1 (kvS (T2 (at1 i)) (T3 (at1 i)) (initS i σ)))))) J5 ?_ (fun h hk => ?_) (fun h hk => ?_)
  rotate_left
  · clear_value J5
    replace h : k0_cond5 (T2 (at1 i)) = 1#1 := h
    rw [flushS, if_pos h] at hk
    refine load_at slot_sdk ?_
    refine load_at slot_odk ?_
    refine store_at slot_odk ?_
    refine load_at slot_sdv ?_
    refine load_at slot_odv ?_
    refine store_at slot_odv ?_
    refine load_at slot_sdk ?_
    refine load_at slot_odk ?_
    refine store_at slot_odk ?_
    refine load_at slot_sdv ?_
    refine load_at slot_odv ?_
    refine store_at slot_odv ?_
    refine load_at slot_sdf ?_
    refine load_at slot_odf ?_
    refine store_at slot_odf ?_
    exact hk
  · clear_value J5
    replace h : ¬ k0_cond5 (T2 (at1 i)) = 1#1 := h
    rw [flushS, if_neg h] at hk
    exact hk
  refine dite_run (P' := Held c M (Tabs c M q2 q3 T2 T3 R) (finS i (flushS (T2 (at1 i)) (diagS (T2 (at1 i)) (T3 (at1 i)) k0_hw1 (offS (T2 (at1 i)) (T3 (at1 i)) k0_hw1 (kvS (T2 (at1 i)) (T3 (at1 i)) (initS i σ))))))) J6 ?_ (fun h hk => ?_) (fun h hk => ?_)
  rotate_left
  · clear_value J6
    replace h : k0_cond6 i = 1#1 := h
    rw [finS, if_pos h] at hk
    refine load_at slot_sdq ?_
    refine load_at slot_odq ?_
    refine store_at slot_odq ?_
    refine load_at slot_sfq ?_
    refine load_at slot_ofq ?_
    refine store_at slot_ofq ?_
    refine load_at slot_sdq ?_
    refine load_at slot_odq ?_
    refine store_at slot_odq ?_
    refine load_at slot_sfq ?_
    refine load_at slot_ofq ?_
    refine store_at slot_ofq ?_
    exact hk
  · clear_value J6
    replace h : ¬ k0_cond6 i = 1#1 := h
    rw [finS, if_neg h] at hk
    exact hk
  exact pure_run hk

end Cert.KernelIdeal.Attn

end
-- ==== Proof.Setup.lean ====
/- The pipeline of the attention backward at the contents its two tables hold: the side condition on them, the checks the body
   makes of their words, and what the host operations before the call leave in the buffers it reads. -/
module

public import proofs.«01_k».proof.Proof.Point
public import Idealize.ShloMosaic.Lib.Affine
public import Idealize.ShloMosaic.Lib.Pipeline.Frame
public import Idealize.ShloMosaic.Lib.Pipeline.FrameBody
public import Idealize.ShloMosaic.Lib.Pipeline.ArrRel
public import Idealize.ShloMosaic.Lib.StableHlo.RunRead
public import Idealize.ShloMosaic.PureOps.Ideal

@[expose] public section

set_option maxRecDepth 16384

noncomputable section

namespace Cert.KernelIdeal.Attn

open Cert.KernelIdeal Cert.KernelIdeal.Gen Cert.Attn
open Idealize.ShloMosaic Idealize.ShloMosaic.TcCoe
open Idealize.SL Idealize.SL.RA Idealize.SL.Sem Idealize.SL.ProofMode
open Idealize.SL.BI (sProp Entails)
open scoped Idealize.SL.BI
open Idealize.SL.BI.BIBase Idealize.SL.BI.Laws

/-- The first table: the block of query rows of each pair. -/
def tabI : S10.Idx → BitVec 32 := fun x => lit0 (S10.rowMajor x)

/-- The second table: the block of key rows of each pair. -/
def tabJ : S10.Idx → BitVec 32 := fun x => lit1 (S10.rowMajor x)

set_option backward.proofsInPublic true in
/-- The contents of the two tables. -/
def pfN : pre0.Contents (Elt Ideal) := fun | ⟨0, _⟩ => tabI | ⟨1, _⟩ => tabJ | ⟨_ + 2, h⟩ => absurd h (by simp)

theorem inb_0 : ∀ i : grid0.Coords, ∀ a, (cc0_transform_0 k0_off1_inb numel1_S1 pfN i a + 1) * S1024x256.size a ≤ S4096x5120.size a := by decide +kernel
theorem ok_0 : ∀ i : grid0.Coords, ∃ h : (∀ a, (cc0_transform_0 k0_off1_inb numel1_S1 pfN i a + 1) * S1024x256.size a ≤ S4096x5120.size a), EltTy.bits .bf16 = 32 ∨ (Rect.block (s := S4096x5120) S1024x256.size (cc0_transform_0 k0_off1_inb numel1_S1 pfN i) h).WholeWords (EltTy.packing .bf16) := fun i => ⟨inb_0 i, .inr (Affine.block_words_dvd (s := S4096x5120) (p := EltTy.packing .bf16) (by decide) (by decide))⟩
theorem inb_1 : ∀ i : grid0.Coords, ∀ a, (cc0_transform_1 k0_off1_inb numel1_S1 pfN i a + 1) * S1024x256.size a ≤ S4096x5120.size a := by decide +kernel
theorem ok_1 : ∀ i : grid0.Coords, ∃ h : (∀ a, (cc0_transform_1 k0_off1_inb numel1_S1 pfN i a + 1) * S1024x256.size a ≤ S4096x5120.size a), EltTy.bits .bf16 = 32 ∨ (Rect.block (s := S4096x5120) S1024x256.size (cc0_transform_1 k0_off1_inb numel1_S1 pfN i) h).WholeWords (EltTy.packing .bf16) := fun i => ⟨inb_1 i, .inr (Affine.block_words_dvd (s := S4096x5120) (p := EltTy.packing .bf16) (by decide) (by decide))⟩
theorem inb_2 : ∀ i : grid0.Coords, ∀ a, (cc0_transform_2 k0_off1_inb numel1_S1 pfN i a + 1) * S1024x256.size a ≤ S4096x5120.size a := by decide +kernel
theorem ok_2 : ∀ i : grid0.Coords, ∃ h : (∀ a, (cc0_transform_2 k0_off1_inb numel1_S1 pfN i a + 1) * S1024x256.size a ≤ S4096x5120.size a), EltTy.bits .bf16 = 32 ∨ (Rect.block (s := S4096x5120) S1024x256.size (cc0_transform_2 k0_off1_inb numel1_S1 pfN i) h).WholeWords (EltTy.packing .bf16) := fun i => ⟨inb_2 i, .inr (Affine.block_words_dvd (s := S4096x5120) (p := EltTy.packing .bf16) (by decide) (by decide))⟩
theorem inb_3 : ∀ i : grid0.Coords, ∀ a, (cc0_transform_3 k0_off1_inb numel1_S1 pfN i a + 1) * S1024x256.size a ≤ S4096x1024.size a := by decide +kernel
theorem ok_3 : ∀ i : grid0.Coords, ∃ h : (∀ a, (cc0_transform_3 k0_off1_inb numel1_S1 pfN i a + 1) * S1024x256.size a ≤ S4096x1024.size a), EltTy.bits .bf16 = 32 ∨ (Rect.block (s := S4096x1024) S1024x256.size (cc0_transform_3 k0_off1_inb numel1_S1 pfN i) h).WholeWords (EltTy.packing .bf16) := fun i => ⟨inb_3 i, .inr (Affine.block_words_dvd (s := S4096x1024) (p := EltTy.packing .bf16) (by decide) (by decide))⟩
theorem inb_4 : ∀ i : grid0.Coords, ∀ a, (cc0_transform_4 k0_off1_inb numel1_S1 pfN i a + 1) * S1024x256.size a ≤ S4096x1024.size a := by decide +kernel
theorem ok_4 : ∀ i : grid0.Coords, ∃ h : (∀ a, (cc0_transform_4 k0_off1_inb numel1_S1 pfN i a + 1) * S1024x256.size a ≤ S4096x1024.size a), EltTy.bits .bf16 = 32 ∨ (Rect.block (s := S4096x1024) S1024x256.size (cc0_transform_4 k0_off1_inb numel1_S1 pfN i) h).WholeWords (EltTy.packing .bf16) := fun i => ⟨inb_4 i, .inr (Affine.block_words_dvd (s := S4096x1024) (p := EltTy.packing .bf16) (by decide) (by decide))⟩
theorem inb_5 : ∀ i : grid0.Coords, ∀ a, (cc0_transform_5 k0_off1_inb numel1_S1 pfN i a + 1) * S2x1024x128.size a ≤ S8x4096x128.size a := by decide +kernel
theorem ok_5 : ∀ i : grid0.Coords, ∃ h : (∀ a, (cc0_transform_5 k0_off1_inb numel1_S1 pfN i a + 1) * S2x1024x128.size a ≤ S8x4096x128.size a), EltTy.bits .f32 = 32 ∨ (Rect.block (s := S8x4096x128) S2x1024x128.size (cc0_transform_5 k0_off1_inb numel1_S1 pfN i) h).WholeWords (EltTy.packing .f32) := fun i => ⟨inb_5 i, .inl rfl⟩
theorem inb_6 : ∀ i : grid0.Coords, ∀ a, (cc0_transform_6 k0_off1_inb numel1_S1 pfN i a + 1) * S2x1x1024.size a ≤ S8x1x4096.size a := by decide +kernel
theorem ok_6 : ∀ i : grid0.Coords, ∃ h : (∀ a, (cc0_transform_6 k0_off1_inb numel1_S1 pfN i a + 1) * S2x1x1024.size a ≤ S8x1x4096.size a), EltTy.bits .f32 = 32 ∨ (Rect.block (s := S8x1x4096) S2x1x1024.size (cc0_transform_6 k0_off1_inb numel1_S1 pfN i) h).WholeWords (EltTy.packing .f32) := fun i => ⟨inb_6 i, .inl rfl⟩
theorem inb_7 : ∀ i : grid0.Coords, ∀ a, (cc0_transform_8 k0_off1_inb numel1_S1 pfN i a + 1) * S1024x256.size a ≤ S4096x1024.size a := by decide +kernel
theorem ok_7 : ∀ i : grid0.Coords, ∃ h : (∀ a, (cc0_transform_8 k0_off1_inb numel1_S1 pfN i a + 1) * S1024x256.size a ≤ S4096x1024.size a), EltTy.bits .bf16 = 32 ∨ (Rect.block (s := S4096x1024) S1024x256.size (cc0_transform_8 k0_off1_inb numel1_S1 pfN i) h).WholeWords (EltTy.packing .bf16) := fun i => ⟨inb_7 i, .inr (Affine.block_words_dvd (s := S4096x1024) (p := EltTy.packing .bf16) (by decide) (by decide))⟩
theorem inb_8 : ∀ i : grid0.Coords, ∀ a, (cc0_transform_9 k0_off1_inb numel1_S1 pfN i a + 1) * S1024x256.size a ≤ S4096x1024.size a := by decide +kernel
theorem ok_8 : ∀ i : grid0.Coords, ∃ h : (∀ a, (cc0_transform_9 k0_off1_inb numel1_S1 pfN i a + 1) * S1024x256.size a ≤ S4096x1024.size a), EltTy.bits .bf16 = 32 ∨ (Rect.block (s := S4096x1024) S1024x256.size (cc0_transform_9 k0_off1_inb numel1_S1 pfN i) h).WholeWords (EltTy.packing .bf16) := fun i => ⟨inb_8 i, .inr (Affine.block_words_dvd (s := S4096x1024) (p := EltTy.packing .bf16) (by decide) (by decide))⟩
theorem inb_9 : ∀ i : grid0.Coords, ∀ a, (cc0_transform_10 k0_off1_inb numel1_S1 pfN i a + 1) * S2x1x1024.size a ≤ S8x1x4096.size a := by decide +kernel
theorem ok_9 : ∀ i : grid0.Coords, ∃ h : (∀ a, (cc0_transform_10 k0_off1_inb numel1_S1 pfN i a + 1) * S2x1x1024.size a ≤ S8x1x4096.size a), EltTy.bits .f32 = 32 ∨ (Rect.block (s := S8x1x4096) S2x1x1024.size (cc0_transform_10 k0_off1_inb numel1_S1 pfN i) h).WholeWords (EltTy.packing .f32) := fun i => ⟨inb_9 i, .inl rfl⟩

/-- Every block the index maps name at these tables lies inside its array. -/
theorem ok_pfN : ok0 (F := Ideal) pfN := ⟨ok_0, ok_1, ok_2, ok_3, ok_4, ok_5, ok_6, ok_7, ok_8, ok_9⟩

/-- The tables' contents as admissible ones, and the pipeline at them. -/
def adm : (pcfg0 (F := Ideal)).Adm := ⟨pfN, ok_pfN⟩
abbrev cfgA : Pipeline.Cfg sig Λ₀ := cfg0 (F := Ideal) adm

/-- The checks the body makes of the two words it loads hold at every point. -/
theorem chk_all : ∀ i : grid0.Coords, k0_chk1 (tabI (at1 i)) (tabJ (at1 i)) := by decide +kernel

variable {F : FTy → Type} [FloatOps F] [Named F]

/-- The tables' contents as admissible ones at any floats: the side condition reads no float. -/
def admF : (pcfg0 (F := F)).Adm := ⟨fun | ⟨0, _⟩ => tabI | ⟨1, _⟩ => tabJ | ⟨_ + 2, h⟩ => absurd h (by simp), ok_pfN⟩

variable (m : (ℓ : Loc nD τ sig) → Buf (Elt F) ℓ)

/-- What the host operations before the call leave in a buffer of a device. -/
abbrev V (c : Dev nD) (b : Ref sig .tc) : Buf (Elt F) ((c.tc : Thread nD τ).loc b) :=
  StableHlo.after ([hostOps0, hostOps0_1, hostOps0_2] : List (List (HloOp τ sig (Elt F)))).flatten (fun b => m (c, b)) b

set_option maxHeartbeats 4000000 in
theorem V_tab0 (c : Dev nD) : V m c main_c = tabI := by
  simp only [V, List.flatten_cons, List.flatten_nil, List.append_nil, List.cons_append, List.nil_append]
  after_reads_simp
  rfl

set_option maxHeartbeats 4000000 in
theorem V_tab1 (c : Dev nD) : V m c main_c_0 = tabJ := by
  simp only [V, List.flatten_cons, List.flatten_nil, List.append_nil, List.cons_append, List.nil_append]
  after_reads_simp
  rfl

set_option maxHeartbeats 4000000 in
theorem V_arg0 (c : Dev nD) : V m c main_arg0 = m ((c.tc : Thread nD τ).loc main_arg0) := by
  simp only [V, List.flatten_cons, List.flatten_nil, List.append_nil, List.cons_append, List.nil_append]
  after_reads_simp

set_option maxHeartbeats 4000000 in
theorem V_arg1 (c : Dev nD) : V m c main_arg1 = m ((c.tc : Thread nD τ).loc main_arg1) := by
  simp only [V, List.flatten_cons, List.flatten_nil, List.append_nil, List.cons_append, List.nil_append]
  after_reads_simp

set_option maxHeartbeats 4000000 in
theorem V_arg2 (c : Dev nD) : V m c main_arg2 = m ((c.tc : Thread nD τ).loc main_arg2) := by
  simp only [V, List.flatten_cons, List.flatten_nil, List.append_nil, List.cons_append, List.nil_append]
  after_reads_simp

end Cert.KernelIdeal.Attn

end
-- ==== Proof.Run.lean ====
/- The run of the attention backward from an invariant of its five accumulators and a statement of its five results, both left
   open: what a grid point must do to them is the one hypothesis. -/
module

public import proofs.«01_k».proof.Proof.Setup

@[expose] public section

set_option maxRecDepth 16384

noncomputable section

namespace Cert.KernelIdeal.Attn

open Cert.KernelIdeal Cert.KernelIdeal.Gen Cert.Attn
open Idealize.ShloMosaic Idealize.ShloMosaic.TcCoe
open Idealize.SL Idealize.SL.RA Idealize.SL.Sem Idealize.SL.ProofMode
open Idealize.SL.BI (sProp Entails)
open scoped Idealize.SL.BI
open Idealize.SL.BI.BIBase Idealize.SL.BI.Laws
open Idealize.ShloMosaic.Pipeline (RDat)

variable {F : FTy → Type} [FloatOps F] [Named F]

local notation "𝕄" => MT nD τ sig Unit (Elt F) ℕ (UR sig nD τ) ℕ

/-- An invariant of the accumulators before each point, and what each result's block is to be where a point leaves it. -/
structure Goal (F : FTy → Type) where
  inv : ℕ → (S2x4096x128.Idx → Elt F .f32) → (S2x1024x128.Idx → Elt F .f32) → (S2x1024x128.Idx → Elt F .f32) → (S2x1x1024.Idx → Elt F .f32) → (S2x4096x128.Idx → Elt F .f32) → Prop

  odq : Fin (cfgA).N → (S4096x256.Idx → Elt F .bf16) → Prop
  odk : Fin (cfgA).N → (S1024x256.Idx → Elt F .bf16) → Prop
  odv : Fin (cfgA).N → (S1024x256.Idx → Elt F .bf16) → Prop
  odf : Fin (cfgA).N → (S2x1x1024.Idx → Elt F .f32) → Prop
  ofq : Fin (cfgA).N → (S2x1x4096.Idx → Elt F .f32) → Prop

variable (m : (ℓ : Loc nD τ sig) → Buf (Elt F) ℓ)

/-- The block of input window `w` at point `t`, read off its array. -/
def blkIn (c : Dev nD) (w : Fin (cfgA).W) (t : Fin (cfgA).N) : (((cfgA).win w).xblock ((cfgA).grid.coords t)).Idx → Elt F ((cfgA).win w).elt :=
  (((cfgA).win w).blk t).view.read (Elt F) (V m c (Pipeline.arrRef (cfgA).spec w))

/-- Each input block at the state's own type. -/
def in_q (c : Dev nD) (t : Fin (cfgA).N) : (S1024x256.Idx → Elt F .bf16) := blkIn m c (0 : Fin 12) t
def in_k (c : Dev nD) (t : Fin (cfgA).N) : (S1024x256.Idx → Elt F .bf16) := blkIn m c (1 : Fin 12) t
def in_v (c : Dev nD) (t : Fin (cfgA).N) : (S1024x256.Idx → Elt F .bf16) := blkIn m c (2 : Fin 12) t
def in_o (c : Dev nD) (t : Fin (cfgA).N) : (S1024x256.Idx → Elt F .bf16) := blkIn m c (3 : Fin 12) t
def in_d (c : Dev nD) (t : Fin (cfgA).N) : (S1024x256.Idx → Elt F .bf16) := blkIn m c (4 : Fin 12) t
def in_ls (c : Dev nD) (t : Fin (cfgA).N) : (S2x1024x128.Idx → Elt F .f32) := blkIn m c (5 : Fin 12) t
def in_fk (c : Dev nD) (t : Fin (cfgA).N) : (S2x1x1024.Idx → Elt F .f32) := blkIn m c (6 : Fin 12) t

/-- A state holds the input blocks of point `t`. -/
def HasIn (c : Dev nD) (t : Fin (cfgA).N) (σ : St F) : Prop :=
  σ.q = in_q m c t ∧ σ.k = in_k m c t ∧ σ.v = in_v m c t ∧ σ.o = in_o m c t ∧ σ.d = in_d m c t ∧ σ.ls = in_ls m c t ∧ σ.fk = in_fk m c t

variable (G : Dev nD → Goal F)

/-- A state's accumulators satisfy the invariant before point `n`. -/
def Goal.holds (G : Goal F) (n : ℕ) (σ : St F) : Prop := G.inv n σ.sdq σ.sdk σ.sdv σ.sdf σ.sfq

/-- The state's result blocks are what is wanted of point `t`. -/
def Goal.outs (G : Goal F) (t : Fin (cfgA).N) (σ : St F) : Prop := G.odq t σ.odq ∧ G.odk t σ.odk ∧ G.odv t σ.odv ∧ G.odf t σ.odf ∧ G.ofq t σ.ofq

/-- What a grid point must do: carry the invariant on and leave the wanted blocks. -/
def Goal.Step (G : Goal F) (c : Dev nD) : Prop :=
  ∀ (t : Fin (cfgA).N) (σ : St F), HasIn m c t σ → G.holds t.val σ →
    G.holds (t.val + 1) (pointS ((cfgA).grid.coords t) (tabI (at1 ((cfgA).grid.coords t))) (tabJ (at1 ((cfgA).grid.coords t))) (chk_all _) σ)
    ∧ G.outs t (pointS ((cfgA).grid.coords t) (tabI (at1 ((cfgA).grid.coords t))) (tabJ (at1 ((cfgA).grid.coords t))) (chk_all _) σ)

/-- What may be left in a window's buffer: an input's as found, a result's as wanted. -/
def after (G : Goal F) : (w : Fin (cfgA).W) → Fin (cfgA).N → (Y X : ((cfgA).win w).block.Idx → Elt F ((cfgA).win w).elt) → Prop

  | ⟨0, _⟩ => fun _ Y X => X = Y
  | ⟨1, _⟩ => fun _ Y X => X = Y
  | ⟨2, _⟩ => fun _ Y X => X = Y
  | ⟨3, _⟩ => fun _ Y X => X = Y
  | ⟨4, _⟩ => fun _ Y X => X = Y
  | ⟨5, _⟩ => fun _ Y X => X = Y
  | ⟨6, _⟩ => fun _ Y X => X = Y
  | ⟨7, _⟩ => fun t _ X => G.odq t X
  | ⟨8, _⟩ => fun t _ X => G.odk t X
  | ⟨9, _⟩ => fun t _ X => G.odv t X
  | ⟨10, _⟩ => fun t _ X => G.odf t X
  | ⟨11, _⟩ => fun t _ X => G.ofq t X
  | ⟨_ + 12, h⟩ => absurd h (Nat.not_lt.2 (Nat.le_add_left _ _))

/-- The two tables as a body holds them. -/
def tabs (c : Dev nD) : sProp 𝕄 :=
  iprop(owns (c : Thread nD τ) (Memref.whole main_c) fullShare.right tabI ∗ owns (c : Thread nD τ) (Memref.whole main_c_0) fullShare.right tabJ)

/-- The invariant before point `n`: the accumulators at contents the goal allows, the generator's register, the tables. -/
def Phi (G : Goal F) (c : Dev nD) (n : ℕ) : sProp 𝕄 :=
  iprop(∃ (sdq : (S2x4096x128.Idx → Elt F .f32)) (sdk : (S2x1024x128.Idx → Elt F .f32)) (sdv : (S2x1024x128.Idx → Elt F .f32)) (sdf : (S2x1x1024.Idx → Elt F .f32)) (sfq : (S2x4096x128.Idx → Elt F .f32)), ⌜G.inv n sdq sdk sdv sdf sfq⌝
    ∗ owns (c : Thread nD τ) (Memref.whole cc0_scratch0) fullShare sdq ∗ owns (c : Thread nD τ) (Memref.whole cc0_scratch1) fullShare sdk ∗ owns (c : Thread nD τ) (Memref.whole cc0_scratch2) fullShare sdv ∗ owns (c : Thread nD τ) (Memref.whole cc0_scratch3) fullShare sdf ∗ owns (c : Thread nD τ) (Memref.whole cc0_scratch4) fullShare sfq
    ∗ (∃ r, prngReg c r) ∗ tabs c)

theorem phi_mk (G : Goal F) (c : Dev nD) (n : ℕ) {sdq : (S2x4096x128.Idx → Elt F .f32)} {sdk : (S2x1024x128.Idx → Elt F .f32)} {sdv : (S2x1024x128.Idx → Elt F .f32)} {sdf : (S2x1x1024.Idx → Elt F .f32)} {sfq : (S2x4096x128.Idx → Elt F .f32)} (h : G.inv n sdq sdk sdv sdf sfq) :
    iprop(owns (c : Thread nD τ) (Memref.whole cc0_scratch0) fullShare sdq ∗ owns (c : Thread nD τ) (Memref.whole cc0_scratch1) fullShare sdk ∗ owns (c : Thread nD τ) (Memref.whole cc0_scratch2) fullShare sdv ∗ owns (c : Thread nD τ) (Memref.whole cc0_scratch3) fullShare sdf ∗ owns (c : Thread nD τ) (Memref.whole cc0_scratch4) fullShare sfq
    ∗ (∃ r, prngReg c r) ∗ tabs c) ⊢ Phi G c n := by
  unfold Phi
  iintro H
  iexists sdq; iexists sdk; iexists sdv; iexists sdf; iexists sfq
  isplitr; · ipureintro; exact h
  iexact H

/-- The proof data of a core. -/
def rdat (c : Dev nD) : RDat τ (Elt F) Unit ℕ (UR sig nD τ) ℕ (cfgA) c where
  A w := V m c (Pipeline.arrRef (cfgA).spec w)
  after := after (G c)
  Φ t := Phi (G c) c t.val
  q w := Pipeline.shareOf (cfgA).spec w
  owed _ := 0

/-- The memrefs a point's body is called with. -/
def mrs (t : Fin (cfgA).N) : Mr where
  m2 := Memref.whole main_c
  h2 := Memref.isWhole_whole _
  m3 := Memref.whole main_c_0
  h3 := Memref.isWhole_whole _
  m4 := spec0_0.stage ((cfgA).slots t (0 : Fin 12))
  h4 := hstage0_0 (((cfgA).slots t (0 : Fin 12)).cast nbuf0_0)
  m5 := spec0_1.stage ((cfgA).slots t (1 : Fin 12))
  h5 := hstage0_1 (((cfgA).slots t (1 : Fin 12)).cast nbuf0_1)
  m6 := spec0_2.stage ((cfgA).slots t (2 : Fin 12))
  h6 := hstage0_2 (((cfgA).slots t (2 : Fin 12)).cast nbuf0_2)
  m7 := spec0_3.stage ((cfgA).slots t (3 : Fin 12))
  h7 := hstage0_3 (((cfgA).slots t (3 : Fin 12)).cast nbuf0_3)
  m8 := spec0_4.stage ((cfgA).slots t (4 : Fin 12))
  h8 := hstage0_4 (((cfgA).slots t (4 : Fin 12)).cast nbuf0_4)
  m9 := spec0_5.stage ((cfgA).slots t (5 : Fin 12))
  h9 := hstage0_5 (((cfgA).slots t (5 : Fin 12)).cast nbuf0_5)
  m10 := spec0_6.stage ((cfgA).slots t (6 : Fin 12))
  h10 := hstage0_6 (((cfgA).slots t (6 : Fin 12)).cast nbuf0_6)
  m11 := spec0_7.stage ((cfgA).slots t (7 : Fin 12))
  h11 := hstage0_7 (((cfgA).slots t (7 : Fin 12)).cast nbuf0_7)
  m12 := spec0_8.stage ((cfgA).slots t (8 : Fin 12))
  h12 := hstage0_8 (((cfgA).slots t (8 : Fin 12)).cast nbuf0_8)
  m13 := spec0_9.stage ((cfgA).slots t (9 : Fin 12))
  h13 := hstage0_9 (((cfgA).slots t (9 : Fin 12)).cast nbuf0_9)
  m14 := spec0_10.stage ((cfgA).slots t (10 : Fin 12))
  h14 := hstage0_10 (((cfgA).slots t (10 : Fin 12)).cast nbuf0_10)
  m15 := spec0_11.stage ((cfgA).slots t (11 : Fin 12))
  h15 := hstage0_11 (((cfgA).slots t (11 : Fin 12)).cast nbuf0_11)
  m16 := Memref.whole cc0_scratch0
  h16 := Memref.isWhole_whole _
  m17 := Memref.whole cc0_scratch1
  h17 := Memref.isWhole_whole _
  m18 := Memref.whole cc0_scratch2
  h18 := Memref.isWhole_whole _
  m19 := Memref.whole cc0_scratch3
  h19 := Memref.isWhole_whole _
  m20 := Memref.whole cc0_scratch4
  h20 := Memref.isWhole_whole _

theorem finds_q (c : Dev nD) (t : Fin (cfgA).N) (Y : (S1024x256.Idx → Elt F .bf16)) (h : (rdat m G c).Finds (0 : Fin 12) t Y) : Y = in_q m c t := by
  obtain ⟨d, hd⟩ := (rdat m G c).finds_in_eq_fetched (0 : Fin 12) rfl (fun _ _ _ => rfl) (fun _ _ _ h => h) t Y h
  exact hd

theorem finds_k (c : Dev nD) (t : Fin (cfgA).N) (Y : (S1024x256.Idx → Elt F .bf16)) (h : (rdat m G c).Finds (1 : Fin 12) t Y) : Y = in_k m c t := by
  obtain ⟨d, hd⟩ := (rdat m G c).finds_in_eq_fetched (1 : Fin 12) rfl (fun _ _ _ => rfl) (fun _ _ _ h => h) t Y h
  exact hd

theorem finds_v (c : Dev nD) (t : Fin (cfgA).N) (Y : (S1024x256.Idx → Elt F .bf16)) (h : (rdat m G c).Finds (2 : Fin 12) t Y) : Y = in_v m c t := by
  obtain ⟨d, hd⟩ := (rdat m G c).finds_in_eq_fetched (2 : Fin 12) rfl (fun _ _ _ => rfl) (fun _ _ _ h => h) t Y h
  exact hd

theorem finds_o (c : Dev nD) (t : Fin (cfgA).N) (Y : (S1024x256.Idx → Elt F .bf16)) (h : (rdat m G c).Finds (3 : Fin 12) t Y) : Y = in_o m c t := by
  obtain ⟨d, hd⟩ := (rdat m G c).finds_in_eq_fetched (3 : Fin 12) rfl (fun _ _ _ => rfl) (fun _ _ _ h => h) t Y h
  exact hd

theorem finds_d (c : Dev nD) (t : Fin (cfgA).N) (Y : (S1024x256.Idx → Elt F .bf16)) (h : (rdat m G c).Finds (4 : Fin 12) t Y) : Y = in_d m c t := by
  obtain ⟨d, hd⟩ := (rdat m G c).finds_in_eq_fetched (4 : Fin 12) rfl (fun _ _ _ => rfl) (fun _ _ _ h => h) t Y h
  exact hd

theorem finds_ls (c : Dev nD) (t : Fin (cfgA).N) (Y : (S2x1024x128.Idx → Elt F .f32)) (h : (rdat m G c).Finds (5 : Fin 12) t Y) : Y = in_ls m c t := by
  obtain ⟨d, hd⟩ := (rdat m G c).finds_in_eq_fetched (5 : Fin 12) rfl (fun _ _ _ => rfl) (fun _ _ _ h => h) t Y h
  exact hd

theorem finds_fk (c : Dev nD) (t : Fin (cfgA).N) (Y : (S2x1x1024.Idx → Elt F .f32)) (h : (rdat m G c).Finds (6 : Fin 12) t Y) : Y = in_fk m c t := by
  obtain ⟨d, hd⟩ := (rdat m G c).finds_in_eq_fetched (6 : Fin 12) rfl (fun _ _ _ => rfl) (fun _ _ _ h => h) t Y h
  exact hd

theorem keep_init_q (i : grid0.Coords) (v1 v3 : Elt F .i32) (h : k0_chk1 v1 v3) (σ : St F) : (initS i σ).q = σ.q := by
  unfold initS; split
  · dsimp only [initT, St.set_odq, St.set_odk, St.set_odv, St.set_odf, St.set_ofq, St.set_sdk, St.set_sdv, St.set_sdf, St.set_sdq, St.set_sfq]
  · rfl
theorem keep_kv_q (i : grid0.Coords) (v1 v3 : Elt F .i32) (h : k0_chk1 v1 v3) (σ : St F) : (kvS v1 v3 σ).q = σ.q := by
  unfold kvS; split
  · dsimp only [kvT, St.set_odq, St.set_odk, St.set_odv, St.set_odf, St.set_ofq, St.set_sdk, St.set_sdv, St.set_sdf, St.set_sdq, St.set_sfq]
  · rfl
theorem keep_off_q (i : grid0.Coords) (v1 v3 : Elt F .i32) (h : k0_chk1 v1 v3) (σ : St F) : (offS v1 v3 h σ).q = σ.q := by
  unfold offS; split
  · dsimp only [offT, f1, f2, f3, f4, St.set_odq, St.set_odk, St.set_odv, St.set_odf, St.set_ofq, St.set_sdk, St.set_sdv, St.set_sdf, St.set_sdq, St.set_sfq]
  · rfl
theorem keep_diag_q (i : grid0.Coords) (v1 v3 : Elt F .i32) (h : k0_chk1 v1 v3) (σ : St F) : (diagS v1 v3 h σ).q = σ.q := by
  unfold diagS; split
  · dsimp only [diagT, f5, f6, f7, f8, f9, f10, f11, f12, f13, f14, St.set_odq, St.set_odk, St.set_odv, St.set_odf, St.set_ofq, St.set_sdk, St.set_sdv, St.set_sdf, St.set_sdq, St.set_sfq]
  · rfl
theorem keep_flush_q (i : grid0.Coords) (v1 v3 : Elt F .i32) (h : k0_chk1 v1 v3) (σ : St F) : (flushS v1 σ).q = σ.q := by
  unfold flushS; split
  · dsimp only [flushT, St.set_odq, St.set_odk, St.set_odv, St.set_odf, St.set_ofq, St.set_sdk, St.set_sdv, St.set_sdf, St.set_sdq, St.set_sfq]
  · rfl
theorem keep_fin_q (i : grid0.Coords) (v1 v3 : Elt F .i32) (h : k0_chk1 v1 v3) (σ : St F) : (finS i σ).q = σ.q := by
  unfold finS; split
  · dsimp only [finT, St.set_odq, St.set_odk, St.set_odv, St.set_odf, St.set_ofq, St.set_sdk, St.set_sdv, St.set_sdf, St.set_sdq, St.set_sfq]
  · rfl
theorem keep_q (i : grid0.Coords) (v1 v3 : Elt F .i32) (h : k0_chk1 v1 v3) (σ : St F) : (pointS i v1 v3 h σ).q = σ.q := by
  unfold pointS; rw [keep_fin_q i v1 v3 h, keep_flush_q i v1 v3 h, keep_diag_q i, keep_off_q i, keep_kv_q i v1 v3 h, keep_init_q i v1 v3 h]
theorem keep_init_k (i : grid0.Coords) (v1 v3 : Elt F .i32) (h : k0_chk1 v1 v3) (σ : St F) : (initS i σ).k = σ.k := by
  unfold initS; split
  · dsimp only [initT, St.set_odq, St.set_odk, St.set_odv, St.set_odf, St.set_ofq, St.set_sdk, St.set_sdv, St.set_sdf, St.set_sdq, St.set_sfq]
  · rfl
theorem keep_kv_k (i : grid0.Coords) (v1 v3 : Elt F .i32) (h : k0_chk1 v1 v3) (σ : St F) : (kvS v1 v3 σ).k = σ.k := by
  unfold kvS; split
  · dsimp only [kvT, St.set_odq, St.set_odk, St.set_odv, St.set_odf, St.set_ofq, St.set_sdk, St.set_sdv, St.set_sdf, St.set_sdq, St.set_sfq]
  · rfl
theorem keep_off_k (i : grid0.Coords) (v1 v3 : Elt F .i32) (h : k0_chk1 v1 v3) (σ : St F) : (offS v1 v3 h σ).k = σ.k := by
  unfold offS; split
  · dsimp only [offT, f1, f2, f3, f4, St.set_odq, St.set_odk, St.set_odv, St.set_odf, St.set_ofq, St.set_sdk, St.set_sdv, St.set_sdf, St.set_sdq, St.set_sfq]
  · rfl
theorem keep_diag_k (i : grid0.Coords) (v1 v3 : Elt F .i32) (h : k0_chk1 v1 v3) (σ : St F) : (diagS v1 v3 h σ).k = σ.k := by
  unfold diagS; split
  · dsimp only [diagT, f5, f6, f7, f8, f9, f10, f11, f12, f13, f14, St.set_odq, St.set_odk, St.set_odv, St.set_odf, St.set_ofq, St.set_sdk, St.set_sdv, St.set_sdf, St.set_sdq, St.set_sfq]
  · rfl
theorem keep_flush_k (i : grid0.Coords) (v1 v3 : Elt F .i32) (h : k0_chk1 v1 v3) (σ : St F) : (flushS v1 σ).k = σ.k := by
  unfold flushS; split
  · dsimp only [flushT, St.set_odq, St.set_odk, St.set_odv, St.set_odf, St.set_ofq, St.set_sdk, St.set_sdv, St.set_sdf, St.set_sdq, St.set_sfq]
  · rfl
theorem keep_fin_k (i : grid0.Coords) (v1 v3 : Elt F .i32) (h : k0_chk1 v1 v3) (σ : St F) : (finS i σ).k = σ.k := by
  unfold finS; split
  · dsimp only [finT, St.set_odq, St.set_odk, St.set_odv, St.set_odf, St.set_ofq, St.set_sdk, St.set_sdv, St.set_sdf, St.set_sdq, St.set_sfq]
  · rfl
theorem keep_k (i : grid0.Coords) (v1 v3 : Elt F .i32) (h : k0_chk1 v1 v3) (σ : St F) : (pointS i v1 v3 h σ).k = σ.k := by
  unfold pointS; rw [keep_fin_k i v1 v3 h, keep_flush_k i v1 v3 h, keep_diag_k i, keep_off_k i, keep_kv_k i v1 v3 h, keep_init_k i v1 v3 h]
theorem keep_init_v (i : grid0.Coords) (v1 v3 : Elt F .i32) (h : k0_chk1 v1 v3) (σ : St F) : (initS i σ).v = σ.v := by
  unfold initS; split
  · dsimp only [initT, St.set_odq, St.set_odk, St.set_odv, St.set_odf, St.set_ofq, St.set_sdk, St.set_sdv, St.set_sdf, St.set_sdq, St.set_sfq]
  · rfl
theorem keep_kv_v (i : grid0.Coords) (v1 v3 : Elt F .i32) (h : k0_chk1 v1 v3) (σ : St F) : (kvS v1 v3 σ).v = σ.v := by
  unfold kvS; split
  · dsimp only [kvT, St.set_odq, St.set_odk, St.set_odv, St.set_odf, St.set_ofq, St.set_sdk, St.set_sdv, St.set_sdf, St.set_sdq, St.set_sfq]
  · rfl
theorem keep_off_v (i : grid0.Coords) (v1 v3 : Elt F .i32) (h : k0_chk1 v1 v3) (σ : St F) : (offS v1 v3 h σ).v = σ.v := by
  unfold offS; split
  · dsimp only [offT, f1, f2, f3, f4, St.set_odq, St.set_odk, St.set_odv, St.set_odf, St.set_ofq, St.set_sdk, St.set_sdv, St.set_sdf, St.set_sdq, St.set_sfq]
  · rfl
theorem keep_diag_v (i : grid0.Coords) (v1 v3 : Elt F .i32) (h : k0_chk1 v1 v3) (σ : St F) : (diagS v1 v3 h σ).v = σ.v := by
  unfold diagS; split
  · dsimp only [diagT, f5, f6, f7, f8, f9, f10, f11, f12, f13, f14, St.set_odq, St.set_odk, St.set_odv, St.set_odf, St.set_ofq, St.set_sdk, St.set_sdv, St.set_sdf, St.set_sdq, St.set_sfq]
  · rfl
theorem keep_flush_v (i : grid0.Coords) (v1 v3 : Elt F .i32) (h : k0_chk1 v1 v3) (σ : St F) : (flushS v1 σ).v = σ.v := by
  unfold flushS; split
  · dsimp only [flushT, St.set_odq, St.set_odk, St.set_odv, St.set_odf, St.set_ofq, St.set_sdk, St.set_sdv, St.set_sdf, St.set_sdq, St.set_sfq]
  · rfl
theorem keep_fin_v (i : grid0.Coords) (v1 v3 : Elt F .i32) (h : k0_chk1 v1 v3) (σ : St F) : (finS i σ).v = σ.v := by
  unfold finS; split
  · dsimp only [finT, St.set_odq, St.set_odk, St.set_odv, St.set_odf, St.set_ofq, St.set_sdk, St.set_sdv, St.set_sdf, St.set_sdq, St.set_sfq]
  · rfl
theorem keep_v (i : grid0.Coords) (v1 v3 : Elt F .i32) (h : k0_chk1 v1 v3) (σ : St F) : (pointS i v1 v3 h σ).v = σ.v := by
  unfold pointS; rw [keep_fin_v i v1 v3 h, keep_flush_v i v1 v3 h, keep_diag_v i, keep_off_v i, keep_kv_v i v1 v3 h, keep_init_v i v1 v3 h]
theorem keep_init_o (i : grid0.Coords) (v1 v3 : Elt F .i32) (h : k0_chk1 v1 v3) (σ : St F) : (initS i σ).o = σ.o := by
  unfold initS; split
  · dsimp only [initT, St.set_odq, St.set_odk, St.set_odv, St.set_odf, St.set_ofq, St.set_sdk, St.set_sdv, St.set_sdf, St.set_sdq, St.set_sfq]
  · rfl
theorem keep_kv_o (i : grid0.Coords) (v1 v3 : Elt F .i32) (h : k0_chk1 v1 v3) (σ : St F) : (kvS v1 v3 σ).o = σ.o := by
  unfold kvS; split
  · dsimp only [kvT, St.set_odq, St.set_odk, St.set_odv, St.set_odf, St.set_ofq, St.set_sdk, St.set_sdv, St.set_sdf, St.set_sdq, St.set_sfq]
  · rfl
theorem keep_off_o (i : grid0.Coords) (v1 v3 : Elt F .i32) (h : k0_chk1 v1 v3) (σ : St F) : (offS v1 v3 h σ).o = σ.o := by
  unfold offS; split
  · dsimp only [offT, f1, f2, f3, f4, St.set_odq, St.set_odk, St.set_odv, St.set_odf, St.set_ofq, St.set_sdk, St.set_sdv, St.set_sdf, St.set_sdq, St.set_sfq]
  · rfl
theorem keep_diag_o (i : grid0.Coords) (v1 v3 : Elt F .i32) (h : k0_chk1 v1 v3) (σ : St F) : (diagS v1 v3 h σ).o = σ.o := by
  unfold diagS; split
  · dsimp only [diagT, f5, f6, f7, f8, f9, f10, f11, f12, f13, f14, St.set_odq, St.set_odk, St.set_odv, St.set_odf, St.set_ofq, St.set_sdk, St.set_sdv, St.set_sdf, St.set_sdq, St.set_sfq]
  · rfl
theorem keep_flush_o (i : grid0.Coords) (v1 v3 : Elt F .i32) (h : k0_chk1 v1 v3) (σ : St F) : (flushS v1 σ).o = σ.o := by
  unfold flushS; split
  · dsimp only [flushT, St.set_odq, St.set_odk, St.set_odv, St.set_odf, St.set_ofq, St.set_sdk, St.set_sdv, St.set_sdf, St.set_sdq, St.set_sfq]
  · rfl
theorem keep_fin_o (i : grid0.Coords) (v1 v3 : Elt F .i32) (h : k0_chk1 v1 v3) (σ : St F) : (finS i σ).o = σ.o := by
  unfold finS; split
  · dsimp only [finT, St.set_odq, St.set_odk, St.set_odv, St.set_odf, St.set_ofq, St.set_sdk, St.set_sdv, St.set_sdf, St.set_sdq, St.set_sfq]
  · rfl
theorem keep_o (i : grid0.Coords) (v1 v3 : Elt F .i32) (h : k0_chk1 v1 v3) (σ : St F) : (pointS i v1 v3 h σ).o = σ.o := by
  unfold pointS; rw [keep_fin_o i v1 v3 h, keep_flush_o i v1 v3 h, keep_diag_o i, keep_off_o i, keep_kv_o i v1 v3 h, keep_init_o i v1 v3 h]
theorem keep_init_d (i : grid0.Coords) (v1 v3 : Elt F .i32) (h : k0_chk1 v1 v3) (σ : St F) : (initS i σ).d = σ.d := by
  unfold initS; split
  · dsimp only [initT, St.set_odq, St.set_odk, St.set_odv, St.set_odf, St.set_ofq, St.set_sdk, St.set_sdv, St.set_sdf, St.set_sdq, St.set_sfq]
  · rfl
theorem keep_kv_d (i : grid0.Coords) (v1 v3 : Elt F .i32) (h : k0_chk1 v1 v3) (σ : St F) : (kvS v1 v3 σ).d = σ.d := by
  unfold kvS; split
  · dsimp only [kvT, St.set_odq, St.set_odk, St.set_odv, St.set_odf, St.set_ofq, St.set_sdk, St.set_sdv, St.set_sdf, St.set_sdq, St.set_sfq]
  · rfl
theorem keep_off_d (i : grid0.Coords) (v1 v3 : Elt F .i32) (h : k0_chk1 v1 v3) (σ : St F) : (offS v1 v3 h σ).d = σ.d := by
  unfold offS; split
  · dsimp only [offT, f1, f2, f3, f4, St.set_odq, St.set_odk, St.set_odv, St.set_odf, St.set_ofq, St.set_sdk, St.set_sdv, St.set_sdf, St.set_sdq, St.set_sfq]
  · rfl
theorem keep_diag_d (i : grid0.Coords) (v1 v3 : Elt F .i32) (h : k0_chk1 v1 v3) (σ : St F) : (diagS v1 v3 h σ).d = σ.d := by
  unfold diagS; split
  · dsimp only [diagT, f5, f6, f7, f8, f9, f10, f11, f12, f13, f14, St.set_odq, St.set_odk, St.set_odv, St.set_odf, St.set_ofq, St.set_sdk, St.set_sdv, St.set_sdf, St.set_sdq, St.set_sfq]
  · rfl
theorem keep_flush_d (i : grid0.Coords) (v1 v3 : Elt F .i32) (h : k0_chk1 v1 v3) (σ : St F) : (flushS v1 σ).d = σ.d := by
  unfold flushS; split
  · dsimp only [flushT, St.set_odq, St.set_odk, St.set_odv, St.set_odf, St.set_ofq, St.set_sdk, St.set_sdv, St.set_sdf, St.set_sdq, St.set_sfq]
  · rfl
theorem keep_fin_d (i : grid0.Coords) (v1 v3 : Elt F .i32) (h : k0_chk1 v1 v3) (σ : St F) : (finS i σ).d = σ.d := by
  unfold finS; split
  · dsimp only [finT, St.set_odq, St.set_odk, St.set_odv, St.set_odf, St.set_ofq, St.set_sdk, St.set_sdv, St.set_sdf, St.set_sdq, St.set_sfq]
  · rfl
theorem keep_d (i : grid0.Coords) (v1 v3 : Elt F .i32) (h : k0_chk1 v1 v3) (σ : St F) : (pointS i v1 v3 h σ).d = σ.d := by
  unfold pointS; rw [keep_fin_d i v1 v3 h, keep_flush_d i v1 v3 h, keep_diag_d i, keep_off_d i, keep_kv_d i v1 v3 h, keep_init_d i v1 v3 h]
theorem keep_init_ls (i : grid0.Coords) (v1 v3 : Elt F .i32) (h : k0_chk1 v1 v3) (σ : St F) : (initS i σ).ls = σ.ls := by
  unfold initS; split
  · dsimp only [initT, St.set_odq, St.set_odk, St.set_odv, St.set_odf, St.set_ofq, St.set_sdk, St.set_sdv, St.set_sdf, St.set_sdq, St.set_sfq]
  · rfl
theorem keep_kv_ls (i : grid0.Coords) (v1 v3 : Elt F .i32) (h : k0_chk1 v1 v3) (σ : St F) : (kvS v1 v3 σ).ls = σ.ls := by
  unfold kvS; split
  · dsimp only [kvT, St.set_odq, St.set_odk, St.set_odv, St.set_odf, St.set_ofq, St.set_sdk, St.set_sdv, St.set_sdf, St.set_sdq, St.set_sfq]
  · rfl
theorem keep_off_ls (i : grid0.Coords) (v1 v3 : Elt F .i32) (h : k0_chk1 v1 v3) (σ : St F) : (offS v1 v3 h σ).ls = σ.ls := by
  unfold offS; split
  · dsimp only [offT, f1, f2, f3, f4, St.set_odq, St.set_odk, St.set_odv, St.set_odf, St.set_ofq, St.set_sdk, St.set_sdv, St.set_sdf, St.set_sdq, St.set_sfq]
  · rfl
theorem keep_diag_ls (i : grid0.Coords) (v1 v3 : Elt F .i32) (h : k0_chk1 v1 v3) (σ : St F) : (diagS v1 v3 h σ).ls = σ.ls := by
  unfold diagS; split
  · dsimp only [diagT, f5, f6, f7, f8, f9, f10, f11, f12, f13, f14, St.set_odq, St.set_odk, St.set_odv, St.set_odf, St.set_ofq, St.set_sdk, St.set_sdv, St.set_sdf, St.set_sdq, St.set_sfq]
  · rfl
theorem keep_flush_ls (i : grid0.Coords) (v1 v3 : Elt F .i32) (h : k0_chk1 v1 v3) (σ : St F) : (flushS v1 σ).ls = σ.ls := by
  unfold flushS; split
  · dsimp only [flushT, St.set_odq, St.set_odk, St.set_odv, St.set_odf, St.set_ofq, St.set_sdk, St.set_sdv, St.set_sdf, St.set_sdq, St.set_sfq]
  · rfl
theorem keep_fin_ls (i : grid0.Coords) (v1 v3 : Elt F .i32) (h : k0_chk1 v1 v3) (σ : St F) : (finS i σ).ls = σ.ls := by
  unfold finS; split
  · dsimp only [finT, St.set_odq, St.set_odk, St.set_odv, St.set_odf, St.set_ofq, St.set_sdk, St.set_sdv, St.set_sdf, St.set_sdq, St.set_sfq]
  · rfl
theorem keep_ls (i : grid0.Coords) (v1 v3 : Elt F .i32) (h : k0_chk1 v1 v3) (σ : St F) : (pointS i v1 v3 h σ).ls = σ.ls := by
  unfold pointS; rw [keep_fin_ls i v1 v3 h, keep_flush_ls i v1 v3 h, keep_diag_ls i, keep_off_ls i, keep_kv_ls i v1 v3 h, keep_init_ls i v1 v3 h]
theorem keep_init_fk (i : grid0.Coords) (v1 v3 : Elt F .i32) (h : k0_chk1 v1 v3) (σ : St F) : (initS i σ).fk = σ.fk := by
  unfold initS; split
  · dsimp only [initT, St.set_odq, St.set_odk, St.set_odv, St.set_odf, St.set_ofq, St.set_sdk, St.set_sdv, St.set_sdf, St.set_sdq, St.set_sfq]
  · rfl
theorem keep_kv_fk (i : grid0.Coords) (v1 v3 : Elt F .i32) (h : k0_chk1 v1 v3) (σ : St F) : (kvS v1 v3 σ).fk = σ.fk := by
  unfold kvS; split
  · dsimp only [kvT, St.set_odq, St.set_odk, St.set_odv, St.set_odf, St.set_ofq, St.set_sdk, St.set_sdv, St.set_sdf, St.set_sdq, St.set_sfq]
  · rfl
theorem keep_off_fk (i : grid0.Coords) (v1 v3 : Elt F .i32) (h : k0_chk1 v1 v3) (σ : St F) : (offS v1 v3 h σ).fk = σ.fk := by
  unfold offS; split
  · dsimp only [offT, f1, f2, f3, f4, St.set_odq, St.set_odk, St.set_odv, St.set_odf, St.set_ofq, St.set_sdk, St.set_sdv, St.set_sdf, St.set_sdq, St.set_sfq]
  · rfl
theorem keep_diag_fk (i : grid0.Coords) (v1 v3 : Elt F .i32) (h : k0_chk1 v1 v3) (σ : St F) : (diagS v1 v3 h σ).fk = σ.fk := by
  unfold diagS; split
  · dsimp only [diagT, f5, f6, f7, f8, f9, f10, f11, f12, f13, f14, St.set_odq, St.set_odk, St.set_odv, St.set_odf, St.set_ofq, St.set_sdk, St.set_sdv, St.set_sdf, St.set_sdq, St.set_sfq]
  · rfl
theorem keep_flush_fk (i : grid0.Coords) (v1 v3 : Elt F .i32) (h : k0_chk1 v1 v3) (σ : St F) : (flushS v1 σ).fk = σ.fk := by
  unfold flushS; split
  · dsimp only [flushT, St.set_odq, St.set_odk, St.set_odv, St.set_odf, St.set_ofq, St.set_sdk, St.set_sdv, St.set_sdf, St.set_sdq, St.set_sfq]
  · rfl
theorem keep_fin_fk (i : grid0.Coords) (v1 v3 : Elt F .i32) (h : k0_chk1 v1 v3) (σ : St F) : (finS i σ).fk = σ.fk := by
  unfold finS; split
  · dsimp only [finT, St.set_odq, St.set_odk, St.set_odv, St.set_odf, St.set_ofq, St.set_sdk, St.set_sdv, St.set_sdf, St.set_sdq, St.set_sfq]
  · rfl
theorem keep_fk (i : grid0.Coords) (v1 v3 : Elt F .i32) (h : k0_chk1 v1 v3) (σ : St F) : (pointS i v1 v3 h σ).fk = σ.fk := by
  unfold pointS; rw [keep_fin_fk i v1 v3 h, keep_flush_fk i v1 v3 h, keep_diag_fk i, keep_off_fk i, keep_kv_fk i v1 v3 h, keep_init_fk i v1 v3 h]

set_option maxHeartbeats 4000000 in
/-- The body at every point, from the step. -/
theorem body_ok (c : Dev nD) (hstep : (G c).Step m c) : (rdat m G c).BodyObligation (defs₀ (F := F)) Variants.none () Set.univ := by
  intro t Y hY
  rw [bigSep_W0, bigSep_W0]
  show iprop(Phi (G c) c t.val ∗ _ ∗ _) ⊢ wp frame _ Set.univ (cc0_attn_bwd ((cfgA).grid.coords t) (mrs t).m2 (mrs t).h2 (mrs t).m3 (mrs t).h3 (mrs t).m4 (mrs t).h4 (mrs t).m5 (mrs t).h5 (mrs t).m6 (mrs t).h6 (mrs t).m7 (mrs t).h7 (mrs t).m8 (mrs t).h8 (mrs t).m9 (mrs t).h9 (mrs t).m10 (mrs t).h10 (mrs t).m11 (mrs t).h11 (mrs t).m12 (mrs t).h12 (mrs t).m13 (mrs t).h13 (mrs t).m14 (mrs t).h14 (mrs t).m15 (mrs t).h15 (mrs t).m16 (mrs t).h16 (mrs t).m17 (mrs t).h17 (mrs t).m18 (mrs t).h18 (mrs t).m19 (mrs t).h19 (mrs t).m20 (mrs t).h20) _
  unfold Phi tabs
  iintro ⟨⟨%sdq, %sdk, %sdv, %sdf, %sfq, %hI, S0, S1, S2, S3, S4, HP, T0, T1⟩, Ho, H0, H1, H2, H3, H4, H5, H6, H7, H8, H9, H10, H11⟩
  have hin : HasIn m c t ({ q := Y (0 : Fin 12), k := Y (1 : Fin 12), v := Y (2 : Fin 12), o := Y (3 : Fin 12), d := Y (4 : Fin 12), ls := Y (5 : Fin 12), fk := Y (6 : Fin 12), odq := Y (7 : Fin 12), odk := Y (8 : Fin 12), odv := Y (9 : Fin 12), odf := Y (10 : Fin 12), ofq := Y (11 : Fin 12), sdq := sdq, sdk := sdk, sdv := sdv, sdf := sdf, sfq := sfq } : St F) := ⟨finds_q m G c t _ (hY (0 : Fin 12)), finds_k m G c t _ (hY (1 : Fin 12)), finds_v m G c t _ (hY (2 : Fin 12)), finds_o m G c t _ (hY (3 : Fin 12)), finds_d m G c t _ (hY (4 : Fin 12)), finds_ls m G c t _ (hY (5 : Fin 12)), finds_fk m G c t _ (hY (6 : Fin 12))⟩
  obtain ⟨hs1, hs2⟩ := hstep t _ hin hI
  iapply (run_point (c := c) (M := mrs t) (R := iprop((rdat m G c).owesAt () t.castSucc ∗ ∃ r, prngReg c r)) ((cfgA).grid.coords t) (q2 := fullShare.right) (q3 := fullShare.right) (T2 := tabI) (T3 := tabJ) (chk_all _)
    (σ := { q := Y (0 : Fin 12), k := Y (1 : Fin 12), v := Y (2 : Fin 12), o := Y (3 : Fin 12), d := Y (4 : Fin 12), ls := Y (5 : Fin 12), fk := Y (6 : Fin 12), odq := Y (7 : Fin 12), odk := Y (8 : Fin 12), odv := Y (9 : Fin 12), odf := Y (10 : Fin 12), ofq := Y (11 : Fin 12), sdq := sdq, sdk := sdk, sdv := sdv, sdf := sdf, sfq := sfq }) ?_)
  · unfold Held Tabs
    iintro ⟨H0, H1, H2, H3, H4, H5, H6, H7, H8, H9, H10, H11, S0, S1, S2, S3, S4, T0, T1, Ho, HP⟩
    isplitl [S0 S1 S2 S3 S4 HP T0 T1]
    · iapply (show _ ⊢ (rdat m G c).Φ t.succ from phi_mk (G c) c (t.val + 1) hs1)
      isplitl [S0]; · iexact S0
      isplitl [S1]; · iexact S1
      isplitl [S2]; · iexact S2
      isplitl [S3]; · iexact S3
      isplitl [S4]; · iexact S4
      isplitl [HP]; · iexact HP
      unfold tabs; isplitl [T0]; · iexact T0
      iexact T1
    isplitl [Ho]; · iexact Ho
    isplitl [H0]
    · iexists _; isplitr; swap
      · iexact H0
      · ipureintro; exact keep_q _ _ _ _ _
    isplitl [H1]
    · iexists _; isplitr; swap
      · iexact H1
      · ipureintro; exact keep_k _ _ _ _ _
    isplitl [H2]
    · iexists _; isplitr; swap
      · iexact H2
      · ipureintro; exact keep_v _ _ _ _ _
    isplitl [H3]
    · iexists _; isplitr; swap
      · iexact H3
      · ipureintro; exact keep_o _ _ _ _ _
    isplitl [H4]
    · iexists _; isplitr; swap
      · iexact H4
      · ipureintro; exact keep_d _ _ _ _ _
    isplitl [H5]
    · iexists _; isplitr; swap
      · iexact H5
      · ipureintro; exact keep_ls _ _ _ _ _
    isplitl [H6]
    · iexists _; isplitr; swap
      · iexact H6
      · ipureintro; exact keep_fk _ _ _ _ _
    isplitl [H7]
    · iexists _; isplitr; swap
      · iexact H7
      · ipureintro; exact hs2.1
    isplitl [H8]
    · iexists _; isplitr; swap
      · iexact H8
      · ipureintro; exact hs2.2.1
    isplitl [H9]
    · iexists _; isplitr; swap
      · iexact H9
      · ipureintro; exact hs2.2.2.1
    isplitl [H10]
    · iexists _; isplitr; swap
      · iexact H10
      · ipureintro; exact hs2.2.2.2.1
    iexists _; isplitr; swap
    · iexact H11
    · ipureintro; exact hs2.2.2.2.2
  · unfold Held Tabs

    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [S0]; · iexact S0
    isplitl [S1]; · iexact S1
    isplitl [S2]; · iexact S2
    isplitl [S3]; · iexact S3
    isplitl [S4]; · iexact S4
    isplitl [T0]; · iexact T0
    isplitl [T1]; · iexact T1
    isplitl [Ho]; · iexact Ho
    iexact HP

end Cert.KernelIdeal.Attn

end
-- ==== Proof.Frame.lean ====
/- The run of the whole program: host operations, then the call. -/
module

public import proofs.«01_k».proof.Proof.Run

@[expose] public section

set_option maxRecDepth 16384

noncomputable section

namespace Cert.KernelIdeal.Attn

open Cert.KernelIdeal Cert.KernelIdeal.Gen Cert.Attn
open Idealize.ShloMosaic Idealize.ShloMosaic.TcCoe
open Idealize.SL Idealize.SL.RA Idealize.SL.Sem Idealize.SL.ProofMode
open Idealize.SL.BI (sProp Entails)
open scoped Idealize.SL.BI
open Idealize.SL.BI.BIBase Idealize.SL.BI.Laws
open Idealize.ShloMosaic.Pipeline (RDat)

variable {F : FTy → Type} [FloatOps F] [Named F]

local notation "𝕄" => MT nD τ sig Unit (Elt F) ℕ (UR sig nD τ) ℕ

variable (m : (ℓ : Loc nD τ sig) → Buf (Elt F) ℓ) (G : Dev nD → Goal F)

theorem tabs_eq (c : Dev nD) (v : pre0.Contents (Elt F)) :
    (Pipeline.prefHeld (Ix := Unit) (Name := ℕ) (U := UR sig nD τ) (Lvl := ℕ) pre0 c (fun _ => fullShare.right) v : sProp 𝕄)
      = iprop((((c : Thread nD τ).loc main_c) ↦{fullShare.right} v 0) ∗ (((c : Thread nD τ).loc main_c_0) ↦{fullShare.right} v 1)) := by
  unfold Pipeline.prefHeld
  rw [show (Finset.univ : Finset (Fin 2)) = insert (0 : Fin 2) {(1 : Fin 2)} from by decide,
    Idealize.SL.BI.bigSep_insert (by decide), Idealize.SL.BI.bigSep_singleton]
  rfl

/-- The invariant before the first point, from what the region hands over. -/
theorem phi_first (c : Dev nD) (h : ∀ s0 s1 s2 s3 s4, (G c).inv 0 s0 s1 s2 s3 s4) :
    iprop(Pipeline.ΦA (cfgA).spec c ∗ Pipeline.ΦT (pcfgs (F := F) 0).pre admF.1 c) ⊢ (rdat m G c).Φ 0 := by
  show iprop(Pipeline.ΦA spec0 c ∗ Pipeline.prefHeld pre0 c (fun _ => fullShare.right) (admF (F := F)).1) ⊢ Phi (G c) c 0
  rw [tabs_eq]
  unfold Pipeline.ΦA
  rw [scopedRest0_eq]
  iintro ⟨⟨⟨⟨%a0, H0⟩, ⟨%a1, H1⟩, ⟨%a2, H2⟩, ⟨%a3, H3⟩, ⟨%a4, H4⟩⟩, HP⟩, T0, T1⟩
  iapply (phi_mk (G c) c 0 (h a0 a1 a2 a3 a4))
  unfold tabs
  isplitl [H0]; · iapply (Entails.of_eq (owns_whole (c : Thread nD τ) cc0_scratch0 fullShare a0).symm); iexact H0
  isplitl [H1]; · iapply (Entails.of_eq (owns_whole (c : Thread nD τ) cc0_scratch1 fullShare a1).symm); iexact H1
  isplitl [H2]; · iapply (Entails.of_eq (owns_whole (c : Thread nD τ) cc0_scratch2 fullShare a2).symm); iexact H2
  isplitl [H3]; · iapply (Entails.of_eq (owns_whole (c : Thread nD τ) cc0_scratch3 fullShare a3).symm); iexact H3
  isplitl [H4]; · iapply (Entails.of_eq (owns_whole (c : Thread nD τ) cc0_scratch4 fullShare a4).symm); iexact H4
  isplitl [HP]; · iexact HP
  isplitl [T0]; · iapply (Entails.of_eq (owns_whole (c : Thread nD τ) main_c fullShare.right tabI).symm); iexact T0
  iapply (Entails.of_eq (owns_whole (c : Thread nD τ) main_c_0 fullShare.right tabJ).symm); iexact T1

/-- After the last point the accumulators are given back. -/
theorem phi_last (c : Dev nD) : (rdat m G c).Φ (Fin.last (cfgA).N) ⊢ Pipeline.ΦA (cfgA).spec c := by
  show Phi (G c) c (cfgA).N ⊢ Pipeline.ΦA spec0 c
  unfold Phi Pipeline.ΦA
  rw [scopedRest0_eq]
  iintro ⟨%a0, %a1, %a2, %a3, %a4, -, H0, H1, H2, H3, H4, HP, -⟩
  isplitr [HP]
  · isplitl [H0]; · iexists a0; iapply (Entails.of_eq (owns_whole (c : Thread nD τ) cc0_scratch0 fullShare a0)); iexact H0
    isplitl [H1]; · iexists a1; iapply (Entails.of_eq (owns_whole (c : Thread nD τ) cc0_scratch1 fullShare a1)); iexact H1
    isplitl [H2]; · iexists a2; iapply (Entails.of_eq (owns_whole (c : Thread nD τ) cc0_scratch2 fullShare a2)); iexact H2
    isplitl [H3]; · iexists a3; iapply (Entails.of_eq (owns_whole (c : Thread nD τ) cc0_scratch3 fullShare a3)); iexact H3
    iexists a4; iapply (Entails.of_eq (owns_whole (c : Thread nD τ) cc0_scratch4 fullShare a4)); iexact H4
  · iexact HP

theorem V_pre (c : Dev nD) (k : Fin 2) : V m c (pre0.ref k) = admF.1 k := by
  fin_cases k
  · exact V_tab0 m c
  · exact V_tab1 m c

set_option backward.isDefEq.respectTransparency.types false in
set_option maxHeartbeats 4000000 in
/-- From any memory with zero counters the program ends, every windowed array at what the goals allow, every other
    unscoped buffer as the host operations left it, every counter at zero. -/
theorem run_main (g : Dev nD → PrngReg) (hinit : ∀ c s0 s1 s2 s3 s4, (G c).inv 0 s0 s1 s2 s3 s4) (hstep : ∀ c, (G c).Step m c) :
    θ_run (defs (F := F)) (onTc (τ := τ) (main (F := F))) (s₀ m g)
      (fun r => RDat.FramePost (cfgA) (rdat m G) (V m) r ∧ r.2.sem = fun _ => 0) :=
  RDat.θ_run_frameP_track_shared (pcfgs (F := F)) (fun _ => admF) (0 : Fin 1) launch₀0 defs₀ Variants.none (rdat m G) m g main
    (fun c => body_ok m G c (hstep c)) (fun _ _ _ => rfl) (fun _ _ => rfl) (V m)
    (Pipeline.hmainP_prefixes (pcfgs (F := F)) (0 : Fin 1) defs₀ Variants.none m main [hostOps0, hostOps0_1, hostOps0_2]
      ⟨hostOps0_sub, hostOps0_1_sub, hostOps0_2_sub⟩ (by simp only [List.Forall]; repeat' constructor) main_chain)
    (fun _ _ => rfl) (V_pre m) (fun c => phi_first m G c (hinit c)) (phi_last m G)
    (Q' := fun r => RDat.FramePost (cfgA) (rdat m G) (V m) r ∧ r.2.sem = fun _ => 0) (hQ' := fun _ h => h)

theorem arr_arg0 (r : PUnit × MemSt nD τ sig (Elt F)) (h : RDat.FramePost (cfgA) (rdat m G) (V m) r) (c : Dev nD) :
    r.2.mem ((c.tc : Thread nD τ).loc main_arg0) = m ((c.tc : Thread nD τ).loc main_arg0) :=
  (h.arr_in c (0 : Fin 12) rfl).trans (V_arg0 m c)

theorem arr_arg2 (r : PUnit × MemSt nD τ sig (Elt F)) (h : RDat.FramePost (cfgA) (rdat m G) (V m) r) (c : Dev nD) :
    r.2.mem ((c.tc : Thread nD τ).loc main_arg2) = m ((c.tc : Thread nD τ).loc main_arg2) :=
  (h.arr_in c (4 : Fin 12) rfl).trans (V_arg2 m c)

theorem arr_arg1 (r : PUnit × MemSt nD τ sig (Elt F)) (h : RDat.FramePost (cfgA) (rdat m G) (V m) r) (c : Dev nD) :
    r.2.mem ((c.tc : Thread nD τ).loc main_arg1) = m ((c.tc : Thread nD τ).loc main_arg1) :=
  ((h c).2 main_arg1 (by decide)).trans (V_arg1 m c)

/-- A goal that asks nothing. -/
def freeGoal : Goal F := ⟨fun _ _ _ _ _ _ => True, fun _ _ => True, fun _ _ => True, fun _ _ => True, fun _ _ => True, fun _ _ => True⟩

/-- The program ends, its arguments as they were and every counter at zero. -/
theorem frame (g : Dev nD → PrngReg) :
    θ_run (defs (F := F)) (onTc (τ := τ) (main (F := F))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) ∧ r.2.sem = fun _ => 0) :=
  (θ_run defs _ _).mono (fun r h => ⟨fun c => ⟨arr_arg0 m _ r h.1 c, arr_arg1 m _ r h.1 c, arr_arg2 m _ r h.1 c⟩, h.2⟩)
    (run_main m (fun _ => freeGoal) g (fun _ _ _ _ _ _ => trivial) (fun _ _ _ _ _ => ⟨trivial, trivial, trivial, trivial, trivial, trivial⟩))

end Cert.KernelIdeal.Attn

end
-- ==== Proof.FrameBits.lean ====
/- The run of the program at the bit-exact floats. The program over the extended reals is stated at any floats that give its named
   constants a value; at the bit-exact ones with each constant its bits it is the kernel's own program, so its run is that one's. -/
module

public import proofs.«01_k».proof.Defs
public import proofs.«01_k».proof.Proof.Frame
public import proofs.«01_k».proof.Proof.Gen.Kernel

@[expose] public section

set_option maxRecDepth 100000

noncomputable section

namespace Cert.Kernel.Attn

open Idealize.ShloMosaic Idealize.ShloMosaic.TcCoe

/-- At the bit-exact floats a named constant is its bits. -/
instance namedBits : Named Bits where named _ _ φ bits := Scalar.ofBits φ bits

set_option maxHeartbeats 1000000 in
/-- The two programs have the same bodies there. -/
theorem bodies : @Cert.Kernel.defs₀ Bits _ _ = @Cert.KernelIdeal.defs₀ Bits _ _ _ := by
  funext p
  cases p with
  | tc =>
    funext l a
    match l, a with
    | ⟨0, _⟩, ⟨t, s⟩ => rfl
    | ⟨n + 1, h⟩, _ => exact absurd h (Nat.not_lt.2 (Nat.le_add_left _ _))
  | scScalar => rfl
  | scVector => rfl

set_option maxHeartbeats 4000000 in
/-- The two programs have the same main there. -/
theorem mains : @Cert.Kernel.main Bits _ _ = @Cert.KernelIdeal.main Bits _ _ _ := rfl

set_option maxHeartbeats 4000000 in
/-- The program ends, its arguments as they were and every counter at zero. -/
theorem frame (m : (ℓ : Loc Cert.Kernel.nD Cert.Kernel.τ Cert.Kernel.sig) → Buf (Elt Bits) ℓ) (g : Dev Cert.Kernel.nD → PrngReg) :
    θ_run (Cert.Kernel.defs (F := Bits)) (onTc (τ := Cert.Kernel.τ) (Cert.Kernel.main (F := Bits))) ⟨m, fun _ => 0, g⟩
      (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)) ∧ r.2.sem = fun _ => 0) := by
  have h := Cert.KernelIdeal.Attn.frame (F := Bits) m g
  unfold Cert.KernelIdeal.defs at h
  rw [← mains, ← bodies] at h
  exact h

end Cert.Kernel.Attn

end
-- ==== Proof.Entries.lean ====
/- Arrays of extended reals read at pairs and triples of natural numbers. -/
module

public import Idealize.ShloMosaic.Lib.Pointwise
public import Idealize.ShloMosaic.Lib.Pipeline.Value
public import Idealize.ShloMosaic.Lib.Pipeline.ValueKit.Geometry
public import Idealize.ShloMosaic.Lib.Pipeline.ValueKit.Acc
public import Idealize.ShloMosaic.Lib.ValueIdx
public import Idealize.ShloMosaic.PureOps.Ideal.Laws

@[expose] public section

noncomputable section

namespace Cert.Entries

open Idealize.ShloMosaic

/-- The entry in row `i` and column `j`, zero outside the matrix. -/
def e2 {a b : ℕ} (X : (⟨2, ![a, b]⟩ : Shape).Idx → EReal) (i j : ℕ) : EReal :=
  if h : i < a ∧ j < b then X (ix2 ⟨i, h.1⟩ ⟨j, h.2⟩) else 0

/-- The entry at three coordinates, zero outside the array. -/
def e3 {a b c : ℕ} (X : (⟨3, ![a, b, c]⟩ : Shape).Idx → EReal) (i j k : ℕ) : EReal :=
  if h : i < a ∧ j < b ∧ k < c then X (ix3 ⟨i, h.1⟩ ⟨j, h.2.1⟩ ⟨k, h.2.2⟩) else 0

/-- A matrix at an index is its entry at the coordinates' values. -/
theorem at2 {a b : ℕ} (X : (⟨2, ![a, b]⟩ : Shape).Idx → EReal) (y : (⟨2, ![a, b]⟩ : Shape).Idx) {i j : ℕ}
    (h0 : (y 0).val = i) (h1 : (y 1).val = j) : X y = e2 X i j := by
  subst h0 h1
  unfold e2
  rw [dif_pos ⟨(y 0).isLt, (y 1).isLt⟩]
  refine congrArg X (funext fun k => ?_)
  match k with
  | ⟨0, _⟩ => rfl
  | ⟨1, _⟩ => rfl

/-- An array with three axes at an index is its entry at the coordinates' values. -/
theorem at3 {a b c : ℕ} (X : (⟨3, ![a, b, c]⟩ : Shape).Idx → EReal) (y : (⟨3, ![a, b, c]⟩ : Shape).Idx) {i j l : ℕ}
    (h0 : (y 0).val = i) (h1 : (y 1).val = j) (h2 : (y 2).val = l) : X y = e3 X i j l := by
  subst h0 h1 h2
  unfold e3
  rw [dif_pos ⟨(y 0).isLt, (y 1).isLt, (y 2).isLt⟩]
  refine congrArg X (funext fun k => ?_)
  match k with
  | ⟨0, _⟩ => rfl
  | ⟨1, _⟩ => rfl
  | ⟨2, _⟩ => rfl

/-- An index of a matrix is the pair of its coordinates. -/
theorem eta2 {a b : ℕ} (y : (⟨2, ![a, b]⟩ : Shape).Idx) : y = ix2 (y 0) (y 1) := by
  funext k
  match k with
  | ⟨0, _⟩ => rfl
  | ⟨1, _⟩ => rfl

/-- An index of an array with three axes, the first of one place. -/
theorem eta3 {a b : ℕ} (y : (⟨3, ![1, a, b]⟩ : Shape).Idx) : y = ix3 0 (y 1) (y 2) := by
  funext k
  match k with
  | ⟨0, _⟩ => exact Subsingleton.elim (α := Fin 1) _ _
  | ⟨1, _⟩ => rfl
  | ⟨2, _⟩ => rfl

/-- The literal two. -/
theorem lit_two : Ideal.ofBits .f32 0x40000000#32 = 2 := by
  simp [Ideal.ofBits, Ideal.ieee]
  rw [← EReal.coe_mul]
  norm_num
  rfl

/-- Twice a product, as the sum that the product rule makes. -/
theorem twice (a s : EReal) : a * s + s * a = s * (2 * a) := by
  rw [mul_comm a s, mul_left_comm s 2 a, ← one_add_one_eq_two, EReal.right_distrib_of_nonneg zero_le_one zero_le_one, one_mul]

/-- A place on an axis that a whole access takes is the same place. -/
theorem unit_val {n : ℕ} (k : Fin n) : 0 + 1 * k.val = k.val := by omega

/-- A place in block zero of an axis is the same place on the axis. -/
theorem zero_val (b : ℕ) {n : ℕ} (k : Fin n) : 0 * b + k.val = k.val := by omega

/-- The place that block index `r` and place `k` in the block make on an axis cut into blocks of length `b`. -/
theorem place {v n b r k s : ℕ} (h : v = n * b + k) (hn : n = r) (hs : r * b + k = s) : v = s := by
  rw [h, hn, hs]

/-- An entry of a matrix read through a map of indices. -/
theorem read2 {a b p q : ℕ} (X : (⟨2, ![a, b]⟩ : Shape).Idx → EReal) (f : (⟨2, ![p, q]⟩ : Shape).Idx → (⟨2, ![a, b]⟩ : Shape).Idx) {i j i' j' : ℕ}
    (hi : i < p) (hj : j < q) (h0 : (f (ix2 ⟨i, hi⟩ ⟨j, hj⟩) 0).val = i') (h1 : (f (ix2 ⟨i, hi⟩ ⟨j, hj⟩) 1).val = j') :
    e2 (fun y => X (f y)) i j = e2 X i' j' :=
  (dif_pos ⟨hi, hj⟩).trans (at2 X _ h0 h1)

/-- An entry of an array with three axes read through a map of indices. -/
theorem read3 {a b c p q r : ℕ} (X : (⟨3, ![a, b, c]⟩ : Shape).Idx → EReal) (f : (⟨3, ![p, q, r]⟩ : Shape).Idx → (⟨3, ![a, b, c]⟩ : Shape).Idx)
    {i j l i' j' l' : ℕ} (hi : i < p) (hj : j < q) (hl : l < r) (h0 : (f (ix3 ⟨i, hi⟩ ⟨j, hj⟩ ⟨l, hl⟩) 0).val = i')
    (h1 : (f (ix3 ⟨i, hi⟩ ⟨j, hj⟩ ⟨l, hl⟩) 1).val = j') (h2 : (f (ix3 ⟨i, hi⟩ ⟨j, hj⟩ ⟨l, hl⟩) 2).val = l') :
    e3 (fun y => X (f y)) i j l = e3 X i' j' l' :=
  (dif_pos ⟨hi, hj, hl⟩).trans (at3 X _ h0 h1 h2)

/-- A sum over `n · b` indices is the sum of `n` sums of `b` terms. -/
theorem sum_blocks (n b : ℕ) (g : ℕ → EReal) : ∑ k : Fin (n * b), g k.val = ∑ q : Fin n, ∑ k : Fin b, g (q.val * b + k.val) := by
  rw [← Fintype.sum_prod_type', ← Equiv.sum_comp finProdFinEquiv]
  refine Finset.sum_congr rfl fun x _ => congrArg g ?_
  show x.2.val + b * x.1.val = _
  ring

end Cert.Entries

end
-- ==== Proof.InProj.lean ====
/- The input projection: the kernel and the reference end with the same matrix. -/
module

public import proofs.«01_k».proof.Proof.Entries
public import proofs.«01_k».proof.Defs
public import proofs.«01_k».proof.Proof.Gen.InProj.Frame
public import proofs.«01_k».proof.Proof.Gen.InProjIdeal.Value
public import proofs.«01_k».proof.Proof.Gen.InProjReferenceIdeal.Read

@[expose] public section

noncomputable section

namespace Cert.InProjIdeal.Product

open Cert.InProjIdeal Cert.InProjIdeal.Gen Cert.Entries
open Idealize.ShloMosaic

/-- An entry of the product of `a` and the transposed `b`. -/
def entry (a : S4096x2048.Idx → EReal) (b : S5120x2048.Idx → EReal) (i j : ℕ) : EReal := ∑ k : Fin 2048, e2 a i k * e2 b j k

/-- One chunk of columns of a block of the product. -/
theorem pay (x : Vec Ideal S2048x2048 .bf16) (w : Vec Ideal S256x2048 .bf16) (i : Fin 2048) (j : Fin 256) :
    k0_pay1 (F := Ideal) x w (ix2 i j) = ∑ k : Fin 2048, x (ix2 i k) * w (ix2 j k) := by
  pointwise [k0_pay1]

/-- A block of the product. -/
theorem out_at (x : Vec Ideal S2048x2048 .bf16) (w : Vec Ideal S1024x2048 .bf16) (y : S2048x1024.Idx) :
    out0_2 (F := Ideal) x w y = ∑ k : Fin 2048, e2 x (y 0).val k * e2 w (y 1).val k := by
  refine View.canon_apply_of_pieces (Val := Elt Ideal) (e := .bf16) (fun y : S2048x1024.Idx => (∑ k : Fin 2048, e2 x (y 0).val k * e2 w (y 1).val k : EReal)) _ ?_ y (cover0_2 _ _ _ _ y)
  intro p hp
  simp only [List.mem_cons, List.not_mem_nil, or_false] at hp
  rcases hp with rfl | rfl | rfl | rfl
  all_goals
    intro z
    refine ((congrArg _ (eta2 z)).trans (pay _ _ (z 0) (z 1))).trans (Finset.sum_congr rfl fun k _ => congrArg₂ (· * ·) (at2 x _ rfl ?_) (at2 w _ rfl ?_))
    · exact unit_val k
    · exact unit_val k

/-- The block indices of the three windows. -/
theorem idx (t : Fin cfg0.N) : win0_0.index t = ![t.val / 5, 0] ∧ win0_1.index t = ![t.val % 5, 0] ∧ win0_2.index t = ![t.val / 5, t.val % 5] :=
  (by decide +kernel : ∀ t : Fin grid0.N, win0_0.index t = ![t.val / 5, 0] ∧ win0_1.index t = ![t.val % 5, 0] ∧ win0_2.index t = ![t.val / 5, t.val % 5]) t

theorem covers : (cfg0.win 2).Covers := by decide +kernel

variable (m : (ℓ : Loc nD τ sig) → Buf (Elt Ideal) ℓ)

/-- The kernel's result is the product. -/
theorem result (c : Dev nD) : (Gen.dats m 0 c).arrAt 2 cfg0.N =
    fun y : S4096x5120.Idx => entry (m ((c.tc : Thread nD τ).loc main_arg0)) (m ((c.tc : Thread nD τ).loc main_arg1)) (y 0).val (y 1).val := by
  refine (Gen.dats m 0 c).arrAt_eq_of_covers 2 _ covers fun t hf y => ?_
  show (Gen.dats m 0 c).after 2 t ((cfg0.win 2).xinj (cfg0.grid.coords t) y) = entry _ _ (((cfg0.win 2).rect t).emb y 0).val (((cfg0.win 2).rect t).emb y 1).val
  obtain ⟨i0, i1, i2⟩ := idx t
  rw [after0_2, (cfg0.win 2).rect_emb_val t y 0, (cfg0.win 2).rect_emb_val t y 1]
  refine (out_at _ _ _).trans (Finset.sum_congr rfl fun k _ => congrArg₂ (· * ·) ?_ ?_)
  · refine (dif_pos ⟨(y 0).isLt, k.isLt⟩).trans (at2 _ (((cfg0.win 0).rect t).emb _) ?_ ?_)
    · exact ((cfg0.win 0).rect_emb_val t _ 0).trans (congrArg (· * 2048 + (y 0).val) ((congrFun i0 0).trans (congrFun i2 0).symm))
    · exact ((cfg0.win 0).rect_emb_val t _ 1).trans ((congrArg (· * 2048 + k.val) (congrFun i0 1)).trans (zero_val 2048 k))
  · refine (dif_pos ⟨(y 1).isLt, k.isLt⟩).trans (at2 _ (((cfg0.win 1).rect t).emb _) ?_ ?_)
    · exact ((cfg0.win 1).rect_emb_val t _ 0).trans (congrArg (· * 1024 + (y 1).val) ((congrFun i1 0).trans (congrFun i2 1).symm))
    · exact ((cfg0.win 1).rect_emb_val t _ 1).trans ((congrArg (· * 2048 + k.val) (congrFun i1 1)).trans (zero_val 2048 k))

/-- The reference's result is the product. -/
theorem reference (a : (⟨S4096x2048, .bf16⟩ : BufTy).Contents (Elt Ideal)) (b : (⟨S5120x2048, .bf16⟩ : BufTy).Contents (Elt Ideal)) :
    Cert.InProjReferenceIdeal.Read.val_main_v3 (F := Ideal) a b = fun y : S4096x5120.Idx => entry a b (y 0).val (y 1).val := by
  funext y
  refine (Cert.InProjReferenceIdeal.Read.val_main_v2_apply a b y).trans (Finset.sum_congr rfl fun k _ => congrArg₂ (· * ·) (at2 a _ rfl rfl) (at2 b _ rfl rfl))

/-- The reference runs and leaves its arguments as they were. -/
theorem reference_frame : Cert.quiescent_InProjReferenceIdeal (hInProjReferenceIdeal := Cert.InProjReferenceIdeal.Gen.facts) :=
  fun m g _ => (θ_run Cert.InProjReferenceIdeal.defs _ _).mono (fun r h => ⟨fun c => (h c).2, sem_eq_zero_of_no_sems (by decide) r.2⟩)
    (Cert.InProjReferenceIdeal.Value.run m g)

/-- The kernel and the reference end with the same result. -/
theorem algebraic : Cert.algebraic_InProjIdeal_InProjReferenceIdeal (hInProjIdeal := Gen.facts) (hInProjReferenceIdeal := Cert.InProjReferenceIdeal.Gen.facts) := by
  intro m g m' g' _ harg
  refine ⟨_, (θ_run defs _ _).mono (fun r h c => ⟨(h c).1.trans (result m c), (h c).2⟩) (Value.run_blocks m g),
    (θ_run Cert.InProjReferenceIdeal.defs _ _).mono (fun r h c => ⟨(h c).1.trans ?_, (h c).2⟩) (Cert.InProjReferenceIdeal.Value.run m' g')⟩
  refine (reference _ _).trans ?_
  rw [(harg c).1, (harg c).2]

end Cert.InProjIdeal.Product

end
-- ==== Proof.OutProj.lean ====
/- The output projection with its residual: the kernel and the reference end with the same matrix. -/
module

public import proofs.«01_k».proof.Proof.Entries
public import proofs.«01_k».proof.Defs
public import proofs.«01_k».proof.Proof.Gen.OutProj.Frame
public import proofs.«01_k».proof.Proof.Gen.OutProjIdeal.Value
public import proofs.«01_k».proof.Proof.Gen.OutProjReferenceIdeal.Run
public import proofs.«01_k».proof.Proof.Gen.OutProjReferenceIdeal.Read

@[expose] public section

noncomputable section

namespace Cert.OutProjIdeal.Product

open Cert.OutProjIdeal Cert.OutProjIdeal.Gen Cert.Entries
open Idealize.ShloMosaic

/-- An entry of the product of `a` and `b`, plus the residual's. -/
def entry (a : S4096x2048.Idx → EReal) (b : S2048x2048.Idx → EReal) (r : S4096x2048.Idx → EReal) (i j : ℕ) : EReal :=
  (∑ k : Fin 2048, e2 a i k * e2 b k j) + e2 r i j

/-- One chunk of columns of a block. -/
theorem pay (x : Vec Ideal S1024x2048 .bf16) (w : Vec Ideal S2048x256 .bf16) (r : Vec Ideal S1024x256 .f32) (i : Fin 1024) (j : Fin 256) :
    k0_pay1 (F := Ideal) x w r (ix2 i j) = (∑ k : Fin 2048, x (ix2 i k) * w (ix2 k j)) + r (ix2 i j) := by
  pointwise [k0_pay1]

/-- A block of the result. -/
theorem out_at (x : Vec Ideal S1024x2048 .bf16) (w : Vec Ideal S2048x1024 .bf16) (r : Vec Ideal S1024x1024 .f32) (y : S1024x1024.Idx) :
    out0_3 (F := Ideal) x w r y = (∑ k : Fin 2048, e2 x (y 0).val k * e2 w k (y 1).val) + e2 r (y 0).val (y 1).val := by
  refine View.canon_apply_of_pieces (Val := Elt Ideal) (e := .f32) (fun y : S1024x1024.Idx => ((∑ k : Fin 2048, e2 x (y 0).val k * e2 w k (y 1).val) + e2 r (y 0).val (y 1).val : EReal)) _ ?_ y (cover0_3 _ _ _ _ y)
  intro p hp
  simp only [List.mem_cons, List.not_mem_nil, or_false] at hp
  rcases hp with rfl | rfl | rfl | rfl
  all_goals
    intro z
    refine ((congrArg _ (eta2 z)).trans (pay _ _ _ (z 0) (z 1))).trans (congrArg₂ (· + ·) (Finset.sum_congr rfl fun k _ => congrArg₂ (· * ·) (at2 x _ rfl ?_) (at2 w _ ?_ rfl)) (at2 r _ rfl rfl))
    · exact unit_val k
    · exact unit_val k

/-- The block indices of the windows. -/
theorem idx (t : Fin cfg0.N) : win0_0.index t = ![t.val / 2, 0] ∧ win0_1.index t = ![0, t.val % 2] ∧ win0_2.index t = ![t.val / 2, t.val % 2] ∧ win0_3.index t = ![t.val / 2, t.val % 2] :=
  (by decide +kernel : ∀ t : Fin grid0.N, win0_0.index t = ![t.val / 2, 0] ∧ win0_1.index t = ![0, t.val % 2] ∧ win0_2.index t = ![t.val / 2, t.val % 2] ∧ win0_3.index t = ![t.val / 2, t.val % 2]) t

theorem covers : (cfg0.win 3).Covers := by decide +kernel

variable (m : (ℓ : Loc nD τ sig) → Buf (Elt Ideal) ℓ)

/-- The kernel's result is the product plus the residual. -/
theorem result (c : Dev nD) : (Gen.dats m 0 c).arrAt 3 cfg0.N =
    fun y : S4096x2048.Idx => entry (m ((c.tc : Thread nD τ).loc main_arg0)) (m ((c.tc : Thread nD τ).loc main_arg1)) (m ((c.tc : Thread nD τ).loc main_arg2)) (y 0).val (y 1).val := by
  refine (Gen.dats m 0 c).arrAt_eq_of_covers 3 _ covers fun t hf y => ?_
  show (Gen.dats m 0 c).after 3 t ((cfg0.win 3).xinj (cfg0.grid.coords t) y) = entry _ _ _ (((cfg0.win 3).rect t).emb y 0).val (((cfg0.win 3).rect t).emb y 1).val
  obtain ⟨i0, i1, i2, i3⟩ := idx t
  rw [after0_3, place ((cfg0.win 3).rect_emb_val t y 0) (congrFun i3 0) rfl, place ((cfg0.win 3).rect_emb_val t y 1) (congrFun i3 1) rfl]
  refine (out_at _ _ _ _).trans (congrArg₂ (· + ·) (Finset.sum_congr rfl fun k _ => congrArg₂ (· * ·) ?_ ?_) ?_)
  · exact read2 _ ((cfg0.win 0).rect t).emb (y 0).isLt k.isLt (place ((cfg0.win 0).rect_emb_val t _ 0) (congrFun i0 0) rfl)
      (place ((cfg0.win 0).rect_emb_val t _ 1) (congrFun i0 1) (zero_val 2048 k))
  · exact read2 _ ((cfg0.win 1).rect t).emb k.isLt (y 1).isLt (place ((cfg0.win 1).rect_emb_val t _ 0) (congrFun i1 0) (zero_val 2048 k))
      (place ((cfg0.win 1).rect_emb_val t _ 1) (congrFun i1 1) rfl)
  · exact read2 _ ((cfg0.win 2).rect t).emb (y 0).isLt (y 1).isLt (place ((cfg0.win 2).rect_emb_val t _ 0) (congrFun i2 0) rfl)
      (place ((cfg0.win 2).rect_emb_val t _ 1) (congrFun i2 1) rfl)

/-- The reference's result is the product plus the residual. -/
theorem reference (a : (⟨S4096x2048, .bf16⟩ : BufTy).Contents (Elt Ideal)) (b : (⟨S2048x2048, .bf16⟩ : BufTy).Contents (Elt Ideal)) (r : (⟨S4096x2048, .f32⟩ : BufTy).Contents (Elt Ideal)) :
    Cert.OutProjReferenceIdeal.Read.val_main_v3 (F := Ideal) a b r = fun y : S4096x2048.Idx => entry a b r (y 0).val (y 1).val := by
  funext y
  refine (add_comm (r y) _).trans (congrArg₂ (· + ·) ((Cert.OutProjReferenceIdeal.Read.val_main_v2_apply a b y).trans (Finset.sum_congr rfl fun k _ => ?_)) (at2 r y rfl rfl))
  exact congrArg₂ (· * ·) (at2 a _ rfl rfl) (at2 b _ rfl rfl)

/-- The reference runs and leaves its arguments as they were. -/
theorem reference_frame : Cert.quiescent_OutProjReferenceIdeal (hOutProjReferenceIdeal := Cert.OutProjReferenceIdeal.Gen.facts) :=
  fun m g _ => (θ_run Cert.OutProjReferenceIdeal.defs _ _).mono (fun r h => ⟨fun c => (h c).2, sem_eq_zero_of_no_sems (by decide) r.2⟩)
    (Cert.OutProjReferenceIdeal.Value.run m g)

/-- The kernel and the reference end with the same result. -/
theorem algebraic : Cert.algebraic_OutProjIdeal_OutProjReferenceIdeal (hOutProjIdeal := Gen.facts) (hOutProjReferenceIdeal := Cert.OutProjReferenceIdeal.Gen.facts) := by
  intro m g m' g' _ harg
  refine ⟨_, (θ_run defs _ _).mono (fun r h c => ⟨(h c).1.trans (result m c), (h c).2⟩) (Value.run_blocks m g),
    (θ_run Cert.OutProjReferenceIdeal.defs _ _).mono (fun r h c => ⟨(h c).1.trans ?_, (h c).2⟩) (Cert.OutProjReferenceIdeal.Value.run m' g')⟩
  refine (reference _ _ _).trans ?_
  rw [(harg c).1, (harg c).2.1, (harg c).2.2]

end Cert.OutProjIdeal.Product

end
-- ==== Proof.Ff1.lean ====
/- The first feed-forward product with its rectifier: the kernel and the reference end with the same matrix. -/
module

public import proofs.«01_k».proof.Proof.Entries
public import proofs.«01_k».proof.Defs
public import proofs.«01_k».proof.Proof.Gen.Ff1.Frame
public import proofs.«01_k».proof.Proof.Gen.Ff1Ideal.Value
public import proofs.«01_k».proof.Proof.Gen.Ff1ReferenceIdeal.Run
public import proofs.«01_k».proof.Proof.Gen.Ff1ReferenceIdeal.Read

@[expose] public section

noncomputable section

namespace Cert.Ff1Ideal.Product

open Cert.Ff1Ideal Cert.Ff1Ideal.Gen Cert.Entries
open Idealize.ShloMosaic

/-- An entry of the rectified product; the columns of the second factor lie in four slices. -/
def entry (a : S4096x2048.Idx → EReal) (b : S4x2048x2048.Idx → EReal) (i j : ℕ) : EReal :=
  max (∑ k : Fin 2048, e2 a i k * e3 b (j / 2048) k (j % 2048)) 0

/-- One chunk of columns of a block. -/
theorem pay (x : Vec Ideal S2048x2048 .bf16) (w : Vec Ideal S1x2048x256 .bf16) (i : Fin 2048) (j : Fin 256) :
    k0_pay2 (F := Ideal) x w (ix2 i j) = max (∑ k : Fin 2048, x (ix2 i k) * w (ix3 0 k j)) 0 := by
  pointwise [k0_pay2]

/-- A block of the rectified product. -/
theorem out_at (x : Vec Ideal S2048x2048 .bf16) (w : Vec Ideal S1x2048x1024 .bf16) (y : S2048x1024.Idx) :
    out0_2 (F := Ideal) x w y = max (∑ k : Fin 2048, e2 x (y 0).val k * e3 w 0 k (y 1).val) 0 := by
  refine View.canon_apply_of_pieces (Val := Elt Ideal) (e := .bf16) (fun y : S2048x1024.Idx => (max (∑ k : Fin 2048, e2 x (y 0).val k * e3 w 0 k (y 1).val) 0 : EReal)) _ ?_ y (cover0_2 _ _ _ _ y)
  intro p hp
  simp only [List.mem_cons, List.not_mem_nil, or_false] at hp
  rcases hp with rfl | rfl | rfl | rfl
  all_goals
    intro z
    refine ((congrArg _ (eta2 z)).trans (pay _ _ (z 0) (z 1))).trans (congrArg (max · 0) (Finset.sum_congr rfl fun k _ => congrArg₂ (· * ·) (at2 x _ rfl ?_) (at3 w _ rfl ?_ rfl)))
    · exact unit_val k
    · exact unit_val k

/-- The block indices of the three windows. -/
theorem idx (t : Fin cfg0.N) : win0_0.index t = ![t.val / 8, 0] ∧ win0_1.index t = ![t.val % 8 / 2, 0, t.val % 2] ∧ win0_2.index t = ![t.val / 8, t.val % 8] :=
  (by decide +kernel : ∀ t : Fin grid0.N, win0_0.index t = ![t.val / 8, 0] ∧ win0_1.index t = ![t.val % 8 / 2, 0, t.val % 2] ∧ win0_2.index t = ![t.val / 8, t.val % 8]) t

theorem covers : (cfg0.win 2).Covers := by decide +kernel

variable (m : (ℓ : Loc nD τ sig) → Buf (Elt Ideal) ℓ)

/-- The kernel's result is the rectified product. -/
theorem result (c : Dev nD) : (Gen.dats m 0 c).arrAt 2 cfg0.N =
    fun y : S4096x8192.Idx => entry (m ((c.tc : Thread nD τ).loc main_arg0)) (m ((c.tc : Thread nD τ).loc main_arg1)) (y 0).val (y 1).val := by
  refine (Gen.dats m 0 c).arrAt_eq_of_covers 2 _ covers fun t hf y => ?_
  show (Gen.dats m 0 c).after 2 t ((cfg0.win 2).xinj (cfg0.grid.coords t) y) = entry _ _ (((cfg0.win 2).rect t).emb y 0).val (((cfg0.win 2).rect t).emb y 1).val
  obtain ⟨i0, i1, i2⟩ := idx t
  have hy : (y 1).val < 1024 := (y 1).isLt
  rw [after0_2, place ((cfg0.win 2).rect_emb_val t y 0) (congrFun i2 0) rfl, place ((cfg0.win 2).rect_emb_val t y 1) (congrFun i2 1) rfl]
  refine (out_at _ _ _).trans (congrArg (max · 0) (Finset.sum_congr rfl fun k _ => congrArg₂ (· * ·) ?_ ?_))
  · exact read2 _ ((cfg0.win 0).rect t).emb (y 0).isLt k.isLt (place ((cfg0.win 0).rect_emb_val t _ 0) (congrFun i0 0) rfl)
      (place ((cfg0.win 0).rect_emb_val t _ 1) (congrFun i0 1) (zero_val 2048 k))
  · exact read3 _ ((cfg0.win 1).rect t).emb Nat.one_pos k.isLt (y 1).isLt
      (place ((cfg0.win 1).rect_emb_val t _ 0) (congrFun i1 0) (show t.val % 8 / 2 * 1 + 0 = (t.val % 8 * 1024 + (y 1).val) / 2048 by omega))
      (place ((cfg0.win 1).rect_emb_val t _ 1) (congrFun i1 1) (zero_val 2048 k))
      (place ((cfg0.win 1).rect_emb_val t _ 2) (congrFun i1 2) (show t.val % 2 * 1024 + (y 1).val = (t.val % 8 * 1024 + (y 1).val) % 2048 by omega))

/-- The reference's result is the rectified product. -/
theorem reference (a : (⟨S4096x2048, .bf16⟩ : BufTy).Contents (Elt Ideal)) (b : (⟨S4x2048x2048, .bf16⟩ : BufTy).Contents (Elt Ideal)) :
    Cert.Ff1ReferenceIdeal.Read.val_main_v6 (F := Ideal) a b = fun y : S4096x8192.Idx => entry a b (y 0).val (y 1).val := by
  funext y
  have hy : (y 1).val < 8192 := (y 1).isLt
  refine congrArg₂ max ((Cert.Ff1ReferenceIdeal.Read.val_main_v4_apply a b y).trans (Finset.sum_congr rfl fun k _ => congrArg₂ (· * ·) (at2 a _ rfl rfl) ?_)) ?_
  · refine (Cert.Ff1ReferenceIdeal.Read.val_main_v3_apply b _).trans ((Cert.Ff1ReferenceIdeal.Read.val_main_v2_apply b _).trans (at3 b _ ?_ ?_ ?_))
    · show (k.val * 8192 + (y 1).val) / 2048 % 4 = _
      omega
    · show (k.val * 8192 + (y 1).val) / 8192 = _
      omega
    · show (k.val * 8192 + (y 1).val) % 2048 = _
      omega
  · exact (Cert.Ff1ReferenceIdeal.Read.val_main_call0_v0_apply (F := Ideal) y).trans (show Ideal.ofBits .f32 0x00000000#32 = 0 from Ideal.ofBits_zero _)

/-- The reference runs and leaves its arguments as they were. -/
theorem reference_frame : Cert.quiescent_Ff1ReferenceIdeal (hFf1ReferenceIdeal := Cert.Ff1ReferenceIdeal.Gen.facts) :=
  fun m g _ => (θ_run Cert.Ff1ReferenceIdeal.defs _ _).mono (fun r h => ⟨fun c => (h c).2, sem_eq_zero_of_no_sems (by decide) r.2⟩)
    (Cert.Ff1ReferenceIdeal.Value.run m g)

/-- The kernel and the reference end with the same result. -/
theorem algebraic : Cert.algebraic_Ff1Ideal_Ff1ReferenceIdeal (hFf1Ideal := Gen.facts) (hFf1ReferenceIdeal := Cert.Ff1ReferenceIdeal.Gen.facts) := by
  intro m g m' g' _ harg
  refine ⟨_, (θ_run defs _ _).mono (fun r h c => ⟨(h c).1.trans (result m c), (h c).2⟩) (Value.run_blocks m g),
    (θ_run Cert.Ff1ReferenceIdeal.defs _ _).mono (fun r h c => ⟨(h c).1.trans ?_, (h c).2⟩) (Cert.Ff1ReferenceIdeal.Value.run m' g')⟩
  refine (reference _ _).trans ?_
  rw [(harg c).1, (harg c).2]

end Cert.Ff1Ideal.Product

end
-- ==== Proof.Ff2.lean ====
/- The second feed-forward product with its residual: the kernel and the reference end with the same matrix. -/
module

public import proofs.«01_k».proof.Proof.Entries
public import proofs.«01_k».proof.Defs
public import proofs.«01_k».proof.Proof.Gen.Ff2.Frame
public import proofs.«01_k».proof.Proof.Gen.Ff2Ideal.Value
public import proofs.«01_k».proof.Proof.Gen.Ff2ReferenceIdeal.Run
public import proofs.«01_k».proof.Proof.Gen.Ff2ReferenceIdeal.Read

@[expose] public section

noncomputable section

namespace Cert.Ff2Ideal.Product

open Cert.Ff2Ideal Cert.Ff2Ideal.Gen Cert.Entries
open Idealize.ShloMosaic

/-- The part of an entry of the product of the squares of `a` and `b` that one block of the summed axis gives. -/
def part (a : S4096x8192.Idx → EReal) (b : S8192x2048.Idx → EReal) (q i j : ℕ) : EReal :=
  ∑ k : Fin 2048, (e2 a i (q * 2048 + k) * e2 a i (q * 2048 + k)) * e2 b (q * 2048 + k) j

/-- An entry of the product of two blocks. -/
theorem pay (x : Vec Ideal S1024x2048 .bf16) (w : Vec Ideal S2048x1024 .bf16) (i j : Fin 1024) :
    k0_pay1 (F := Ideal) x w (ix2 i j) = ∑ k : Fin 2048, (x (ix2 i k) * x (ix2 i k)) * w (ix2 k j) := by
  pointwise [k0_pay1]

/-- The block indices of the windows. -/
theorem idx (t : Fin cfg0.N) : win0_0.index t = ![t.val / 8, t.val % 4] ∧ win0_1.index t = ![t.val % 4, t.val / 4 % 2] ∧ win0_2.index t = ![t.val / 8, t.val / 4 % 2] ∧ win0_3.index t = ![t.val / 8, t.val / 4 % 2] :=
  (by decide +kernel : ∀ t : Fin grid0.N, win0_0.index t = ![t.val / 8, t.val % 4] ∧ win0_1.index t = ![t.val % 4, t.val / 4 % 2] ∧ win0_2.index t = ![t.val / 8, t.val / 4 % 2] ∧ win0_3.index t = ![t.val / 8, t.val / 4 % 2]) t

theorem covers : (cfg0.win 3).Covers := by decide +kernel

variable (m : (ℓ : Loc nD τ sig) → Buf (Elt Ideal) ℓ)

/-- An entry of the product of a point's two blocks, in the arrays; `t` is point `q` of block `b` of the result. -/
theorem point (c : Dev nD) (t : Fin cfg0.N) (y : S1024x1024.Idx) (q b : ℕ) (hq : t.val % 4 = q) (hb : t.val / 4 = b) : k0_pay1 (F := Ideal) (iblk m c 0 t) (iblk m c 1 t) y =
    part (m ((c.tc : Thread nD τ).loc main_arg0)) (m ((c.tc : Thread nD τ).loc main_arg1)) q (b / 2 * 1024 + (y 0).val) (b % 2 * 1024 + (y 1).val) := by
  obtain ⟨i0, i1, i2⟩ := idx t
  subst hq hb
  have h8 : t.val / 8 = t.val / 4 / 2 := by omega
  have h (k : Fin 2048) : iblk (F := Ideal) m c 0 t (ix2 (y 0) k) = e2 (m ((c.tc : Thread nD τ).loc main_arg0)) (t.val / 4 / 2 * 1024 + (y 0).val) (t.val % 4 * 2048 + k) :=
    at2 _ (((cfg0.win 0).rect t).emb (ix2 (y 0) k)) (place ((cfg0.win 0).rect_emb_val t _ 0) ((congrFun i0 0).trans h8) rfl)
      (place ((cfg0.win 0).rect_emb_val t _ 1) (congrFun i0 1) rfl)
  refine ((congrArg _ (eta2 y)).trans (pay _ _ (y 0) (y 1))).trans (Finset.sum_congr rfl fun k _ => congrArg₂ (· * ·) (congrArg₂ (· * ·) (h k) (h k)) ?_)
  exact at2 _ (((cfg0.win 1).rect t).emb (ix2 k (y 1))) (place ((cfg0.win 1).rect_emb_val t _ 0) (congrFun i1 0) rfl)
    (place ((cfg0.win 1).rect_emb_val t _ 1) (congrFun i1 1) rfl)

/-- The first point of a block leaves its own part in the accumulator. -/
theorem first (c : Dev nD) (t : Fin cfg0.N) (h : t.val % 4 = 0) : (outsAt0 m c t.val t.isLt).2 = k0_pay1 (iblk m c 0 t) (iblk m c 1 t) := by
  rw [outsAt0_A m c t h (by omega) (by omega)]
  frame_out
  unfold k0_pay2
  exact shapeCast_self _ _

/-- A middle point of a block adds its own part to the accumulator. -/
theorem middle (c : Dev nD) (t : Fin cfg0.N) (h : 1 ≤ t.val % 4 ∧ t.val % 4 ≤ 2) (y : S1024x1024.Idx) :
    (outsAt0 m c t.val t.isLt).2 y = ((outsAt0 m c (t.val - 1) (Nat.lt_of_le_of_lt (Nat.sub_le _ _) t.isLt)).2 y + k0_pay1 (F := Ideal) (iblk m c 0 t) (iblk m c 1 t) y : EReal) := by
  rw [outsAt0_B m c t (by omega) h (by omega)]
  frame_out
  unfold k0_pay3
  refine (congrFun (shapeCast_self _ _) y).trans ?_
  exact congrArg (fun X : S1024x1024.Idx → EReal => X y + k0_pay1 (F := Ideal) (iblk m c 0 t) (iblk m c 1 t) y) ((Memref.isWhole_whole cc0_scratch0).read_unread _)

/-- The last point of a block writes its own part and the residual added to the accumulator. -/
theorem last (c : Dev nD) (t : Fin cfg0.N) (h : t.val % 4 = 3) (y : S1024x1024.Idx) :
    (outsAt0 m c t.val t.isLt).1 y = ((outsAt0 m c (t.val - 1) (Nat.lt_of_le_of_lt (Nat.sub_le _ _) t.isLt)).2 y + k0_pay1 (F := Ideal) (iblk m c 0 t) (iblk m c 1 t) y + iblk m c 2 t y : EReal) := by
  rw [outsAt0_C m c t (by omega) (by omega) h]
  frame_out
  exact congrArg (fun X => k0_pay4 (F := Ideal) (iblk m c 0 t) (iblk m c 1 t) X (iblk m c 2 t) y) ((Memref.isWhole_whole cc0_scratch0).read_unread _)

/-- The kernel's result is the product plus the residual. -/
theorem result (c : Dev nD) : (Gen.dats m 0 c).arrAt 3 cfg0.N =
    fun y : S4096x2048.Idx => ((∑ q : Fin 4, part (m ((c.tc : Thread nD τ).loc main_arg0)) (m ((c.tc : Thread nD τ).loc main_arg1)) q (y 0).val (y 1).val) + e2 (m ((c.tc : Thread nD τ).loc main_arg2)) (y 0).val (y 1).val : EReal) := by
  refine (Gen.dats m 0 c).arrAt_eq_of_covers 3 _ covers fun t hf y => ?_
  show (Gen.dats m 0 c).after 3 t ((cfg0.win 3).xinj (cfg0.grid.coords t) y) = ((∑ q : Fin 4, part _ _ q (((cfg0.win 3).rect t).emb y 0).val (((cfg0.win 3).rect t).emb y 1).val) + e2 _ (((cfg0.win 3).rect t).emb y 0).val (((cfg0.win 3).rect t).emb y 1).val : EReal)
  obtain ⟨i0, i1, i2, i3⟩ := idx t
  have h : t.val % 4 = 3 := (flush0_3 t).mp hf
  have h8 : t.val / 8 = t.val / 4 / 2 := by omega
  have l (n : ℕ) : t.val - n < cfg0.N := Nat.lt_of_le_of_lt (Nat.sub_le _ _) t.isLt
  have s1 := middle m c ⟨t.val - 1, l 1⟩ (show 1 ≤ (t.val - 1) % 4 ∧ (t.val - 1) % 4 ≤ 2 by omega) ((cfg0.win 3).xinj (cfg0.grid.coords t) y)
  have s2 := middle m c ⟨t.val - 1 - 1, l 2⟩ (show 1 ≤ (t.val - 1 - 1) % 4 ∧ (t.val - 1 - 1) % 4 ≤ 2 by omega) ((cfg0.win 3).xinj (cfg0.grid.coords t) y)
  have s3 := first m c ⟨t.val - 1 - 1 - 1, l 3⟩ (show (t.val - 1 - 1 - 1) % 4 = 0 by omega)
  rw [after0_3, last m c t h, s1, s2, s3, point m c _ _ 3 (t.val / 4) h rfl, point m c ⟨t.val - 1, l 1⟩ _ 2 (t.val / 4) (by show (t.val - 1) % 4 = 2; omega) (by show (t.val - 1) / 4 = t.val / 4; omega),
    point m c ⟨t.val - 1 - 1, l 2⟩ _ 1 (t.val / 4) (by show (t.val - 1 - 1) % 4 = 1; omega) (by show (t.val - 1 - 1) / 4 = t.val / 4; omega),
    point m c ⟨t.val - 1 - 1 - 1, l 3⟩ _ 0 (t.val / 4) (by show (t.val - 1 - 1 - 1) % 4 = 0; omega) (by show (t.val - 1 - 1 - 1) / 4 = t.val / 4; omega),
    place ((cfg0.win 3).rect_emb_val t y 0) ((congrFun i3 0).trans h8) rfl, place ((cfg0.win 3).rect_emb_val t y 1) (congrFun i3 1) rfl, Fin.sum_univ_four]
  exact congrArg₂ (· + ·) rfl (at2 _ (((cfg0.win 2).rect t).emb y) (place ((cfg0.win 2).rect_emb_val t _ 0) ((congrFun i2 0).trans h8) rfl) (place ((cfg0.win 2).rect_emb_val t _ 1) (congrFun i2 1) rfl))

/-- The reference's result is the product plus the residual. -/
theorem reference (a : (⟨S4096x8192, .bf16⟩ : BufTy).Contents (Elt Ideal)) (b : (⟨S8192x2048, .bf16⟩ : BufTy).Contents (Elt Ideal)) (r : (⟨S4096x2048, .f32⟩ : BufTy).Contents (Elt Ideal)) :
    Cert.Ff2ReferenceIdeal.Read.val_main_v4 (F := Ideal) a b r = fun y : S4096x2048.Idx => ((∑ q : Fin 4, part a b q (y 0).val (y 1).val) + e2 r (y 0).val (y 1).val : EReal) := by
  funext y
  refine (add_comm (r y) _).trans (congrArg₂ (· + ·) ((Cert.Ff2ReferenceIdeal.Read.val_main_v3_apply a b y).trans (Eq.trans (Finset.sum_congr rfl fun k _ => ?_)
    (sum_blocks 4 2048 fun k => (e2 a (y 0).val k * e2 a (y 0).val k) * e2 b k (y 1).val))) (at2 r y rfl rfl))
  exact congrArg₂ (· * ·) (congrArg₂ (· * ·) (at2 a _ rfl rfl) (at2 a _ rfl rfl)) (at2 b _ rfl rfl)

/-- The reference runs and leaves its arguments as they were. -/
theorem reference_frame : Cert.quiescent_Ff2ReferenceIdeal (hFf2ReferenceIdeal := Cert.Ff2ReferenceIdeal.Gen.facts) :=
  fun m g _ => (θ_run Cert.Ff2ReferenceIdeal.defs _ _).mono (fun r h => ⟨fun c => (h c).2, sem_eq_zero_of_no_sems (by decide) r.2⟩)
    (Cert.Ff2ReferenceIdeal.Value.run m g)

/-- The kernel and the reference end with the same result. -/
theorem algebraic : Cert.algebraic_Ff2Ideal_Ff2ReferenceIdeal (hFf2Ideal := Gen.facts) (hFf2ReferenceIdeal := Cert.Ff2ReferenceIdeal.Gen.facts) := by
  intro m g m' g' _ harg
  refine ⟨_, (θ_run defs _ _).mono (fun r h c => ⟨(h c).1.trans (result m c), (h c).2⟩) (Value.run_blocks m g),
    (θ_run Cert.Ff2ReferenceIdeal.defs _ _).mono (fun r h c => ⟨(h c).1.trans ?_, (h c).2⟩) (Cert.Ff2ReferenceIdeal.Value.run m' g')⟩
  refine (reference _ _ _).trans ?_
  rw [(harg c).1, (harg c).2.1, (harg c).2.2]

end Cert.Ff2Ideal.Product

end
-- ==== Proof.Ff2Dw.lean ====
/- The gradient of the second feed-forward weight: the kernel and the reference end with the same matrix. -/
module

public import proofs.«01_k».proof.Proof.Entries
public import proofs.«01_k».proof.Defs
public import proofs.«01_k».proof.Proof.Gen.Ff2Dw.Frame
public import proofs.«01_k».proof.Proof.Gen.Ff2DwIdeal.Value
public import proofs.«01_k».proof.Proof.Gen.Ff2DwReferenceIdeal.Run
public import proofs.«01_k».proof.Proof.Gen.Ff2DwReferenceIdeal.Read

@[expose] public section

noncomputable section

namespace Cert.Ff2DwIdeal.Product

open Cert.Ff2DwIdeal Cert.Ff2DwIdeal.Gen Cert.Entries
open Idealize.ShloMosaic

/-- The part of an entry of the product of the transposed squares of `a` and `b` that one block of rows gives. -/
def part (a : S4096x8192.Idx → EReal) (b : S4096x2048.Idx → EReal) (q i j : ℕ) : EReal :=
  ∑ k : Fin 2048, (e2 a (q * 2048 + k) i * e2 a (q * 2048 + k) i) * e2 b (q * 2048 + k) j

/-- An entry of the product of two blocks. -/
theorem pay (x w : Vec Ideal S2048x1024 .bf16) (i j : Fin 1024) :
    k0_pay1 (F := Ideal) x w (ix2 i j) = ∑ k : Fin 2048, (x (ix2 k i) * x (ix2 k i)) * w (ix2 k j) := by
  pointwise [k0_pay1]

/-- The block indices of the windows. -/
theorem idx (t : Fin cfg0.N) : win0_0.index t = ![t.val % 2, t.val / 4] ∧ win0_1.index t = ![t.val % 2, t.val / 2 % 2] ∧ win0_2.index t = ![t.val / 4, t.val / 2 % 2] :=
  (by decide +kernel : ∀ t : Fin grid0.N, win0_0.index t = ![t.val % 2, t.val / 4] ∧ win0_1.index t = ![t.val % 2, t.val / 2 % 2] ∧ win0_2.index t = ![t.val / 4, t.val / 2 % 2]) t

theorem covers : (cfg0.win 2).Covers := by decide +kernel

variable (m : (ℓ : Loc nD τ sig) → Buf (Elt Ideal) ℓ)

/-- An entry of the product of a point's two blocks, in the arrays. -/
theorem point (c : Dev nD) (t : Fin cfg0.N) (y : S1024x1024.Idx) : k0_pay1 (F := Ideal) (iblk m c 0 t) (iblk m c 1 t) y =
    part (m ((c.tc : Thread nD τ).loc main_arg0)) (m ((c.tc : Thread nD τ).loc main_arg1)) (t.val % 2) (t.val / 4 * 1024 + (y 0).val) (t.val / 2 % 2 * 1024 + (y 1).val) := by
  obtain ⟨i0, i1, i2⟩ := idx t
  have h (k : Fin 2048) : iblk (F := Ideal) m c 0 t (ix2 k (y 0)) = e2 (m ((c.tc : Thread nD τ).loc main_arg0)) (t.val % 2 * 2048 + k) (t.val / 4 * 1024 + (y 0).val) :=
    at2 _ (((cfg0.win 0).rect t).emb (ix2 k (y 0))) (place ((cfg0.win 0).rect_emb_val t _ 0) (congrFun i0 0) rfl)
      (place ((cfg0.win 0).rect_emb_val t _ 1) (congrFun i0 1) rfl)
  refine ((congrArg _ (eta2 y)).trans (pay _ _ (y 0) (y 1))).trans (Finset.sum_congr rfl fun k _ => congrArg₂ (· * ·) (congrArg₂ (· * ·) (h k) (h k)) ?_)
  exact at2 _ (((cfg0.win 1).rect t).emb (ix2 k (y 1))) (place ((cfg0.win 1).rect_emb_val t _ 0) (congrFun i1 0) rfl)
    (place ((cfg0.win 1).rect_emb_val t _ 1) (congrFun i1 1) rfl)

/-- The first point of a block leaves its own part in the accumulator. -/
theorem first (c : Dev nD) (t : Fin cfg0.N) (h : t.val % 2 = 0) : (outsAt0 m c t.val t.isLt).2 = k0_pay1 (iblk m c 0 t) (iblk m c 1 t) := by
  rw [outsAt0_A m c t h (by omega)]
  frame_out
  unfold k0_pay2
  exact shapeCast_self _ _

/-- The last point of a block writes its own part added to the accumulator. -/
theorem last (c : Dev nD) (t : Fin cfg0.N) (h : t.val % 2 = 1) (y : S1024x1024.Idx) :
    (outsAt0 m c t.val t.isLt).1 y = ((outsAt0 m c (t.val - 1) (Nat.lt_of_le_of_lt (Nat.sub_le _ _) t.isLt)).2 y + k0_pay1 (F := Ideal) (iblk m c 0 t) (iblk m c 1 t) y : EReal) := by
  rw [outsAt0_B m c t (by omega) h]
  frame_out
  exact congrArg (fun X => k0_pay4 (F := Ideal) (iblk m c 0 t) (iblk m c 1 t) X y) ((Memref.isWhole_whole cc0_scratch0).read_unread _)

/-- The kernel's result is the product. -/
theorem result (c : Dev nD) : (Gen.dats m 0 c).arrAt 2 cfg0.N =
    fun y : S8192x2048.Idx => ∑ q : Fin 2, part (m ((c.tc : Thread nD τ).loc main_arg0)) (m ((c.tc : Thread nD τ).loc main_arg1)) q (y 0).val (y 1).val := by
  refine (Gen.dats m 0 c).arrAt_eq_of_covers 2 _ covers fun t hf y => ?_
  show (Gen.dats m 0 c).after 2 t ((cfg0.win 2).xinj (cfg0.grid.coords t) y) = ∑ q : Fin 2, part _ _ q (((cfg0.win 2).rect t).emb y 0).val (((cfg0.win 2).rect t).emb y 1).val
  obtain ⟨i0, i1, i2⟩ := idx t
  have h : t.val % 2 = 1 := (flush0_2 t).mp hf
  have hN : t.val < 32 := lt_of_lt_of_eq t.isLt N_0
  have e := first m c ⟨t.val - 1, Nat.lt_of_le_of_lt (Nat.sub_le _ _) t.isLt⟩ (show (t.val - 1) % 2 = 0 by omega)
  rw [after0_2, last m c t h, e, point, point, place ((cfg0.win 2).rect_emb_val t y 0) (congrFun i2 0) rfl, place ((cfg0.win 2).rect_emb_val t y 1) (congrFun i2 1) rfl, Fin.sum_univ_two]
  show part _ _ ((t.val - 1) % 2) ((t.val - 1) / 4 * 1024 + (y 0).val) ((t.val - 1) / 2 % 2 * 1024 + (y 1).val) + part _ _ (t.val % 2) _ _ = _
  rw [show (t.val - 1) % 2 = 0 by omega, show (t.val - 1) / 4 = t.val / 4 by omega, show (t.val - 1) / 2 % 2 = t.val / 2 % 2 by omega, h]
  rfl

/-- The reference's result is the product. -/
theorem reference (a : (⟨S4096x8192, .bf16⟩ : BufTy).Contents (Elt Ideal)) (b : (⟨S4096x2048, .bf16⟩ : BufTy).Contents (Elt Ideal)) :
    Cert.Ff2DwReferenceIdeal.Read.val_main_v7 (F := Ideal) a b = fun y : S8192x2048.Idx => ∑ q : Fin 2, part a b q (y 0).val (y 1).val := by
  funext y
  refine (Cert.Ff2DwReferenceIdeal.Read.val_main_v6_apply a b y).trans ((Cert.Ff2DwReferenceIdeal.Read.val_main_v5_apply a b _).trans (Eq.trans (Finset.sum_congr rfl fun k _ => ?_)
    (sum_blocks 2 2048 fun k => (e2 a k (y 0).val * e2 a k (y 0).val) * e2 b k (y 1).val)))
  exact (mul_comm _ _).trans (congrArg₂ (· * ·) (congrArg₂ (· * ·) (at2 a _ rfl rfl) (at2 a _ rfl rfl)) (at2 b _ rfl rfl))

/-- The reference runs and leaves its arguments as they were. -/
theorem reference_frame : Cert.quiescent_Ff2DwReferenceIdeal (hFf2DwReferenceIdeal := Cert.Ff2DwReferenceIdeal.Gen.facts) :=
  fun m g _ => (θ_run Cert.Ff2DwReferenceIdeal.defs _ _).mono (fun r h => ⟨fun c => (h c).2, sem_eq_zero_of_no_sems (by decide) r.2⟩)
    (Cert.Ff2DwReferenceIdeal.Value.run m g)

/-- The kernel and the reference end with the same result. -/
theorem algebraic : Cert.algebraic_Ff2DwIdeal_Ff2DwReferenceIdeal (hFf2DwIdeal := Gen.facts) (hFf2DwReferenceIdeal := Cert.Ff2DwReferenceIdeal.Gen.facts) := by
  intro m g m' g' _ harg
  refine ⟨_, (θ_run defs _ _).mono (fun r h c => ⟨(h c).1.trans (result m c), (h c).2⟩) (Value.run_blocks m g),
    (θ_run Cert.Ff2DwReferenceIdeal.defs _ _).mono (fun r h c => ⟨(h c).1.trans ?_, (h c).2⟩) (Cert.Ff2DwReferenceIdeal.Value.run m' g')⟩
  refine (reference _ _).trans ?_
  rw [(harg c).1, (harg c).2]

end Cert.Ff2DwIdeal.Product

end
-- ==== Proof.Ff2Dlhs.lean ====
/- The gradient of the squared activations through the second feed-forward product: the kernel and the reference end with the same matrix. -/
module

public import proofs.«01_k».proof.Proof.Entries
public import proofs.«01_k».proof.Defs
public import proofs.«01_k».proof.Proof.Gen.Ff2Dlhs.Frame
public import proofs.«01_k».proof.Proof.Gen.Ff2DlhsIdeal.Value
public import proofs.«01_k».proof.Proof.Gen.Ff2DlhsReferenceIdeal.Run
public import proofs.«01_k».proof.Proof.Gen.Ff2DlhsReferenceIdeal.Read

@[expose] public section

noncomputable section

namespace Cert.Ff2DlhsIdeal.Product

open Cert.Ff2DlhsIdeal Cert.Ff2DlhsIdeal.Gen Cert.Entries
open Idealize.ShloMosaic

/-- An entry of the product of `d` and the transposed `b`, times the derivative `2 a` of the square. -/
def entry (d : S4096x2048.Idx → EReal) (b : S8192x2048.Idx → EReal) (a : S4096x8192.Idx → EReal) (i j : ℕ) : EReal :=
  (∑ k : Fin 2048, e2 d i k * e2 b j k) * (2 * e2 a i j)

/-- One chunk of columns of a block. -/
theorem pay (x : Vec Ideal S2048x2048 .bf16) (w : Vec Ideal S256x2048 .bf16) (a : Vec Ideal S2048x256 .bf16) (i : Fin 2048) (j : Fin 256) :
    k0_pay2 (F := Ideal) x w a (ix2 i j) = (∑ k : Fin 2048, x (ix2 i k) * w (ix2 j k)) * (Ideal.ofBits .f32 0x40000000#32 * a (ix2 i j)) := by
  pointwise [k0_pay2]

/-- A block of the result. -/
theorem out_at (x : Vec Ideal S2048x2048 .bf16) (w : Vec Ideal S1024x2048 .bf16) (a : Vec Ideal S2048x1024 .bf16) (y : S2048x1024.Idx) :
    out0_3 (F := Ideal) x w a y = (∑ k : Fin 2048, e2 x (y 0).val k * e2 w (y 1).val k) * (2 * e2 a (y 0).val (y 1).val) := by
  refine View.canon_apply_of_pieces (Val := Elt Ideal) (e := .bf16) (fun y : S2048x1024.Idx => ((∑ k : Fin 2048, e2 x (y 0).val k * e2 w (y 1).val k) * (2 * e2 a (y 0).val (y 1).val) : EReal)) _ ?_ y (cover0_3 _ _ _ _ y)
  intro p hp
  simp only [List.mem_cons, List.not_mem_nil, or_false] at hp
  rcases hp with rfl | rfl | rfl | rfl
  all_goals
    intro z
    refine ((congrArg _ (eta2 z)).trans (pay _ _ _ (z 0) (z 1))).trans (congrArg₂ (· * ·) (Finset.sum_congr rfl fun k _ => congrArg₂ (· * ·) (at2 x _ rfl ?_) (at2 w _ rfl ?_)) (congrArg₂ (· * ·) lit_two (at2 a _ rfl rfl)))
    · exact unit_val k
    · exact unit_val k

/-- The block indices of the windows. -/
theorem idx (t : Fin cfg0.N) : win0_0.index t = ![t.val / 8, 0] ∧ win0_1.index t = ![t.val % 8, 0] ∧ win0_2.index t = ![t.val / 8, t.val % 8] ∧ win0_3.index t = ![t.val / 8, t.val % 8] :=
  (by decide +kernel : ∀ t : Fin grid0.N, win0_0.index t = ![t.val / 8, 0] ∧ win0_1.index t = ![t.val % 8, 0] ∧ win0_2.index t = ![t.val / 8, t.val % 8] ∧ win0_3.index t = ![t.val / 8, t.val % 8]) t

theorem covers : (cfg0.win 3).Covers := by decide +kernel

variable (m : (ℓ : Loc nD τ sig) → Buf (Elt Ideal) ℓ)

/-- The kernel's result is the product times the derivative of the square. -/
theorem result (c : Dev nD) : (Gen.dats m 0 c).arrAt 3 cfg0.N =
    fun y : S4096x8192.Idx => entry (m ((c.tc : Thread nD τ).loc main_arg0)) (m ((c.tc : Thread nD τ).loc main_arg1)) (m ((c.tc : Thread nD τ).loc main_arg2)) (y 0).val (y 1).val := by
  refine (Gen.dats m 0 c).arrAt_eq_of_covers 3 _ covers fun t hf y => ?_
  show (Gen.dats m 0 c).after 3 t ((cfg0.win 3).xinj (cfg0.grid.coords t) y) = entry _ _ _ (((cfg0.win 3).rect t).emb y 0).val (((cfg0.win 3).rect t).emb y 1).val
  obtain ⟨i0, i1, i2, i3⟩ := idx t
  rw [after0_3, place ((cfg0.win 3).rect_emb_val t y 0) (congrFun i3 0) rfl, place ((cfg0.win 3).rect_emb_val t y 1) (congrFun i3 1) rfl]
  refine (out_at _ _ _ _).trans (congrArg₂ (· * ·) (Finset.sum_congr rfl fun k _ => congrArg₂ (· * ·) ?_ ?_) (congrArg (2 * ·) ?_))
  · exact read2 _ ((cfg0.win 0).rect t).emb (y 0).isLt k.isLt (place ((cfg0.win 0).rect_emb_val t _ 0) (congrFun i0 0) rfl)
      (place ((cfg0.win 0).rect_emb_val t _ 1) (congrFun i0 1) (zero_val 2048 k))
  · exact read2 _ ((cfg0.win 1).rect t).emb (y 1).isLt k.isLt (place ((cfg0.win 1).rect_emb_val t _ 0) (congrFun i1 0) rfl)
      (place ((cfg0.win 1).rect_emb_val t _ 1) (congrFun i1 1) (zero_val 2048 k))
  · exact read2 _ ((cfg0.win 2).rect t).emb (y 0).isLt (y 1).isLt (place ((cfg0.win 2).rect_emb_val t _ 0) (congrFun i2 0) rfl)
      (place ((cfg0.win 2).rect_emb_val t _ 1) (congrFun i2 1) rfl)

/-- The reference's result is the product times the derivative of the square. -/
theorem reference (d : (⟨S4096x2048, .bf16⟩ : BufTy).Contents (Elt Ideal)) (b : (⟨S8192x2048, .bf16⟩ : BufTy).Contents (Elt Ideal)) (a : (⟨S4096x8192, .bf16⟩ : BufTy).Contents (Elt Ideal)) :
    Cert.Ff2DlhsReferenceIdeal.Read.val_main_v9 (F := Ideal) d b a = fun y : S4096x8192.Idx => entry d b a (y 0).val (y 1).val := by
  funext y
  refine (twice (a y) (Cert.Ff2DlhsReferenceIdeal.Read.val_main_v5 (F := Ideal) d b y)).trans (congrArg₂ (· * ·) ?_ (congrArg (2 * ·) (at2 a y rfl rfl)))
  refine (Cert.Ff2DlhsReferenceIdeal.Read.val_main_v5_apply d b y).trans (Finset.sum_congr rfl fun k _ => ?_)
  exact congrArg₂ (· * ·) (at2 d _ rfl rfl) (at2 b _ rfl rfl)

/-- The reference runs and leaves its arguments as they were. -/
theorem reference_frame : Cert.quiescent_Ff2DlhsReferenceIdeal (hFf2DlhsReferenceIdeal := Cert.Ff2DlhsReferenceIdeal.Gen.facts) :=
  fun m g _ => (θ_run Cert.Ff2DlhsReferenceIdeal.defs _ _).mono (fun r h => ⟨fun c => (h c).2, sem_eq_zero_of_no_sems (by decide) r.2⟩)
    (Cert.Ff2DlhsReferenceIdeal.Value.run m g)

/-- The kernel and the reference end with the same result. -/
theorem algebraic : Cert.algebraic_Ff2DlhsIdeal_Ff2DlhsReferenceIdeal (hFf2DlhsIdeal := Gen.facts) (hFf2DlhsReferenceIdeal := Cert.Ff2DlhsReferenceIdeal.Gen.facts) := by
  intro m g m' g' _ harg
  refine ⟨_, (θ_run defs _ _).mono (fun r h c => ⟨(h c).1.trans (result m c), (h c).2⟩) (Value.run_blocks m g),
    (θ_run Cert.Ff2DlhsReferenceIdeal.defs _ _).mono (fun r h c => ⟨(h c).1.trans ?_, (h c).2⟩) (Cert.Ff2DlhsReferenceIdeal.Value.run m' g')⟩
  refine (reference _ _ _).trans ?_
  rw [(harg c).1, (harg c).2.1, (harg c).2.2]

end Cert.Ff2DlhsIdeal.Product

end
-- ==== Proof.Ff1Dlhs.lean ====
/- The gradient through the first feed-forward product: the kernel and the reference end with the same matrix. -/
module

public import proofs.«01_k».proof.Proof.Entries
public import proofs.«01_k».proof.Defs
public import proofs.«01_k».proof.Proof.Gen.Ff1Dlhs.Frame
public import proofs.«01_k».proof.Proof.Gen.Ff1DlhsIdeal.Value
public import proofs.«01_k».proof.Proof.Gen.Ff1DlhsReferenceIdeal.Run
public import proofs.«01_k».proof.Proof.Gen.Ff1DlhsReferenceIdeal.Read

@[expose] public section

noncomputable section

namespace Cert.Ff1DlhsIdeal.Product

open Cert.Ff1DlhsIdeal Cert.Ff1DlhsIdeal.Gen Cert.Entries
open Idealize.ShloMosaic

/-- The part of an entry of the product of `a` and the transpose of `b`, whose columns lie in four slices, that one slice gives. -/
def part (a : S4096x8192.Idx → EReal) (b : S4x2048x2048.Idx → EReal) (q i j : ℕ) : EReal :=
  ∑ k : Fin 2048, e2 a i (q * 2048 + k) * e3 b q j k

/-- An entry of the product of two blocks. -/
theorem pay (x : Vec Ideal S1024x2048 .bf16) (w : Vec Ideal S1x1024x2048 .bf16) (i j : Fin 1024) :
    k0_pay1 (F := Ideal) x w (ix2 i j) = ∑ k : Fin 2048, x (ix2 i k) * w (ix3 0 j k) := by
  pointwise [k0_pay1]

/-- The block indices of the windows. -/
theorem idx (t : Fin cfg0.N) : win0_0.index t = ![t.val / 8, t.val % 4] ∧ win0_1.index t = ![t.val % 4, t.val / 4 % 2, 0] ∧ win0_2.index t = ![t.val / 8, t.val / 4 % 2] :=
  (by decide +kernel : ∀ t : Fin grid0.N, win0_0.index t = ![t.val / 8, t.val % 4] ∧ win0_1.index t = ![t.val % 4, t.val / 4 % 2, 0] ∧ win0_2.index t = ![t.val / 8, t.val / 4 % 2]) t

theorem covers : (cfg0.win 2).Covers := by decide +kernel

variable (m : (ℓ : Loc nD τ sig) → Buf (Elt Ideal) ℓ)

/-- An entry of the product of a point's two blocks, in the arrays; `t` is point `q` of block `b` of the result. -/
theorem point (c : Dev nD) (t : Fin cfg0.N) (y : S1024x1024.Idx) (q b : ℕ) (hq : t.val % 4 = q) (hb : t.val / 4 = b) : k0_pay1 (F := Ideal) (iblk m c 0 t) (iblk m c 1 t) y =
    part (m ((c.tc : Thread nD τ).loc main_arg0)) (m ((c.tc : Thread nD τ).loc main_arg1)) q (b / 2 * 1024 + (y 0).val) (b % 2 * 1024 + (y 1).val) := by
  obtain ⟨i0, i1, i2⟩ := idx t
  subst hq hb
  refine ((congrArg _ (eta2 y)).trans (pay _ _ (y 0) (y 1))).trans (Finset.sum_congr rfl fun k _ => congrArg₂ (· * ·) ?_ ?_)
  · exact at2 _ (((cfg0.win 0).rect t).emb (ix2 (y 0) k)) (place ((cfg0.win 0).rect_emb_val t _ 0) ((congrFun i0 0).trans (show t.val / 8 = t.val / 4 / 2 by omega)) rfl)
      (place ((cfg0.win 0).rect_emb_val t _ 1) (congrFun i0 1) rfl)
  · exact at3 _ (((cfg0.win 1).rect t).emb (ix3 0 (y 1) k)) (place ((cfg0.win 1).rect_emb_val t _ 0) (congrFun i1 0) (Nat.mul_one _))
      (place ((cfg0.win 1).rect_emb_val t _ 1) (congrFun i1 1) rfl) (place ((cfg0.win 1).rect_emb_val t _ 2) (congrFun i1 2) (zero_val 2048 k))

/-- The first point of a block leaves its own part in the accumulator. -/
theorem first (c : Dev nD) (t : Fin cfg0.N) (h : t.val % 4 = 0) : (outsAt0 m c t.val t.isLt).2 = k0_pay1 (iblk m c 0 t) (iblk m c 1 t) := by
  rw [outsAt0_A m c t h (by omega) (by omega)]
  frame_out
  unfold k0_pay2
  exact shapeCast_self _ _

/-- A middle point of a block adds its own part to the accumulator. -/
theorem middle (c : Dev nD) (t : Fin cfg0.N) (h : 1 ≤ t.val % 4 ∧ t.val % 4 ≤ 2) (y : S1024x1024.Idx) :
    (outsAt0 m c t.val t.isLt).2 y = ((outsAt0 m c (t.val - 1) (Nat.lt_of_le_of_lt (Nat.sub_le _ _) t.isLt)).2 y + k0_pay1 (F := Ideal) (iblk m c 0 t) (iblk m c 1 t) y : EReal) := by
  rw [outsAt0_B m c t (by omega) h (by omega)]
  frame_out
  unfold k0_pay3
  refine (congrFun (shapeCast_self _ _) y).trans ?_
  exact congrArg (fun X : S1024x1024.Idx → EReal => X y + k0_pay1 (F := Ideal) (iblk m c 0 t) (iblk m c 1 t) y) ((Memref.isWhole_whole cc0_scratch0).read_unread _)

/-- The last point of a block writes its own part added to the accumulator. -/
theorem last (c : Dev nD) (t : Fin cfg0.N) (h : t.val % 4 = 3) (y : S1024x1024.Idx) :
    (outsAt0 m c t.val t.isLt).1 y = ((outsAt0 m c (t.val - 1) (Nat.lt_of_le_of_lt (Nat.sub_le _ _) t.isLt)).2 y + k0_pay1 (F := Ideal) (iblk m c 0 t) (iblk m c 1 t) y : EReal) := by
  rw [outsAt0_C m c t (by omega) (by omega) h]
  frame_out
  exact congrArg (fun X => k0_pay4 (F := Ideal) (iblk m c 0 t) (iblk m c 1 t) X y) ((Memref.isWhole_whole cc0_scratch0).read_unread _)

/-- The kernel's result is the product. -/
theorem result (c : Dev nD) : (Gen.dats m 0 c).arrAt 2 cfg0.N =
    fun y : S4096x2048.Idx => (∑ q : Fin 4, part (m ((c.tc : Thread nD τ).loc main_arg0)) (m ((c.tc : Thread nD τ).loc main_arg1)) q (y 0).val (y 1).val : EReal) := by
  refine (Gen.dats m 0 c).arrAt_eq_of_covers 2 _ covers fun t hf y => ?_
  show (Gen.dats m 0 c).after 2 t ((cfg0.win 2).xinj (cfg0.grid.coords t) y) = (∑ q : Fin 4, part _ _ q (((cfg0.win 2).rect t).emb y 0).val (((cfg0.win 2).rect t).emb y 1).val : EReal)
  obtain ⟨i0, i1, i2⟩ := idx t
  have h : t.val % 4 = 3 := (flush0_2 t).mp hf
  have l (n : ℕ) : t.val - n < cfg0.N := Nat.lt_of_le_of_lt (Nat.sub_le _ _) t.isLt
  have s1 := middle m c ⟨t.val - 1, l 1⟩ (show 1 ≤ (t.val - 1) % 4 ∧ (t.val - 1) % 4 ≤ 2 by omega) ((cfg0.win 2).xinj (cfg0.grid.coords t) y)
  have s2 := middle m c ⟨t.val - 1 - 1, l 2⟩ (show 1 ≤ (t.val - 1 - 1) % 4 ∧ (t.val - 1 - 1) % 4 ≤ 2 by omega) ((cfg0.win 2).xinj (cfg0.grid.coords t) y)
  have s3 := first m c ⟨t.val - 1 - 1 - 1, l 3⟩ (show (t.val - 1 - 1 - 1) % 4 = 0 by omega)
  rw [after0_2, last m c t h, s1, s2, s3, point m c _ _ 3 (t.val / 4) h rfl, point m c ⟨t.val - 1, l 1⟩ _ 2 (t.val / 4) (by show (t.val - 1) % 4 = 2; omega) (by show (t.val - 1) / 4 = t.val / 4; omega),
    point m c ⟨t.val - 1 - 1, l 2⟩ _ 1 (t.val / 4) (by show (t.val - 1 - 1) % 4 = 1; omega) (by show (t.val - 1 - 1) / 4 = t.val / 4; omega),
    point m c ⟨t.val - 1 - 1 - 1, l 3⟩ _ 0 (t.val / 4) (by show (t.val - 1 - 1 - 1) % 4 = 0; omega) (by show (t.val - 1 - 1 - 1) / 4 = t.val / 4; omega),
    place ((cfg0.win 2).rect_emb_val t y 0) ((congrFun i2 0).trans (show t.val / 8 = t.val / 4 / 2 by omega)) rfl, place ((cfg0.win 2).rect_emb_val t y 1) (congrFun i2 1) rfl, Fin.sum_univ_four]
  rfl

/-- The reference's result is the product. -/
theorem reference (a : (⟨S4096x8192, .bf16⟩ : BufTy).Contents (Elt Ideal)) (b : (⟨S4x2048x2048, .bf16⟩ : BufTy).Contents (Elt Ideal)) :
    Cert.Ff1DlhsReferenceIdeal.Read.val_main_v6 (F := Ideal) a b = fun y : S4096x2048.Idx => (∑ q : Fin 4, part a b q (y 0).val (y 1).val : EReal) := by
  funext y
  have hy : (y 1).val < 2048 := (y 1).isLt
  refine (Cert.Ff1DlhsReferenceIdeal.Read.val_main_v6_apply a b y).trans (Eq.trans (Finset.sum_congr rfl fun k _ => ?_)
    ((sum_blocks 4 2048 fun k => e2 a (y 0).val k * e3 b (k / 2048) (y 1).val (k % 2048)).trans (Finset.sum_congr rfl fun q _ => Finset.sum_congr rfl fun k _ => ?_)))
  · refine congrArg₂ (· * ·) (at2 a _ rfl rfl) ((Cert.Ff1DlhsReferenceIdeal.Read.val_main_v3_apply b _).trans ((Cert.Ff1DlhsReferenceIdeal.Read.val_main_v2_apply b _).trans (at3 b _ ?_ ?_ ?_)))
    · show ((y 1).val * 8192 + k.val) / 2048 % 4 = _
      have := k.isLt
      omega
    · show ((y 1).val * 8192 + k.val) / 8192 = _
      have := k.isLt
      omega
    · show ((y 1).val * 8192 + k.val) % 2048 = _
      omega
  · show e2 a _ _ * e3 b ((q.val * 2048 + k.val) / 2048) _ ((q.val * 2048 + k.val) % 2048) = _
    rw [show (q.val * 2048 + k.val) / 2048 = q.val by omega, show (q.val * 2048 + k.val) % 2048 = k.val by omega]

/-- The reference runs and leaves its arguments as they were. -/
theorem reference_frame : Cert.quiescent_Ff1DlhsReferenceIdeal (hFf1DlhsReferenceIdeal := Cert.Ff1DlhsReferenceIdeal.Gen.facts) :=
  fun m g _ => (θ_run Cert.Ff1DlhsReferenceIdeal.defs _ _).mono (fun r h => ⟨fun c => (h c).2, sem_eq_zero_of_no_sems (by decide) r.2⟩)
    (Cert.Ff1DlhsReferenceIdeal.Value.run m g)

/-- The kernel and the reference end with the same result. -/
theorem algebraic : Cert.algebraic_Ff1DlhsIdeal_Ff1DlhsReferenceIdeal (hFf1DlhsIdeal := Gen.facts) (hFf1DlhsReferenceIdeal := Cert.Ff1DlhsReferenceIdeal.Gen.facts) := by
  intro m g m' g' _ harg
  refine ⟨_, (θ_run defs _ _).mono (fun r h c => ⟨(h c).1.trans (result m c), (h c).2⟩) (Value.run_blocks m g),
    (θ_run Cert.Ff1DlhsReferenceIdeal.defs _ _).mono (fun r h c => ⟨(h c).1.trans ?_, (h c).2⟩) (Cert.Ff1DlhsReferenceIdeal.Value.run m' g')⟩
  refine (reference _ _).trans ?_
  rw [(harg c).1, (harg c).2]

end Cert.Ff1DlhsIdeal.Product

end
-- ==== Proof.Ff1Dw.lean ====
/- The gradient of the first feed-forward weight: the kernel and the reference end with the same four slices. -/
module

public import proofs.«01_k».proof.Proof.Entries
public import proofs.«01_k».proof.Defs
public import proofs.«01_k».proof.Proof.Gen.Ff1Dw.Frame
public import proofs.«01_k».proof.Proof.Gen.Ff1DwIdeal.Value
public import proofs.«01_k».proof.Proof.Gen.Ff1DwReferenceIdeal.Run
public import proofs.«01_k».proof.Proof.Gen.Ff1DwReferenceIdeal.Read

@[expose] public section

noncomputable section

namespace Cert.Ff1DwIdeal.Product

open Cert.Ff1DwIdeal Cert.Ff1DwIdeal.Gen Cert.Entries
open Idealize.ShloMosaic

/-- An entry of slice `s` of the product of the transposed `a` and `b`. -/
def entry (a : S4096x2048.Idx → EReal) (b : S4096x8192.Idx → EReal) (s i j : ℕ) : EReal := ∑ k : Fin 4096, e2 a k i * e2 b k (s * 2048 + j)

/-- One chunk of columns of a block of the product. -/
theorem pay (x : Vec Ideal S4096x1024 .bf16) (w : Vec Ideal S4096x256 .bf16) (i : Fin 1024) (j : Fin 256) :
    k0_pay1 (F := Ideal) x w (ix3 0 i j) = ∑ k : Fin 4096, x (ix2 k i) * w (ix2 k j) := by
  pointwise [k0_pay1]

/-- A block of the product. -/
theorem out_at (x w : Vec Ideal S4096x1024 .bf16) (y : S1x1024x1024.Idx) :
    out0_2 (F := Ideal) x w y = ∑ k : Fin 4096, e2 x k (y 1).val * e2 w k (y 2).val := by
  refine View.canon_apply_of_pieces (Val := Elt Ideal) (e := .bf16) (fun y : S1x1024x1024.Idx => (∑ k : Fin 4096, e2 x k (y 1).val * e2 w k (y 2).val : EReal)) _ ?_ y (cover0_2 _ _ _ _ y)
  intro p hp
  simp only [List.mem_cons, List.not_mem_nil, or_false] at hp
  rcases hp with rfl | rfl | rfl | rfl
  all_goals
    intro z
    refine ((congrArg _ (eta3 z)).trans (pay _ _ (z 1) (z 2))).trans (Finset.sum_congr rfl fun k _ => congrArg₂ (· * ·) (at2 x _ ?_ ?_) (at2 w _ ?_ rfl))
    · exact unit_val k
    · exact (unit_val _).symm.trans (unit_val _)
    · exact unit_val k

/-- The block indices of the three windows. -/
theorem idx (t : Fin cfg0.N) : win0_0.index t = ![0, t.val / 8] ∧ win0_1.index t = ![0, t.val % 8] ∧ win0_2.index t = ![t.val % 8 / 2, t.val / 8, t.val % 2] :=
  (by decide +kernel : ∀ t : Fin grid0.N, win0_0.index t = ![0, t.val / 8] ∧ win0_1.index t = ![0, t.val % 8] ∧ win0_2.index t = ![t.val % 8 / 2, t.val / 8, t.val % 2]) t

theorem covers : (cfg0.win 2).Covers := by decide +kernel

variable (m : (ℓ : Loc nD τ sig) → Buf (Elt Ideal) ℓ)

/-- The kernel's result is the product, in four slices. -/
theorem result (c : Dev nD) : (Gen.dats m 0 c).arrAt 2 cfg0.N =
    fun y : S4x2048x2048.Idx => entry (m ((c.tc : Thread nD τ).loc main_arg0)) (m ((c.tc : Thread nD τ).loc main_arg1)) (y 0).val (y 1).val (y 2).val := by
  refine (Gen.dats m 0 c).arrAt_eq_of_covers 2 _ covers fun t hf y => ?_
  show (Gen.dats m 0 c).after 2 t ((cfg0.win 2).xinj (cfg0.grid.coords t) y) = entry _ _ (((cfg0.win 2).rect t).emb y 0).val (((cfg0.win 2).rect t).emb y 1).val (((cfg0.win 2).rect t).emb y 2).val
  obtain ⟨i0, i1, i2⟩ := idx t
  have hy : (y 0).val < 1 := (y 0).isLt
  rw [after0_2, place ((cfg0.win 2).rect_emb_val t y 0) (congrFun i2 0) rfl, place ((cfg0.win 2).rect_emb_val t y 1) (congrFun i2 1) rfl, place ((cfg0.win 2).rect_emb_val t y 2) (congrFun i2 2) rfl]
  refine (out_at _ _ _).trans (Finset.sum_congr rfl fun k _ => congrArg₂ (· * ·) ?_ ?_)
  · exact read2 _ ((cfg0.win 0).rect t).emb k.isLt (y 1).isLt (place ((cfg0.win 0).rect_emb_val t _ 0) (congrFun i0 0) (zero_val 4096 k))
      (place ((cfg0.win 0).rect_emb_val t _ 1) (congrFun i0 1) rfl)
  · exact read2 _ ((cfg0.win 1).rect t).emb k.isLt (y 2).isLt (place ((cfg0.win 1).rect_emb_val t _ 0) (congrFun i1 0) (zero_val 4096 k))
      (place ((cfg0.win 1).rect_emb_val t _ 1) (congrFun i1 1)
        (show t.val % 8 * 1024 + (y 2).val = (t.val % 8 / 2 * 1 + (y 0).val) * 2048 + (t.val % 2 * 1024 + (y 2).val) by omega))

/-- The reference's result is the product, in four slices. -/
theorem reference (a : (⟨S4096x2048, .bf16⟩ : BufTy).Contents (Elt Ideal)) (b : (⟨S4096x8192, .bf16⟩ : BufTy).Contents (Elt Ideal)) :
    Cert.Ff1DwReferenceIdeal.Read.val_main_v8 (F := Ideal) a b = fun y : S4x2048x2048.Idx => entry a b (y 0).val (y 1).val (y 2).val := by
  funext y
  have h0 : (y 0).val < 4 := (y 0).isLt
  have h2 : (y 2).val < 2048 := (y 2).isLt
  refine (Cert.Ff1DwReferenceIdeal.Read.val_main_v7_apply a b y).trans ((Cert.Ff1DwReferenceIdeal.Read.val_main_v6_apply a b _).trans ((Cert.Ff1DwReferenceIdeal.Read.val_main_v5_apply a b _).trans
    ((Cert.Ff1DwReferenceIdeal.Read.val_main_v4_apply a b _).trans (Finset.sum_congr rfl fun k _ => ?_))))
  refine (mul_comm _ _).trans (congrArg₂ (· * ·) (at2 a _ rfl ?_) (at2 b _ rfl ?_))
  · show (((y 1).val * 4 + (y 0).val) * 2048 + (y 2).val) / 8192 = _
    omega
  · show (((y 1).val * 4 + (y 0).val) * 2048 + (y 2).val) % 8192 = _
    omega

/-- The reference runs and leaves its arguments as they were. -/
theorem reference_frame : Cert.quiescent_Ff1DwReferenceIdeal (hFf1DwReferenceIdeal := Cert.Ff1DwReferenceIdeal.Gen.facts) :=
  fun m g _ => (θ_run Cert.Ff1DwReferenceIdeal.defs _ _).mono (fun r h => ⟨fun c => (h c).2, sem_eq_zero_of_no_sems (by decide) r.2⟩)
    (Cert.Ff1DwReferenceIdeal.Value.run m g)

/-- The kernel and the reference end with the same result. -/
theorem algebraic : Cert.algebraic_Ff1DwIdeal_Ff1DwReferenceIdeal (hFf1DwIdeal := Gen.facts) (hFf1DwReferenceIdeal := Cert.Ff1DwReferenceIdeal.Gen.facts) := by
  intro m g m' g' _ harg
  refine ⟨_, (θ_run defs _ _).mono (fun r h c => ⟨(h c).1.trans (result m c), (h c).2⟩) (Value.run_blocks m g),
    (θ_run Cert.Ff1DwReferenceIdeal.defs _ _).mono (fun r h c => ⟨(h c).1.trans ?_, (h c).2⟩) (Cert.Ff1DwReferenceIdeal.Value.run m' g')⟩
  refine (reference _ _).trans ?_
  rw [(harg c).1, (harg c).2]

end Cert.Ff1DwIdeal.Product

end
-- ==== Proof.OutProjDw.lean ====
/- The gradient of the output projection's weight: the kernel and the reference end with the same matrix. -/
module

public import proofs.«01_k».proof.Proof.Entries
public import proofs.«01_k».proof.Defs
public import proofs.«01_k».proof.Proof.Gen.OutProjDw.Frame
public import proofs.«01_k».proof.Proof.Gen.OutProjDwIdeal.Value
public import proofs.«01_k».proof.Proof.Gen.OutProjDwReferenceIdeal.Run
public import proofs.«01_k».proof.Proof.Gen.OutProjDwReferenceIdeal.Read

@[expose] public section

noncomputable section

namespace Cert.OutProjDwIdeal.Product

open Cert.OutProjDwIdeal Cert.OutProjDwIdeal.Gen Cert.Entries
open Idealize.ShloMosaic

/-- An entry of the product of the transposed `a` and `b`. -/
def entry (a b : S4096x2048.Idx → EReal) (i j : ℕ) : EReal := ∑ k : Fin 4096, e2 a k i * e2 b k j

/-- One chunk of columns of a block of the product. -/
theorem pay (x : Vec Ideal S4096x1024 .bf16) (w : Vec Ideal S4096x256 .bf16) (i : Fin 1024) (j : Fin 256) :
    k0_pay1 (F := Ideal) x w (ix2 i j) = ∑ k : Fin 4096, x (ix2 k i) * w (ix2 k j) := by
  pointwise [k0_pay1]

/-- A block of the product. -/
theorem out_at (x w : Vec Ideal S4096x1024 .bf16) (y : S1024x1024.Idx) :
    out0_2 (F := Ideal) x w y = ∑ k : Fin 4096, e2 x k (y 0).val * e2 w k (y 1).val := by
  refine View.canon_apply_of_pieces (Val := Elt Ideal) (e := .bf16) (fun y : S1024x1024.Idx => (∑ k : Fin 4096, e2 x k (y 0).val * e2 w k (y 1).val : EReal)) _ ?_ y (cover0_2 _ _ _ _ y)
  intro p hp
  simp only [List.mem_cons, List.not_mem_nil, or_false] at hp
  rcases hp with rfl | rfl | rfl | rfl
  all_goals
    intro z
    refine ((congrArg _ (eta2 z)).trans (pay _ _ (z 0) (z 1))).trans (Finset.sum_congr rfl fun k _ => congrArg₂ (· * ·) (at2 x _ ?_ rfl) (at2 w _ ?_ rfl))
    · exact unit_val k
    · exact unit_val k

/-- The block indices of the three windows. -/
theorem idx (t : Fin cfg0.N) : win0_0.index t = ![0, t.val / 2] ∧ win0_1.index t = ![0, t.val % 2] ∧ win0_2.index t = ![t.val / 2, t.val % 2] :=
  (by decide +kernel : ∀ t : Fin grid0.N, win0_0.index t = ![0, t.val / 2] ∧ win0_1.index t = ![0, t.val % 2] ∧ win0_2.index t = ![t.val / 2, t.val % 2]) t

theorem covers : (cfg0.win 2).Covers := by decide +kernel

variable (m : (ℓ : Loc nD τ sig) → Buf (Elt Ideal) ℓ)

/-- The kernel's result is the product. -/
theorem result (c : Dev nD) : (Gen.dats m 0 c).arrAt 2 cfg0.N =
    fun y : S2048x2048.Idx => entry (m ((c.tc : Thread nD τ).loc main_arg0)) (m ((c.tc : Thread nD τ).loc main_arg1)) (y 0).val (y 1).val := by
  refine (Gen.dats m 0 c).arrAt_eq_of_covers 2 _ covers fun t hf y => ?_
  show (Gen.dats m 0 c).after 2 t ((cfg0.win 2).xinj (cfg0.grid.coords t) y) = entry _ _ (((cfg0.win 2).rect t).emb y 0).val (((cfg0.win 2).rect t).emb y 1).val
  obtain ⟨i0, i1, i2⟩ := idx t
  rw [after0_2, place ((cfg0.win 2).rect_emb_val t y 0) (congrFun i2 0) rfl, place ((cfg0.win 2).rect_emb_val t y 1) (congrFun i2 1) rfl]
  refine (out_at _ _ _).trans (Finset.sum_congr rfl fun k _ => congrArg₂ (· * ·) ?_ ?_)
  · exact read2 _ ((cfg0.win 0).rect t).emb k.isLt (y 0).isLt (place ((cfg0.win 0).rect_emb_val t _ 0) (congrFun i0 0) (zero_val 4096 k))
      (place ((cfg0.win 0).rect_emb_val t _ 1) (congrFun i0 1) rfl)
  · exact read2 _ ((cfg0.win 1).rect t).emb k.isLt (y 1).isLt (place ((cfg0.win 1).rect_emb_val t _ 0) (congrFun i1 0) (zero_val 4096 k))
      (place ((cfg0.win 1).rect_emb_val t _ 1) (congrFun i1 1) rfl)

/-- The reference's result is the product. -/
theorem reference (a b : (⟨S4096x2048, .bf16⟩ : BufTy).Contents (Elt Ideal)) :
    Cert.OutProjDwReferenceIdeal.Read.val_main_v6 (F := Ideal) a b = fun y : S2048x2048.Idx => entry a b (y 0).val (y 1).val := by
  funext y
  refine (Cert.OutProjDwReferenceIdeal.Read.val_main_v5_apply a b y).trans ((Cert.OutProjDwReferenceIdeal.Read.val_main_v4_apply a b _).trans (Finset.sum_congr rfl fun k _ => ?_))
  exact (mul_comm _ _).trans (congrArg₂ (· * ·) (at2 a _ rfl rfl) (at2 b _ rfl rfl))

/-- The reference runs and leaves its arguments as they were. -/
theorem reference_frame : Cert.quiescent_OutProjDwReferenceIdeal (hOutProjDwReferenceIdeal := Cert.OutProjDwReferenceIdeal.Gen.facts) :=
  fun m g _ => (θ_run Cert.OutProjDwReferenceIdeal.defs _ _).mono (fun r h => ⟨fun c => (h c).2, sem_eq_zero_of_no_sems (by decide) r.2⟩)
    (Cert.OutProjDwReferenceIdeal.Value.run m g)

/-- The kernel and the reference end with the same result. -/
theorem algebraic : Cert.algebraic_OutProjDwIdeal_OutProjDwReferenceIdeal (hOutProjDwIdeal := Gen.facts) (hOutProjDwReferenceIdeal := Cert.OutProjDwReferenceIdeal.Gen.facts) := by
  intro m g m' g' _ harg
  refine ⟨_, (θ_run defs _ _).mono (fun r h c => ⟨(h c).1.trans (result m c), (h c).2⟩) (Value.run_blocks m g),
    (θ_run Cert.OutProjDwReferenceIdeal.defs _ _).mono (fun r h c => ⟨(h c).1.trans ?_, (h c).2⟩) (Cert.OutProjDwReferenceIdeal.Value.run m' g')⟩
  refine (reference _ _).trans ?_
  rw [(harg c).1, (harg c).2]

end Cert.OutProjDwIdeal.Product

end
-- ==== Proof.OutProjDlhs.lean ====
/- The gradient through the output projection: the kernel and the reference end with the same matrix. -/
module

public import proofs.«01_k».proof.Proof.Entries
public import proofs.«01_k».proof.Defs
public import proofs.«01_k».proof.Proof.Gen.OutProjDlhs.Frame
public import proofs.«01_k».proof.Proof.Gen.OutProjDlhsIdeal.Value
public import proofs.«01_k».proof.Proof.Gen.OutProjDlhsReferenceIdeal.Run
public import proofs.«01_k».proof.Proof.Gen.OutProjDlhsReferenceIdeal.Read

@[expose] public section

noncomputable section

namespace Cert.OutProjDlhsIdeal.Product

open Cert.OutProjDlhsIdeal Cert.OutProjDlhsIdeal.Gen Cert.Entries
open Idealize.ShloMosaic

/-- An entry of the product of `a` and the transposed `b`. -/
def entry (a : S4096x2048.Idx → EReal) (b : S2048x2048.Idx → EReal) (i j : ℕ) : EReal := ∑ k : Fin 2048, e2 a i k * e2 b j k

/-- One chunk of columns of a block of the product. -/
theorem pay (x : Vec Ideal S1024x2048 .bf16) (w : Vec Ideal S256x2048 .bf16) (i : Fin 1024) (j : Fin 256) :
    k0_pay1 (F := Ideal) x w (ix2 i j) = ∑ k : Fin 2048, x (ix2 i k) * w (ix2 j k) := by
  pointwise [k0_pay1]

/-- A block of the product. -/
theorem out_at (x w : Vec Ideal S1024x2048 .bf16) (y : S1024x1024.Idx) :
    out0_2 (F := Ideal) x w y = ∑ k : Fin 2048, e2 x (y 0).val k * e2 w (y 1).val k := by
  refine View.canon_apply_of_pieces (Val := Elt Ideal) (e := .f32) (fun y : S1024x1024.Idx => (∑ k : Fin 2048, e2 x (y 0).val k * e2 w (y 1).val k : EReal)) _ ?_ y (cover0_2 _ _ _ _ y)
  intro p hp
  simp only [List.mem_cons, List.not_mem_nil, or_false] at hp
  rcases hp with rfl | rfl | rfl | rfl
  all_goals
    intro z
    refine ((congrArg _ (eta2 z)).trans (pay _ _ (z 0) (z 1))).trans (Finset.sum_congr rfl fun k _ => congrArg₂ (· * ·) (at2 x _ rfl ?_) (at2 w _ rfl ?_))
    · exact unit_val k
    · exact unit_val k

/-- The block indices of the three windows. -/
theorem idx (t : Fin cfg0.N) : win0_0.index t = ![t.val / 2, 0] ∧ win0_1.index t = ![t.val % 2, 0] ∧ win0_2.index t = ![t.val / 2, t.val % 2] :=
  (by decide +kernel : ∀ t : Fin grid0.N, win0_0.index t = ![t.val / 2, 0] ∧ win0_1.index t = ![t.val % 2, 0] ∧ win0_2.index t = ![t.val / 2, t.val % 2]) t

theorem covers : (cfg0.win 2).Covers := by decide +kernel

variable (m : (ℓ : Loc nD τ sig) → Buf (Elt Ideal) ℓ)

/-- The kernel's result is the product. -/
theorem result (c : Dev nD) : (Gen.dats m 0 c).arrAt 2 cfg0.N =
    fun y : S4096x2048.Idx => entry (m ((c.tc : Thread nD τ).loc main_arg0)) (m ((c.tc : Thread nD τ).loc main_arg1)) (y 0).val (y 1).val := by
  refine (Gen.dats m 0 c).arrAt_eq_of_covers 2 _ covers fun t hf y => ?_
  show (Gen.dats m 0 c).after 2 t ((cfg0.win 2).xinj (cfg0.grid.coords t) y) = entry _ _ (((cfg0.win 2).rect t).emb y 0).val (((cfg0.win 2).rect t).emb y 1).val
  obtain ⟨i0, i1, i2⟩ := idx t
  rw [after0_2, place ((cfg0.win 2).rect_emb_val t y 0) (congrFun i2 0) rfl, place ((cfg0.win 2).rect_emb_val t y 1) (congrFun i2 1) rfl]
  refine (out_at _ _ _).trans (Finset.sum_congr rfl fun k _ => congrArg₂ (· * ·) ?_ ?_)
  · exact read2 _ ((cfg0.win 0).rect t).emb (y 0).isLt k.isLt (place ((cfg0.win 0).rect_emb_val t _ 0) (congrFun i0 0) rfl)
      (place ((cfg0.win 0).rect_emb_val t _ 1) (congrFun i0 1) (zero_val 2048 k))
  · exact read2 _ ((cfg0.win 1).rect t).emb (y 1).isLt k.isLt (place ((cfg0.win 1).rect_emb_val t _ 0) (congrFun i1 0) rfl)
      (place ((cfg0.win 1).rect_emb_val t _ 1) (congrFun i1 1) (zero_val 2048 k))

/-- The reference's result is the product. -/
theorem reference (a : (⟨S4096x2048, .bf16⟩ : BufTy).Contents (Elt Ideal)) (b : (⟨S2048x2048, .bf16⟩ : BufTy).Contents (Elt Ideal)) :
    Cert.OutProjDlhsReferenceIdeal.Read.val_main_v4 (F := Ideal) a b = fun y : S4096x2048.Idx => entry a b (y 0).val (y 1).val := by
  funext y
  refine (Cert.OutProjDlhsReferenceIdeal.Read.val_main_v4_apply a b y).trans (Finset.sum_congr rfl fun k _ => ?_)
  exact congrArg₂ (· * ·) (at2 a _ rfl rfl) (at2 b _ rfl rfl)

/-- The reference runs and leaves its arguments as they were. -/
theorem reference_frame : Cert.quiescent_OutProjDlhsReferenceIdeal (hOutProjDlhsReferenceIdeal := Cert.OutProjDlhsReferenceIdeal.Gen.facts) :=
  fun m g _ => (θ_run Cert.OutProjDlhsReferenceIdeal.defs _ _).mono (fun r h => ⟨fun c => (h c).2, sem_eq_zero_of_no_sems (by decide) r.2⟩)
    (Cert.OutProjDlhsReferenceIdeal.Value.run m g)

/-- The kernel and the reference end with the same result. -/
theorem algebraic : Cert.algebraic_OutProjDlhsIdeal_OutProjDlhsReferenceIdeal (hOutProjDlhsIdeal := Gen.facts) (hOutProjDlhsReferenceIdeal := Cert.OutProjDlhsReferenceIdeal.Gen.facts) := by
  intro m g m' g' _ harg
  refine ⟨_, (θ_run defs _ _).mono (fun r h c => ⟨(h c).1.trans (result m c), (h c).2⟩) (Value.run_blocks m g),
    (θ_run Cert.OutProjDlhsReferenceIdeal.defs _ _).mono (fun r h c => ⟨(h c).1.trans ?_, (h c).2⟩) (Cert.OutProjDlhsReferenceIdeal.Value.run m' g')⟩
  refine (reference _ _).trans ?_
  rw [(harg c).1, (harg c).2]

end Cert.OutProjDlhsIdeal.Product

end
-- ==== Proof.InProjDw.lean ====
/- The gradient of the input projection's weight: the kernel and the reference end with the same matrix. -/
module

public import proofs.«01_k».proof.Proof.Entries
public import proofs.«01_k».proof.Defs
public import proofs.«01_k».proof.Proof.Gen.InProjDw.Frame
public import proofs.«01_k».proof.Proof.Gen.InProjDwIdeal.Value
public import proofs.«01_k».proof.Proof.Gen.InProjDwReferenceIdeal.Run
public import proofs.«01_k».proof.Proof.Gen.InProjDwReferenceIdeal.Read

@[expose] public section

noncomputable section

namespace Cert.InProjDwIdeal.Product

open Cert.InProjDwIdeal Cert.InProjDwIdeal.Gen Cert.Entries
open Idealize.ShloMosaic

/-- An entry of the product of the transposed `a` and `b`. -/
def entry (a : S4096x5120.Idx → EReal) (b : S4096x2048.Idx → EReal) (i j : ℕ) : EReal := ∑ k : Fin 4096, e2 a k i * e2 b k j

/-- One chunk of columns of a block of the product. -/
theorem pay (x : Vec Ideal S4096x1024 .bf16) (w : Vec Ideal S4096x256 .bf16) (i : Fin 1024) (j : Fin 256) :
    k0_pay1 (F := Ideal) x w (ix2 i j) = ∑ k : Fin 4096, x (ix2 k i) * w (ix2 k j) := by
  pointwise [k0_pay1]

/-- A block of the product. -/
theorem out_at (x w : Vec Ideal S4096x1024 .bf16) (y : S1024x1024.Idx) :
    out0_2 (F := Ideal) x w y = ∑ k : Fin 4096, e2 x k (y 0).val * e2 w k (y 1).val := by
  refine View.canon_apply_of_pieces (Val := Elt Ideal) (e := .bf16) (fun y : S1024x1024.Idx => (∑ k : Fin 4096, e2 x k (y 0).val * e2 w k (y 1).val : EReal)) _ ?_ y (cover0_2 _ _ _ _ y)
  intro p hp
  simp only [List.mem_cons, List.not_mem_nil, or_false] at hp
  rcases hp with rfl | rfl | rfl | rfl
  all_goals
    intro z
    refine ((congrArg _ (eta2 z)).trans (pay _ _ (z 0) (z 1))).trans (Finset.sum_congr rfl fun k _ => congrArg₂ (· * ·) (at2 x _ ?_ rfl) (at2 w _ ?_ rfl))
    · exact unit_val k
    · exact unit_val k

/-- The block indices of the three windows. -/
theorem idx (t : Fin cfg0.N) : win0_0.index t = ![0, t.val / 2] ∧ win0_1.index t = ![0, t.val % 2] ∧ win0_2.index t = ![t.val / 2, t.val % 2] :=
  (by decide +kernel : ∀ t : Fin grid0.N, win0_0.index t = ![0, t.val / 2] ∧ win0_1.index t = ![0, t.val % 2] ∧ win0_2.index t = ![t.val / 2, t.val % 2]) t

theorem covers : (cfg0.win 2).Covers := by decide +kernel

variable (m : (ℓ : Loc nD τ sig) → Buf (Elt Ideal) ℓ)

/-- The kernel's result is the product. -/
theorem result (c : Dev nD) : (Gen.dats m 0 c).arrAt 2 cfg0.N =
    fun y : S5120x2048.Idx => entry (m ((c.tc : Thread nD τ).loc main_arg0)) (m ((c.tc : Thread nD τ).loc main_arg1)) (y 0).val (y 1).val := by
  refine (Gen.dats m 0 c).arrAt_eq_of_covers 2 _ covers fun t hf y => ?_
  show (Gen.dats m 0 c).after 2 t ((cfg0.win 2).xinj (cfg0.grid.coords t) y) = entry _ _ (((cfg0.win 2).rect t).emb y 0).val (((cfg0.win 2).rect t).emb y 1).val
  obtain ⟨i0, i1, i2⟩ := idx t
  rw [after0_2, place ((cfg0.win 2).rect_emb_val t y 0) (congrFun i2 0) rfl, place ((cfg0.win 2).rect_emb_val t y 1) (congrFun i2 1) rfl]
  refine (out_at _ _ _).trans (Finset.sum_congr rfl fun k _ => congrArg₂ (· * ·) ?_ ?_)
  · exact read2 _ ((cfg0.win 0).rect t).emb k.isLt (y 0).isLt (place ((cfg0.win 0).rect_emb_val t _ 0) (congrFun i0 0) (zero_val 4096 k))
      (place ((cfg0.win 0).rect_emb_val t _ 1) (congrFun i0 1) rfl)
  · exact read2 _ ((cfg0.win 1).rect t).emb k.isLt (y 1).isLt (place ((cfg0.win 1).rect_emb_val t _ 0) (congrFun i1 0) (zero_val 4096 k))
      (place ((cfg0.win 1).rect_emb_val t _ 1) (congrFun i1 1) rfl)

/-- The reference's result is the product. -/
theorem reference (a : (⟨S4096x5120, .bf16⟩ : BufTy).Contents (Elt Ideal)) (b : (⟨S4096x2048, .bf16⟩ : BufTy).Contents (Elt Ideal)) :
    Cert.InProjDwReferenceIdeal.Read.val_main_v5 (F := Ideal) a b = fun y : S5120x2048.Idx => entry a b (y 0).val (y 1).val := by
  funext y
  refine (Cert.InProjDwReferenceIdeal.Read.val_main_v4_apply a b y).trans (Finset.sum_congr rfl fun k _ => ?_)
  exact congrArg₂ (· * ·) (at2 a _ rfl rfl) (at2 b _ rfl rfl)

/-- The reference runs and leaves its arguments as they were. -/
theorem reference_frame : Cert.quiescent_InProjDwReferenceIdeal (hInProjDwReferenceIdeal := Cert.InProjDwReferenceIdeal.Gen.facts) :=
  fun m g _ => (θ_run Cert.InProjDwReferenceIdeal.defs _ _).mono (fun r h => ⟨fun c => (h c).2, sem_eq_zero_of_no_sems (by decide) r.2⟩)
    (Cert.InProjDwReferenceIdeal.Value.run m g)

/-- The kernel and the reference end with the same result. -/
theorem algebraic : Cert.algebraic_InProjDwIdeal_InProjDwReferenceIdeal (hInProjDwIdeal := Gen.facts) (hInProjDwReferenceIdeal := Cert.InProjDwReferenceIdeal.Gen.facts) := by
  intro m g m' g' _ harg
  refine ⟨_, (θ_run defs _ _).mono (fun r h c => ⟨(h c).1.trans (result m c), (h c).2⟩) (Value.run_blocks m g),
    (θ_run Cert.InProjDwReferenceIdeal.defs _ _).mono (fun r h c => ⟨(h c).1.trans ?_, (h c).2⟩) (Cert.InProjDwReferenceIdeal.Value.run m' g')⟩
  refine (reference _ _).trans ?_
  rw [(harg c).1, (harg c).2]

end Cert.InProjDwIdeal.Product

end
-- ==== Proof.InProjDlhs.lean ====
/- The gradient through the input projection with its residual: the kernel and the reference end with the same matrix. -/
module

public import proofs.«01_k».proof.Proof.Entries
public import proofs.«01_k».proof.Defs
public import proofs.«01_k».proof.Proof.Gen.InProjDlhs.Frame
public import proofs.«01_k».proof.Proof.Gen.InProjDlhsIdeal.Value
public import proofs.«01_k».proof.Proof.Gen.InProjDlhsReferenceIdeal.Run
public import proofs.«01_k».proof.Proof.Gen.InProjDlhsReferenceIdeal.Read

@[expose] public section

noncomputable section

namespace Cert.InProjDlhsIdeal.Product

open Cert.InProjDlhsIdeal Cert.InProjDlhsIdeal.Gen Cert.Entries
open Idealize.ShloMosaic

/-- The part of an entry of the product of `a` and `b` that one block of the summed axis gives. -/
def part (a : S4096x5120.Idx → EReal) (b : S5120x2048.Idx → EReal) (q i j : ℕ) : EReal :=
  ∑ k : Fin 2560, e2 a i (q * 2560 + k) * e2 b (q * 2560 + k) j

/-- An entry of the product of two blocks. -/
theorem pay (x : Vec Ideal S1024x2560 .bf16) (w : Vec Ideal S2560x1024 .bf16) (i j : Fin 1024) :
    k0_pay1 (F := Ideal) x w (ix2 i j) = ∑ k : Fin 2560, x (ix2 i k) * w (ix2 k j) := by
  pointwise [k0_pay1]

/-- The block indices of the windows. -/
theorem idx (t : Fin cfg0.N) : win0_0.index t = ![t.val / 4, t.val % 2] ∧ win0_1.index t = ![t.val % 2, t.val / 2 % 2] ∧ win0_2.index t = ![t.val / 4, t.val / 2 % 2] ∧ win0_3.index t = ![t.val / 4, t.val / 2 % 2] :=
  (by decide +kernel : ∀ t : Fin grid0.N, win0_0.index t = ![t.val / 4, t.val % 2] ∧ win0_1.index t = ![t.val % 2, t.val / 2 % 2] ∧ win0_2.index t = ![t.val / 4, t.val / 2 % 2] ∧ win0_3.index t = ![t.val / 4, t.val / 2 % 2]) t

theorem covers : (cfg0.win 3).Covers := by decide +kernel

variable (m : (ℓ : Loc nD τ sig) → Buf (Elt Ideal) ℓ)

/-- An entry of the product of a point's two blocks, in the arrays. -/
theorem point (c : Dev nD) (t : Fin cfg0.N) (y : S1024x1024.Idx) : k0_pay1 (F := Ideal) (iblk m c 0 t) (iblk m c 1 t) y =
    part (m ((c.tc : Thread nD τ).loc main_arg0)) (m ((c.tc : Thread nD τ).loc main_arg1)) (t.val % 2) (t.val / 4 * 1024 + (y 0).val) (t.val / 2 % 2 * 1024 + (y 1).val) := by
  obtain ⟨i0, i1, i2⟩ := idx t
  refine ((congrArg _ (eta2 y)).trans (pay _ _ (y 0) (y 1))).trans (Finset.sum_congr rfl fun k _ => congrArg₂ (· * ·) ?_ ?_)
  · exact at2 _ (((cfg0.win 0).rect t).emb (ix2 (y 0) k)) (place ((cfg0.win 0).rect_emb_val t _ 0) (congrFun i0 0) rfl)
      (place ((cfg0.win 0).rect_emb_val t _ 1) (congrFun i0 1) rfl)
  · exact at2 _ (((cfg0.win 1).rect t).emb (ix2 k (y 1))) (place ((cfg0.win 1).rect_emb_val t _ 0) (congrFun i1 0) rfl)
      (place ((cfg0.win 1).rect_emb_val t _ 1) (congrFun i1 1) rfl)

/-- The first point of a block leaves its own part in the accumulator. -/
theorem first (c : Dev nD) (t : Fin cfg0.N) (h : t.val % 2 = 0) : (outsAt0 m c t.val t.isLt).2 = k0_pay1 (iblk m c 0 t) (iblk m c 1 t) := by
  rw [outsAt0_A m c t h (by omega)]
  frame_out
  unfold k0_pay2
  exact shapeCast_self _ _

/-- The last point of a block writes its own part and the residual added to the accumulator. -/
theorem last (c : Dev nD) (t : Fin cfg0.N) (h : t.val % 2 = 1) (y : S1024x1024.Idx) :
    (outsAt0 m c t.val t.isLt).1 y = ((outsAt0 m c (t.val - 1) (Nat.lt_of_le_of_lt (Nat.sub_le _ _) t.isLt)).2 y + k0_pay1 (F := Ideal) (iblk m c 0 t) (iblk m c 1 t) y + iblk m c 2 t y : EReal) := by
  rw [outsAt0_B m c t (by omega) h]
  frame_out
  exact congrArg (fun X => k0_pay4 (F := Ideal) (iblk m c 0 t) (iblk m c 1 t) X (iblk m c 2 t) y) ((Memref.isWhole_whole cc0_scratch0).read_unread _)

/-- The kernel's result is the product plus the residual. -/
theorem result (c : Dev nD) : (Gen.dats m 0 c).arrAt 3 cfg0.N =
    fun y : S4096x2048.Idx => ((∑ q : Fin 2, part (m ((c.tc : Thread nD τ).loc main_arg0)) (m ((c.tc : Thread nD τ).loc main_arg1)) q (y 0).val (y 1).val) + e2 (m ((c.tc : Thread nD τ).loc main_arg2)) (y 0).val (y 1).val : EReal) := by
  refine (Gen.dats m 0 c).arrAt_eq_of_covers 3 _ covers fun t hf y => ?_
  show (Gen.dats m 0 c).after 3 t ((cfg0.win 3).xinj (cfg0.grid.coords t) y) = ((∑ q : Fin 2, part _ _ q (((cfg0.win 3).rect t).emb y 0).val (((cfg0.win 3).rect t).emb y 1).val) + e2 _ (((cfg0.win 3).rect t).emb y 0).val (((cfg0.win 3).rect t).emb y 1).val : EReal)
  obtain ⟨i0, i1, i2, i3⟩ := idx t
  have h : t.val % 2 = 1 := (flush0_3 t).mp hf
  have e := first m c ⟨t.val - 1, Nat.lt_of_le_of_lt (Nat.sub_le _ _) t.isLt⟩ (show (t.val - 1) % 2 = 0 by omega)
  rw [after0_3, last m c t h, e, point, point, place ((cfg0.win 3).rect_emb_val t y 0) (congrFun i3 0) rfl, place ((cfg0.win 3).rect_emb_val t y 1) (congrFun i3 1) rfl, Fin.sum_univ_two]
  refine congrArg₂ (· + ·) ?_ (at2 _ (((cfg0.win 2).rect t).emb y) (place ((cfg0.win 2).rect_emb_val t _ 0) (congrFun i2 0) rfl) (place ((cfg0.win 2).rect_emb_val t _ 1) (congrFun i2 1) rfl))
  show part _ _ ((t.val - 1) % 2) ((t.val - 1) / 4 * 1024 + (y 0).val) ((t.val - 1) / 2 % 2 * 1024 + (y 1).val) + part _ _ (t.val % 2) _ _ = _
  rw [show (t.val - 1) % 2 = 0 by omega, show (t.val - 1) / 4 = t.val / 4 by omega, show (t.val - 1) / 2 % 2 = t.val / 2 % 2 by omega, h]
  rfl

/-- The reference's result is the product plus the residual. -/
theorem reference (a : (⟨S4096x5120, .bf16⟩ : BufTy).Contents (Elt Ideal)) (b : (⟨S5120x2048, .bf16⟩ : BufTy).Contents (Elt Ideal)) (r : (⟨S4096x2048, .f32⟩ : BufTy).Contents (Elt Ideal)) :
    Cert.InProjDlhsReferenceIdeal.Read.val_main_v5 (F := Ideal) a b r = fun y : S4096x2048.Idx => ((∑ q : Fin 2, part a b q (y 0).val (y 1).val) + e2 r (y 0).val (y 1).val : EReal) := by
  funext y
  refine congrArg₂ (· + ·) ((Cert.InProjDlhsReferenceIdeal.Read.val_main_v4_apply a b y).trans (Eq.trans (Finset.sum_congr rfl fun k _ => ?_)
    (sum_blocks 2 2560 fun k => e2 a (y 0).val k * e2 b k (y 1).val))) (at2 r y rfl rfl)
  exact congrArg₂ (· * ·) (at2 a _ rfl rfl) (at2 b _ rfl rfl)

/-- The reference runs and leaves its arguments as they were. -/
theorem reference_frame : Cert.quiescent_InProjDlhsReferenceIdeal (hInProjDlhsReferenceIdeal := Cert.InProjDlhsReferenceIdeal.Gen.facts) :=
  fun m g _ => (θ_run Cert.InProjDlhsReferenceIdeal.defs _ _).mono (fun r h => ⟨fun c => (h c).2, sem_eq_zero_of_no_sems (by decide) r.2⟩)
    (Cert.InProjDlhsReferenceIdeal.Value.run m g)

/-- The kernel and the reference end with the same result. -/
theorem algebraic : Cert.algebraic_InProjDlhsIdeal_InProjDlhsReferenceIdeal (hInProjDlhsIdeal := Gen.facts) (hInProjDlhsReferenceIdeal := Cert.InProjDlhsReferenceIdeal.Gen.facts) := by
  intro m g m' g' _ harg
  refine ⟨_, (θ_run defs _ _).mono (fun r h c => ⟨(h c).1.trans (result m c), (h c).2⟩) (Value.run_blocks m g),
    (θ_run Cert.InProjDlhsReferenceIdeal.defs _ _).mono (fun r h c => ⟨(h c).1.trans ?_, (h c).2⟩) (Cert.InProjDlhsReferenceIdeal.Value.run m' g')⟩
  refine (reference _ _ _).trans ?_
  rw [(harg c).1, (harg c).2.1, (harg c).2.2]

end Cert.InProjDlhsIdeal.Product

end
-- ==== Proof.Weight.lean ====
/- The optimiser's step for one weight. -/
module

public import Idealize.ShloMosaic.Lib.Pointwise
public import Idealize.ShloMosaic.PureOps.Ideal.Laws

@[expose] public section

noncomputable section

namespace Cert.Weight

open Idealize.ShloMosaic

/-- The mean of the gradients, moved towards the gradient `g`. -/
def mean (g a : EReal) : EReal :=
  Ideal.ofBits .f32 0x3F666666#32 * a + Ideal.ofBits .f32 0x3DCCCCCD#32 * g

/-- The mean of the gradients' squares, moved towards the square of `g`. -/
def square (g b : EReal) : EReal :=
  Ideal.ofBits .f32 0x3F7FBE77#32 * b + Ideal.ofBits .f32 0x3A83126F#32 * (g * g)

/-- The change of the weight `w`: the corrected mean over the root of the corrected square, and the decay. -/
def change (w g a b : EReal) : EReal :=
  Ideal.ofBits .f32 0xBA83126F#32 *
    (Ideal.div (Ideal.div (mean g a) (Ideal.ofBits .f32 0x3F26BD02#32))
        (Ideal.sqrt (Ideal.div (square g b) (Ideal.ofBits .f32 0x3C231ACC#32)) + Ideal.ofBits .f32 0x322BCC77#32)
      + Ideal.ofBits .f32 0x3C23D70A#32 * w)

end Cert.Weight

end
-- ==== Proof.AdamwIn.lean ====
/- The optimiser's step of the transposed input projection: the kernel and the reference end with the same four arrays. -/
module

public import proofs.«01_k».proof.Proof.Weight
public import proofs.«01_k».proof.Proof.Entries
public import proofs.«01_k».proof.Defs
public import proofs.«01_k».proof.Proof.Gen.AdamwIn.Frame
public import proofs.«01_k».proof.Proof.Gen.AdamwInIdeal.Value
public import proofs.«01_k».proof.Proof.Gen.AdamwInReferenceIdeal.Run
public import proofs.«01_k».proof.Proof.Gen.AdamwInReferenceIdeal.Read

@[expose] public section

noncomputable section

namespace Cert.AdamwInIdeal.Step

open Cert.AdamwInIdeal Cert.AdamwInIdeal.Gen Cert.Weight
open Idealize.ShloMosaic

variable (m : (ℓ : Loc nD τ sig) → Buf (Elt Ideal) ℓ)

/-- The arrays of the four arguments put through `f` at every index. -/
def at_args (f : EReal → EReal → EReal → EReal → EReal) (c : Dev nD) (y : S1282x2048.Idx) : EReal :=
  f (m ((c.tc : Thread nD τ).loc main_arg0) y) (m ((c.tc : Thread nD τ).loc main_arg1) y) (m ((c.tc : Thread nD τ).loc main_arg2) y) (m ((c.tc : Thread nD τ).loc main_arg3) y)

/-- A block of a result: one whole store, whose payload is `f` of the blocks of the arguments at every index. -/
theorem out_at (f : EReal → EReal → EReal → EReal → EReal) (x0 x1 x2 x3 p : Vec Ideal S1282x256 .f32)
    (h : ∀ z, p z = f (View.ld x0 r0_0 z) (View.ld x1 r0_0 z) (View.ld x2 r0_0 z) (View.ld x3 r0_0 z)) (y : S1282x256.Idx) :
    View.canon (Val := Elt Ideal) (e := .f32) [⟨r0_0, p⟩] y = f (x0 y) (x1 y) (x2 y) (x3 y) := by
  refine View.canon_apply_of_pieces (Val := Elt Ideal) (e := .f32) (fun y : S1282x256.Idx => (f (x0 y) (x1 y) (x2 y) (x3 y) : EReal)) _ ?_ y (cover0_4 _ y)
  intro q hq
  obtain rfl := List.mem_singleton.mp hq
  exact h

/-- The kernel's result: the gradient. -/
theorem result4 (c : Dev nD) : (Gen.dats m 0 c).arrAt 4 cfg0.N = at_args m (fun _ g _ _ => g) c := by
  refine (Gen.dats m 0 c).arrAt_eq_of_covers 4 _ (by decide +kernel) fun t hf y => ?_
  show (Gen.dats m 0 c).after 4 t ((cfg0.win 4).xinj (cfg0.grid.coords t) y) = _
  rw [after0_4]
  exact out_at (fun _ g _ _ => g) (iblk m c 0 t) (iblk m c 1 t) (iblk m c 2 t) (iblk m c 3 t) _ (fun z => rfl) _

/-- The kernel's result: the change of the weights. -/
theorem result5 (c : Dev nD) : (Gen.dats m 0 c).arrAt 5 cfg0.N = at_args m (change) c := by
  refine (Gen.dats m 0 c).arrAt_eq_of_covers 5 _ (by decide +kernel) fun t hf y => ?_
  show (Gen.dats m 0 c).after 5 t ((cfg0.win 5).xinj (cfg0.grid.coords t) y) = _
  rw [after0_5]
  exact out_at (change) (iblk m c 0 t) (iblk m c 1 t) (iblk m c 2 t) (iblk m c 3 t) _ (fun z => rfl) _

/-- The kernel's result: the mean of the gradients. -/
theorem result6 (c : Dev nD) : (Gen.dats m 0 c).arrAt 6 cfg0.N = at_args m (fun _ g a _ => mean g a) c := by
  refine (Gen.dats m 0 c).arrAt_eq_of_covers 6 _ (by decide +kernel) fun t hf y => ?_
  show (Gen.dats m 0 c).after 6 t ((cfg0.win 6).xinj (cfg0.grid.coords t) y) = _
  rw [after0_6]
  exact out_at (fun _ g a _ => mean g a) (iblk m c 0 t) (iblk m c 1 t) (iblk m c 2 t) (iblk m c 3 t) _ (fun z => rfl) _

/-- The kernel's result: the mean of their squares. -/
theorem result7 (c : Dev nD) : (Gen.dats m 0 c).arrAt 7 cfg0.N = at_args m (fun _ g _ b => square g b) c := by
  refine (Gen.dats m 0 c).arrAt_eq_of_covers 7 _ (by decide +kernel) fun t hf y => ?_
  show (Gen.dats m 0 c).after 7 t ((cfg0.win 7).xinj (cfg0.grid.coords t) y) = _
  rw [after0_7]
  exact out_at (fun _ g _ b => square g b) (iblk m c 0 t) (iblk m c 1 t) (iblk m c 2 t) (iblk m c 3 t) _ (fun z => rfl) _

/-- The reference runs and leaves its arguments as they were. -/
theorem reference_frame : Cert.quiescent_AdamwInReferenceIdeal (hAdamwInReferenceIdeal := Cert.AdamwInReferenceIdeal.Gen.facts) :=
  fun m g _ => (θ_run Cert.AdamwInReferenceIdeal.defs _ _).mono (fun r h => ⟨fun c => (h c).2.2.2.2, sem_eq_zero_of_no_sems (by decide) r.2⟩)
    (Cert.AdamwInReferenceIdeal.Value.run m g)

/-- The kernel and the reference end with the same results. -/
theorem algebraic : Cert.algebraic_AdamwInIdeal_AdamwInReferenceIdeal (hAdamwInIdeal := Gen.facts) (hAdamwInReferenceIdeal := Cert.AdamwInReferenceIdeal.Gen.facts) := by
  intro m g m' g' _ harg
  refine ⟨_, _, _, _, (θ_run defs _ _).mono (fun r h c => ⟨(h c).1.trans (result4 m c), (h c).2.1.trans (result5 m c), (h c).2.2.1.trans (result6 m c), (h c).2.2.2.1.trans (result7 m c), (h c).2.2.2.2⟩) (Value.run_blocks m g),
    (θ_run Cert.AdamwInReferenceIdeal.defs _ _).mono (fun r h c => ⟨(h c).1.trans ?_, (h c).2.1.trans ?_, (h c).2.2.1.trans ?_, (h c).2.2.2.1.trans ?_, (h c).2.2.2.2⟩) (Cert.AdamwInReferenceIdeal.Value.run m' g')⟩
  all_goals
    obtain ⟨h0, h1, h2, h3⟩ := harg c
    simp only [h0, h1, h2, h3]
    rfl

end Cert.AdamwInIdeal.Step

end
-- ==== Proof.AdamwOut.lean ====
/- The optimiser's step of the output projection: the kernel and the reference end with the same four arrays. -/
module

public import proofs.«01_k».proof.Proof.Weight
public import proofs.«01_k».proof.Proof.Entries
public import proofs.«01_k».proof.Defs
public import proofs.«01_k».proof.Proof.Gen.AdamwOut.Frame
public import proofs.«01_k».proof.Proof.Gen.AdamwOutIdeal.Value
public import proofs.«01_k».proof.Proof.Gen.AdamwOutReferenceIdeal.Run
public import proofs.«01_k».proof.Proof.Gen.AdamwOutReferenceIdeal.Read

@[expose] public section

noncomputable section

namespace Cert.AdamwOutIdeal.Step

open Cert.AdamwOutIdeal Cert.AdamwOutIdeal.Gen Cert.Weight
open Idealize.ShloMosaic

variable (m : (ℓ : Loc nD τ sig) → Buf (Elt Ideal) ℓ)

/-- The arrays of the four arguments put through `f` at every index. -/
def at_args (f : EReal → EReal → EReal → EReal → EReal) (c : Dev nD) (y : S512x2048.Idx) : EReal :=
  f (m ((c.tc : Thread nD τ).loc main_arg0) y) (m ((c.tc : Thread nD τ).loc main_arg1) y) (m ((c.tc : Thread nD τ).loc main_arg2) y) (m ((c.tc : Thread nD τ).loc main_arg3) y)

/-- A block of a result: one whole store, whose payload is `f` of the blocks of the arguments at every index. -/
theorem out_at (f : EReal → EReal → EReal → EReal → EReal) (x0 x1 x2 x3 p : Vec Ideal S256x2048 .f32)
    (h : ∀ z, p z = f (View.ld x0 r0_0 z) (View.ld x1 r0_0 z) (View.ld x2 r0_0 z) (View.ld x3 r0_0 z)) (y : S256x2048.Idx) :
    View.canon (Val := Elt Ideal) (e := .f32) [⟨r0_0, p⟩] y = f (x0 y) (x1 y) (x2 y) (x3 y) := by
  refine View.canon_apply_of_pieces (Val := Elt Ideal) (e := .f32) (fun y : S256x2048.Idx => (f (x0 y) (x1 y) (x2 y) (x3 y) : EReal)) _ ?_ y (cover0_4 _ y)
  intro q hq
  obtain rfl := List.mem_singleton.mp hq
  exact h

/-- The kernel's result: the gradient. -/
theorem result4 (c : Dev nD) : (Gen.dats m 0 c).arrAt 4 cfg0.N = at_args m (fun _ g _ _ => g) c := by
  refine (Gen.dats m 0 c).arrAt_eq_of_covers 4 _ (by decide +kernel) fun t hf y => ?_
  show (Gen.dats m 0 c).after 4 t ((cfg0.win 4).xinj (cfg0.grid.coords t) y) = _
  rw [after0_4]
  exact out_at (fun _ g _ _ => g) (iblk m c 0 t) (iblk m c 1 t) (iblk m c 2 t) (iblk m c 3 t) _ (fun z => rfl) _

/-- The kernel's result: the change of the weights. -/
theorem result5 (c : Dev nD) : (Gen.dats m 0 c).arrAt 5 cfg0.N = at_args m (change) c := by
  refine (Gen.dats m 0 c).arrAt_eq_of_covers 5 _ (by decide +kernel) fun t hf y => ?_
  show (Gen.dats m 0 c).after 5 t ((cfg0.win 5).xinj (cfg0.grid.coords t) y) = _
  rw [after0_5]
  exact out_at (change) (iblk m c 0 t) (iblk m c 1 t) (iblk m c 2 t) (iblk m c 3 t) _ (fun z => rfl) _

/-- The kernel's result: the mean of the gradients. -/
theorem result6 (c : Dev nD) : (Gen.dats m 0 c).arrAt 6 cfg0.N = at_args m (fun _ g a _ => mean g a) c := by
  refine (Gen.dats m 0 c).arrAt_eq_of_covers 6 _ (by decide +kernel) fun t hf y => ?_
  show (Gen.dats m 0 c).after 6 t ((cfg0.win 6).xinj (cfg0.grid.coords t) y) = _
  rw [after0_6]
  exact out_at (fun _ g a _ => mean g a) (iblk m c 0 t) (iblk m c 1 t) (iblk m c 2 t) (iblk m c 3 t) _ (fun z => rfl) _

/-- The kernel's result: the mean of their squares. -/
theorem result7 (c : Dev nD) : (Gen.dats m 0 c).arrAt 7 cfg0.N = at_args m (fun _ g _ b => square g b) c := by
  refine (Gen.dats m 0 c).arrAt_eq_of_covers 7 _ (by decide +kernel) fun t hf y => ?_
  show (Gen.dats m 0 c).after 7 t ((cfg0.win 7).xinj (cfg0.grid.coords t) y) = _
  rw [after0_7]
  exact out_at (fun _ g _ b => square g b) (iblk m c 0 t) (iblk m c 1 t) (iblk m c 2 t) (iblk m c 3 t) _ (fun z => rfl) _

/-- The reference runs and leaves its arguments as they were. -/
theorem reference_frame : Cert.quiescent_AdamwOutReferenceIdeal (hAdamwOutReferenceIdeal := Cert.AdamwOutReferenceIdeal.Gen.facts) :=
  fun m g _ => (θ_run Cert.AdamwOutReferenceIdeal.defs _ _).mono (fun r h => ⟨fun c => (h c).2.2.2.2, sem_eq_zero_of_no_sems (by decide) r.2⟩)
    (Cert.AdamwOutReferenceIdeal.Value.run m g)

/-- The kernel and the reference end with the same results. -/
theorem algebraic : Cert.algebraic_AdamwOutIdeal_AdamwOutReferenceIdeal (hAdamwOutIdeal := Gen.facts) (hAdamwOutReferenceIdeal := Cert.AdamwOutReferenceIdeal.Gen.facts) := by
  intro m g m' g' _ harg
  refine ⟨_, _, _, _, (θ_run defs _ _).mono (fun r h c => ⟨(h c).1.trans (result4 m c), (h c).2.1.trans (result5 m c), (h c).2.2.1.trans (result6 m c), (h c).2.2.2.1.trans (result7 m c), (h c).2.2.2.2⟩) (Value.run_blocks m g),
    (θ_run Cert.AdamwOutReferenceIdeal.defs _ _).mono (fun r h c => ⟨(h c).1.trans ?_, (h c).2.1.trans ?_, (h c).2.2.1.trans ?_, (h c).2.2.2.1.trans ?_, (h c).2.2.2.2⟩) (Cert.AdamwOutReferenceIdeal.Value.run m' g')⟩
  all_goals
    obtain ⟨h0, h1, h2, h3⟩ := harg c
    simp only [h0, h1, h2, h3]
    rfl

end Cert.AdamwOutIdeal.Step

end
-- ==== Proof.AdamwFf.lean ====
/- The optimiser's step of a feed-forward matrix: the kernel and the reference end with the same four arrays. -/
module

public import proofs.«01_k».proof.Proof.Weight
public import proofs.«01_k».proof.Proof.Entries
public import proofs.«01_k».proof.Defs
public import proofs.«01_k».proof.Proof.Gen.AdamwFf.Frame
public import proofs.«01_k».proof.Proof.Gen.AdamwFfIdeal.Value
public import proofs.«01_k».proof.Proof.Gen.AdamwFfReferenceIdeal.Run
public import proofs.«01_k».proof.Proof.Gen.AdamwFfReferenceIdeal.Read

@[expose] public section

noncomputable section

namespace Cert.AdamwFfIdeal.Step

open Cert.AdamwFfIdeal Cert.AdamwFfIdeal.Gen Cert.Weight
open Idealize.ShloMosaic

variable (m : (ℓ : Loc nD τ sig) → Buf (Elt Ideal) ℓ)

/-- The arrays of the four arguments put through `f` at every index. -/
def at_args (f : EReal → EReal → EReal → EReal → EReal) (c : Dev nD) (y : S2048x2048.Idx) : EReal :=
  f (m ((c.tc : Thread nD τ).loc main_arg0) y) (m ((c.tc : Thread nD τ).loc main_arg1) y) (m ((c.tc : Thread nD τ).loc main_arg2) y) (m ((c.tc : Thread nD τ).loc main_arg3) y)

/-- A block of a result: one whole store, whose payload is `f` of the blocks of the arguments at every index. -/
theorem out_at (f : EReal → EReal → EReal → EReal → EReal) (x0 x1 x2 x3 p : Vec Ideal S256x2048 .f32)
    (h : ∀ z, p z = f (View.ld x0 r0_0 z) (View.ld x1 r0_0 z) (View.ld x2 r0_0 z) (View.ld x3 r0_0 z)) (y : S256x2048.Idx) :
    View.canon (Val := Elt Ideal) (e := .f32) [⟨r0_0, p⟩] y = f (x0 y) (x1 y) (x2 y) (x3 y) := by
  refine View.canon_apply_of_pieces (Val := Elt Ideal) (e := .f32) (fun y : S256x2048.Idx => (f (x0 y) (x1 y) (x2 y) (x3 y) : EReal)) _ ?_ y (cover0_4 _ y)
  intro q hq
  obtain rfl := List.mem_singleton.mp hq
  exact h

/-- The kernel's result: the gradient. -/
theorem result4 (c : Dev nD) : (Gen.dats m 0 c).arrAt 4 cfg0.N = at_args m (fun _ g _ _ => g) c := by
  refine (Gen.dats m 0 c).arrAt_eq_of_covers 4 _ (by decide +kernel) fun t hf y => ?_
  show (Gen.dats m 0 c).after 4 t ((cfg0.win 4).xinj (cfg0.grid.coords t) y) = _
  rw [after0_4]
  exact out_at (fun _ g _ _ => g) (iblk m c 0 t) (iblk m c 1 t) (iblk m c 2 t) (iblk m c 3 t) _ (fun z => rfl) _

/-- The kernel's result: the change of the weights. -/
theorem result5 (c : Dev nD) : (Gen.dats m 0 c).arrAt 5 cfg0.N = at_args m (change) c := by
  refine (Gen.dats m 0 c).arrAt_eq_of_covers 5 _ (by decide +kernel) fun t hf y => ?_
  show (Gen.dats m 0 c).after 5 t ((cfg0.win 5).xinj (cfg0.grid.coords t) y) = _
  rw [after0_5]
  exact out_at (change) (iblk m c 0 t) (iblk m c 1 t) (iblk m c 2 t) (iblk m c 3 t) _ (fun z => rfl) _

/-- The kernel's result: the mean of the gradients. -/
theorem result6 (c : Dev nD) : (Gen.dats m 0 c).arrAt 6 cfg0.N = at_args m (fun _ g a _ => mean g a) c := by
  refine (Gen.dats m 0 c).arrAt_eq_of_covers 6 _ (by decide +kernel) fun t hf y => ?_
  show (Gen.dats m 0 c).after 6 t ((cfg0.win 6).xinj (cfg0.grid.coords t) y) = _
  rw [after0_6]
  exact out_at (fun _ g a _ => mean g a) (iblk m c 0 t) (iblk m c 1 t) (iblk m c 2 t) (iblk m c 3 t) _ (fun z => rfl) _

/-- The kernel's result: the mean of their squares. -/
theorem result7 (c : Dev nD) : (Gen.dats m 0 c).arrAt 7 cfg0.N = at_args m (fun _ g _ b => square g b) c := by
  refine (Gen.dats m 0 c).arrAt_eq_of_covers 7 _ (by decide +kernel) fun t hf y => ?_
  show (Gen.dats m 0 c).after 7 t ((cfg0.win 7).xinj (cfg0.grid.coords t) y) = _
  rw [after0_7]
  exact out_at (fun _ g _ b => square g b) (iblk m c 0 t) (iblk m c 1 t) (iblk m c 2 t) (iblk m c 3 t) _ (fun z => rfl) _

/-- The reference runs and leaves its arguments as they were. -/
theorem reference_frame : Cert.quiescent_AdamwFfReferenceIdeal (hAdamwFfReferenceIdeal := Cert.AdamwFfReferenceIdeal.Gen.facts) :=
  fun m g _ => (θ_run Cert.AdamwFfReferenceIdeal.defs _ _).mono (fun r h => ⟨fun c => (h c).2.2.2.2, sem_eq_zero_of_no_sems (by decide) r.2⟩)
    (Cert.AdamwFfReferenceIdeal.Value.run m g)

/-- The kernel and the reference end with the same results. -/
theorem algebraic : Cert.algebraic_AdamwFfIdeal_AdamwFfReferenceIdeal (hAdamwFfIdeal := Gen.facts) (hAdamwFfReferenceIdeal := Cert.AdamwFfReferenceIdeal.Gen.facts) := by
  intro m g m' g' _ harg
  refine ⟨_, _, _, _, (θ_run defs _ _).mono (fun r h c => ⟨(h c).1.trans (result4 m c), (h c).2.1.trans (result5 m c), (h c).2.2.1.trans (result6 m c), (h c).2.2.2.1.trans (result7 m c), (h c).2.2.2.2⟩) (Value.run_blocks m g),
    (θ_run Cert.AdamwFfReferenceIdeal.defs _ _).mono (fun r h c => ⟨(h c).1.trans ?_, (h c).2.1.trans ?_, (h c).2.2.1.trans ?_, (h c).2.2.2.1.trans ?_, (h c).2.2.2.2⟩) (Cert.AdamwFfReferenceIdeal.Value.run m' g')⟩
  all_goals
    obtain ⟨h0, h1, h2, h3⟩ := harg c
    simp only [h0, h1, h2, h3]
    rfl

end Cert.AdamwFfIdeal.Step

end
-- ==== Proof.Row.lean ====
/- A row divided by the root of its mean square: the gradient through it, as the product rule makes it and in closed form. -/
module

public import proofs.«01_k».proof.Proof.Entries
public import Idealize.ShloMosaic.Lib.Pointwise
public import Idealize.ShloMosaic.PureOps.Ideal.Laws

@[expose] public section

noncomputable section

namespace Cert.Row

open Idealize.ShloMosaic Cert.Entries

/-- A sum from zero. -/
theorem from_zero (s : EReal) : Ideal.ofBits .f32 0x00000000#32 + s = s := (congrArg (· + s) (Ideal.ofBits_zero .f32)).trans (zero_add s)

/-- The length of a row. -/
theorem lit_size : Ideal.ofBits .f32 0x45000000#32 = ((2048 : ℝ) : EReal) := by
  simp [Ideal.ofBits, Ideal.ieee]
  norm_num [← EReal.coe_mul]

/-- A quotient by the length of a row. -/
theorem div_size (a : EReal) : Ideal.div a (Ideal.ofBits .f32 0x45000000#32) = a * ((1 / 2048 : ℝ) : EReal) := by
  rw [lit_size, Ideal.div_coe (by norm_num)]

/-- The small number added to the mean square is positive. -/
theorem small_pos : 0 < Ideal.ofBits .f32 0x358637BD#32 := by
  simp [Ideal.ofBits, Ideal.ieee]
  rw [← EReal.coe_mul]
  exact_mod_cast (by positivity : (0 : ℝ) < _)

/-- Minus one half. -/
theorem lit_minus_half : Ideal.ofBits .f32 0xBF000000#32 = ((-(1 / 2) : ℝ) : EReal) := by
  simp [Ideal.ofBits, Ideal.ieee]
  norm_num [← EReal.coe_mul]

/-- One half. -/
theorem lit_half : Ideal.ofBits .f32 0x3F000000#32 = ((1 / 2 : ℝ) : EReal) := by
  simp [Ideal.ofBits, Ideal.ieee]
  norm_num [← EReal.coe_mul]

/-- One. -/
theorem lit_one : Ideal.ofBits .f32 0x3F800000#32 = 1 := by
  simp [Ideal.ofBits, Ideal.ieee]
  norm_num [← EReal.coe_mul]

/-- The gradient of half a mean square, as the product rule makes it. -/
theorem half_twice (e : EReal) : Ideal.div (Ideal.ofBits .f32 0x3F000000#32 * Ideal.ofBits .f32 0x3F800000#32) (Ideal.ofBits .f32 0x45000000#32) * (Ideal.ofBits .f32 0x40000000#32 * e)
    = Ideal.div e (Ideal.ofBits .f32 0x45000000#32) := by
  have w : ((1 / 2 : ℝ) : EReal) * 2 = 1 := by
    rw [show (2 : EReal) = ((2 : ℝ) : EReal) from rfl, ← EReal.coe_mul]
    norm_num
  rw [div_size, div_size, lit_one, mul_one, lit_two, lit_half, mul_mul_mul_comm, w, one_mul, mul_comm]

/-- Half of a sum of numbers that are not negative, half by half. -/
theorem half_sum {ι : Type} (s : Finset ι) (f : ι → EReal) (h : ∀ i, 0 ≤ f i) :
    ∑ i ∈ s, Ideal.ofBits .f32 0x3F000000#32 * f i = Ideal.ofBits .f32 0x3F000000#32 * ∑ i ∈ s, f i := by
  classical
  induction s using Finset.induction_on with
  | empty => simp
  | insert a s ha ih => rw [Finset.sum_insert ha, Finset.sum_insert ha, ih, EReal.left_distrib_of_nonneg (h a) (Finset.sum_nonneg fun i _ => h i)]

/-- A square is not negative. -/
theorem square_nonneg (a : EReal) : 0 ≤ a * a := by
  rcases le_total 0 a with h | h
  · exact mul_nonneg h h
  · rw [← neg_mul_neg]
    exact mul_nonneg (EReal.neg_nonneg.mpr h) (EReal.neg_nonneg.mpr h)

/-- The mean square of a row and the small number. -/
def mean (x : Fin 2048 → EReal) : EReal :=
  Ideal.div (∑ k : Fin 2048, x k * x k) (Ideal.ofBits .f32 0x45000000#32) + Ideal.ofBits .f32 0x358637BD#32

theorem mean_pos (x : Fin 2048 → EReal) : 0 < mean x := by
  refine lt_of_lt_of_le small_pos (le_add_of_nonneg_left ?_)
  rw [div_size]
  exact mul_nonneg (Finset.sum_nonneg fun k _ => square_nonneg _) (by exact_mod_cast (by norm_num : (0 : ℝ) ≤ 1 / 2048))

/-- What a row is multiplied by: one over the root of its mean square. -/
def root (x : Fin 2048 → EReal) : EReal := Ideal.rsqrt (mean x)

/-- The reciprocal root of a positive number over the number is the reciprocal root's cube. -/
theorem cube {a : EReal} (h : 0 < a) : Ideal.div (Ideal.rsqrt a) a = Ideal.rsqrt a * Ideal.rsqrt a * Ideal.rsqrt a := by
  induction a with
  | bot => exact absurd h (by simp)
  | top => rw [show Ideal.rsqrt ⊤ = 0 from rfl, Ideal.div, if_neg EReal.top_ne_zero, zero_mul, zero_mul, zero_mul]
  | coe r =>
    have hr : (0 : ℝ) < r := by exact_mod_cast h
    have e : Ideal.rsqrt (r : EReal) = ((√r)⁻¹ : ℝ) := (if_neg (not_lt.mpr hr.le)).trans (if_neg hr.ne')
    have hs : √r * √r = r := Real.mul_self_sqrt hr.le
    rw [Ideal.div_coe hr.ne', e, ← EReal.coe_mul, ← EReal.coe_mul, ← EReal.coe_mul, one_div, mul_assoc (√r)⁻¹, ← mul_inv √r √r, hs]

/-- The gradient of the row `x` where the gradient of the divided row is `u`. -/
def grad (u x : Fin 2048 → EReal) (j : Fin 2048) : EReal :=
  u j * root x - (x j * (root x * root x * root x)) * Ideal.div (∑ k : Fin 2048, u k * x k) (Ideal.ofBits .f32 0x45000000#32)

/-- The gradient of a square's factor: through the mean and the root. -/
def share (u x : Fin 2048 → EReal) : EReal :=
  Ideal.div ((∑ k : Fin 2048, x k * u k) * (Ideal.ofBits .f32 0xBF000000#32 * Ideal.div (root x) (mean x))) (Ideal.ofBits .f32 0x45000000#32)

/-- The product rule's three terms are the gradient. -/
theorem rule (u x : Fin 2048 → EReal) (j : Fin 2048) : (u j * root x + x j * share u x) + share u x * x j = grad u x j := by
  rw [add_assoc, twice]
  unfold share grad
  rw [sub_eq_add_neg]
  refine congrArg _ ?_
  rw [show Ideal.div (root x) (mean x) = root x * root x * root x from cube (mean_pos x), div_size, div_size, lit_minus_half,
    Finset.sum_congr rfl fun (k : Fin 2048) _ => mul_comm (x k) (u k)]
  generalize ∑ k : Fin 2048, u k * x k = s
  generalize root x * root x * root x = c
  refine Eq.trans ?_ (neg_one_mul _)
  rw [show (-1 : EReal) = ((-(1 / 2) : ℝ) : EReal) * 2 from ?_]
  · generalize ((-(1 / 2) : ℝ) : EReal) = h
    generalize ((1 / 2048 : ℝ) : EReal) = q
    ac_rfl
  · rw [show (2 : EReal) = ((2 : ℝ) : EReal) from rfl, ← EReal.coe_mul, show (-(1 / 2) * 2 : ℝ) = -1 by norm_num]
    rfl

/-- Row `i` of a matrix. -/
def row {a : ℕ} (X : (⟨2, ![a, 2048]⟩ : Shape).Idx → EReal) (i : ℕ) : Fin 2048 → EReal := fun k => e2 X i k

/-- An entry of the gradient of the divided and scaled matrix `x`, where the gradient of the result is `dy` and the scale `g`. -/
def change {a : ℕ} (dy x : (⟨2, ![a, 2048]⟩ : Shape).Idx → EReal) (g : (⟨2, ![1, 2048]⟩ : Shape).Idx → EReal) (i : ℕ) (j : Fin 2048) : EReal :=
  grad (fun k => row dy i k * row g 0 k) (row x i) j

/-- What row `i` adds to an entry of the gradient of the scale. -/
def weight {a : ℕ} (dy x : (⟨2, ![a, 2048]⟩ : Shape).Idx → EReal) (i : ℕ) (j : Fin 2048) : EReal :=
  row dy i j * (row x i j * root (row x i))

end Cert.Row

end
-- ==== Proof.NormMixBwd.lean ====
/- The gradient through the first norm: the kernel and the reference end with the same two arrays. -/
module

public import proofs.«01_k».proof.Proof.Row
public import proofs.«01_k».proof.Defs
public import proofs.«01_k».proof.Proof.Gen.NormMixBwd.Frame
public import proofs.«01_k».proof.Proof.Gen.NormMixBwdIdeal.Value
public import proofs.«01_k».proof.Proof.Gen.NormMixBwdReferenceIdeal.Run
public import proofs.«01_k».proof.Proof.Gen.NormMixBwdReferenceIdeal.Read
public import Idealize.ShloMosaic.Lib.Pipeline.ValueKit.Acc

@[expose] public section

noncomputable section

namespace Cert.NormMixBwdIdeal.Norm

open Cert.NormMixBwdIdeal Cert.NormMixBwdIdeal.Gen Cert.Entries
open Idealize.ShloMosaic

/-- An entry of a block of the gradient. -/
theorem pay_row (dy x r : Vec Ideal S256x2048 .f32) (g : Vec Ideal S1x2048 .f32) (i : Fin 256) (j : Fin 2048) :
    k0_pay5 (F := Ideal) dy x g r (ix2 i j) = r (ix2 i j) + Row.grad (fun k => dy (ix2 i k) * g (ix2 0 k)) (fun k => x (ix2 i k)) j := by
  pointwise [k0_pay5, k0_pay3, Row.grad, Row.root, Row.mean]

/-- What a block of rows adds to an entry of the gradient of the scale. -/
theorem pay_scale (dy x : Vec Ideal S256x2048 .f32) (a : Vec Ideal S1x2048 .f32) (j : Fin 2048) :
    k0_pay1 (F := Ideal) (k0_pay4 dy x) a (ix2 0 j) = a (ix2 0 j) + ∑ k : Fin 256, dy (ix2 k j) * (x (ix2 k j) * Row.root fun l => x (ix2 k l)) := by
  pointwise [k0_pay1, k0_pay4, k0_pay3, Row.root, Row.mean]

/-- The block indices of the windows. -/
theorem idx (t : Fin cfg0.N) : win0_0.index t = ![t.val, 0] ∧ win0_1.index t = ![t.val, 0] ∧ win0_2.index t = ![t.val, 0] ∧ win0_3.index t = ![0, 0] ∧ win0_4.index t = ![t.val, 0] ∧ win0_5.index t = ![0, 0] :=
  (by decide +kernel : ∀ t : Fin grid0.N, win0_0.index t = ![t.val, 0] ∧ win0_1.index t = ![t.val, 0] ∧ win0_2.index t = ![t.val, 0] ∧ win0_3.index t = ![0, 0] ∧ win0_4.index t = ![t.val, 0] ∧ win0_5.index t = ![0, 0]) t

variable (m : (ℓ : Loc nD τ sig) → Buf (Elt Ideal) ℓ)

/-- The arguments' arrays on a device. -/
abbrev dy (c : Dev nD) := m ((c.tc : Thread nD τ).loc main_arg0)
abbrev x (c : Dev nD) := m ((c.tc : Thread nD τ).loc main_arg1)
abbrev res (c : Dev nD) := m ((c.tc : Thread nD τ).loc main_arg2)
abbrev g (c : Dev nD) := m ((c.tc : Thread nD τ).loc main_arg3)

/-- An entry of a point's blocks, in the arrays. -/
theorem entry (c : Dev nD) (t : Fin cfg0.N) (i : Fin 256) (j : Fin 2048) :
    iblk (F := Ideal) m c 0 t (ix2 i j) = Row.row (dy m c) (t.val * 256 + i) j ∧ iblk (F := Ideal) m c 1 t (ix2 i j) = Row.row (x m c) (t.val * 256 + i) j
      ∧ iblk (F := Ideal) m c 2 t (ix2 i j) = Row.row (res m c) (t.val * 256 + i) j ∧ iblk (F := Ideal) m c 3 t (ix2 0 j) = Row.row (g m c) 0 j := by
  obtain ⟨i0, i1, i2, i3, -⟩ := idx t
  refine ⟨at2 _ (((cfg0.win 0).rect t).emb (ix2 i j)) (place ((cfg0.win 0).rect_emb_val t _ 0) (congrFun i0 0) rfl) (place ((cfg0.win 0).rect_emb_val t _ 1) (congrFun i0 1) (zero_val 2048 j)),
    at2 _ (((cfg0.win 1).rect t).emb (ix2 i j)) (place ((cfg0.win 1).rect_emb_val t _ 0) (congrFun i1 0) rfl) (place ((cfg0.win 1).rect_emb_val t _ 1) (congrFun i1 1) (zero_val 2048 j)),
    at2 _ (((cfg0.win 2).rect t).emb (ix2 i j)) (place ((cfg0.win 2).rect_emb_val t _ 0) (congrFun i2 0) rfl) (place ((cfg0.win 2).rect_emb_val t _ 1) (congrFun i2 1) (zero_val 2048 j)),
    at2 _ (((cfg0.win 3).rect t).emb (ix2 (0 : Fin 1) j)) (place ((cfg0.win 3).rect_emb_val t _ 0) (congrFun i3 0) rfl) (place ((cfg0.win 3).rect_emb_val t _ 1) (congrFun i3 1) (zero_val 2048 j))⟩

/-- What a point writes of the gradient. -/
theorem rows (c : Dev nD) (t : Fin cfg0.N) : (outsAt0 m c t.val t.isLt).1 = k0_pay5 (F := Ideal) (iblk m c 0 t) (iblk m c 1 t) (iblk m c 3 t) (iblk m c 2 t) := by
  by_cases h : t.val % 16 = 0
  · rw [outsAt0_A m c t h]
    frame_out
  · rw [outsAt0_B m c t h]
    frame_out

/-- The kernel's first result: the gradient. -/
theorem result4 (c : Dev nD) : (Gen.dats m 0 c).arrAt 4 cfg0.N =
    fun y : S4096x2048.Idx => (e2 (res m c) (y 0).val (y 1).val + Row.change (dy m c) (x m c) (g m c) (y 0).val (y 1) : EReal) := by
  refine (Gen.dats m 0 c).arrAt_eq_of_covers 4 _ (by decide +kernel) fun t hf y => ?_
  show (Gen.dats m 0 c).after 4 t ((cfg0.win 4).xinj (cfg0.grid.coords t) y) = e2 _ (((cfg0.win 4).rect t).emb y 0).val (((cfg0.win 4).rect t).emb y 1).val + Row.change _ _ _ (((cfg0.win 4).rect t).emb y 0).val (((cfg0.win 4).rect t).emb y 1)
  have i4 := (idx t).2.2.2.2.1
  have e : ((cfg0.win 4).rect t).emb y 1 = y 1 := Fin.ext (place ((cfg0.win 4).rect_emb_val t y 1) (congrFun i4 1) (zero_val 2048 (y 1)))
  rw [after0_4, rows, e, place ((cfg0.win 4).rect_emb_val t y 0) (congrFun i4 0) rfl]
  refine ((congrArg _ (eta2 y)).trans (pay_row _ _ _ _ (y 0) (y 1))).trans (congrArg₂ (· + ·) (entry m c t (y 0) (y 1)).2.2.1 ?_)
  exact congrArg₂ (fun u v => Row.grad u v (y 1)) (funext fun k => congrArg₂ (· * ·) (entry m c t (y 0) k).1 (entry m c t (y 0) k).2.2.2) (funext fun k => (entry m c t (y 0) k).2.1)

/-- The kernel's second result: the gradient of the scale. -/
theorem result5 (c : Dev nD) : (Gen.dats m 0 c).arrAt 5 cfg0.N =
    fun y : S1x2048.Idx => (∑ k : Fin 4096, Row.weight (dy m c) (x m c) k (y 1) : EReal) := by
  refine (Gen.dats m 0 c).arrAt_eq_of_covers 5 _ (by decide +kernel) fun t hf y => ?_
  show (Gen.dats m 0 c).after 5 t ((cfg0.win 5).xinj (cfg0.grid.coords t) y) = ∑ k : Fin 4096, Row.weight _ _ k (((cfg0.win 5).rect t).emb y 1)
  have i5 := (idx t).2.2.2.2.2
  have e : ((cfg0.win 5).rect t).emb y 1 = y 1 := Fin.ext (place ((cfg0.win 5).rect_emb_val t y 1) (congrFun i5 1) (zero_val 2048 (y 1)))
  have hN : t.val < 16 := lt_of_lt_of_eq t.isLt N_0
  have step (t : Fin cfg0.N) (a : Vec Ideal S1x2048 .f32) (z : S1x2048.Idx) : k0_pay1 (F := Ideal) (k0_pay4 (iblk m c 0 t) (iblk m c 1 t)) a z =
      (a z + ∑ k : Fin 256, Row.weight (dy m c) (x m c) (t.val * 256 + k) (z 1) : EReal) := by
    rw [eta2 z, show z 0 = (0 : Fin 1) from Subsingleton.elim (α := Fin 1) _ _]
    refine (pay_scale _ _ a (z 1)).trans (congrArg _ (Finset.sum_congr rfl fun k _ => ?_))
    exact congrArg₂ (· * ·) (entry m c t k (z 1)).1 (congrArg₂ (· * ·) (entry m c t k (z 1)).2.1 (congrArg Row.root (funext fun l => (entry m c t k l).2.1)))
  rw [after0_5, e, Pipeline.eq_sum_fin_of_reset_step_apply_last (fun n h => (outsAt0 m c n h).2) 16 (fun _ => (0 : EReal))
    (fun t z => (∑ k : Fin 256, Row.weight (dy m c) (x m c) (t.val * 256 + k) (z 1) : EReal)) ?_ ?_ (le_of_eq N_0) t ?_]
  · rw [zero_add]
    exact (sum_blocks 16 256 fun n => Row.weight (dy m c) (x m c) n (y 1)).symm
  · intro t h z
    rw [outsAt0_A m c t h]
    frame_out
    exact (step t _ z).trans (congrArg (· + _) ((congrFun (shapeCast_self (k0_pay2 (F := Ideal)) _) z).trans (Ideal.ofBits_zero .f32)))
  · intro t h z
    rw [outsAt0_B m c t h]
    frame_out
    exact (step t _ z).trans (congrArg (· + _) (congrFun (shapeCast_self _ _) z))
  · have := (flush0_5 t).mp hf
    show t.val + 1 = 16
    omega

section
variable (dy x : (⟨S4096x2048, .f32⟩ : BufTy).Contents (Elt Ideal)) (g : (⟨S1x2048, .f32⟩ : BufTy).Contents (Elt Ideal))
open Cert.NormMixBwdReferenceIdeal.Read

/-- The reference's mean square of a row, with the small number. -/
theorem mean (z : Cert.NormMixBwdReferenceIdeal.S4096x1.Idx) : val_main_v6 (F := Ideal) x z = Row.mean (Row.row x (z 0).val) := by
  rw [val_main_v6_apply, val_main_v4_apply, val_main_v3_apply, val_main_v5_apply, val_main_v2_apply, val_main_v1_apply]
  refine congrArg (fun s : EReal => Ideal.div s (Ideal.ofBits .f32 0x45000000#32) + Ideal.ofBits .f32 0x358637BD#32) ((Row.from_zero _).trans ((Finset.sum_congr rfl fun k _ => ?_)))
  exact congrArg₂ (· * ·) (at2 x _ rfl rfl) (at2 x _ rfl rfl)

/-- The reference's divisor of a row. -/
theorem root (z : Cert.NormMixBwdReferenceIdeal.S4096x1.Idx) : val_main_v7 (F := Ideal) x z = Row.root (Row.row x (z 0).val) :=
  congrArg Ideal.rsqrt (mean x z)

/-- The reference's gradient of the divided row. -/
theorem scaled (y : S4096x2048.Idx) : val_main_v21 (F := Ideal) dy g y = Row.row dy (y 0).val (y 1) * Row.row g 0 (y 1) := by
  rw [val_main_v21_apply, val_main_v20_apply, val_main_v14_apply, val_main_v13_apply]
  exact congrArg₂ (· * ·) (at2 dy _ rfl rfl) (at2 g _ (Nat.lt_one_iff.mp (Fin.isLt _)) (Nat.mod_eq_of_lt (y 1).isLt))

/-- The reference's gradient of a square's factor. -/
theorem share (y : S4096x2048.Idx) : val_main_v33 (F := Ideal) dy x g y = Row.share (fun k => Row.row dy (y 0).val k * Row.row g 0 k) (Row.row x (y 0).val) := by
  rw [val_main_v33_apply, val_main_v32_apply, Fin.sum_univ_one, val_main_v31_apply, val_main_v30_apply, val_main_v29_apply, val_main_v26_apply, val_main_v25_apply, val_main_v10_apply, val_main_v9_apply, val_main_v8_apply, mean, root]
  refine (Row.from_zero _).trans ((congrArg (fun s : EReal => Ideal.div (s * _) _) ((Row.from_zero _).trans ((Finset.sum_congr rfl fun k _ => ?_)))))
  rw [val_main_v24_apply, scaled]
  have h : (y 0).val * 1 + 0 = (y 0).val := by omega
  exact congrArg₂ (· * ·) (at2 x _ h rfl) (congrArg (fun i => Row.row dy i k * Row.row g 0 k) h)

/-- The reference's first result: the gradient. -/
theorem reference4 (res : (⟨S4096x2048, .f32⟩ : BufTy).Contents (Elt Ideal)) :
    val_main_v38 (F := Ideal) dy x res g = fun y : S4096x2048.Idx => (e2 res (y 0).val (y 1).val + Row.change dy x g (y 0).val (y 1) : EReal) := by
  funext y
  rw [val_main_v38_apply, val_main_v37_apply, val_main_v35_apply, val_main_v34_apply, val_main_v36_apply, val_main_v28_apply, val_main_v27_apply, root, share, scaled]
  refine congrArg₂ (· + ·) (at2 res _ rfl rfl) (Eq.trans ?_ (Row.rule _ _ _))
  rw [show x y = Row.row x (y 0).val (y 1) from at2 x _ rfl rfl]
  rfl

/-- The reference's second result: the gradient of the scale. -/
theorem reference5 : val_main_v23 (F := Ideal) dy x = fun y : S1x2048.Idx => (∑ k : Fin 4096, Row.weight dy x k (y 1) : EReal) := by
  funext y
  rw [val_main_v23_apply, val_main_v22_apply, Fin.sum_univ_one, val_main_v19_apply, val_main_v18_apply]
  refine (Row.from_zero _).trans (((Row.from_zero _).trans ((Finset.sum_congr rfl fun k _ => ?_))))
  rw [val_main_v17_apply, val_main_v12_apply, val_main_v11_apply, root]
  exact (mul_comm _ _).trans (congrArg₂ (· * ·) (at2 dy _ rfl (zero_val 2048 (y 1))) (congrArg₂ (· * ·) (at2 x _ rfl (zero_val 2048 (y 1))) rfl))
end

/-- The reference runs and leaves its arguments as they were. -/
theorem reference_frame : Cert.quiescent_NormMixBwdReferenceIdeal (hNormMixBwdReferenceIdeal := Cert.NormMixBwdReferenceIdeal.Gen.facts) :=
  fun m g _ => (θ_run Cert.NormMixBwdReferenceIdeal.defs _ _).mono (fun r h => ⟨fun c => (h c).2.2, sem_eq_zero_of_no_sems (by decide) r.2⟩)
    (Cert.NormMixBwdReferenceIdeal.Value.run m g)

/-- The kernel and the reference end with the same results. -/
theorem algebraic : Cert.algebraic_NormMixBwdIdeal_NormMixBwdReferenceIdeal (hNormMixBwdIdeal := Gen.facts) (hNormMixBwdReferenceIdeal := Cert.NormMixBwdReferenceIdeal.Gen.facts) := by
  intro m g m' g' _ harg
  refine ⟨_, _, (θ_run defs _ _).mono (fun r h c => ⟨(h c).1.trans (result4 m c), (h c).2.1.trans (result5 m c), (h c).2.2⟩) (Value.run_blocks m g),
    (θ_run Cert.NormMixBwdReferenceIdeal.defs _ _).mono (fun r h c => ⟨(h c).1.trans ((Cert.NormMixBwdReferenceIdeal.Read.val_main_v38_eq m' c).trans ((reference4 _ _ _ _).trans ?_)), (h c).2.1.trans ((reference5 _ _).trans ?_), (h c).2.2⟩) (Cert.NormMixBwdReferenceIdeal.Value.run m' g')⟩
  all_goals
    obtain ⟨h0, h1, h2, h3⟩ := harg c
    simp only [h0, h1, h2, h3]

end Cert.NormMixBwdIdeal.Norm

end
-- ==== Proof.NormFfnBwd.lean ====
/- The gradient through the second norm: the kernel and the reference end with the same three arrays. -/
module

public import proofs.«01_k».proof.Proof.Row
public import proofs.«01_k».proof.Defs
public import proofs.«01_k».proof.Proof.Gen.NormFfnBwd.Frame
public import proofs.«01_k».proof.Proof.Gen.NormFfnBwdIdeal.Value
public import proofs.«01_k».proof.Proof.Gen.NormFfnBwdReferenceIdeal.Run
public import proofs.«01_k».proof.Proof.Gen.NormFfnBwdReferenceIdeal.Read
public import Idealize.ShloMosaic.Lib.Pipeline.ValueKit.Acc

@[expose] public section

noncomputable section

namespace Cert.NormFfnBwdIdeal.Norm

open Cert.NormFfnBwdIdeal Cert.NormFfnBwdIdeal.Gen Cert.Entries
open Idealize.ShloMosaic

/-- An entry of a block of the gradient. -/
theorem pay_row (dy x r : Vec Ideal S256x2048 .f32) (g : Vec Ideal S1x2048 .f32) (i : Fin 256) (j : Fin 2048) :
    k0_pay5 (F := Ideal) dy x g r (ix2 i j) = r (ix2 i j) + Row.grad (fun k => dy (ix2 i k) * g (ix2 0 k)) (fun k => x (ix2 i k)) j := by
  pointwise [k0_pay5, k0_pay3, Row.grad, Row.root, Row.mean]

/-- What a block of rows adds to an entry of the gradient of the scale. -/
theorem pay_scale (dy x : Vec Ideal S256x2048 .f32) (a : Vec Ideal S1x2048 .f32) (j : Fin 2048) :
    k0_pay1 (F := Ideal) (k0_pay4 dy x) a (ix2 0 j) = a (ix2 0 j) + ∑ k : Fin 256, dy (ix2 k j) * (x (ix2 k j) * Row.root fun l => x (ix2 k l)) := by
  pointwise [k0_pay1, k0_pay4, k0_pay3, Row.root, Row.mean]

/-- The block indices of the windows. -/
theorem idx (t : Fin cfg0.N) : win0_0.index t = ![t.val, 0] ∧ win0_1.index t = ![t.val, 0] ∧ win0_2.index t = ![t.val, 0] ∧ win0_3.index t = ![0, 0] ∧ win0_4.index t = ![t.val, 0] ∧ win0_5.index t = ![0, 0] ∧ win0_6.index t = ![t.val, 0] :=
  (by decide +kernel : ∀ t : Fin grid0.N, win0_0.index t = ![t.val, 0] ∧ win0_1.index t = ![t.val, 0] ∧ win0_2.index t = ![t.val, 0] ∧ win0_3.index t = ![0, 0] ∧ win0_4.index t = ![t.val, 0] ∧ win0_5.index t = ![0, 0] ∧ win0_6.index t = ![t.val, 0]) t

variable (m : (ℓ : Loc nD τ sig) → Buf (Elt Ideal) ℓ)

/-- The arguments' arrays on a device. -/
abbrev dy (c : Dev nD) := m ((c.tc : Thread nD τ).loc main_arg0)
abbrev x (c : Dev nD) := m ((c.tc : Thread nD τ).loc main_arg1)
abbrev res (c : Dev nD) := m ((c.tc : Thread nD τ).loc main_arg2)
abbrev g (c : Dev nD) := m ((c.tc : Thread nD τ).loc main_arg3)

/-- An entry of a point's blocks, in the arrays. -/
theorem entry (c : Dev nD) (t : Fin cfg0.N) (i : Fin 256) (j : Fin 2048) :
    iblk (F := Ideal) m c 0 t (ix2 i j) = Row.row (dy m c) (t.val * 256 + i) j ∧ iblk (F := Ideal) m c 1 t (ix2 i j) = Row.row (x m c) (t.val * 256 + i) j
      ∧ iblk (F := Ideal) m c 2 t (ix2 i j) = Row.row (res m c) (t.val * 256 + i) j ∧ iblk (F := Ideal) m c 3 t (ix2 0 j) = Row.row (g m c) 0 j := by
  obtain ⟨i0, i1, i2, i3, -⟩ := idx t
  refine ⟨at2 _ (((cfg0.win 0).rect t).emb (ix2 i j)) (place ((cfg0.win 0).rect_emb_val t _ 0) (congrFun i0 0) rfl) (place ((cfg0.win 0).rect_emb_val t _ 1) (congrFun i0 1) (zero_val 2048 j)),
    at2 _ (((cfg0.win 1).rect t).emb (ix2 i j)) (place ((cfg0.win 1).rect_emb_val t _ 0) (congrFun i1 0) rfl) (place ((cfg0.win 1).rect_emb_val t _ 1) (congrFun i1 1) (zero_val 2048 j)),
    at2 _ (((cfg0.win 2).rect t).emb (ix2 i j)) (place ((cfg0.win 2).rect_emb_val t _ 0) (congrFun i2 0) rfl) (place ((cfg0.win 2).rect_emb_val t _ 1) (congrFun i2 1) (zero_val 2048 j)),
    at2 _ (((cfg0.win 3).rect t).emb (ix2 (0 : Fin 1) j)) (place ((cfg0.win 3).rect_emb_val t _ 0) (congrFun i3 0) rfl) (place ((cfg0.win 3).rect_emb_val t _ 1) (congrFun i3 1) (zero_val 2048 j))⟩

/-- What a point writes of the gradient, in both formats. -/
theorem rows (c : Dev nD) (t : Fin cfg0.N) : (outsAt0 m c t.val t.isLt).1 = k0_pay5 (F := Ideal) (iblk m c 0 t) (iblk m c 1 t) (iblk m c 3 t) (iblk m c 2 t)
    ∧ (outsAt0 m c t.val t.isLt).2.2 = k0_pay6 (F := Ideal) (iblk m c 0 t) (iblk m c 1 t) (iblk m c 3 t) (iblk m c 2 t) := by
  by_cases h : t.val % 16 = 0
  · rw [outsAt0_A m c t h]
    constructor <;> frame_out
  · rw [outsAt0_B m c t h]
    constructor <;> frame_out

/-- An entry of what a point writes, in the arrays. -/
theorem point (c : Dev nD) (t : Fin cfg0.N) (y : S256x2048.Idx) : k0_pay5 (F := Ideal) (iblk m c 0 t) (iblk m c 1 t) (iblk m c 3 t) (iblk m c 2 t) y =
    (Row.row (res m c) (t.val * 256 + (y 0).val) (y 1) + Row.change (dy m c) (x m c) (g m c) (t.val * 256 + (y 0).val) (y 1) : EReal) := by
  refine ((congrArg _ (eta2 y)).trans (pay_row _ _ _ _ (y 0) (y 1))).trans (congrArg₂ (· + ·) (entry m c t (y 0) (y 1)).2.2.1 ?_)
  exact congrArg₂ (fun u v => Row.grad u v (y 1)) (funext fun k => congrArg₂ (· * ·) (entry m c t (y 0) k).1 (entry m c t (y 0) k).2.2.2) (funext fun k => (entry m c t (y 0) k).2.1)

/-- The gradient. -/
abbrev changed (c : Dev nD) (y : S4096x2048.Idx) : EReal := Row.row (res m c) (y 0).val (y 1) + Row.change (dy m c) (x m c) (g m c) (y 0).val (y 1)

/-- The kernel's first result: the gradient. -/
theorem result4 (c : Dev nD) : (Gen.dats m 0 c).arrAt 4 cfg0.N = changed m c := by
  refine (Gen.dats m 0 c).arrAt_eq_of_covers 4 _ (by decide +kernel) fun t hf y => ?_
  show (Gen.dats m 0 c).after 4 t ((cfg0.win 4).xinj (cfg0.grid.coords t) y) = Row.row _ (((cfg0.win 4).rect t).emb y 0).val (((cfg0.win 4).rect t).emb y 1) + Row.change _ _ _ (((cfg0.win 4).rect t).emb y 0).val (((cfg0.win 4).rect t).emb y 1)
  have i4 := (idx t).2.2.2.2.1
  have e : ((cfg0.win 4).rect t).emb y 1 = y 1 := Fin.ext (place ((cfg0.win 4).rect_emb_val t y 1) (congrFun i4 1) (zero_val 2048 (y 1)))
  rw [after0_4, (rows m c t).1, e, place ((cfg0.win 4).rect_emb_val t y 0) (congrFun i4 0) rfl]
  exact point m c t _

/-- The kernel's third result: the gradient, rounded. -/
theorem result6 (c : Dev nD) : (Gen.dats m 0 c).arrAt 6 cfg0.N = changed m c := by
  refine (Gen.dats m 0 c).arrAt_eq_of_covers 6 _ (by decide +kernel) fun t hf y => ?_
  show (Gen.dats m 0 c).after 6 t ((cfg0.win 6).xinj (cfg0.grid.coords t) y) = Row.row _ (((cfg0.win 6).rect t).emb y 0).val (((cfg0.win 6).rect t).emb y 1) + Row.change _ _ _ (((cfg0.win 6).rect t).emb y 0).val (((cfg0.win 6).rect t).emb y 1)
  have i6 := (idx t).2.2.2.2.2.2
  have e : ((cfg0.win 6).rect t).emb y 1 = y 1 := Fin.ext (place ((cfg0.win 6).rect_emb_val t y 1) (congrFun i6 1) (zero_val 2048 (y 1)))
  rw [after0_6, (rows m c t).2, e, place ((cfg0.win 6).rect_emb_val t y 0) (congrFun i6 0) rfl]
  exact point m c t _

/-- The kernel's second result: the gradient of the scale. -/
theorem result5 (c : Dev nD) : (Gen.dats m 0 c).arrAt 5 cfg0.N =
    fun y : S1x2048.Idx => (∑ k : Fin 4096, Row.weight (dy m c) (x m c) k (y 1) : EReal) := by
  refine (Gen.dats m 0 c).arrAt_eq_of_covers 5 _ (by decide +kernel) fun t hf y => ?_
  show (Gen.dats m 0 c).after 5 t ((cfg0.win 5).xinj (cfg0.grid.coords t) y) = ∑ k : Fin 4096, Row.weight _ _ k (((cfg0.win 5).rect t).emb y 1)
  have i5 := (idx t).2.2.2.2.2.1
  have e : ((cfg0.win 5).rect t).emb y 1 = y 1 := Fin.ext (place ((cfg0.win 5).rect_emb_val t y 1) (congrFun i5 1) (zero_val 2048 (y 1)))
  have hN : t.val < 16 := lt_of_lt_of_eq t.isLt N_0
  have step (t : Fin cfg0.N) (a : Vec Ideal S1x2048 .f32) (z : S1x2048.Idx) : k0_pay1 (F := Ideal) (k0_pay4 (iblk m c 0 t) (iblk m c 1 t)) a z =
      (a z + ∑ k : Fin 256, Row.weight (dy m c) (x m c) (t.val * 256 + k) (z 1) : EReal) := by
    rw [eta2 z, show z 0 = (0 : Fin 1) from Subsingleton.elim (α := Fin 1) _ _]
    refine (pay_scale _ _ a (z 1)).trans (congrArg _ (Finset.sum_congr rfl fun k _ => ?_))
    exact congrArg₂ (· * ·) (entry m c t k (z 1)).1 (congrArg₂ (· * ·) (entry m c t k (z 1)).2.1 (congrArg Row.root (funext fun l => (entry m c t k l).2.1)))
  rw [after0_5, e, Pipeline.eq_sum_fin_of_reset_step_apply_last (fun n h => (outsAt0 m c n h).2.1) 16 (fun _ => (0 : EReal))
    (fun t z => (∑ k : Fin 256, Row.weight (dy m c) (x m c) (t.val * 256 + k) (z 1) : EReal)) ?_ ?_ (le_of_eq N_0) t ?_]
  · rw [zero_add]
    exact (sum_blocks 16 256 fun n => Row.weight (dy m c) (x m c) n (y 1)).symm
  · intro t h z
    rw [outsAt0_A m c t h]
    frame_out
    exact (step t _ z).trans (congrArg (· + _) (Ideal.ofBits_zero .f32))
  · intro t h z
    rw [outsAt0_B m c t h]
    frame_out
    exact step t _ z
  · have := (flush0_5 t).mp hf
    show t.val + 1 = 16
    omega

section
variable (dy x : (⟨S4096x2048, .f32⟩ : BufTy).Contents (Elt Ideal)) (g : (⟨S1x2048, .f32⟩ : BufTy).Contents (Elt Ideal))
open Cert.NormFfnBwdReferenceIdeal.Read

/-- The reference's mean square of a row, with the small number. -/
theorem mean (z : Cert.NormFfnBwdReferenceIdeal.S4096x1.Idx) : val_main_v6 (F := Ideal) x z = Row.mean (Row.row x (z 0).val) := by
  rw [val_main_v6_apply, val_main_v4_apply, val_main_v3_apply, val_main_v5_apply, val_main_v2_apply, val_main_v1_apply]
  refine congrArg (fun s : EReal => Ideal.div s (Ideal.ofBits .f32 0x45000000#32) + Ideal.ofBits .f32 0x358637BD#32) ((Row.from_zero _).trans ((Finset.sum_congr rfl fun k _ => ?_)))
  exact congrArg₂ (· * ·) (at2 x _ rfl rfl) (at2 x _ rfl rfl)

/-- The reference's divisor of a row. -/
theorem root (z : Cert.NormFfnBwdReferenceIdeal.S4096x1.Idx) : val_main_v7 (F := Ideal) x z = Row.root (Row.row x (z 0).val) :=
  congrArg Ideal.rsqrt (mean x z)

/-- The reference's gradient of the divided row. -/
theorem scaled (y : S4096x2048.Idx) : val_main_v21 (F := Ideal) dy g y = Row.row dy (y 0).val (y 1) * Row.row g 0 (y 1) := by
  rw [val_main_v21_apply, val_main_v20_apply, val_main_v14_apply, val_main_v13_apply]
  exact congrArg₂ (· * ·) (at2 dy _ rfl rfl) (at2 g _ (Nat.lt_one_iff.mp (Fin.isLt _)) (Nat.mod_eq_of_lt (y 1).isLt))

/-- The reference's gradient of a square's factor. -/
theorem share (y : S4096x2048.Idx) : val_main_v33 (F := Ideal) dy x g y = Row.share (fun k => Row.row dy (y 0).val k * Row.row g 0 k) (Row.row x (y 0).val) := by
  rw [val_main_v33_apply, val_main_v32_apply, Fin.sum_univ_one, val_main_v31_apply, val_main_v30_apply, val_main_v29_apply, val_main_v26_apply, val_main_v25_apply, val_main_v10_apply, val_main_v9_apply, val_main_v8_apply, mean, root]
  refine (Row.from_zero _).trans ((congrArg (fun s : EReal => Ideal.div (s * _) _) ((Row.from_zero _).trans ((Finset.sum_congr rfl fun k _ => ?_)))))
  rw [val_main_v24_apply, scaled]
  have h : (y 0).val * 1 + 0 = (y 0).val := by omega
  exact congrArg₂ (· * ·) (at2 x _ h rfl) (congrArg (fun i => Row.row dy i k * Row.row g 0 k) h)

/-- The reference's first result: the gradient. -/
theorem reference4 (res : (⟨S4096x2048, .f32⟩ : BufTy).Contents (Elt Ideal)) :
    val_main_v38 (F := Ideal) dy x res g = fun y : S4096x2048.Idx => (e2 res (y 0).val (y 1).val + Row.change dy x g (y 0).val (y 1) : EReal) := by
  funext y
  rw [val_main_v38_apply, val_main_v37_apply, val_main_v35_apply, val_main_v34_apply, val_main_v36_apply, val_main_v28_apply, val_main_v27_apply, root, share, scaled]
  refine congrArg₂ (· + ·) (at2 res _ rfl rfl) (Eq.trans ?_ (Row.rule _ _ _))
  rw [show x y = Row.row x (y 0).val (y 1) from at2 x _ rfl rfl]
  rfl

/-- The reference's second result: the gradient of the scale. -/
theorem reference5 : val_main_v23 (F := Ideal) dy x = fun y : S1x2048.Idx => (∑ k : Fin 4096, Row.weight dy x k (y 1) : EReal) := by
  funext y
  rw [val_main_v23_apply, val_main_v22_apply, Fin.sum_univ_one, val_main_v19_apply, val_main_v18_apply]
  refine (Row.from_zero _).trans (((Row.from_zero _).trans ((Finset.sum_congr rfl fun k _ => ?_))))
  rw [val_main_v17_apply, val_main_v12_apply, val_main_v11_apply, root]
  exact (mul_comm _ _).trans (congrArg₂ (· * ·) (at2 dy _ rfl (zero_val 2048 (y 1))) (congrArg₂ (· * ·) (at2 x _ rfl (zero_val 2048 (y 1))) rfl))
end

/-- The reference runs and leaves its arguments as they were. -/
theorem reference_frame : Cert.quiescent_NormFfnBwdReferenceIdeal (hNormFfnBwdReferenceIdeal := Cert.NormFfnBwdReferenceIdeal.Gen.facts) :=
  fun m g _ => (θ_run Cert.NormFfnBwdReferenceIdeal.defs _ _).mono (fun r h => ⟨fun c => (h c).2.2.2, sem_eq_zero_of_no_sems (by decide) r.2⟩)
    (Cert.NormFfnBwdReferenceIdeal.Value.run m g)

/-- The kernel and the reference end with the same results. -/
theorem algebraic : Cert.algebraic_NormFfnBwdIdeal_NormFfnBwdReferenceIdeal (hNormFfnBwdIdeal := Gen.facts) (hNormFfnBwdReferenceIdeal := Cert.NormFfnBwdReferenceIdeal.Gen.facts) := by
  intro m g m' g' _ harg
  refine ⟨_, _, _, (θ_run defs _ _).mono (fun r h c => ⟨(h c).1.trans (result4 m c), (h c).2.1.trans (result5 m c), (h c).2.2.1.trans (result6 m c), (h c).2.2.2⟩) (Value.run_blocks m g),
    (θ_run Cert.NormFfnBwdReferenceIdeal.defs _ _).mono (fun r h c => ⟨(h c).1.trans ((Cert.NormFfnBwdReferenceIdeal.Read.val_main_v38_eq m' c).trans ((reference4 _ _ _ _).trans ?_)), (h c).2.1.trans ((reference5 _ _).trans ?_), (h c).2.2.1.trans ((Cert.NormFfnBwdReferenceIdeal.Read.val_main_v40_eq m' c).trans ((reference4 _ _ _ _).trans ?_)), (h c).2.2.2⟩) (Cert.NormFfnBwdReferenceIdeal.Value.run m' g')⟩
  all_goals
    obtain ⟨h0, h1, h2, h3⟩ := harg c
    simp only [h0, h1, h2, h3]
    try rfl

end Cert.NormFfnBwdIdeal.Norm

end
-- ==== Proof.LossHead.lean ====
/- The loss and its gradient: the kernel and the reference end with the same four arrays. -/
module

public import proofs.«01_k».proof.Proof.Row
public import proofs.«01_k».proof.Defs
public import proofs.«01_k».proof.Proof.Gen.LossHead.Frame
public import proofs.«01_k».proof.Proof.Gen.LossHeadIdeal.Value
public import proofs.«01_k».proof.Proof.Gen.LossHeadReferenceIdeal.Run
public import proofs.«01_k».proof.Proof.Gen.LossHeadReferenceIdeal.Read
public import Idealize.ShloMosaic.Lib.Pipeline.ValueKit.Acc

@[expose] public section

noncomputable section

namespace Cert.LossHeadIdeal.Norm

open Cert.LossHeadIdeal Cert.LossHeadIdeal.Gen Cert.Entries
open Idealize.ShloMosaic

/-- An entry of a row's divided and scaled values less the target's. -/
def missBy (x tg g : Fin 2048 → EReal) (j : Fin 2048) : EReal := x j * Row.root x * g j - tg j

/-- The gradient of a row's part of the loss. -/
def slope (x tg g : Fin 2048 → EReal) (j : Fin 2048) : EReal := Ideal.div (missBy x tg g j) (Ideal.ofBits .f32 0x45000000#32)

/-- A row's mean square. -/
def part (x tg g : Fin 2048 → EReal) : EReal := Ideal.div (∑ k : Fin 2048, missBy x tg g k * missBy x tg g k) (Ideal.ofBits .f32 0x45000000#32)

theorem part_nonneg (x tg g : Fin 2048 → EReal) : 0 ≤ part x tg g := by
  unfold part
  rw [Row.div_size]
  exact mul_nonneg (Finset.sum_nonneg fun k _ => Row.square_nonneg _) (by exact_mod_cast (by norm_num : (0 : ℝ) ≤ 1 / 2048))

/-- An entry of a block of the gradient of the loss. -/
theorem pay_slope (x tg : Vec Ideal S256x2048 .f32) (g : Vec Ideal S1x2048 .f32) (i : Fin 256) (j : Fin 2048) :
    k0_pay9 (F := Ideal) x g tg (ix2 i j) = slope (fun k => x (ix2 i k)) (fun k => tg (ix2 i k)) (fun k => g (ix2 0 k)) j := by
  pointwise [k0_pay9, k0_pay7, slope, missBy, Row.root, Row.mean]

/-- An entry of a block of the gradient. -/
theorem pay_row (x v : Vec Ideal S256x2048 .f32) (g : Vec Ideal S1x2048 .f32) (i : Fin 256) (j : Fin 2048) :
    k0_pay2 (F := Ideal) x g v (k0_pay10 x) (ix2 i j) = Row.grad (fun k => v (ix2 i k) * g (ix2 0 k)) (fun k => x (ix2 i k)) j := by
  pointwise [k0_pay2, k0_pay1, k0_pay10, Row.grad, Row.root, Row.mean]

/-- What a block of rows adds to an entry of the gradient of the scale. -/
theorem pay_scale (x v : Vec Ideal S256x2048 .f32) (a : Vec Ideal S1x2048 .f32) (j : Fin 2048) :
    k0_pay4 (F := Ideal) x v (k0_pay10 x) a (ix2 0 j) = a (ix2 0 j) + ∑ k : Fin 256, v (ix2 k j) * (x (ix2 k j) * Row.root fun l => x (ix2 k l)) := by
  pointwise [k0_pay4, k0_pay1, k0_pay10, Row.root, Row.mean]

/-- What a block of rows adds to the loss. -/
theorem pay_loss (x tg : Vec Ideal S256x2048 .f32) (g : Vec Ideal S1x2048 .f32) (a : Vec Ideal S1x1 .f32) :
    k0_pay8 (F := Ideal) x g tg a (ix2 0 0) = a (ix2 0 0) + Ideal.ofBits .f32 0x3F000000#32 * ∑ n : Fin 256, part (fun k => x (ix2 n k)) (fun k => tg (ix2 n k)) (fun k => g (ix2 0 k)) := by
  pointwise [k0_pay8, k0_pay7, part, missBy, Row.root, Row.mean]

/-- The block indices of the windows. -/
theorem idx (t : Fin cfg0.N) : win0_0.index t = ![t.val, 0] ∧ win0_1.index t = ![t.val, 0] ∧ win0_2.index t = ![0, 0] ∧ win0_3.index t = ![t.val, 0] ∧ win0_4.index t = ![t.val, 0] ∧ win0_5.index t = ![0, 0] :=
  (by decide +kernel : ∀ t : Fin grid0.N, win0_0.index t = ![t.val, 0] ∧ win0_1.index t = ![t.val, 0] ∧ win0_2.index t = ![0, 0] ∧ win0_3.index t = ![t.val, 0] ∧ win0_4.index t = ![t.val, 0] ∧ win0_5.index t = ![0, 0]) t

variable (m : (ℓ : Loc nD τ sig) → Buf (Elt Ideal) ℓ)

/-- The arguments' arrays on a device. -/
abbrev x (c : Dev nD) := m ((c.tc : Thread nD τ).loc main_arg0)
abbrev tg (c : Dev nD) := m ((c.tc : Thread nD τ).loc main_arg1)
abbrev g (c : Dev nD) := m ((c.tc : Thread nD τ).loc main_arg2)

/-- An entry of the gradient of the loss, in the arrays. -/
abbrev slopes (x tg : S4096x2048.Idx → EReal) (g : S1x2048.Idx → EReal) (i : ℕ) (j : Fin 2048) : EReal := slope (Row.row x i) (Row.row tg i) (Row.row g 0) j

/-- An entry of the gradient, in the arrays. -/
abbrev changed (x tg : S4096x2048.Idx → EReal) (g : S1x2048.Idx → EReal) (y : S4096x2048.Idx) : EReal :=
  Row.grad (fun k => slopes x tg g (y 0).val k * Row.row g 0 k) (Row.row x (y 0).val) (y 1)

/-- What row `i` adds to an entry of the gradient of the scale. -/
abbrev weight (x tg : S4096x2048.Idx → EReal) (g : S1x2048.Idx → EReal) (i : ℕ) (j : Fin 2048) : EReal :=
  slopes x tg g i j * (Row.row x i j * Row.root (Row.row x i))

/-- What row `i` adds to the mean squares. -/
abbrev parts (x tg : S4096x2048.Idx → EReal) (g : S1x2048.Idx → EReal) (i : ℕ) : EReal := part (Row.row x i) (Row.row tg i) (Row.row g 0)

/-- A row of a point's blocks, in the arrays. -/
theorem entry (c : Dev nD) (t : Fin cfg0.N) (i : Fin 256) :
    (fun j : Fin 2048 => iblk (F := Ideal) m c 0 t (ix2 i j)) = Row.row (x m c) (t.val * 256 + i) ∧ (fun j : Fin 2048 => iblk (F := Ideal) m c 1 t (ix2 i j)) = Row.row (tg m c) (t.val * 256 + i)
      ∧ (fun j : Fin 2048 => iblk (F := Ideal) m c 2 t (ix2 (0 : Fin 1) j)) = Row.row (g m c) 0 := by
  obtain ⟨i0, i1, i2, -⟩ := idx t
  refine ⟨funext fun j => at2 _ (((cfg0.win 0).rect t).emb (ix2 i j)) (place ((cfg0.win 0).rect_emb_val t _ 0) (congrFun i0 0) rfl) (place ((cfg0.win 0).rect_emb_val t _ 1) (congrFun i0 1) (zero_val 2048 j)),
    funext fun j => at2 _ (((cfg0.win 1).rect t).emb (ix2 i j)) (place ((cfg0.win 1).rect_emb_val t _ 0) (congrFun i1 0) rfl) (place ((cfg0.win 1).rect_emb_val t _ 1) (congrFun i1 1) (zero_val 2048 j)),
    funext fun j => at2 _ (((cfg0.win 2).rect t).emb (ix2 (0 : Fin 1) j)) (place ((cfg0.win 2).rect_emb_val t _ 0) (congrFun i2 0) rfl) (place ((cfg0.win 2).rect_emb_val t _ 1) (congrFun i2 1) (zero_val 2048 j))⟩

/-- An entry of a point's gradient of the loss, in the arrays. -/
theorem sloped (c : Dev nD) (t : Fin cfg0.N) (i : Fin 256) (j : Fin 2048) :
    k0_pay9 (F := Ideal) (iblk m c 0 t) (iblk m c 2 t) (iblk m c 1 t) (ix2 i j) = slopes (x m c) (tg m c) (g m c) (t.val * 256 + i) j := by
  rw [pay_slope, (entry m c t i).1, (entry m c t i).2.1, (entry m c t i).2.2]

/-- What a point writes of the gradient, in both formats. -/
theorem rows (c : Dev nD) (t : Fin cfg0.N) :
    (outsAt0 m c t.val t.isLt).1 = k0_pay2 (F := Ideal) (iblk m c 0 t) (iblk m c 2 t) (k0_pay9 (iblk m c 0 t) (iblk m c 2 t) (iblk m c 1 t)) (k0_pay10 (iblk m c 0 t))
    ∧ (outsAt0 m c t.val t.isLt).2.1 = k0_pay3 (F := Ideal) (iblk m c 0 t) (iblk m c 2 t) (k0_pay9 (iblk m c 0 t) (iblk m c 2 t) (iblk m c 1 t)) (k0_pay10 (iblk m c 0 t)) := by
  by_cases h : t.val % 16 = 0
  · rw [outsAt0_A m c t h]
    constructor <;> frame_out
  · rw [outsAt0_B m c t h]
    constructor <;> frame_out

/-- An entry of what a point writes, in the arrays. -/
theorem point (c : Dev nD) (t : Fin cfg0.N) (y : S256x2048.Idx) :
    k0_pay2 (F := Ideal) (iblk m c 0 t) (iblk m c 2 t) (k0_pay9 (iblk m c 0 t) (iblk m c 2 t) (iblk m c 1 t)) (k0_pay10 (iblk m c 0 t)) y =
    Row.grad (fun k => slopes (x m c) (tg m c) (g m c) (t.val * 256 + (y 0).val) k * Row.row (g m c) 0 k) (Row.row (x m c) (t.val * 256 + (y 0).val)) (y 1) := by
  refine ((congrArg _ (eta2 y)).trans (pay_row _ _ _ (y 0) (y 1))).trans ?_
  exact congrArg₂ (fun u v => Row.grad u v (y 1)) (funext fun k => congrArg₂ (· * ·) (sloped m c t (y 0) k) (congrFun (entry m c t (y 0)).2.2 k)) (entry m c t (y 0)).1

/-- The kernel's first result: the gradient. -/
theorem result3 (c : Dev nD) : (Gen.dats m 0 c).arrAt 3 cfg0.N = changed (x m c) (tg m c) (g m c) := by
  refine (Gen.dats m 0 c).arrAt_eq_of_covers 3 _ (by decide +kernel) fun t hf y => ?_
  show (Gen.dats m 0 c).after 3 t ((cfg0.win 3).xinj (cfg0.grid.coords t) y) = changed _ _ _ (((cfg0.win 3).rect t).emb y)
  have i3 := (idx t).2.2.2.1
  have e : ((cfg0.win 3).rect t).emb y 1 = y 1 := Fin.ext (place ((cfg0.win 3).rect_emb_val t y 1) (congrFun i3 1) (zero_val 2048 (y 1)))
  unfold changed
  rw [after0_3, (rows m c t).1, e, place ((cfg0.win 3).rect_emb_val t y 0) (congrFun i3 0) rfl]
  exact point m c t _

/-- The kernel's second result: the gradient, rounded. -/
theorem result4 (c : Dev nD) : (Gen.dats m 0 c).arrAt 4 cfg0.N = changed (x m c) (tg m c) (g m c) := by
  refine (Gen.dats m 0 c).arrAt_eq_of_covers 4 _ (by decide +kernel) fun t hf y => ?_
  show (Gen.dats m 0 c).after 4 t ((cfg0.win 4).xinj (cfg0.grid.coords t) y) = changed _ _ _ (((cfg0.win 4).rect t).emb y)
  have i4 := (idx t).2.2.2.2.1
  have e : ((cfg0.win 4).rect t).emb y 1 = y 1 := Fin.ext (place ((cfg0.win 4).rect_emb_val t y 1) (congrFun i4 1) (zero_val 2048 (y 1)))
  unfold changed
  rw [after0_4, (rows m c t).2, e, place ((cfg0.win 4).rect_emb_val t y 0) (congrFun i4 0) rfl]
  exact point m c t _

/-- The kernel's third result: the gradient of the scale. -/
theorem result5 (c : Dev nD) : (Gen.dats m 0 c).arrAt 5 cfg0.N =
    fun y : S1x2048.Idx => (∑ k : Fin 4096, weight (x m c) (tg m c) (g m c) k (y 1) : EReal) := by
  refine (Gen.dats m 0 c).arrAt_eq_of_covers 5 _ (by decide +kernel) fun t hf y => ?_
  show (Gen.dats m 0 c).after 5 t ((cfg0.win 5).xinj (cfg0.grid.coords t) y) = ∑ k : Fin 4096, weight _ _ _ k (((cfg0.win 5).rect t).emb y 1)
  have i5 := (idx t).2.2.2.2.2
  have e : ((cfg0.win 5).rect t).emb y 1 = y 1 := Fin.ext (place ((cfg0.win 5).rect_emb_val t y 1) (congrFun i5 1) (zero_val 2048 (y 1)))
  have hN : t.val < 16 := lt_of_lt_of_eq t.isLt N_0
  have step (t : Fin cfg0.N) (a : Vec Ideal S1x2048 .f32) (z : S1x2048.Idx) : k0_pay4 (F := Ideal) (iblk m c 0 t) (k0_pay9 (iblk m c 0 t) (iblk m c 2 t) (iblk m c 1 t)) (k0_pay10 (iblk m c 0 t)) a z =
      (a z + ∑ k : Fin 256, weight (x m c) (tg m c) (g m c) (t.val * 256 + k) (z 1) : EReal) := by
    rw [eta2 z, show z 0 = (0 : Fin 1) from Subsingleton.elim (α := Fin 1) _ _]
    refine (pay_scale _ _ a (z 1)).trans (congrArg _ (Finset.sum_congr rfl fun k _ => ?_))
    exact congrArg₂ (· * ·) (sloped m c t k (z 1)) (congrArg₂ (· * ·) (congrFun (entry m c t k).1 (z 1)) (congrArg Row.root (entry m c t k).1))
  rw [after0_5, e, Pipeline.eq_sum_fin_of_reset_step_apply_last (fun n h => (outsAt0 m c n h).2.2.1) 16 (fun _ => (0 : EReal))
    (fun t z => (∑ k : Fin 256, weight (x m c) (tg m c) (g m c) (t.val * 256 + k) (z 1) : EReal)) ?_ ?_ (le_of_eq N_0) t ?_]
  · rw [zero_add]
    exact (sum_blocks 16 256 fun n => weight (x m c) (tg m c) (g m c) n (y 1)).symm
  · intro t h z
    rw [outsAt0_A m c t h]
    frame_out
    exact (step t _ z).trans (congrArg (· + _) (Ideal.ofBits_zero .f32))
  · intro t h z
    rw [outsAt0_B m c t h]
    frame_out
    exact step t _ z
  · have := (flush0_5 t).mp hf
    show t.val + 1 = 16
    omega

/-- The kernel's fourth result: the loss. -/
theorem result6 (c : Dev nD) : (Gen.dats m 0 c).arrAt 6 cfg0.N =
    fun _ : S1x1.Idx => (Ideal.ofBits .f32 0x3F000000#32 * ∑ k : Fin 4096, parts (x m c) (tg m c) (g m c) k : EReal) := by
  refine (Gen.dats m 0 c).arrAt_eq_of_covers 6 _ (by decide +kernel) fun t hf y => ?_
  show (Gen.dats m 0 c).after 6 t ((cfg0.win 6).xinj (cfg0.grid.coords t) y) = Ideal.ofBits .f32 0x3F000000#32 * ∑ k : Fin 4096, parts _ _ _ k
  have hN : t.val < 16 := lt_of_lt_of_eq t.isLt N_0
  have step (t : Fin cfg0.N) (a : Vec Ideal S1x1 .f32) (z : S1x1.Idx) : k0_pay8 (F := Ideal) (iblk m c 0 t) (iblk m c 2 t) (iblk m c 1 t) a z =
      (a z + Ideal.ofBits .f32 0x3F000000#32 * ∑ k : Fin 256, parts (x m c) (tg m c) (g m c) (t.val * 256 + k) : EReal) := by
    rw [eta2 z, show z 0 = (0 : Fin 1) from Subsingleton.elim (α := Fin 1) _ _, show z 1 = (0 : Fin 1) from Subsingleton.elim (α := Fin 1) _ _]
    refine (pay_loss _ _ _ a).trans (congrArg (fun s : EReal => _ + _ * s) (Finset.sum_congr rfl fun k _ => ?_))
    rw [(entry m c t k).1, (entry m c t k).2.1, (entry m c t k).2.2]
  rw [after0_6, Pipeline.eq_sum_fin_of_reset_step_apply_last (fun n h => (outsAt0 m c n h).2.2.2) 16 (fun _ => (0 : EReal))
    (fun t _ => (Ideal.ofBits .f32 0x3F000000#32 * ∑ k : Fin 256, parts (x m c) (tg m c) (g m c) (t.val * 256 + k) : EReal)) ?_ ?_ (le_of_eq N_0) t ?_]
  · rw [zero_add]
    exact (Row.half_sum _ _ fun q => Finset.sum_nonneg fun k _ => part_nonneg _ _ _).trans (congrArg _ (sum_blocks 16 256 fun n => parts (x m c) (tg m c) (g m c) n).symm)
  · intro t h z
    rw [outsAt0_A m c t h]
    frame_out
    exact (step t _ z).trans (congrArg (· + _) (Ideal.ofBits_zero .f32))
  · intro t h z
    rw [outsAt0_B m c t h]
    frame_out
    exact step t _ z
  · have := (flush0_6 t).mp hf
    show t.val + 1 = 16
    omega

section
variable (x tg : (⟨S4096x2048, .f32⟩ : BufTy).Contents (Elt Ideal)) (g : (⟨S1x2048, .f32⟩ : BufTy).Contents (Elt Ideal))
open Cert.LossHeadReferenceIdeal.Read

/-- The reference's mean square of a row, with the small number. -/
theorem mean (z : Cert.LossHeadReferenceIdeal.S4096x1.Idx) : val_main_v6 (F := Ideal) x z = Row.mean (Row.row x (z 0).val) := by
  rw [val_main_v6_apply, val_main_v4_apply, val_main_v3_apply, val_main_v5_apply, val_main_v2_apply, val_main_v1_apply]
  refine congrArg (fun s : EReal => Ideal.div s (Ideal.ofBits .f32 0x45000000#32) + Ideal.ofBits .f32 0x358637BD#32) ((Row.from_zero _).trans ((Finset.sum_congr rfl fun k _ => ?_)))
  exact congrArg₂ (· * ·) (at2 x _ rfl rfl) (at2 x _ rfl rfl)

/-- The reference's divisor of a row. -/
theorem root (z : Cert.LossHeadReferenceIdeal.S4096x1.Idx) : val_main_v7 (F := Ideal) x z = Row.root (Row.row x (z 0).val) :=
  congrArg Ideal.rsqrt (mean x z)

/-- The reference's divided and scaled values less the target's. -/
theorem missed (y : S4096x2048.Idx) : val_main_v17 (F := Ideal) x tg g y = missBy (Row.row x (y 0).val) (Row.row tg (y 0).val) (Row.row g 0) (y 1) := by
  rw [val_main_v17_apply, val_main_v16_apply, val_main_v15_apply, val_main_v14_apply, val_main_v13_apply, val_main_v12_apply, val_main_v11_apply, root]
  exact congrArg₂ (· - ·) (congrArg₂ (· * ·) (congrArg (· * _) (at2 x _ rfl rfl)) (at2 g _ (Nat.lt_one_iff.mp (Fin.isLt _)) (Nat.mod_eq_of_lt (y 1).isLt))) (at2 tg _ rfl rfl)

/-- The reference's gradient of the loss. -/
theorem turned (y : S4096x2048.Idx) : val_main_v31 (F := Ideal) x tg g y = slopes x tg g (y 0).val (y 1) := by
  rw [val_main_v31_apply, val_main_v30_apply, val_main_v29_apply, val_main_v27_apply, val_main_v26_apply, val_main_v28_apply, val_main_v20_apply, val_main_v19_apply, missed]
  exact Row.half_twice _

/-- The reference's gradient of the divided row. -/
theorem scaled (y : S4096x2048.Idx) : val_main_v36 (F := Ideal) x tg g y = slopes x tg g (y 0).val (y 1) * Row.row g 0 (y 1) := by
  rw [val_main_v36_apply, val_main_v35_apply, val_main_v14_apply, val_main_v13_apply, turned]
  exact congrArg (_ * ·) (at2 g _ (Nat.lt_one_iff.mp (Fin.isLt _)) (Nat.mod_eq_of_lt (y 1).isLt))

/-- The reference's gradient of a square's factor. -/
theorem share (y : S4096x2048.Idx) : val_main_v48 (F := Ideal) x tg g y = Row.share (fun k => slopes x tg g (y 0).val k * Row.row g 0 k) (Row.row x (y 0).val) := by
  rw [val_main_v48_apply, val_main_v47_apply, Fin.sum_univ_one, val_main_v46_apply, val_main_v45_apply, val_main_v44_apply, val_main_v41_apply, val_main_v40_apply, val_main_v10_apply, val_main_v9_apply, val_main_v8_apply, mean, root]
  refine (Row.from_zero _).trans ((congrArg (fun s : EReal => Ideal.div (s * _) _) ((Row.from_zero _).trans ((Finset.sum_congr rfl fun k _ => ?_)))))
  rw [val_main_v39_apply, scaled]
  have h : (y 0).val * 1 + 0 = (y 0).val := by omega
  exact congrArg₂ (· * ·) (at2 x _ h rfl) (congrArg (fun i => slopes x tg g i k * Row.row g 0 k) h)

/-- The reference's first result: the gradient. -/
theorem reference3 : val_main_v52 (F := Ideal) x tg g = changed x tg g := by
  funext y
  rw [val_main_v52_apply, val_main_v50_apply, val_main_v49_apply, val_main_v51_apply, val_main_v43_apply, val_main_v42_apply, root, share, scaled]
  refine Eq.trans ?_ (Row.rule _ _ _)
  rw [show x y = Row.row x (y 0).val (y 1) from at2 x _ rfl rfl]
  rfl

/-- The reference's third result: the gradient of the scale. -/
theorem reference5 : val_main_v38 (F := Ideal) x tg g = fun y : S1x2048.Idx => (∑ k : Fin 4096, weight x tg g k (y 1) : EReal) := by
  funext y
  rw [val_main_v38_apply, val_main_v37_apply, Fin.sum_univ_one, val_main_v34_apply, val_main_v33_apply]
  refine (Row.from_zero _).trans (((Row.from_zero _).trans ((Finset.sum_congr rfl fun k _ => ?_))))
  rw [val_main_v32_apply, val_main_v12_apply, val_main_v11_apply, root, turned]
  refine (mul_comm _ _).trans (congrArg₂ (· * ·) (congrArg (slopes x tg g k) (Fin.ext (zero_val 2048 (y 1)))) (congrArg₂ (· * ·) (at2 x _ rfl (zero_val 2048 (y 1))) rfl))

/-- The reference's fourth result: the loss. -/
theorem reference6 : val_main_v54 (F := Ideal) x tg g = fun _ : S1x1.Idx => (Ideal.ofBits .f32 0x3F000000#32 * ∑ k : Fin 4096, parts x tg g k : EReal) := by
  funext y
  unfold val_main_v54
  show val_main_v25 (F := Ideal) x tg g _ = _
  rw [val_main_v25_apply, val_main_v24_apply]
  refine congrArg (Ideal.ofBits .f32 0x3F000000#32 * ·) ((Row.from_zero _).trans ((sum_idx1 _).trans (Finset.sum_congr rfl fun k _ => ?_)))
  rw [val_main_v23_apply, val_main_v22_apply, val_main_v21_apply]
  refine congrArg (fun s : EReal => Ideal.div s _) ((Row.from_zero _).trans (Finset.sum_congr rfl fun l _ => ?_))
  rw [val_main_v18_apply, missed]
  rfl
end

/-- The reference runs and leaves its arguments as they were. -/
theorem reference_frame : Cert.quiescent_LossHeadReferenceIdeal (hLossHeadReferenceIdeal := Cert.LossHeadReferenceIdeal.Gen.facts) :=
  fun m g _ => (θ_run Cert.LossHeadReferenceIdeal.defs _ _).mono (fun r h => ⟨fun c => (h c).2.2.2.2, sem_eq_zero_of_no_sems (by decide) r.2⟩)
    (Cert.LossHeadReferenceIdeal.Value.run m g)

/-- The kernel and the reference end with the same results. -/
theorem algebraic : Cert.algebraic_LossHeadIdeal_LossHeadReferenceIdeal (hLossHeadIdeal := Gen.facts) (hLossHeadReferenceIdeal := Cert.LossHeadReferenceIdeal.Gen.facts) := by
  intro m g m' g' _ harg
  refine ⟨_, _, _, _, (θ_run defs _ _).mono (fun r h c => ⟨(h c).1.trans (result3 m c), (h c).2.1.trans (result4 m c), (h c).2.2.1.trans (result5 m c), (h c).2.2.2.1.trans (result6 m c), (h c).2.2.2.2⟩) (Value.run_blocks m g),
    (θ_run Cert.LossHeadReferenceIdeal.defs _ _).mono (fun r h c => ⟨(h c).1.trans ((Cert.LossHeadReferenceIdeal.Read.val_main_v52_eq m' c).trans ((reference3 _ _ _).trans ?_)), (h c).2.1.trans ((Cert.LossHeadReferenceIdeal.Read.val_main_v53_eq m' c).trans ((reference3 _ _ _).trans ?_)), (h c).2.2.1.trans ((reference5 _ _ _).trans ?_), (h c).2.2.2.1.trans ((reference6 _ _ _).trans ?_), (h c).2.2.2.2⟩) (Cert.LossHeadReferenceIdeal.Value.run m' g')⟩
  all_goals
    obtain ⟨h0, h1, h2⟩ := harg c
    simp only [h0, h1, h2]
    try rfl

end Cert.LossHeadIdeal.Norm

end
-- ==== Proof.NormFfn.lean ====
/- The second norm: the kernel and the reference end with the same matrix. -/
module

public import proofs.«01_k».proof.Proof.Row
public import proofs.«01_k».proof.Defs
public import proofs.«01_k».proof.Proof.Gen.NormFfn.Frame
public import proofs.«01_k».proof.Proof.Gen.NormFfnIdeal.Value
public import proofs.«01_k».proof.Proof.Gen.NormFfnReferenceIdeal.Run
public import proofs.«01_k».proof.Proof.Gen.NormFfnReferenceIdeal.Read

@[expose] public section

noncomputable section

namespace Cert.NormFfnIdeal.Norm

open Cert.NormFfnIdeal Cert.NormFfnIdeal.Gen Cert.Entries
open Idealize.ShloMosaic

/-- An entry of the divided and scaled matrix. -/
def entry (x : S4096x2048.Idx → EReal) (g : S1x2048.Idx → EReal) (i : ℕ) (j : Fin 2048) : EReal :=
  Row.row x i j * Row.root (Row.row x i) * Row.row g 0 j

/-- An entry of a block of it. -/
theorem pay (x : Vec Ideal S512x2048 .f32) (g : Vec Ideal S1x2048 .f32) (i : Fin 512) (j : Fin 2048) :
    k0_pay1 (F := Ideal) x g (ix2 i j) = x (ix2 i j) * Row.root (fun k => x (ix2 i k)) * g (ix2 0 j) := by
  pointwise [k0_pay1, Row.root, Row.mean]

/-- What a point writes. -/
theorem out_at (x : Vec Ideal S512x2048 .f32) (g : Vec Ideal S1x2048 .f32) (y : S512x2048.Idx) :
    out0_2 (F := Ideal) x g y = Row.row x (y 0).val (y 1) * Row.root (Row.row x (y 0).val) * Row.row g 0 (y 1) := by
  refine View.canon_apply_of_pieces (Val := Elt Ideal) (e := .bf16) (fun y : S512x2048.Idx => (Row.row x (y 0).val (y 1) * Row.root (Row.row x (y 0).val) * Row.row g 0 (y 1) : EReal)) _ ?_ y (cover0_2 _ y)
  intro p hp
  obtain rfl := List.mem_singleton.mp hp
  intro z
  refine ((congrArg _ (eta2 z)).trans (pay _ _ (z 0) (z 1))).trans ?_
  exact congrArg₂ (· * ·) (congrArg₂ (· * ·) (at2 x _ rfl rfl) (congrArg Row.root (funext fun k => at2 x _ rfl (unit_val k)))) (at2 g _ rfl rfl)

/-- The block indices of the windows. -/
theorem idx (t : Fin cfg0.N) : win0_0.index t = ![t.val, 0] ∧ win0_1.index t = ![0, 0] ∧ win0_2.index t = ![t.val, 0] :=
  (by decide +kernel : ∀ t : Fin grid0.N, win0_0.index t = ![t.val, 0] ∧ win0_1.index t = ![0, 0] ∧ win0_2.index t = ![t.val, 0]) t

variable (m : (ℓ : Loc nD τ sig) → Buf (Elt Ideal) ℓ)

/-- The kernel's result. -/
theorem result (c : Dev nD) : (Gen.dats m 0 c).arrAt 2 cfg0.N =
    fun y : S4096x2048.Idx => entry (m ((c.tc : Thread nD τ).loc main_arg0)) (m ((c.tc : Thread nD τ).loc main_arg1)) (y 0).val (y 1) := by
  refine (Gen.dats m 0 c).arrAt_eq_of_covers 2 _ (by decide +kernel) fun t hf y => ?_
  show (Gen.dats m 0 c).after 2 t ((cfg0.win 2).xinj (cfg0.grid.coords t) y) = entry _ _ (((cfg0.win 2).rect t).emb y 0).val (((cfg0.win 2).rect t).emb y 1)
  obtain ⟨i0, i1, i2⟩ := idx t
  have e : ((cfg0.win 2).rect t).emb y 1 = y 1 := Fin.ext (place ((cfg0.win 2).rect_emb_val t y 1) (congrFun i2 1) (zero_val 2048 (y 1)))
  have h (k : Fin 2048) : Row.row (a := 512) (iblk (F := Ideal) m c 0 t) (y 0).val k = Row.row (m ((c.tc : Thread nD τ).loc main_arg0)) (t.val * 512 + (y 0).val) k :=
    read2 _ ((cfg0.win 0).rect t).emb (y 0).isLt k.isLt (place ((cfg0.win 0).rect_emb_val t _ 0) (congrFun i0 0) rfl) (place ((cfg0.win 0).rect_emb_val t _ 1) (congrFun i0 1) (zero_val 2048 k))
  rw [after0_2, e, place ((cfg0.win 2).rect_emb_val t y 0) (congrFun i2 0) rfl]
  refine (out_at _ _ _).trans (congrArg₂ (· * ·) (congrArg₂ (· * ·) (h (y 1)) (congrArg Row.root (funext h))) ?_)
  exact read2 _ ((cfg0.win 1).rect t).emb Nat.one_pos (y 1).isLt (place ((cfg0.win 1).rect_emb_val t _ 0) (congrFun i1 0) rfl) (place ((cfg0.win 1).rect_emb_val t _ 1) (congrFun i1 1) (zero_val 2048 (y 1)))

open Cert.NormFfnReferenceIdeal.Read in
/-- The reference's result. -/
theorem reference (x : (⟨S4096x2048, .f32⟩ : BufTy).Contents (Elt Ideal)) (g : (⟨S1x2048, .f32⟩ : BufTy).Contents (Elt Ideal)) :
    val_main_v14 (F := Ideal) x g = fun y : S4096x2048.Idx => entry x g (y 0).val (y 1) := by
  funext y
  show val_main_v13 (F := Ideal) x g y = _
  rw [val_main_v13_apply, val_main_v12_apply, val_main_v11_apply, val_main_v10_apply, val_main_v9_apply, val_main_v8_apply, val_main_v7_apply, val_main_v6_apply, val_main_v4_apply, val_main_v3_apply, val_main_v5_apply, val_main_v2_apply, val_main_v1_apply]
  refine congrArg₂ (· * ·) (congrArg₂ (· * ·) (at2 x _ rfl rfl) (congrArg (fun s : EReal => Ideal.rsqrt (Ideal.div s (Ideal.ofBits .f32 0x45000000#32) + Ideal.ofBits .f32 0x358637BD#32))
    ((Row.from_zero _).trans (Finset.sum_congr rfl fun k _ => congrArg₂ (· * ·) (at2 x _ rfl rfl) (at2 x _ rfl rfl))))) ?_
  exact at2 g _ (Nat.lt_one_iff.mp (Fin.isLt _)) (Nat.mod_eq_of_lt (y 1).isLt)

/-- The reference runs and leaves its arguments as they were. -/
theorem reference_frame : Cert.quiescent_NormFfnReferenceIdeal (hNormFfnReferenceIdeal := Cert.NormFfnReferenceIdeal.Gen.facts) :=
  fun m g _ => (θ_run Cert.NormFfnReferenceIdeal.defs _ _).mono (fun r h => ⟨fun c => (h c).2, sem_eq_zero_of_no_sems (by decide) r.2⟩)
    (Cert.NormFfnReferenceIdeal.Value.run m g)

/-- The kernel and the reference end with the same result. -/
theorem algebraic : Cert.algebraic_NormFfnIdeal_NormFfnReferenceIdeal (hNormFfnIdeal := Gen.facts) (hNormFfnReferenceIdeal := Cert.NormFfnReferenceIdeal.Gen.facts) := by
  intro m g m' g' _ harg
  refine ⟨_, (θ_run defs _ _).mono (fun r h c => ⟨(h c).1.trans (result m c), (h c).2⟩) (Value.run_blocks m g),
    (θ_run Cert.NormFfnReferenceIdeal.defs _ _).mono (fun r h c => ⟨(h c).1.trans ?_, (h c).2⟩) (Cert.NormFfnReferenceIdeal.Value.run m' g')⟩
  refine (reference _ _).trans ?_
  rw [(harg c).1, (harg c).2]

end Cert.NormFfnIdeal.Norm

end
-- ==== Proof.GateDw.lean ====
/- The gradient of the gates' columns of the input projection: the kernel and the reference end with the same matrix. -/
module

public import proofs.«01_k».proof.Proof.Entries
public import proofs.«01_k».proof.Defs
public import proofs.«01_k».proof.Proof.Gen.GateDw.Frame
public import proofs.«01_k».proof.Proof.Gen.GateDwIdeal.Value
public import proofs.«01_k».proof.Proof.Gen.GateDwReferenceIdeal.Run
public import proofs.«01_k».proof.Proof.Gen.GateDwReferenceIdeal.Read

@[expose] public section

noncomputable section

namespace Cert.GateDwIdeal.Product

open Cert.GateDwIdeal Cert.GateDwIdeal.Gen Cert.Entries
open Idealize.ShloMosaic

/-- The part of an entry of the product of the transposed `a` and `b` that one block of rows gives. -/
def part (a : S4096x128.Idx → EReal) (b : S4096x2048.Idx → EReal) (q i j : ℕ) : EReal :=
  ∑ k : Fin 2048, e2 a (q * 2048 + k) i * e2 b (q * 2048 + k) j

/-- An entry of the product of two blocks. -/
theorem pay (x : Vec Ideal S2048x128 .bf16) (w : Vec Ideal S2048x1024 .bf16) (i : Fin 128) (j : Fin 1024) :
    k0_pay1 (F := Ideal) x w (ix2 i j) = ∑ k : Fin 2048, x (ix2 k i) * w (ix2 k j) := by
  pointwise [k0_pay1]

/-- The block indices of the windows. -/
theorem idx (t : Fin cfg0.N) : win0_0.index t = ![t.val % 2, 0] ∧ win0_1.index t = ![t.val % 2, t.val / 2] ∧ win0_2.index t = ![0, t.val / 2] :=
  (by decide +kernel : ∀ t : Fin grid0.N, win0_0.index t = ![t.val % 2, 0] ∧ win0_1.index t = ![t.val % 2, t.val / 2] ∧ win0_2.index t = ![0, t.val / 2]) t

theorem covers : (cfg0.win 2).Covers := by decide +kernel

variable (m : (ℓ : Loc nD τ sig) → Buf (Elt Ideal) ℓ)

/-- An entry of the product of a point's two blocks, in the arrays. -/
theorem point (c : Dev nD) (t : Fin cfg0.N) (y : S128x1024.Idx) : k0_pay1 (F := Ideal) (iblk m c 0 t) (iblk m c 1 t) y =
    part (m ((c.tc : Thread nD τ).loc main_arg0)) (m ((c.tc : Thread nD τ).loc main_arg1)) (t.val % 2) (y 0).val (t.val / 2 * 1024 + (y 1).val) := by
  obtain ⟨i0, i1, i2⟩ := idx t
  have h (k : Fin 2048) : iblk (F := Ideal) m c 0 t (ix2 k (y 0)) = e2 (m ((c.tc : Thread nD τ).loc main_arg0)) (t.val % 2 * 2048 + k) (y 0).val :=
    at2 _ (((cfg0.win 0).rect t).emb (ix2 k (y 0))) (place ((cfg0.win 0).rect_emb_val t _ 0) (congrFun i0 0) rfl)
      (place ((cfg0.win 0).rect_emb_val t _ 1) (congrFun i0 1) (zero_val 128 _))
  refine ((congrArg _ (eta2 y)).trans (pay _ _ (y 0) (y 1))).trans (Finset.sum_congr rfl fun k _ => congrArg₂ (· * ·) (h k) ?_)
  exact at2 _ (((cfg0.win 1).rect t).emb (ix2 k (y 1))) (place ((cfg0.win 1).rect_emb_val t _ 0) (congrFun i1 0) rfl)
    (place ((cfg0.win 1).rect_emb_val t _ 1) (congrFun i1 1) rfl)

/-- The first point of a block leaves its own part in the accumulator. -/
theorem first (c : Dev nD) (t : Fin cfg0.N) (h : t.val % 2 = 0) : (outsAt0 m c t.val t.isLt).2 = k0_pay1 (iblk m c 0 t) (iblk m c 1 t) := by
  rw [outsAt0_A m c t h (by omega)]
  frame_out
  unfold k0_pay2
  exact shapeCast_self _ _

/-- The last point of a block writes its own part added to the accumulator. -/
theorem last (c : Dev nD) (t : Fin cfg0.N) (h : t.val % 2 = 1) (y : S128x1024.Idx) :
    (outsAt0 m c t.val t.isLt).1 y = ((outsAt0 m c (t.val - 1) (Nat.lt_of_le_of_lt (Nat.sub_le _ _) t.isLt)).2 y + k0_pay1 (F := Ideal) (iblk m c 0 t) (iblk m c 1 t) y : EReal) := by
  rw [outsAt0_B m c t (by omega) h]
  frame_out
  exact congrArg (fun X => k0_pay4 (F := Ideal) (iblk m c 0 t) (iblk m c 1 t) X y) ((Memref.isWhole_whole cc0_scratch0).read_unread _)

/-- The kernel's result is the product. -/
theorem result (c : Dev nD) : (Gen.dats m 0 c).arrAt 2 cfg0.N =
    fun y : S128x2048.Idx => ∑ q : Fin 2, part (m ((c.tc : Thread nD τ).loc main_arg0)) (m ((c.tc : Thread nD τ).loc main_arg1)) q (y 0).val (y 1).val := by
  refine (Gen.dats m 0 c).arrAt_eq_of_covers 2 _ covers fun t hf y => ?_
  show (Gen.dats m 0 c).after 2 t ((cfg0.win 2).xinj (cfg0.grid.coords t) y) = ∑ q : Fin 2, part _ _ q (((cfg0.win 2).rect t).emb y 0).val (((cfg0.win 2).rect t).emb y 1).val
  obtain ⟨i0, i1, i2⟩ := idx t
  have h : t.val % 2 = 1 := (flush0_2 t).mp hf
  have hN : t.val < 4 := lt_of_lt_of_eq t.isLt N_0
  have e := first m c ⟨t.val - 1, Nat.lt_of_le_of_lt (Nat.sub_le _ _) t.isLt⟩ (show (t.val - 1) % 2 = 0 by omega)
  rw [after0_2, last m c t h, e, point, point, place ((cfg0.win 2).rect_emb_val t y 0) (congrFun i2 0) (zero_val 128 _), place ((cfg0.win 2).rect_emb_val t y 1) (congrFun i2 1) rfl, Fin.sum_univ_two]
  show part _ _ ((t.val - 1) % 2) (y 0).val ((t.val - 1) / 2 * 1024 + (y 1).val) + part _ _ (t.val % 2) _ _ = _
  rw [show (t.val - 1) % 2 = 0 by omega, show (t.val - 1) / 2 = t.val / 2 by omega, h]
  rfl

/-- The reference's result is the product. -/
theorem reference (a : (⟨S4096x128, .bf16⟩ : BufTy).Contents (Elt Ideal)) (b : (⟨S4096x2048, .bf16⟩ : BufTy).Contents (Elt Ideal)) :
    Cert.GateDwReferenceIdeal.Read.val_main_v5 (F := Ideal) a b = fun y : S128x2048.Idx => ∑ q : Fin 2, part a b q (y 0).val (y 1).val := by
  funext y
  refine (Cert.GateDwReferenceIdeal.Read.val_main_v5_apply a b y).trans ((Cert.GateDwReferenceIdeal.Read.val_main_v4_apply a b _).trans (Eq.trans (Finset.sum_congr rfl fun k _ => ?_)
    (sum_blocks 2 2048 fun k => e2 a k (y 0).val * e2 b k (y 1).val)))
  exact congrArg₂ (· * ·) (at2 a _ rfl rfl) (at2 b _ rfl rfl)

/-- The reference runs and leaves its arguments as they were. -/
theorem reference_frame : Cert.quiescent_GateDwReferenceIdeal (hGateDwReferenceIdeal := Cert.GateDwReferenceIdeal.Gen.facts) :=
  fun m g _ => (θ_run Cert.GateDwReferenceIdeal.defs _ _).mono (fun r h => ⟨fun c => (h c).2, sem_eq_zero_of_no_sems (by decide) r.2⟩)
    (Cert.GateDwReferenceIdeal.Value.run m g)

/-- The kernel and the reference end with the same result. -/
theorem algebraic : Cert.algebraic_GateDwIdeal_GateDwReferenceIdeal (hGateDwIdeal := Gen.facts) (hGateDwReferenceIdeal := Cert.GateDwReferenceIdeal.Gen.facts) := by
  intro m g m' g' _ harg
  refine ⟨_, (θ_run defs _ _).mono (fun r h c => ⟨(h c).1.trans (result m c), (h c).2⟩) (Value.run_blocks m g),
    (θ_run Cert.GateDwReferenceIdeal.defs _ _).mono (fun r h c => ⟨(h c).1.trans ?_, (h c).2⟩) (Cert.GateDwReferenceIdeal.Value.run m' g')⟩
  refine (reference _ _).trans ?_
  rw [(harg c).1, (harg c).2]

end Cert.GateDwIdeal.Product

end
-- ==== Proof.GateDlhs.lean ====
/- The gradient through the gates' product: the kernel and the reference end with the same matrix. -/
module

public import proofs.«01_k».proof.Proof.Entries
public import proofs.«01_k».proof.Defs
public import proofs.«01_k».proof.Proof.Gen.GateDlhs.Frame
public import proofs.«01_k».proof.Proof.Gen.GateDlhsIdeal.Value
public import proofs.«01_k».proof.Proof.Gen.GateDlhsReferenceIdeal.Run
public import proofs.«01_k».proof.Proof.Gen.GateDlhsReferenceIdeal.Read

@[expose] public section

noncomputable section

namespace Cert.GateDlhsIdeal.Product

open Cert.GateDlhsIdeal Cert.GateDlhsIdeal.Gen Cert.Entries
open Idealize.ShloMosaic

/-- An entry of the product of `a` and `b`. -/
def entry (a : S4096x128.Idx → EReal) (b : S128x2048.Idx → EReal) (i j : ℕ) : EReal := ∑ k : Fin 128, e2 a i k * e2 b k j

/-- One chunk of columns of a block of the product. -/
theorem pay (x : Vec Ideal S1024x128 .bf16) (w : Vec Ideal S128x256 .bf16) (i : Fin 1024) (j : Fin 256) :
    k0_pay1 (F := Ideal) x w (ix2 i j) = ∑ k : Fin 128, x (ix2 i k) * w (ix2 k j) := by
  pointwise [k0_pay1]

/-- A block of the product. -/
theorem out_at (x : Vec Ideal S1024x128 .bf16) (w : Vec Ideal S128x1024 .bf16) (y : S1024x1024.Idx) :
    out0_2 (F := Ideal) x w y = ∑ k : Fin 128, e2 x (y 0).val k * e2 w k (y 1).val := by
  refine View.canon_apply_of_pieces (Val := Elt Ideal) (e := .f32) (fun y : S1024x1024.Idx => (∑ k : Fin 128, e2 x (y 0).val k * e2 w k (y 1).val : EReal)) _ ?_ y (cover0_2 _ _ _ _ y)
  intro p hp
  simp only [List.mem_cons, List.not_mem_nil, or_false] at hp
  rcases hp with rfl | rfl | rfl | rfl
  all_goals
    intro z
    refine ((congrArg _ (eta2 z)).trans (pay _ _ (z 0) (z 1))).trans (Finset.sum_congr rfl fun k _ => congrArg₂ (· * ·) (at2 x _ rfl ?_) (at2 w _ ?_ rfl))
    · exact unit_val k
    · exact unit_val k

/-- The block indices of the three windows. -/
theorem idx (t : Fin cfg0.N) : win0_0.index t = ![t.val / 2, 0] ∧ win0_1.index t = ![0, t.val % 2] ∧ win0_2.index t = ![t.val / 2, t.val % 2] :=
  (by decide +kernel : ∀ t : Fin grid0.N, win0_0.index t = ![t.val / 2, 0] ∧ win0_1.index t = ![0, t.val % 2] ∧ win0_2.index t = ![t.val / 2, t.val % 2]) t

theorem covers : (cfg0.win 2).Covers := by decide +kernel

variable (m : (ℓ : Loc nD τ sig) → Buf (Elt Ideal) ℓ)

/-- The kernel's result is the product. -/
theorem result (c : Dev nD) : (Gen.dats m 0 c).arrAt 2 cfg0.N =
    fun y : S4096x2048.Idx => entry (m ((c.tc : Thread nD τ).loc main_arg0)) (m ((c.tc : Thread nD τ).loc main_arg1)) (y 0).val (y 1).val := by
  refine (Gen.dats m 0 c).arrAt_eq_of_covers 2 _ covers fun t hf y => ?_
  show (Gen.dats m 0 c).after 2 t ((cfg0.win 2).xinj (cfg0.grid.coords t) y) = entry _ _ (((cfg0.win 2).rect t).emb y 0).val (((cfg0.win 2).rect t).emb y 1).val
  obtain ⟨i0, i1, i2⟩ := idx t
  rw [after0_2, place ((cfg0.win 2).rect_emb_val t y 0) (congrFun i2 0) rfl, place ((cfg0.win 2).rect_emb_val t y 1) (congrFun i2 1) rfl]
  refine (out_at _ _ _).trans (Finset.sum_congr rfl fun k _ => congrArg₂ (· * ·) ?_ ?_)
  · exact read2 _ ((cfg0.win 0).rect t).emb (y 0).isLt k.isLt (place ((cfg0.win 0).rect_emb_val t _ 0) (congrFun i0 0) rfl)
      (place ((cfg0.win 0).rect_emb_val t _ 1) (congrFun i0 1) (zero_val 128 k))
  · exact read2 _ ((cfg0.win 1).rect t).emb k.isLt (y 1).isLt (place ((cfg0.win 1).rect_emb_val t _ 0) (congrFun i1 0) (zero_val 128 k))
      (place ((cfg0.win 1).rect_emb_val t _ 1) (congrFun i1 1) rfl)

/-- The reference's result is the product. -/
theorem reference (a : (⟨S4096x128, .bf16⟩ : BufTy).Contents (Elt Ideal)) (b : (⟨S128x2048, .bf16⟩ : BufTy).Contents (Elt Ideal)) :
    Cert.GateDlhsReferenceIdeal.Read.val_main_v4 (F := Ideal) a b = fun y : S4096x2048.Idx => entry a b (y 0).val (y 1).val := by
  funext y
  refine (Cert.GateDlhsReferenceIdeal.Read.val_main_v4_apply a b y).trans (Finset.sum_congr rfl fun k _ => ?_)
  exact congrArg₂ (· * ·) (at2 a _ rfl rfl) (at2 b _ rfl rfl)

/-- The reference runs and leaves its arguments as they were. -/
theorem reference_frame : Cert.quiescent_GateDlhsReferenceIdeal (hGateDlhsReferenceIdeal := Cert.GateDlhsReferenceIdeal.Gen.facts) :=
  fun m g _ => (θ_run Cert.GateDlhsReferenceIdeal.defs _ _).mono (fun r h => ⟨fun c => (h c).2, sem_eq_zero_of_no_sems (by decide) r.2⟩)
    (Cert.GateDlhsReferenceIdeal.Value.run m g)

/-- The kernel and the reference end with the same result. -/
theorem algebraic : Cert.algebraic_GateDlhsIdeal_GateDlhsReferenceIdeal (hGateDlhsIdeal := Gen.facts) (hGateDlhsReferenceIdeal := Cert.GateDlhsReferenceIdeal.Gen.facts) := by
  intro m g m' g' _ harg
  refine ⟨_, (θ_run defs _ _).mono (fun r h c => ⟨(h c).1.trans (result m c), (h c).2⟩) (Value.run_blocks m g),
    (θ_run Cert.GateDlhsReferenceIdeal.defs _ _).mono (fun r h c => ⟨(h c).1.trans ?_, (h c).2⟩) (Cert.GateDlhsReferenceIdeal.Value.run m' g')⟩
  refine (reference _ _).trans ?_
  rw [(harg c).1, (harg c).2]

end Cert.GateDlhsIdeal.Product

end
-- ==== Proof.Gathered.lean ====
/- The sum of the eight devices' shares of a gradient, a device's own share being taken from an array of its own. -/
module

public import Idealize.ShloMosaic.Lib.Pointwise
public import Idealize.ShloMosaic.Lib.Pipeline.Value
public import Idealize.ShloMosaic.Lib.ValueIdx
public import Idealize.ShloMosaic.PureOps.Ideal.Laws

@[expose] public section

noncomputable section

namespace Cert.Gathered

open Idealize.ShloMosaic

/-- The place of the device that the two words name. -/
def me (p : (⟨1, ![2]⟩ : Shape).Idx → BitVec 32) : BitVec 32 :=
  2#32 * p (ix1 0) + p (ix1 1)

/-- The share at place `w`: the device's own where `w` is its place, else the gathered one. -/
def share (p w : BitVec 32) (own other : EReal) : EReal :=
  if p = w then own else other

/-- The sum of the eight shares. -/
def total (p : BitVec 32) (own : EReal) (other : Fin 8 → EReal) : EReal :=
  ∑ k : Fin 8, share p (BitVec.ofNat 32 k.val) own (other k)

/-- A choice by a test for equality is a share. -/
theorem share_of_test (p w : BitVec 32) (own other : EReal) : Scalar.select (IntOp.cmpi .eq p w) own other = share p w own other := by
  unfold Scalar.select IntOp.cmpi share
  by_cases h : p = w
  · simp [h]
  · have e : (p == w) = false := beq_eq_false_iff_ne.mpr h
    simp [h, e]

/-- The same, the test written the other way round. -/
theorem share_of_test' (p w : BitVec 32) (own other : EReal) : Scalar.select (IntOp.cmpi .eq w p) own other = share p w own other := by
  unfold Scalar.select IntOp.cmpi share
  by_cases h : p = w
  · simp [h]
  · have e : (w == p) = false := beq_eq_false_iff_ne.mpr (Ne.symm h)
    simp [h, e]

/-- A chosen array at an index. -/
theorem select_apply {s : Shape} (b : BitVec 1) (x y : s.Idx → EReal) (i : s.Idx) : Scalar.select b x y i = Scalar.select b (x i) (y i) := by
  unfold Scalar.select
  split <;> rfl

/-- An axis that one block fills has one block. -/
theorem only (l : ℕ) (hl : 0 < l) {n s b : ℕ} (h : b < (n + s - 1) / s) (hn : n = l) (hs : s = l) : 0 = b := by
  subst hn hs
  have e : (s + s - 1) / s = 1 := Nat.div_eq_of_lt_le (by omega) (by omega)
  omega

end Cert.Gathered

end
-- ==== Proof.AdamwEarly.lean ====
/- The optimiser's step of the small weights whose gradients are ready early: the kernel and the reference end with the same four arrays. -/
module

public import proofs.«01_k».proof.Proof.Weight
public import proofs.«01_k».proof.Proof.Gathered
public import proofs.«01_k».proof.Proof.Entries
public import Idealize.ShloMosaic.Lib.ValueLayout
public import Idealize.ShloMosaic.Lib.Pipeline.Covers
public import proofs.«01_k».proof.Defs
public import proofs.«01_k».proof.Proof.Gen.AdamwEarly.Frame
public import proofs.«01_k».proof.Proof.Gen.AdamwEarlyIdeal.Frame
public import proofs.«01_k».proof.Proof.Gen.AdamwEarlyReferenceIdeal.Run
public import proofs.«01_k».proof.Proof.Gen.AdamwEarlyReferenceIdeal.Read

@[expose] public section

noncomputable section

namespace Cert.AdamwEarlyIdeal.Step

open Cert.AdamwEarlyIdeal Cert.AdamwEarlyIdeal.Gen Cert.Weight Cert.Gathered
open Idealize.ShloMosaic

/-- The gradient that the kernel's body adds up from the blocks it reads. -/
def gradient (v0 v2 : BitVec 32) (x : Vec Ideal S8x1104x128 .f32) (own : Vec Ideal S1104x128 .f32) : FVec Ideal S1104x128 .f32 :=
  k0_pay5 (F := Ideal) (Scalar.addi (Scalar.muli 2#32 v0) v2)
    (k0_pay4 (F := Ideal) v0 v2 own (View.ld x (Rect.unit ![0, 0, 0] ![1, 1104, 128] inb_S8x1104x128_S1x1104x128_0_0_0))
      own (View.ld x (Rect.unit ![1, 0, 0] ![1, 1104, 128] inb_S8x1104x128_S1x1104x128_1_0_0))
      own (View.ld x (Rect.unit ![2, 0, 0] ![1, 1104, 128] inb_S8x1104x128_S1x1104x128_2_0_0))
      own (View.ld x (Rect.unit ![3, 0, 0] ![1, 1104, 128] inb_S8x1104x128_S1x1104x128_3_0_0)))
    (Scalar.cmpi .eq (Scalar.addi (Scalar.muli 2#32 v0) v2) 4#32)
    own (View.ld x (Rect.unit ![4, 0, 0] ![1, 1104, 128] inb_S8x1104x128_S1x1104x128_4_0_0))
    own (View.ld x (Rect.unit ![5, 0, 0] ![1, 1104, 128] inb_S8x1104x128_S1x1104x128_5_0_0))
    own (View.ld x (Rect.unit ![6, 0, 0] ![1, 1104, 128] inb_S8x1104x128_S1x1104x128_6_0_0))
    own (View.ld x (Rect.unit ![7, 0, 0] ![1, 1104, 128] inb_S8x1104x128_S1x1104x128_7_0_0))

/-- One of the eight slices of the gathered shares, at an index. -/
theorem slice_at (x : Vec Ideal S8x1104x128 .f32) (k : Fin 8) (h) (y : S1104x128.Idx) :
    shapeCast S1104x128 (View.ld x (Rect.unit (s := S8x1104x128) ![k.val, 0, 0] ![1, 1104, 128] h)) shapeCasts_S1x1104x128_S1104x128 y = x (ix3 k (y 0) (y 1)) := by
  refine (congrArg _ (Entries.eta2 y)).trans ((ValueIdx.shapeCast_1ab_ab_apply _ _ _ _).trans ?_)
  refine congrArg x (funext fun a => Fin.ext ?_)
  match a with
  | ⟨0, _⟩ => rfl
  | ⟨1, _⟩ => exact Entries.unit_val _
  | ⟨2, _⟩ => exact Entries.unit_val _

/-- The gradient at an index is the sum of the shares there. -/
theorem gradient_at (v0 v2 : BitVec 32) (x : Vec Ideal S8x1104x128 .f32) (own : Vec Ideal S1104x128 .f32) (y : S1104x128.Idx) :
    gradient v0 v2 x own y = total (2#32 * v0 + v2) (own y) (fun k => x (ix3 k (y 0) (y 1))) := by
  have e (k : Fin 8) (h) (b : BitVec 32) (hb : b = BitVec.ofNat 32 k.val) :
      Scalar.select (Scalar.cmpi .eq (Scalar.addi (Scalar.muli 2#32 v0) v2) b) own
        (shapeCast S1104x128 (View.ld x (Rect.unit (s := S8x1104x128) ![k.val, 0, 0] ![1, 1104, 128] h)) shapeCasts_S1x1104x128_S1104x128) y
      = share (2#32 * v0 + v2) (BitVec.ofNat 32 k.val) (own y) (x (ix3 k (y 0) (y 1))) := by
    subst hb
    rw [select_apply, slice_at]
    exact share_of_test _ _ _ _
  unfold total
  rw [Fin.sum_univ_eight, ← e 0 inb_S8x1104x128_S1x1104x128_0_0_0 0#32 rfl, ← e 1 inb_S8x1104x128_S1x1104x128_1_0_0 1#32 rfl,
    ← e 2 inb_S8x1104x128_S1x1104x128_2_0_0 2#32 rfl, ← e 3 inb_S8x1104x128_S1x1104x128_3_0_0 3#32 rfl,
    ← e 4 inb_S8x1104x128_S1x1104x128_4_0_0 4#32 rfl, ← e 5 inb_S8x1104x128_S1x1104x128_5_0_0 5#32 rfl,
    ← e 6 inb_S8x1104x128_S1x1104x128_6_0_0 6#32 rfl, ← e 7 inb_S8x1104x128_S1x1104x128_7_0_0 7#32 rfl,
    ← zero_add (Scalar.select (Scalar.cmpi .eq (Scalar.addi (Scalar.muli 2#32 v0) v2) 0#32) own _ y), ← Ideal.ofBits_zero .f32]
  rfl

variable (m : (ℓ : Loc nD τ sig) → Buf (Elt Ideal) ℓ)

/-- Nothing is asked of the table. -/
theorem ok : Ok m := trivial

/-- The arguments' arrays on a device. -/
abbrev a0 (c : Dev nD) := m ((c.tc : Thread nD τ).loc main_arg0)
abbrev a1 (c : Dev nD) := m ((c.tc : Thread nD τ).loc main_arg1)
abbrev a2 (c : Dev nD) := m ((c.tc : Thread nD τ).loc main_arg2)
abbrev a3 (c : Dev nD) := m ((c.tc : Thread nD τ).loc main_arg3)
abbrev a4 (c : Dev nD) := m ((c.tc : Thread nD τ).loc main_arg4)
abbrev a5 (c : Dev nD) := m ((c.tc : Thread nD τ).loc main_arg5)

/-- The sum of the shares at an index, in the arrays of the arguments. -/
def summed (c : Dev nD) (y : S1104x128.Idx) : EReal :=
  total (me (a0 m c)) (a2 m c y) (fun k => a1 m c (ix3 k (y 0) (y 1)))

/-- The gradient and the arrays of the last three arguments put through `f` at every index. -/
def at_args (f : EReal → EReal → EReal → EReal → EReal) (c : Dev nD) (y : S1104x128.Idx) : EReal :=
  f (a3 m c y) (summed m c y) (a4 m c y) (a5 m c y)

/-- The first word of the table. -/
def word0 : BitVec 32 :=
  View.readAt (Elt Ideal) (View.whole main_arg0) (Rect.unit ![0] ![1] inb_S2_S1_0).toLoadRect (tbl m 0) (Shape.Idx.first (by decide))

/-- The second word of the table. -/
def word1 : BitVec 32 :=
  View.readAt (Elt Ideal) (View.whole main_arg0) (Rect.unit ![1] ![1] inb_S2_S1_1).toLoadRect (tbl m 0) (Shape.Idx.first (by decide))

/-- What the body leaves in its four results. -/
theorem outs (c : Dev nD) (t : Fin (cfgM m (ok m)).N) :
    (outsAt0 m (ok m) c t).1 = gradient (word0 m) (word1 m) (iblk m (ok m) c 0 t) (iblk m (ok m) c 1 t)
    ∧ (outsAt0 m (ok m) c t).2.1 = k0_pay3 (F := Ideal) (gradient (word0 m) (word1 m) (iblk m (ok m) c 0 t) (iblk m (ok m) c 1 t)) (iblk m (ok m) c 2 t) (iblk m (ok m) c 3 t) (iblk m (ok m) c 4 t) (Scalar.ofBits .f32 0x3F666666#32)
    ∧ (outsAt0 m (ok m) c t).2.2.1 = k0_pay1 (F := Ideal) (gradient (word0 m) (word1 m) (iblk m (ok m) c 0 t) (iblk m (ok m) c 1 t)) (iblk m (ok m) c 3 t) (Scalar.ofBits .f32 0x3F666666#32)
    ∧ (outsAt0 m (ok m) c t).2.2.2 = k0_pay2 (F := Ideal) (gradient (word0 m) (word1 m) (iblk m (ok m) c 0 t) (iblk m (ok m) c 1 t)) (iblk m (ok m) c 4 t) := by
  have e0 := (hs0_0 m (ok m) t).read_unread (iblk m (ok m) c 0 t)
  have e1 := (hs0_1 m (ok m) t).read_unread (iblk m (ok m) c 1 t)
  have e2 := (hs0_2 m (ok m) t).read_unread (iblk m (ok m) c 2 t)
  have e3 := (hs0_3 m (ok m) t).read_unread (iblk m (ok m) c 3 t)
  have e4 := (hs0_4 m (ok m) t).read_unread (iblk m (ok m) c 4 t)
  refine ⟨?_, ?_, ?_, ?_⟩
  · unfold outsAt0 out0_A_5
    frame_out
    rw [e0, e1]
    rfl
  · unfold outsAt0 out0_A_6
    frame_out
    rw [e0, e1, e2, e3, e4]
    rfl
  · unfold outsAt0 out0_A_7
    frame_out
    rw [e0, e1, e3]
    rfl
  · unfold outsAt0 out0_A_8
    frame_out
    rw [e0, e1, e4]
    rfl

/-- The block of the shares is the whole array. -/
theorem block0 (c : Dev nD) (t : Fin (cfgM m (ok m)).N) (y : S8x1104x128.Idx) : iblk m (ok m) c 0 t y = a1 m c y := by
  refine congrArg (a1 m c) (funext fun a => Fin.ext ?_)
  match a with
  | ⟨0, _⟩ => exact Entries.unit_val _
  | ⟨1, _⟩ => exact Entries.unit_val _
  | ⟨2, _⟩ => exact Entries.unit_val _

/-- So are the other blocks. -/
theorem blocks (c : Dev nD) (t : Fin (cfgM m (ok m)).N) (y : S1104x128.Idx) :
    iblk m (ok m) c 1 t y = a2 m c y ∧ iblk m (ok m) c 2 t y = a3 m c y
    ∧ iblk m (ok m) c 3 t y = a4 m c y ∧ iblk m (ok m) c 4 t y = a5 m c y := by
  refine ⟨congrArg (a2 m c) (funext fun a => Fin.ext ?_), congrArg (a3 m c) (funext fun a => Fin.ext ?_),
    congrArg (a4 m c) (funext fun a => Fin.ext ?_), congrArg (a5 m c) (funext fun a => Fin.ext ?_)⟩
  all_goals
    match a with
    | ⟨0, _⟩ => exact Entries.unit_val _
    | ⟨1, _⟩ => exact Entries.unit_val _

/-- The place that the two words name. -/
theorem words (c : Dev nD) : 2#32 * word0 m + word1 m = me (a0 m c) := by
  obtain rfl : c = 0 := Subsingleton.elim _ _
  refine congrArg₂ (fun a b : BitVec 32 => 2#32 * a + b) (congrArg (m (((0 : Dev nD).tc : Thread nD τ).loc main_arg0)) (funext fun a => Fin.ext ?_))
    (congrArg (m (((0 : Dev nD).tc : Thread nD τ).loc main_arg0)) (funext fun a => Fin.ext ?_))
  all_goals
    match a with
    | ⟨0, _⟩ => rfl

/-- The body's gradient is the sum of the shares. -/
theorem gradient_eq (c : Dev nD) (t : Fin (cfgM m (ok m)).N) (y : S1104x128.Idx) :
    gradient (word0 m) (word1 m) (iblk m (ok m) c 0 t) (iblk m (ok m) c 1 t) y = summed m c y := by
  refine (gradient_at _ _ _ _ y).trans ?_
  rw [words m c]
  exact congrArg₂ (total _) (blocks m c t y).1 (funext fun k => block0 m c t _)

/-- The place in a result's array of an index of its block is that index. -/
theorem whole (f : EReal → EReal → EReal → EReal → EReal) (c : Dev nD) (t : Fin (cfgM m (ok m)).N) (y z : S1104x128.Idx) (h : z = y) :
    f (iblk m (ok m) c 2 t y) (gradient (word0 m) (word1 m) (iblk m (ok m) c 0 t) (iblk m (ok m) c 1 t) y) (iblk m (ok m) c 3 t y) (iblk m (ok m) c 4 t y) = at_args m f c z := by
  subst h
  obtain ⟨-, h2, h3, h4⟩ := blocks m c t z
  rw [gradient_eq]
  unfold at_args
  rw [h2, h3, h4]

/-- A result's array has rows and columns. -/
theorem sizes (a : Fin 2) : 0 < S1104x128.size a := by
  match a with
  | ⟨0, _⟩ => exact Nat.succ_pos _
  | ⟨1, _⟩ => exact Nat.succ_pos _

/-- A place of the one block, in the array. -/
theorem place_val (a : Fin 2) (n : Fin (S1104x128.size a)) : (![0, 0] : Fin 2 → ℕ) a * S1104x128.size a + 1 * n.val = n.val := by
  match a with
  | ⟨0, _⟩ => exact Entries.unit_val _
  | ⟨1, _⟩ => exact Entries.unit_val _

/-- The kernel's result: the gradient. -/
theorem result5 (c : Dev nD) : (Gen.dats m (ok m) 0 c).arrAt 5 (cfgM m (ok m)).N = at_args m (fun _ g _ _ => g) c := by
  refine (Gen.dats m (ok m) 0 c).arrAt_eq_of_covers 5 _ (Pipeline.Window.covers_of_indexMap_surj _ rfl sizes fun β => ⟨grid0.coords ⟨0, by decide⟩, fun a => ?_⟩) fun t hf y => ?_
  · match a with
    | ⟨0, _⟩ => exact Gathered.only 1104 (by decide) (β ⟨0, (by decide : 0 < 2)⟩).isLt rfl rfl
    | ⟨1, _⟩ => exact Gathered.only 128 (by decide) (β ⟨1, (by decide : 1 < 2)⟩).isLt rfl rfl
  show (Gen.dats m (ok m) 0 c).after 5 t (((cfgM m (ok m)).win 5).xinj ((cfgM m (ok m)).grid.coords t) y) = _
  rw [after0_5, (outs m c t).1]
  exact whole m (fun _ g _ _ => g) c t _ _ (funext fun a => Fin.ext (place_val a _))

/-- The kernel's result: the change of the weights. -/
theorem result6 (c : Dev nD) : (Gen.dats m (ok m) 0 c).arrAt 6 (cfgM m (ok m)).N = at_args m (change) c := by
  refine (Gen.dats m (ok m) 0 c).arrAt_eq_of_covers 6 _ (Pipeline.Window.covers_of_indexMap_surj _ rfl sizes fun β => ⟨grid0.coords ⟨0, by decide⟩, fun a => ?_⟩) fun t hf y => ?_
  · match a with
    | ⟨0, _⟩ => exact Gathered.only 1104 (by decide) (β ⟨0, (by decide : 0 < 2)⟩).isLt rfl rfl
    | ⟨1, _⟩ => exact Gathered.only 128 (by decide) (β ⟨1, (by decide : 1 < 2)⟩).isLt rfl rfl
  show (Gen.dats m (ok m) 0 c).after 6 t (((cfgM m (ok m)).win 6).xinj ((cfgM m (ok m)).grid.coords t) y) = _
  rw [after0_6, (outs m c t).2.1]
  exact whole m (change) c t _ _ (funext fun a => Fin.ext (place_val a _))

/-- The kernel's result: the mean of the gradients. -/
theorem result7 (c : Dev nD) : (Gen.dats m (ok m) 0 c).arrAt 7 (cfgM m (ok m)).N = at_args m (fun _ g a _ => mean g a) c := by
  refine (Gen.dats m (ok m) 0 c).arrAt_eq_of_covers 7 _ (Pipeline.Window.covers_of_indexMap_surj _ rfl sizes fun β => ⟨grid0.coords ⟨0, by decide⟩, fun a => ?_⟩) fun t hf y => ?_
  · match a with
    | ⟨0, _⟩ => exact Gathered.only 1104 (by decide) (β ⟨0, (by decide : 0 < 2)⟩).isLt rfl rfl
    | ⟨1, _⟩ => exact Gathered.only 128 (by decide) (β ⟨1, (by decide : 1 < 2)⟩).isLt rfl rfl
  show (Gen.dats m (ok m) 0 c).after 7 t (((cfgM m (ok m)).win 7).xinj ((cfgM m (ok m)).grid.coords t) y) = _
  rw [after0_7, (outs m c t).2.2.1]
  exact whole m (fun _ g a _ => mean g a) c t _ _ (funext fun a => Fin.ext (place_val a _))

/-- The kernel's result: the mean of their squares. -/
theorem result8 (c : Dev nD) : (Gen.dats m (ok m) 0 c).arrAt 8 (cfgM m (ok m)).N = at_args m (fun _ g _ b => square g b) c := by
  refine (Gen.dats m (ok m) 0 c).arrAt_eq_of_covers 8 _ (Pipeline.Window.covers_of_indexMap_surj _ rfl sizes fun β => ⟨grid0.coords ⟨0, by decide⟩, fun a => ?_⟩) fun t hf y => ?_
  · match a with
    | ⟨0, _⟩ => exact Gathered.only 1104 (by decide) (β ⟨0, (by decide : 0 < 2)⟩).isLt rfl rfl
    | ⟨1, _⟩ => exact Gathered.only 128 (by decide) (β ⟨1, (by decide : 1 < 2)⟩).isLt rfl rfl
  show (Gen.dats m (ok m) 0 c).after 8 t (((cfgM m (ok m)).win 8).xinj ((cfgM m (ok m)).grid.coords t) y) = _
  rw [after0_8, (outs m c t).2.2.2]
  exact whole m (fun _ g _ b => square g b) c t _ _ (funext fun a => Fin.ext (place_val a _))

/-- The kernel runs, and its arrays at the end. -/
theorem kernel_run (ρ : Dev nD → PrngReg) : θ_run defs (onTc (τ := τ) (main (F := Ideal))) ⟨m, fun _ => 0, ρ⟩ fun r => ∀ c : Dev nD,
      r.2.mem ((c.tc : Thread nD τ).loc main_v0_0) = at_args m (fun _ g _ _ => g) c
      ∧ r.2.mem ((c.tc : Thread nD τ).loc main_v0_1) = at_args m change c
      ∧ r.2.mem ((c.tc : Thread nD τ).loc main_v0_2) = at_args m (fun _ g a _ => mean g a) c
      ∧ r.2.mem ((c.tc : Thread nD τ).loc main_v0_3) = at_args m (fun _ g _ b => square g b) c
      ∧ r.2.mem ((c.tc : Thread nD τ).loc main_arg0) = a0 m c
      ∧ r.2.mem ((c.tc : Thread nD τ).loc main_arg1) = a1 m c
      ∧ r.2.mem ((c.tc : Thread nD τ).loc main_arg2) = a2 m c
      ∧ r.2.mem ((c.tc : Thread nD τ).loc main_arg3) = a3 m c
      ∧ r.2.mem ((c.tc : Thread nD τ).loc main_arg4) = a4 m c
      ∧ r.2.mem ((c.tc : Thread nD τ).loc main_arg5) = a5 m c :=
  (θ_run defs _ _).mono (fun r h c => ⟨((h.1 c).1 5).trans (result5 m c), ((h.1 c).1 6).trans (result6 m c), ((h.1 c).1 7).trans (result7 m c), ((h.1 c).1 8).trans (result8 m c), h.2 c⟩)
    (θ_run_and (run_main m ρ (ok m)) (unchanged m ρ (ok m)))

open Cert.AdamwEarlyReferenceIdeal.Read in
/-- The reference's gradient at an index is the sum of the shares. -/
theorem reference_gradient (x0 : (⟨S2, .i32⟩ : BufTy).Contents (Elt Ideal)) (x1 : (⟨S8x1104x128, .f32⟩ : BufTy).Contents (Elt Ideal)) (x2 : (⟨S1104x128, .f32⟩ : BufTy).Contents (Elt Ideal)) (y : S1104x128.Idx) :
    val_main_v11 (F := Ideal) x0 x1 x2 y = total (me x0) (x2 y) (fun k => x1 (ix3 k (y 0) (y 1))) := by
  have hme (i : Cert.AdamwEarlyReferenceIdeal.S_.Idx) : val_main_v6 (F := Ideal) x0 i = me x0 := by
    refine congrArg₂ (fun a b : BitVec 32 => 2#32 * a + b) (congrArg x0 (funext fun a => Fin.ext ?_)) (congrArg x0 (funext fun a => Fin.ext ?_))
    · match a with
      | ⟨0, _⟩ => exact (fun j : Fin 1 => (by omega : 0 + j.val = 0)) _
    · match a with
      | ⟨0, _⟩ => exact (fun j : Fin 1 => (by omega : 1 + j.val = 1)) _
  rw [val_main_v11_apply]
  refine (congrArg (· + _) (Ideal.ofBits_zero .f32)).trans ((zero_add _).trans (Finset.sum_congr rfl fun k _ => ?_))
  rw [val_main_v10_apply, val_main_call0_v0_apply, val_main_v9_apply,
    val_main_v8_apply, val_main_v7_apply, hme, val_main_call0_v1_apply]
  refine (share_of_test' _ _ _ _).trans ?_
  refine congrArg₂ (share _ _) (congrArg x2 (funext fun a => ?_)) (congrArg x1 (funext fun a => ?_))
  · match a with
    | ⟨0, _⟩ => rfl
    | ⟨1, _⟩ => rfl
  · match a with
    | ⟨0, _⟩ => rfl
    | ⟨1, _⟩ => rfl
    | ⟨2, _⟩ => rfl

/-- The reference runs and leaves its arguments as they were. -/
theorem reference_frame : Cert.quiescent_AdamwEarlyReferenceIdeal (hAdamwEarlyReferenceIdeal := Cert.AdamwEarlyReferenceIdeal.Gen.facts) :=
  fun m g _ => (θ_run Cert.AdamwEarlyReferenceIdeal.defs _ _).mono (fun r h => ⟨fun c => (h c).2.2.2.2, sem_eq_zero_of_no_sems (by decide) r.2⟩)
    (Cert.AdamwEarlyReferenceIdeal.Value.run m g)

/-- The kernel and the reference end with the same results. -/
theorem algebraic : Cert.algebraic_AdamwEarlyIdeal_AdamwEarlyReferenceIdeal (hAdamwEarlyIdeal := Gen.facts) (hAdamwEarlyReferenceIdeal := Cert.AdamwEarlyReferenceIdeal.Gen.facts) := by
  intro m g m' g' _ harg
  refine ⟨_, _, _, _, kernel_run m g,
    (θ_run Cert.AdamwEarlyReferenceIdeal.defs _ _).mono (fun r h c => ⟨(h c).1.trans ?_, (h c).2.1.trans ?_, (h c).2.2.1.trans ?_, (h c).2.2.2.1.trans ?_, (h c).2.2.2.2⟩) (Cert.AdamwEarlyReferenceIdeal.Value.run m' g')⟩
  all_goals
    obtain ⟨h0, h1, h2, h3, h4, h5⟩ := harg c
    simp only [h0, h1, h2, h3, h4, h5]
    funext y
  · exact reference_gradient _ _ _ y
  · exact congrArg (fun g => change (a3 m c y) g (a4 m c y) (a5 m c y)) (reference_gradient _ _ _ y)
  · exact congrArg (fun g => mean g (a4 m c y)) (reference_gradient _ _ _ y)
  · exact congrArg (fun g => square g (a5 m c y)) (reference_gradient _ _ _ y)

end Cert.AdamwEarlyIdeal.Step

end
-- ==== Proof.AdamwLate.lean ====
/- The optimiser's step of the small weights whose gradients are ready late: the kernel and the reference end with the same four arrays. -/
module

public import proofs.«01_k».proof.Proof.Weight
public import proofs.«01_k».proof.Proof.Gathered
public import proofs.«01_k».proof.Proof.Entries
public import Idealize.ShloMosaic.Lib.ValueLayout
public import Idealize.ShloMosaic.Lib.Pipeline.Covers
public import proofs.«01_k».proof.Defs
public import proofs.«01_k».proof.Proof.Gen.AdamwLate.Frame
public import proofs.«01_k».proof.Proof.Gen.AdamwLateIdeal.Frame
public import proofs.«01_k».proof.Proof.Gen.AdamwLateReferenceIdeal.Run
public import proofs.«01_k».proof.Proof.Gen.AdamwLateReferenceIdeal.Read

@[expose] public section

noncomputable section

namespace Cert.AdamwLateIdeal.Step

open Cert.AdamwLateIdeal Cert.AdamwLateIdeal.Gen Cert.Weight Cert.Gathered
open Idealize.ShloMosaic

/-- The gradient that the kernel's body adds up from the blocks it reads. -/
def gradient (v0 v2 : BitVec 32) (x : Vec Ideal S8x16x128 .f32) (own : Vec Ideal S16x128 .f32) : FVec Ideal S16x128 .f32 :=
  k0_pay5 (F := Ideal) (Scalar.addi (Scalar.muli 2#32 v0) v2)
    (k0_pay4 (F := Ideal) v0 v2 own (View.ld x (Rect.unit ![0, 0, 0] ![1, 16, 128] inb_S8x16x128_S1x16x128_0_0_0))
      own (View.ld x (Rect.unit ![1, 0, 0] ![1, 16, 128] inb_S8x16x128_S1x16x128_1_0_0))
      own (View.ld x (Rect.unit ![2, 0, 0] ![1, 16, 128] inb_S8x16x128_S1x16x128_2_0_0))
      own (View.ld x (Rect.unit ![3, 0, 0] ![1, 16, 128] inb_S8x16x128_S1x16x128_3_0_0)))
    (Scalar.cmpi .eq (Scalar.addi (Scalar.muli 2#32 v0) v2) 4#32)
    own (View.ld x (Rect.unit ![4, 0, 0] ![1, 16, 128] inb_S8x16x128_S1x16x128_4_0_0))
    own (View.ld x (Rect.unit ![5, 0, 0] ![1, 16, 128] inb_S8x16x128_S1x16x128_5_0_0))
    own (View.ld x (Rect.unit ![6, 0, 0] ![1, 16, 128] inb_S8x16x128_S1x16x128_6_0_0))
    own (View.ld x (Rect.unit ![7, 0, 0] ![1, 16, 128] inb_S8x16x128_S1x16x128_7_0_0))

/-- One of the eight slices of the gathered shares, at an index. -/
theorem slice_at (x : Vec Ideal S8x16x128 .f32) (k : Fin 8) (h) (y : S16x128.Idx) :
    shapeCast S16x128 (View.ld x (Rect.unit (s := S8x16x128) ![k.val, 0, 0] ![1, 16, 128] h)) shapeCasts_S1x16x128_S16x128 y = x (ix3 k (y 0) (y 1)) := by
  refine (congrArg _ (Entries.eta2 y)).trans ((ValueIdx.shapeCast_1ab_ab_apply _ _ _ _).trans ?_)
  refine congrArg x (funext fun a => Fin.ext ?_)
  match a with
  | ⟨0, _⟩ => rfl
  | ⟨1, _⟩ => exact Entries.unit_val _
  | ⟨2, _⟩ => exact Entries.unit_val _

/-- The gradient at an index is the sum of the shares there. -/
theorem gradient_at (v0 v2 : BitVec 32) (x : Vec Ideal S8x16x128 .f32) (own : Vec Ideal S16x128 .f32) (y : S16x128.Idx) :
    gradient v0 v2 x own y = total (2#32 * v0 + v2) (own y) (fun k => x (ix3 k (y 0) (y 1))) := by
  have e (k : Fin 8) (h) (b : BitVec 32) (hb : b = BitVec.ofNat 32 k.val) :
      Scalar.select (Scalar.cmpi .eq (Scalar.addi (Scalar.muli 2#32 v0) v2) b) own
        (shapeCast S16x128 (View.ld x (Rect.unit (s := S8x16x128) ![k.val, 0, 0] ![1, 16, 128] h)) shapeCasts_S1x16x128_S16x128) y
      = share (2#32 * v0 + v2) (BitVec.ofNat 32 k.val) (own y) (x (ix3 k (y 0) (y 1))) := by
    subst hb
    rw [select_apply, slice_at]
    exact share_of_test _ _ _ _
  unfold total
  rw [Fin.sum_univ_eight, ← e 0 inb_S8x16x128_S1x16x128_0_0_0 0#32 rfl, ← e 1 inb_S8x16x128_S1x16x128_1_0_0 1#32 rfl,
    ← e 2 inb_S8x16x128_S1x16x128_2_0_0 2#32 rfl, ← e 3 inb_S8x16x128_S1x16x128_3_0_0 3#32 rfl,
    ← e 4 inb_S8x16x128_S1x16x128_4_0_0 4#32 rfl, ← e 5 inb_S8x16x128_S1x16x128_5_0_0 5#32 rfl,
    ← e 6 inb_S8x16x128_S1x16x128_6_0_0 6#32 rfl, ← e 7 inb_S8x16x128_S1x16x128_7_0_0 7#32 rfl,
    ← zero_add (Scalar.select (Scalar.cmpi .eq (Scalar.addi (Scalar.muli 2#32 v0) v2) 0#32) own _ y), ← Ideal.ofBits_zero .f32]
  rfl

variable (m : (ℓ : Loc nD τ sig) → Buf (Elt Ideal) ℓ)

/-- Nothing is asked of the table. -/
theorem ok : Ok m := trivial

/-- The arguments' arrays on a device. -/
abbrev a0 (c : Dev nD) := m ((c.tc : Thread nD τ).loc main_arg0)
abbrev a1 (c : Dev nD) := m ((c.tc : Thread nD τ).loc main_arg1)
abbrev a2 (c : Dev nD) := m ((c.tc : Thread nD τ).loc main_arg2)
abbrev a3 (c : Dev nD) := m ((c.tc : Thread nD τ).loc main_arg3)
abbrev a4 (c : Dev nD) := m ((c.tc : Thread nD τ).loc main_arg4)
abbrev a5 (c : Dev nD) := m ((c.tc : Thread nD τ).loc main_arg5)

/-- The sum of the shares at an index, in the arrays of the arguments. -/
def summed (c : Dev nD) (y : S16x128.Idx) : EReal :=
  total (me (a0 m c)) (a2 m c y) (fun k => a1 m c (ix3 k (y 0) (y 1)))

/-- The gradient and the arrays of the last three arguments put through `f` at every index. -/
def at_args (f : EReal → EReal → EReal → EReal → EReal) (c : Dev nD) (y : S16x128.Idx) : EReal :=
  f (a3 m c y) (summed m c y) (a4 m c y) (a5 m c y)

/-- The first word of the table. -/
def word0 : BitVec 32 :=
  View.readAt (Elt Ideal) (View.whole main_arg0) (Rect.unit ![0] ![1] inb_S2_S1_0).toLoadRect (tbl m 0) (Shape.Idx.first (by decide))

/-- The second word of the table. -/
def word1 : BitVec 32 :=
  View.readAt (Elt Ideal) (View.whole main_arg0) (Rect.unit ![1] ![1] inb_S2_S1_1).toLoadRect (tbl m 0) (Shape.Idx.first (by decide))

/-- What the body leaves in its four results. -/
theorem outs (c : Dev nD) (t : Fin (cfgM m (ok m)).N) :
    (outsAt0 m (ok m) c t).1 = gradient (word0 m) (word1 m) (iblk m (ok m) c 0 t) (iblk m (ok m) c 1 t)
    ∧ (outsAt0 m (ok m) c t).2.1 = k0_pay3 (F := Ideal) (gradient (word0 m) (word1 m) (iblk m (ok m) c 0 t) (iblk m (ok m) c 1 t)) (iblk m (ok m) c 2 t) (iblk m (ok m) c 3 t) (iblk m (ok m) c 4 t) (Scalar.ofBits .f32 0x3F666666#32)
    ∧ (outsAt0 m (ok m) c t).2.2.1 = k0_pay1 (F := Ideal) (gradient (word0 m) (word1 m) (iblk m (ok m) c 0 t) (iblk m (ok m) c 1 t)) (iblk m (ok m) c 3 t) (Scalar.ofBits .f32 0x3F666666#32)
    ∧ (outsAt0 m (ok m) c t).2.2.2 = k0_pay2 (F := Ideal) (gradient (word0 m) (word1 m) (iblk m (ok m) c 0 t) (iblk m (ok m) c 1 t)) (iblk m (ok m) c 4 t) := by
  have e0 := (hs0_0 m (ok m) t).read_unread (iblk m (ok m) c 0 t)
  have e1 := (hs0_1 m (ok m) t).read_unread (iblk m (ok m) c 1 t)
  have e2 := (hs0_2 m (ok m) t).read_unread (iblk m (ok m) c 2 t)
  have e3 := (hs0_3 m (ok m) t).read_unread (iblk m (ok m) c 3 t)
  have e4 := (hs0_4 m (ok m) t).read_unread (iblk m (ok m) c 4 t)
  refine ⟨?_, ?_, ?_, ?_⟩
  · unfold outsAt0 out0_A_5
    frame_out
    rw [e0, e1]
    rfl
  · unfold outsAt0 out0_A_6
    frame_out
    rw [e0, e1, e2, e3, e4]
    rfl
  · unfold outsAt0 out0_A_7
    frame_out
    rw [e0, e1, e3]
    rfl
  · unfold outsAt0 out0_A_8
    frame_out
    rw [e0, e1, e4]
    rfl

/-- The block of the shares is the whole array. -/
theorem block0 (c : Dev nD) (t : Fin (cfgM m (ok m)).N) (y : S8x16x128.Idx) : iblk m (ok m) c 0 t y = a1 m c y := by
  refine congrArg (a1 m c) (funext fun a => Fin.ext ?_)
  match a with
  | ⟨0, _⟩ => exact Entries.unit_val _
  | ⟨1, _⟩ => exact Entries.unit_val _
  | ⟨2, _⟩ => exact Entries.unit_val _

/-- So are the other blocks. -/
theorem blocks (c : Dev nD) (t : Fin (cfgM m (ok m)).N) (y : S16x128.Idx) :
    iblk m (ok m) c 1 t y = a2 m c y ∧ iblk m (ok m) c 2 t y = a3 m c y
    ∧ iblk m (ok m) c 3 t y = a4 m c y ∧ iblk m (ok m) c 4 t y = a5 m c y := by
  refine ⟨congrArg (a2 m c) (funext fun a => Fin.ext ?_), congrArg (a3 m c) (funext fun a => Fin.ext ?_),
    congrArg (a4 m c) (funext fun a => Fin.ext ?_), congrArg (a5 m c) (funext fun a => Fin.ext ?_)⟩
  all_goals
    match a with
    | ⟨0, _⟩ => exact Entries.unit_val _
    | ⟨1, _⟩ => exact Entries.unit_val _

/-- The place that the two words name. -/
theorem words (c : Dev nD) : 2#32 * word0 m + word1 m = me (a0 m c) := by
  obtain rfl : c = 0 := Subsingleton.elim _ _
  refine congrArg₂ (fun a b : BitVec 32 => 2#32 * a + b) (congrArg (m (((0 : Dev nD).tc : Thread nD τ).loc main_arg0)) (funext fun a => Fin.ext ?_))
    (congrArg (m (((0 : Dev nD).tc : Thread nD τ).loc main_arg0)) (funext fun a => Fin.ext ?_))
  all_goals
    match a with
    | ⟨0, _⟩ => rfl

/-- The body's gradient is the sum of the shares. -/
theorem gradient_eq (c : Dev nD) (t : Fin (cfgM m (ok m)).N) (y : S16x128.Idx) :
    gradient (word0 m) (word1 m) (iblk m (ok m) c 0 t) (iblk m (ok m) c 1 t) y = summed m c y := by
  refine (gradient_at _ _ _ _ y).trans ?_
  rw [words m c]
  exact congrArg₂ (total _) (blocks m c t y).1 (funext fun k => block0 m c t _)

/-- The place in a result's array of an index of its block is that index. -/
theorem whole (f : EReal → EReal → EReal → EReal → EReal) (c : Dev nD) (t : Fin (cfgM m (ok m)).N) (y z : S16x128.Idx) (h : z = y) :
    f (iblk m (ok m) c 2 t y) (gradient (word0 m) (word1 m) (iblk m (ok m) c 0 t) (iblk m (ok m) c 1 t) y) (iblk m (ok m) c 3 t y) (iblk m (ok m) c 4 t y) = at_args m f c z := by
  subst h
  obtain ⟨-, h2, h3, h4⟩ := blocks m c t z
  rw [gradient_eq]
  unfold at_args
  rw [h2, h3, h4]

/-- A result's array has rows and columns. -/
theorem sizes (a : Fin 2) : 0 < S16x128.size a := by
  match a with
  | ⟨0, _⟩ => exact Nat.succ_pos _
  | ⟨1, _⟩ => exact Nat.succ_pos _

/-- A place of the one block, in the array. -/
theorem place_val (a : Fin 2) (n : Fin (S16x128.size a)) : (![0, 0] : Fin 2 → ℕ) a * S16x128.size a + 1 * n.val = n.val := by
  match a with
  | ⟨0, _⟩ => exact Entries.unit_val _
  | ⟨1, _⟩ => exact Entries.unit_val _

/-- The kernel's result: the gradient. -/
theorem result5 (c : Dev nD) : (Gen.dats m (ok m) 0 c).arrAt 5 (cfgM m (ok m)).N = at_args m (fun _ g _ _ => g) c := by
  refine (Gen.dats m (ok m) 0 c).arrAt_eq_of_covers 5 _ (Pipeline.Window.covers_of_indexMap_surj _ rfl sizes fun β => ⟨grid0.coords ⟨0, by decide⟩, fun a => ?_⟩) fun t hf y => ?_
  · match a with
    | ⟨0, _⟩ => exact Gathered.only 16 (by decide) (β ⟨0, (by decide : 0 < 2)⟩).isLt rfl rfl
    | ⟨1, _⟩ => exact Gathered.only 128 (by decide) (β ⟨1, (by decide : 1 < 2)⟩).isLt rfl rfl
  show (Gen.dats m (ok m) 0 c).after 5 t (((cfgM m (ok m)).win 5).xinj ((cfgM m (ok m)).grid.coords t) y) = _
  rw [after0_5, (outs m c t).1]
  exact whole m (fun _ g _ _ => g) c t _ _ (funext fun a => Fin.ext (place_val a _))

/-- The kernel's result: the change of the weights. -/
theorem result6 (c : Dev nD) : (Gen.dats m (ok m) 0 c).arrAt 6 (cfgM m (ok m)).N = at_args m (change) c := by
  refine (Gen.dats m (ok m) 0 c).arrAt_eq_of_covers 6 _ (Pipeline.Window.covers_of_indexMap_surj _ rfl sizes fun β => ⟨grid0.coords ⟨0, by decide⟩, fun a => ?_⟩) fun t hf y => ?_
  · match a with
    | ⟨0, _⟩ => exact Gathered.only 16 (by decide) (β ⟨0, (by decide : 0 < 2)⟩).isLt rfl rfl
    | ⟨1, _⟩ => exact Gathered.only 128 (by decide) (β ⟨1, (by decide : 1 < 2)⟩).isLt rfl rfl
  show (Gen.dats m (ok m) 0 c).after 6 t (((cfgM m (ok m)).win 6).xinj ((cfgM m (ok m)).grid.coords t) y) = _
  rw [after0_6, (outs m c t).2.1]
  exact whole m (change) c t _ _ (funext fun a => Fin.ext (place_val a _))

/-- The kernel's result: the mean of the gradients. -/
theorem result7 (c : Dev nD) : (Gen.dats m (ok m) 0 c).arrAt 7 (cfgM m (ok m)).N = at_args m (fun _ g a _ => mean g a) c := by
  refine (Gen.dats m (ok m) 0 c).arrAt_eq_of_covers 7 _ (Pipeline.Window.covers_of_indexMap_surj _ rfl sizes fun β => ⟨grid0.coords ⟨0, by decide⟩, fun a => ?_⟩) fun t hf y => ?_
  · match a with
    | ⟨0, _⟩ => exact Gathered.only 16 (by decide) (β ⟨0, (by decide : 0 < 2)⟩).isLt rfl rfl
    | ⟨1, _⟩ => exact Gathered.only 128 (by decide) (β ⟨1, (by decide : 1 < 2)⟩).isLt rfl rfl
  show (Gen.dats m (ok m) 0 c).after 7 t (((cfgM m (ok m)).win 7).xinj ((cfgM m (ok m)).grid.coords t) y) = _
  rw [after0_7, (outs m c t).2.2.1]
  exact whole m (fun _ g a _ => mean g a) c t _ _ (funext fun a => Fin.ext (place_val a _))

/-- The kernel's result: the mean of their squares. -/
theorem result8 (c : Dev nD) : (Gen.dats m (ok m) 0 c).arrAt 8 (cfgM m (ok m)).N = at_args m (fun _ g _ b => square g b) c := by
  refine (Gen.dats m (ok m) 0 c).arrAt_eq_of_covers 8 _ (Pipeline.Window.covers_of_indexMap_surj _ rfl sizes fun β => ⟨grid0.coords ⟨0, by decide⟩, fun a => ?_⟩) fun t hf y => ?_
  · match a with
    | ⟨0, _⟩ => exact Gathered.only 16 (by decide) (β ⟨0, (by decide : 0 < 2)⟩).isLt rfl rfl
    | ⟨1, _⟩ => exact Gathered.only 128 (by decide) (β ⟨1, (by decide : 1 < 2)⟩).isLt rfl rfl
  show (Gen.dats m (ok m) 0 c).after 8 t (((cfgM m (ok m)).win 8).xinj ((cfgM m (ok m)).grid.coords t) y) = _
  rw [after0_8, (outs m c t).2.2.2]
  exact whole m (fun _ g _ b => square g b) c t _ _ (funext fun a => Fin.ext (place_val a _))

/-- The kernel runs, and its arrays at the end. -/
theorem kernel_run (ρ : Dev nD → PrngReg) : θ_run defs (onTc (τ := τ) (main (F := Ideal))) ⟨m, fun _ => 0, ρ⟩ fun r => ∀ c : Dev nD,
      r.2.mem ((c.tc : Thread nD τ).loc main_v0_0) = at_args m (fun _ g _ _ => g) c
      ∧ r.2.mem ((c.tc : Thread nD τ).loc main_v0_1) = at_args m change c
      ∧ r.2.mem ((c.tc : Thread nD τ).loc main_v0_2) = at_args m (fun _ g a _ => mean g a) c
      ∧ r.2.mem ((c.tc : Thread nD τ).loc main_v0_3) = at_args m (fun _ g _ b => square g b) c
      ∧ r.2.mem ((c.tc : Thread nD τ).loc main_arg0) = a0 m c
      ∧ r.2.mem ((c.tc : Thread nD τ).loc main_arg1) = a1 m c
      ∧ r.2.mem ((c.tc : Thread nD τ).loc main_arg2) = a2 m c
      ∧ r.2.mem ((c.tc : Thread nD τ).loc main_arg3) = a3 m c
      ∧ r.2.mem ((c.tc : Thread nD τ).loc main_arg4) = a4 m c
      ∧ r.2.mem ((c.tc : Thread nD τ).loc main_arg5) = a5 m c :=
  (θ_run defs _ _).mono (fun r h c => ⟨((h.1 c).1 5).trans (result5 m c), ((h.1 c).1 6).trans (result6 m c), ((h.1 c).1 7).trans (result7 m c), ((h.1 c).1 8).trans (result8 m c), h.2 c⟩)
    (θ_run_and (run_main m ρ (ok m)) (unchanged m ρ (ok m)))

open Cert.AdamwLateReferenceIdeal.Read in
/-- The reference's gradient at an index is the sum of the shares. -/
theorem reference_gradient (x0 : (⟨S2, .i32⟩ : BufTy).Contents (Elt Ideal)) (x1 : (⟨S8x16x128, .f32⟩ : BufTy).Contents (Elt Ideal)) (x2 : (⟨S16x128, .f32⟩ : BufTy).Contents (Elt Ideal)) (y : S16x128.Idx) :
    val_main_v11 (F := Ideal) x0 x1 x2 y = total (me x0) (x2 y) (fun k => x1 (ix3 k (y 0) (y 1))) := by
  have hme (i : Cert.AdamwLateReferenceIdeal.S_.Idx) : val_main_v6 (F := Ideal) x0 i = me x0 := by
    refine congrArg₂ (fun a b : BitVec 32 => 2#32 * a + b) (congrArg x0 (funext fun a => Fin.ext ?_)) (congrArg x0 (funext fun a => Fin.ext ?_))
    · match a with
      | ⟨0, _⟩ => exact (fun j : Fin 1 => (by omega : 0 + j.val = 0)) _
    · match a with
      | ⟨0, _⟩ => exact (fun j : Fin 1 => (by omega : 1 + j.val = 1)) _
  rw [val_main_v11_apply]
  refine (congrArg (· + _) (Ideal.ofBits_zero .f32)).trans ((zero_add _).trans (Finset.sum_congr rfl fun k _ => ?_))
  rw [val_main_v10_apply, val_main_call0_v0_apply, val_main_v9_apply,
    val_main_v8_apply, val_main_v7_apply, hme, val_main_call0_v1_apply]
  refine (share_of_test' _ _ _ _).trans ?_
  refine congrArg₂ (share _ _) (congrArg x2 (funext fun a => ?_)) (congrArg x1 (funext fun a => ?_))
  · match a with
    | ⟨0, _⟩ => rfl
    | ⟨1, _⟩ => rfl
  · match a with
    | ⟨0, _⟩ => rfl
    | ⟨1, _⟩ => rfl
    | ⟨2, _⟩ => rfl

/-- The reference runs and leaves its arguments as they were. -/
theorem reference_frame : Cert.quiescent_AdamwLateReferenceIdeal (hAdamwLateReferenceIdeal := Cert.AdamwLateReferenceIdeal.Gen.facts) :=
  fun m g _ => (θ_run Cert.AdamwLateReferenceIdeal.defs _ _).mono (fun r h => ⟨fun c => (h c).2.2.2.2, sem_eq_zero_of_no_sems (by decide) r.2⟩)
    (Cert.AdamwLateReferenceIdeal.Value.run m g)

/-- The kernel and the reference end with the same results. -/
theorem algebraic : Cert.algebraic_AdamwLateIdeal_AdamwLateReferenceIdeal (hAdamwLateIdeal := Gen.facts) (hAdamwLateReferenceIdeal := Cert.AdamwLateReferenceIdeal.Gen.facts) := by
  intro m g m' g' _ harg
  refine ⟨_, _, _, _, kernel_run m g,
    (θ_run Cert.AdamwLateReferenceIdeal.defs _ _).mono (fun r h c => ⟨(h c).1.trans ?_, (h c).2.1.trans ?_, (h c).2.2.1.trans ?_, (h c).2.2.2.1.trans ?_, (h c).2.2.2.2⟩) (Cert.AdamwLateReferenceIdeal.Value.run m' g')⟩
  all_goals
    obtain ⟨h0, h1, h2, h3, h4, h5⟩ := harg c
    simp only [h0, h1, h2, h3, h4, h5]
    funext y
  · exact reference_gradient _ _ _ y
  · exact congrArg (fun g => change (a3 m c y) g (a4 m c y) (a5 m c y)) (reference_gradient _ _ _ y)
  · exact congrArg (fun g => mean g (a4 m c y)) (reference_gradient _ _ _ y)
  · exact congrArg (fun g => square g (a5 m c y)) (reference_gradient _ _ _ y)

end Cert.AdamwLateIdeal.Step

end
-- ==== Proof.ForgetBwd.lean ====
/- The gradients of the forget gates' logits and bias: the kernel and the reference end with the same two arrays. -/
module

public import proofs.«01_k».proof.Proof.Row
public import proofs.«01_k».proof.Defs
public import proofs.«01_k».proof.Proof.Gen.ForgetBwd.Frame
public import proofs.«01_k».proof.Proof.Gen.ForgetBwdIdeal.Value
public import proofs.«01_k».proof.Proof.Gen.ForgetBwdReferenceIdeal.Run
public import proofs.«01_k».proof.Proof.Gen.ForgetBwdReferenceIdeal.Read
public import Idealize.ShloMosaic.Lib.Pipeline.ValueKit.Acc

@[expose] public section

noncomputable section

namespace Cert.ForgetBwdIdeal.Gates

open Cert.ForgetBwdIdeal Cert.ForgetBwdIdeal.Gen Cert.Entries
open Idealize.ShloMosaic

/-- The sum of a sequence's terms from place `n` on. -/
def after (D : ℕ → EReal) (n : ℕ) : EReal := ∑ k ∈ Finset.Ico n 4096, D k

/-- A choice by the order of two places. -/
theorem choose {α : Type} {x y : α} (a b : ℕ) (ha : a < 2 ^ 31) (hb : b < 2 ^ 31) :
    Scalar.select (IntOp.cmpi .sle (BitVec.ofNat 32 a) (BitVec.ofNat 32 b)) x y = if a ≤ b then x else y := by
  have h : (BitVec.ofNat 32 a).sle (BitVec.ofNat 32 b) = decide (a ≤ b) := by
    rw [BitVec.sle_eq_decide, BitVec.toInt_eq_toNat_of_lt (by simp; omega), BitVec.toInt_eq_toNat_of_lt (by simp; omega)]
    simp only [BitVec.toNat_ofNat]
    rw [Nat.mod_eq_of_lt (by omega), Nat.mod_eq_of_lt (by omega)]
    simp
  unfold IntOp.cmpi
  simp only [h]
  by_cases hab : a ≤ b <;> simp [hab, Scalar.select]

/-- A term that a mask keeps or drops. -/
theorem masked (p : Prop) [Decidable p] (d : EReal) : (if p then Ideal.ofBits .f32 0x3F800000#32 else Ideal.ofBits .f32 0x00000000#32) * d = if p then d else 0 := by
  split_ifs
  · rw [Row.lit_one, one_mul]
  · rw [Ideal.ofBits_zero, zero_mul]

/-- The terms of a block from a place in it on, and those of the blocks behind it. -/
theorem after_block (D : ℕ → EReal) (b i : ℕ) (hb : b < 16) (hi : i ≤ 256) :
    (∑ k : Fin 256, if i ≤ k.val then D (b * 256 + k.val) else 0) + after D (b * 256 + 256) = after D (b * 256 + i) := by
  unfold after
  rw [← Finset.sum_Ico_consecutive D (show b * 256 + i ≤ b * 256 + 256 by omega) (show b * 256 + 256 ≤ 4096 by omega)]
  refine congrArg (· + _) ?_
  rw [Fin.sum_univ_eq_sum_range (fun k => if i ≤ k then D (b * 256 + k) else 0) 256, ← Finset.sum_filter,
    show (Finset.range 256).filter (fun k => i ≤ k) = Finset.Ico i 256 by ext k; simp; omega, Finset.sum_Ico_add, Nat.add_comm i, Nat.add_comm 256]

/-- The terms from a place on, as the mask's row with all the terms. -/
theorem after_mask (D : ℕ → EReal) (n : ℕ) : (∑ k : Fin 4096, if n ≤ k.val then D k.val else 0) = after D n := by
  unfold after
  rw [Fin.sum_univ_eq_sum_range (fun k => if n ≤ k then D k else 0) 4096, ← Finset.sum_filter,
    show (Finset.range 4096).filter (fun k => n ≤ k) = Finset.Ico n 4096 by ext k; simp; omega]

/-- A sum of sixteen terms, taken from the last. -/
theorem reversed (g : ℕ → EReal) : ∑ p : Fin 16, g (15 - p.val) = ∑ p : Fin 16, g p.val := by
  rw [← Equiv.sum_comp Fin.revPerm]
  refine Finset.sum_congr rfl fun p _ => congrArg g ?_
  rw [Fin.revPerm_apply, Fin.val_rev]
  omega

/-- Dividing by one more than an exponential is multiplying with the logistic function of the opposite. -/
theorem divide (x z : EReal) : Ideal.div x (1 + Ideal.exp z) = x * Ideal.div 1 (1 + Ideal.exp (- -z)) := by
  have h : (1 : EReal) + Ideal.exp z ≠ 0 := by
    have : (0 : EReal) ≤ Ideal.exp z := by
      induction z using EReal.rec with
      | bot => exact le_refl _
      | coe r => exact EReal.coe_nonneg.mpr (Real.exp_pos r).le
      | top => exact le_top
    exact ne_of_gt (lt_of_lt_of_le zero_lt_one (le_add_of_nonneg_right this))
  rw [neg_neg]
  unfold Ideal.div
  rw [if_neg h, if_neg h, one_mul]

/-- An entry of a block of the running sum. -/
theorem pay_run (d : Vec Ideal S256x128 .f32) (a : Vec Ideal S1x128 .f32) (i : Fin 256) (j : Fin 128) :
    k0_pay3 (F := Ideal) d a (ix2 i j) = (∑ k : Fin 256, if i.val ≤ k.val then d (ix2 k j) else 0 : EReal) + a (ix2 0 j) := by
  pointwise [k0_pay3]
  exact congrArg (· + a (ix2 0 j)) (Finset.sum_congr rfl fun k _ => choose i.val k.val (by omega) (by omega))

/-- An entry of the running sum's first row, which is carried on. -/
theorem pay_carry (d : Vec Ideal S256x128 .f32) (a : Vec Ideal S1x128 .f32) (j : Fin 128) :
    k0_pay4 (F := Ideal) d a (ix2 0 j) = k0_pay3 (F := Ideal) d a (ix2 0 j) := by
  pointwise [k0_pay4]

/-- An entry of a block of the logits' gradient. -/
theorem pay_row (d z : Vec Ideal S256x128 .f32) (a : Vec Ideal S1x128 .f32) (i : Fin 256) (j : Fin 128) :
    k0_pay5 (F := Ideal) d a z (ix2 i j) = Ideal.div (k0_pay3 (F := Ideal) d a (ix2 i j)) (1 + Ideal.exp (z (ix2 i j))) := by
  pointwise [k0_pay5]

/-- What a block of rows adds to an entry of the bias's gradient. -/
theorem pay_bias (d z : Vec Ideal S256x128 .f32) (a s : Vec Ideal S1x128 .f32) (j : Fin 128) :
    k0_pay7 (F := Ideal) d a z s (ix2 0 j) = s (ix2 0 j) + ∑ k : Fin 256, k0_pay5 (F := Ideal) d a z (ix2 k j) := by
  pointwise [k0_pay7]

/-- The block indices of the windows. -/
theorem idx (t : Fin cfg0.N) : win0_0.index t = ![15 - t.val, 0] ∧ win0_1.index t = ![15 - t.val, 0] ∧ win0_2.index t = ![15 - t.val, 0] ∧ win0_3.index t = ![0, 0] :=
  (by decide +kernel : ∀ t : Fin grid0.N, win0_0.index t = ![15 - t.val, 0] ∧ win0_1.index t = ![15 - t.val, 0] ∧ win0_2.index t = ![15 - t.val, 0] ∧ win0_3.index t = ![0, 0]) t

/-- An entry of the logits' gradient, from the matrices. -/
abbrev logit (d z : S4096x128.Idx → EReal) (n j : ℕ) : EReal := Ideal.div (after (fun k => e2 d k j) n) (1 + Ideal.exp (e2 z n j))

variable (m : (ℓ : Loc nD τ sig) → Buf (Elt Ideal) ℓ)

/-- The arguments' arrays on a device. -/
abbrev d (c : Dev nD) := m ((c.tc : Thread nD τ).loc main_arg0)
abbrev z (c : Dev nD) := m ((c.tc : Thread nD τ).loc main_arg1)

/-- An entry of a point's blocks, in the arrays. -/
theorem entry (c : Dev nD) (t : Fin cfg0.N) (i : Fin 256) (j : Fin 128) :
    iblk (F := Ideal) m c 0 t (ix2 i j) = e2 (d m c) ((15 - t.val) * 256 + i.val) j.val ∧ iblk (F := Ideal) m c 1 t (ix2 i j) = e2 (z m c) ((15 - t.val) * 256 + i.val) j.val := by
  obtain ⟨i0, i1, -⟩ := idx t
  exact ⟨at2 _ (((cfg0.win 0).rect t).emb (ix2 i j)) (place ((cfg0.win 0).rect_emb_val t _ 0) (congrFun i0 0) rfl) (place ((cfg0.win 0).rect_emb_val t _ 1) (congrFun i0 1) (zero_val 128 j)),
    at2 _ (((cfg0.win 1).rect t).emb (ix2 i j)) (place ((cfg0.win 1).rect_emb_val t _ 0) (congrFun i1 0) rfl) (place ((cfg0.win 1).rect_emb_val t _ 1) (congrFun i1 1) (zero_val 128 j))⟩

/-- The sums that a point starts from: each column's terms behind the point's block. -/
abbrev Behind (c : Dev nD) (t : ℕ) (a : Vec Ideal S1x128 .f32) : Prop := ∀ j : Fin 128, a (ix2 0 j) = after (fun k => e2 (d m c) k j.val) ((15 - t) * 256 + 256)

/-- An entry of a point's running sum, in the arrays. -/
theorem run (c : Dev nD) (t : Fin cfg0.N) (a : Vec Ideal S1x128 .f32) (ha : Behind m c t.val a) (i : Fin 256) (j : Fin 128) :
    k0_pay3 (F := Ideal) (iblk m c 0 t) a (ix2 i j) = after (fun k => e2 (d m c) k j.val) ((15 - t.val) * 256 + i.val) := by
  rw [pay_run, ha, ← after_block _ (15 - t.val) i.val (by omega) (by omega)]
  refine congrArg (· + _) (Finset.sum_congr rfl fun k _ => ?_)
  rw [(entry m c t k j).1]

/-- An entry of a point's gradient of the logits, in the arrays. -/
theorem row (c : Dev nD) (t : Fin cfg0.N) (a : Vec Ideal S1x128 .f32) (ha : Behind m c t.val a) (i : Fin 256) (j : Fin 128) :
    k0_pay5 (F := Ideal) (iblk m c 0 t) a (iblk m c 1 t) (ix2 i j) = logit (d m c) (z m c) ((15 - t.val) * 256 + i.val) j.val := by
  rw [pay_row, run m c t a ha, (entry m c t i j).2]

/-- Nothing is behind the last block. -/
theorem none_behind (c : Dev nD) (t : Fin cfg0.N) (h : t.val % 16 = 0) : Behind m c t.val (k0_pay1 (F := Ideal)) := by
  intro j
  have hN : t.val < 16 := lt_of_lt_of_eq t.isLt N_0
  have h0 : t.val = 0 := by omega
  rw [h0]
  have e : k0_pay1 (F := Ideal) (ix2 0 j) = 0 := by
    pointwise [k0_pay1]
  rw [e]
  exact (Finset.sum_eq_zero fun k hk => absurd (Finset.mem_Ico.mp hk) (by omega)).symm

/-- What the first point leaves, which starts from nothing. -/
theorem first (c : Dev nD) (t : Fin cfg0.N) (h : t.val % 16 = 0) :
    (outsAt0 m c t.val t.isLt).1 = k0_pay6 (F := Ideal) (iblk m c 0 t) (k0_pay1 (F := Ideal)) (iblk m c 1 t) ∧ (outsAt0 m c t.val t.isLt).2.2 = k0_pay4 (F := Ideal) (iblk m c 0 t) (k0_pay1 (F := Ideal))
      ∧ (outsAt0 m c t.val t.isLt).2.1 = k0_pay7 (F := Ideal) (iblk m c 0 t) (k0_pay1 (F := Ideal)) (iblk m c 1 t) (k0_pay2 (F := Ideal)) := by
  rw [outsAt0_A m c t h]
  refine ⟨?_, ?_, ?_⟩ <;> frame_out

/-- The sums that the point before left. -/
abbrev before (c : Dev nD) (t : Fin cfg0.N) : Vec Ideal S1x128 .f32 := (outsAt0 m c (t.val - 1) (Nat.lt_of_le_of_lt (Nat.sub_le _ _) t.isLt)).2.2

/-- What a later point leaves, from what the point before left. -/
theorem later (c : Dev nD) (t : Fin cfg0.N) (h : ¬t.val % 16 = 0) :
    (outsAt0 m c t.val t.isLt).1 = k0_pay6 (F := Ideal) (iblk m c 0 t) (before m c t) (iblk m c 1 t) ∧ (outsAt0 m c t.val t.isLt).2.2 = k0_pay4 (F := Ideal) (iblk m c 0 t) (before m c t)
      ∧ (outsAt0 m c t.val t.isLt).2.1 = k0_pay7 (F := Ideal) (iblk m c 0 t) (before m c t) (iblk m c 1 t) (outsAt0 m c (t.val - 1) (Nat.lt_of_le_of_lt (Nat.sub_le _ _) t.isLt)).2.1 := by
  have e := (Memref.isWhole_whole cc0_scratch0).read_unread (before m c t)
  rw [outsAt0_B m c t h]
  refine ⟨?_, ?_, ?_⟩
  · frame_out
    exact congrArg (fun a => k0_pay6 (F := Ideal) (iblk m c 0 t) a (iblk m c 1 t)) e
  · frame_out
    exact congrArg (fun a => k0_pay4 (F := Ideal) (iblk m c 0 t) a) e
  · frame_out
    exact congrArg (fun a => k0_pay7 (F := Ideal) (iblk m c 0 t) a (iblk m c 1 t) _) e

/-- The sums that a point leaves are those of the terms from its block on. -/
theorem carry (c : Dev nD) (n : ℕ) (hn : n < cfg0.N) (j : Fin 128) : (outsAt0 m c n hn).2.2 (ix2 0 j) = after (fun k => e2 (d m c) k j.val) ((15 - n) * 256) := by
  induction n generalizing j with
  | zero =>
    exact (congrFun (first m c ⟨0, hn⟩ rfl).2.1 _).trans ((pay_carry _ _ j).trans (run m c ⟨0, hn⟩ _ (none_behind m c ⟨0, hn⟩ rfl) 0 j))
  | succ n ih =>
    have hN : n + 1 < 16 := lt_of_lt_of_eq hn N_0
    refine (congrFun (later m c ⟨n + 1, hn⟩ (show ¬(n + 1) % 16 = 0 by omega)).2.1 _).trans ((pay_carry _ _ j).trans (run m c ⟨n + 1, hn⟩ _ (fun l => ?_) 0 j))
    exact (ih (by omega) l).trans (congrArg _ (show (15 - n) * 256 = (15 - (n + 1)) * 256 + 256 by omega))

/-- The sums that the point before left are those that a later point starts from. -/
theorem behind (c : Dev nD) (t : Fin cfg0.N) (h : ¬t.val % 16 = 0) : Behind m c t.val (before m c t) := by
  intro j
  have hN : t.val < 16 := lt_of_lt_of_eq t.isLt N_0
  refine (carry m c _ _ j).trans (congrArg _ ?_)
  omega

/-- A point's gradient of the logits, in the arrays. -/
theorem point (c : Dev nD) (t : Fin cfg0.N) (y : S256x128.Idx) : (outsAt0 m c t.val t.isLt).1 y = logit (d m c) (z m c) ((15 - t.val) * 256 + (y 0).val) (y 1).val := by
  by_cases h : t.val % 16 = 0
  · exact (congrFun (first m c t h).1 y).trans ((congrArg _ (eta2 y)).trans (row m c t _ (none_behind m c t h) (y 0) (y 1)))
  · exact (congrFun (later m c t h).1 y).trans ((congrArg _ (eta2 y)).trans (row m c t _ (behind m c t h) (y 0) (y 1)))

/-- The kernel's first result: the logits' gradient. -/
theorem result2 (c : Dev nD) : (Gen.dats m 0 c).arrAt 2 cfg0.N = fun y : S4096x128.Idx => (logit (d m c) (z m c) (y 0).val (y 1).val : EReal) := by
  refine (Gen.dats m 0 c).arrAt_eq_of_covers 2 _ (by decide +kernel) fun t hf y => ?_
  show (Gen.dats m 0 c).after 2 t ((cfg0.win 2).xinj (cfg0.grid.coords t) y) = logit _ _ (((cfg0.win 2).rect t).emb y 0).val (((cfg0.win 2).rect t).emb y 1).val
  have i2 := (idx t).2.2.1
  rw [after0_2, place ((cfg0.win 2).rect_emb_val t y 0) (congrFun i2 0) rfl, place ((cfg0.win 2).rect_emb_val t y 1) (congrFun i2 1) (zero_val 128 (y 1))]
  exact point m c t _

/-- The kernel's second result: the bias's gradient. -/
theorem result3 (c : Dev nD) : (Gen.dats m 0 c).arrAt 3 cfg0.N = fun y : S1x128.Idx => (∑ k : Fin 4096, logit (d m c) (z m c) k.val (y 1).val : EReal) := by
  refine (Gen.dats m 0 c).arrAt_eq_of_covers 3 _ (by decide +kernel) fun t hf y => ?_
  show (Gen.dats m 0 c).after 3 t ((cfg0.win 3).xinj (cfg0.grid.coords t) y) = ∑ k : Fin 4096, logit _ _ k.val (((cfg0.win 3).rect t).emb y 1).val
  have i3 := (idx t).2.2.2
  have step (t : Fin cfg0.N) (a s : Vec Ideal S1x128 .f32) (ha : Behind m c t.val a) (w : S1x128.Idx) : k0_pay7 (F := Ideal) (iblk m c 0 t) a (iblk m c 1 t) s w =
      (s w + ∑ k : Fin 256, logit (d m c) (z m c) ((15 - t.val) * 256 + k.val) (w 1).val : EReal) := by
    rw [eta2 w, show w 0 = (0 : Fin 1) from Subsingleton.elim (α := Fin 1) _ _]
    exact (pay_bias _ _ a s (w 1)).trans (congrArg _ (Finset.sum_congr rfl fun k _ => row m c t a ha k (w 1)))
  rw [after0_3, place ((cfg0.win 3).rect_emb_val t y 1) (congrFun i3 1) (zero_val 128 (y 1)), Pipeline.eq_sum_fin_of_reset_step_apply_last (fun n h => (outsAt0 m c n h).2.1) 16 (fun _ => (0 : EReal))
    (fun t w => (∑ k : Fin 256, logit (d m c) (z m c) ((15 - t.val) * 256 + k.val) (w 1).val : EReal)) ?_ ?_ (le_of_eq N_0) t ?_]
  · rw [zero_add]
    refine Eq.trans ?_ (sum_blocks 16 256 fun n => logit (d m c) (z m c) n (y 1).val).symm
    exact reversed fun b => ∑ k : Fin 256, logit (d m c) (z m c) (b * 256 + k.val) (y 1).val
  · intro t h w
    exact (congrFun (first m c t h).2.2 w).trans ((step t _ _ (none_behind m c t h) w).trans (congrArg (· + _) (Ideal.ofBits_zero .f32)))
  · intro t h w
    exact (congrFun (later m c t h).2.2 w).trans (step t _ _ (behind m c t h) w)
  · have := (flush0_3 t).mp hf
    have hN : t.val < 16 := lt_of_lt_of_eq t.isLt N_0
    show t.val + 1 = 16
    omega

section
variable (d z : (⟨S4096x128, .f32⟩ : BufTy).Contents (Elt Ideal))
open Cert.ForgetBwdReferenceIdeal.Read

/-- The reference's running sum. -/
theorem sums (y : S4096x128.Idx) : val_main_v7 (F := Ideal) d y = after (fun k => e2 d k (y 1).val) (y 0).val := by
  rw [val_main_v7_apply, ← after_mask]
  refine Finset.sum_congr rfl fun k _ => ?_
  rw [← masked]
  refine congrArg₂ (· * ·) ?_ (at2 d _ rfl rfl)
  rw [val_main_v6_apply, val_main_v5_apply, val_main_v3_apply, val_main_v4_apply, val_main_v1_apply, val_main_v2_apply, val_main_v0_apply, val_main_v0_apply]
  have h : (y 0).val < 4096 := (y 0).isLt
  exact choose (y 0).val k.val (by omega) (by omega)

/-- An entry of the reference's gradient of the logits. -/
theorem entries (y : S4096x128.Idx) : val_main_v15 (F := Ideal) d z y = logit d z (y 0).val (y 1).val := by
  rw [val_main_v15_apply, sums, val_main_v14_apply, val_main_v12_apply, val_main_v10_apply, val_main_v9_apply, val_main_v8_apply, val_main_v11_apply, val_main_v13_apply]
  rw [show z y = e2 z (y 0).val (y 1).val from at2 z _ rfl rfl]
  refine Eq.trans ?_ (divide _ _).symm
  exact congrArg (fun u : EReal => after _ _ * Ideal.div u (u + _)) Row.lit_one

/-- The reference's second result: the bias's gradient. -/
theorem reference3 : val_main_v18 (F := Ideal) d z = fun y : S1x128.Idx => (∑ k : Fin 4096, logit d z k.val (y 1).val : EReal) := by
  funext y
  rw [val_main_v18_apply, val_main_v17_apply]
  refine (Row.from_zero _).trans (Finset.sum_congr rfl fun k _ => ?_)
  exact entries d z _
end

/-- The reference runs and leaves its arguments as they were. -/
theorem reference_frame : Cert.quiescent_ForgetBwdReferenceIdeal (hForgetBwdReferenceIdeal := Cert.ForgetBwdReferenceIdeal.Gen.facts) :=
  fun m g _ => (θ_run Cert.ForgetBwdReferenceIdeal.defs _ _).mono (fun r h => ⟨fun c => (h c).2.2, sem_eq_zero_of_no_sems (by decide) r.2⟩)
    (Cert.ForgetBwdReferenceIdeal.Value.run m g)

/-- The kernel and the reference end with the same results. -/
theorem algebraic : Cert.algebraic_ForgetBwdIdeal_ForgetBwdReferenceIdeal (hForgetBwdIdeal := Gen.facts) (hForgetBwdReferenceIdeal := Cert.ForgetBwdReferenceIdeal.Gen.facts) := by
  intro m g m' g' _ harg
  refine ⟨_, _, (θ_run defs _ _).mono (fun r h c => ⟨(h c).1.trans (result2 m c), (h c).2.1.trans (result3 m c), (h c).2.2⟩) (Value.run_blocks m g),
    (θ_run Cert.ForgetBwdReferenceIdeal.defs _ _).mono (fun r h c => ⟨(h c).1.trans ((Cert.ForgetBwdReferenceIdeal.Read.val_main_v16_eq _ _).trans ((funext fun y => entries _ _ y : _ = _).trans ?_)), (h c).2.1.trans ((Cert.ForgetBwdReferenceIdeal.Read.val_main_v18_eq _ _).trans ((reference3 _ _).trans ?_)), (h c).2.2⟩) (Cert.ForgetBwdReferenceIdeal.Value.run m' g')⟩
  all_goals
    obtain ⟨h0, h1⟩ := harg c
    simp only [h0, h1]
    try rfl

end Cert.ForgetBwdIdeal.Gates

end
-- ==== Proof.ForgetFwd.lean ====
/- The forget gates' logits and the cumulative sums of the gates' logarithms: the kernel and the reference end with the same two arrays. -/
module

public import proofs.«01_k».proof.Proof.ForgetBwd
public import proofs.«01_k».proof.Proof.Gen.ForgetFwd.Frame
public import proofs.«01_k».proof.Proof.Gen.ForgetFwdIdeal.Value
public import proofs.«01_k».proof.Proof.Gen.ForgetFwdReferenceIdeal.Run
public import proofs.«01_k».proof.Proof.Gen.ForgetFwdReferenceIdeal.Read
public import Idealize.ShloMosaic.Lib.Routing.OpsOne

@[expose] public section

noncomputable section

namespace Cert.ForgetFwdIdeal.Gates

open Cert.ForgetFwdIdeal Cert.ForgetFwdIdeal.Gen Cert.Entries
open Cert.ForgetBwdIdeal.Gates (choose)
open Idealize.ShloMosaic

/-- The sum of a sequence's first `n` terms. -/
def upto (D : ℕ → EReal) (n : ℕ) : EReal := ∑ k ∈ Finset.range n, D k

/-- The terms of a block up to a place in it, and those of the blocks before it. -/
theorem upto_block (D : ℕ → EReal) (b i : ℕ) (hi : i < 256) :
    (∑ k : Fin 256, if k.val ≤ i then D (b * 256 + k.val) else 0) + upto D (b * 256) = upto D (b * 256 + i + 1) := by
  unfold upto
  rw [Nat.add_assoc, Finset.sum_range_add, add_comm]
  refine congrArg (_ + ·) ?_
  rw [Fin.sum_univ_eq_sum_range (fun k => if k ≤ i then D (b * 256 + k) else 0) 256, ← Finset.sum_filter,
    show (Finset.range 256).filter (fun k => k ≤ i) = Finset.range (i + 1) by ext k; simp; omega]

/-- A fold that adds a list's terms. -/
theorem fold_add {α : Type} (g : α → EReal) (l : List α) (v : EReal) : l.foldl (fun r n => r + g n) v = v + (l.map g).sum := by
  induction l generalizing v with
  | nil => simp
  | cons a l ih => rw [List.foldl_cons, ih, List.map_cons, List.sum_cons, add_assoc]

/-- The cumulative sum along the rows, as the host's window sum, at an entry. -/
theorem cumulative {R S C : ℕ} (hR : S + 1 = R) (x : (⟨2, ![R, C]⟩ : Shape).Idx → EReal)
    (h : (⟨2, ![R, C]⟩ : Shape).ReduceWindows (![R, 1] : Fin 2 → ℕ) ![1, 1] ![S, 0] ![0, 0] ⟨2, ![R, C]⟩) (j : Fin R) (c : Fin C) :
    Ideal.hostReduceWindowAdd ![R, 1] ![1, 1] ![S, 0] ![0, 0] h x 0 (ix2 j c) = upto (fun k => e2 x k c.val) (j.val + 1) := by
  subst hR
  have hj := j.isLt
  unfold Ideal.hostReduceWindowAdd Host.reduceWindow
  refine (List.foldl_ext _ (fun r n => r + if S ≤ j.val + n.val then e2 x (j.val + n.val - S) c.val else 0) _ fun r n _ => congrArg (r + ·) ?_).trans ?_
  · have hw0 : ((⟨2, ![S + 1, 1]⟩ : Shape).rowMajor.symm n 0).val = n.val := by rw [Routing.symm_col]; rfl
    have hw1 : ((⟨2, ![S + 1, 1]⟩ : Shape).rowMajor.symm n 1).val = 0 := by rw [Routing.symm_col]; rfl
    have hn : n.val < S + 1 := (n.cast (Routing.numel_col _)).isLt
    have hc := c.isLt
    split
    · next hin =>
      have h0 : S ≤ j.val * 1 + ((⟨2, ![S + 1, 1]⟩ : Shape).rowMajor.symm n 0).val := (hin 0).1
      rw [hw0] at h0
      rw [if_pos (by omega)]
      refine at2 x _ ?_ ?_
      · show j.val * 1 + ((⟨2, ![S + 1, 1]⟩ : Shape).rowMajor.symm n 0).val - S = _
        rw [hw0, Nat.mul_one]
      · show c.val * 1 + ((⟨2, ![S + 1, 1]⟩ : Shape).rowMajor.symm n 1).val - 0 = _
        rw [hw1]
        omega
    · next hin =>
      rw [if_neg fun hle => hin fun a => by
        match a with
        | ⟨0, _⟩ =>
          show S ≤ j.val * 1 + ((⟨2, ![S + 1, 1]⟩ : Shape).rowMajor.symm n 0).val ∧ j.val * 1 + ((⟨2, ![S + 1, 1]⟩ : Shape).rowMajor.symm n 0).val - S < S + 1
          rw [hw0]
          omega
        | ⟨1, _⟩ =>
          show 0 ≤ c.val * 1 + ((⟨2, ![S + 1, 1]⟩ : Shape).rowMajor.symm n 1).val ∧ c.val * 1 + ((⟨2, ![S + 1, 1]⟩ : Shape).rowMajor.symm n 1).val - 0 < C
          rw [hw1]
          omega]
  · rw [fold_add, zero_add, ← Fin.sum_univ_def, Fin.sum_univ_eq_sum_range (fun n => if S ≤ j.val + n then e2 x (j.val + n - S) c.val else 0), Routing.numel_col,
      ← Finset.sum_filter, show (Finset.range (S + 1)).filter (fun n => S ≤ j.val + n) = Finset.Ico (S - j.val) (S + 1) by ext n; simp; omega,
      Finset.sum_Ico_eq_sum_range, show S + 1 - (S - j.val) = j.val + 1 by omega]
    exact Finset.sum_congr rfl fun k _ => congrArg (fun n => e2 x n c.val) (by omega)

/-- The logarithm of the logistic function. -/
def logs (z : EReal) : EReal := min z 0 - Ideal.log (1 + Ideal.exp (-max z (-z)))

/-- The reference's form of it. -/
theorem logs_eq (z : EReal) : -(max (-z) 0 + Ideal.log (1 + Ideal.exp (-max (-z) (- -z)))) = logs z := by
  unfold logs
  rw [neg_neg, max_comm (-z) z]
  obtain ⟨r, hr, e⟩ : ∃ r : ℝ, 0 ≤ r ∧ Ideal.exp (-max z (-z)) = (r : EReal) := by
    have h0 : 0 ≤ max z (-z) := (le_total 0 z).elim le_max_of_le_left fun h => le_max_of_le_right (EReal.le_neg_of_le_neg (by simpa using h))
    have h : -max z (-z) ≠ ⊤ := fun e => absurd (EReal.neg_eq_top_iff.mp e ▸ h0) (not_le.mpr EReal.bot_lt_zero)
    generalize -max z (-z) = u at h
    induction u using EReal.rec with
    | bot => exact ⟨0, le_refl _, rfl⟩
    | coe s => exact ⟨Real.exp s, (Real.exp_pos s).le, rfl⟩
    | top => exact absurd rfl h
  have l : Ideal.log (1 + Ideal.exp (-max z (-z))) = (Real.log (1 + r) : EReal) := by
    rw [e, ← EReal.coe_one, ← EReal.coe_add]
    exact if_neg (by linarith)
  rw [l, EReal.neg_add (Or.inr (EReal.coe_ne_top _)) (Or.inr (EReal.coe_ne_bot _))]
  refine congrArg (· - _) ?_
  rcases le_total z 0 with h | h
  · rw [max_eq_left (EReal.le_neg_of_le_neg (by simpa using h)), neg_neg, min_eq_left h]
  · rw [max_eq_right (EReal.neg_le.mpr (by simpa using h)), neg_zero, min_eq_right h]

/-- An entry of a block of the logits. -/
theorem pay_logit (x : Vec Ideal S256x2048 .bf16) (w : Vec Ideal S128x2048 .bf16) (b : Vec Ideal S1x128 .f32) (i : Fin 256) (j : Fin 128) :
    k0_pay3 (F := Ideal) x w b (ix2 i j) = (∑ l : Fin 2048, x (ix2 i l) * w (ix2 j l) : EReal) + b (ix2 0 j) := by
  pointwise [k0_pay3]

/-- An entry of a block of the cumulative sums. -/
theorem pay_run (x : Vec Ideal S256x2048 .bf16) (w : Vec Ideal S128x2048 .bf16) (b a : Vec Ideal S1x128 .f32) (i : Fin 256) (j : Fin 128) :
    k0_pay4 (F := Ideal) x w b a (ix2 i j) = (∑ k : Fin 256, if k.val ≤ i.val then logs (k0_pay3 (F := Ideal) x w b (ix2 k j)) else 0 : EReal) + a (ix2 0 j) := by
  pointwise [k0_pay4]
  refine congrArg (· + _) (Finset.sum_congr rfl fun k _ => ?_)
  rw [choose _ _ (by omega) (by omega), zero_sub]
  rfl

/-- An entry of the last row of the cumulative sums, which is carried on. -/
theorem pay_carry (x : Vec Ideal S256x2048 .bf16) (w : Vec Ideal S128x2048 .bf16) (b a : Vec Ideal S1x128 .f32) (j : Fin 128) :
    k0_pay1 (F := Ideal) (k0_pay5 x w b a) (ix2 0 j) = k0_pay4 (F := Ideal) x w b a (ix2 (255 : Fin 256) j) := by
  pointwise [k0_pay1, k0_pay5]

/-- The block indices of the windows. -/
theorem idx (t : Fin cfg0.N) : win0_0.index t = ![t.val, 0] ∧ win0_1.index t = ![0, 0] ∧ win0_2.index t = ![0, 0] ∧ win0_3.index t = ![t.val, 0] ∧ win0_4.index t = ![t.val, 0] :=
  (by decide +kernel : ∀ t : Fin grid0.N, win0_0.index t = ![t.val, 0] ∧ win0_1.index t = ![0, 0] ∧ win0_2.index t = ![0, 0] ∧ win0_3.index t = ![t.val, 0] ∧ win0_4.index t = ![t.val, 0]) t

/-- An entry of the logits, from the matrices. -/
abbrev logit (x : S4096x2048.Idx → EReal) (w : S128x2048.Idx → EReal) (b : S1x128.Idx → EReal) (n j : ℕ) : EReal := (∑ l : Fin 2048, e2 x n l.val * e2 w j l.val) + e2 b 0 j

/-- An entry of the cumulative sums, from the matrices. -/
abbrev total (x : S4096x2048.Idx → EReal) (w : S128x2048.Idx → EReal) (b : S1x128.Idx → EReal) (n j : ℕ) : EReal := upto (fun k => logs (logit x w b k j)) n

variable (m : (ℓ : Loc nD τ sig) → Buf (Elt Ideal) ℓ)

/-- The arguments' arrays on a device. -/
abbrev x (c : Dev nD) := m ((c.tc : Thread nD τ).loc main_arg0)
abbrev w (c : Dev nD) := m ((c.tc : Thread nD τ).loc main_arg1)
abbrev b (c : Dev nD) := m ((c.tc : Thread nD τ).loc main_arg2)

/-- An entry of a point's logits, in the arrays. -/
theorem row (c : Dev nD) (t : Fin cfg0.N) (i : Fin 256) (j : Fin 128) :
    k0_pay3 (F := Ideal) (iblk m c 0 t) (iblk m c 1 t) (iblk m c 2 t) (ix2 i j) = logit (x m c) (w m c) (b m c) (t.val * 256 + i.val) j.val := by
  obtain ⟨i0, i1, i2, -⟩ := idx t
  refine (pay_logit _ _ _ i j).trans (congrArg₂ (· + ·) (Finset.sum_congr rfl fun l _ => congrArg₂ (· * ·) ?_ ?_) ?_)
  · exact at2 _ (((cfg0.win 0).rect t).emb (ix2 i l)) (place ((cfg0.win 0).rect_emb_val t _ 0) (congrFun i0 0) rfl) (place ((cfg0.win 0).rect_emb_val t _ 1) (congrFun i0 1) (zero_val 2048 l))
  · exact at2 _ (((cfg0.win 1).rect t).emb (ix2 j l)) (place ((cfg0.win 1).rect_emb_val t _ 0) (congrFun i1 0) (zero_val 128 j)) (place ((cfg0.win 1).rect_emb_val t _ 1) (congrFun i1 1) (zero_val 2048 l))
  · exact at2 _ (((cfg0.win 2).rect t).emb (ix2 (0 : Fin 1) j)) (place ((cfg0.win 2).rect_emb_val t _ 0) (congrFun i2 0) rfl) (place ((cfg0.win 2).rect_emb_val t _ 1) (congrFun i2 1) (zero_val 128 j))

/-- The sums that a point starts from: each column's terms before the point's block. -/
abbrev Starts (c : Dev nD) (t : ℕ) (a : Vec Ideal S1x128 .f32) : Prop := ∀ j : Fin 128, a (ix2 0 j) = total (x m c) (w m c) (b m c) (t * 256) j.val

/-- An entry of a point's cumulative sums, in the arrays. -/
theorem run (c : Dev nD) (t : Fin cfg0.N) (a : Vec Ideal S1x128 .f32) (ha : Starts m c t.val a) (i : Fin 256) (j : Fin 128) :
    k0_pay4 (F := Ideal) (iblk m c 0 t) (iblk m c 1 t) (iblk m c 2 t) a (ix2 i j) = total (x m c) (w m c) (b m c) (t.val * 256 + i.val + 1) j.val := by
  rw [pay_run, ha]
  refine Eq.trans ?_ (upto_block _ t.val i.val i.isLt)
  refine congrArg (· + _) (Finset.sum_congr rfl fun k _ => ?_)
  rw [row m c t k j]

/-- Nothing is before the first block. -/
theorem none_before (c : Dev nD) (t : Fin cfg0.N) (h : t.val % 16 = 0) : Starts m c t.val (k0_pay2 (F := Ideal)) := by
  intro j
  have hN : t.val < 16 := lt_of_lt_of_eq t.isLt N_0
  have h0 : t.val = 0 := by omega
  rw [h0]
  have e : k0_pay2 (F := Ideal) (ix2 0 j) = 0 := by
    pointwise [k0_pay2]
  rw [e]
  exact (Finset.sum_range_zero _).symm

/-- What the first point leaves, which starts from nothing. -/
theorem first (c : Dev nD) (t : Fin cfg0.N) (h : t.val % 16 = 0) :
    (outsAt0 m c t.val t.isLt).1 = k0_pay3 (F := Ideal) (iblk m c 0 t) (iblk m c 1 t) (iblk m c 2 t)
      ∧ (outsAt0 m c t.val t.isLt).2.1 = k0_pay4 (F := Ideal) (iblk m c 0 t) (iblk m c 1 t) (iblk m c 2 t) (k0_pay2 (F := Ideal))
      ∧ (outsAt0 m c t.val t.isLt).2.2 = k0_pay1 (F := Ideal) (k0_pay5 (iblk m c 0 t) (iblk m c 1 t) (iblk m c 2 t) (k0_pay2 (F := Ideal))) := by
  rw [outsAt0_A m c t h]
  refine ⟨?_, ?_, ?_⟩ <;> frame_out

/-- The sums that the point before left. -/
abbrev before (c : Dev nD) (t : Fin cfg0.N) : Vec Ideal S1x128 .f32 := (outsAt0 m c (t.val - 1) (Nat.lt_of_le_of_lt (Nat.sub_le _ _) t.isLt)).2.2

/-- What a later point leaves, from what the point before left. -/
theorem later (c : Dev nD) (t : Fin cfg0.N) (h : ¬t.val % 16 = 0) :
    (outsAt0 m c t.val t.isLt).1 = k0_pay3 (F := Ideal) (iblk m c 0 t) (iblk m c 1 t) (iblk m c 2 t)
      ∧ (outsAt0 m c t.val t.isLt).2.1 = k0_pay4 (F := Ideal) (iblk m c 0 t) (iblk m c 1 t) (iblk m c 2 t) (before m c t)
      ∧ (outsAt0 m c t.val t.isLt).2.2 = k0_pay1 (F := Ideal) (k0_pay5 (iblk m c 0 t) (iblk m c 1 t) (iblk m c 2 t) (before m c t)) := by
  have e := (Memref.isWhole_whole cc0_scratch0).read_unread (before m c t)
  rw [outsAt0_B m c t h]
  refine ⟨?_, ?_, ?_⟩
  · frame_out
  · frame_out
    exact congrArg (fun a => k0_pay4 (F := Ideal) (iblk m c 0 t) (iblk m c 1 t) (iblk m c 2 t) a) e
  · frame_out
    exact congrArg (fun a => k0_pay1 (F := Ideal) (k0_pay5 (iblk m c 0 t) (iblk m c 1 t) (iblk m c 2 t) a)) e

/-- The sums that a point leaves are those of the terms up to the end of its block. -/
theorem carry (c : Dev nD) (n : ℕ) (hn : n < cfg0.N) : Starts m c (n + 1) (outsAt0 m c n hn).2.2 := by
  have e (n : ℕ) (j : Fin 128) : total (x m c) (w m c) (b m c) (n * 256 + (255 : Fin 256).val + 1) j.val = total (x m c) (w m c) (b m c) ((n + 1) * 256) j.val :=
    congrArg (fun k => total (x m c) (w m c) (b m c) k j.val) (show n * 256 + 255 + 1 = (n + 1) * 256 by omega)
  induction n with
  | zero =>
    exact fun j => (congrFun (first m c ⟨0, hn⟩ rfl).2.2 _).trans ((pay_carry _ _ _ _ j).trans ((run m c ⟨0, hn⟩ _ (none_before m c ⟨0, hn⟩ rfl) 255 j).trans (e 0 j)))
  | succ n ih =>
    have hN : n + 1 < 16 := lt_of_lt_of_eq hn N_0
    exact fun j => (congrFun (later m c ⟨n + 1, hn⟩ (show ¬(n + 1) % 16 = 0 by omega)).2.2 _).trans ((pay_carry _ _ _ _ j).trans ((run m c ⟨n + 1, hn⟩ _ (ih (by omega)) 255 j).trans (e (n + 1) j)))

/-- What a point writes, in the arrays. -/
theorem point (c : Dev nD) (t : Fin cfg0.N) (y : S256x128.Idx) :
    (outsAt0 m c t.val t.isLt).1 y = logit (x m c) (w m c) (b m c) (t.val * 256 + (y 0).val) (y 1).val
      ∧ (outsAt0 m c t.val t.isLt).2.1 y = total (x m c) (w m c) (b m c) (t.val * 256 + (y 0).val + 1) (y 1).val := by
  have r := (congrArg _ (eta2 y)).trans (row m c t (y 0) (y 1))
  have s (a : Vec Ideal S1x128 .f32) (ha : Starts m c t.val a) := (congrArg _ (eta2 y)).trans (run m c t a ha (y 0) (y 1))
  by_cases h : t.val % 16 = 0
  · exact ⟨(congrFun (first m c t h).1 y).trans r, (congrFun (first m c t h).2.1 y).trans (s _ (none_before m c t h))⟩
  · have q : Starts m c t.val (before m c t) := by
      have := carry m c (t.val - 1) (Nat.lt_of_le_of_lt (Nat.sub_le _ _) t.isLt)
      rwa [show t.val - 1 + 1 = t.val by omega] at this
    exact ⟨(congrFun (later m c t h).1 y).trans r, (congrFun (later m c t h).2.1 y).trans (s _ q)⟩

/-- The kernel's first result: the logits. -/
theorem result3 (c : Dev nD) : (Gen.dats m 0 c).arrAt 3 cfg0.N = fun y : S4096x128.Idx => (logit (x m c) (w m c) (b m c) (y 0).val (y 1).val : EReal) := by
  refine (Gen.dats m 0 c).arrAt_eq_of_covers 3 _ (by decide +kernel) fun t hf y => ?_
  show (Gen.dats m 0 c).after 3 t ((cfg0.win 3).xinj (cfg0.grid.coords t) y) = logit _ _ _ (((cfg0.win 3).rect t).emb y 0).val (((cfg0.win 3).rect t).emb y 1).val
  have i3 := (idx t).2.2.2.1
  rw [after0_3, place ((cfg0.win 3).rect_emb_val t y 0) (congrFun i3 0) rfl, place ((cfg0.win 3).rect_emb_val t y 1) (congrFun i3 1) (zero_val 128 (y 1))]
  exact (point m c t _).1

/-- The kernel's second result: the cumulative sums. -/
theorem result4 (c : Dev nD) : (Gen.dats m 0 c).arrAt 4 cfg0.N = fun y : S4096x128.Idx => (total (x m c) (w m c) (b m c) ((y 0).val + 1) (y 1).val : EReal) := by
  refine (Gen.dats m 0 c).arrAt_eq_of_covers 4 _ (by decide +kernel) fun t hf y => ?_
  show (Gen.dats m 0 c).after 4 t ((cfg0.win 4).xinj (cfg0.grid.coords t) y) = total _ _ _ ((((cfg0.win 4).rect t).emb y 0).val + 1) (((cfg0.win 4).rect t).emb y 1).val
  have i4 := (idx t).2.2.2.2
  rw [after0_4, place ((cfg0.win 4).rect_emb_val t y 0) (congrFun i4 0) rfl, place ((cfg0.win 4).rect_emb_val t y 1) (congrFun i4 1) (zero_val 128 (y 1))]
  exact (point m c t _).2

section
variable (x : (⟨S4096x2048, .bf16⟩ : BufTy).Contents (Elt Ideal)) (w : (⟨S128x2048, .bf16⟩ : BufTy).Contents (Elt Ideal)) (b : (⟨S1x128, .f32⟩ : BufTy).Contents (Elt Ideal))
open Cert.ForgetFwdReferenceIdeal.Read

/-- An entry of the reference's logits. -/
theorem logits (y : S4096x128.Idx) : val_main_v4 (F := Ideal) x w b y = logit x w b (y 0).val (y 1).val := by
  rw [val_main_v4_apply, val_main_v2_apply, val_main_v3_apply]
  exact congrArg₂ (· + ·) (Finset.sum_congr rfl fun l _ => congrArg₂ (· * ·) (at2 x _ rfl rfl) (at2 w _ rfl rfl)) (at2 b _ rfl rfl)

/-- An entry of the reference's logarithms. -/
theorem terms (y : S4096x128.Idx) : val_main_v5 (F := Ideal) x w b y = logs (logit x w b (y 0).val (y 1).val) := by
  rw [val_main_v5_apply, val_main_call0_v1_apply, val_main_call0_call0_v4_apply, val_main_call0_call0_v11_apply, val_main_call0_call0_v1_apply, val_main_call0_call0_v10_apply,
    val_main_call0_call0_v9_apply, val_main_call0_call0_v8_apply, val_main_call0_call0_v7_apply, val_main_call0_call0_v3_apply, val_main_call0_call0_v2_apply, val_main_call0_call0_v0_apply,
    val_main_call0_call0_cst_apply, val_main_call0_v0_apply, logits]
  generalize logit x w b (y 0).val (y 1).val = z
  refine Eq.trans ?_ (logs_eq z)
  have h : FloatOps.subf (F := Ideal) (FloatOps.hostNegf (F := Ideal) z) (FloatOps.ofBits .f32 0#32) = -z := by
    show -z - Ideal.ofBits .f32 0#32 = -z
    rw [Ideal.ofBits_zero, sub_zero]
  have h' : FloatOps.cmpf (F := Ideal) (φ := .f32) .une (-z) (-z) = 0#1 := by
    exact congrArg BitVec.ofBool (decide_eq_false (not_not_intro rfl))
  rw [h, h']
  show -(max (-z) (Ideal.ofBits .f32 0#32) + _) = _
  rw [Ideal.ofBits_zero]
  rfl

/-- An entry of the reference's cumulative sums. -/
theorem sums (j : Fin 4096) (c : Fin 128) : val_main_v6 (F := Ideal) x w b (ix2 j c) = total x w b (j.val + 1) c.val := by
  have e (i : (⟨0, ![]⟩ : Shape).Idx) : val_main_call1_call0_v0 (F := Ideal) i = 0 := (val_main_call1_call0_v0_apply i).trans (Ideal.ofBits_zero .f32)
  unfold val_main_v6 Host.reduceWindowAdd
  rw [e]
  refine (cumulative rfl (val_main_v5 (F := Ideal) x w b) _ j c).trans (Finset.sum_congr rfl fun k hk => ?_)
  have hk := Finset.mem_range.mp hk
  exact (at2 (val_main_v5 (F := Ideal) x w b) (ix2 (⟨k, by omega⟩ : Fin 4096) c) rfl rfl).symm.trans (terms x w b _)
end

/-- The reference runs and leaves its arguments as they were. -/
theorem reference_frame : Cert.quiescent_ForgetFwdReferenceIdeal (hForgetFwdReferenceIdeal := Cert.ForgetFwdReferenceIdeal.Gen.facts) :=
  fun m g _ => (θ_run Cert.ForgetFwdReferenceIdeal.defs _ _).mono (fun r h => ⟨fun c => (h c).2.2, sem_eq_zero_of_no_sems (by decide) r.2⟩)
    (Cert.ForgetFwdReferenceIdeal.Value.run m g)

/-- The kernel and the reference end with the same results. -/
theorem algebraic : Cert.algebraic_ForgetFwdIdeal_ForgetFwdReferenceIdeal (hForgetFwdIdeal := Gen.facts) (hForgetFwdReferenceIdeal := Cert.ForgetFwdReferenceIdeal.Gen.facts) := by
  intro m g m' g' _ harg
  refine ⟨_, _, (θ_run defs _ _).mono (fun r h c => ⟨(h c).1.trans (result3 m c), (h c).2.1.trans (result4 m c), (h c).2.2⟩) (Value.run_blocks m g),
    (θ_run Cert.ForgetFwdReferenceIdeal.defs _ _).mono (fun r h c => ⟨(h c).1.trans ((Cert.ForgetFwdReferenceIdeal.Read.val_main_v4_eq _ _ _).trans ((funext fun y => logits _ _ _ y : _ = _).trans ?_)), (h c).2.1.trans ((Cert.ForgetFwdReferenceIdeal.Read.val_main_v6_eq _ _ _).trans ((funext fun y : S4096x128.Idx => (congrArg _ (eta2 y)).trans (sums _ _ _ (y 0) (y 1)) : _ = _).trans ?_)), (h c).2.2⟩) (Cert.ForgetFwdReferenceIdeal.Value.run m' g')⟩
  all_goals
    obtain ⟨h0, h1, h2⟩ := harg c
    simp only [h0, h1, h2]
    try rfl

end Cert.ForgetFwdIdeal.Gates

end
-- ==== Proof.NormMix.lean ====
/- The first norm: the kernel and the reference end with the same matrix. -/
module

public import proofs.«01_k».proof.Proof.NormFfn
public import proofs.«01_k».proof.Proof.Gathered
public import Idealize.ShloMosaic.Lib.Pipeline.Covers
public import proofs.«01_k».proof.Proof.Gen.NormMix.Frame
public import proofs.«01_k».proof.Proof.Gen.NormMixIdeal.Frame
public import proofs.«01_k».proof.Proof.Gen.NormMixReferenceIdeal.Run
public import proofs.«01_k».proof.Proof.Gen.NormMixReferenceIdeal.Read

@[expose] public section

noncomputable section

namespace Cert.NormMixIdeal.Norm

open Cert.NormMixIdeal Cert.NormMixIdeal.Gen Cert.Entries
open Cert.NormFfnIdeal.Norm (entry)
open Idealize.ShloMosaic

/-- An entry of a block. -/
theorem pay (x : Vec Ideal S256x2048 .f32) (g : Vec Ideal S1x2048 .f32) (i : Fin 256) (j : Fin 2048) :
    k0_pay1 (F := Ideal) x g (ix2 i j) = x (ix2 i j) * Row.root (fun k => x (ix2 i k)) * g (ix2 0 j) := by
  pointwise [k0_pay1, Row.root, Row.mean]

/-- The block indices of the windows. -/
theorem idx (t : Fin grid0.N) : cc0_transform_0 (grid0.coords t) = ![t.val, 0] ∧ cc0_transform_1 (grid0.coords t) = ![0, 0] ∧ cc0_transform_2 (grid0.coords t) = ![t.val, 0] :=
  (by decide +kernel : ∀ t : Fin grid0.N, cc0_transform_0 (grid0.coords t) = ![t.val, 0] ∧ cc0_transform_1 (grid0.coords t) = ![0, 0] ∧ cc0_transform_2 (grid0.coords t) = ![t.val, 0]) t

/-- A result's array has rows and columns. -/
theorem sizes (a : Fin 2) : 0 < S256x2048.size a := by
  match a with
  | ⟨0, _⟩ => exact Nat.succ_pos _
  | ⟨1, _⟩ => exact Nat.succ_pos _

/-- There is a point for each block of rows. -/
theorem below {n s b : ℕ} (h : b < (n + s - 1) / s) (hn : n = 4096) (hs : s = 256) : b < grid0.N := by
  subst hn hs
  rw [N_0]
  omega

variable (m : (ℓ : Loc nD τ sig) → Buf (Elt Ideal) ℓ)

/-! The arrays given. -/

abbrev arg1 (c : Dev nD) := m ((c.tc : Thread nD τ).loc main_arg1)

abbrev arg2 (c : Dev nD) := m ((c.tc : Thread nD τ).loc main_arg2)

/-- Nothing is asked of the table. -/
theorem ok : Ok m := trivial

/-- What a point writes. -/
theorem outs (c : Dev nD) (t : Fin (cfgM m (ok m)).N) : outsAt0 m (ok m) c t = k0_pay1 (F := Ideal) (iblk m (ok m) c 0 t) (iblk m (ok m) c 1 t) := by
  have e0 : View.read (Elt Ideal) (ms0_0 m (ok m) t).view ((hs0_0 m (ok m) t).unread (iblk m (ok m) c 0 t)) = iblk m (ok m) c 0 t := (hs0_0 m (ok m) t).read_unread _
  have e1 : View.read (Elt Ideal) (ms0_1 m (ok m) t).view ((hs0_1 m (ok m) t).unread (iblk m (ok m) c 1 t)) = iblk m (ok m) c 1 t := (hs0_1 m (ok m) t).read_unread _
  unfold outsAt0 out0_A_2
  frame_out
  rw [e0, e1]

/-- An entry of a block of the first argument, in its array. -/
theorem block0 (c : Dev nD) (t : Fin grid0.N) (i : Fin 256) (k : Fin 2048) :
    iblk (F := Ideal) m (ok m) c 0 t (ix2 i k) = Row.row (arg1 m c) (t.val * 256 + i.val) k := by
  refine at2 (arg1 m c) _ ?_ ?_
  · show cc0_transform_0 (grid0.coords t) 0 * 256 + 1 * i.val = _
    rw [(idx t).1, Nat.one_mul]
    rfl
  · show cc0_transform_0 (grid0.coords t) 1 * 2048 + 1 * k.val = _
    rw [(idx t).1]
    exact unit_val k

/-- The block of the second argument is its array. -/
theorem block1 (c : Dev nD) (t : Fin grid0.N) (k : Fin 2048) :
    iblk (F := Ideal) m (ok m) c 1 t (ix2 0 k) = Row.row (arg2 m c) 0 k :=
  at2 (arg2 m c) _ rfl (unit_val k)

/-- The kernel's result. -/
abbrev final (c : Dev nD) : S4096x2048.Idx → EReal := fun y => entry (arg1 m c) (arg2 m c) (y 0).val (y 1)

/-- What a point writes at a place of its block, at the place of the array. -/
theorem point (c : Dev nD) (t : Fin grid0.N) (y : S256x2048.Idx) (z : S4096x2048.Idx) (h0 : (z 0).val = t.val * 256 + (y 0).val) (h1 : (z 1).val = (y 1).val) :
    k0_pay1 (F := Ideal) (iblk m (ok m) c 0 t) (iblk m (ok m) c 1 t) y = final m c z := by
  have e : z 1 = y 1 := Fin.ext h1
  refine ((congrArg _ (eta2 y)).trans (pay _ _ (y 0) (y 1))).trans ?_
  show _ = entry _ _ (z 0).val (z 1)
  rw [h0, e]
  exact congrArg₂ (· * ·) (congrArg₂ (· * ·) (block0 m c t _ _) (congrArg Row.root (funext fun k => block0 m c t _ k))) (block1 m c t _)

/-- The kernel's array at the end. -/
theorem result (c : Dev nD) : (Gen.dats m (ok m) 0 c).arrAt 2 (cfgM m (ok m)).N = final m c := by
  refine (Gen.dats m (ok m) 0 c).arrAt_eq_of_covers 2 _ (Pipeline.Window.covers_of_indexMap_surj _ rfl sizes fun β => ?_) fun t hf y => ?_
  · have h : (β ⟨0, (by decide : 0 < 2)⟩).val < grid0.N := below (β ⟨0, (by decide : 0 < 2)⟩).isLt rfl rfl
    refine ⟨grid0.coords ⟨_, h⟩, fun a => ?_⟩
    match a with
    | ⟨0, _⟩ => exact congrFun (idx ⟨_, h⟩).2.2 0
    | ⟨1, _⟩ => exact (congrFun (idx ⟨_, h⟩).2.2 1).trans (Gathered.only 2048 (by decide) (β ⟨1, (by decide : 1 < 2)⟩).isLt rfl rfl)
  show (Gen.dats m (ok m) 0 c).after 2 t (((cfgM m (ok m)).win 2).xinj ((cfgM m (ok m)).grid.coords t) y) = _
  rw [after0_2, outs]
  refine point m c t _ _ ?_ ?_
  · show cc0_transform_2 (grid0.coords t) 0 * 256 + 1 * _ = _
    rw [(idx t).2.2, Nat.one_mul]
    rfl
  · show cc0_transform_2 (grid0.coords t) 1 * 2048 + 1 * _ = _
    rw [(idx t).2.2]
    exact unit_val _

/-- The reference's result, which is that of the other norm's reference. -/
theorem reference (x : (⟨S4096x2048, .f32⟩ : BufTy).Contents (Elt Ideal)) (g : (⟨S1x2048, .f32⟩ : BufTy).Contents (Elt Ideal)) :
    Cert.NormMixReferenceIdeal.Read.val_main_v14 (F := Ideal) x g = fun y : S4096x2048.Idx => entry x g (y 0).val (y 1) :=
  (rfl : _ = Cert.NormFfnReferenceIdeal.Read.val_main_v14 (F := Ideal) x g).trans (Cert.NormFfnIdeal.Norm.reference x g)

/-- The kernel runs, and its arrays at the end. -/
theorem kernel_run (ρ : Dev nD → PrngReg) : θ_run defs (onTc (τ := τ) (main (F := Ideal))) ⟨m, fun _ => 0, ρ⟩ fun r => ∀ c : Dev nD,
      r.2.mem ((c.tc : Thread nD τ).loc main_v0) = final m c
      ∧ r.2.mem ((c.tc : Thread nD τ).loc main_arg0) = m ((c.tc : Thread nD τ).loc main_arg0)
      ∧ r.2.mem ((c.tc : Thread nD τ).loc main_arg1) = arg1 m c
      ∧ r.2.mem ((c.tc : Thread nD τ).loc main_arg2) = arg2 m c :=
  (θ_run defs _ _).mono (fun r h c => ⟨((h.1 c).1 2).trans (result m c), h.2 c⟩) (θ_run_and (run_main m ρ (ok m)) (unchanged m ρ (ok m)))

/-- The reference runs and leaves its arguments as they were. -/
theorem reference_frame : Cert.quiescent_NormMixReferenceIdeal (hNormMixReferenceIdeal := Cert.NormMixReferenceIdeal.Gen.facts) :=
  fun m g _ => (θ_run Cert.NormMixReferenceIdeal.defs _ _).mono (fun r h => ⟨fun c => (h c).2, sem_eq_zero_of_no_sems (by decide) r.2⟩)
    (Cert.NormMixReferenceIdeal.Value.run m g)

/-- The kernel and the reference end with the same result. -/
theorem algebraic : Cert.algebraic_NormMixIdeal_NormMixReferenceIdeal (hNormMixIdeal := Gen.facts) (hNormMixReferenceIdeal := Cert.NormMixReferenceIdeal.Gen.facts) := by
  intro m g m' g' _ harg
  refine ⟨_, kernel_run m g, (θ_run Cert.NormMixReferenceIdeal.defs _ _).mono (fun r h c => ⟨(h c).1.trans ?_, (h c).2⟩) (Cert.NormMixReferenceIdeal.Value.run m' g')⟩
  refine (reference _ _).trans ?_
  rw [(harg c).2.1, (harg c).2.2]

end Cert.NormMixIdeal.Norm

end
-- ==== Proof.AddHalves.lean ====
/- The sum of two halves: the kernel and the reference end with the same array. -/
module

public import proofs.«01_k».proof.Defs
public import proofs.«01_k».proof.Proof.Entries
public import proofs.«01_k».proof.Proof.Gathered
public import Idealize.ShloMosaic.Lib.Pipeline.Covers
public import proofs.«01_k».proof.Proof.Gen.AddHalves.Frame
public import proofs.«01_k».proof.Proof.Gen.AddHalvesIdeal.Frame
public import proofs.«01_k».proof.Proof.Gen.AddHalvesReferenceIdeal.Run
public import proofs.«01_k».proof.Proof.Gen.AddHalvesReferenceIdeal.Read

@[expose] public section

noncomputable section

namespace Cert.Halves

open Idealize.ShloMosaic

/-- The side conditions of the precondition. -/
theorem facts : Cert.Pre_half_named.Facts where
  slices_S2_S1_1 := by decide
  shapeCasts_S1_S_ := by decide

/-- One of two tests that are true together by disjunction is true. -/
theorem of_tests : ∀ p q : Bool, BitVec.ofBool p ||| BitVec.ofBool q = 1#1 → p = true ∨ q = true := by decide

/-- Where the precondition holds, the second word names a half. -/
theorem named {F : FTy → Type} [FloatOps F] (x : FVec F Cert.Pre_half_named.S4x2048x2048 .bf16) (y : FVec F Cert.Pre_half_named.S4x2048x1024 .bf16)
    (p : IVec Cert.Pre_half_named.S2 32) (h : (haveI := facts; Cert.Pre_half_named.fn x y p) = fun _ => 1#1) : p (ix1 1) = 0#32 ∨ p (ix1 1) = 1#32 := by
  have e : shapeCast Cert.Pre_half_named.S_ (extractStridedSlice Cert.Pre_half_named.S1 ![1] p facts.slices_S2_S1_1) facts.shapeCasts_S1_S_ (fun k => k.elim0) = p (ix1 1) := by
    refine congrArg p (funext fun a => ?_)
    match a with
    | ⟨0, _⟩ => rfl
  have g := of_tests _ _ (congrFun h fun k => k.elim0)
  rw [e] at g
  exact g.imp eq_of_beq eq_of_beq

/-- The block that the word chooses at a point. -/
abbrev chosen (w : BitVec 32) (i : Cert.AddHalves.grid0.Coords) : Fin 3 → ℕ :=
  ![(BitVec.ofNat 32 (i 0).val).toNat, (BitVec.ofNat 32 (i 1).val).toNat, (Scalar.addi (Scalar.muli w 1#32) (BitVec.ofNat 32 (i 2).val)).toNat]

/-- Each block that a word naming a half chooses is inside its array. -/
theorem inside (w : BitVec 32) (hw : w = 0#32 ∨ w = 1#32) (i : Cert.AddHalves.grid0.Coords) (a : Fin 3) :
    (chosen w i a + 1) * Cert.AddHalves.S1x1024x1024.size a ≤ Cert.AddHalves.S4x2048x2048.size a := by
  obtain rfl | rfl := hw <;> revert i a <;> decide +kernel

end Cert.Halves

namespace Cert.AddHalves.Halves

open Cert.AddHalves Cert.AddHalves.Gen
open Idealize.ShloMosaic

/-- The precondition gives what the call asks of its table. -/
theorem ok (m : (ℓ : Loc nD τ sig) → Buf (Elt Bits) ℓ) (h : Cert.Pre_AddHalves (hPre_half_named := Cert.Halves.facts) m) : Ok m := by
  have hw : (tbl m).at 0 (Rect.unit (s := S2) ![1] S1.size inb_S2_S1_1) numel1_S1 = m (((0 : Dev nD).tc : Thread nD τ).loc main_arg2) (ix1 1) :=
    congrArg (m (((0 : Dev nD).tc : Thread nD τ).loc main_arg2)) (funext fun a => match a with | ⟨0, _⟩ => rfl)
  exact fun i => ⟨fun a => Cert.Halves.inside _ (hw ▸ Cert.Halves.named _ _ _ (h 0)) i a, .inr (Affine.block_words_dvd (of_decide_eq_true rfl) (by decide))⟩

end Cert.AddHalves.Halves

namespace Cert.AddHalvesIdeal.Halves

open Cert.AddHalvesIdeal Cert.AddHalvesIdeal.Gen Cert.Entries
open Idealize.ShloMosaic

/-- An entry of a block. -/
theorem pay (x y : Vec Ideal S1x1024x1024 .bf16) (i j : Fin 1024) : k0_pay1 (F := Ideal) x y (ix3 0 i j) = x (ix3 0 i j) + y (ix3 0 i j) := by
  pointwise [k0_pay1]

/-- The result has a block for each of the four parts and each half of its rows, and a point for each block. -/
theorem reached : ∀ (p : Fin 4) (q : Fin 2), ∃ t : Fin grid0.N, cc0_transform_2 (grid0.coords t) = ![p.val, q.val, 0] := by decide +kernel

/-- The second argument's blocks are taken as the result's. -/
theorem idx1 (t : Fin grid0.N) : cc0_transform_1 (grid0.coords t) = cc0_transform_2 (grid0.coords t) := rfl

/-- The result has one block of columns. -/
theorem idx2 : ∀ t : Fin grid0.N, cc0_transform_2 (grid0.coords t) 2 = 0 := by decide +kernel

/-- A result's array has entries. -/
theorem sizes (a : Fin 3) : 0 < S1x1024x1024.size a := by
  match a with
  | ⟨0, _⟩ => exact Nat.succ_pos _
  | ⟨1, _⟩ => exact Nat.succ_pos _
  | ⟨2, _⟩ => exact Nat.succ_pos _

/-- A count of blocks. -/
theorem below {n s b : ℕ} (l k : ℕ) (h : b < (n + s - 1) / s) (hn : n = k * l) (hs : s = l) (hl : 0 < l) : b < k := by
  subst hn hs
  have e : (k * s + s - 1) / s = k := Nat.div_eq_of_lt_le (by omega) (by rw [Nat.succ_mul]; omega)
  omega

variable (m : (ℓ : Loc nD τ sig) → Buf (Elt Ideal) ℓ)

/-! The arrays given. -/

abbrev arg0 (c : Dev nD) := m ((c.tc : Thread nD τ).loc main_arg0)

abbrev arg1 (c : Dev nD) := m ((c.tc : Thread nD τ).loc main_arg1)

/-- The word that chooses the half. -/
abbrev word (c : Dev nD) : BitVec 32 := m ((c.tc : Thread nD τ).loc main_arg2) (ix1 1)

/-- The blocks of the first argument are the chosen ones. -/
theorem idx0 (c : Dev nD) (i : grid0.Coords) : cc0_transform_0 (F := Ideal) inb_S2_S1_1 numel1_S1 (tbl m) i = Cert.Halves.chosen (word m c) i := by
  obtain rfl : c = 0 := Subsingleton.elim _ _
  have hw : (tbl m).at 0 (Rect.unit (s := S2) ![1] S1.size inb_S2_S1_1) numel1_S1 = word m 0 :=
    congrArg (m (((0 : Dev nD).tc : Thread nD τ).loc main_arg2)) (funext fun a => match a with | ⟨0, _⟩ => rfl)
  unfold cc0_transform_0
  rw [hw]

variable (h : Cert.Pre_AddHalvesIdeal (hPre_half_named := Cert.Halves.facts) m)

include h in
/-- The word names a half. -/
theorem word_named (c : Dev nD) : word m c = 0#32 ∨ word m c = 1#32 := Cert.Halves.named _ _ _ (h c)

include h in
/-- The precondition gives what the call asks of its table. -/
theorem ok : Ok m :=
  fun i => ⟨fun a => (idx0 m 0 i).symm ▸ Cert.Halves.inside _ (word_named m h 0) i a, .inr (Affine.block_words_dvd (of_decide_eq_true rfl) (by decide))⟩

/-- The chosen blocks beside the result's. -/
theorem chosen_eq (w : BitVec 32) (hw : w = 0#32 ∨ w = 1#32) (t : Fin grid0.N) :
    Cert.Halves.chosen w (grid0.coords t) = ![cc0_transform_2 (grid0.coords t) 0, cc0_transform_2 (grid0.coords t) 1, w.toNat] := by
  obtain rfl | rfl := hw <;> revert t <;> decide +kernel

/-- What a point writes. -/
theorem outs (hO : Ok m) (c : Dev nD) (t : Fin (cfgM m hO).N) : outsAt0 m hO c t = k0_pay1 (F := Ideal) (iblk m hO c 0 t) (iblk m hO c 1 t) := by
  have e0 : View.read (Elt Ideal) (ms0_0 m hO t).view ((hs0_0 m hO t).unread (iblk m hO c 0 t)) = iblk m hO c 0 t := (hs0_0 m hO t).read_unread _
  have e1 : View.read (Elt Ideal) (ms0_1 m hO t).view ((hs0_1 m hO t).unread (iblk m hO c 1 t)) = iblk m hO c 1 t := (hs0_1 m hO t).read_unread _
  unfold outsAt0 out0_A_2
  frame_out
  rw [e0, e1]

/-- An entry of a block of the first argument, in its array. -/
theorem block0 (c : Dev nD) (t : Fin grid0.N) (i j : Fin 1024) :
    iblk (F := Ideal) m (ok m h) c 0 t (ix3 0 i j) = e3 (arg0 m c) (cc0_transform_2 (grid0.coords t) 0)
      (cc0_transform_2 (grid0.coords t) 1 * 1024 + i.val) ((word m c).toNat * 1024 + j.val) := by
  have e := (idx0 m c (grid0.coords t)).trans (chosen_eq _ (word_named m h c) t)
  refine at3 (arg0 m c) _ ?_ ?_ ?_
  · show cc0_transform_0 (F := Ideal) inb_S2_S1_1 numel1_S1 (tbl m) (grid0.coords t) 0 * 1 + 1 * 0 = _
    rw [e, Nat.mul_one, Nat.mul_zero, Nat.add_zero]
    rfl
  · show cc0_transform_0 (F := Ideal) inb_S2_S1_1 numel1_S1 (tbl m) (grid0.coords t) 1 * 1024 + 1 * i.val = _
    rw [e, Nat.one_mul]
    rfl
  · show cc0_transform_0 (F := Ideal) inb_S2_S1_1 numel1_S1 (tbl m) (grid0.coords t) 2 * 1024 + 1 * j.val = _
    rw [e, Nat.one_mul]
    rfl

/-- An entry of a block of the second argument, in its array. -/
theorem block1 (c : Dev nD) (t : Fin grid0.N) (i j : Fin 1024) :
    iblk (F := Ideal) m (ok m h) c 1 t (ix3 0 i j) = e3 (arg1 m c) (cc0_transform_2 (grid0.coords t) 0)
      (cc0_transform_2 (grid0.coords t) 1 * 1024 + i.val) j.val := by
  refine at3 (arg1 m c) _ ?_ ?_ ?_
  · show cc0_transform_1 (grid0.coords t) 0 * 1 + 1 * 0 = _
    rw [idx1, Nat.mul_one, Nat.mul_zero, Nat.add_zero]
  · show cc0_transform_1 (grid0.coords t) 1 * 1024 + 1 * i.val = _
    rw [idx1, Nat.one_mul]
  · show cc0_transform_1 (grid0.coords t) 2 * 1024 + 1 * j.val = _
    rw [idx1, idx2, Nat.zero_mul]
    exact unit_val j

/-- The sum of an entry of the chosen half and the received one. -/
abbrev entry (x : S4x2048x2048.Idx → EReal) (y : S4x2048x1024.Idx → EReal) (w : BitVec 32) (p i j : ℕ) : EReal :=
  e3 x p i (w.toNat * 1024 + j) + e3 y p i j

/-- The kernel's result. -/
abbrev final (c : Dev nD) : S4x2048x1024.Idx → EReal := fun y =>
  entry (arg0 m c) (arg1 m c) (word m c) (y 0).val (y 1).val (y 2).val

/-- What a point writes at a place of its block, at the place of the array. -/
theorem point (c : Dev nD) (t : Fin grid0.N) (y : S1x1024x1024.Idx) (z : S4x2048x1024.Idx) (h0 : (z 0).val = cc0_transform_2 (grid0.coords t) 0 * 1 + 1 * (y 0).val)
    (h1 : (z 1).val = cc0_transform_2 (grid0.coords t) 1 * 1024 + (y 1).val) (h2 : (z 2).val = (y 2).val) :
    k0_pay1 (F := Ideal) (iblk m (ok m h) c 0 t) (iblk m (ok m h) c 1 t) y = final m c z := by
  refine ((congrArg _ (eta3 y)).trans (pay _ _ (y 1) (y 2))).trans ?_
  show _ = entry _ _ _ (z 0).val (z 1).val (z 2).val
  rw [h0, h1, h2, Nat.lt_one_iff.mp (y 0).isLt, Nat.mul_one, Nat.mul_zero, Nat.add_zero]
  exact congrArg₂ (· + ·) (block0 m h c t _ _) (block1 m h c t _ _)

/-- The kernel's array at the end. -/
theorem result (c : Dev nD) : (Gen.dats m (ok m h) 0 c).arrAt 2 (cfgM m (ok m h)).N = final m c := by
  refine (Gen.dats m (ok m h) 0 c).arrAt_eq_of_covers 2 _ (Pipeline.Window.covers_of_indexMap_surj _ rfl sizes fun β => ?_) fun t hf y => ?_
  · obtain ⟨t, ht⟩ := reached ⟨_, below 1 4 (β ⟨0, (by decide : 0 < 3)⟩).isLt rfl rfl (by decide)⟩ ⟨_, below 1024 2 (β ⟨1, (by decide : 1 < 3)⟩).isLt rfl rfl (by decide)⟩
    refine ⟨grid0.coords t, fun a => ?_⟩
    match a with
    | ⟨0, _⟩ => exact congrFun ht 0
    | ⟨1, _⟩ => exact congrFun ht 1
    | ⟨2, _⟩ => exact (congrFun ht 2).trans (Gathered.only 1024 (by decide) (β ⟨2, (by decide : 2 < 3)⟩).isLt rfl rfl)
  show (Gen.dats m (ok m h) 0 c).after 2 t (((cfgM m (ok m h)).win 2).xinj ((cfgM m (ok m h)).grid.coords t) y) = _
  rw [after0_2, outs m]
  refine point m h c t _ _ ?_ ?_ ?_
  · rfl
  · show cc0_transform_2 (grid0.coords t) 1 * 1024 + 1 * _ = _
    rw [Nat.one_mul]
  · show cc0_transform_2 (grid0.coords t) 2 * 1024 + 1 * _ = _
    rw [idx2, Nat.zero_mul]
    exact unit_val _

/-- The reference's result, where the word names a half. -/
theorem reference (x : (⟨S4x2048x2048, .bf16⟩ : BufTy).Contents (Elt Ideal)) (r : (⟨S4x2048x1024, .bf16⟩ : BufTy).Contents (Elt Ideal))
    (p : (⟨S2, .i32⟩ : BufTy).Contents (Elt Ideal)) (hw : p (ix1 1) = 0#32 ∨ p (ix1 1) = 1#32) :
    Cert.AddHalvesReferenceIdeal.Read.val_main_v9 (F := Ideal) x r p = fun y : S4x2048x1024.Idx => entry x r (p (ix1 1)) (y 0).val (y 1).val (y 2).val := by
  funext y
  have e : ∀ k, Cert.AddHalvesReferenceIdeal.Read.val_main_v2 (F := Ideal) p k = IntOp.cmpi .eq (p (ix1 1)) 0#32 := fun k => by
    obtain rfl : k = fun a => a.elim0 := funext fun a => a.elim0
    exact congrArg (fun w => IntOp.cmpi .eq w 0#32) (congrArg p (funext fun a => match a with | ⟨0, _⟩ => rfl))
  show Scalar.select (Cert.AddHalvesReferenceIdeal.Read.val_main_v2 (F := Ideal) p _) (Cert.AddHalvesReferenceIdeal.Read.val_main_v3 (F := Ideal) x y)
    (Cert.AddHalvesReferenceIdeal.Read.val_main_v4 (F := Ideal) x y) + r y = _
  rw [e, Cert.AddHalvesReferenceIdeal.Read.val_main_v3_apply, Cert.AddHalvesReferenceIdeal.Read.val_main_v4_apply]
  refine congrArg₂ (· + ·) ?_ (at3 r y rfl rfl rfl)
  obtain hw | hw := hw <;> rw [hw]
  · exact at3 x _ rfl rfl (by show (y 2).val = 0 * 1024 + (y 2).val; omega)
  · exact at3 x _ rfl rfl rfl

include h in
/-- The kernel runs, and its arrays at the end. -/
theorem kernel_run (ρ : Dev nD → PrngReg) : θ_run defs (onTc (τ := τ) (main (F := Ideal))) ⟨m, fun _ => 0, ρ⟩ fun r => ∀ c : Dev nD,
      r.2.mem ((c.tc : Thread nD τ).loc main_v0) = final m c
      ∧ r.2.mem ((c.tc : Thread nD τ).loc main_arg0) = arg0 m c
      ∧ r.2.mem ((c.tc : Thread nD τ).loc main_arg1) = arg1 m c
      ∧ r.2.mem ((c.tc : Thread nD τ).loc main_arg2) = m ((c.tc : Thread nD τ).loc main_arg2) :=
  (θ_run defs _ _).mono (fun r g c => ⟨((g.1 c).1 2).trans (result m h c), g.2 c⟩) (θ_run_and (run_main m ρ (ok m h)) (unchanged m ρ (ok m h)))

/-- The reference runs and leaves its arguments as they were. -/
theorem reference_frame : Cert.quiescent_AddHalvesReferenceIdeal (hAddHalvesReferenceIdeal := Cert.AddHalvesReferenceIdeal.Gen.facts) (hPre_half_named := Cert.Halves.facts) :=
  fun m g _ => (θ_run Cert.AddHalvesReferenceIdeal.defs _ _).mono (fun r h => ⟨fun c => (h c).2, sem_eq_zero_of_no_sems (by decide) r.2⟩)
    (Cert.AddHalvesReferenceIdeal.Value.run m g)

/-- The kernel and the reference end with the same result. -/
theorem algebraic : Cert.algebraic_AddHalvesIdeal_AddHalvesReferenceIdeal (hAddHalvesIdeal := Gen.facts)
    (hAddHalvesReferenceIdeal := Cert.AddHalvesReferenceIdeal.Gen.facts) (hPre_half_named := Cert.Halves.facts) := by
  intro m g m' g' h harg
  refine ⟨_, kernel_run m h g, (θ_run Cert.AddHalvesReferenceIdeal.defs _ _).mono (fun r k c => ⟨(k c).1.trans ?_, (k c).2⟩) (Cert.AddHalvesReferenceIdeal.Value.run m' g')⟩
  refine (reference _ _ _ ?_).trans ?_
  · rw [(harg c).2.2]
    exact word_named m h c
  · rw [(harg c).1, (harg c).2.1, (harg c).2.2]

end Cert.AddHalvesIdeal.Halves

end
-- ==== Proof.Tile.lean ====
/- The payloads of the attention backward at real operands: at blocks that hold real numbers each of them holds the real number
   that the formula of its operation gives. -/
module

public import proofs.«01_k».proof.Proof.Gen.KernelIdeal.Skeleton
public import Idealize.ShloMosaic.Lib.Pointwise
public import Idealize.ShloMosaic.Lib.Pipeline.Value

@[expose] public section

noncomputable section

namespace Cert.KernelIdeal.Attn

open Cert.KernelIdeal Cert.KernelIdeal.Gen
open Idealize.ShloMosaic

/-- A matrix that holds the real numbers `A`. -/
def R2 {a b : ℕ} (X : (⟨2, ![a, b]⟩ : Shape).Idx → EReal) (A : ℕ → ℕ → ℝ) : Prop :=
  ∀ (i : Fin a) (j : Fin b), X (ix2 i j) = ((A i j : ℝ) : EReal)

/-- A rank-three array that holds the real numbers `A`. -/
def R3 {a b c : ℕ} (X : (⟨3, ![a, b, c]⟩ : Shape).Idx → EReal) (A : ℕ → ℕ → ℕ → ℝ) : Prop :=
  ∀ (i : Fin a) (j : Fin b) (k : Fin c), X (ix3 i j k) = ((A i j k : ℝ) : EReal)

/-- The base-two logarithm of `e`. -/
def kL : ℝ := (Real.log 2)⁻¹

/-- The scale of the logits. -/
def wR : ℝ := 11863283 / 134217728

/-- The scale of the logits in base two. -/
def kS : ℝ := (Real.log 2)⁻¹ * (11863283 / 134217728)

/-- The inner product of row `i` of `D` and row `j` of `V`. -/
def dT (D V : ℕ → ℕ → ℝ) (i j : ℕ) : ℝ := ∑ k : Fin 128, D i k * V j k

/-- The inner product of the rows `i`. -/
def oT (D O : ℕ → ℕ → ℝ) (i : ℕ) : ℝ := ∑ k : Fin 128, D i k * O i k

/-- The exponent of a probability, in base two. -/
def xT (Q K : ℕ → ℕ → ℝ) (f l : ℕ → ℝ) (i j : ℕ) : ℝ := (∑ k : Fin 128, Q i k * K j k) * kS - f j * kL - l i

/-- A probability. -/
def eT (Q K : ℕ → ℕ → ℝ) (f l : ℕ → ℝ) (i j : ℕ) : ℝ := (2 : ℝ) ^ xT Q K f l i j

/-- The causal mask, with the rows shifted by `o`. -/
def mk (o : ℕ) (P : ℕ → ℕ → ℝ) (i j : ℕ) : ℝ := if j ≤ o + i then P i j else 0

theorem coe_fsum {ι : Type} (s : Finset ι) (f : ι → ℝ) : ((∑ k ∈ s, f k : ℝ) : EReal) = ∑ k ∈ s, ((f k : ℝ) : EReal) := by
  classical
  induction s using Finset.induction_on with
  | empty => simp
  | insert a s h ih => rw [Finset.sum_insert h, Finset.sum_insert h, EReal.coe_add, ih]

theorem coe_ite (p : Prop) [Decidable p] (a b : ℝ) : ((if p then a else b : ℝ) : EReal) = if p then (a : EReal) else (b : EReal) := by
  split_ifs <;> rfl

theorem cs2 : (Named.named (F := Ideal) κ "scale2" 0x3E0293EE#32 : Ideal .f32) = ((kS : ℝ) : EReal) := rfl

theorem cs1 : (Named.named (F := Ideal) κ "log2e" 0x3FB8AA3B#32 : Ideal .f32) = ((kL : ℝ) : EReal) := rfl

theorem csw : Ideal.ofBits .f32 0x3DB504F3#32 = ((wR : ℝ) : EReal) := by
  simp [Ideal.ofBits, Ideal.ieee, wR]
  rw [← EReal.coe_mul]
  norm_num

theorem ex2 (x : ℝ) : FloatOps.exp2 (F := Ideal) (φ := .f32) ((x : ℝ) : EReal) = (((2 : ℝ) ^ x : ℝ) : EReal) := rfl

theorem sle_nat (a b : ℕ) (ha : a < 2 ^ 31) (hb : b < 2 ^ 31) :
    IntOp.cmpi .sle (BitVec.ofNat 32 a) (BitVec.ofNat 32 b) = if a ≤ b then 1#1 else 0#1 := by
  have h : (BitVec.ofNat 32 a).sle (BitVec.ofNat 32 b) = decide (a ≤ b) := by
    rw [BitVec.sle_eq_decide, BitVec.toInt_eq_toNat_of_lt (by simp; omega), BitVec.toInt_eq_toNat_of_lt (by simp; omega)]
    simp only [BitVec.toNat_ofNat]
    rw [Nat.mod_eq_of_lt (by omega), Nat.mod_eq_of_lt (by omega)]
    simp
  by_cases hab : a ≤ b <;> simp [IntOp.cmpi, h, hab]

theorem sel0 {α : Type} {x y : α} (i : Fin 512) (j : Fin 512) :
    Scalar.select (IntOp.cmpi CmpIPredicate.sle (IntOp.addi (BitVec.ofNat 32 j.val) 0#32) (IntOp.addi (BitVec.ofNat 32 i.val) 0#32)) x y
      = if j.val ≤ 0 + i.val then x else y := by
  have hi := i.isLt
  have hj := j.isLt
  simp only [IntOp.addi, BitVec.add_zero, zero_add]
  rw [sle_nat _ _ (by omega) (by omega)]
  split_ifs <;> rfl

theorem sel512 {α : Type} {x y : α} (i : Fin 512) (j : Fin 1024) :
    Scalar.select (IntOp.cmpi CmpIPredicate.sle (IntOp.addi (BitVec.ofNat 32 j.val) 0#32) (IntOp.addi (BitVec.ofNat 32 i.val) 512#32)) x y
      = if j.val ≤ 512 + i.val then x else y := by
  have hi := i.isLt
  have hj := j.isLt
  have h : IntOp.addi (BitVec.ofNat 32 i.val) 512#32 = BitVec.ofNat 32 (512 + i.val) := by
    simp only [IntOp.addi]; rw [Nat.add_comm, BitVec.ofNat_add]
  simp only [h]
  simp only [IntOp.addi, BitVec.add_zero]
  rw [sle_nat _ _ (by omega) (by omega)]
  split_ifs <;> rfl

/-! Each payload at real operands: what it holds at each index. -/

theorem r1  :
    R3 (k0_pay1 (F := Ideal)) (fun _ _ _ => 0) := by
  intro a i j
  pointwise [k0_pay1]
  simp only [cs2, cs1, csw, dite_eq_ite, ite_self, sel0, sel512, ← EReal.coe_mul, ← EReal.coe_sub, ← EReal.coe_add, ← coe_fsum, ex2, ← EReal.coe_zero, ← coe_ite] <;> first | rfl | (simp only [mk, eT, xT, dT, oT]; rfl)

theorem r2  :
    R3 (k0_pay2 (F := Ideal)) (fun _ _ _ => 0) := by
  intro a i j
  pointwise [k0_pay2]
  simp only [cs2, cs1, csw, dite_eq_ite, ite_self, sel0, sel512, ← EReal.coe_mul, ← EReal.coe_sub, ← EReal.coe_add, ← coe_fsum, ex2, ← EReal.coe_zero, ← coe_ite] <;> first | rfl | (simp only [mk, eT, xT, dT, oT]; rfl)

theorem r3  :
    R3 (k0_pay3 (F := Ideal)) (fun _ _ _ => 0) := by
  intro a i j
  pointwise [k0_pay3]
  simp only [cs2, cs1, csw, dite_eq_ite, ite_self, sel0, sel512, ← EReal.coe_mul, ← EReal.coe_sub, ← EReal.coe_add, ← coe_fsum, ex2, ← EReal.coe_zero, ← coe_ite] <;> first | rfl | (simp only [mk, eT, xT, dT, oT]; rfl)

theorem r4  :
    R3 (k0_pay4 (F := Ideal)) (fun _ _ _ => 0) := by
  intro a i j
  pointwise [k0_pay4]
  simp only [cs2, cs1, csw, dite_eq_ite, ite_self, sel0, sel512, ← EReal.coe_mul, ← EReal.coe_sub, ← EReal.coe_add, ← coe_fsum, ex2, ← EReal.coe_zero, ← coe_ite] <;> first | rfl | (simp only [mk, eT, xT, dT, oT]; rfl)

theorem r5  :
    R3 (k0_pay5 (F := Ideal)) (fun _ _ _ => 0) := by
  intro a i j
  obtain rfl : i = 0 := Subsingleton.elim _ _
  pointwise [k0_pay5]
  simp only [cs2, cs1, csw, dite_eq_ite, ite_self, sel0, sel512, ← EReal.coe_mul, ← EReal.coe_sub, ← EReal.coe_add, ← coe_fsum, ex2, ← EReal.coe_zero, ← coe_ite] <;> first | rfl | (simp only [mk, eT, xT, dT, oT]; rfl)

theorem r6 {v127 : FVec Ideal S1024x1024 .f32} {V127 : ℕ → ℕ → ℝ} {v156 : Vec Ideal S1x1x1024 .f32} {V156 : ℕ → ℕ → ℕ → ℝ} (h127 : R2 v127 V127) (h156 : R3 v156 V156) :
    R3 (k0_pay6 (F := Ideal) v127 v156) (fun _ _ j => V156 0 0 j - (∑ k : Fin 1024, V127 k j)) := by
  intro a i j
  obtain rfl : a = 0 := Subsingleton.elim _ _
  obtain rfl : i = 0 := Subsingleton.elim _ _
  pointwise [k0_pay6]
  simp only [h127 _ _, h156 _ _ _, cs2, cs1, csw, dite_eq_ite, ite_self, sel0, sel512, ← EReal.coe_mul, ← EReal.coe_sub, ← EReal.coe_add, ← coe_fsum, ex2, ← EReal.coe_zero, ← coe_ite] <;> first | rfl | (simp only [mk, eT, xT, dT, oT]; rfl)

theorem r7 {v127 : FVec Ideal S1024x1024 .f32} {V127 : ℕ → ℕ → ℝ} {v165 : Vec Ideal S1x1024x128 .f32} {V165 : ℕ → ℕ → ℕ → ℝ} (h127 : R2 v127 V127) (h165 : R3 v165 V165) :
    R3 (k0_pay7 (F := Ideal) v127 v165) (fun _ i j => V165 0 i j + (∑ k : Fin 1024, V127 i k)) := by
  intro a i j
  obtain rfl : a = 0 := Subsingleton.elim _ _
  pointwise [k0_pay7]
  simp only [h127 _ _, h165 _ _ _, cs2, cs1, csw, dite_eq_ite, ite_self, sel0, sel512, ← EReal.coe_mul, ← EReal.coe_sub, ← EReal.coe_add, ← coe_fsum, ex2, ← EReal.coe_zero, ← coe_ite] <;> first | rfl | (simp only [mk, eT, xT, dT, oT]; rfl)

theorem r8 {v22 : Vec Ideal S1x1024x128 .f32} {V22 : ℕ → ℕ → ℕ → ℝ} (h22 : R3 v22 V22) :
    R2 (k0_pay8 (F := Ideal) v22) (fun i j => V22 0 i j * wR) := by
  intro i j
  pointwise [k0_pay8]
  simp only [h22 _ _ _, cs2, cs1, csw, dite_eq_ite, ite_self, sel0, sel512, ← EReal.coe_mul, ← EReal.coe_sub, ← EReal.coe_add, ← coe_fsum, ex2, ← EReal.coe_zero, ← coe_ite] <;> first | rfl | (simp only [mk, eT, xT, dT, oT]; rfl)

theorem r9 {v28 : Vec Ideal S1x1024x128 .f32} {V28 : ℕ → ℕ → ℕ → ℝ} (h28 : R3 v28 V28) :
    R2 (k0_pay9 (F := Ideal) v28) (fun i j => V28 0 i j) := by
  intro i j
  pointwise [k0_pay9]
  simp only [h28 _ _ _, cs2, cs1, csw, dite_eq_ite, ite_self, sel0, sel512, ← EReal.coe_mul, ← EReal.coe_sub, ← EReal.coe_add, ← coe_fsum, ex2, ← EReal.coe_zero, ← coe_ite] <;> first | rfl | (simp only [mk, eT, xT, dT, oT]; rfl)

theorem r10 {v32 : Vec Ideal S1x1024x128 .f32} {V32 : ℕ → ℕ → ℕ → ℝ} (h32 : R3 v32 V32) :
    R2 (k0_pay10 (F := Ideal) v32) (fun i j => V32 0 i j * wR) := by
  intro i j
  pointwise [k0_pay10]
  simp only [h32 _ _ _, cs2, cs1, csw, dite_eq_ite, ite_self, sel0, sel512, ← EReal.coe_mul, ← EReal.coe_sub, ← EReal.coe_add, ← coe_fsum, ex2, ← EReal.coe_zero, ← coe_ite] <;> first | rfl | (simp only [mk, eT, xT, dT, oT]; rfl)

theorem r11 {v38 : Vec Ideal S1x1024x128 .f32} {V38 : ℕ → ℕ → ℕ → ℝ} (h38 : R3 v38 V38) :
    R2 (k0_pay11 (F := Ideal) v38) (fun i j => V38 0 i j) := by
  intro i j
  pointwise [k0_pay11]
  simp only [h38 _ _ _, cs2, cs1, csw, dite_eq_ite, ite_self, sel0, sel512, ← EReal.coe_mul, ← EReal.coe_sub, ← EReal.coe_add, ← coe_fsum, ex2, ← EReal.coe_zero, ← coe_ite] <;> first | rfl | (simp only [mk, eT, xT, dT, oT]; rfl)

theorem r12 {v22 : Vec Ideal S1x4096x128 .f32} {V22 : ℕ → ℕ → ℕ → ℝ} (h22 : R3 v22 V22) :
    R2 (k0_pay12 (F := Ideal) v22) (fun i j => V22 0 i j * wR) := by
  intro i j
  pointwise [k0_pay12]
  simp only [h22 _ _ _, cs2, cs1, csw, dite_eq_ite, ite_self, sel0, sel512, ← EReal.coe_mul, ← EReal.coe_sub, ← EReal.coe_add, ← coe_fsum, ex2, ← EReal.coe_zero, ← coe_ite] <;> first | rfl | (simp only [mk, eT, xT, dT, oT]; rfl)

theorem r13 {v28 : Vec Ideal S1x4096x128 .f32} {V28 : ℕ → ℕ → ℕ → ℝ} (h28 : R3 v28 V28) :
    R3 (k0_pay13 (F := Ideal) v28) (fun _ _ j => V28 0 j 0) := by
  intro a i j
  obtain rfl : a = 0 := Subsingleton.elim _ _
  obtain rfl : i = 0 := Subsingleton.elim _ _
  pointwise [k0_pay13]
  simp only [h28 _ _ _, cs2, cs1, csw, dite_eq_ite, ite_self, sel0, sel512, ← EReal.coe_mul, ← EReal.coe_sub, ← EReal.coe_add, ← coe_fsum, ex2, ← EReal.coe_zero, ← coe_ite] <;> first | rfl | (simp only [mk, eT, xT, dT, oT]; rfl)

theorem r14 {v35 : Vec Ideal S1x4096x128 .f32} {V35 : ℕ → ℕ → ℕ → ℝ} (h35 : R3 v35 V35) :
    R2 (k0_pay14 (F := Ideal) v35) (fun i j => V35 0 i j * wR) := by
  intro i j
  pointwise [k0_pay14]
  simp only [h35 _ _ _, cs2, cs1, csw, dite_eq_ite, ite_self, sel0, sel512, ← EReal.coe_mul, ← EReal.coe_sub, ← EReal.coe_add, ← coe_fsum, ex2, ← EReal.coe_zero, ← coe_ite] <;> first | rfl | (simp only [mk, eT, xT, dT, oT]; rfl)

theorem r15 {v41 : Vec Ideal S1x4096x128 .f32} {V41 : ℕ → ℕ → ℕ → ℝ} (h41 : R3 v41 V41) :
    R3 (k0_pay15 (F := Ideal) v41) (fun _ _ j => V41 0 j 0) := by
  intro a i j
  obtain rfl : a = 0 := Subsingleton.elim _ _
  obtain rfl : i = 0 := Subsingleton.elim _ _
  pointwise [k0_pay15]
  simp only [h41 _ _ _, cs2, cs1, csw, dite_eq_ite, ite_self, sel0, sel512, ← EReal.coe_mul, ← EReal.coe_sub, ← EReal.coe_add, ← coe_fsum, ex2, ← EReal.coe_zero, ← coe_ite] <;> first | rfl | (simp only [mk, eT, xT, dT, oT]; rfl)

theorem r16 {v22 : Vec Ideal S1024x128 .bf16} {V22 : ℕ → ℕ → ℝ} {v23 : Vec Ideal S1024x128 .bf16} {V23 : ℕ → ℕ → ℝ} {v33 : Vec Ideal S1x1x1024 .f32} {V33 : ℕ → ℕ → ℕ → ℝ} {v42 : Vec Ideal S1x1024x128 .f32} {V42 : ℕ → ℕ → ℝ} (h22 : R2 v22 V22) (h23 : R2 v23 V23) (h33 : R3 v33 V33) (h42 : R3 v42 (fun a b _ => V42 a b)) :
    R2 (k0_pay16 (F := Ideal) v22 v23 v33 v42) (fun i j => eT V22 V23 (V33 0 0) (V42 0) i j) := by
  intro i j
  pointwise [k0_pay16]
  simp only [h22 _ _, h23 _ _, h33 _ _ _, h42 _ _ _, cs2, cs1, csw, dite_eq_ite, ite_self, sel0, sel512, ← EReal.coe_mul, ← EReal.coe_sub, ← EReal.coe_add, ← coe_fsum, ex2, ← EReal.coe_zero, ← coe_ite] <;> first | rfl | (simp only [mk, eT, xT, dT, oT]; rfl)

theorem r17 {v22 : Vec Ideal S1024x128 .bf16} {V22 : ℕ → ℕ → ℝ} {v23 : Vec Ideal S1024x128 .bf16} {V23 : ℕ → ℕ → ℝ} {v24 : Vec Ideal S1024x128 .bf16} {V24 : ℕ → ℕ → ℝ} {v25 : Vec Ideal S1024x128 .bf16} {V25 : ℕ → ℕ → ℝ} {v27 : Vec Ideal S1024x128 .bf16} {V27 : ℕ → ℕ → ℝ} {v33 : Vec Ideal S1x1x1024 .f32} {V33 : ℕ → ℕ → ℕ → ℝ} {v42 : Vec Ideal S1x1024x128 .f32} {V42 : ℕ → ℕ → ℝ} (h22 : R2 v22 V22) (h23 : R2 v23 V23) (h24 : R2 v24 V24) (h25 : R2 v25 V25) (h27 : R2 v27 V27) (h33 : R3 v33 V33) (h42 : R3 v42 (fun a b _ => V42 a b)) :
    R2 (k0_pay17 (F := Ideal) v22 v23 v24 v25 v27 v33 v42) (fun i j => (eT V22 V23 (V33 0 0) (V42 0) i j * (dT V25 V24 i j - oT V25 V27 i))) := by
  intro i j
  pointwise [k0_pay17]
  simp only [(r16 h22 h23 h33 h42) _ _, h22 _ _, h23 _ _, h24 _ _, h25 _ _, h27 _ _, h33 _ _ _, h42 _ _ _, cs2, cs1, csw, dite_eq_ite, ite_self, sel0, sel512, ← EReal.coe_mul, ← EReal.coe_sub, ← EReal.coe_add, ← coe_fsum, ex2, ← EReal.coe_zero, ← coe_ite] <;> first | rfl | (simp only [mk, eT, xT, dT, oT]; rfl)

theorem r18 {v22 : Vec Ideal S1024x128 .bf16} {V22 : ℕ → ℕ → ℝ} {v23 : Vec Ideal S1024x128 .bf16} {V23 : ℕ → ℕ → ℝ} {v24 : Vec Ideal S1024x128 .bf16} {V24 : ℕ → ℕ → ℝ} {v25 : Vec Ideal S1024x128 .bf16} {V25 : ℕ → ℕ → ℝ} {v27 : Vec Ideal S1024x128 .bf16} {V27 : ℕ → ℕ → ℝ} {v33 : Vec Ideal S1x1x1024 .f32} {V33 : ℕ → ℕ → ℕ → ℝ} {v42 : Vec Ideal S1x1024x128 .f32} {V42 : ℕ → ℕ → ℝ} (h22 : R2 v22 V22) (h23 : R2 v23 V23) (h24 : R2 v24 V24) (h25 : R2 v25 V25) (h27 : R2 v27 V27) (h33 : R3 v33 V33) (h42 : R3 v42 (fun a b _ => V42 a b)) :
    R2 (k0_pay18 (F := Ideal) v22 v23 v24 v25 v27 v33 v42) (fun i j => (eT V22 V23 (V33 0 0) (V42 0) i j * (dT V25 V24 i j - oT V25 V27 i))) := by
  intro i j
  pointwise [k0_pay18]
  simp only [(r17 h22 h23 h24 h25 h27 h33 h42) _ _, h22 _ _, h23 _ _, h24 _ _, h25 _ _, h27 _ _, h33 _ _ _, h42 _ _ _, cs2, cs1, csw, dite_eq_ite, ite_self, sel0, sel512, ← EReal.coe_mul, ← EReal.coe_sub, ← EReal.coe_add, ← coe_fsum, ex2, ← EReal.coe_zero, ← coe_ite] <;> first | rfl | (simp only [mk, eT, xT, dT, oT]; rfl)

theorem r19 {v22 : Vec Ideal S1024x128 .bf16} {V22 : ℕ → ℕ → ℝ} {v23 : Vec Ideal S1024x128 .bf16} {V23 : ℕ → ℕ → ℝ} {v25 : Vec Ideal S1024x128 .bf16} {V25 : ℕ → ℕ → ℝ} {v33 : Vec Ideal S1x1x1024 .f32} {V33 : ℕ → ℕ → ℕ → ℝ} {v42 : Vec Ideal S1x1024x128 .f32} {V42 : ℕ → ℕ → ℝ} {v52 : Vec Ideal S1x1024x128 .f32} {V52 : ℕ → ℕ → ℕ → ℝ} (h22 : R2 v22 V22) (h23 : R2 v23 V23) (h25 : R2 v25 V25) (h33 : R3 v33 V33) (h42 : R3 v42 (fun a b _ => V42 a b)) (h52 : R3 v52 V52) :
    R2 (k0_pay19 (F := Ideal) v22 v23 v25 v33 v42 v52) (fun i j => V52 0 i j + (∑ k : Fin 1024, eT V22 V23 (V33 0 0) (V42 0) k i * V25 k j)) := by
  intro i j
  pointwise [k0_pay19]
  simp only [(r16 h22 h23 h33 h42) _ _, h22 _ _, h23 _ _, h25 _ _, h33 _ _ _, h42 _ _ _, h52 _ _ _, cs2, cs1, csw, dite_eq_ite, ite_self, sel0, sel512, ← EReal.coe_mul, ← EReal.coe_sub, ← EReal.coe_add, ← coe_fsum, ex2, ← EReal.coe_zero, ← coe_ite] <;> first | rfl | (simp only [mk, eT, xT, dT, oT]; rfl)

theorem r20 {v56 : FVec Ideal S1024x128 .f32} {V56 : ℕ → ℕ → ℝ} (h56 : R2 v56 V56) :
    R3 (k0_pay20 (F := Ideal) v56) (fun _ i j => V56 i j) := by
  intro a i j
  obtain rfl : a = 0 := Subsingleton.elim _ _
  pointwise [k0_pay20]
  simp only [h56 _ _, cs2, cs1, csw, dite_eq_ite, ite_self, sel0, sel512, ← EReal.coe_mul, ← EReal.coe_sub, ← EReal.coe_add, ← coe_fsum, ex2, ← EReal.coe_zero, ← coe_ite] <;> first | rfl | (simp only [mk, eT, xT, dT, oT]; rfl)

theorem r21 {v22 : Vec Ideal S1024x128 .bf16} {V22 : ℕ → ℕ → ℝ} {v51 : FVec Ideal S1024x1024 .bf16} {V51 : ℕ → ℕ → ℝ} {v60 : Vec Ideal S1x1024x128 .f32} {V60 : ℕ → ℕ → ℕ → ℝ} (h22 : R2 v22 V22) (h51 : R2 v51 V51) (h60 : R3 v60 V60) :
    R3 (k0_pay21 (F := Ideal) v22 v51 v60) (fun _ i j => V60 0 i j + (∑ k : Fin 1024, V51 k i * V22 k j)) := by
  intro a i j
  obtain rfl : a = 0 := Subsingleton.elim _ _
  pointwise [k0_pay21]
  simp only [h22 _ _, h51 _ _, h60 _ _ _, cs2, cs1, csw, dite_eq_ite, ite_self, sel0, sel512, ← EReal.coe_mul, ← EReal.coe_sub, ← EReal.coe_add, ← coe_fsum, ex2, ← EReal.coe_zero, ← coe_ite] <;> first | rfl | (simp only [mk, eT, xT, dT, oT]; rfl)

theorem r22 {v23 : Vec Ideal S1024x128 .bf16} {V23 : ℕ → ℕ → ℝ} {v51 : FVec Ideal S1024x1024 .bf16} {V51 : ℕ → ℕ → ℝ} {v71 : Vec Ideal S1x1024x128 .f32} {V71 : ℕ → ℕ → ℕ → ℝ} (h23 : R2 v23 V23) (h51 : R2 v51 V51) (h71 : R3 v71 V71) :
    R3 (k0_pay22 (F := Ideal) v23 v51 v71) (fun _ i j => V71 0 i j + (∑ k : Fin 1024, V51 i k * V23 k j)) := by
  intro a i j
  obtain rfl : a = 0 := Subsingleton.elim _ _
  pointwise [k0_pay22]
  simp only [h23 _ _, h51 _ _, h71 _ _ _, cs2, cs1, csw, dite_eq_ite, ite_self, sel0, sel512, ← EReal.coe_mul, ← EReal.coe_sub, ← EReal.coe_add, ← coe_fsum, ex2, ← EReal.coe_zero, ← coe_ite] <;> first | rfl | (simp only [mk, eT, xT, dT, oT]; rfl)

theorem r23 {v50 : FVec Ideal S1024x1024 .f32} {V50 : ℕ → ℕ → ℝ} {v79 : Vec Ideal S1x1x1024 .f32} {V79 : ℕ → ℕ → ℕ → ℝ} (h50 : R2 v50 V50) (h79 : R3 v79 V79) :
    R3 (k0_pay23 (F := Ideal) v50 v79) (fun _ _ j => V79 0 0 j - (∑ k : Fin 1024, V50 k j)) := by
  intro a i j
  obtain rfl : a = 0 := Subsingleton.elim _ _
  obtain rfl : i = 0 := Subsingleton.elim _ _
  pointwise [k0_pay23]
  simp only [h50 _ _, h79 _ _ _, cs2, cs1, csw, dite_eq_ite, ite_self, sel0, sel512, ← EReal.coe_mul, ← EReal.coe_sub, ← EReal.coe_add, ← coe_fsum, ex2, ← EReal.coe_zero, ← coe_ite] <;> first | rfl | (simp only [mk, eT, xT, dT, oT]; rfl)

theorem r24 {v50 : FVec Ideal S1024x1024 .f32} {V50 : ℕ → ℕ → ℝ} {v88 : Vec Ideal S1x1024x128 .f32} {V88 : ℕ → ℕ → ℕ → ℝ} (h50 : R2 v50 V50) (h88 : R3 v88 V88) :
    R3 (k0_pay24 (F := Ideal) v50 v88) (fun _ i j => V88 0 i j + (∑ k : Fin 1024, V50 i k)) := by
  intro a i j
  obtain rfl : a = 0 := Subsingleton.elim _ _
  pointwise [k0_pay24]
  simp only [h50 _ _, h88 _ _ _, cs2, cs1, csw, dite_eq_ite, ite_self, sel0, sel512, ← EReal.coe_mul, ← EReal.coe_sub, ← EReal.coe_add, ← coe_fsum, ex2, ← EReal.coe_zero, ← coe_ite] <;> first | rfl | (simp only [mk, eT, xT, dT, oT]; rfl)

theorem r25 {v102 : Vec Ideal S1024x128 .bf16} {V102 : ℕ → ℕ → ℝ} {v104 : Vec Ideal S1024x128 .bf16} {V104 : ℕ → ℕ → ℝ} (h102 : R2 v102 V102) (h104 : R2 v104 V104) :
    R2 (k0_pay25 (F := Ideal) v102 v104) (fun i j => oT V102 V104 i) := by
  intro i j
  obtain rfl : j = 0 := Subsingleton.elim _ _
  pointwise [k0_pay25]
  simp only [h102 _ _, h104 _ _, cs2, cs1, csw, dite_eq_ite, ite_self, sel0, sel512, ← EReal.coe_mul, ← EReal.coe_sub, ← EReal.coe_add, ← coe_fsum, ex2, ← EReal.coe_zero, ← coe_ite] <;> first | rfl | (simp only [mk, eT, xT, dT, oT]; rfl)

theorem r26 {v99 : Vec Ideal S1024x128 .bf16} {V99 : ℕ → ℕ → ℝ} {v100 : Vec Ideal S1024x128 .bf16} {V100 : ℕ → ℕ → ℝ} {v110 : Vec Ideal S1x1x1024 .f32} {V110 : ℕ → ℕ → ℕ → ℝ} {v119 : Vec Ideal S1x1024x128 .f32} {V119 : ℕ → ℕ → ℝ} (h99 : R2 v99 V99) (h100 : R2 v100 V100) (h110 : R3 v110 V110) (h119 : R3 v119 (fun a b _ => V119 a b)) :
    R2 (k0_pay26 (F := Ideal) v99 v100 v110 v119) (fun i j => xT V99 V100 (V110 0 0) (V119 0) i j) := by
  intro i j
  pointwise [k0_pay26]
  simp only [h99 _ _, h100 _ _, h110 _ _ _, h119 _ _ _, cs2, cs1, csw, dite_eq_ite, ite_self, sel0, sel512, ← EReal.coe_mul, ← EReal.coe_sub, ← EReal.coe_add, ← coe_fsum, ex2, ← EReal.coe_zero, ← coe_ite] <;> first | rfl | (simp only [mk, eT, xT, dT, oT]; rfl)

theorem r27 {v122 : FVec Ideal S1024x1024 .f32} {V122 : ℕ → ℕ → ℝ} (h122 : R2 v122 V122) :
    R2 (k0_pay27 (F := Ideal) v122) (fun i j => (2 : ℝ) ^ (V122 i j)) := by
  intro i j
  pointwise [k0_pay27]
  simp only [h122 _ _, cs2, cs1, csw, dite_eq_ite, ite_self, sel0, sel512, ← EReal.coe_mul, ← EReal.coe_sub, ← EReal.coe_add, ← coe_fsum, ex2, ← EReal.coe_zero, ← coe_ite] <;> first | rfl | (simp only [mk, eT, xT, dT, oT]; rfl)

theorem r28 {v101 : Vec Ideal S1024x128 .bf16} {V101 : ℕ → ℕ → ℝ} {v102 : Vec Ideal S1024x128 .bf16} {V102 : ℕ → ℕ → ℝ} {v109 : FVec Ideal S1024x1 .f32} {V109 : ℕ → ℕ → ℝ} {v122 : FVec Ideal S1024x1024 .f32} {V122 : ℕ → ℕ → ℝ} (h101 : R2 v101 V101) (h102 : R2 v102 V102) (h109 : R2 v109 V109) (h122 : R2 v122 V122) :
    R2 (k0_pay28 (F := Ideal) v101 v102 v109 v122) (fun i j => ((2 : ℝ) ^ (V122 i j) * (dT V102 V101 i j - V109 i 0))) := by
  intro i j
  pointwise [k0_pay28]
  simp only [(r27 h122) _ _, h101 _ _, h102 _ _, h109 _ _, h122 _ _, cs2, cs1, csw, dite_eq_ite, ite_self, sel0, sel512, ← EReal.coe_mul, ← EReal.coe_sub, ← EReal.coe_add, ← coe_fsum, ex2, ← EReal.coe_zero, ← coe_ite] <;> first | rfl | (simp only [mk, eT, xT, dT, oT]; rfl)

theorem r29 {v101 : Vec Ideal S1024x128 .bf16} {V101 : ℕ → ℕ → ℝ} {v102 : Vec Ideal S1024x128 .bf16} {V102 : ℕ → ℕ → ℝ} {v109 : FVec Ideal S1024x1 .f32} {V109 : ℕ → ℕ → ℝ} {v122 : FVec Ideal S1024x1024 .f32} {V122 : ℕ → ℕ → ℝ} (h101 : R2 v101 V101) (h102 : R2 v102 V102) (h109 : R2 v109 V109) (h122 : R2 v122 V122) :
    R2 (k0_pay29 (F := Ideal) v101 v102 v109 v122) (fun i j => ((2 : ℝ) ^ (V122 i j) * (dT V102 V101 i j - V109 i 0))) := by
  intro i j
  pointwise [k0_pay29]
  simp only [(r28 h101 h102 h109 h122) _ _, h101 _ _, h102 _ _, h109 _ _, h122 _ _, cs2, cs1, csw, dite_eq_ite, ite_self, sel0, sel512, ← EReal.coe_mul, ← EReal.coe_sub, ← EReal.coe_add, ← coe_fsum, ex2, ← EReal.coe_zero, ← coe_ite] <;> first | rfl | (simp only [mk, eT, xT, dT, oT]; rfl)

theorem r30 {v102 : Vec Ideal S1024x128 .bf16} {V102 : ℕ → ℕ → ℝ} {v122 : FVec Ideal S1024x1024 .f32} {V122 : ℕ → ℕ → ℝ} {v129 : Vec Ideal S1x1024x128 .f32} {V129 : ℕ → ℕ → ℕ → ℝ} (h102 : R2 v102 V102) (h122 : R2 v122 V122) (h129 : R3 v129 V129) :
    R3 (k0_pay30 (F := Ideal) v102 v122 v129) (fun _ i j => V129 0 i j + (∑ k : Fin 1024, (2 : ℝ) ^ (V122 k i) * V102 k j)) := by
  intro a i j
  obtain rfl : a = 0 := Subsingleton.elim _ _
  pointwise [k0_pay30]
  simp only [(r27 h122) _ _, h102 _ _, h122 _ _, h129 _ _ _, cs2, cs1, csw, dite_eq_ite, ite_self, sel0, sel512, ← EReal.coe_mul, ← EReal.coe_sub, ← EReal.coe_add, ← coe_fsum, ex2, ← EReal.coe_zero, ← coe_ite] <;> first | rfl | (simp only [mk, eT, xT, dT, oT]; rfl)

theorem r31 {v99 : Vec Ideal S1024x128 .bf16} {V99 : ℕ → ℕ → ℝ} {v101 : Vec Ideal S1024x128 .bf16} {V101 : ℕ → ℕ → ℝ} {v102 : Vec Ideal S1024x128 .bf16} {V102 : ℕ → ℕ → ℝ} {v109 : FVec Ideal S1024x1 .f32} {V109 : ℕ → ℕ → ℝ} {v122 : FVec Ideal S1024x1024 .f32} {V122 : ℕ → ℕ → ℝ} {v137 : Vec Ideal S1x1024x128 .f32} {V137 : ℕ → ℕ → ℕ → ℝ} (h99 : R2 v99 V99) (h101 : R2 v101 V101) (h102 : R2 v102 V102) (h109 : R2 v109 V109) (h122 : R2 v122 V122) (h137 : R3 v137 V137) :
    R3 (k0_pay31 (F := Ideal) v99 v101 v102 v109 v122 v137) (fun _ i j => V137 0 i j + (∑ k : Fin 1024, ((2 : ℝ) ^ (V122 k i) * (dT V102 V101 k i - V109 k 0)) * V99 k j)) := by
  intro a i j
  obtain rfl : a = 0 := Subsingleton.elim _ _
  pointwise [k0_pay31]
  simp only [(r29 h101 h102 h109 h122) _ _, h99 _ _, h101 _ _, h102 _ _, h109 _ _, h122 _ _, h137 _ _ _, cs2, cs1, csw, dite_eq_ite, ite_self, sel0, sel512, ← EReal.coe_mul, ← EReal.coe_sub, ← EReal.coe_add, ← coe_fsum, ex2, ← EReal.coe_zero, ← coe_ite] <;> first | rfl | (simp only [mk, eT, xT, dT, oT]; rfl)

theorem r32 {v100 : Vec Ideal S1024x128 .bf16} {V100 : ℕ → ℕ → ℝ} {v101 : Vec Ideal S1024x128 .bf16} {V101 : ℕ → ℕ → ℝ} {v102 : Vec Ideal S1024x128 .bf16} {V102 : ℕ → ℕ → ℝ} {v109 : FVec Ideal S1024x1 .f32} {V109 : ℕ → ℕ → ℝ} {v122 : FVec Ideal S1024x1024 .f32} {V122 : ℕ → ℕ → ℝ} {v148 : Vec Ideal S1x1024x128 .f32} {V148 : ℕ → ℕ → ℕ → ℝ} (h100 : R2 v100 V100) (h101 : R2 v101 V101) (h102 : R2 v102 V102) (h109 : R2 v109 V109) (h122 : R2 v122 V122) (h148 : R3 v148 V148) :
    R3 (k0_pay32 (F := Ideal) v100 v101 v102 v109 v122 v148) (fun _ i j => V148 0 i j + (∑ k : Fin 1024, ((2 : ℝ) ^ (V122 i k) * (dT V102 V101 i k - V109 i 0)) * V100 k j)) := by
  intro a i j
  obtain rfl : a = 0 := Subsingleton.elim _ _
  pointwise [k0_pay32]
  simp only [(r29 h101 h102 h109 h122) _ _, h100 _ _, h101 _ _, h102 _ _, h109 _ _, h122 _ _, h148 _ _ _, cs2, cs1, csw, dite_eq_ite, ite_self, sel0, sel512, ← EReal.coe_mul, ← EReal.coe_sub, ← EReal.coe_add, ← coe_fsum, ex2, ← EReal.coe_zero, ← coe_ite] <;> first | rfl | (simp only [mk, eT, xT, dT, oT]; rfl)

theorem r33 {v22 : Vec Ideal S512x128 .bf16} {V22 : ℕ → ℕ → ℝ} {v23 : Vec Ideal S512x128 .bf16} {V23 : ℕ → ℕ → ℝ} {v33 : Vec Ideal S1x1x512 .f32} {V33 : ℕ → ℕ → ℕ → ℝ} {v42 : Vec Ideal S1x512x128 .f32} {V42 : ℕ → ℕ → ℝ} (h22 : R2 v22 V22) (h23 : R2 v23 V23) (h33 : R3 v33 V33) (h42 : R3 v42 (fun a b _ => V42 a b)) :
    R2 (k0_pay33 (F := Ideal) v22 v23 v33 v42) (fun i j => mk 0 (eT V22 V23 (V33 0 0) (V42 0)) i j) := by
  intro i j
  pointwise [k0_pay33]
  simp only [h22 _ _, h23 _ _, h33 _ _ _, h42 _ _ _, cs2, cs1, csw, dite_eq_ite, ite_self, sel0, sel512, ← EReal.coe_mul, ← EReal.coe_sub, ← EReal.coe_add, ← coe_fsum, ex2, ← EReal.coe_zero, ← coe_ite] <;> first | rfl | (simp only [mk, eT, xT, dT, oT]; rfl)

theorem r34 {v24 : Vec Ideal S512x128 .bf16} {V24 : ℕ → ℕ → ℝ} {v25 : Vec Ideal S512x128 .bf16} {V25 : ℕ → ℕ → ℝ} (h24 : R2 v24 V24) (h25 : R2 v25 V25) :
    R2 (k0_pay34 (F := Ideal) v24 v25) (fun i j => dT V25 V24 i j) := by
  intro i j
  pointwise [k0_pay34]
  simp only [h24 _ _, h25 _ _, cs2, cs1, csw, dite_eq_ite, ite_self, sel0, sel512, ← EReal.coe_mul, ← EReal.coe_sub, ← EReal.coe_add, ← coe_fsum, ex2, ← EReal.coe_zero, ← coe_ite] <;> first | rfl | (simp only [mk, eT, xT, dT, oT]; rfl)

theorem r35 {v25 : Vec Ideal S512x128 .bf16} {V25 : ℕ → ℕ → ℝ} {v27 : Vec Ideal S512x128 .bf16} {V27 : ℕ → ℕ → ℝ} (h25 : R2 v25 V25) (h27 : R2 v27 V27) :
    R2 (k0_pay35 (F := Ideal) v25 v27) (fun i j => oT V25 V27 i) := by
  intro i j
  pointwise [k0_pay35]
  simp only [h25 _ _, h27 _ _, cs2, cs1, csw, dite_eq_ite, ite_self, sel0, sel512, ← EReal.coe_mul, ← EReal.coe_sub, ← EReal.coe_add, ← coe_fsum, ex2, ← EReal.coe_zero, ← coe_ite] <;> first | rfl | (simp only [mk, eT, xT, dT, oT]; rfl)

theorem r36 {v55 : FVec Ideal S512x512 .f32} {V55 : ℕ → ℕ → ℝ} {v56 : FVec Ideal S512x512 .f32} {V56 : ℕ → ℕ → ℝ} {v57 : FVec Ideal S512x512 .f32} {V57 : ℕ → ℕ → ℝ} (h55 : R2 v55 V55) (h56 : R2 v56 V56) (h57 : R2 v57 V57) :
    R2 (k0_pay36 (F := Ideal) v55 v56 v57) (fun i j => (V55 i j * (V56 i j - V57 i j))) := by
  intro i j
  pointwise [k0_pay36]
  simp only [h55 _ _, h56 _ _, h57 _ _, cs2, cs1, csw, dite_eq_ite, ite_self, sel0, sel512, ← EReal.coe_mul, ← EReal.coe_sub, ← EReal.coe_add, ← coe_fsum, ex2, ← EReal.coe_zero, ← coe_ite] <;> first | rfl | (simp only [mk, eT, xT, dT, oT]; rfl)

theorem r37 {v55 : FVec Ideal S512x512 .f32} {V55 : ℕ → ℕ → ℝ} {v56 : FVec Ideal S512x512 .f32} {V56 : ℕ → ℕ → ℝ} {v57 : FVec Ideal S512x512 .f32} {V57 : ℕ → ℕ → ℝ} (h55 : R2 v55 V55) (h56 : R2 v56 V56) (h57 : R2 v57 V57) :
    R2 (k0_pay37 (F := Ideal) v55 v56 v57) (fun i j => (V55 i j * (V56 i j - V57 i j))) := by
  intro i j
  pointwise [k0_pay37]
  simp only [(r36 h55 h56 h57) _ _, h55 _ _, h56 _ _, h57 _ _, cs2, cs1, csw, dite_eq_ite, ite_self, sel0, sel512, ← EReal.coe_mul, ← EReal.coe_sub, ← EReal.coe_add, ← coe_fsum, ex2, ← EReal.coe_zero, ← coe_ite] <;> first | rfl | (simp only [mk, eT, xT, dT, oT]; rfl)

theorem r38 {v25 : Vec Ideal S512x128 .bf16} {V25 : ℕ → ℕ → ℝ} {v55 : FVec Ideal S512x512 .f32} {V55 : ℕ → ℕ → ℝ} {v61 : Vec Ideal S1x512x128 .f32} {V61 : ℕ → ℕ → ℕ → ℝ} (h25 : R2 v25 V25) (h55 : R2 v55 V55) (h61 : R3 v61 V61) :
    R3 (k0_pay38 (F := Ideal) v25 v55 v61) (fun _ i j => V61 0 i j + (∑ k : Fin 512, V55 k i * V25 k j)) := by
  intro a i j
  obtain rfl : a = 0 := Subsingleton.elim _ _
  pointwise [k0_pay38]
  simp only [h25 _ _, h55 _ _, h61 _ _ _, cs2, cs1, csw, dite_eq_ite, ite_self, sel0, sel512, ← EReal.coe_mul, ← EReal.coe_sub, ← EReal.coe_add, ← coe_fsum, ex2, ← EReal.coe_zero, ← coe_ite] <;> first | rfl | (simp only [mk, eT, xT, dT, oT]; rfl)

theorem r39 {v22 : Vec Ideal S512x128 .bf16} {V22 : ℕ → ℕ → ℝ} {v55 : FVec Ideal S512x512 .f32} {V55 : ℕ → ℕ → ℝ} {v56 : FVec Ideal S512x512 .f32} {V56 : ℕ → ℕ → ℝ} {v57 : FVec Ideal S512x512 .f32} {V57 : ℕ → ℕ → ℝ} {v69 : Vec Ideal S1x512x128 .f32} {V69 : ℕ → ℕ → ℕ → ℝ} (h22 : R2 v22 V22) (h55 : R2 v55 V55) (h56 : R2 v56 V56) (h57 : R2 v57 V57) (h69 : R3 v69 V69) :
    R3 (k0_pay39 (F := Ideal) v22 v55 v56 v57 v69) (fun _ i j => V69 0 i j + (∑ k : Fin 512, (V55 k i * (V56 k i - V57 k i)) * V22 k j)) := by
  intro a i j
  obtain rfl : a = 0 := Subsingleton.elim _ _
  pointwise [k0_pay39]
  simp only [(r37 h55 h56 h57) _ _, h22 _ _, h55 _ _, h56 _ _, h57 _ _, h69 _ _ _, cs2, cs1, csw, dite_eq_ite, ite_self, sel0, sel512, ← EReal.coe_mul, ← EReal.coe_sub, ← EReal.coe_add, ← coe_fsum, ex2, ← EReal.coe_zero, ← coe_ite] <;> first | rfl | (simp only [mk, eT, xT, dT, oT]; rfl)

theorem r40 {v23 : Vec Ideal S512x128 .bf16} {V23 : ℕ → ℕ → ℝ} {v55 : FVec Ideal S512x512 .f32} {V55 : ℕ → ℕ → ℝ} {v56 : FVec Ideal S512x512 .f32} {V56 : ℕ → ℕ → ℝ} {v57 : FVec Ideal S512x512 .f32} {V57 : ℕ → ℕ → ℝ} {v80 : Vec Ideal S1x512x128 .f32} {V80 : ℕ → ℕ → ℕ → ℝ} (h23 : R2 v23 V23) (h55 : R2 v55 V55) (h56 : R2 v56 V56) (h57 : R2 v57 V57) (h80 : R3 v80 V80) :
    R3 (k0_pay40 (F := Ideal) v23 v55 v56 v57 v80) (fun _ i j => V80 0 i j + (∑ k : Fin 512, (V55 i k * (V56 i k - V57 i k)) * V23 k j)) := by
  intro a i j
  obtain rfl : a = 0 := Subsingleton.elim _ _
  pointwise [k0_pay40]
  simp only [(r37 h55 h56 h57) _ _, h23 _ _, h55 _ _, h56 _ _, h57 _ _, h80 _ _ _, cs2, cs1, csw, dite_eq_ite, ite_self, sel0, sel512, ← EReal.coe_mul, ← EReal.coe_sub, ← EReal.coe_add, ← coe_fsum, ex2, ← EReal.coe_zero, ← coe_ite] <;> first | rfl | (simp only [mk, eT, xT, dT, oT]; rfl)

theorem r41 {v88 : Vec Ideal S1x1x512 .f32} {V88 : ℕ → ℕ → ℕ → ℝ} (h88 : R3 v88 V88) :
    R2 (k0_pay41 (F := Ideal) v88) (fun i j => V88 0 0 j) := by
  intro i j
  obtain rfl : i = 0 := Subsingleton.elim _ _
  pointwise [k0_pay41]
  simp only [h88 _ _ _, cs2, cs1, csw, dite_eq_ite, ite_self, sel0, sel512, ← EReal.coe_mul, ← EReal.coe_sub, ← EReal.coe_add, ← coe_fsum, ex2, ← EReal.coe_zero, ← coe_ite] <;> first | rfl | (simp only [mk, eT, xT, dT, oT]; rfl)

theorem r42 {v59 : FVec Ideal S512x512 .f32} {V59 : ℕ → ℕ → ℝ} {v89 : FVec Ideal S1x512 .f32} {V89 : ℕ → ℕ → ℝ} (h59 : R2 v59 V59) (h89 : R2 v89 V89) :
    R3 (k0_pay42 (F := Ideal) v59 v89) (fun _ _ j => V89 0 j - (∑ k : Fin 512, V59 k j)) := by
  intro a i j
  obtain rfl : a = 0 := Subsingleton.elim _ _
  obtain rfl : i = 0 := Subsingleton.elim _ _
  pointwise [k0_pay42]
  simp only [h59 _ _, h89 _ _, cs2, cs1, csw, dite_eq_ite, ite_self, sel0, sel512, ← EReal.coe_mul, ← EReal.coe_sub, ← EReal.coe_add, ← coe_fsum, ex2, ← EReal.coe_zero, ← coe_ite] <;> first | rfl | (simp only [mk, eT, xT, dT, oT]; rfl)

theorem r43 {v59 : FVec Ideal S512x512 .f32} {V59 : ℕ → ℕ → ℝ} {v97 : Vec Ideal S1x512x128 .f32} {V97 : ℕ → ℕ → ℕ → ℝ} (h59 : R2 v59 V59) (h97 : R3 v97 V97) :
    R3 (k0_pay43 (F := Ideal) v59 v97) (fun _ i j => V97 0 i j + (∑ k : Fin 512, V59 i k)) := by
  intro a i j
  obtain rfl : a = 0 := Subsingleton.elim _ _
  pointwise [k0_pay43]
  simp only [h59 _ _, h97 _ _ _, cs2, cs1, csw, dite_eq_ite, ite_self, sel0, sel512, ← EReal.coe_mul, ← EReal.coe_sub, ← EReal.coe_add, ← coe_fsum, ex2, ← EReal.coe_zero, ← coe_ite] <;> first | rfl | (simp only [mk, eT, xT, dT, oT]; rfl)

theorem r44 {v111 : Vec Ideal S512x128 .bf16} {V111 : ℕ → ℕ → ℝ} {v113 : Vec Ideal S512x128 .bf16} {V113 : ℕ → ℕ → ℝ} (h111 : R2 v111 V111) (h113 : R2 v113 V113) :
    R2 (k0_pay44 (F := Ideal) v111 v113) (fun i j => oT V111 V113 i) := by
  intro i j
  obtain rfl : j = 0 := Subsingleton.elim _ _
  pointwise [k0_pay44]
  simp only [h111 _ _, h113 _ _, cs2, cs1, csw, dite_eq_ite, ite_self, sel0, sel512, ← EReal.coe_mul, ← EReal.coe_sub, ← EReal.coe_add, ← coe_fsum, ex2, ← EReal.coe_zero, ← coe_ite] <;> first | rfl | (simp only [mk, eT, xT, dT, oT]; rfl)

theorem r45 {v119 : Vec Ideal S1x1x1024 .f32} {V119 : ℕ → ℕ → ℕ → ℝ} (h119 : R3 v119 V119) :
    R2 (k0_pay45 (F := Ideal) v119) (fun i j => V119 0 0 j) := by
  intro i j
  obtain rfl : i = 0 := Subsingleton.elim _ _
  pointwise [k0_pay45]
  simp only [h119 _ _ _, cs2, cs1, csw, dite_eq_ite, ite_self, sel0, sel512, ← EReal.coe_mul, ← EReal.coe_sub, ← EReal.coe_add, ← coe_fsum, ex2, ← EReal.coe_zero, ← coe_ite] <;> first | rfl | (simp only [mk, eT, xT, dT, oT]; rfl)

theorem r46 {v108 : Vec Ideal S512x128 .bf16} {V108 : ℕ → ℕ → ℝ} {v109 : Vec Ideal S1024x128 .bf16} {V109 : ℕ → ℕ → ℝ} (h108 : R2 v108 V108) (h109 : R2 v109 V109) :
    R2 (k0_pay46 (F := Ideal) v108 v109) (fun i j => dT V108 V109 i j * kS) := by
  intro i j
  pointwise [k0_pay46]
  simp only [h108 _ _, h109 _ _, cs2, cs1, csw, dite_eq_ite, ite_self, sel0, sel512, ← EReal.coe_mul, ← EReal.coe_sub, ← EReal.coe_add, ← coe_fsum, ex2, ← EReal.coe_zero, ← coe_ite] <;> first | rfl | (simp only [mk, eT, xT, dT, oT]; rfl)

theorem r47 {v120 : FVec Ideal S1x1024 .f32} {V120 : ℕ → ℕ → ℝ} {v123 : FVec Ideal S512x1024 .f32} {V123 : ℕ → ℕ → ℝ} {v128 : Vec Ideal S1x512x128 .f32} {V128 : ℕ → ℕ → ℝ} (h120 : R2 v120 V120) (h123 : R2 v123 V123) (h128 : R3 v128 (fun a b _ => V128 a b)) :
    R2 (k0_pay47 (F := Ideal) v120 v123 v128) (fun i j => mk 512 (fun a b => (2 : ℝ) ^ (V123 a b - V120 0 b * kL - V128 0 a)) i j) := by
  intro i j
  pointwise [k0_pay47]
  simp only [h120 _ _, h123 _ _, h128 _ _ _, cs2, cs1, csw, dite_eq_ite, ite_self, sel0, sel512, ← EReal.coe_mul, ← EReal.coe_sub, ← EReal.coe_add, ← coe_fsum, ex2, ← EReal.coe_zero, ← coe_ite] <;> first | rfl | (simp only [mk, eT, xT, dT, oT]; rfl)

theorem r48 {v110 : Vec Ideal S1024x128 .bf16} {V110 : ℕ → ℕ → ℝ} {v111 : Vec Ideal S512x128 .bf16} {V111 : ℕ → ℕ → ℝ} {v118 : FVec Ideal S512x1 .f32} {V118 : ℕ → ℕ → ℝ} {v120 : FVec Ideal S1x1024 .f32} {V120 : ℕ → ℕ → ℝ} {v123 : FVec Ideal S512x1024 .f32} {V123 : ℕ → ℕ → ℝ} {v128 : Vec Ideal S1x512x128 .f32} {V128 : ℕ → ℕ → ℝ} (h110 : R2 v110 V110) (h111 : R2 v111 V111) (h118 : R2 v118 V118) (h120 : R2 v120 V120) (h123 : R2 v123 V123) (h128 : R3 v128 (fun a b _ => V128 a b)) :
    R2 (k0_pay48 (F := Ideal) v110 v111 v118 v120 v123 v128) (fun i j => (mk 512 (fun a b => (2 : ℝ) ^ (V123 a b - V120 0 b * kL - V128 0 a)) i j * (dT V111 V110 i j - V118 i 0))) := by
  intro i j
  pointwise [k0_pay48]
  simp only [(r47 h120 h123 h128) _ _, h110 _ _, h111 _ _, h118 _ _, h120 _ _, h123 _ _, h128 _ _ _, cs2, cs1, csw, dite_eq_ite, ite_self, sel0, sel512, ← EReal.coe_mul, ← EReal.coe_sub, ← EReal.coe_add, ← coe_fsum, ex2, ← EReal.coe_zero, ← coe_ite] <;> first | rfl | (simp only [mk, eT, xT, dT, oT]; rfl)

theorem r49 {v110 : Vec Ideal S1024x128 .bf16} {V110 : ℕ → ℕ → ℝ} {v111 : Vec Ideal S512x128 .bf16} {V111 : ℕ → ℕ → ℝ} {v118 : FVec Ideal S512x1 .f32} {V118 : ℕ → ℕ → ℝ} {v120 : FVec Ideal S1x1024 .f32} {V120 : ℕ → ℕ → ℝ} {v123 : FVec Ideal S512x1024 .f32} {V123 : ℕ → ℕ → ℝ} {v128 : Vec Ideal S1x512x128 .f32} {V128 : ℕ → ℕ → ℝ} (h110 : R2 v110 V110) (h111 : R2 v111 V111) (h118 : R2 v118 V118) (h120 : R2 v120 V120) (h123 : R2 v123 V123) (h128 : R3 v128 (fun a b _ => V128 a b)) :
    R2 (k0_pay49 (F := Ideal) v110 v111 v118 v120 v123 v128) (fun i j => (mk 512 (fun a b => (2 : ℝ) ^ (V123 a b - V120 0 b * kL - V128 0 a)) i j * (dT V111 V110 i j - V118 i 0))) := by
  intro i j
  pointwise [k0_pay49]
  simp only [(r48 h110 h111 h118 h120 h123 h128) _ _, h110 _ _, h111 _ _, h118 _ _, h120 _ _, h123 _ _, h128 _ _ _, cs2, cs1, csw, dite_eq_ite, ite_self, sel0, sel512, ← EReal.coe_mul, ← EReal.coe_sub, ← EReal.coe_add, ← coe_fsum, ex2, ← EReal.coe_zero, ← coe_ite] <;> first | rfl | (simp only [mk, eT, xT, dT, oT]; rfl)

theorem r50 {v111 : Vec Ideal S512x128 .bf16} {V111 : ℕ → ℕ → ℝ} {v120 : FVec Ideal S1x1024 .f32} {V120 : ℕ → ℕ → ℝ} {v123 : FVec Ideal S512x1024 .f32} {V123 : ℕ → ℕ → ℝ} {v128 : Vec Ideal S1x512x128 .f32} {V128 : ℕ → ℕ → ℝ} {v147 : Vec Ideal S1x1024x128 .f32} {V147 : ℕ → ℕ → ℕ → ℝ} (h111 : R2 v111 V111) (h120 : R2 v120 V120) (h123 : R2 v123 V123) (h128 : R3 v128 (fun a b _ => V128 a b)) (h147 : R3 v147 V147) :
    R3 (k0_pay50 (F := Ideal) v111 v120 v123 v128 v147) (fun _ i j => V147 0 i j + (∑ k : Fin 512, mk 512 (fun a b => (2 : ℝ) ^ (V123 a b - V120 0 b * kL - V128 0 a)) k i * V111 k j)) := by
  intro a i j
  obtain rfl : a = 0 := Subsingleton.elim _ _
  pointwise [k0_pay50]
  simp only [(r47 h120 h123 h128) _ _, h111 _ _, h120 _ _, h123 _ _, h128 _ _ _, h147 _ _ _, cs2, cs1, csw, dite_eq_ite, ite_self, sel0, sel512, ← EReal.coe_mul, ← EReal.coe_sub, ← EReal.coe_add, ← coe_fsum, ex2, ← EReal.coe_zero, ← coe_ite] <;> first | rfl | (simp only [mk, eT, xT, dT, oT]; rfl)

theorem r51 {v108 : Vec Ideal S512x128 .bf16} {V108 : ℕ → ℕ → ℝ} {v110 : Vec Ideal S1024x128 .bf16} {V110 : ℕ → ℕ → ℝ} {v111 : Vec Ideal S512x128 .bf16} {V111 : ℕ → ℕ → ℝ} {v118 : FVec Ideal S512x1 .f32} {V118 : ℕ → ℕ → ℝ} {v120 : FVec Ideal S1x1024 .f32} {V120 : ℕ → ℕ → ℝ} {v123 : FVec Ideal S512x1024 .f32} {V123 : ℕ → ℕ → ℝ} {v128 : Vec Ideal S1x512x128 .f32} {V128 : ℕ → ℕ → ℝ} {v155 : Vec Ideal S1x1024x128 .f32} {V155 : ℕ → ℕ → ℕ → ℝ} (h108 : R2 v108 V108) (h110 : R2 v110 V110) (h111 : R2 v111 V111) (h118 : R2 v118 V118) (h120 : R2 v120 V120) (h123 : R2 v123 V123) (h128 : R3 v128 (fun a b _ => V128 a b)) (h155 : R3 v155 V155) :
    R2 (k0_pay51 (F := Ideal) v108 v110 v111 v118 v120 v123 v128 v155) (fun i j => V155 0 i j + (∑ k : Fin 512, (mk 512 (fun a b => (2 : ℝ) ^ (V123 a b - V120 0 b * kL - V128 0 a)) k i * (dT V111 V110 k i - V118 k 0)) * V108 k j)) := by
  intro i j
  pointwise [k0_pay51]
  simp only [(r49 h110 h111 h118 h120 h123 h128) _ _, h108 _ _, h110 _ _, h111 _ _, h118 _ _, h120 _ _, h123 _ _, h128 _ _ _, h155 _ _ _, cs2, cs1, csw, dite_eq_ite, ite_self, sel0, sel512, ← EReal.coe_mul, ← EReal.coe_sub, ← EReal.coe_add, ← coe_fsum, ex2, ← EReal.coe_zero, ← coe_ite] <;> first | rfl | (simp only [mk, eT, xT, dT, oT]; rfl)

theorem r52 {v158 : FVec Ideal S1024x128 .f32} {V158 : ℕ → ℕ → ℝ} (h158 : R2 v158 V158) :
    R3 (k0_pay52 (F := Ideal) v158) (fun _ i j => V158 i j) := by
  intro a i j
  obtain rfl : a = 0 := Subsingleton.elim _ _
  pointwise [k0_pay52]
  simp only [h158 _ _, cs2, cs1, csw, dite_eq_ite, ite_self, sel0, sel512, ← EReal.coe_mul, ← EReal.coe_sub, ← EReal.coe_add, ← coe_fsum, ex2, ← EReal.coe_zero, ← coe_ite] <;> first | rfl | (simp only [mk, eT, xT, dT, oT]; rfl)

theorem r53 {v109 : Vec Ideal S1024x128 .bf16} {V109 : ℕ → ℕ → ℝ} {v146 : FVec Ideal S512x1024 .bf16} {V146 : ℕ → ℕ → ℝ} {v166 : Vec Ideal S1x512x128 .f32} {V166 : ℕ → ℕ → ℕ → ℝ} (h109 : R2 v109 V109) (h146 : R2 v146 V146) (h166 : R3 v166 V166) :
    R3 (k0_pay53 (F := Ideal) v109 v146 v166) (fun _ i j => V166 0 i j + (∑ k : Fin 1024, V146 i k * V109 k j)) := by
  intro a i j
  obtain rfl : a = 0 := Subsingleton.elim _ _
  pointwise [k0_pay53]
  simp only [h109 _ _, h146 _ _, h166 _ _ _, cs2, cs1, csw, dite_eq_ite, ite_self, sel0, sel512, ← EReal.coe_mul, ← EReal.coe_sub, ← EReal.coe_add, ← coe_fsum, ex2, ← EReal.coe_zero, ← coe_ite] <;> first | rfl | (simp only [mk, eT, xT, dT, oT]; rfl)

theorem r54 {v145 : FVec Ideal S512x1024 .f32} {V145 : ℕ → ℕ → ℝ} {v174 : Vec Ideal S1x1x1024 .f32} {V174 : ℕ → ℕ → ℕ → ℝ} (h145 : R2 v145 V145) (h174 : R3 v174 V174) :
    R3 (k0_pay54 (F := Ideal) v145 v174) (fun _ _ j => V174 0 0 j - (∑ k : Fin 512, V145 k j)) := by
  intro a i j
  obtain rfl : a = 0 := Subsingleton.elim _ _
  obtain rfl : i = 0 := Subsingleton.elim _ _
  pointwise [k0_pay54]
  simp only [h145 _ _, h174 _ _ _, cs2, cs1, csw, dite_eq_ite, ite_self, sel0, sel512, ← EReal.coe_mul, ← EReal.coe_sub, ← EReal.coe_add, ← coe_fsum, ex2, ← EReal.coe_zero, ← coe_ite] <;> first | rfl | (simp only [mk, eT, xT, dT, oT]; rfl)

theorem r55 {v145 : FVec Ideal S512x1024 .f32} {V145 : ℕ → ℕ → ℝ} {v183 : Vec Ideal S1x512x128 .f32} {V183 : ℕ → ℕ → ℕ → ℝ} (h145 : R2 v145 V145) (h183 : R3 v183 V183) :
    R3 (k0_pay55 (F := Ideal) v145 v183) (fun _ i j => V183 0 i j + (∑ k : Fin 1024, V145 i k)) := by
  intro a i j
  obtain rfl : a = 0 := Subsingleton.elim _ _
  pointwise [k0_pay55]
  simp only [h145 _ _, h183 _ _ _, cs2, cs1, csw, dite_eq_ite, ite_self, sel0, sel512, ← EReal.coe_mul, ← EReal.coe_sub, ← EReal.coe_add, ← coe_fsum, ex2, ← EReal.coe_zero, ← coe_ite] <;> first | rfl | (simp only [mk, eT, xT, dT, oT]; rfl)

theorem r56 {v194 : Vec Ideal S512x128 .bf16} {V194 : ℕ → ℕ → ℝ} {v195 : Vec Ideal S512x128 .bf16} {V195 : ℕ → ℕ → ℝ} {v205 : Vec Ideal S1x1x512 .f32} {V205 : ℕ → ℕ → ℕ → ℝ} {v214 : Vec Ideal S1x512x128 .f32} {V214 : ℕ → ℕ → ℝ} (h194 : R2 v194 V194) (h195 : R2 v195 V195) (h205 : R3 v205 V205) (h214 : R3 v214 (fun a b _ => V214 a b)) :
    R2 (k0_pay56 (F := Ideal) v194 v195 v205 v214) (fun i j => mk 0 (eT V194 V195 (V205 0 0) (V214 0)) i j) := by
  intro i j
  pointwise [k0_pay56]
  simp only [h194 _ _, h195 _ _, h205 _ _ _, h214 _ _ _, cs2, cs1, csw, dite_eq_ite, ite_self, sel0, sel512, ← EReal.coe_mul, ← EReal.coe_sub, ← EReal.coe_add, ← coe_fsum, ex2, ← EReal.coe_zero, ← coe_ite] <;> first | rfl | (simp only [mk, eT, xT, dT, oT]; rfl)

theorem r57 {v194 : Vec Ideal S512x128 .bf16} {V194 : ℕ → ℕ → ℝ} {v195 : Vec Ideal S512x128 .bf16} {V195 : ℕ → ℕ → ℝ} {v196 : Vec Ideal S512x128 .bf16} {V196 : ℕ → ℕ → ℝ} {v197 : Vec Ideal S512x128 .bf16} {V197 : ℕ → ℕ → ℝ} {v199 : Vec Ideal S512x128 .bf16} {V199 : ℕ → ℕ → ℝ} {v205 : Vec Ideal S1x1x512 .f32} {V205 : ℕ → ℕ → ℕ → ℝ} {v214 : Vec Ideal S1x512x128 .f32} {V214 : ℕ → ℕ → ℝ} (h194 : R2 v194 V194) (h195 : R2 v195 V195) (h196 : R2 v196 V196) (h197 : R2 v197 V197) (h199 : R2 v199 V199) (h205 : R3 v205 V205) (h214 : R3 v214 (fun a b _ => V214 a b)) :
    R2 (k0_pay57 (F := Ideal) v194 v195 v196 v197 v199 v205 v214) (fun i j => (mk 0 (eT V194 V195 (V205 0 0) (V214 0)) i j * (dT V197 V196 i j - oT V197 V199 i))) := by
  intro i j
  pointwise [k0_pay57]
  simp only [(r56 h194 h195 h205 h214) _ _, h194 _ _, h195 _ _, h196 _ _, h197 _ _, h199 _ _, h205 _ _ _, h214 _ _ _, cs2, cs1, csw, dite_eq_ite, ite_self, sel0, sel512, ← EReal.coe_mul, ← EReal.coe_sub, ← EReal.coe_add, ← coe_fsum, ex2, ← EReal.coe_zero, ← coe_ite] <;> first | rfl | (simp only [mk, eT, xT, dT, oT]; rfl)

theorem r58 {v194 : Vec Ideal S512x128 .bf16} {V194 : ℕ → ℕ → ℝ} {v195 : Vec Ideal S512x128 .bf16} {V195 : ℕ → ℕ → ℝ} {v196 : Vec Ideal S512x128 .bf16} {V196 : ℕ → ℕ → ℝ} {v197 : Vec Ideal S512x128 .bf16} {V197 : ℕ → ℕ → ℝ} {v199 : Vec Ideal S512x128 .bf16} {V199 : ℕ → ℕ → ℝ} {v205 : Vec Ideal S1x1x512 .f32} {V205 : ℕ → ℕ → ℕ → ℝ} {v214 : Vec Ideal S1x512x128 .f32} {V214 : ℕ → ℕ → ℝ} (h194 : R2 v194 V194) (h195 : R2 v195 V195) (h196 : R2 v196 V196) (h197 : R2 v197 V197) (h199 : R2 v199 V199) (h205 : R3 v205 V205) (h214 : R3 v214 (fun a b _ => V214 a b)) :
    R2 (k0_pay58 (F := Ideal) v194 v195 v196 v197 v199 v205 v214) (fun i j => (mk 0 (eT V194 V195 (V205 0 0) (V214 0)) i j * (dT V197 V196 i j - oT V197 V199 i))) := by
  intro i j
  pointwise [k0_pay58]
  simp only [(r57 h194 h195 h196 h197 h199 h205 h214) _ _, h194 _ _, h195 _ _, h196 _ _, h197 _ _, h199 _ _, h205 _ _ _, h214 _ _ _, cs2, cs1, csw, dite_eq_ite, ite_self, sel0, sel512, ← EReal.coe_mul, ← EReal.coe_sub, ← EReal.coe_add, ← coe_fsum, ex2, ← EReal.coe_zero, ← coe_ite] <;> first | rfl | (simp only [mk, eT, xT, dT, oT]; rfl)

theorem r59 {v197 : Vec Ideal S512x128 .bf16} {V197 : ℕ → ℕ → ℝ} {v227 : FVec Ideal S512x512 .f32} {V227 : ℕ → ℕ → ℝ} {v233 : Vec Ideal S1x512x128 .f32} {V233 : ℕ → ℕ → ℕ → ℝ} (h197 : R2 v197 V197) (h227 : R2 v227 V227) (h233 : R3 v233 V233) :
    R3 (k0_pay59 (F := Ideal) v197 v227 v233) (fun _ i j => V233 0 i j + (∑ k : Fin 512, V227 k i * V197 k j)) := by
  intro a i j
  obtain rfl : a = 0 := Subsingleton.elim _ _
  pointwise [k0_pay59]
  simp only [h197 _ _, h227 _ _, h233 _ _ _, cs2, cs1, csw, dite_eq_ite, ite_self, sel0, sel512, ← EReal.coe_mul, ← EReal.coe_sub, ← EReal.coe_add, ← coe_fsum, ex2, ← EReal.coe_zero, ← coe_ite] <;> first | rfl | (simp only [mk, eT, xT, dT, oT]; rfl)

theorem r60 {v194 : Vec Ideal S512x128 .bf16} {V194 : ℕ → ℕ → ℝ} {v232 : FVec Ideal S512x512 .bf16} {V232 : ℕ → ℕ → ℝ} {v241 : Vec Ideal S1x512x128 .f32} {V241 : ℕ → ℕ → ℕ → ℝ} (h194 : R2 v194 V194) (h232 : R2 v232 V232) (h241 : R3 v241 V241) :
    R3 (k0_pay60 (F := Ideal) v194 v232 v241) (fun _ i j => V241 0 i j + (∑ k : Fin 512, V232 k i * V194 k j)) := by
  intro a i j
  obtain rfl : a = 0 := Subsingleton.elim _ _
  pointwise [k0_pay60]
  simp only [h194 _ _, h232 _ _, h241 _ _ _, cs2, cs1, csw, dite_eq_ite, ite_self, sel0, sel512, ← EReal.coe_mul, ← EReal.coe_sub, ← EReal.coe_add, ← coe_fsum, ex2, ← EReal.coe_zero, ← coe_ite] <;> first | rfl | (simp only [mk, eT, xT, dT, oT]; rfl)

theorem r61 {v195 : Vec Ideal S512x128 .bf16} {V195 : ℕ → ℕ → ℝ} {v232 : FVec Ideal S512x512 .bf16} {V232 : ℕ → ℕ → ℝ} {v252 : Vec Ideal S1x512x128 .f32} {V252 : ℕ → ℕ → ℕ → ℝ} (h195 : R2 v195 V195) (h232 : R2 v232 V232) (h252 : R3 v252 V252) :
    R3 (k0_pay61 (F := Ideal) v195 v232 v252) (fun _ i j => V252 0 i j + (∑ k : Fin 512, V232 i k * V195 k j)) := by
  intro a i j
  obtain rfl : a = 0 := Subsingleton.elim _ _
  pointwise [k0_pay61]
  simp only [h195 _ _, h232 _ _, h252 _ _ _, cs2, cs1, csw, dite_eq_ite, ite_self, sel0, sel512, ← EReal.coe_mul, ← EReal.coe_sub, ← EReal.coe_add, ← coe_fsum, ex2, ← EReal.coe_zero, ← coe_ite] <;> first | rfl | (simp only [mk, eT, xT, dT, oT]; rfl)

theorem r62 {v231 : FVec Ideal S512x512 .f32} {V231 : ℕ → ℕ → ℝ} {v260 : Vec Ideal S1x1x512 .f32} {V260 : ℕ → ℕ → ℕ → ℝ} (h231 : R2 v231 V231) (h260 : R3 v260 V260) :
    R2 (k0_pay62 (F := Ideal) v231 v260) (fun i j => V260 0 0 j - (∑ k : Fin 512, V231 k j)) := by
  intro i j
  obtain rfl : i = 0 := Subsingleton.elim _ _
  pointwise [k0_pay62]
  simp only [h231 _ _, h260 _ _ _, cs2, cs1, csw, dite_eq_ite, ite_self, sel0, sel512, ← EReal.coe_mul, ← EReal.coe_sub, ← EReal.coe_add, ← coe_fsum, ex2, ← EReal.coe_zero, ← coe_ite] <;> first | rfl | (simp only [mk, eT, xT, dT, oT]; rfl)

theorem r63 {v264 : FVec Ideal S1x512 .f32} {V264 : ℕ → ℕ → ℝ} (h264 : R2 v264 V264) :
    R3 (k0_pay63 (F := Ideal) v264) (fun _ _ j => V264 0 j) := by
  intro a i j
  obtain rfl : a = 0 := Subsingleton.elim _ _
  obtain rfl : i = 0 := Subsingleton.elim _ _
  pointwise [k0_pay63]
  simp only [h264 _ _, cs2, cs1, csw, dite_eq_ite, ite_self, sel0, sel512, ← EReal.coe_mul, ← EReal.coe_sub, ← EReal.coe_add, ← coe_fsum, ex2, ← EReal.coe_zero, ← coe_ite] <;> first | rfl | (simp only [mk, eT, xT, dT, oT]; rfl)

theorem r64 {v231 : FVec Ideal S512x512 .f32} {V231 : ℕ → ℕ → ℝ} {v269 : Vec Ideal S1x512x128 .f32} {V269 : ℕ → ℕ → ℕ → ℝ} (h231 : R2 v231 V231) (h269 : R3 v269 V269) :
    R3 (k0_pay64 (F := Ideal) v231 v269) (fun _ i j => V269 0 i j + (∑ k : Fin 512, V231 i k)) := by
  intro a i j
  obtain rfl : a = 0 := Subsingleton.elim _ _
  pointwise [k0_pay64]
  simp only [h231 _ _, h269 _ _ _, cs2, cs1, csw, dite_eq_ite, ite_self, sel0, sel512, ← EReal.coe_mul, ← EReal.coe_sub, ← EReal.coe_add, ← coe_fsum, ex2, ← EReal.coe_zero, ← coe_ite] <;> first | rfl | (simp only [mk, eT, xT, dT, oT]; rfl)

theorem r65 {v283 : Vec Ideal S512x128 .bf16} {V283 : ℕ → ℕ → ℝ} {v285 : Vec Ideal S512x128 .bf16} {V285 : ℕ → ℕ → ℝ} (h283 : R2 v283 V283) (h285 : R2 v285 V285) :
    R2 (k0_pay65 (F := Ideal) v283 v285) (fun i j => oT V283 V285 i) := by
  intro i j
  obtain rfl : j = 0 := Subsingleton.elim _ _
  pointwise [k0_pay65]
  simp only [h283 _ _, h285 _ _, cs2, cs1, csw, dite_eq_ite, ite_self, sel0, sel512, ← EReal.coe_mul, ← EReal.coe_sub, ← EReal.coe_add, ← coe_fsum, ex2, ← EReal.coe_zero, ← coe_ite] <;> first | rfl | (simp only [mk, eT, xT, dT, oT]; rfl)

theorem r66 {v280 : Vec Ideal S512x128 .bf16} {V280 : ℕ → ℕ → ℝ} {v281 : Vec Ideal S1024x128 .bf16} {V281 : ℕ → ℕ → ℝ} (h280 : R2 v280 V280) (h281 : R2 v281 V281) :
    R2 (k0_pay66 (F := Ideal) v280 v281) (fun i j => dT V280 V281 i j * kS) := by
  intro i j
  pointwise [k0_pay66]
  simp only [h280 _ _, h281 _ _, cs2, cs1, csw, dite_eq_ite, ite_self, sel0, sel512, ← EReal.coe_mul, ← EReal.coe_sub, ← EReal.coe_add, ← coe_fsum, ex2, ← EReal.coe_zero, ← coe_ite] <;> first | rfl | (simp only [mk, eT, xT, dT, oT]; rfl)

theorem r67 {v291 : Vec Ideal S1x1x1024 .f32} {V291 : ℕ → ℕ → ℕ → ℝ} (h291 : R3 v291 V291) :
    R2 (k0_pay67 (F := Ideal) v291) (fun i j => V291 0 0 j * kL) := by
  intro i j
  pointwise [k0_pay67]
  simp only [h291 _ _ _, cs2, cs1, csw, dite_eq_ite, ite_self, sel0, sel512, ← EReal.coe_mul, ← EReal.coe_sub, ← EReal.coe_add, ← coe_fsum, ex2, ← EReal.coe_zero, ← coe_ite] <;> first | rfl | (simp only [mk, eT, xT, dT, oT]; rfl)

theorem r68 {v295 : FVec Ideal S512x1024 .f32} {V295 : ℕ → ℕ → ℝ} {v298 : FVec Ideal S512x1024 .f32} {V298 : ℕ → ℕ → ℝ} {v300 : Vec Ideal S1x512x128 .f32} {V300 : ℕ → ℕ → ℝ} (h295 : R2 v295 V295) (h298 : R2 v298 V298) (h300 : R3 v300 (fun a b _ => V300 a b)) :
    R2 (k0_pay68 (F := Ideal) v295 v298 v300) (fun i j => mk 512 (fun a b => (2 : ℝ) ^ (V295 a b - V298 a b - V300 0 a)) i j) := by
  intro i j
  pointwise [k0_pay68]
  simp only [h295 _ _, h298 _ _, h300 _ _ _, cs2, cs1, csw, dite_eq_ite, ite_self, sel0, sel512, ← EReal.coe_mul, ← EReal.coe_sub, ← EReal.coe_add, ← coe_fsum, ex2, ← EReal.coe_zero, ← coe_ite] <;> first | rfl | (simp only [mk, eT, xT, dT, oT]; rfl)

theorem r69 {v282 : Vec Ideal S1024x128 .bf16} {V282 : ℕ → ℕ → ℝ} {v283 : Vec Ideal S512x128 .bf16} {V283 : ℕ → ℕ → ℝ} {v290 : FVec Ideal S512x1 .f32} {V290 : ℕ → ℕ → ℝ} {v295 : FVec Ideal S512x1024 .f32} {V295 : ℕ → ℕ → ℝ} {v298 : FVec Ideal S512x1024 .f32} {V298 : ℕ → ℕ → ℝ} {v300 : Vec Ideal S1x512x128 .f32} {V300 : ℕ → ℕ → ℝ} (h282 : R2 v282 V282) (h283 : R2 v283 V283) (h290 : R2 v290 V290) (h295 : R2 v295 V295) (h298 : R2 v298 V298) (h300 : R3 v300 (fun a b _ => V300 a b)) :
    R2 (k0_pay69 (F := Ideal) v282 v283 v290 v295 v298 v300) (fun i j => (mk 512 (fun a b => (2 : ℝ) ^ (V295 a b - V298 a b - V300 0 a)) i j * (dT V283 V282 i j - V290 i 0))) := by
  intro i j
  pointwise [k0_pay69]
  simp only [(r68 h295 h298 h300) _ _, h282 _ _, h283 _ _, h290 _ _, h295 _ _, h298 _ _, h300 _ _ _, cs2, cs1, csw, dite_eq_ite, ite_self, sel0, sel512, ← EReal.coe_mul, ← EReal.coe_sub, ← EReal.coe_add, ← coe_fsum, ex2, ← EReal.coe_zero, ← coe_ite] <;> first | rfl | (simp only [mk, eT, xT, dT, oT]; rfl)

theorem r70 {v282 : Vec Ideal S1024x128 .bf16} {V282 : ℕ → ℕ → ℝ} {v283 : Vec Ideal S512x128 .bf16} {V283 : ℕ → ℕ → ℝ} {v290 : FVec Ideal S512x1 .f32} {V290 : ℕ → ℕ → ℝ} {v295 : FVec Ideal S512x1024 .f32} {V295 : ℕ → ℕ → ℝ} {v298 : FVec Ideal S512x1024 .f32} {V298 : ℕ → ℕ → ℝ} {v300 : Vec Ideal S1x512x128 .f32} {V300 : ℕ → ℕ → ℝ} (h282 : R2 v282 V282) (h283 : R2 v283 V283) (h290 : R2 v290 V290) (h295 : R2 v295 V295) (h298 : R2 v298 V298) (h300 : R3 v300 (fun a b _ => V300 a b)) :
    R2 (k0_pay70 (F := Ideal) v282 v283 v290 v295 v298 v300) (fun i j => (mk 512 (fun a b => (2 : ℝ) ^ (V295 a b - V298 a b - V300 0 a)) i j * (dT V283 V282 i j - V290 i 0))) := by
  intro i j
  pointwise [k0_pay70]
  simp only [(r69 h282 h283 h290 h295 h298 h300) _ _, h282 _ _, h283 _ _, h290 _ _, h295 _ _, h298 _ _, h300 _ _ _, cs2, cs1, csw, dite_eq_ite, ite_self, sel0, sel512, ← EReal.coe_mul, ← EReal.coe_sub, ← EReal.coe_add, ← coe_fsum, ex2, ← EReal.coe_zero, ← coe_ite] <;> first | rfl | (simp only [mk, eT, xT, dT, oT]; rfl)

theorem r71 {v283 : Vec Ideal S512x128 .bf16} {V283 : ℕ → ℕ → ℝ} {v295 : FVec Ideal S512x1024 .f32} {V295 : ℕ → ℕ → ℝ} {v298 : FVec Ideal S512x1024 .f32} {V298 : ℕ → ℕ → ℝ} {v300 : Vec Ideal S1x512x128 .f32} {V300 : ℕ → ℕ → ℝ} {v319 : Vec Ideal S1x1024x128 .f32} {V319 : ℕ → ℕ → ℕ → ℝ} (h283 : R2 v283 V283) (h295 : R2 v295 V295) (h298 : R2 v298 V298) (h300 : R3 v300 (fun a b _ => V300 a b)) (h319 : R3 v319 V319) :
    R3 (k0_pay71 (F := Ideal) v283 v295 v298 v300 v319) (fun _ i j => V319 0 i j + (∑ k : Fin 512, mk 512 (fun a b => (2 : ℝ) ^ (V295 a b - V298 a b - V300 0 a)) k i * V283 k j)) := by
  intro a i j
  obtain rfl : a = 0 := Subsingleton.elim _ _
  pointwise [k0_pay71]
  simp only [(r68 h295 h298 h300) _ _, h283 _ _, h295 _ _, h298 _ _, h300 _ _ _, h319 _ _ _, cs2, cs1, csw, dite_eq_ite, ite_self, sel0, sel512, ← EReal.coe_mul, ← EReal.coe_sub, ← EReal.coe_add, ← coe_fsum, ex2, ← EReal.coe_zero, ← coe_ite] <;> first | rfl | (simp only [mk, eT, xT, dT, oT]; rfl)

theorem r72 {v280 : Vec Ideal S512x128 .bf16} {V280 : ℕ → ℕ → ℝ} {v282 : Vec Ideal S1024x128 .bf16} {V282 : ℕ → ℕ → ℝ} {v283 : Vec Ideal S512x128 .bf16} {V283 : ℕ → ℕ → ℝ} {v290 : FVec Ideal S512x1 .f32} {V290 : ℕ → ℕ → ℝ} {v295 : FVec Ideal S512x1024 .f32} {V295 : ℕ → ℕ → ℝ} {v298 : FVec Ideal S512x1024 .f32} {V298 : ℕ → ℕ → ℝ} {v300 : Vec Ideal S1x512x128 .f32} {V300 : ℕ → ℕ → ℝ} {v327 : Vec Ideal S1x1024x128 .f32} {V327 : ℕ → ℕ → ℕ → ℝ} (h280 : R2 v280 V280) (h282 : R2 v282 V282) (h283 : R2 v283 V283) (h290 : R2 v290 V290) (h295 : R2 v295 V295) (h298 : R2 v298 V298) (h300 : R3 v300 (fun a b _ => V300 a b)) (h327 : R3 v327 V327) :
    R3 (k0_pay72 (F := Ideal) v280 v282 v283 v290 v295 v298 v300 v327) (fun _ i j => V327 0 i j + (∑ k : Fin 512, (mk 512 (fun a b => (2 : ℝ) ^ (V295 a b - V298 a b - V300 0 a)) k i * (dT V283 V282 k i - V290 k 0)) * V280 k j)) := by
  intro a i j
  obtain rfl : a = 0 := Subsingleton.elim _ _
  pointwise [k0_pay72]
  simp only [(r70 h282 h283 h290 h295 h298 h300) _ _, h280 _ _, h282 _ _, h283 _ _, h290 _ _, h295 _ _, h298 _ _, h300 _ _ _, h327 _ _ _, cs2, cs1, csw, dite_eq_ite, ite_self, sel0, sel512, ← EReal.coe_mul, ← EReal.coe_sub, ← EReal.coe_add, ← coe_fsum, ex2, ← EReal.coe_zero, ← coe_ite] <;> first | rfl | (simp only [mk, eT, xT, dT, oT]; rfl)

theorem r73 {v281 : Vec Ideal S1024x128 .bf16} {V281 : ℕ → ℕ → ℝ} {v318 : FVec Ideal S512x1024 .bf16} {V318 : ℕ → ℕ → ℝ} {v338 : Vec Ideal S1x512x128 .f32} {V338 : ℕ → ℕ → ℕ → ℝ} (h281 : R2 v281 V281) (h318 : R2 v318 V318) (h338 : R3 v338 V338) :
    R3 (k0_pay73 (F := Ideal) v281 v318 v338) (fun _ i j => V338 0 i j + (∑ k : Fin 1024, V318 i k * V281 k j)) := by
  intro a i j
  obtain rfl : a = 0 := Subsingleton.elim _ _
  pointwise [k0_pay73]
  simp only [h281 _ _, h318 _ _, h338 _ _ _, cs2, cs1, csw, dite_eq_ite, ite_self, sel0, sel512, ← EReal.coe_mul, ← EReal.coe_sub, ← EReal.coe_add, ← coe_fsum, ex2, ← EReal.coe_zero, ← coe_ite] <;> first | rfl | (simp only [mk, eT, xT, dT, oT]; rfl)

theorem r74 {v317 : FVec Ideal S512x1024 .f32} {V317 : ℕ → ℕ → ℝ} {v346 : Vec Ideal S1x1x1024 .f32} {V346 : ℕ → ℕ → ℕ → ℝ} (h317 : R2 v317 V317) (h346 : R3 v346 V346) :
    R3 (k0_pay74 (F := Ideal) v317 v346) (fun _ _ j => V346 0 0 j - (∑ k : Fin 512, V317 k j)) := by
  intro a i j
  obtain rfl : a = 0 := Subsingleton.elim _ _
  obtain rfl : i = 0 := Subsingleton.elim _ _
  pointwise [k0_pay74]
  simp only [h317 _ _, h346 _ _ _, cs2, cs1, csw, dite_eq_ite, ite_self, sel0, sel512, ← EReal.coe_mul, ← EReal.coe_sub, ← EReal.coe_add, ← coe_fsum, ex2, ← EReal.coe_zero, ← coe_ite] <;> first | rfl | (simp only [mk, eT, xT, dT, oT]; rfl)

theorem r75 {v317 : FVec Ideal S512x1024 .f32} {V317 : ℕ → ℕ → ℝ} {v355 : Vec Ideal S1x512x128 .f32} {V355 : ℕ → ℕ → ℕ → ℝ} (h317 : R2 v317 V317) (h355 : R3 v355 V355) :
    R3 (k0_pay75 (F := Ideal) v317 v355) (fun _ i j => V355 0 i j + (∑ k : Fin 1024, V317 i k)) := by
  intro a i j
  obtain rfl : a = 0 := Subsingleton.elim _ _
  pointwise [k0_pay75]
  simp only [h317 _ _, h355 _ _ _, cs2, cs1, csw, dite_eq_ite, ite_self, sel0, sel512, ← EReal.coe_mul, ← EReal.coe_sub, ← EReal.coe_add, ← coe_fsum, ex2, ← EReal.coe_zero, ← coe_ite] <;> first | rfl | (simp only [mk, eT, xT, dT, oT]; rfl)

end Cert.KernelIdeal.Attn

end
-- ==== Proof.Overlay.lean ====
/- Loads and stores of arrays that hold real numbers: a load reads the numbers at the shifted place, a store overlays them. -/
module

public import proofs.«01_k».proof.Proof.Own
public import proofs.«01_k».proof.Proof.Tile

@[expose] public section

noncomputable section

namespace Cert.KernelIdeal.Attn

open Cert.Attn
open Idealize.ShloMosaic

/-- The numbers of a matrix matter inside it only. -/
theorem R2.congr {a b : ℕ} {X : (⟨2, ![a, b]⟩ : Shape).Idx → EReal} {A B : ℕ → ℕ → ℝ} (h : R2 X A)
    (e : ∀ i j, i < a → j < b → A i j = B i j) : R2 X B :=
  fun i j => (h i j).trans (by rw [e i j i.isLt j.isLt])

/-- The numbers of a rank-three array matter inside it only. -/
theorem R3.congr {a b c : ℕ} {X : (⟨3, ![a, b, c]⟩ : Shape).Idx → EReal} {A B : ℕ → ℕ → ℕ → ℝ} (h : R3 X A)
    (e : ∀ i j k, i < a → j < b → k < c → A i j k = B i j k) : R3 X B :=
  fun i j k => (h i j k).trans (by rw [e i j k i.isLt j.isLt k.isLt])

/-- A load from a matrix of real numbers. -/
theorem p2 {a b n m : ℕ} {X : (⟨2, ![a, b]⟩ : Shape).Idx → EReal} {A : ℕ → ℕ → ℝ} {off : Fin 2 → ℕ}
    {inb : ∀ x, off x + (![n, m] : Fin 2 → ℕ) x ≤ (⟨2, ![a, b]⟩ : Shape).size x} (h : R2 X A) :
    R2 (pick X (Rect.unit (s := ⟨2, ![a, b]⟩) off ![n, m] inb).toLoadRect) (fun i j => A (off 0 + i) (off 1 + j)) := by
  intro i j
  have e0 := inb 0
  have e1 := inb 1
  have hi := i.isLt
  have hj := j.isLt
  have h0 : off 0 + n ≤ a := e0
  have h1 : off 1 + m ≤ b := e1
  refine Eq.trans (congrArg X ?_) (h ⟨off 0 + i, by omega⟩ ⟨off 1 + j, by omega⟩)
  funext x
  match x with
  | ⟨0, _⟩ => exact Fin.ext (by show off 0 + 1 * i.val = off 0 + i.val; rw [Nat.one_mul])
  | ⟨1, _⟩ => exact Fin.ext (by show off 1 + 1 * j.val = off 1 + j.val; rw [Nat.one_mul])

/-- A load from a rank-three array of real numbers. -/
theorem p3 {a b c n m l : ℕ} {X : (⟨3, ![a, b, c]⟩ : Shape).Idx → EReal} {A : ℕ → ℕ → ℕ → ℝ} {off : Fin 3 → ℕ}
    {inb : ∀ x, off x + (![n, m, l] : Fin 3 → ℕ) x ≤ (⟨3, ![a, b, c]⟩ : Shape).size x} (h : R3 X A) :
    R3 (pick X (Rect.unit (s := ⟨3, ![a, b, c]⟩) off ![n, m, l] inb).toLoadRect)
      (fun i j k => A (off 0 + i) (off 1 + j) (off 2 + k)) := by
  intro i j k
  have e0 := inb 0
  have e1 := inb 1
  have e2 := inb 2
  have hi := i.isLt
  have hj := j.isLt
  have hk := k.isLt
  have h0 : off 0 + n ≤ a := e0
  have h1 : off 1 + m ≤ b := e1
  have h2 : off 2 + l ≤ c := e2
  refine Eq.trans (congrArg X ?_) (h ⟨off 0 + i, by omega⟩ ⟨off 1 + j, by omega⟩ ⟨off 2 + k, by omega⟩)
  funext x
  match x with
  | ⟨0, _⟩ => exact Fin.ext (by show off 0 + 1 * i.val = off 0 + i.val; rw [Nat.one_mul])
  | ⟨1, _⟩ => exact Fin.ext (by show off 1 + 1 * j.val = off 1 + j.val; rw [Nat.one_mul])
  | ⟨2, _⟩ => exact Fin.ext (by show off 2 + 1 * k.val = off 2 + k.val; rw [Nat.one_mul])

/-- A store into a matrix of real numbers. -/
theorem put2 {a b n m : ℕ} {X : (⟨2, ![a, b]⟩ : Shape).Idx → EReal} {A : ℕ → ℕ → ℝ} {off : Fin 2 → ℕ}
    {inb : ∀ x, off x + (![n, m] : Fin 2 → ℕ) x ≤ (⟨2, ![a, b]⟩ : Shape).size x}
    {w : (⟨2, ![n, m]⟩ : Shape).Idx → EReal} {B : ℕ → ℕ → ℝ} (h : R2 X A) (hw : R2 w B) :
    R2 (put X (Rect.unit (s := ⟨2, ![a, b]⟩) off ![n, m] inb) w)
      (fun i j => if (off 0 ≤ i ∧ i < off 0 + n) ∧ off 1 ≤ j ∧ j < off 1 + m then B (i - off 0) (j - off 1) else A i j) := by
  intro i j
  by_cases hc : (off 0 ≤ i.val ∧ i.val < off 0 + n) ∧ off 1 ≤ j.val ∧ j.val < off 1 + m
  · simp only [if_pos hc]
    refine Eq.trans ?_ (hw ⟨i.val - off 0, by omega⟩ ⟨j.val - off 1, by omega⟩)
    refine Eq.trans (congrArg (put X (Rect.unit (s := ⟨2, ![a, b]⟩) off ![n, m] inb) w) ?_) (put_emb X (Rect.unit (s := ⟨2, ![a, b]⟩) off ![n, m] inb) w _)
    funext x
    match x with
    | ⟨0, _⟩ => exact Fin.ext (by show i.val = off 0 + 1 * (i.val - off 0); omega)
    | ⟨1, _⟩ => exact Fin.ext (by show j.val = off 1 + 1 * (j.val - off 1); omega)
  · simp only [if_neg hc]
    refine (put_of_ne X (Rect.unit (s := ⟨2, ![a, b]⟩) off ![n, m] inb) w _ ?_).trans (h i j)
    intro x hx
    apply hc
    have x0 := (x 0).isLt
    have x1 := (x 1).isLt
    have h0 : off 0 + 1 * (x 0).val = i.val := congrArg Fin.val (congrFun hx 0)
    have h1 : off 1 + 1 * (x 1).val = j.val := congrArg Fin.val (congrFun hx 1)
    have x0' : (x 0).val < n := x0
    have x1' : (x 1).val < m := x1
    omega

/-- A store into a rank-three array of real numbers. -/
theorem put3 {a b c n m l : ℕ} {X : (⟨3, ![a, b, c]⟩ : Shape).Idx → EReal} {A : ℕ → ℕ → ℕ → ℝ} {off : Fin 3 → ℕ}
    {inb : ∀ x, off x + (![n, m, l] : Fin 3 → ℕ) x ≤ (⟨3, ![a, b, c]⟩ : Shape).size x}
    {w : (⟨3, ![n, m, l]⟩ : Shape).Idx → EReal} {B : ℕ → ℕ → ℕ → ℝ} (h : R3 X A) (hw : R3 w B) :
    R3 (put X (Rect.unit (s := ⟨3, ![a, b, c]⟩) off ![n, m, l] inb) w)
      (fun i j k => if (off 0 ≤ i ∧ i < off 0 + n) ∧ (off 1 ≤ j ∧ j < off 1 + m) ∧ off 2 ≤ k ∧ k < off 2 + l
        then B (i - off 0) (j - off 1) (k - off 2) else A i j k) := by
  intro i j k
  by_cases hc : (off 0 ≤ i.val ∧ i.val < off 0 + n) ∧ (off 1 ≤ j.val ∧ j.val < off 1 + m) ∧ off 2 ≤ k.val ∧ k.val < off 2 + l
  · simp only [if_pos hc]
    refine Eq.trans ?_ (hw ⟨i.val - off 0, by omega⟩ ⟨j.val - off 1, by omega⟩ ⟨k.val - off 2, by omega⟩)
    refine Eq.trans (congrArg (put X (Rect.unit (s := ⟨3, ![a, b, c]⟩) off ![n, m, l] inb) w) ?_) (put_emb X (Rect.unit (s := ⟨3, ![a, b, c]⟩) off ![n, m, l] inb) w _)
    funext x
    match x with
    | ⟨0, _⟩ => exact Fin.ext (by show i.val = off 0 + 1 * (i.val - off 0); omega)
    | ⟨1, _⟩ => exact Fin.ext (by show j.val = off 1 + 1 * (j.val - off 1); omega)
    | ⟨2, _⟩ => exact Fin.ext (by show k.val = off 2 + 1 * (k.val - off 2); omega)
  · simp only [if_neg hc]
    refine (put_of_ne X (Rect.unit (s := ⟨3, ![a, b, c]⟩) off ![n, m, l] inb) w _ ?_).trans (h i j k)
    intro x hx
    apply hc
    have x0 := (x 0).isLt
    have x1 := (x 1).isLt
    have x2 := (x 2).isLt
    have h0 : off 0 + 1 * (x 0).val = i.val := congrArg Fin.val (congrFun hx 0)
    have h1 : off 1 + 1 * (x 1).val = j.val := congrArg Fin.val (congrFun hx 1)
    have h2 : off 2 + 1 * (x 2).val = k.val := congrArg Fin.val (congrFun hx 2)
    have x0' : (x 0).val < n := x0
    have x1' : (x 1).val < m := x1
    have x2' : (x 2).val < l := x2
    omega

/-- A store into a matrix, against the numbers the matrix is to hold after it. -/
theorem put2c {a b n m : ℕ} {X : (⟨2, ![a, b]⟩ : Shape).Idx → EReal} {A : ℕ → ℕ → ℝ} {off : Fin 2 → ℕ}
    {inb : ∀ x, off x + (![n, m] : Fin 2 → ℕ) x ≤ (⟨2, ![a, b]⟩ : Shape).size x}
    {w : (⟨2, ![n, m]⟩ : Shape).Idx → EReal} {B : ℕ → ℕ → ℝ} (C : ℕ → ℕ → ℝ) (h : R2 X A) (hw : R2 w B)
    (hB : ∀ i j, i < n → j < m → B i j = C (off 0 + i) (off 1 + j))
    (hC : ∀ i j, i < a → j < b → ¬ ((off 0 ≤ i ∧ i < off 0 + n) ∧ off 1 ≤ j ∧ j < off 1 + m) → A i j = C i j) :
    R2 (put X (Rect.unit (s := ⟨2, ![a, b]⟩) off ![n, m] inb) w) C := by
  refine (put2 h hw).congr ?_
  intro i j hi hj
  by_cases hc : (off 0 ≤ i ∧ i < off 0 + n) ∧ off 1 ≤ j ∧ j < off 1 + m
  · simp only [if_pos hc]
    rw [hB _ _ (by omega) (by omega)]
    rw [show off 0 + (i - off 0) = i by omega, show off 1 + (j - off 1) = j by omega]
  · simp only [if_neg hc]
    exact hC i j hi hj hc

/-- A store into a rank-three array, against the numbers the array is to hold after it. -/
theorem put3c {a b c n m l : ℕ} {X : (⟨3, ![a, b, c]⟩ : Shape).Idx → EReal} {A : ℕ → ℕ → ℕ → ℝ} {off : Fin 3 → ℕ}
    {inb : ∀ x, off x + (![n, m, l] : Fin 3 → ℕ) x ≤ (⟨3, ![a, b, c]⟩ : Shape).size x}
    {w : (⟨3, ![n, m, l]⟩ : Shape).Idx → EReal} {B : ℕ → ℕ → ℕ → ℝ} (C : ℕ → ℕ → ℕ → ℝ) (h : R3 X A) (hw : R3 w B)
    (hB : ∀ i j k, i < n → j < m → k < l → B i j k = C (off 0 + i) (off 1 + j) (off 2 + k))
    (hC : ∀ i j k, i < a → j < b → k < c →
      ¬ ((off 0 ≤ i ∧ i < off 0 + n) ∧ (off 1 ≤ j ∧ j < off 1 + m) ∧ off 2 ≤ k ∧ k < off 2 + l) → A i j k = C i j k) :
    R3 (put X (Rect.unit (s := ⟨3, ![a, b, c]⟩) off ![n, m, l] inb) w) C := by
  refine (put3 h hw).congr ?_
  intro i j k hi hj hk
  by_cases hc : (off 0 ≤ i ∧ i < off 0 + n) ∧ (off 1 ≤ j ∧ j < off 1 + m) ∧ off 2 ≤ k ∧ k < off 2 + l
  · simp only [if_pos hc]
    rw [hB _ _ _ (by omega) (by omega) (by omega)]
    rw [show off 0 + (i - off 0) = i by omega, show off 1 + (j - off 1) = j by omega, show off 2 + (k - off 2) = k by omega]
  · simp only [if_neg hc]
    exact hC i j k hi hj hk hc

end Cert.KernelIdeal.Attn

end
-- ==== Proof.Branch.lean ====
/- What the branches of a grid point do to buffers that hold real numbers: every store of the two update branches, as an update of
   the numbers of one accumulator. -/
module

public import proofs.«01_k».proof.Proof.Point
public import proofs.«01_k».proof.Proof.Overlay

@[expose] public section

noncomputable section

namespace Cert.KernelIdeal.Attn

open Cert.KernelIdeal Cert.KernelIdeal.Gen Cert.Attn
open Idealize.ShloMosaic

/-- The numbers of a grid point's input blocks: the columns of two heads side by side, the softmax denominators' logarithms
    and the forget gates' sums by head. -/
structure Tin where
  q : ℕ → ℕ → ℝ
  k : ℕ → ℕ → ℝ
  v : ℕ → ℕ → ℝ
  o : ℕ → ℕ → ℝ
  d : ℕ → ℕ → ℝ
  l : ℕ → ℕ → ℝ
  f : ℕ → ℕ → ℝ

/-- The input blocks hold the numbers `T`. -/
structure HasT (σ : St Ideal) (T : Tin) : Prop where
  q : R2 σ.q T.q
  k : R2 σ.k T.k
  v : R2 σ.v T.v
  o : R2 σ.o T.o
  d : R2 σ.d T.d
  ls : R3 σ.ls (fun e i _ => T.l e i)
  fk : R3 σ.fk (fun e _ j => T.f e j)

/-- A head's rows of a block. -/
def hd (x : ℕ → ℕ → ℝ) (e : ℕ) : ℕ → ℕ → ℝ := fun i d => x i (128 * e + d)

/-- A probability of the tile, unmasked. -/
def pT (T : Tin) (e i j : ℕ) : ℝ := eT (hd T.q e) (hd T.k e) (T.f e) (T.l e) i j

/-- A probability of a tile on the diagonal. -/
def pD (T : Tin) (e i j : ℕ) : ℝ := if j ≤ i then pT T e i j else 0

/-- The gradient of a logit of the tile, at the probabilities `p`. -/
def sP (T : Tin) (p : ℕ → ℕ → ℕ → ℝ) (e i j : ℕ) : ℝ :=
  p e i j * (dT (hd T.d e) (hd T.v e) i j - oT (hd T.d e) (hd T.o e) i)

/-- One head's update of an accumulator over keys, from `nr` rows on `ro`: with the rows of `y` weighted by `p`. -/
def stV (p : ℕ → ℕ → ℕ → ℝ) (y : ℕ → ℕ → ℝ) (h ro nr ns : ℕ) (A : ℕ → ℕ → ℕ → ℝ) : ℕ → ℕ → ℕ → ℝ :=
  fun e s d => if e = h ∧ s < ns then A e s d + ∑ r : Fin nr, p e (ro + r) s * hd y e (ro + r) d else A e s d

/-- One head's update of the forget gates' accumulator over keys. -/
def stF (p : ℕ → ℕ → ℕ → ℝ) (h ro nr ns : ℕ) (A : ℕ → ℕ → ℕ → ℝ) : ℕ → ℕ → ℕ → ℝ :=
  fun e z s => if e = h ∧ s < ns then A e z s - ∑ r : Fin nr, p e (ro + r) s else A e z s

/-- One head's update of an accumulator over queries, the tile's rows being at `o`. -/
def stQ (p : ℕ → ℕ → ℕ → ℝ) (y : ℕ → ℕ → ℝ) (h o ro nr ns : ℕ) (A : ℕ → ℕ → ℕ → ℝ) : ℕ → ℕ → ℕ → ℝ :=
  fun e r d => if e = h ∧ o + ro ≤ r ∧ r < o + ro + nr
    then A e r d + ∑ s : Fin ns, p e (ro + (r - (o + ro))) s * hd y e s d else A e r d

/-- One head's update of the forget gates' accumulator over queries. -/
def stG (p : ℕ → ℕ → ℕ → ℝ) (h o ro nr ns : ℕ) (A : ℕ → ℕ → ℕ → ℝ) : ℕ → ℕ → ℕ → ℝ :=
  fun e r d => if e = h ∧ o + ro ≤ r ∧ r < o + ro + nr
    then A e r d + ∑ s : Fin ns, p e (ro + (r - (o + ro))) s else A e r d

/-- The columns of the first head in a block of two heads, every row. -/
abbrev cols0A := box0.toLoadRect

/-- The columns of the first head in a block of two heads, the first half of the rows. -/
abbrev cols0B := top0.toLoadRect

/-- The columns of the first head in a block of two heads, the last half of the rows. -/
abbrev cols0C := low0.toLoadRect

/-- The columns of the second head in a block of two heads, every row. -/
abbrev cols1A := box1.toLoadRect

/-- The columns of the second head in a block of two heads, the first half of the rows. -/
abbrev cols1B := top1.toLoadRect

/-- The columns of the second head in a block of two heads, the last half of the rows. -/
abbrev cols1C := low1.toLoadRect

/-- The line of the first head, whole. -/
abbrev gate0A := row0.toLoadRect

/-- The line of the first head, the first half of it. -/
abbrev gate0B := rowT0.toLoadRect

/-- The line of the second head, whole. -/
abbrev gate1A := row1.toLoadRect

/-- The line of the second head, the first half of it. -/
abbrev gate1B := rowT1.toLoadRect

/-- The plane of the first head, every row. -/
abbrev sums0A := acc0.toLoadRect

/-- The plane of the first head, the first half of the rows. -/
abbrev sums0B := accT0.toLoadRect

/-- The plane of the first head, the last half of the rows. -/
abbrev sums0C := (Rect.unit (s := S2x1024x128) ![0, 512, 0] S1x512x128.size inb_S2x1024x128_S1x512x128_0_512_0).toLoadRect

/-- The plane of the second head, every row. -/
abbrev sums1A := acc1.toLoadRect

/-- The plane of the second head, the first half of the rows. -/
abbrev sums1B := accT1.toLoadRect

/-- The plane of the second head, the last half of the rows. -/
abbrev sums1C := (Rect.unit (s := S2x1024x128) ![1, 512, 0] S1x512x128.size inb_S2x1024x128_S1x512x128_1_512_0).toLoadRect

variable {σ : St Ideal} {T : Tin} {A : ℕ → ℕ → ℕ → ℝ} {v1 v3 : Elt Ideal .i32}

/-! The stores of the update branches, each as an update of the numbers it overlays. -/

theorem offT_sdv_0 (hT : HasT σ T) (k0_hw1 : k0_chk1 v1 v3) (k0_h3 : k0_cond3 v1 v3 = 1#1) {X : S2x1024x128.Idx → Elt Ideal .f32} (hX : R3 X A) :
    R3 (put X acc0
      (k0_pay20 (F := Ideal) (k0_pay19 (F := Ideal) (pick σ.q cols0A) (pick σ.k cols0A) (pick σ.d cols0A) (pick σ.fk gate0A) (pick σ.ls sums0A) (pick X acc0.toLoadRect))))
      (stV (pT T) T.d 0 0 1024 1024 A) := by
  obtain ⟨hq, hk, hv, ho', hd', hls, hfk⟩ := hT
  refine put3c _ hX (r20 (r19 (p2 hq) (p2 hk) (p2 hd') (p3 hfk) (p3 hls) (p3 hX))) ?_ ?_
  · intro a b c ha hb hc
    obtain rfl : a = 0 := by omega
    simp [stV, stF, stQ, stG, pD, pT, sP, hd, eT, xT, dT, oT, mk, hb, hc]
  · intro a b c ha hb hc hn
    simp only [Matrix.cons_val_zero, Matrix.cons_val_one, Matrix.cons_val] at hn
    simp only [stV, stF, stQ, stG]
    rw [if_neg (by omega)]

theorem offT_sdv_1 (hT : HasT σ T) (k0_hw1 : k0_chk1 v1 v3) (k0_h3 : k0_cond3 v1 v3 = 1#1) {X : S2x1024x128.Idx → Elt Ideal .f32} (hX : R3 X A) :
    R3 (put X acc1
      (k0_pay30 (F := Ideal) (pick σ.d cols1A) (k0_pay26 (F := Ideal) (pick σ.q cols1A) (pick σ.k cols1A) (pick σ.fk gate1A) (pick σ.ls sums1A)) (pick X acc1.toLoadRect)))
      (stV (pT T) T.d 1 0 1024 1024 A) := by
  obtain ⟨hq, hk, hv, ho', hd', hls, hfk⟩ := hT
  refine put3c _ hX (r30 (p2 hd') (r26 (p2 hq) (p2 hk) (p3 hfk) (p3 hls)) (p3 hX)) ?_ ?_
  · intro a b c ha hb hc
    obtain rfl : a = 0 := by omega
    simp [stV, stF, stQ, stG, pD, pT, sP, hd, eT, xT, dT, oT, mk, hb, hc]
  · intro a b c ha hb hc hn
    simp only [Matrix.cons_val_zero, Matrix.cons_val_one, Matrix.cons_val] at hn
    simp only [stV, stF, stQ, stG]
    rw [if_neg (by omega)]

theorem offT_sdk_0 (hT : HasT σ T) (k0_hw1 : k0_chk1 v1 v3) (k0_h3 : k0_cond3 v1 v3 = 1#1) {X : S2x1024x128.Idx → Elt Ideal .f32} (hX : R3 X A) :
    R3 (put X acc0
      (k0_pay21 (F := Ideal) (pick σ.q cols0A) (k0_pay18 (F := Ideal) (pick σ.q cols0A) (pick σ.k cols0A) (pick σ.v cols0A) (pick σ.d cols0A) (pick σ.o cols0A) (pick σ.fk gate0A) (pick σ.ls sums0A)) (pick X acc0.toLoadRect)))
      (stV (sP T (pT T)) T.q 0 0 1024 1024 A) := by
  obtain ⟨hq, hk, hv, ho', hd', hls, hfk⟩ := hT
  refine put3c _ hX (r21 (p2 hq) (r18 (p2 hq) (p2 hk) (p2 hv) (p2 hd') (p2 ho') (p3 hfk) (p3 hls)) (p3 hX)) ?_ ?_
  · intro a b c ha hb hc
    obtain rfl : a = 0 := by omega
    simp [stV, stF, stQ, stG, pD, pT, sP, hd, eT, xT, dT, oT, mk, hb, hc]
  · intro a b c ha hb hc hn
    simp only [Matrix.cons_val_zero, Matrix.cons_val_one, Matrix.cons_val] at hn
    simp only [stV, stF, stQ, stG]
    rw [if_neg (by omega)]

theorem offT_sdk_1 (hT : HasT σ T) (k0_hw1 : k0_chk1 v1 v3) (k0_h3 : k0_cond3 v1 v3 = 1#1) {X : S2x1024x128.Idx → Elt Ideal .f32} (hX : R3 X A) :
    R3 (put X acc1
      (k0_pay31 (F := Ideal) (pick σ.q cols1A) (pick σ.v cols1A) (pick σ.d cols1A) (k0_pay25 (F := Ideal) (pick σ.d cols1A) (pick σ.o cols1A)) (k0_pay26 (F := Ideal) (pick σ.q cols1A) (pick σ.k cols1A) (pick σ.fk gate1A) (pick σ.ls sums1A)) (pick X acc1.toLoadRect)))
      (stV (sP T (pT T)) T.q 1 0 1024 1024 A) := by
  obtain ⟨hq, hk, hv, ho', hd', hls, hfk⟩ := hT
  refine put3c _ hX (r31 (p2 hq) (p2 hv) (p2 hd') (r25 (p2 hd') (p2 ho')) (r26 (p2 hq) (p2 hk) (p3 hfk) (p3 hls)) (p3 hX)) ?_ ?_
  · intro a b c ha hb hc
    obtain rfl : a = 0 := by omega
    simp [stV, stF, stQ, stG, pD, pT, sP, hd, eT, xT, dT, oT, mk, hb, hc]
  · intro a b c ha hb hc hn
    simp only [Matrix.cons_val_zero, Matrix.cons_val_one, Matrix.cons_val] at hn
    simp only [stV, stF, stQ, stG]
    rw [if_neg (by omega)]

theorem offT_sdq_0 (hT : HasT σ T) (k0_hw1 : k0_chk1 v1 v3) (k0_h3 : k0_cond3 v1 v3 = 1#1) {o : ℕ} (ho : k0_off2 v1 = ![0, o + 0, 0]) {X : S2x4096x128.Idx → Elt Ideal .f32} (hX : R3 X A) :
    R3 (put X (Rect.unit (s := S2x4096x128) (k0_off2 v1) S1x1024x128.size (k0_off2_inb v1 v3 k0_hw1 k0_h3))
      (k0_pay22 (F := Ideal) (pick σ.k cols0A) (k0_pay18 (F := Ideal) (pick σ.q cols0A) (pick σ.k cols0A) (pick σ.v cols0A) (pick σ.d cols0A) (pick σ.o cols0A) (pick σ.fk gate0A) (pick σ.ls sums0A)) (pick X (Rect.unit (s := S2x4096x128) (k0_off2 v1) S1x1024x128.size (k0_off2_inb v1 v3 k0_hw1 k0_h3)).toLoadRect)))
      (stQ (sP T (pT T)) T.k 0 o 0 1024 1024 A) := by
  obtain ⟨hq, hk, hv, ho', hd', hls, hfk⟩ := hT
  refine put3c _ hX (r22 (p2 hk) (r18 (p2 hq) (p2 hk) (p2 hv) (p2 hd') (p2 ho') (p3 hfk) (p3 hls)) (p3 hX)) ?_ ?_
  · intro a b c ha hb hc
    obtain rfl : a = 0 := by omega
    simp [ho, stV, stF, stQ, stG, pD, pT, sP, hd, eT, xT, dT, oT, mk, hb, hc]
  · intro a b c ha hb hc hn
    simp only [ho, Matrix.cons_val_zero, Matrix.cons_val_one, Matrix.cons_val] at hn
    simp only [stV, stF, stQ, stG]
    rw [if_neg (by omega)]

theorem offT_sdq_1 (hT : HasT σ T) (k0_hw1 : k0_chk1 v1 v3) (k0_h3 : k0_cond3 v1 v3 = 1#1) {o : ℕ} (ho : k0_off3 v1 = ![1, o + 0, 0]) {X : S2x4096x128.Idx → Elt Ideal .f32} (hX : R3 X A) :
    R3 (put X (Rect.unit (s := S2x4096x128) (k0_off3 v1) S1x1024x128.size (k0_off3_inb v1 v3 k0_hw1 k0_h3))
      (k0_pay32 (F := Ideal) (pick σ.k cols1A) (pick σ.v cols1A) (pick σ.d cols1A) (k0_pay25 (F := Ideal) (pick σ.d cols1A) (pick σ.o cols1A)) (k0_pay26 (F := Ideal) (pick σ.q cols1A) (pick σ.k cols1A) (pick σ.fk gate1A) (pick σ.ls sums1A)) (pick X (Rect.unit (s := S2x4096x128) (k0_off3 v1) S1x1024x128.size (k0_off3_inb v1 v3 k0_hw1 k0_h3)).toLoadRect)))
      (stQ (sP T (pT T)) T.k 1 o 0 1024 1024 A) := by
  obtain ⟨hq, hk, hv, ho', hd', hls, hfk⟩ := hT
  refine put3c _ hX (r32 (p2 hk) (p2 hv) (p2 hd') (r25 (p2 hd') (p2 ho')) (r26 (p2 hq) (p2 hk) (p3 hfk) (p3 hls)) (p3 hX)) ?_ ?_
  · intro a b c ha hb hc
    obtain rfl : a = 0 := by omega
    simp [ho, stV, stF, stQ, stG, pD, pT, sP, hd, eT, xT, dT, oT, mk, hb, hc]
  · intro a b c ha hb hc hn
    simp only [ho, Matrix.cons_val_zero, Matrix.cons_val_one, Matrix.cons_val] at hn
    simp only [stV, stF, stQ, stG]
    rw [if_neg (by omega)]

theorem offT_sdf_0 (hT : HasT σ T) (k0_hw1 : k0_chk1 v1 v3) (k0_h3 : k0_cond3 v1 v3 = 1#1) {X : S2x1x1024.Idx → Elt Ideal .f32} (hX : R3 X A) :
    R3 (put X row0
      (k0_pay23 (F := Ideal) (k0_pay17 (F := Ideal) (pick σ.q cols0A) (pick σ.k cols0A) (pick σ.v cols0A) (pick σ.d cols0A) (pick σ.o cols0A) (pick σ.fk gate0A) (pick σ.ls sums0A)) (pick X row0.toLoadRect)))
      (stF (sP T (pT T)) 0 0 1024 1024 A) := by
  obtain ⟨hq, hk, hv, ho', hd', hls, hfk⟩ := hT
  refine put3c _ hX (r23 (r17 (p2 hq) (p2 hk) (p2 hv) (p2 hd') (p2 ho') (p3 hfk) (p3 hls)) (p3 hX)) ?_ ?_
  · intro a b c ha hb hc
    obtain rfl : a = 0 := by omega
    obtain rfl : b = 0 := by omega
    simp [stV, stF, stQ, stG, pD, pT, sP, hd, eT, xT, dT, oT, mk, hb, hc]
  · intro a b c ha hb hc hn
    simp only [Matrix.cons_val_zero, Matrix.cons_val_one, Matrix.cons_val] at hn
    simp only [stV, stF, stQ, stG]
    rw [if_neg (by omega)]

theorem offT_sdf_1 (hT : HasT σ T) (k0_hw1 : k0_chk1 v1 v3) (k0_h3 : k0_cond3 v1 v3 = 1#1) {X : S2x1x1024.Idx → Elt Ideal .f32} (hX : R3 X A) :
    R3 (put X row1
      (k0_pay6 (F := Ideal) (k0_pay28 (F := Ideal) (pick σ.v cols1A) (pick σ.d cols1A) (k0_pay25 (F := Ideal) (pick σ.d cols1A) (pick σ.o cols1A)) (k0_pay26 (F := Ideal) (pick σ.q cols1A) (pick σ.k cols1A) (pick σ.fk gate1A) (pick σ.ls sums1A))) (pick X row1.toLoadRect)))
      (stF (sP T (pT T)) 1 0 1024 1024 A) := by
  obtain ⟨hq, hk, hv, ho', hd', hls, hfk⟩ := hT
  refine put3c _ hX (r6 (r28 (p2 hv) (p2 hd') (r25 (p2 hd') (p2 ho')) (r26 (p2 hq) (p2 hk) (p3 hfk) (p3 hls))) (p3 hX)) ?_ ?_
  · intro a b c ha hb hc
    obtain rfl : a = 0 := by omega
    obtain rfl : b = 0 := by omega
    simp [stV, stF, stQ, stG, pD, pT, sP, hd, eT, xT, dT, oT, mk, hb, hc]
  · intro a b c ha hb hc hn
    simp only [Matrix.cons_val_zero, Matrix.cons_val_one, Matrix.cons_val] at hn
    simp only [stV, stF, stQ, stG]
    rw [if_neg (by omega)]

theorem offT_sfq_0 (hT : HasT σ T) (k0_hw1 : k0_chk1 v1 v3) (k0_h3 : k0_cond3 v1 v3 = 1#1) {o : ℕ} (ho : k0_off2 v1 = ![0, o + 0, 0]) {X : S2x4096x128.Idx → Elt Ideal .f32} (hX : R3 X A) :
    R3 (put X (Rect.unit (s := S2x4096x128) (k0_off2 v1) S1x1024x128.size (k0_off2_inb v1 v3 k0_hw1 k0_h3))
      (k0_pay24 (F := Ideal) (k0_pay17 (F := Ideal) (pick σ.q cols0A) (pick σ.k cols0A) (pick σ.v cols0A) (pick σ.d cols0A) (pick σ.o cols0A) (pick σ.fk gate0A) (pick σ.ls sums0A)) (pick X (Rect.unit (s := S2x4096x128) (k0_off2 v1) S1x1024x128.size (k0_off2_inb v1 v3 k0_hw1 k0_h3)).toLoadRect)))
      (stG (sP T (pT T)) 0 o 0 1024 1024 A) := by
  obtain ⟨hq, hk, hv, ho', hd', hls, hfk⟩ := hT
  refine put3c _ hX (r24 (r17 (p2 hq) (p2 hk) (p2 hv) (p2 hd') (p2 ho') (p3 hfk) (p3 hls)) (p3 hX)) ?_ ?_
  · intro a b c ha hb hc
    obtain rfl : a = 0 := by omega
    simp [ho, stV, stF, stQ, stG, pD, pT, sP, hd, eT, xT, dT, oT, mk, hb, hc]
  · intro a b c ha hb hc hn
    simp only [ho, Matrix.cons_val_zero, Matrix.cons_val_one, Matrix.cons_val] at hn
    simp only [stV, stF, stQ, stG]
    rw [if_neg (by omega)]

theorem offT_sfq_1 (hT : HasT σ T) (k0_hw1 : k0_chk1 v1 v3) (k0_h3 : k0_cond3 v1 v3 = 1#1) {o : ℕ} (ho : k0_off3 v1 = ![1, o + 0, 0]) {X : S2x4096x128.Idx → Elt Ideal .f32} (hX : R3 X A) :
    R3 (put X (Rect.unit (s := S2x4096x128) (k0_off3 v1) S1x1024x128.size (k0_off3_inb v1 v3 k0_hw1 k0_h3))
      (k0_pay7 (F := Ideal) (k0_pay28 (F := Ideal) (pick σ.v cols1A) (pick σ.d cols1A) (k0_pay25 (F := Ideal) (pick σ.d cols1A) (pick σ.o cols1A)) (k0_pay26 (F := Ideal) (pick σ.q cols1A) (pick σ.k cols1A) (pick σ.fk gate1A) (pick σ.ls sums1A))) (pick X (Rect.unit (s := S2x4096x128) (k0_off3 v1) S1x1024x128.size (k0_off3_inb v1 v3 k0_hw1 k0_h3)).toLoadRect)))
      (stG (sP T (pT T)) 1 o 0 1024 1024 A) := by
  obtain ⟨hq, hk, hv, ho', hd', hls, hfk⟩ := hT
  refine put3c _ hX (r7 (r28 (p2 hv) (p2 hd') (r25 (p2 hd') (p2 ho')) (r26 (p2 hq) (p2 hk) (p3 hfk) (p3 hls))) (p3 hX)) ?_ ?_
  · intro a b c ha hb hc
    obtain rfl : a = 0 := by omega
    simp [ho, stV, stF, stQ, stG, pD, pT, sP, hd, eT, xT, dT, oT, mk, hb, hc]
  · intro a b c ha hb hc hn
    simp only [ho, Matrix.cons_val_zero, Matrix.cons_val_one, Matrix.cons_val] at hn
    simp only [stV, stF, stQ, stG]
    rw [if_neg (by omega)]

theorem diagT_sdv_0 (hT : HasT σ T) (k0_hw1 : k0_chk1 v1 v3) (k0_h4 : k0_cond4 v1 v3 = 1#1) {X : S2x1024x128.Idx → Elt Ideal .f32} (hX : R3 X A) :
    R3 (put X accT0
      (k0_pay38 (F := Ideal) (pick σ.d cols0B) (k0_pay33 (F := Ideal) (pick σ.q cols0B) (pick σ.k cols0B) (pick σ.fk gate0B) (pick σ.ls sums0B)) (pick X accT0.toLoadRect)))
      (stV (pD T) T.d 0 0 512 512 A) := by
  obtain ⟨hq, hk, hv, ho', hd', hls, hfk⟩ := hT
  refine put3c _ hX (r38 (p2 hd') (r33 (p2 hq) (p2 hk) (p3 hfk) (p3 hls)) (p3 hX)) ?_ ?_
  · intro a b c ha hb hc
    obtain rfl : a = 0 := by omega
    simp [stV, stF, stQ, stG, pD, pT, sP, hd, eT, xT, dT, oT, mk, hb, hc]
  · intro a b c ha hb hc hn
    simp only [Matrix.cons_val_zero, Matrix.cons_val_one, Matrix.cons_val] at hn
    simp only [stV, stF, stQ, stG]
    rw [if_neg (by omega)]

theorem diagT_sdv_1 (hT : HasT σ T) (k0_hw1 : k0_chk1 v1 v3) (k0_h4 : k0_cond4 v1 v3 = 1#1) {X : S2x1024x128.Idx → Elt Ideal .f32} (hX : R3 X A) :
    R3 (put X acc0
      (k0_pay50 (F := Ideal) (pick σ.d cols0C) (k0_pay45 (F := Ideal) (pick σ.fk gate0A)) (k0_pay46 (F := Ideal) (pick σ.q cols0C) (pick σ.k cols0A)) (pick σ.ls sums0C) (pick X acc0.toLoadRect)))
      (stV (pD T) T.d 0 512 512 1024 A) := by
  obtain ⟨hq, hk, hv, ho', hd', hls, hfk⟩ := hT
  refine put3c _ hX (r50 (p2 hd') (r45 (p3 hfk)) (r46 (p2 hq) (p2 hk)) (p3 hls) (p3 hX)) ?_ ?_
  · intro a b c ha hb hc
    obtain rfl : a = 0 := by omega
    simp [stV, stF, stQ, stG, pD, pT, sP, hd, eT, xT, dT, oT, mk, hb, hc]
  · intro a b c ha hb hc hn
    simp only [Matrix.cons_val_zero, Matrix.cons_val_one, Matrix.cons_val] at hn
    simp only [stV, stF, stQ, stG]
    rw [if_neg (by omega)]

theorem diagT_sdv_2 (hT : HasT σ T) (k0_hw1 : k0_chk1 v1 v3) (k0_h4 : k0_cond4 v1 v3 = 1#1) {X : S2x1024x128.Idx → Elt Ideal .f32} (hX : R3 X A) :
    R3 (put X accT1
      (k0_pay59 (F := Ideal) (pick σ.d cols1B) (k0_pay56 (F := Ideal) (pick σ.q cols1B) (pick σ.k cols1B) (pick σ.fk gate1B) (pick σ.ls sums1B)) (pick X accT1.toLoadRect)))
      (stV (pD T) T.d 1 0 512 512 A) := by
  obtain ⟨hq, hk, hv, ho', hd', hls, hfk⟩ := hT
  refine put3c _ hX (r59 (p2 hd') (r56 (p2 hq) (p2 hk) (p3 hfk) (p3 hls)) (p3 hX)) ?_ ?_
  · intro a b c ha hb hc
    obtain rfl : a = 0 := by omega
    simp [stV, stF, stQ, stG, pD, pT, sP, hd, eT, xT, dT, oT, mk, hb, hc]
  · intro a b c ha hb hc hn
    simp only [Matrix.cons_val_zero, Matrix.cons_val_one, Matrix.cons_val] at hn
    simp only [stV, stF, stQ, stG]
    rw [if_neg (by omega)]

theorem diagT_sdv_3 (hT : HasT σ T) (k0_hw1 : k0_chk1 v1 v3) (k0_h4 : k0_cond4 v1 v3 = 1#1) {X : S2x1024x128.Idx → Elt Ideal .f32} (hX : R3 X A) :
    R3 (put X acc1
      (k0_pay71 (F := Ideal) (pick σ.d cols1C) (k0_pay66 (F := Ideal) (pick σ.q cols1C) (pick σ.k cols1A)) (k0_pay67 (F := Ideal) (pick σ.fk gate1A)) (pick σ.ls sums1C) (pick X acc1.toLoadRect)))
      (stV (pD T) T.d 1 512 512 1024 A) := by
  obtain ⟨hq, hk, hv, ho', hd', hls, hfk⟩ := hT
  refine put3c _ hX (r71 (p2 hd') (r66 (p2 hq) (p2 hk)) (r67 (p3 hfk)) (p3 hls) (p3 hX)) ?_ ?_
  · intro a b c ha hb hc
    obtain rfl : a = 0 := by omega
    simp [stV, stF, stQ, stG, pD, pT, sP, hd, eT, xT, dT, oT, mk, hb, hc]
  · intro a b c ha hb hc hn
    simp only [Matrix.cons_val_zero, Matrix.cons_val_one, Matrix.cons_val] at hn
    simp only [stV, stF, stQ, stG]
    rw [if_neg (by omega)]

theorem diagT_sdk_0 (hT : HasT σ T) (k0_hw1 : k0_chk1 v1 v3) (k0_h4 : k0_cond4 v1 v3 = 1#1) {X : S2x1024x128.Idx → Elt Ideal .f32} (hX : R3 X A) :
    R3 (put X accT0
      (k0_pay39 (F := Ideal) (pick σ.q cols0B) (k0_pay33 (F := Ideal) (pick σ.q cols0B) (pick σ.k cols0B) (pick σ.fk gate0B) (pick σ.ls sums0B)) (k0_pay34 (F := Ideal) (pick σ.v cols0B) (pick σ.d cols0B)) (k0_pay35 (F := Ideal) (pick σ.d cols0B) (pick σ.o cols0B)) (pick X accT0.toLoadRect)))
      (stV (sP T (pD T)) T.q 0 0 512 512 A) := by
  obtain ⟨hq, hk, hv, ho', hd', hls, hfk⟩ := hT
  refine put3c _ hX (r39 (p2 hq) (r33 (p2 hq) (p2 hk) (p3 hfk) (p3 hls)) (r34 (p2 hv) (p2 hd')) (r35 (p2 hd') (p2 ho')) (p3 hX)) ?_ ?_
  · intro a b c ha hb hc
    obtain rfl : a = 0 := by omega
    simp [stV, stF, stQ, stG, pD, pT, sP, hd, eT, xT, dT, oT, mk, hb, hc]
  · intro a b c ha hb hc hn
    simp only [Matrix.cons_val_zero, Matrix.cons_val_one, Matrix.cons_val] at hn
    simp only [stV, stF, stQ, stG]
    rw [if_neg (by omega)]

theorem diagT_sdk_1 (hT : HasT σ T) (k0_hw1 : k0_chk1 v1 v3) (k0_h4 : k0_cond4 v1 v3 = 1#1) {X : S2x1024x128.Idx → Elt Ideal .f32} (hX : R3 X A) :
    R3 (put X acc0
      (k0_pay52 (F := Ideal) (k0_pay51 (F := Ideal) (pick σ.q cols0C) (pick σ.v cols0A) (pick σ.d cols0C) (k0_pay44 (F := Ideal) (pick σ.d cols0C) (pick σ.o cols0C)) (k0_pay45 (F := Ideal) (pick σ.fk gate0A)) (k0_pay46 (F := Ideal) (pick σ.q cols0C) (pick σ.k cols0A)) (pick σ.ls sums0C) (pick X acc0.toLoadRect))))
      (stV (sP T (pD T)) T.q 0 512 512 1024 A) := by
  obtain ⟨hq, hk, hv, ho', hd', hls, hfk⟩ := hT
  refine put3c _ hX (r52 (r51 (p2 hq) (p2 hv) (p2 hd') (r44 (p2 hd') (p2 ho')) (r45 (p3 hfk)) (r46 (p2 hq) (p2 hk)) (p3 hls) (p3 hX))) ?_ ?_
  · intro a b c ha hb hc
    obtain rfl : a = 0 := by omega
    simp [stV, stF, stQ, stG, pD, pT, sP, hd, eT, xT, dT, oT, mk, hb, hc]
  · intro a b c ha hb hc hn
    simp only [Matrix.cons_val_zero, Matrix.cons_val_one, Matrix.cons_val] at hn
    simp only [stV, stF, stQ, stG]
    rw [if_neg (by omega)]

theorem diagT_sdk_2 (hT : HasT σ T) (k0_hw1 : k0_chk1 v1 v3) (k0_h4 : k0_cond4 v1 v3 = 1#1) {X : S2x1024x128.Idx → Elt Ideal .f32} (hX : R3 X A) :
    R3 (put X accT1
      (k0_pay60 (F := Ideal) (pick σ.q cols1B) (k0_pay58 (F := Ideal) (pick σ.q cols1B) (pick σ.k cols1B) (pick σ.v cols1B) (pick σ.d cols1B) (pick σ.o cols1B) (pick σ.fk gate1B) (pick σ.ls sums1B)) (pick X accT1.toLoadRect)))
      (stV (sP T (pD T)) T.q 1 0 512 512 A) := by
  obtain ⟨hq, hk, hv, ho', hd', hls, hfk⟩ := hT
  refine put3c _ hX (r60 (p2 hq) (r58 (p2 hq) (p2 hk) (p2 hv) (p2 hd') (p2 ho') (p3 hfk) (p3 hls)) (p3 hX)) ?_ ?_
  · intro a b c ha hb hc
    obtain rfl : a = 0 := by omega
    simp [stV, stF, stQ, stG, pD, pT, sP, hd, eT, xT, dT, oT, mk, hb, hc]
  · intro a b c ha hb hc hn
    simp only [Matrix.cons_val_zero, Matrix.cons_val_one, Matrix.cons_val] at hn
    simp only [stV, stF, stQ, stG]
    rw [if_neg (by omega)]

theorem diagT_sdk_3 (hT : HasT σ T) (k0_hw1 : k0_chk1 v1 v3) (k0_h4 : k0_cond4 v1 v3 = 1#1) {X : S2x1024x128.Idx → Elt Ideal .f32} (hX : R3 X A) :
    R3 (put X acc1
      (k0_pay72 (F := Ideal) (pick σ.q cols1C) (pick σ.v cols1A) (pick σ.d cols1C) (k0_pay65 (F := Ideal) (pick σ.d cols1C) (pick σ.o cols1C)) (k0_pay66 (F := Ideal) (pick σ.q cols1C) (pick σ.k cols1A)) (k0_pay67 (F := Ideal) (pick σ.fk gate1A)) (pick σ.ls sums1C) (pick X acc1.toLoadRect)))
      (stV (sP T (pD T)) T.q 1 512 512 1024 A) := by
  obtain ⟨hq, hk, hv, ho', hd', hls, hfk⟩ := hT
  refine put3c _ hX (r72 (p2 hq) (p2 hv) (p2 hd') (r65 (p2 hd') (p2 ho')) (r66 (p2 hq) (p2 hk)) (r67 (p3 hfk)) (p3 hls) (p3 hX)) ?_ ?_
  · intro a b c ha hb hc
    obtain rfl : a = 0 := by omega
    simp [stV, stF, stQ, stG, pD, pT, sP, hd, eT, xT, dT, oT, mk, hb, hc]
  · intro a b c ha hb hc hn
    simp only [Matrix.cons_val_zero, Matrix.cons_val_one, Matrix.cons_val] at hn
    simp only [stV, stF, stQ, stG]
    rw [if_neg (by omega)]

theorem diagT_sdq_0 (hT : HasT σ T) (k0_hw1 : k0_chk1 v1 v3) (k0_h4 : k0_cond4 v1 v3 = 1#1) {o : ℕ} (ho : k0_off4 v1 0#32 = ![0, o + 0, 0]) {X : S2x4096x128.Idx → Elt Ideal .f32} (hX : R3 X A) :
    R3 (put X (Rect.unit (s := S2x4096x128) (k0_off4 v1 0#32) S1x512x128.size (k0_off4_inb v1 v3 k0_hw1 k0_h4 0))
      (k0_pay40 (F := Ideal) (pick σ.k cols0B) (k0_pay33 (F := Ideal) (pick σ.q cols0B) (pick σ.k cols0B) (pick σ.fk gate0B) (pick σ.ls sums0B)) (k0_pay34 (F := Ideal) (pick σ.v cols0B) (pick σ.d cols0B)) (k0_pay35 (F := Ideal) (pick σ.d cols0B) (pick σ.o cols0B)) (pick X (Rect.unit (s := S2x4096x128) (k0_off4 v1 0#32) S1x512x128.size (k0_off4_inb v1 v3 k0_hw1 k0_h4 0)).toLoadRect)))
      (stQ (sP T (pD T)) T.k 0 o 0 512 512 A) := by
  obtain ⟨hq, hk, hv, ho', hd', hls, hfk⟩ := hT
  refine put3c _ hX (r40 (p2 hk) (r33 (p2 hq) (p2 hk) (p3 hfk) (p3 hls)) (r34 (p2 hv) (p2 hd')) (r35 (p2 hd') (p2 ho')) (p3 hX)) ?_ ?_
  · intro a b c ha hb hc
    obtain rfl : a = 0 := by omega
    simp [ho, stV, stF, stQ, stG, pD, pT, sP, hd, eT, xT, dT, oT, mk, hb, hc]
  · intro a b c ha hb hc hn
    simp only [ho, Matrix.cons_val_zero, Matrix.cons_val_one, Matrix.cons_val] at hn
    simp only [stV, stF, stQ, stG]
    rw [if_neg (by omega)]

theorem diagT_sdq_1 (hT : HasT σ T) (k0_hw1 : k0_chk1 v1 v3) (k0_h4 : k0_cond4 v1 v3 = 1#1) {o : ℕ} (ho : k0_off4 v1 512#32 = ![0, o + 512, 0]) {X : S2x4096x128.Idx → Elt Ideal .f32} (hX : R3 X A) :
    R3 (put X (Rect.unit (s := S2x4096x128) (k0_off4 v1 512#32) S1x512x128.size (k0_off4_inb v1 v3 k0_hw1 k0_h4 1))
      (k0_pay53 (F := Ideal) (pick σ.k cols0A) (k0_pay49 (F := Ideal) (pick σ.v cols0A) (pick σ.d cols0C) (k0_pay44 (F := Ideal) (pick σ.d cols0C) (pick σ.o cols0C)) (k0_pay45 (F := Ideal) (pick σ.fk gate0A)) (k0_pay46 (F := Ideal) (pick σ.q cols0C) (pick σ.k cols0A)) (pick σ.ls sums0C)) (pick X (Rect.unit (s := S2x4096x128) (k0_off4 v1 512#32) S1x512x128.size (k0_off4_inb v1 v3 k0_hw1 k0_h4 1)).toLoadRect)))
      (stQ (sP T (pD T)) T.k 0 o 512 512 1024 A) := by
  obtain ⟨hq, hk, hv, ho', hd', hls, hfk⟩ := hT
  refine put3c _ hX (r53 (p2 hk) (r49 (p2 hv) (p2 hd') (r44 (p2 hd') (p2 ho')) (r45 (p3 hfk)) (r46 (p2 hq) (p2 hk)) (p3 hls)) (p3 hX)) ?_ ?_
  · intro a b c ha hb hc
    obtain rfl : a = 0 := by omega
    simp [ho, stV, stF, stQ, stG, pD, pT, sP, hd, eT, xT, dT, oT, mk, hb, hc]
  · intro a b c ha hb hc hn
    simp only [ho, Matrix.cons_val_zero, Matrix.cons_val_one, Matrix.cons_val] at hn
    simp only [stV, stF, stQ, stG]
    rw [if_neg (by omega)]

theorem diagT_sdq_2 (hT : HasT σ T) (k0_hw1 : k0_chk1 v1 v3) (k0_h4 : k0_cond4 v1 v3 = 1#1) {o : ℕ} (ho : k0_off5 v1 0#32 = ![1, o + 0, 0]) {X : S2x4096x128.Idx → Elt Ideal .f32} (hX : R3 X A) :
    R3 (put X (Rect.unit (s := S2x4096x128) (k0_off5 v1 0#32) S1x512x128.size (k0_off5_inb v1 v3 k0_hw1 k0_h4 0))
      (k0_pay61 (F := Ideal) (pick σ.k cols1B) (k0_pay58 (F := Ideal) (pick σ.q cols1B) (pick σ.k cols1B) (pick σ.v cols1B) (pick σ.d cols1B) (pick σ.o cols1B) (pick σ.fk gate1B) (pick σ.ls sums1B)) (pick X (Rect.unit (s := S2x4096x128) (k0_off5 v1 0#32) S1x512x128.size (k0_off5_inb v1 v3 k0_hw1 k0_h4 0)).toLoadRect)))
      (stQ (sP T (pD T)) T.k 1 o 0 512 512 A) := by
  obtain ⟨hq, hk, hv, ho', hd', hls, hfk⟩ := hT
  refine put3c _ hX (r61 (p2 hk) (r58 (p2 hq) (p2 hk) (p2 hv) (p2 hd') (p2 ho') (p3 hfk) (p3 hls)) (p3 hX)) ?_ ?_
  · intro a b c ha hb hc
    obtain rfl : a = 0 := by omega
    simp [ho, stV, stF, stQ, stG, pD, pT, sP, hd, eT, xT, dT, oT, mk, hb, hc]
  · intro a b c ha hb hc hn
    simp only [ho, Matrix.cons_val_zero, Matrix.cons_val_one, Matrix.cons_val] at hn
    simp only [stV, stF, stQ, stG]
    rw [if_neg (by omega)]

theorem diagT_sdq_3 (hT : HasT σ T) (k0_hw1 : k0_chk1 v1 v3) (k0_h4 : k0_cond4 v1 v3 = 1#1) {o : ℕ} (ho : k0_off5 v1 512#32 = ![1, o + 512, 0]) {X : S2x4096x128.Idx → Elt Ideal .f32} (hX : R3 X A) :
    R3 (put X (Rect.unit (s := S2x4096x128) (k0_off5 v1 512#32) S1x512x128.size (k0_off5_inb v1 v3 k0_hw1 k0_h4 1))
      (k0_pay73 (F := Ideal) (pick σ.k cols1A) (k0_pay70 (F := Ideal) (pick σ.v cols1A) (pick σ.d cols1C) (k0_pay65 (F := Ideal) (pick σ.d cols1C) (pick σ.o cols1C)) (k0_pay66 (F := Ideal) (pick σ.q cols1C) (pick σ.k cols1A)) (k0_pay67 (F := Ideal) (pick σ.fk gate1A)) (pick σ.ls sums1C)) (pick X (Rect.unit (s := S2x4096x128) (k0_off5 v1 512#32) S1x512x128.size (k0_off5_inb v1 v3 k0_hw1 k0_h4 1)).toLoadRect)))
      (stQ (sP T (pD T)) T.k 1 o 512 512 1024 A) := by
  obtain ⟨hq, hk, hv, ho', hd', hls, hfk⟩ := hT
  refine put3c _ hX (r73 (p2 hk) (r70 (p2 hv) (p2 hd') (r65 (p2 hd') (p2 ho')) (r66 (p2 hq) (p2 hk)) (r67 (p3 hfk)) (p3 hls)) (p3 hX)) ?_ ?_
  · intro a b c ha hb hc
    obtain rfl : a = 0 := by omega
    simp [ho, stV, stF, stQ, stG, pD, pT, sP, hd, eT, xT, dT, oT, mk, hb, hc]
  · intro a b c ha hb hc hn
    simp only [ho, Matrix.cons_val_zero, Matrix.cons_val_one, Matrix.cons_val] at hn
    simp only [stV, stF, stQ, stG]
    rw [if_neg (by omega)]

theorem diagT_sdf_0 (hT : HasT σ T) (k0_hw1 : k0_chk1 v1 v3) (k0_h4 : k0_cond4 v1 v3 = 1#1) {X : S2x1x1024.Idx → Elt Ideal .f32} (hX : R3 X A) :
    R3 (put X rowT0
      (k0_pay42 (F := Ideal) (k0_pay36 (F := Ideal) (k0_pay33 (F := Ideal) (pick σ.q cols0B) (pick σ.k cols0B) (pick σ.fk gate0B) (pick σ.ls sums0B)) (k0_pay34 (F := Ideal) (pick σ.v cols0B) (pick σ.d cols0B)) (k0_pay35 (F := Ideal) (pick σ.d cols0B) (pick σ.o cols0B))) (k0_pay41 (F := Ideal) (pick X rowT0.toLoadRect))))
      (stF (sP T (pD T)) 0 0 512 512 A) := by
  obtain ⟨hq, hk, hv, ho', hd', hls, hfk⟩ := hT
  refine put3c _ hX (r42 (r36 (r33 (p2 hq) (p2 hk) (p3 hfk) (p3 hls)) (r34 (p2 hv) (p2 hd')) (r35 (p2 hd') (p2 ho'))) (r41 (p3 hX))) ?_ ?_
  · intro a b c ha hb hc
    obtain rfl : a = 0 := by omega
    obtain rfl : b = 0 := by omega
    simp [stV, stF, stQ, stG, pD, pT, sP, hd, eT, xT, dT, oT, mk, hb, hc]
  · intro a b c ha hb hc hn
    simp only [Matrix.cons_val_zero, Matrix.cons_val_one, Matrix.cons_val] at hn
    simp only [stV, stF, stQ, stG]
    rw [if_neg (by omega)]

theorem diagT_sdf_1 (hT : HasT σ T) (k0_hw1 : k0_chk1 v1 v3) (k0_h4 : k0_cond4 v1 v3 = 1#1) {X : S2x1x1024.Idx → Elt Ideal .f32} (hX : R3 X A) :
    R3 (put X row0
      (k0_pay54 (F := Ideal) (k0_pay48 (F := Ideal) (pick σ.v cols0A) (pick σ.d cols0C) (k0_pay44 (F := Ideal) (pick σ.d cols0C) (pick σ.o cols0C)) (k0_pay45 (F := Ideal) (pick σ.fk gate0A)) (k0_pay46 (F := Ideal) (pick σ.q cols0C) (pick σ.k cols0A)) (pick σ.ls sums0C)) (pick X row0.toLoadRect)))
      (stF (sP T (pD T)) 0 512 512 1024 A) := by
  obtain ⟨hq, hk, hv, ho', hd', hls, hfk⟩ := hT
  refine put3c _ hX (r54 (r48 (p2 hv) (p2 hd') (r44 (p2 hd') (p2 ho')) (r45 (p3 hfk)) (r46 (p2 hq) (p2 hk)) (p3 hls)) (p3 hX)) ?_ ?_
  · intro a b c ha hb hc
    obtain rfl : a = 0 := by omega
    obtain rfl : b = 0 := by omega
    simp [stV, stF, stQ, stG, pD, pT, sP, hd, eT, xT, dT, oT, mk, hb, hc]
  · intro a b c ha hb hc hn
    simp only [Matrix.cons_val_zero, Matrix.cons_val_one, Matrix.cons_val] at hn
    simp only [stV, stF, stQ, stG]
    rw [if_neg (by omega)]

theorem diagT_sdf_2 (hT : HasT σ T) (k0_hw1 : k0_chk1 v1 v3) (k0_h4 : k0_cond4 v1 v3 = 1#1) {X : S2x1x1024.Idx → Elt Ideal .f32} (hX : R3 X A) :
    R3 (put X rowT1
      (k0_pay63 (F := Ideal) (k0_pay62 (F := Ideal) (k0_pay57 (F := Ideal) (pick σ.q cols1B) (pick σ.k cols1B) (pick σ.v cols1B) (pick σ.d cols1B) (pick σ.o cols1B) (pick σ.fk gate1B) (pick σ.ls sums1B)) (pick X rowT1.toLoadRect))))
      (stF (sP T (pD T)) 1 0 512 512 A) := by
  obtain ⟨hq, hk, hv, ho', hd', hls, hfk⟩ := hT
  refine put3c _ hX (r63 (r62 (r57 (p2 hq) (p2 hk) (p2 hv) (p2 hd') (p2 ho') (p3 hfk) (p3 hls)) (p3 hX))) ?_ ?_
  · intro a b c ha hb hc
    obtain rfl : a = 0 := by omega
    obtain rfl : b = 0 := by omega
    simp [stV, stF, stQ, stG, pD, pT, sP, hd, eT, xT, dT, oT, mk, hb, hc]
  · intro a b c ha hb hc hn
    simp only [Matrix.cons_val_zero, Matrix.cons_val_one, Matrix.cons_val] at hn
    simp only [stV, stF, stQ, stG]
    rw [if_neg (by omega)]

theorem diagT_sdf_3 (hT : HasT σ T) (k0_hw1 : k0_chk1 v1 v3) (k0_h4 : k0_cond4 v1 v3 = 1#1) {X : S2x1x1024.Idx → Elt Ideal .f32} (hX : R3 X A) :
    R3 (put X row1
      (k0_pay74 (F := Ideal) (k0_pay69 (F := Ideal) (pick σ.v cols1A) (pick σ.d cols1C) (k0_pay65 (F := Ideal) (pick σ.d cols1C) (pick σ.o cols1C)) (k0_pay66 (F := Ideal) (pick σ.q cols1C) (pick σ.k cols1A)) (k0_pay67 (F := Ideal) (pick σ.fk gate1A)) (pick σ.ls sums1C)) (pick X row1.toLoadRect)))
      (stF (sP T (pD T)) 1 512 512 1024 A) := by
  obtain ⟨hq, hk, hv, ho', hd', hls, hfk⟩ := hT
  refine put3c _ hX (r74 (r69 (p2 hv) (p2 hd') (r65 (p2 hd') (p2 ho')) (r66 (p2 hq) (p2 hk)) (r67 (p3 hfk)) (p3 hls)) (p3 hX)) ?_ ?_
  · intro a b c ha hb hc
    obtain rfl : a = 0 := by omega
    obtain rfl : b = 0 := by omega
    simp [stV, stF, stQ, stG, pD, pT, sP, hd, eT, xT, dT, oT, mk, hb, hc]
  · intro a b c ha hb hc hn
    simp only [Matrix.cons_val_zero, Matrix.cons_val_one, Matrix.cons_val] at hn
    simp only [stV, stF, stQ, stG]
    rw [if_neg (by omega)]

theorem diagT_sfq_0 (hT : HasT σ T) (k0_hw1 : k0_chk1 v1 v3) (k0_h4 : k0_cond4 v1 v3 = 1#1) {o : ℕ} (ho : k0_off4 v1 0#32 = ![0, o + 0, 0]) {X : S2x4096x128.Idx → Elt Ideal .f32} (hX : R3 X A) :
    R3 (put X (Rect.unit (s := S2x4096x128) (k0_off4 v1 0#32) S1x512x128.size (k0_off4_inb v1 v3 k0_hw1 k0_h4 0))
      (k0_pay43 (F := Ideal) (k0_pay36 (F := Ideal) (k0_pay33 (F := Ideal) (pick σ.q cols0B) (pick σ.k cols0B) (pick σ.fk gate0B) (pick σ.ls sums0B)) (k0_pay34 (F := Ideal) (pick σ.v cols0B) (pick σ.d cols0B)) (k0_pay35 (F := Ideal) (pick σ.d cols0B) (pick σ.o cols0B))) (pick X (Rect.unit (s := S2x4096x128) (k0_off4 v1 0#32) S1x512x128.size (k0_off4_inb v1 v3 k0_hw1 k0_h4 0)).toLoadRect)))
      (stG (sP T (pD T)) 0 o 0 512 512 A) := by
  obtain ⟨hq, hk, hv, ho', hd', hls, hfk⟩ := hT
  refine put3c _ hX (r43 (r36 (r33 (p2 hq) (p2 hk) (p3 hfk) (p3 hls)) (r34 (p2 hv) (p2 hd')) (r35 (p2 hd') (p2 ho'))) (p3 hX)) ?_ ?_
  · intro a b c ha hb hc
    obtain rfl : a = 0 := by omega
    simp [ho, stV, stF, stQ, stG, pD, pT, sP, hd, eT, xT, dT, oT, mk, hb, hc]
  · intro a b c ha hb hc hn
    simp only [ho, Matrix.cons_val_zero, Matrix.cons_val_one, Matrix.cons_val] at hn
    simp only [stV, stF, stQ, stG]
    rw [if_neg (by omega)]

theorem diagT_sfq_1 (hT : HasT σ T) (k0_hw1 : k0_chk1 v1 v3) (k0_h4 : k0_cond4 v1 v3 = 1#1) {o : ℕ} (ho : k0_off4 v1 512#32 = ![0, o + 512, 0]) {X : S2x4096x128.Idx → Elt Ideal .f32} (hX : R3 X A) :
    R3 (put X (Rect.unit (s := S2x4096x128) (k0_off4 v1 512#32) S1x512x128.size (k0_off4_inb v1 v3 k0_hw1 k0_h4 1))
      (k0_pay55 (F := Ideal) (k0_pay48 (F := Ideal) (pick σ.v cols0A) (pick σ.d cols0C) (k0_pay44 (F := Ideal) (pick σ.d cols0C) (pick σ.o cols0C)) (k0_pay45 (F := Ideal) (pick σ.fk gate0A)) (k0_pay46 (F := Ideal) (pick σ.q cols0C) (pick σ.k cols0A)) (pick σ.ls sums0C)) (pick X (Rect.unit (s := S2x4096x128) (k0_off4 v1 512#32) S1x512x128.size (k0_off4_inb v1 v3 k0_hw1 k0_h4 1)).toLoadRect)))
      (stG (sP T (pD T)) 0 o 512 512 1024 A) := by
  obtain ⟨hq, hk, hv, ho', hd', hls, hfk⟩ := hT
  refine put3c _ hX (r55 (r48 (p2 hv) (p2 hd') (r44 (p2 hd') (p2 ho')) (r45 (p3 hfk)) (r46 (p2 hq) (p2 hk)) (p3 hls)) (p3 hX)) ?_ ?_
  · intro a b c ha hb hc
    obtain rfl : a = 0 := by omega
    simp [ho, stV, stF, stQ, stG, pD, pT, sP, hd, eT, xT, dT, oT, mk, hb, hc]
  · intro a b c ha hb hc hn
    simp only [ho, Matrix.cons_val_zero, Matrix.cons_val_one, Matrix.cons_val] at hn
    simp only [stV, stF, stQ, stG]
    rw [if_neg (by omega)]

theorem diagT_sfq_2 (hT : HasT σ T) (k0_hw1 : k0_chk1 v1 v3) (k0_h4 : k0_cond4 v1 v3 = 1#1) {o : ℕ} (ho : k0_off5 v1 0#32 = ![1, o + 0, 0]) {X : S2x4096x128.Idx → Elt Ideal .f32} (hX : R3 X A) :
    R3 (put X (Rect.unit (s := S2x4096x128) (k0_off5 v1 0#32) S1x512x128.size (k0_off5_inb v1 v3 k0_hw1 k0_h4 0))
      (k0_pay64 (F := Ideal) (k0_pay57 (F := Ideal) (pick σ.q cols1B) (pick σ.k cols1B) (pick σ.v cols1B) (pick σ.d cols1B) (pick σ.o cols1B) (pick σ.fk gate1B) (pick σ.ls sums1B)) (pick X (Rect.unit (s := S2x4096x128) (k0_off5 v1 0#32) S1x512x128.size (k0_off5_inb v1 v3 k0_hw1 k0_h4 0)).toLoadRect)))
      (stG (sP T (pD T)) 1 o 0 512 512 A) := by
  obtain ⟨hq, hk, hv, ho', hd', hls, hfk⟩ := hT
  refine put3c _ hX (r64 (r57 (p2 hq) (p2 hk) (p2 hv) (p2 hd') (p2 ho') (p3 hfk) (p3 hls)) (p3 hX)) ?_ ?_
  · intro a b c ha hb hc
    obtain rfl : a = 0 := by omega
    simp [ho, stV, stF, stQ, stG, pD, pT, sP, hd, eT, xT, dT, oT, mk, hb, hc]
  · intro a b c ha hb hc hn
    simp only [ho, Matrix.cons_val_zero, Matrix.cons_val_one, Matrix.cons_val] at hn
    simp only [stV, stF, stQ, stG]
    rw [if_neg (by omega)]

theorem diagT_sfq_3 (hT : HasT σ T) (k0_hw1 : k0_chk1 v1 v3) (k0_h4 : k0_cond4 v1 v3 = 1#1) {o : ℕ} (ho : k0_off5 v1 512#32 = ![1, o + 512, 0]) {X : S2x4096x128.Idx → Elt Ideal .f32} (hX : R3 X A) :
    R3 (put X (Rect.unit (s := S2x4096x128) (k0_off5 v1 512#32) S1x512x128.size (k0_off5_inb v1 v3 k0_hw1 k0_h4 1))
      (k0_pay75 (F := Ideal) (k0_pay69 (F := Ideal) (pick σ.v cols1A) (pick σ.d cols1C) (k0_pay65 (F := Ideal) (pick σ.d cols1C) (pick σ.o cols1C)) (k0_pay66 (F := Ideal) (pick σ.q cols1C) (pick σ.k cols1A)) (k0_pay67 (F := Ideal) (pick σ.fk gate1A)) (pick σ.ls sums1C)) (pick X (Rect.unit (s := S2x4096x128) (k0_off5 v1 512#32) S1x512x128.size (k0_off5_inb v1 v3 k0_hw1 k0_h4 1)).toLoadRect)))
      (stG (sP T (pD T)) 1 o 512 512 1024 A) := by
  obtain ⟨hq, hk, hv, ho', hd', hls, hfk⟩ := hT
  refine put3c _ hX (r75 (r69 (p2 hv) (p2 hd') (r65 (p2 hd') (p2 ho')) (r66 (p2 hq) (p2 hk)) (r67 (p3 hfk)) (p3 hls)) (p3 hX)) ?_ ?_
  · intro a b c ha hb hc
    obtain rfl : a = 0 := by omega
    simp [ho, stV, stF, stQ, stG, pD, pT, sP, hd, eT, xT, dT, oT, mk, hb, hc]
  · intro a b c ha hb hc hn
    simp only [ho, Matrix.cons_val_zero, Matrix.cons_val_one, Matrix.cons_val] at hn
    simp only [stV, stF, stQ, stG]
    rw [if_neg (by omega)]

end Cert.KernelIdeal.Attn

end
-- ==== Proof.Update.lean ====
/- What each branch of a grid point does, on real numbers: the two initialisations, the update of a tile off and on the diagonal, the
   two stores of finished gradients. -/
module

public import proofs.«01_k».proof.Proof.Branch

@[expose] public section

noncomputable section

namespace Cert.KernelIdeal.Attn

open Cert.KernelIdeal Cert.KernelIdeal.Gen Cert.Attn
open Idealize.ShloMosaic

/-- The numbers of the five accumulators: by head, row and column; the forget gates' two by head and row. -/
structure Acc where
  dq : ℕ → ℕ → ℕ → ℝ
  fq : ℕ → ℕ → ℝ
  dk : ℕ → ℕ → ℕ → ℝ
  dv : ℕ → ℕ → ℕ → ℝ
  df : ℕ → ℕ → ℝ

/-- The two accumulators over queries hold the numbers of `A`. -/
structure HasQ (σ : St Ideal) (A : Acc) : Prop where
  dq : R3 σ.sdq A.dq
  fq : R3 σ.sfq (fun e r _ => A.fq e r)

/-- The three accumulators over keys hold the numbers of `A`. -/
structure HasK (σ : St Ideal) (A : Acc) : Prop where
  dk : R3 σ.sdk A.dk
  dv : R3 σ.sdv A.dv
  df : R3 σ.sdf (fun e _ s => A.df e s)

/-- The update of one tile: `p` its probabilities, `o` the place of its first row. -/
def upd (T : Tin) (p : ℕ → ℕ → ℕ → ℝ) (o : ℕ) (A : Acc) : Acc where
  dq e r d := if o ≤ r ∧ r < o + 1024 then A.dq e r d + ∑ s : Fin 1024, sP T p e (r - o) s * hd T.k e s d else A.dq e r d
  fq e r := if o ≤ r ∧ r < o + 1024 then A.fq e r + ∑ s : Fin 1024, sP T p e (r - o) s else A.fq e r
  dk e s d := A.dk e s d + ∑ r : Fin 1024, sP T p e r s * hd T.q e r d
  dv e s d := A.dv e s d + ∑ r : Fin 1024, p e r s * hd T.d e r d
  df e s := A.df e s - ∑ r : Fin 1024, sP T p e r s

/-- A sum over a tile's side, halved. -/
theorem sum_half (f : ℕ → ℝ) : ∑ r : Fin 1024, f r = ∑ r : Fin 512, f r + ∑ r : Fin 512, f (512 + r) := by
  rw [Fin.sum_univ_eq_sum_range f 1024, Fin.sum_univ_eq_sum_range f 512, Fin.sum_univ_eq_sum_range (fun r => f (512 + r)) 512,
    Finset.sum_range_add f 512 512]

/-- A half of a sum of zeros. -/
theorem sum_none {n : ℕ} (f : ℕ → ℝ) (h : ∀ r, r < n → f r = 0) : ∑ r : Fin n, f r = 0 :=
  Finset.sum_eq_zero fun r _ => h r r.isLt

section reals
variable (p : ℕ → ℕ → ℕ → ℝ) (y : ℕ → ℕ → ℝ) (A : ℕ → ℕ → ℕ → ℝ)

theorem off_V {e s d : ℕ} (he : e < 2) (hs : s < 1024) :
    stV p y 1 0 1024 1024 (stV p y 0 0 1024 1024 A) e s d = A e s d + ∑ r : Fin 1024, p e r s * hd y e r d := by
  interval_cases e <;> simp [stV, hs]

theorem off_F {e z s : ℕ} (he : e < 2) (hs : s < 1024) :
    stF p 1 0 1024 1024 (stF p 0 0 1024 1024 A) e z s = A e z s - ∑ r : Fin 1024, p e r s := by
  interval_cases e <;> simp [stF, hs]

theorem off_Q {e r d o : ℕ} (he : e < 2) :
    stQ p y 1 o 0 1024 1024 (stQ p y 0 o 0 1024 1024 A) e r d
      = if o ≤ r ∧ r < o + 1024 then A e r d + ∑ s : Fin 1024, p e (r - o) s * hd y e s d else A e r d := by
  interval_cases e <;> simp [stQ]

theorem off_G {e r d o : ℕ} (he : e < 2) :
    stG p 1 o 0 1024 1024 (stG p 0 o 0 1024 1024 A) e r d
      = if o ≤ r ∧ r < o + 1024 then A e r d + ∑ s : Fin 1024, p e (r - o) s else A e r d := by
  interval_cases e <;> simp [stG]

variable (hp : ∀ e r s, r < s → p e r s = 0)
include hp

theorem diag_V {e s d : ℕ} (he : e < 2) (hs : s < 1024) :
    stV p y 1 512 512 1024 (stV p y 1 0 512 512 (stV p y 0 512 512 1024 (stV p y 0 0 512 512 A))) e s d
      = A e s d + ∑ r : Fin 1024, p e r s * hd y e r d := by
  rw [sum_half (fun r => p e r s * hd y e r d)]
  by_cases h : s < 512
  · interval_cases e <;> simp [stV, hs, h, add_assoc]
  · rw [sum_none (fun r => p e r s * hd y e r d) (fun r hr => by rw [hp _ _ _ (by omega), zero_mul])]
    interval_cases e <;> simp [stV, hs, h]

theorem diag_F {e z s : ℕ} (he : e < 2) (hs : s < 1024) :
    stF p 1 512 512 1024 (stF p 1 0 512 512 (stF p 0 512 512 1024 (stF p 0 0 512 512 A))) e z s
      = A e z s - ∑ r : Fin 1024, p e r s := by
  rw [sum_half (fun r => p e r s)]
  by_cases h : s < 512
  · interval_cases e <;> simp [stF, hs, h, sub_sub]
  · rw [sum_none (fun r => p e r s) (fun r hr => hp _ _ _ (by omega))]
    interval_cases e <;> simp [stF, hs, h]

theorem diag_Q {e r d o : ℕ} (he : e < 2) :
    stQ p y 1 o 512 512 1024 (stQ p y 1 o 0 512 512 (stQ p y 0 o 512 512 1024 (stQ p y 0 o 0 512 512 A))) e r d
      = if o ≤ r ∧ r < o + 1024 then A e r d + ∑ s : Fin 1024, p e (r - o) s * hd y e s d else A e r d := by
  by_cases h : o ≤ r ∧ r < o + 512
  · have h1 : ¬ (o + 512 ≤ r ∧ r < o + 512 + 512) := by omega
    rw [if_pos (by omega), sum_half (fun s => p e (r - o) s * hd y e s d),
      sum_none (fun s => p e (r - o) (512 + s) * hd y e (512 + s) d) (fun s hs => by rw [hp _ _ _ (by omega), zero_mul])]
    interval_cases e <;> simp [stQ, h, h1]
  · by_cases h1 : o + 512 ≤ r ∧ r < o + 512 + 512
    · rw [if_pos (by omega)]
      have hr : 512 + (r - (o + 512)) = r - o := by omega
      interval_cases e <;> simp [stQ, h, h1, hr]
    · rw [if_neg (by omega)]
      interval_cases e <;> simp [stQ, h, h1]

theorem diag_G {e r d o : ℕ} (he : e < 2) :
    stG p 1 o 512 512 1024 (stG p 1 o 0 512 512 (stG p 0 o 512 512 1024 (stG p 0 o 0 512 512 A))) e r d
      = if o ≤ r ∧ r < o + 1024 then A e r d + ∑ s : Fin 1024, p e (r - o) s else A e r d := by
  by_cases h : o ≤ r ∧ r < o + 512
  · have h1 : ¬ (o + 512 ≤ r ∧ r < o + 512 + 512) := by omega
    rw [if_pos (by omega), sum_half (fun s => p e (r - o) s),
      sum_none (fun s => p e (r - o) (512 + s)) (fun s hs => hp _ _ _ (by omega))]
    interval_cases e <;> simp [stG, h, h1]
  · by_cases h1 : o + 512 ≤ r ∧ r < o + 512 + 512
    · rw [if_pos (by omega)]
      have hr : 512 + (r - (o + 512)) = r - o := by omega
      interval_cases e <;> simp [stG, h, h1, hr]
    · rw [if_neg (by omega)]
      interval_cases e <;> simp [stG, h, h1]

end reals

theorem pD_zero (T : Tin) : ∀ e r s, r < s → pD T e r s = 0 := fun e r s h => if_neg (by omega)
theorem sD_zero (T : Tin) : ∀ e r s, r < s → sP T (pD T) e r s = 0 := fun e r s h => by rw [sP, pD_zero T e r s h, zero_mul]

/-- A matrix stored over whole in two halves of columns. -/
theorem halves {n : ℕ} {X : (⟨2, ![n, 256]⟩ : Shape).Idx → EReal} {C : ℕ → ℕ → ℝ}
    {inb0 : ∀ x, (![0, 0] : Fin 2 → ℕ) x + (![n, 128] : Fin 2 → ℕ) x ≤ (⟨2, ![n, 256]⟩ : Shape).size x}
    {inb1 : ∀ x, (![0, 128] : Fin 2 → ℕ) x + (![n, 128] : Fin 2 → ℕ) x ≤ (⟨2, ![n, 256]⟩ : Shape).size x}
    {w0 w1 : (⟨2, ![n, 128]⟩ : Shape).Idx → EReal} {B0 B1 : ℕ → ℕ → ℝ} (h0 : R2 w0 B0) (h1 : R2 w1 B1)
    (e0 : ∀ i j, i < n → j < 128 → B0 i j = C i j) (e1 : ∀ i j, i < n → j < 128 → B1 i j = C i (128 + j)) :
    R2 (put (put X (Rect.unit (s := ⟨2, ![n, 256]⟩) ![0, 0] ![n, 128] inb0) w0)
      (Rect.unit (s := ⟨2, ![n, 256]⟩) ![0, 128] ![n, 128] inb1) w1) C := by
  intro i j
  have hj := j.isLt
  by_cases h : j.val < 128
  · refine (put_of_ne _ (Rect.unit (s := ⟨2, ![n, 256]⟩) ![0, 128] ![n, 128] inb1) w1 _ ?_).trans ?_
    · intro x hx
      have h1 : 128 + 1 * (x 1).val = j.val := congrArg Fin.val (congrFun hx 1)
      omega
    · refine Eq.trans ?_ ((h0 i ⟨j.val, h⟩).trans (by rw [e0 _ _ i.isLt h]))
      refine Eq.trans (congrArg _ ?_) (put_emb X (Rect.unit (s := ⟨2, ![n, 256]⟩) ![0, 0] ![n, 128] inb0) w0 _)
      funext x
      match x with
      | ⟨0, _⟩ => exact Fin.ext (by show i.val = 0 + 1 * i.val; omega)
      | ⟨1, _⟩ => exact Fin.ext (by show j.val = 0 + 1 * j.val; omega)
  · refine Eq.trans ?_ ((h1 i ⟨j.val - 128, by omega⟩).trans (by
      rw [e1 _ _ i.isLt (show j.val - 128 < 128 by omega)]; rw [show 128 + (j.val - 128) = j.val by omega]))
    refine Eq.trans (congrArg _ ?_) (put_emb _ (Rect.unit (s := ⟨2, ![n, 256]⟩) ![0, 128] ![n, 128] inb1) w1 _)
    funext x
    match x with
    | ⟨0, _⟩ => exact Fin.ext (by show i.val = 0 + 1 * i.val; omega)
    | ⟨1, _⟩ => exact Fin.ext (by show j.val = 128 + 1 * (j.val - 128); omega)

/-- The two rows of an array stored over, one after the other. -/
theorem rows {n : ℕ} {X : (⟨3, ![2, 1, n]⟩ : Shape).Idx → EReal} {C : ℕ → ℕ → ℕ → ℝ}
    {inb0 : ∀ x, (![0, 0, 0] : Fin 3 → ℕ) x + (![1, 1, n] : Fin 3 → ℕ) x ≤ (⟨3, ![2, 1, n]⟩ : Shape).size x}
    {inb1 : ∀ x, (![1, 0, 0] : Fin 3 → ℕ) x + (![1, 1, n] : Fin 3 → ℕ) x ≤ (⟨3, ![2, 1, n]⟩ : Shape).size x}
    {w0 w1 : (⟨3, ![1, 1, n]⟩ : Shape).Idx → EReal} {B0 B1 : ℕ → ℕ → ℕ → ℝ} (h0 : R3 w0 B0) (h1 : R3 w1 B1)
    (e0 : ∀ j, j < n → B0 0 0 j = C 0 0 j) (e1 : ∀ j, j < n → B1 0 0 j = C 1 0 j) :
    R3 (put (put X (Rect.unit (s := ⟨3, ![2, 1, n]⟩) ![0, 0, 0] ![1, 1, n] inb0) w0)
      (Rect.unit (s := ⟨3, ![2, 1, n]⟩) ![1, 0, 0] ![1, 1, n] inb1) w1) C := by
  intro a b j
  obtain rfl : b = 0 := Subsingleton.elim _ _
  match a with
  | ⟨0, _⟩ =>
    refine (put_of_ne _ (Rect.unit (s := ⟨3, ![2, 1, n]⟩) ![1, 0, 0] ![1, 1, n] inb1) w1 _ ?_).trans ?_
    · intro x hx
      have h1 : 1 + 1 * (x 0).val = 0 := congrArg Fin.val (congrFun hx 0)
      omega
    · refine Eq.trans ?_ ((h0 0 0 j).trans (by exact congrArg _ (e0 j j.isLt)))
      refine Eq.trans (congrArg _ ?_) (put_emb X (Rect.unit (s := ⟨3, ![2, 1, n]⟩) ![0, 0, 0] ![1, 1, n] inb0) w0 _)
      funext x
      match x with
      | ⟨0, _⟩ => rfl
      | ⟨1, _⟩ => rfl
      | ⟨2, _⟩ => exact Fin.ext (by show j.val = 0 + 1 * j.val; omega)
  | ⟨1, _⟩ =>
    refine Eq.trans ?_ ((h1 0 0 j).trans (by exact congrArg _ (e1 j j.isLt)))
    refine Eq.trans (congrArg _ ?_) (put_emb _ (Rect.unit (s := ⟨3, ![2, 1, n]⟩) ![1, 0, 0] ![1, 1, n] inb1) w1 _)
    funext x
    match x with
    | ⟨0, _⟩ => rfl
    | ⟨1, _⟩ => rfl
    | ⟨2, _⟩ => exact Fin.ext (by show j.val = 0 + 1 * j.val; omega)

/-- An array stored over whole. -/
theorem whole {a b c : ℕ} {X w : (⟨3, ![a, b, c]⟩ : Shape).Idx → EReal} {B : ℕ → ℕ → ℕ → ℝ}
    {inb : ∀ x, (![0, 0, 0] : Fin 3 → ℕ) x + (![a, b, c] : Fin 3 → ℕ) x ≤ (⟨3, ![a, b, c]⟩ : Shape).size x} (h : R3 w B) :
    R3 (put X (Rect.unit (s := ⟨3, ![a, b, c]⟩) ![0, 0, 0] ![a, b, c] inb) w) B := by
  intro i j k
  refine Eq.trans ?_ (h i j k)
  refine Eq.trans (congrArg _ ?_) (put_emb X (Rect.unit (s := ⟨3, ![a, b, c]⟩) ![0, 0, 0] ![a, b, c] inb) w _)
  funext x
  match x with
  | ⟨0, _⟩ => exact Fin.ext (by show i.val = 0 + 1 * i.val; omega)
  | ⟨1, _⟩ => exact Fin.ext (by show j.val = 0 + 1 * j.val; omega)
  | ⟨2, _⟩ => exact Fin.ext (by show k.val = 0 + 1 * k.val; omega)

variable {σ : St Ideal} {T : Tin} {A : Acc} {v1 v3 : Elt Ideal .i32}

theorem initT_T (i : grid0.Coords) (h : HasT σ T) : HasT (initT i σ) T := by
  constructor <;> dsimp only [initT, St.set_odq, St.set_odk, St.set_odv, St.set_odf, St.set_ofq, St.set_sdq, St.set_sdk, St.set_sdv, St.set_sdf, St.set_sfq]
  · exact h.q
  · exact h.k
  · exact h.v
  · exact h.o
  · exact h.d
  · exact h.ls
  · exact h.fk

theorem kvT_T (v1 v3 : Elt Ideal .i32) (h : HasT σ T) : HasT (kvT v1 v3 σ) T := by
  constructor <;> dsimp only [kvT, St.set_odq, St.set_odk, St.set_odv, St.set_odf, St.set_ofq, St.set_sdq, St.set_sdk, St.set_sdv, St.set_sdf, St.set_sfq]
  · exact h.q
  · exact h.k
  · exact h.v
  · exact h.o
  · exact h.d
  · exact h.ls
  · exact h.fk

theorem offT_T (h1 : k0_chk1 v1 v3) (h3 : k0_cond3 v1 v3 = 1#1) (h : HasT σ T) : HasT (offT v1 v3 h1 h3 σ) T := by
  constructor <;> dsimp only [offT, f1, f2, f3, f4, St.set_odq, St.set_odk, St.set_odv, St.set_odf, St.set_ofq, St.set_sdq, St.set_sdk, St.set_sdv, St.set_sdf, St.set_sfq]
  · exact h.q
  · exact h.k
  · exact h.v
  · exact h.o
  · exact h.d
  · exact h.ls
  · exact h.fk

theorem diagT_T (h1 : k0_chk1 v1 v3) (h4 : k0_cond4 v1 v3 = 1#1) (h : HasT σ T) : HasT (diagT v1 v3 h1 h4 σ) T := by
  constructor <;> dsimp only [diagT, f5, f6, f7, f8, f9, f10, f11, f12, f13, f14, St.set_odq, St.set_odk, St.set_odv, St.set_odf, St.set_ofq, St.set_sdq, St.set_sdk, St.set_sdv, St.set_sdf, St.set_sfq]
  · exact h.q
  · exact h.k
  · exact h.v
  · exact h.o
  · exact h.d
  · exact h.ls
  · exact h.fk

theorem flushT_T (v1 : Elt Ideal .i32) (h : HasT σ T) : HasT (flushT v1 σ) T := by
  constructor <;> dsimp only [flushT, St.set_odq, St.set_odk, St.set_odv, St.set_odf, St.set_ofq, St.set_sdq, St.set_sdk, St.set_sdv, St.set_sdf, St.set_sfq]
  · exact h.q
  · exact h.k
  · exact h.v
  · exact h.o
  · exact h.d
  · exact h.ls
  · exact h.fk

theorem finT_T (i : grid0.Coords) (h : HasT σ T) : HasT (finT i σ) T := by
  constructor <;> dsimp only [finT, St.set_odq, St.set_odk, St.set_odv, St.set_odf, St.set_ofq, St.set_sdq, St.set_sdk, St.set_sdv, St.set_sdf, St.set_sfq]
  · exact h.q
  · exact h.k
  · exact h.v
  · exact h.o
  · exact h.d
  · exact h.ls
  · exact h.fk

theorem initT_K (i : grid0.Coords) (h : HasK σ A) : HasK (initT i σ) A := by
  constructor <;> dsimp only [initT, St.set_odq, St.set_odk, St.set_odv, St.set_odf, St.set_ofq, St.set_sdq, St.set_sdk, St.set_sdv, St.set_sdf, St.set_sfq]
  · exact h.dk
  · exact h.dv
  · exact h.df

theorem kvT_Q (v1 v3 : Elt Ideal .i32) (h : HasQ σ A) : HasQ (kvT v1 v3 σ) A := by
  constructor <;> dsimp only [kvT, St.set_odq, St.set_odk, St.set_odv, St.set_odf, St.set_ofq, St.set_sdq, St.set_sdk, St.set_sdv, St.set_sdf, St.set_sfq]
  · exact h.dq
  · exact h.fq

theorem flushT_Q (v1 : Elt Ideal .i32) (h : HasQ σ A) : HasQ (flushT v1 σ) A := by
  constructor <;> dsimp only [flushT, St.set_odq, St.set_odk, St.set_odv, St.set_odf, St.set_ofq, St.set_sdq, St.set_sdk, St.set_sdv, St.set_sdf, St.set_sfq]
  · exact h.dq
  · exact h.fq

theorem flushT_K (v1 : Elt Ideal .i32) (h : HasK σ A) : HasK (flushT v1 σ) A := by
  constructor <;> dsimp only [flushT, St.set_odq, St.set_odk, St.set_odv, St.set_odf, St.set_ofq, St.set_sdq, St.set_sdk, St.set_sdv, St.set_sdf, St.set_sfq]
  · exact h.dk
  · exact h.dv
  · exact h.df

theorem finT_Q (i : grid0.Coords) (h : HasQ σ A) : HasQ (finT i σ) A := by
  constructor <;> dsimp only [finT, St.set_odq, St.set_odk, St.set_odv, St.set_odf, St.set_ofq, St.set_sdq, St.set_sdk, St.set_sdv, St.set_sdf, St.set_sfq]
  · exact h.dq
  · exact h.fq

theorem finT_K (i : grid0.Coords) (h : HasK σ A) : HasK (finT i σ) A := by
  constructor <;> dsimp only [finT, St.set_odq, St.set_odk, St.set_odv, St.set_odf, St.set_ofq, St.set_sdq, St.set_sdk, St.set_sdv, St.set_sdf, St.set_sfq]
  · exact h.dk
  · exact h.dv
  · exact h.df

/-- At a head pair's first point the accumulators over queries become zero. -/
theorem initT_zero (i : grid0.Coords) (hq : ∀ e r d, A.dq e r d = 0) (hf : ∀ e r, A.fq e r = 0) : HasQ (initT i σ) A := by
  constructor <;> dsimp only [initT, St.set_odq, St.set_odk, St.set_odv, St.set_odf, St.set_ofq, St.set_sdq, St.set_sdk, St.set_sdv, St.set_sdf, St.set_sfq]
  · exact (whole r1).congr fun e r d _ _ _ => (hq e r d).symm
  · exact (whole r2).congr fun e r d _ _ _ => (hf e r).symm

/-- At a diagonal point the accumulators over keys become zero. -/
theorem kvT_zero (v1 v3 : Elt Ideal .i32) (hk : ∀ e r d, A.dk e r d = 0) (hv : ∀ e r d, A.dv e r d = 0) (hf : ∀ e r, A.df e r = 0) :
    HasK (kvT v1 v3 σ) A := by
  constructor <;> dsimp only [kvT, St.set_odq, St.set_odk, St.set_odv, St.set_odf, St.set_ofq, St.set_sdq, St.set_sdk, St.set_sdv, St.set_sdf, St.set_sfq]
  · exact (whole r3).congr fun e r d _ _ _ => (hk e r d).symm
  · exact (whole r4).congr fun e r d _ _ _ => (hv e r d).symm
  · exact (whole r5).congr fun e r d _ _ _ => (hf e d).symm

/-- The update of a tile, on the accumulators over queries. -/
theorem offT_updQ (h1 : k0_chk1 v1 v3) (h3 : k0_cond3 v1 v3 = 1#1) {o : ℕ} (g0 : k0_off2 v1 = ![0, o + 0, 0]) (g1 : k0_off3 v1 = ![1, o + 0, 0])
    (hT : HasT σ T) (hA : HasQ σ A) : HasQ (offT v1 v3 h1 h3 σ) (upd T (pT T) o A) := by
  constructor <;> dsimp only [offT, f1, f2, f3, f4, St.set_odq, St.set_odk, St.set_odv, St.set_odf, St.set_ofq, St.set_sdq, St.set_sdk, St.set_sdv, St.set_sdf, St.set_sfq]
  · refine R3.congr (offT_sdq_1 hT h1 h3 g1 (offT_sdq_0 hT h1 h3 g0 hA.dq)) ?_
    intro e r d he _ _
    exact off_Q _ _ _ he
  · refine R3.congr (offT_sfq_1 hT h1 h3 g1 (offT_sfq_0 hT h1 h3 g0 hA.fq)) ?_
    intro e r d he _ _
    exact off_G _ _ he

/-- The update of a tile, on the accumulators over keys. -/
theorem offT_updK (h1 : k0_chk1 v1 v3) (h3 : k0_cond3 v1 v3 = 1#1) (o : ℕ)
    (hT : HasT σ T) (hA : HasK σ A) : HasK (offT v1 v3 h1 h3 σ) (upd T (pT T) o A) := by
  constructor <;> dsimp only [offT, f1, f2, f3, f4, St.set_odq, St.set_odk, St.set_odv, St.set_odf, St.set_ofq, St.set_sdq, St.set_sdk, St.set_sdv, St.set_sdf, St.set_sfq]
  · refine R3.congr (offT_sdk_1 hT h1 h3 (offT_sdk_0 hT h1 h3 hA.dk)) ?_
    intro e s d he hs _
    exact off_V _ _ _ he hs
  · refine R3.congr (offT_sdv_1 hT h1 h3 (offT_sdv_0 hT h1 h3 hA.dv)) ?_
    intro e s d he hs _
    exact off_V _ _ _ he hs
  · refine R3.congr (offT_sdf_1 hT h1 h3 (offT_sdf_0 hT h1 h3 hA.df)) ?_
    intro e z s he _ hs
    exact off_F _ _ he hs

/-- The update of a tile, on the accumulators over queries. -/
theorem diagT_updQ (h1 : k0_chk1 v1 v3) (h4 : k0_cond4 v1 v3 = 1#1) {o : ℕ} (g0 : k0_off4 v1 0#32 = ![0, o + 0, 0]) (g1 : k0_off4 v1 512#32 = ![0, o + 512, 0]) (g2 : k0_off5 v1 0#32 = ![1, o + 0, 0]) (g3 : k0_off5 v1 512#32 = ![1, o + 512, 0])
    (hT : HasT σ T) (hA : HasQ σ A) : HasQ (diagT v1 v3 h1 h4 σ) (upd T (pD T) o A) := by
  constructor <;> dsimp only [diagT, f5, f6, f7, f8, f9, f10, f11, f12, f13, f14, St.set_odq, St.set_odk, St.set_odv, St.set_odf, St.set_ofq, St.set_sdq, St.set_sdk, St.set_sdv, St.set_sdf, St.set_sfq]
  · refine R3.congr (diagT_sdq_3 hT h1 h4 g3 (diagT_sdq_2 hT h1 h4 g2 (diagT_sdq_1 hT h1 h4 g1 (diagT_sdq_0 hT h1 h4 g0 hA.dq)))) ?_
    intro e r d he _ _
    exact diag_Q _ _ _ (sD_zero T) he
  · refine R3.congr (diagT_sfq_3 hT h1 h4 g3 (diagT_sfq_2 hT h1 h4 g2 (diagT_sfq_1 hT h1 h4 g1 (diagT_sfq_0 hT h1 h4 g0 hA.fq)))) ?_
    intro e r d he _ _
    exact diag_G _ _ (sD_zero T) he

/-- The update of a tile, on the accumulators over keys. -/
theorem diagT_updK (h1 : k0_chk1 v1 v3) (h4 : k0_cond4 v1 v3 = 1#1) (o : ℕ)
    (hT : HasT σ T) (hA : HasK σ A) : HasK (diagT v1 v3 h1 h4 σ) (upd T (pD T) o A) := by
  constructor <;> dsimp only [diagT, f5, f6, f7, f8, f9, f10, f11, f12, f13, f14, St.set_odq, St.set_odk, St.set_odv, St.set_odf, St.set_ofq, St.set_sdq, St.set_sdk, St.set_sdv, St.set_sdf, St.set_sfq]
  · refine R3.congr (diagT_sdk_3 hT h1 h4 (diagT_sdk_2 hT h1 h4 (diagT_sdk_1 hT h1 h4 (diagT_sdk_0 hT h1 h4 hA.dk)))) ?_
    intro e s d he hs _
    exact diag_V _ _ _ (sD_zero T) he hs
  · refine R3.congr (diagT_sdv_3 hT h1 h4 (diagT_sdv_2 hT h1 h4 (diagT_sdv_1 hT h1 h4 (diagT_sdv_0 hT h1 h4 hA.dv)))) ?_
    intro e s d he hs _
    exact diag_V _ _ _ (pD_zero T) he hs
  · refine R3.congr (diagT_sdf_3 hT h1 h4 (diagT_sdf_2 hT h1 h4 (diagT_sdf_1 hT h1 h4 (diagT_sdf_0 hT h1 h4 hA.df)))) ?_
    intro e z s he _ hs
    exact diag_F _ _ (sD_zero T) he hs

/-- At a key block's last point its gradients are stored: the two heads' columns side by side. -/
theorem flushT_out (v1 : Elt Ideal .i32) (hA : HasK σ A) :
    R2 (flushT v1 σ).odk (fun i j => A.dk (j / 128) i (j % 128) * wR) ∧ R2 (flushT v1 σ).odv (fun i j => A.dv (j / 128) i (j % 128))
      ∧ R3 (flushT v1 σ).odf (fun e _ s => A.df e s) := by
  refine ⟨?_, ?_, ?_⟩ <;> dsimp only [flushT, St.set_odq, St.set_odk, St.set_odv, St.set_odf, St.set_ofq, St.set_sdq, St.set_sdk, St.set_sdv, St.set_sdf, St.set_sfq]
  · refine halves (r8 (p3 hA.dk)) (r10 (p3 hA.dk)) (fun i j _ hj => ?_) (fun i j _ hj => ?_)
    · rw [Nat.div_eq_of_lt hj, Nat.mod_eq_of_lt hj]; simp
    · rw [show (128 + j) / 128 = 1 by omega, show (128 + j) % 128 = j by omega]; simp
  · refine halves (r9 (p3 hA.dv)) (r11 (p3 hA.dv)) (fun i j _ hj => ?_) (fun i j _ hj => ?_)
    · rw [Nat.div_eq_of_lt hj, Nat.mod_eq_of_lt hj]; simp
    · rw [show (128 + j) / 128 = 1 by omega, show (128 + j) % 128 = j by omega]; simp
  · refine (whole (p3 hA.df)).congr fun e z s _ _ _ => ?_
    simp

/-- At a head pair's last point the gradients of its queries are stored. -/
theorem finT_out (i : grid0.Coords) (hA : HasQ σ A) :
    R2 (finT i σ).odq (fun i j => A.dq (j / 128) i (j % 128) * wR) ∧ R3 (finT i σ).ofq (fun e _ r => A.fq e r) := by
  refine ⟨?_, ?_⟩ <;> dsimp only [finT, St.set_odq, St.set_odk, St.set_odv, St.set_odf, St.set_ofq, St.set_sdq, St.set_sdk, St.set_sdv, St.set_sdf, St.set_sfq]
  · refine halves (r12 (p3 hA.dq)) (r14 (p3 hA.dq)) (fun i j _ hj => ?_) (fun i j _ hj => ?_)
    · rw [Nat.div_eq_of_lt hj, Nat.mod_eq_of_lt hj]; simp
    · rw [show (128 + j) / 128 = 1 by omega, show (128 + j) % 128 = j by omega]; simp
  · refine rows (r13 (p3 hA.fq)) (r15 (p3 hA.fq)) (fun j _ => ?_) (fun j _ => ?_) <;> simp

/-- The last store leaves the blocks of the keys' gradients alone. -/
theorem finT_keeps (i : grid0.Coords) : (finT i σ).odk = σ.odk ∧ (finT i σ).odv = σ.odv ∧ (finT i σ).odf = σ.odf := by
  refine ⟨?_, ?_, ?_⟩ <;> dsimp only [finT, St.set_odq, St.set_odk, St.set_odv, St.set_odf, St.set_ofq, St.set_sdq, St.set_sdk, St.set_sdv, St.set_sdf, St.set_sfq]

end Cert.KernelIdeal.Attn

end
-- ==== Proof.Step.lean ====
/- The invariant of the walk over pairs of blocks: after a number of pairs the accumulators hold the sums over the tiles seen, and where
   a key block or a head pair is finished, its gradients are the blocks stored. -/
module

public import proofs.«01_k».proof.Proof.Update
public import proofs.«01_k».proof.Proof.Run

@[expose] public section

noncomputable section

namespace Cert.KernelIdeal.Attn

open Cert.KernelIdeal Cert.KernelIdeal.Gen Cert.Attn
open Idealize.ShloMosaic

/-- The numbers of the whole arrays: the projections' rows, the saved result, the gradient of it, and by head the logarithms of
    the denominators and the forget gates' sums. -/
structure Nums where
  z : ℕ → ℕ → ℝ
  o : ℕ → ℕ → ℝ
  d : ℕ → ℕ → ℝ
  l : ℕ → ℕ → ℝ
  f : ℕ → ℕ → ℝ

/-- The numbers of the blocks of head pair `a`, row block `I` and key block `J`. -/
def tin (N : Nums) (a I J : ℕ) : Tin where
  q i x := N.z (1024 * I + i) (256 * a + x)
  k j x := N.z (1024 * J + j) (1024 + (256 * a + x))
  v j x := N.z (1024 * J + j) (2048 + (256 * a + x))
  o i x := N.o (1024 * I + i) (256 * a + x)
  d i x := N.d (1024 * I + i) (256 * a + x)
  l e i := N.l (2 * a + e) (1024 * I + i)
  f e j := N.f (2 * a + e) (1024 * J + j)

/-- The probability of key `s` at row `r`, head `e` of pair `a`. -/
def gP (N : Nums) (a e r s : ℕ) : ℝ :=
  if s ≤ r then eT (fun i x => N.z i (256 * a + (128 * e + x))) (fun j x => N.z j (1024 + (256 * a + (128 * e + x))))
    (N.f (2 * a + e)) (N.l (2 * a + e)) r s else 0

/-- The gradient of the logit of key `s` at row `r`. -/
def gS (N : Nums) (a e r s : ℕ) : ℝ :=
  gP N a e r s * (dT (fun i x => N.d i (256 * a + (128 * e + x))) (fun j x => N.z j (2048 + (256 * a + (128 * e + x)))) r s
    - oT (fun i x => N.d i (256 * a + (128 * e + x))) (fun i x => N.o i (256 * a + (128 * e + x))) r)

/-- The place of a pair of blocks in the walk; no place above the diagonal. -/
def idx (I J : ℕ) : ℕ := if J ≤ I then 4 * J - J * (J - 1) / 2 + (I - J) else 100

/-- The row block of the `n`-th pair. -/
def iOf : ℕ → ℕ
  | 0 => 0 | 1 => 1 | 2 => 2 | 3 => 3 | 4 => 1 | 5 => 2 | 6 => 3 | 7 => 2 | 8 => 3 | _ => 3

/-- The key block of the `n`-th pair. -/
def jOf : ℕ → ℕ
  | 0 => 0 | 1 => 0 | 2 => 0 | 3 => 0 | 4 => 1 | 5 => 1 | 6 => 1 | 7 => 2 | 8 => 2 | _ => 3

/-- A sum over the row or key blocks marked. -/
def bsum (c : ℕ → Prop) [DecidablePred c] (g : ℕ → ℝ) : ℝ := ∑ b ∈ Finset.range 4, if c b then g b else 0

/-- The accumulators of head pair `a` after `n` pairs, those over keys being of block `J`. -/
def accN (N : Nums) (a J n : ℕ) : Acc where
  dq e r x := bsum (fun b => idx (r / 1024) b < n)
    (fun b => ∑ s : Fin 1024, gS N a e r (1024 * b + s) * N.z (1024 * b + s) (1024 + (256 * a + (128 * e + x))))
  fq e r := bsum (fun b => idx (r / 1024) b < n) (fun b => ∑ s : Fin 1024, gS N a e r (1024 * b + s))
  dk e s x := bsum (fun b => idx b J < n)
    (fun b => ∑ r : Fin 1024, gS N a e (1024 * b + r) (1024 * J + s) * N.z (1024 * b + r) (256 * a + (128 * e + x)))
  dv e s x := bsum (fun b => idx b J < n)
    (fun b => ∑ r : Fin 1024, gP N a e (1024 * b + r) (1024 * J + s) * N.d (1024 * b + r) (256 * a + (128 * e + x)))
  df e s := - bsum (fun b => idx b J < n) (fun b => ∑ r : Fin 1024, gS N a e (1024 * b + r) (1024 * J + s))

theorem bsum_row {n I : ℕ} (hn : n < 10) (hI : I < 4) (g : ℕ → ℝ) :
    bsum (fun b => idx I b < n + 1) g = bsum (fun b => idx I b < n) g + if I = iOf n then g (jOf n) else 0 := by
  interval_cases n <;> interval_cases I <;> simp [bsum, Finset.sum_range_succ, idx, iOf, jOf]

theorem bsum_col {n : ℕ} (hn : n < 10) (g : ℕ → ℝ) :
    bsum (fun b => idx b (jOf n) < n + 1) g = bsum (fun b => idx b (jOf n) < n) g + g (iOf n) := by
  interval_cases n <;> simp [bsum, Finset.sum_range_succ, idx, iOf, jOf]

theorem bsum_row0 {I : ℕ} (hI : I < 4) (g : ℕ → ℝ) : bsum (fun b => idx I b < 0) g = 0 := by
  simp [bsum]

theorem bsum_col0 {n : ℕ} (hn : n < 10) (h : iOf n = jOf n) (g : ℕ → ℝ) : bsum (fun b => idx b (jOf n) < n) g = 0 := by
  interval_cases n <;> simp [bsum, Finset.sum_range_succ, idx, iOf, jOf] at h ⊢

/-- The probabilities of the tile at a pair of blocks are those of the arrays. -/
structure IsTile (N : Nums) (a I J : ℕ) (p : ℕ → ℕ → ℕ → ℝ) : Prop where
  p : ∀ e i j, i < 1024 → j < 1024 → p e i j = gP N a e (1024 * I + i) (1024 * J + j)

theorem isTile_off {N : Nums} {a I J : ℕ} (h : J < I) : IsTile N a I J (pT (tin N a I J)) := by
  constructor
  intro e i j hi hj
  rw [gP, if_pos (by omega)]
  rfl

theorem isTile_diag {N : Nums} {a I : ℕ} : IsTile N a I I (pD (tin N a I I)) := by
  constructor
  intro e i j hi hj
  unfold gP pD
  by_cases h : j ≤ i
  · rw [if_pos h, if_pos (by omega)]; rfl
  · rw [if_neg h, if_neg (by omega)]

theorem IsTile.s {N : Nums} {a I J : ℕ} {p : ℕ → ℕ → ℕ → ℝ} (h : IsTile N a I J p) (e i j : ℕ) (hi : i < 1024) (hj : j < 1024) :
    sP (tin N a I J) p e i j = gS N a e (1024 * I + i) (1024 * J + j) := by
  unfold sP gS
  rw [h.p e i j hi hj]
  rfl

variable {σ : St Ideal} {N : Nums} {a n : ℕ} {p : ℕ → ℕ → ℕ → ℝ}

/-- A tile's update carries the sums over queries on by a pair. -/
theorem upd_Q (hn : n < 10) (h : IsTile N a (iOf n) (jOf n) p)
    (hA : HasQ σ (upd (tin N a (iOf n) (jOf n)) p (1024 * iOf n) (accN N a (jOf n) n))) : HasQ σ (accN N a (jOf n) (n + 1)) := by
  constructor
  · refine hA.dq.congr fun e r x he hr hx => ?_
    dsimp only [upd, accN]
    rw [bsum_row hn (show r / 1024 < 4 by omega)]
    by_cases hc : 1024 * iOf n ≤ r ∧ r < 1024 * iOf n + 1024
    · rw [if_pos hc, if_pos (show r / 1024 = iOf n by omega)]
      congr 1
      refine Finset.sum_congr rfl fun s _ => ?_
      rw [h.s _ _ _ (by omega) s.isLt, show 1024 * iOf n + (r - 1024 * iOf n) = r by omega]
      rfl
    · rw [if_neg hc, if_neg (show ¬ r / 1024 = iOf n by omega), add_zero]
  · refine hA.fq.congr fun e r x he hr hx => ?_
    dsimp only [upd, accN]
    rw [bsum_row hn (show r / 1024 < 4 by omega)]
    by_cases hc : 1024 * iOf n ≤ r ∧ r < 1024 * iOf n + 1024
    · rw [if_pos hc, if_pos (show r / 1024 = iOf n by omega)]
      congr 1
      refine Finset.sum_congr rfl fun s _ => ?_
      rw [h.s _ _ _ (by omega) s.isLt, show 1024 * iOf n + (r - 1024 * iOf n) = r by omega]
    · rw [if_neg hc, if_neg (show ¬ r / 1024 = iOf n by omega), add_zero]

/-- A tile's update carries the sums over keys on by a pair. -/
theorem upd_K (hn : n < 10) (h : IsTile N a (iOf n) (jOf n) p)
    (hA : HasK σ (upd (tin N a (iOf n) (jOf n)) p (1024 * iOf n) (accN N a (jOf n) n))) : HasK σ (accN N a (jOf n) (n + 1)) := by
  constructor
  · refine hA.dk.congr fun e s x he hs hx => ?_
    dsimp only [upd, accN]
    rw [bsum_col hn]
    congr 1
    refine Finset.sum_congr rfl fun r _ => ?_
    rw [h.s _ _ _ r.isLt hs]
    rfl
  · refine hA.dv.congr fun e s x he hs hx => ?_
    dsimp only [upd, accN]
    rw [bsum_col hn]
    congr 1
    refine Finset.sum_congr rfl fun r _ => ?_
    rw [h.p _ _ _ r.isLt hs]
    rfl
  · refine hA.df.congr fun e z s he _ hs => ?_
    dsimp only [upd, accN]
    rw [bsum_col hn, neg_add, ← sub_eq_add_neg]
    congr 1
    refine Finset.sum_congr rfl fun r _ => ?_
    rw [h.s _ _ _ r.isLt hs]

/-- The head pair and the pair of blocks of a point. -/
theorem coords_0 : ∀ t : Fin grid0.N, (grid0.coords t 0).val = t.val / 10 := by decide +kernel
theorem coords_1 : ∀ t : Fin grid0.N, (grid0.coords t 1).val = t.val % 10 := by decide +kernel
theorem tabI_at : ∀ t : Fin grid0.N, tabI (at1 (grid0.coords t)) = BitVec.ofNat 32 (iOf (t.val % 10)) := by decide +kernel
theorem tabJ_at : ∀ t : Fin grid0.N, tabJ (at1 (grid0.coords t)) = BitVec.ofNat 32 (jOf (t.val % 10)) := by decide +kernel

theorem c1_iff : ∀ t : Fin grid0.N, c1 (grid0.coords t) = 1#1 ↔ t.val % 10 = 0 := by decide +kernel
theorem c6_iff : ∀ t : Fin grid0.N, k0_cond6 (grid0.coords t) = 1#1 ↔ t.val % 10 = 9 := by decide +kernel

/-- The word of a row block, of a key block. -/
def wI (n : ℕ) : BitVec 32 := BitVec.ofNat 32 (iOf n)
def wJ (n : ℕ) : BitVec 32 := BitVec.ofNat 32 (jOf n)

theorem c2_iff : ∀ n : Fin 10, c2 (wI n) (wJ n) = 1#1 ↔ iOf n = jOf n := by decide +kernel
theorem c3_iff : ∀ n : Fin 10, k0_cond3 (wI n) (wJ n) = 1#1 ↔ jOf n < iOf n := by decide +kernel
theorem c4_iff : ∀ n : Fin 10, k0_cond4 (wI n) (wJ n) = 1#1 ↔ iOf n = jOf n := by decide +kernel
theorem c5_iff : ∀ n : Fin 10, k0_cond5 (wI n) = 1#1 ↔ iOf n = 3 := by decide +kernel
theorem off2_eq : ∀ n : Fin 10, k0_off2 (wI n) = ![0, 1024 * iOf n + 0, 0] := by decide +kernel
theorem off3_eq : ∀ n : Fin 10, k0_off3 (wI n) = ![1, 1024 * iOf n + 0, 0] := by decide +kernel
theorem off4_eq : ∀ n : Fin 10, k0_off4 (wI n) 0#32 = ![0, 1024 * iOf n + 0, 0] := by decide +kernel
theorem off4_eq' : ∀ n : Fin 10, k0_off4 (wI n) 512#32 = ![0, 1024 * iOf n + 512, 0] := by decide +kernel
theorem off5_eq : ∀ n : Fin 10, k0_off5 (wI n) 0#32 = ![1, 1024 * iOf n + 0, 0] := by decide +kernel
theorem off5_eq' : ∀ n : Fin 10, k0_off5 (wI n) 512#32 = ![1, 1024 * iOf n + 512, 0] := by decide +kernel
theorem le_of : ∀ n : Fin 10, jOf n < iOf n ∨ iOf n = jOf n := by decide
theorem jOf_pred : ∀ n : Fin 10, iOf n ≠ jOf n → n.val ≠ 0 ∧ jOf (n.val - 1) = jOf n := by decide

/-- The two initialisations: zero where they are due, and as before otherwise. -/
theorem start_Q (t : Fin grid0.N) (h : t.val % 10 ≠ 0 → HasQ σ (accN N a (jOf (t.val % 10)) (t.val % 10))) :
    HasQ (initS (grid0.coords t) σ) (accN N a (jOf (t.val % 10)) (t.val % 10)) := by
  by_cases h0 : t.val % 10 = 0
  · rw [initS, if_pos ((c1_iff t).2 h0), h0]
    refine initT_zero _ (fun e r d => ?_) (fun e r => ?_) <;> simp [accN, bsum]
  · rw [initS, if_neg (fun h1 => h0 ((c1_iff t).1 h1))]
    exact h h0

theorem start_T {T : Tin} (i : grid0.Coords) (h : HasT σ T) : HasT (initS i σ) T := by
  unfold initS; split
  · exact initT_T _ h
  · exact h

theorem start_K {A : Acc} (i : grid0.Coords) (h : HasK σ A) : HasK (initS i σ) A := by
  unfold initS; split
  · exact initT_K _ h
  · exact h

theorem kv_T {T : Tin} (v1 v3 : Elt Ideal .i32) (h : HasT σ T) : HasT (kvS v1 v3 σ) T := by
  unfold kvS; split
  · exact kvT_T _ _ h
  · exact h

theorem kv_Q {A : Acc} (v1 v3 : Elt Ideal .i32) (h : HasQ σ A) : HasQ (kvS v1 v3 σ) A := by
  unfold kvS; split
  · exact kvT_Q _ _ h
  · exact h

theorem kv_K (n : Fin 10) (h : n.val ≠ 0 → HasK σ (accN N a (jOf (n.val - 1)) n)) : HasK (kvS (wI n) (wJ n) σ) (accN N a (jOf n) n) := by
  by_cases h0 : iOf n = jOf n
  · rw [kvS, if_pos ((c2_iff n).2 h0)]
    refine kvT_zero _ _ (fun e r d => ?_) (fun e r d => ?_) (fun e r => ?_)
    · dsimp only [accN]; exact bsum_col0 n.isLt h0 _
    · dsimp only [accN]; exact bsum_col0 n.isLt h0 _
    · exact neg_eq_zero.2 (bsum_col0 n.isLt h0 _)
  · rw [kvS, if_neg (fun h1 => h0 ((c2_iff n).1 h1))]
    obtain ⟨h1, h2⟩ := jOf_pred n h0
    rw [← h2]
    exact h h1

/-- The tile's update, off the diagonal or on it. -/
theorem tile_A (n : Fin 10) (h1 : k0_chk1 (wI n) (wJ n)) (hT : HasT σ (tin N a (iOf n) (jOf n)))
    (hQ : HasQ σ (accN N a (jOf n) n)) (hK : HasK σ (accN N a (jOf n) n)) :
    HasQ (diagS (wI n) (wJ n) h1 (offS (wI n) (wJ n) h1 σ)) (accN N a (jOf n) (n + 1))
      ∧ HasK (diagS (wI n) (wJ n) h1 (offS (wI n) (wJ n) h1 σ)) (accN N a (jOf n) (n + 1)) := by
  rcases le_of n with h | h
  · have h3 := (c3_iff n).2 h
    have h4 : ¬ k0_cond4 (wI n) (wJ n) = 1#1 := fun h' => absurd ((c4_iff n).1 h') (by omega)
    rw [diagS, dif_neg h4, offS, dif_pos h3]
    exact ⟨upd_Q n.isLt (isTile_off h) (offT_updQ h1 h3 (off2_eq n) (off3_eq n) hT hQ),
      upd_K n.isLt (isTile_off h) (offT_updK h1 h3 _ hT hK)⟩
  · have h4 := (c4_iff n).2 h
    have h3 : ¬ k0_cond3 (wI n) (wJ n) = 1#1 := fun h' => absurd ((c3_iff n).1 h') (by omega)
    rw [diagS, dif_pos h4, offS, dif_neg h3]
    have ht : IsTile N a (iOf n) (jOf n) (pD (tin N a (iOf n) (jOf n))) := by rw [← h]; exact isTile_diag
    exact ⟨upd_Q n.isLt ht (diagT_updQ h1 h4 (off4_eq n) (off4_eq' n) (off5_eq n) (off5_eq' n) hT hQ),
      upd_K n.isLt ht (diagT_updK h1 h4 _ hT hK)⟩

theorem flush_Q {A : Acc} (v1 : Elt Ideal .i32) (h : HasQ σ A) : HasQ (flushS v1 σ) A := by
  unfold flushS; split
  · exact flushT_Q _ h
  · exact h

theorem flush_K {A : Acc} (v1 : Elt Ideal .i32) (h : HasK σ A) : HasK (flushS v1 σ) A := by
  unfold flushS; split
  · exact flushT_K _ h
  · exact h

theorem fin_Q {A : Acc} (i : grid0.Coords) (h : HasQ σ A) : HasQ (finS i σ) A := by
  unfold finS; split
  · exact finT_Q _ h
  · exact h

theorem fin_K {A : Acc} (i : grid0.Coords) (h : HasK σ A) : HasK (finS i σ) A := by
  unfold finS; split
  · exact finT_K _ h
  · exact h

theorem fin_keeps (i : grid0.Coords) : (finS i σ).odk = σ.odk ∧ (finS i σ).odv = σ.odv ∧ (finS i σ).odf = σ.odf := by
  unfold finS; split
  · exact finT_keeps _
  · exact ⟨rfl, rfl, rfl⟩

/-- The invariant and the wanted blocks, for the numbers `N`. -/
def goalN (N : Nums) : Goal Ideal where
  inv n sdq sdk sdv sdf sfq := n % 10 ≠ 0 →
    R3 sdq (accN N (n / 10) (jOf (n % 10 - 1)) (n % 10)).dq ∧ R3 sdk (accN N (n / 10) (jOf (n % 10 - 1)) (n % 10)).dk
      ∧ R3 sdv (accN N (n / 10) (jOf (n % 10 - 1)) (n % 10)).dv
      ∧ R3 sdf (fun e _ s => (accN N (n / 10) (jOf (n % 10 - 1)) (n % 10)).df e s)
      ∧ R3 sfq (fun e r _ => (accN N (n / 10) (jOf (n % 10 - 1)) (n % 10)).fq e r)
  odq t X := t.val % 10 = 9 → R2 X (fun i j => (accN N (t.val / 10) (jOf (t.val % 10)) (t.val % 10 + 1)).dq (j / 128) i (j % 128) * wR)
  odk t X := iOf (t.val % 10) = 3 →
    R2 X (fun i j => (accN N (t.val / 10) (jOf (t.val % 10)) (t.val % 10 + 1)).dk (j / 128) i (j % 128) * wR)
  odv t X := iOf (t.val % 10) = 3 →
    R2 X (fun i j => (accN N (t.val / 10) (jOf (t.val % 10)) (t.val % 10 + 1)).dv (j / 128) i (j % 128))
  odf t X := iOf (t.val % 10) = 3 → R3 X (fun e _ s => (accN N (t.val / 10) (jOf (t.val % 10)) (t.val % 10 + 1)).df e s)
  ofq t X := t.val % 10 = 9 → R3 X (fun e _ r => (accN N (t.val / 10) (jOf (t.val % 10)) (t.val % 10 + 1)).fq e r)

variable (m : (ℓ : Loc nD τ sig) → Buf (Elt Ideal) ℓ)

/-- The input blocks of every point hold the numbers `N`. -/
structure Blocks (c : Dev nD) (N : Nums) : Prop where
  q : ∀ t, R2 (in_q m c t) (tin N (t.val / 10) (iOf (t.val % 10)) (jOf (t.val % 10))).q
  k : ∀ t, R2 (in_k m c t) (tin N (t.val / 10) (iOf (t.val % 10)) (jOf (t.val % 10))).k
  v : ∀ t, R2 (in_v m c t) (tin N (t.val / 10) (iOf (t.val % 10)) (jOf (t.val % 10))).v
  o : ∀ t, R2 (in_o m c t) (tin N (t.val / 10) (iOf (t.val % 10)) (jOf (t.val % 10))).o
  d : ∀ t, R2 (in_d m c t) (tin N (t.val / 10) (iOf (t.val % 10)) (jOf (t.val % 10))).d
  ls : ∀ t, R3 (in_ls m c t) (fun e i _ => (tin N (t.val / 10) (iOf (t.val % 10)) (jOf (t.val % 10))).l e i)
  fk : ∀ t, R3 (in_fk m c t) (fun e _ j => (tin N (t.val / 10) (iOf (t.val % 10)) (jOf (t.val % 10))).f e j)

theorem wordI (t : Fin grid0.N) : tabI (at1 (grid0.coords t)) = wI (⟨t.val % 10, Nat.mod_lt _ (by decide)⟩ : Fin 10) := tabI_at t
theorem wordJ (t : Fin grid0.N) : tabJ (at1 (grid0.coords t)) = wJ (⟨t.val % 10, Nat.mod_lt _ (by decide)⟩ : Fin 10) := tabJ_at t

/-- A point, at its own words. -/
theorem point_words (t : Fin grid0.N) (n : Fin 10) (e : n.val = t.val % 10) (h1 : k0_chk1 (wI n) (wJ n)) (σ : St Ideal) :
    pointS (grid0.coords t) (tabI (at1 (grid0.coords t))) (tabJ (at1 (grid0.coords t))) (chk_all _) σ
      = pointS (grid0.coords t) (wI n) (wJ n) h1 σ := by
  have hI : tabI (at1 (grid0.coords t)) = wI n := by rw [tabI_at t, wI, e]
  have hJ : tabJ (at1 (grid0.coords t)) = wJ n := by rw [tabJ_at t, wJ, e]
  generalize chk_all (grid0.coords t) = hc
  revert hc
  rw [hI, hJ]
  intro hc
  rfl

theorem chk_w : ∀ n : Fin 10, k0_chk1 (wI n) (wJ n) := by decide +kernel

/-- A point carries the invariant on and leaves the wanted blocks. -/
theorem step (c : Dev nD) (N : Nums) (B : Blocks m c N) : (goalN N).Step m c := by
  intro t σ hin hinv
  obtain ⟨n, e⟩ : ∃ n : Fin 10, n.val = t.val % 10 := ⟨⟨t.val % 10, Nat.mod_lt _ (by decide)⟩, rfl⟩
  have hw := point_words t n e (chk_w n) σ
  have ha : ∃ a, a = t.val / 10 := ⟨_, rfl⟩
  obtain ⟨a, ea⟩ := ha
  have hT : HasT σ (tin N a (iOf n) (jOf n)) := by
    obtain ⟨hq, hk, hv, ho, hd, hl, hf⟩ := hin
    rw [e, ea]
    exact ⟨hq ▸ B.q t, hk ▸ B.k t, hv ▸ B.v t, ho ▸ B.o t, hd ▸ B.d t, hl ▸ B.ls t, hf ▸ B.fk t⟩
  have hI : n.val ≠ 0 → HasQ σ (accN N a (jOf (n.val - 1)) n) ∧ HasK σ (accN N a (jOf (n.val - 1)) n) := by
    intro h0
    obtain ⟨i1, i2, i3, i4, i5⟩ := hinv (by rw [← e]; exact h0)
    rw [← ea, ← e] at i1 i2 i3 i4 i5
    exact ⟨⟨i1, i5⟩, ⟨i2, i3, i4⟩⟩
  have q1 : HasQ (initS (grid0.coords t) σ) (accN N a (jOf n) n) := by
    rw [e]
    refine start_Q t fun h0 => ?_
    rw [← e] at h0 ⊢
    exact ⟨(hI h0).1.dq, (hI h0).1.fq⟩
  have k1 : n.val ≠ 0 → HasK (initS (grid0.coords t) σ) (accN N a (jOf (n.val - 1)) n) := fun h0 => start_K _ (hI h0).2
  have t1 : HasT (initS (grid0.coords t) σ) _ := start_T _ hT
  have q2 := kv_Q (wI n) (wJ n) q1
  have k2 := kv_K n k1
  have t2 := kv_T (wI n) (wJ n) t1
  obtain ⟨q3, k3⟩ := tile_A n (chk_w n) t2 q2 k2
  have q4 := flush_Q (wI n) q3
  have k4 := flush_K (wI n) k3
  have q5 := fin_Q (grid0.coords t) q4
  have k5 := fin_K (grid0.coords t) k4
  refine And.intro ?_ ?_
  · rw [hw]
    intro h0
    have e1 : (t.val + 1) / 10 = a := by omega
    have e2 : (t.val + 1) % 10 = n + 1 := by omega
    rw [e1, e2]
    exact ⟨q5.dq, k5.dk, k5.dv, k5.df, q5.fq⟩
  · rw [hw]
    have keep := fin_keeps (σ := flushS (wI n) (diagS (wI n) (wJ n) (chk_w n) (offS (wI n) (wJ n) (chk_w n)
      (kvS (wI n) (wJ n) (initS (grid0.coords t) σ))))) (grid0.coords t)
    have fl : iOf n = 3 → flushS (wI n) (diagS (wI n) (wJ n) (chk_w n) (offS (wI n) (wJ n) (chk_w n)
      (kvS (wI n) (wJ n) (initS (grid0.coords t) σ)))) = flushT (wI n) _ := fun h => if_pos ((c5_iff n).2 h)
    have fi : t.val % 10 = 9 → pointS (grid0.coords t) (wI n) (wJ n) (chk_w n) σ = finT (grid0.coords t) _ :=
      fun h => if_pos ((c6_iff t).2 h)
    refine ⟨?_, ?_, ?_, ?_, ?_⟩
    · intro h
      rw [fi h, ← e, ← ea]
      exact (finT_out _ q4).1
    · intro h
      rw [← e] at h
      rw [pointS, keep.1, fl h, ← e, ← ea]
      exact (flushT_out _ k3).1
    · intro h
      rw [← e] at h
      rw [pointS, keep.2.1, fl h, ← e, ← ea]
      exact (flushT_out _ k3).2.1
    · intro h
      rw [← e] at h
      rw [pointS, keep.2.2, fl h, ← e, ← ea]
      exact (flushT_out _ k3).2.2
    · intro h
      rw [fi h, ← e, ← ea]
      exact (finT_out _ q4).2

end Cert.KernelIdeal.Attn

end
-- ==== Proof.Blocks.lean ====
/- Where a grid point's input blocks lie in their arrays: each block at an index is the array at the block's place. -/
module

public import proofs.«01_k».proof.Proof.Step

@[expose] public section

set_option maxRecDepth 16384

noncomputable section

namespace Cert.KernelIdeal.Attn

open Cert.KernelIdeal Cert.KernelIdeal.Gen Cert.Attn
open Idealize.ShloMosaic

variable (m : (ℓ : Loc nD τ sig) → Buf (Elt Ideal) ℓ)

theorem index_0 : ∀ t : Fin cfgA.N, (cfgA.win (0 : Fin 12)).index t = ![iOf (t.val % 10), t.val / 10] := by decide +kernel

/-- The block of window 0 at an index. -/
theorem at_q (c : Dev nD) (t : Fin cfgA.N) (i : Fin 1024) (j : Fin 256) (y : S4096x5120.Idx)
    (h0 : (y 0).val = 1024 * (iOf (t.val % 10)) + i.val) (h1 : (y 1).val = 256 * (t.val / 10) + j.val) :
    in_q m c t (ix2 i j) = V m c main_arg0 y := by
  show V m c main_arg0 (((cfgA.win (0 : Fin 12)).rect t).emb (ix2 i j)) = V m c main_arg0 y
  congr 1
  funext a
  apply Fin.ext
  refine ((cfgA.win (0 : Fin 12)).rect_emb_val t _ a).trans ?_
  rw [index_0 t]
  match a with
  | ⟨0, _⟩ => refine Eq.trans ?_ h0.symm; show (iOf (t.val % 10)) * 1024 + i.val = _; rw [Nat.mul_comm]
  | ⟨1, _⟩ => refine Eq.trans ?_ h1.symm; show (t.val / 10) * 256 + j.val = _; rw [Nat.mul_comm]

theorem index_1 : ∀ t : Fin cfgA.N, (cfgA.win (1 : Fin 12)).index t = ![jOf (t.val % 10), 4 + t.val / 10] := by decide +kernel

/-- The block of window 1 at an index. -/
theorem at_k (c : Dev nD) (t : Fin cfgA.N) (i : Fin 1024) (j : Fin 256) (y : S4096x5120.Idx)
    (h0 : (y 0).val = 1024 * (jOf (t.val % 10)) + i.val) (h1 : (y 1).val = 256 * (4 + t.val / 10) + j.val) :
    in_k m c t (ix2 i j) = V m c main_arg0 y := by
  show V m c main_arg0 (((cfgA.win (1 : Fin 12)).rect t).emb (ix2 i j)) = V m c main_arg0 y
  congr 1
  funext a
  apply Fin.ext
  refine ((cfgA.win (1 : Fin 12)).rect_emb_val t _ a).trans ?_
  rw [index_1 t]
  match a with
  | ⟨0, _⟩ => refine Eq.trans ?_ h0.symm; show (jOf (t.val % 10)) * 1024 + i.val = _; rw [Nat.mul_comm]
  | ⟨1, _⟩ => refine Eq.trans ?_ h1.symm; show (4 + t.val / 10) * 256 + j.val = _; rw [Nat.mul_comm]

theorem index_2 : ∀ t : Fin cfgA.N, (cfgA.win (2 : Fin 12)).index t = ![jOf (t.val % 10), 8 + t.val / 10] := by decide +kernel

/-- The block of window 2 at an index. -/
theorem at_v (c : Dev nD) (t : Fin cfgA.N) (i : Fin 1024) (j : Fin 256) (y : S4096x5120.Idx)
    (h0 : (y 0).val = 1024 * (jOf (t.val % 10)) + i.val) (h1 : (y 1).val = 256 * (8 + t.val / 10) + j.val) :
    in_v m c t (ix2 i j) = V m c main_arg0 y := by
  show V m c main_arg0 (((cfgA.win (2 : Fin 12)).rect t).emb (ix2 i j)) = V m c main_arg0 y
  congr 1
  funext a
  apply Fin.ext
  refine ((cfgA.win (2 : Fin 12)).rect_emb_val t _ a).trans ?_
  rw [index_2 t]
  match a with
  | ⟨0, _⟩ => refine Eq.trans ?_ h0.symm; show (jOf (t.val % 10)) * 1024 + i.val = _; rw [Nat.mul_comm]
  | ⟨1, _⟩ => refine Eq.trans ?_ h1.symm; show (8 + t.val / 10) * 256 + j.val = _; rw [Nat.mul_comm]

theorem index_3 : ∀ t : Fin cfgA.N, (cfgA.win (3 : Fin 12)).index t = ![iOf (t.val % 10), t.val / 10] := by decide +kernel

/-- The block of window 3 at an index. -/
theorem at_o (c : Dev nD) (t : Fin cfgA.N) (i : Fin 1024) (j : Fin 256) (y : S4096x1024.Idx)
    (h0 : (y 0).val = 1024 * (iOf (t.val % 10)) + i.val) (h1 : (y 1).val = 256 * (t.val / 10) + j.val) :
    in_o m c t (ix2 i j) = V m c main_v37 y := by
  show V m c main_v37 (((cfgA.win (3 : Fin 12)).rect t).emb (ix2 i j)) = V m c main_v37 y
  congr 1
  funext a
  apply Fin.ext
  refine ((cfgA.win (3 : Fin 12)).rect_emb_val t _ a).trans ?_
  rw [index_3 t]
  match a with
  | ⟨0, _⟩ => refine Eq.trans ?_ h0.symm; show (iOf (t.val % 10)) * 1024 + i.val = _; rw [Nat.mul_comm]
  | ⟨1, _⟩ => refine Eq.trans ?_ h1.symm; show (t.val / 10) * 256 + j.val = _; rw [Nat.mul_comm]

theorem index_4 : ∀ t : Fin cfgA.N, (cfgA.win (4 : Fin 12)).index t = ![iOf (t.val % 10), t.val / 10] := by decide +kernel

/-- The block of window 4 at an index. -/
theorem at_d (c : Dev nD) (t : Fin cfgA.N) (i : Fin 1024) (j : Fin 256) (y : S4096x1024.Idx)
    (h0 : (y 0).val = 1024 * (iOf (t.val % 10)) + i.val) (h1 : (y 1).val = 256 * (t.val / 10) + j.val) :
    in_d m c t (ix2 i j) = V m c main_arg2 y := by
  show V m c main_arg2 (((cfgA.win (4 : Fin 12)).rect t).emb (ix2 i j)) = V m c main_arg2 y
  congr 1
  funext a
  apply Fin.ext
  refine ((cfgA.win (4 : Fin 12)).rect_emb_val t _ a).trans ?_
  rw [index_4 t]
  match a with
  | ⟨0, _⟩ => refine Eq.trans ?_ h0.symm; show (iOf (t.val % 10)) * 1024 + i.val = _; rw [Nat.mul_comm]
  | ⟨1, _⟩ => refine Eq.trans ?_ h1.symm; show (t.val / 10) * 256 + j.val = _; rw [Nat.mul_comm]

theorem index_5 : ∀ t : Fin cfgA.N, (cfgA.win (5 : Fin 12)).index t = ![t.val / 10, iOf (t.val % 10), 0] := by decide +kernel

/-- The block of window 5 at an index. -/
theorem at_ls (c : Dev nD) (t : Fin cfgA.N) (i : Fin 2) (j : Fin 1024) (k : Fin 128) (y : S8x4096x128.Idx)
    (h0 : (y 0).val = 2 * (t.val / 10) + i.val) (h1 : (y 1).val = 1024 * (iOf (t.val % 10)) + j.val) (h2 : (y 2).val = 128 * (0) + k.val) :
    in_ls m c t (ix3 i j k) = V m c main_v43 y := by
  show V m c main_v43 (((cfgA.win (5 : Fin 12)).rect t).emb (ix3 i j k)) = V m c main_v43 y
  congr 1
  funext a
  apply Fin.ext
  refine ((cfgA.win (5 : Fin 12)).rect_emb_val t _ a).trans ?_
  rw [index_5 t]
  match a with
  | ⟨0, _⟩ => refine Eq.trans ?_ h0.symm; show (t.val / 10) * 2 + i.val = _; rw [Nat.mul_comm]
  | ⟨1, _⟩ => refine Eq.trans ?_ h1.symm; show (iOf (t.val % 10)) * 1024 + j.val = _; rw [Nat.mul_comm]
  | ⟨2, _⟩ => refine Eq.trans ?_ h2.symm; show (0) * 128 + k.val = _; rw [Nat.mul_comm]

theorem index_6 : ∀ t : Fin cfgA.N, (cfgA.win (6 : Fin 12)).index t = ![t.val / 10, 0, jOf (t.val % 10)] := by decide +kernel

/-- The block of window 6 at an index. -/
theorem at_fk (c : Dev nD) (t : Fin cfgA.N) (i : Fin 2) (j : Fin 1) (k : Fin 1024) (y : S8x1x4096.Idx)
    (h0 : (y 0).val = 2 * (t.val / 10) + i.val) (h1 : (y 1).val = 1 * (0) + j.val) (h2 : (y 2).val = 1024 * (jOf (t.val % 10)) + k.val) :
    in_fk m c t (ix3 i j k) = V m c main_v44 y := by
  show V m c main_v44 (((cfgA.win (6 : Fin 12)).rect t).emb (ix3 i j k)) = V m c main_v44 y
  congr 1
  funext a
  apply Fin.ext
  refine ((cfgA.win (6 : Fin 12)).rect_emb_val t _ a).trans ?_
  rw [index_6 t]
  match a with
  | ⟨0, _⟩ => refine Eq.trans ?_ h0.symm; show (t.val / 10) * 2 + i.val = _; rw [Nat.mul_comm]
  | ⟨1, _⟩ => refine Eq.trans ?_ h1.symm; show (0) * 1 + j.val = _; rw [Nat.mul_comm]
  | ⟨2, _⟩ => refine Eq.trans ?_ h2.symm; show (jOf (t.val % 10)) * 1024 + k.val = _; rw [Nat.mul_comm]

end Cert.KernelIdeal.Attn

end
-- ==== Proof.Host.lean ====
/- The host operations before the call, on real numbers: the forward attention that gives the saved result and the logarithms of
   the softmax denominators, as functions of the arguments, and what each holds at an index. -/
module

public import proofs.«01_k».proof.Proof.Blocks
public import Idealize.ShloMosaic.Lib.StableHlo.ReadAt
public import Idealize.ShloMosaic.Lib.Pointwise

@[expose] public section

noncomputable section

namespace Cert.KernelIdeal.Attn

open Cert.KernelIdeal Cert.KernelIdeal.Gen Cert.Attn
open Idealize.ShloMosaic

/-- The heads of the queries, the keys and the values. -/
def hq (z : Vec Ideal S4096x5120 .bf16) : Vec Ideal S8x4096x128 .f32 :=
  transpose S8x4096x128 [1, 0, 2] (shapeCast S4096x8x128 (extf (F := Ideal) .f32 (extractStridedSlice S4096x1024 ![0, 0] z slices_S4096x5120_S4096x1024_0_0) bitsLt_bf16_f32) shapeCasts_S4096x1024_S4096x8x128) transposes_S4096x8x128_S8x4096x128_1_0_2
def hk (z : Vec Ideal S4096x5120 .bf16) : Vec Ideal S8x4096x128 .f32 :=
  transpose S8x4096x128 [1, 0, 2] (shapeCast S4096x8x128 (extf (F := Ideal) .f32 (extractStridedSlice S4096x1024 ![0, 1024] z slices_S4096x5120_S4096x1024_0_1024) bitsLt_bf16_f32) shapeCasts_S4096x1024_S4096x8x128) transposes_S4096x8x128_S8x4096x128_1_0_2
def hv (z : Vec Ideal S4096x5120 .bf16) : Vec Ideal S8x4096x128 .f32 :=
  transpose S8x4096x128 [1, 0, 2] (shapeCast S4096x8x128 (extf (F := Ideal) .f32 (extractStridedSlice S4096x1024 ![0, 2048] z slices_S4096x5120_S4096x1024_0_2048) bitsLt_bf16_f32) shapeCasts_S4096x1024_S4096x8x128) transposes_S4096x8x128_S8x4096x128_1_0_2

/-- The masked logits. -/
def hlog (q k : Vec Ideal S8x4096x128 .f32) (f : Vec Ideal S8x4096 .f32) : Vec Ideal S8x4096x4096 .f32 :=
  select (broadcastInDim S8x4096x4096 ![0, 1, 2] bcast_S1x4096x4096_S8x4096x4096_0_1_2
     (cmpi CmpIPredicate.sle (broadcastInDim S1x4096x4096 ![0, 1, 2] bcast_S1x1x4096_S1x4096x4096_0_1_2
                    (broadcastInDim S1x1x4096 ![2] bcast_S4096_S1x1x4096_2 (iotaInDim S4096 32 0)))
                  (broadcastInDim S1x4096x4096 ![0, 1, 2] bcast_S1x4096x1_S1x4096x4096_0_1_2
                    (broadcastInDim S1x4096x1 ![1] bcast_S4096_S1x4096x1_1 (iotaInDim S4096 32 0)))))
   (subf (F := Ideal) (mulf (Host.dotGeneral (F := Ideal) (φ₁ := .f32) (φ₂ := .f32) dot_S8x4096x128_S8x4096x128_S8x4096x4096_2_2_1_1_0_0 none q k)
      (broadcastInDim S8x4096x4096 ![] bcast_S_S8x4096x4096 (constant (F := Ideal) S_ .f32 0x3DB504F3#32)))
            (broadcastInDim S8x4096x4096 ![0, 1, 2] bcast_S8x1x4096_S8x4096x4096_0_1_2
              (broadcastInDim S8x1x4096 ![0, 2] bcast_S8x4096_S8x1x4096_0_2 f)))
   (broadcastInDim S8x4096x4096 ![] bcast_S_S8x4096x4096 (constant (F := Ideal) S_ .f32 0xFF800000#32))

/-- The largest logit of each row. -/
def hmax (x : Vec Ideal S8x4096x4096 .f32) : Vec Ideal S8x4096x1 .f32 :=
  broadcastInDim S8x4096x1 ![0, 1] bcast_S8x4096_S8x4096x1_0_1
    (Host.reduce (FloatOps.maximumf (F := Ideal) (φ := .f32)) x (constant (F := Ideal) S_ .f32 0xFF800000#32) reducesTo_S8x4096x4096_S8x4096_d2 h_S_)

/-- The exponentials. -/
def hexp (x : Vec Ideal S8x4096x4096 .f32) (y : Vec Ideal S8x4096x1 .f32) : Vec Ideal S8x4096x4096 .f32 :=
  Host.exp (F := Ideal) (φ := .f32) (subf (F := Ideal) (φ := .f32) x (broadcastInDim S8x4096x4096 ![0, 1, 2] bcast_S8x4096x1_S8x4096x4096_0_1_2 y))

/-- The denominators. -/
def hden (e : Vec Ideal S8x4096x4096 .f32) : Vec Ideal S8x4096x1 .f32 :=
  broadcastInDim S8x4096x1 ![0, 1] bcast_S8x4096_S8x4096x1_0_1
    (Host.reduceAdd (F := Ideal) (φ := .f32) e (constant (F := Ideal) S_ .f32 0x00000000#32) reducesTo_S8x4096x4096_S8x4096_d2 h_S_)

/-- The saved result. -/
def hout (e : Vec Ideal S8x4096x4096 .f32) (d : Vec Ideal S8x4096x1 .f32) (v : Vec Ideal S8x4096x128 .f32) : Vec Ideal S4096x1024 .bf16 :=
  truncf (F := Ideal) .bf16 (shapeCast S4096x1024 (transpose S4096x8x128 [1, 0, 2]
    (Host.dotGeneral (F := Ideal) (φ₁ := .f32) (φ₂ := .f32) dot_S8x4096x4096_S8x4096x128_S8x4096x128_2_1_1_2_0_0 none
      (Host.divf (F := Ideal) (φ := .f32) e (broadcastInDim S8x4096x4096 ![0, 1, 2] bcast_S8x4096x1_S8x4096x4096_0_1_2 d)) v)
    transposes_S8x4096x128_S4096x8x128_1_0_2) shapeCasts_S4096x8x128_S4096x1024) bitsLt_bf16_f32

/-- The logarithms of the denominators, in base two, along lanes. -/
def hlse (y d : Vec Ideal S8x4096x1 .f32) : Vec Ideal S8x4096x128 .f32 :=
  broadcastInDim S8x4096x128 ![0, 1, 2] bcast_S8x4096x1_S8x4096x128_0_1_2
    (Host.divf (F := Ideal) (φ := .f32) (addf (F := Ideal) (φ := .f32) y (Host.log (F := Ideal) (φ := .f32) d))
      (broadcastInDim S8x4096x1 ![] bcast_S_S8x4096x1 (Host.log (F := Ideal) (φ := .f32) (constant (F := Ideal) S_ .f32 0x40000000#32))))

/-- The forget gates' sums as the kernel is given them. -/
def hfk (f : Vec Ideal S8x4096 .f32) : Vec Ideal S8x1x4096 .f32 := broadcastInDim S8x1x4096 ![0, 2] bcast_S8x4096_S8x1x4096_0_2 f

variable (m : (ℓ : Loc nD τ sig) → Buf (Elt Ideal) ℓ)

/-- The three arguments of a device. -/
def argz (c : Dev nD) : Vec Ideal S4096x5120 .bf16 := m (c, Proc.tc.devRef main_arg0)
def argf (c : Dev nD) : Vec Ideal S8x4096 .f32 := m (c, Proc.tc.devRef main_arg1)
def argd (c : Dev nD) : Vec Ideal S4096x1024 .bf16 := m (c, Proc.tc.devRef main_arg2)

def logit (c : Dev nD) := hlog (hq (argz m c)) (hk (argz m c)) (argf m c)
def expo (c : Dev nD) := hexp (logit m c) (hmax (logit m c))

set_option maxHeartbeats 4000000 in
theorem V_o (c : Dev nD) : V m c main_v37 = hout (expo m c) (hden (expo m c)) (hv (argz m c)) := by
  simp only [V, List.flatten_cons, List.flatten_nil, List.append_nil, List.cons_append, List.nil_append]
  after_reads_simp
  simp -implicitDefEqProofs only [StableHlo.TRef.toBuf, StableHlo.TRef.ofBuf, cast_cast, cast_eq]
  rfl

set_option maxHeartbeats 4000000 in
theorem V_lse (c : Dev nD) : V m c main_v43 = hlse (hmax (logit m c)) (hden (expo m c)) := by
  simp only [V, List.flatten_cons, List.flatten_nil, List.append_nil, List.cons_append, List.nil_append]
  after_reads_simp
  simp -implicitDefEqProofs only [StableHlo.TRef.toBuf, StableHlo.TRef.ofBuf, cast_cast, cast_eq]
  rfl

set_option maxHeartbeats 4000000 in
theorem V_fk (c : Dev nD) : V m c main_v44 = hfk (argf m c) := by
  simp only [V, List.flatten_cons, List.flatten_nil, List.append_nil, List.cons_append, List.nil_append]
  after_reads_simp
  rfl

end Cert.KernelIdeal.Attn

end
-- ==== Proof.Math.lean ====
/- Attention and its gradients on real numbers, and that the sums over blocks the kernel keeps are the sums over whole rows and
   columns. -/
module

public import proofs.«01_k».proof.Proof.Step

@[expose] public section

noncomputable section

namespace Cert.KernelIdeal.Attn

open Cert.KernelIdeal Cert.KernelIdeal.Gen Cert.Attn
open Idealize.ShloMosaic

/-- The numbers of the three arguments: the projections, the forget gates' sums and the gradient of the result. -/
structure Args where
  z : ℕ → ℕ → ℝ
  f : ℕ → ℕ → ℝ
  d : ℕ → ℕ → ℝ

namespace Args

variable (A : Args) (h r s : ℕ)

/-- The inner product of query `r` and key `s` of head `h`. -/
def qk : ℝ := ∑ k : Fin 128, A.z r (128 * h + k) * A.z s (1024 + (128 * h + k))

/-- The logit of key `s` at row `r`, up to a number that depends on the row alone. -/
def sc : ℝ := A.qk h r s * wR - A.f h s

/-- The softmax denominator of row `r`. -/
def den : ℝ := ∑ t : Fin 4096, if (t : ℕ) ≤ r then Real.exp (A.sc h r t) else 0

/-- The probability of key `s` at row `r`. -/
def P : ℝ := if s ≤ r then Real.exp (A.sc h r s) / A.den h r else 0

/-- The result of attention at row `r`, column `x` of head `h`. -/
def out (x : ℕ) : ℝ := ∑ t : Fin 4096, A.P h r t * A.z t (2048 + (128 * h + x))

/-- The gradient of the probability of key `s` at row `r`. -/
def dp : ℝ := ∑ k : Fin 128, A.d r (128 * h + k) * A.z s (2048 + (128 * h + k))

/-- The mean of those gradients over the row. -/
def dl : ℝ := ∑ t : Fin 4096, A.P h r t * A.dp h r t

/-- The gradient of the logit of key `s` at row `r`. -/
def dS : ℝ := A.P h r s * (A.dp h r s - A.dl h r)

/-- The gradient of the queries, at row `r` and column `x` of head `h`. -/
def dq (x : ℕ) : ℝ := (∑ t : Fin 4096, A.dS h r t * A.z t (1024 + (128 * h + x))) * wR

/-- The gradient of the keys, at row `s` and column `x` of head `h`. -/
def dk (x : ℕ) : ℝ := (∑ t : Fin 4096, A.dS h t s * A.z t (128 * h + x)) * wR

/-- The gradient of the values, at row `s` and column `x` of head `h`. -/
def dv (x : ℕ) : ℝ := ∑ t : Fin 4096, A.P h t s * A.d t (128 * h + x)

/-- The gradient of the forget gates' sums at the keys. -/
def dfk : ℝ := -∑ t : Fin 4096, A.dS h t s

/-- The gradient of the forget gates' sums at the queries. -/
def dfq : ℝ := ∑ t : Fin 4096, A.dS h r t

theorem den_pos (hr : r < 4096) : 0 < A.den h r := by
  refine Finset.sum_pos' (fun t _ => ?_) ⟨⟨r, hr⟩, Finset.mem_univ _, ?_⟩
  · split_ifs
    · exact (Real.exp_pos _).le
    · exact le_refl _
  · rw [if_pos (le_refl r)]
    exact Real.exp_pos _

/-- The numbers the kernel is given: the saved result and the logarithms of the denominators are those of attention. -/
def nums : Nums where
  z := A.z
  o r x := A.out (x / 128) r (x % 128)
  d := A.d
  l h r := Real.log (A.den h r) / Real.log 2
  f := A.f

/-- A power of two of a logit less the logarithm of the denominator is the probability. -/
theorem gP_eq (a e : ℕ) (hr : r < 4096) : gP A.nums a e r s = A.P (2 * a + e) r s := by
  unfold gP P
  split_ifs with hs
  · have h2 : Real.log 2 ≠ 0 := (Real.log_pos (by norm_num)).ne'
    have hd := A.den_pos (2 * a + e) r hr
    have hq : (∑ k : Fin 128, A.nums.z r (256 * a + (128 * e + k)) * A.nums.z s (1024 + (256 * a + (128 * e + k))))
        = A.qk (2 * a + e) r s := by
      refine Finset.sum_congr rfl fun k _ => ?_
      rw [show 256 * a + (128 * e + (k : ℕ)) = 128 * (2 * a + e) + k by ring]
      rfl
    show (2 : ℝ) ^ (xT _ _ _ _ _ _) = _
    unfold xT
    dsimp only
    rw [hq, Real.rpow_def_of_pos (by norm_num : (0 : ℝ) < 2)]
    have : Real.log 2 * (A.qk (2 * a + e) r s * kS - A.nums.f (2 * a + e) s * kL - A.nums.l (2 * a + e) r)
        = A.sc (2 * a + e) r s - Real.log (A.den (2 * a + e) r) := by
      unfold sc kS kL wR nums
      dsimp only
      field_simp
    rw [this, Real.exp_sub, Real.exp_log hd]
  · rfl

theorem oT_eq (a e : ℕ) (he : e < 2) :
    oT (fun i x => A.nums.d i (256 * a + (128 * e + x))) (fun i x => A.nums.o i (256 * a + (128 * e + x))) r = A.dl (2 * a + e) r := by
  unfold oT dl
  have h1 : ∀ k : Fin 128, A.nums.d r (256 * a + (128 * e + k)) * A.nums.o r (256 * a + (128 * e + k))
      = ∑ t : Fin 4096, A.P (2 * a + e) r t * (A.d r (128 * (2 * a + e) + k) * A.z t (2048 + (128 * (2 * a + e) + k))) := by
    intro k
    have hk := k.isLt
    show A.d r _ * A.out ((256 * a + (128 * e + k)) / 128) r ((256 * a + (128 * e + k)) % 128) = _
    rw [show (256 * a + (128 * e + (k : ℕ))) / 128 = 2 * a + e by omega, show (256 * a + (128 * e + (k : ℕ))) % 128 = k by omega,
      show 256 * a + (128 * e + (k : ℕ)) = 128 * (2 * a + e) + k by ring, out, Finset.mul_sum]
    refine Finset.sum_congr rfl fun t _ => ?_
    ring
  dsimp only
  rw [Finset.sum_congr rfl fun k _ => h1 k, Finset.sum_comm]
  refine Finset.sum_congr rfl fun t _ => ?_
  rw [dp, Finset.mul_sum]

theorem gS_eq (a e : ℕ) (he : e < 2) (hr : r < 4096) : gS A.nums a e r s = A.dS (2 * a + e) r s := by
  unfold gS dS
  rw [A.gP_eq r s a e hr, A.oT_eq r a e he]
  congr 2
  unfold dT dp
  refine Finset.sum_congr rfl fun k _ => ?_
  dsimp only
  rw [show 256 * a + (128 * e + (k : ℕ)) = 128 * (2 * a + e) + k by ring]
  rfl

theorem P_zero (h : ℕ) {r s : ℕ} (hs : r < s) : A.P h r s = 0 := if_neg (by omega)
theorem dS_zero (h : ℕ) {r s : ℕ} (hs : r < s) : A.dS h r s = 0 := by rw [dS, A.P_zero h hs, zero_mul]

/-- The sum over the four blocks is the sum over all. -/
theorem sum_blocks (g : ℕ → ℝ) : ∑ t : Fin 4096, g t = ∑ b ∈ Finset.range 4, ∑ s : Fin 1024, g (1024 * b + s) := by
  rw [Fin.sum_univ_eq_sum_range (f := g) 4096, Finset.sum_congr rfl fun b _ =>
    Fin.sum_univ_eq_sum_range (fun s => g (1024 * b + s)) 1024]
  rw [show (4096 : ℕ) = 1024 + 1024 + 1024 + 1024 by norm_num, Finset.sum_range_add, Finset.sum_range_add, Finset.sum_range_add]
  simp [Finset.sum_range_succ _ 0, Finset.sum_range_succ _ 1, Finset.sum_range_succ _ 2, Finset.sum_range_succ _ 3]

/-- A sum over the blocks marked is the sum over all where the others are zero. -/
theorem bsum_all (c : ℕ → Prop) [DecidablePred c] (g : ℕ → ℝ) (h0 : ∀ b < 4, ¬ c b → ∀ s < 1024, g (1024 * b + s) = 0) :
    bsum c (fun b => ∑ s : Fin 1024, g (1024 * b + s)) = ∑ t : Fin 4096, g t := by
  rw [sum_blocks]
  refine Finset.sum_congr rfl fun b hb => ?_
  split_ifs with hc
  · rfl
  · refine Eq.symm (Finset.sum_eq_zero fun s _ => ?_)
    exact h0 b (Finset.mem_range.1 hb) hc s s.isLt

theorem idx_row : ∀ I < 4, ∀ b < 4, ¬ idx I b < 10 → I < b := by decide
theorem idx_col : ∀ n < 10, iOf n = 3 → ∀ b < 4, ¬ idx b (jOf n) < n + 1 → b < jOf n := by decide

variable {a e x n : ℕ}

theorem dq_eq (J : ℕ) (he : e < 2) (hr : r < 4096) : (accN A.nums a J 10).dq e r x * wR = A.dq (2 * a + e) r x := by
  dsimp only [accN]
  rw [bsum_all _ (fun t => gS A.nums a e r t * A.nums.z t (1024 + (256 * a + (128 * e + x))))]
  · unfold dq
    congr 1
    refine Finset.sum_congr rfl fun t _ => ?_
    rw [A.gS_eq r t a e he hr, show 256 * a + (128 * e + x) = 128 * (2 * a + e) + x by ring]
    rfl
  · intro b hb hc s hs
    have := idx_row (r / 1024) (by omega) b hb hc
    rw [A.gS_eq r _ a e he hr, A.dS_zero _ (by omega), zero_mul]

theorem dfq_eq (J : ℕ) (he : e < 2) (hr : r < 4096) : (accN A.nums a J 10).fq e r = A.dfq (2 * a + e) r := by
  dsimp only [accN]
  rw [bsum_all _ (fun t => gS A.nums a e r t)]
  · unfold dfq
    refine Finset.sum_congr rfl fun t _ => ?_
    rw [A.gS_eq r t a e he hr]
  · intro b hb hc s hs
    have := idx_row (r / 1024) (by omega) b hb hc
    rw [A.gS_eq r _ a e he hr, A.dS_zero _ (by omega)]

theorem dk_eq (hn : n < 10) (h3 : iOf n = 3) (he : e < 2) :
    (accN A.nums a (jOf n) (n + 1)).dk e s x * wR = A.dk (2 * a + e) (1024 * jOf n + s) x := by
  dsimp only [accN]
  rw [bsum_all _ (fun t => gS A.nums a e t (1024 * jOf n + s) * A.nums.z t (256 * a + (128 * e + x)))]
  · unfold dk
    congr 1
    refine Finset.sum_congr rfl fun t _ => ?_
    rw [A.gS_eq t _ a e he t.isLt, show 256 * a + (128 * e + x) = 128 * (2 * a + e) + x by ring]
    rfl
  · intro b hb hc r hr
    have := idx_col n hn h3 b hb hc
    rw [A.gS_eq _ _ a e he (by omega), A.dS_zero _ (by omega), zero_mul]

theorem dv_eq (hn : n < 10) (h3 : iOf n = 3) (he : e < 2) :
    (accN A.nums a (jOf n) (n + 1)).dv e s x = A.dv (2 * a + e) (1024 * jOf n + s) x := by
  dsimp only [accN]
  rw [bsum_all _ (fun t => gP A.nums a e t (1024 * jOf n + s) * A.nums.d t (256 * a + (128 * e + x)))]
  · unfold dv
    refine Finset.sum_congr rfl fun t _ => ?_
    rw [A.gP_eq t _ a e t.isLt, show 256 * a + (128 * e + x) = 128 * (2 * a + e) + x by ring]
    rfl
  · intro b hb hc r hr
    have := idx_col n hn h3 b hb hc
    rw [A.gP_eq _ _ a e (by omega), A.P_zero _ (by omega), zero_mul]

theorem dfk_eq (hn : n < 10) (h3 : iOf n = 3) (he : e < 2) :
    (accN A.nums a (jOf n) (n + 1)).df e s = A.dfk (2 * a + e) (1024 * jOf n + s) := by
  dsimp only [accN]
  rw [bsum_all _ (fun t => gS A.nums a e t (1024 * jOf n + s))]
  · unfold dfk
    congr 1
    refine Finset.sum_congr rfl fun t _ => ?_
    rw [A.gS_eq t _ a e he t.isLt]
  · intro b hb hc r hr
    have := idx_col n hn h3 b hb hc
    rw [A.gS_eq _ _ a e he (by omega), A.dS_zero _ (by omega)]

end Args

end Cert.KernelIdeal.Attn

end
-- ==== Proof.Saved.lean ====
/- What the call is given, on real numbers: where the arguments hold real numbers, the blocks of the walk hold those of attention. -/
module

public import proofs.«01_k».proof.Proof.Host
public import proofs.«01_k».proof.Proof.Math

@[expose] public section

noncomputable section

namespace Cert.KernelIdeal.Attn

open Cert.KernelIdeal Cert.KernelIdeal.Gen Cert.Attn
open Idealize.ShloMosaic

theorem neg_inf : Ideal.ofBits .f32 0xFF800000#32 = (⊥ : EReal) := by simp [Ideal.ofBits, Ideal.ieee]
theorem lit_two : Ideal.ofBits .f32 0x40000000#32 = ((2 : ℝ) : EReal) := by
  simp [Ideal.ofBits, Ideal.ieee]
  rw [← EReal.coe_mul]
  norm_num

/-- The largest of real numbers and `⊥`s is real where one of them is. -/
theorem max_real {n : ℕ} (p : Fin n → Prop) [DecidablePred p] (x : Fin n → ℝ) (k : Fin n) (hk : p k) :
    ∃ M : ℝ, Finset.univ.fold max (⊥ : EReal) (fun t => if p t then ((x t : ℝ) : EReal) else ⊥) = (M : EReal) := by
  have h1 : Finset.univ.fold max (⊥ : EReal) (fun t => if p t then ((x t : ℝ) : EReal) else ⊥) < ⊤ := by
    rw [Finset.fold_max_lt]
    refine ⟨bot_lt_top, fun t _ => ?_⟩
    split_ifs
    · exact EReal.coe_lt_top _
    · exact bot_lt_top
  have h2 : ⊥ < Finset.univ.fold max (⊥ : EReal) (fun t => if p t then ((x t : ℝ) : EReal) else ⊥) := by
    rw [Finset.lt_fold_max]
    refine Or.inr ⟨k, Finset.mem_univ _, ?_⟩
    rw [if_pos hk]
    exact EReal.bot_lt_coe _
  exact ⟨_, (EReal.coe_toReal h1.ne h2.ne').symm⟩

variable {A : Args} {z : Vec Ideal S4096x5120 .bf16} {f : Vec Ideal S8x4096 .f32}

theorem hq_r (hz : R2 z A.z) : R3 (hq z) (fun h r k => A.z r (128 * h + k)) := by
  intro h r k
  pointwise [hq]
  exact (hz _ _).trans (congrArg (fun n => ((A.z r (n + k) : ℝ) : EReal)) (Nat.mul_comm _ _))

theorem hk_r (hz : R2 z A.z) : R3 (hk z) (fun h r k => A.z r (1024 + (128 * h + k))) := by
  intro h r k
  pointwise [hk]
  exact (hz _ _).trans (congrArg (fun n => ((A.z r (1024 + (n + k)) : ℝ) : EReal)) (Nat.mul_comm _ _))

theorem hv_r (hz : R2 z A.z) : R3 (hv z) (fun h r k => A.z r (2048 + (128 * h + k))) := by
  intro h r k
  pointwise [hv]
  exact (hz _ _).trans (congrArg (fun n => ((A.z r (2048 + (n + k)) : ℝ) : EReal)) (Nat.mul_comm _ _))

theorem sel {α : Type} {x y : α} (r s : Fin 4096) :
    Scalar.select (IntOp.cmpi CmpIPredicate.sle (BitVec.ofNat 32 s.val) (BitVec.ofNat 32 r.val)) x y = if s.val ≤ r.val then x else y := by
  have hi := r.isLt
  have hj := s.isLt
  rw [sle_nat _ _ (by omega) (by omega)]
  split_ifs <;> rfl

theorem hlog_r (hz : R2 z A.z) (hf : R2 f A.f) (h : Fin 8) (r s : Fin 4096) :
    hlog (hq z) (hk z) f (ix3 h r s) = if s.val ≤ r.val then ((A.sc h r s : ℝ) : EReal) else ⊥ := by
  pointwise [hlog]
  simp only [hq_r hz _ _ _, hk_r hz _ _ _, hf _ _, sel, csw, neg_inf, ← EReal.coe_mul, ← EReal.coe_sub, ← coe_fsum]
  rfl

/-- The largest logits are real. -/
theorem hmax_r (hz : R2 z A.z) (hf : R2 f A.f) : ∃ M : ℕ → ℕ → ℝ, R3 (hmax (hlog (hq z) (hk z) f)) (fun h r _ => M h r) := by
  have hM : ∀ (h : Fin 8) (r : Fin 4096), ∃ M : ℝ, ∀ k : Fin 1, hmax (hlog (hq z) (hk z) f) (ix3 h r k) = (M : EReal) := by
    intro h r
    obtain ⟨M, hM⟩ := max_real (fun s : Fin 4096 => s.val ≤ r.val) (fun s => A.sc h r s) r (le_refl _)
    refine ⟨M, fun k => ?_⟩
    pointwise [hmax]
    simp only [hlog_r hz hf, neg_inf]
    exact hM
  choose M hM using hM
  refine ⟨fun h r => if hh : h < 8 then if hr : r < 4096 then M ⟨h, hh⟩ ⟨r, hr⟩ else 0 else 0, fun h r k => ?_⟩
  dsimp only
  rw [hM h r k, dif_pos h.isLt, dif_pos r.isLt]

/-- The exponentials. -/
theorem hexp_r (hz : R2 z A.z) (hf : R2 f A.f) {M : ℕ → ℕ → ℝ} (hM : R3 (hmax (hlog (hq z) (hk z) f)) (fun h r _ => M h r)) :
    R3 (hexp (hlog (hq z) (hk z) f) (hmax (hlog (hq z) (hk z) f)))
      (fun h r s => if s ≤ r then Real.exp (A.sc h r s) / Real.exp (M h r) else 0) := by
  intro h r s
  pointwise [hexp]
  simp only [hlog_r hz hf, hM _ _ _]
  split_ifs
  · rw [← EReal.coe_sub, ← Real.exp_sub]; rfl
  · simp

/-- The denominators. -/
theorem hden_r (hz : R2 z A.z) (hf : R2 f A.f) {M : ℕ → ℕ → ℝ} (hM : R3 (hmax (hlog (hq z) (hk z) f)) (fun h r _ => M h r)) :
    R3 (hden (hexp (hlog (hq z) (hk z) f) (hmax (hlog (hq z) (hk z) f)))) (fun h r _ => A.den h r / Real.exp (M h r)) := by
  intro h r k
  pointwise [hden]
  simp only [hexp_r hz hf hM _ _ _, ← coe_fsum]
  congr 1
  rw [Args.den, Finset.sum_div]
  refine Finset.sum_congr rfl fun t _ => ?_
  split_ifs
  · rfl
  · rw [zero_div]

/-- A quotient of real numbers. -/
theorem div_real (x y : ℝ) (hy : y ≠ 0) : Ideal.div ((x : ℝ) : EReal) ((y : ℝ) : EReal) = ((x / y : ℝ) : EReal) := by
  rw [Ideal.div, if_neg (by exact_mod_cast hy), ← EReal.coe_inv, ← EReal.coe_mul, div_eq_mul_inv]

/-- A logarithm of a positive number. -/
theorem log_real (x : ℝ) (hx : 0 < x) : Ideal.log ((x : ℝ) : EReal) = ((Real.log x : ℝ) : EReal) := by
  show (if x ≤ 0 then (⊥ : EReal) else (Real.log x : EReal)) = _
  rw [if_neg (not_le.2 hx)]

theorem hout_r (hz : R2 z A.z) (hf : R2 f A.f) {M : ℕ → ℕ → ℝ} (hM : R3 (hmax (hlog (hq z) (hk z) f)) (fun h r _ => M h r)) :
    R2 (hout (hexp (hlog (hq z) (hk z) f) (hmax (hlog (hq z) (hk z) f))) (hden (hexp (hlog (hq z) (hk z) f) (hmax (hlog (hq z) (hk z) f))))
      (hv z)) A.nums.o := by
  intro r x
  pointwise [hout]
  simp only [hexp_r hz hf hM _ _ _, hden_r hz hf hM _ _ _, hv_r hz _ _ _, ← coe_fsum]
  have hx := x.isLt
  have hd := A.den_pos (x / 128) r r.isLt
  have hc : ∀ t : Fin 4096, Ideal.div (((if t.val ≤ r.val then Real.exp (A.sc (x.val / 128) r t) / Real.exp (M (x.val / 128) r) else 0 : ℝ)) : EReal)
      ((A.den (x.val / 128) r / Real.exp (M (x.val / 128) r) : ℝ) : EReal) = ((A.P (x.val / 128) r t : ℝ) : EReal) := by
    intro t
    rw [div_real _ _ (div_pos hd (Real.exp_pos _)).ne']
    unfold Args.P
    split_ifs
    · rw [div_div_div_cancel_right₀ (Real.exp_pos _).ne']
    · rw [zero_div]
  simp only [hc, ← EReal.coe_mul, ← coe_fsum]
  rfl

theorem hlse_at (y d : Vec Ideal S8x4096x1 .f32) (h : Fin 8) (r : Fin 4096) (x : Fin 128) :
    hlse y d (ix3 h r x) = Ideal.div (y (ix3 h r 0) + Ideal.log (d (ix3 h r 0))) (Ideal.log (Ideal.ofBits .f32 0x40000000#32)) := by
  pointwise [hlse]

theorem hlse_r (hz : R2 z A.z) (hf : R2 f A.f) {M : ℕ → ℕ → ℝ} (hM : R3 (hmax (hlog (hq z) (hk z) f)) (fun h r _ => M h r)) :
    R3 (hlse (hmax (hlog (hq z) (hk z) f)) (hden (hexp (hlog (hq z) (hk z) f) (hmax (hlog (hq z) (hk z) f))))) (fun h r _ => A.nums.l h r) := by
  intro h r x
  have hd := A.den_pos h r r.isLt
  rw [hlse_at, hM, hden_r hz hf hM, lit_two, log_real _ (div_pos hd (Real.exp_pos _)), log_real _ (by norm_num), ← EReal.coe_add,
    div_real _ _ (Real.log_pos (by norm_num)).ne', Real.log_div hd.ne' (Real.exp_pos _).ne', Real.log_exp]
  show _ = ((Real.log (A.den h r) / Real.log 2 : ℝ) : EReal)
  congr 2
  ring

theorem hfk_r (hf : R2 f A.f) : R3 (hfk f) (fun h _ s => A.nums.f h s) := by
  intro h k s
  pointwise [hfk]
  exact hf _ _

end Cert.KernelIdeal.Attn

end
-- ==== Proof.Final.lean ====
/- The five results of the run, on real numbers. -/
module

public import proofs.«01_k».proof.Proof.Saved
public import proofs.«01_k».proof.Proof.Frame
public import Idealize.ShloMosaic.Lib.Pipeline.ArrRel
public import Idealize.ShloMosaic.Lib.Pipeline.ValueKit.Geometry

@[expose] public section

set_option maxRecDepth 16384

noncomputable section

namespace Cert.KernelIdeal.Attn

open Cert.KernelIdeal Cert.KernelIdeal.Gen Cert.Attn
open Idealize.ShloMosaic
open Idealize.ShloMosaic.Pipeline (RDat)

variable (m : (ℓ : Loc nD τ sig) → Buf (Elt Ideal) ℓ)

theorem iOf_lt (n : ℕ) : iOf n < 4 := by unfold iOf; split <;> omega
theorem jOf_lt (n : ℕ) : jOf n < 4 := by unfold jOf; split <;> omega

/-- The arguments of a device hold the numbers `A`. -/
structure Holds (c : Dev nD) (A : Args) : Prop where
  z : R2 (argz m c) A.z
  f : R2 (argf m c) A.f
  d : R2 (argd m c) A.d

theorem N40 (t : Fin cfgA.N) : t.val < 40 := t.isLt

/-- Where the arguments hold the numbers `A`, the input blocks of every point hold those of attention. -/
theorem blocks (c : Dev nD) (A : Args) (H : Holds m c A) : Blocks m c A.nums := by
  obtain ⟨M, hM⟩ := hmax_r H.z H.f
  constructor
  · intro t i j
    have := iOf_lt (t.val % 10); have := N40 t; have := i.isLt; have := j.isLt
    rw [at_q m c t i j (ix2 ⟨1024 * (iOf (t.val % 10)) + i.val, by omega⟩ ⟨256 * (t.val / 10) + j.val, by omega⟩) rfl rfl, V_arg0]
    exact H.z _ _
  · intro t i j
    have := jOf_lt (t.val % 10); have := N40 t; have := i.isLt; have := j.isLt
    rw [at_k m c t i j (ix2 ⟨1024 * (jOf (t.val % 10)) + i.val, by omega⟩ ⟨1024 + (256 * (t.val / 10) + j.val), by omega⟩) rfl (by show 1024 + _ = _; ring), V_arg0]
    exact H.z _ _
  · intro t i j
    have := jOf_lt (t.val % 10); have := N40 t; have := i.isLt; have := j.isLt
    rw [at_v m c t i j (ix2 ⟨1024 * (jOf (t.val % 10)) + i.val, by omega⟩ ⟨2048 + (256 * (t.val / 10) + j.val), by omega⟩) rfl (by show 2048 + _ = _; ring), V_arg0]
    exact H.z _ _
  · intro t i j
    have := iOf_lt (t.val % 10); have := N40 t; have := i.isLt; have := j.isLt
    rw [at_o m c t i j (ix2 ⟨1024 * (iOf (t.val % 10)) + i.val, by omega⟩ ⟨256 * (t.val / 10) + j.val, by omega⟩) rfl rfl, V_o]
    exact hout_r H.z H.f hM _ _
  · intro t i j
    have := iOf_lt (t.val % 10); have := N40 t; have := i.isLt; have := j.isLt
    rw [at_d m c t i j (ix2 ⟨1024 * (iOf (t.val % 10)) + i.val, by omega⟩ ⟨256 * (t.val / 10) + j.val, by omega⟩) rfl rfl, V_arg2]
    exact H.d _ _
  · intro t e i k
    have := iOf_lt (t.val % 10); have := N40 t; have := i.isLt; have := e.isLt
    rw [at_ls m c t e i k (ix3 ⟨2 * (t.val / 10) + e.val, by omega⟩ ⟨1024 * (iOf (t.val % 10)) + i.val, by omega⟩ k) rfl rfl (by show k.val = _; omega), V_lse]
    exact hlse_r H.z H.f hM _ _ _
  · intro t e k i
    have := jOf_lt (t.val % 10); have := N40 t; have := i.isLt; have := e.isLt
    rw [at_fk m c t e k i (ix3 ⟨2 * (t.val / 10) + e.val, by omega⟩ k ⟨1024 * (jOf (t.val % 10)) + i.val, by omega⟩) rfl (by show k.val = _; omega) rfl, V_fk]
    exact hfk_r H.f _ _ _

theorem flush_7 : ∀ t : Fin cfgA.N, (cfgA.win (7 : Fin 12)).flush t = true → t.val % 10 = 9 := by decide +kernel
theorem flush_8 : ∀ t : Fin cfgA.N, (cfgA.win (8 : Fin 12)).flush t = true → iOf (t.val % 10) = 3 := by decide +kernel
theorem flush_9 : ∀ t : Fin cfgA.N, (cfgA.win (9 : Fin 12)).flush t = true → iOf (t.val % 10) = 3 := by decide +kernel
theorem flush_10 : ∀ t : Fin cfgA.N, (cfgA.win (10 : Fin 12)).flush t = true → iOf (t.val % 10) = 3 := by decide +kernel
theorem flush_11 : ∀ t : Fin cfgA.N, (cfgA.win (11 : Fin 12)).flush t = true → t.val % 10 = 9 := by decide +kernel
theorem index_7 : ∀ t : Fin cfgA.N, (cfgA.win (7 : Fin 12)).index t = ![0, t.val / 10] := by decide +kernel
theorem index_8 : ∀ t : Fin cfgA.N, (cfgA.win (8 : Fin 12)).index t = ![jOf (t.val % 10), t.val / 10] := by decide +kernel
theorem index_9 : ∀ t : Fin cfgA.N, (cfgA.win (9 : Fin 12)).index t = ![jOf (t.val % 10), t.val / 10] := by decide +kernel
theorem index_10 : ∀ t : Fin cfgA.N, (cfgA.win (10 : Fin 12)).index t = ![t.val / 10, 0, jOf (t.val % 10)] := by decide +kernel
theorem index_11 : ∀ t : Fin cfgA.N, (cfgA.win (11 : Fin 12)).index t = ![t.val / 10, 0, 0] := by decide +kernel
theorem covers_7 : (cfgA.win (7 : Fin 12)).Covers := by decide +kernel
theorem covers_8 : (cfgA.win (8 : Fin 12)).Covers := by decide +kernel
theorem covers_9 : (cfgA.win (9 : Fin 12)).Covers := by decide +kernel
theorem covers_10 : (cfgA.win (10 : Fin 12)).Covers := by decide +kernel
theorem covers_11 : (cfgA.win (11 : Fin 12)).Covers := by decide +kernel

/-- A matrix of real numbers at an index. -/
theorem R2.at {a b : ℕ} {X : (⟨2, ![a, b]⟩ : Shape).Idx → EReal} {B : ℕ → ℕ → ℝ} (h : R2 X B) (y : (⟨2, ![a, b]⟩ : Shape).Idx) :
    X y = ((B (y 0).val (y 1).val : ℝ) : EReal) := by
  have hy : y = ix2 (y 0) (y 1) := by
    funext k
    match k with
    | ⟨0, _⟩ => rfl
    | ⟨1, _⟩ => rfl
  rw [hy]
  exact h _ _

/-- A rank-three array of real numbers at an index. -/
theorem R3.at {a b c : ℕ} {X : (⟨3, ![a, b, c]⟩ : Shape).Idx → EReal} {B : ℕ → ℕ → ℕ → ℝ} (h : R3 X B) (y : (⟨3, ![a, b, c]⟩ : Shape).Idx) :
    X y = ((B (y 0).val (y 1).val (y 2).val : ℝ) : EReal) := by
  have hy : y = ix3 (y 0) (y 1) (y 2) := by
    funext k
    match k with
    | ⟨0, _⟩ => rfl
    | ⟨1, _⟩ => rfl
    | ⟨2, _⟩ => rfl
  rw [hy]
  exact h _ _ _

/-- The numbers left in each result's block are those of attention's gradients at the places where the block lands. -/
theorem fin_7 (A : Args) {a n y0 y1 i0 i1 : ℕ} (hn : n < 10) (h9 : n = 9) (e0 : i0 = 0 * 4096 + y0) (e1 : i1 = a * 256 + y1) (h0 : y0 < 4096) (h1 : y1 < 256) :
    (accN A.nums a (jOf n) (n + 1)).dq (y1 / 128) y0 (y1 % 128) * wR = A.dq (i1 / 128) i0 (i1 % 128) := by
  subst h9
  rw [A.dq_eq y0 (jOf 9) (by omega) h0]
  congr 1 <;> omega

theorem fin_8 (A : Args) {a n y0 y1 i0 i1 : ℕ} (hn : n < 10) (h9 : iOf n = 3) (e0 : i0 = jOf n * 1024 + y0) (e1 : i1 = a * 256 + y1) (h0 : y0 < 1024) (h1 : y1 < 256) :
    (accN A.nums a (jOf n) (n + 1)).dk (y1 / 128) y0 (y1 % 128) * wR = A.dk (i1 / 128) i0 (i1 % 128) := by
  rw [A.dk_eq y0 hn h9 (by omega)]
  congr 1 <;> omega

theorem fin_9 (A : Args) {a n y0 y1 i0 i1 : ℕ} (hn : n < 10) (h9 : iOf n = 3) (e0 : i0 = jOf n * 1024 + y0) (e1 : i1 = a * 256 + y1) (h0 : y0 < 1024) (h1 : y1 < 256) :
    (accN A.nums a (jOf n) (n + 1)).dv (y1 / 128) y0 (y1 % 128) = A.dv (i1 / 128) i0 (i1 % 128) := by
  rw [A.dv_eq y0 hn h9 (by omega)]
  congr 1 <;> omega

theorem fin_10 (A : Args) {a n y0 y1 y2 i0 i1 i2 : ℕ} (hn : n < 10) (h9 : iOf n = 3) (e0 : i0 = a * 2 + y0) (e2 : i2 = jOf n * 1024 + y2) (h0 : y0 < 2) (h2 : y2 < 1024) :
    (accN A.nums a (jOf n) (n + 1)).df y0 y2 = A.dfk i0 i2 := by
  rw [A.dfk_eq y2 hn h9 h0]
  congr 1 <;> omega

theorem fin_11 (A : Args) {a n y0 y1 y2 i0 i1 i2 : ℕ} (hn : n < 10) (h9 : n = 9) (e0 : i0 = a * 2 + y0) (e2 : i2 = 0 * 4096 + y2) (h0 : y0 < 2) (h2 : y2 < 4096) :
    (accN A.nums a (jOf n) (n + 1)).fq y0 y2 = A.dfq i0 i2 := by
  subst h9
  rw [A.dfq_eq y2 (jOf 9) h0 h2]
  congr 1 <;> omega

set_option maxHeartbeats 1000000 in
/-- The gradient of the queries, at the end of the run. -/
theorem res_7 (r : PUnit.{1} × MemSt nD τ sig (Elt Ideal)) (A : Dev nD → Args)
    (h : RDat.FramePost (cfgA) (rdat m (fun c => goalN (A c).nums)) (V m) r) (c : Dev nD) :
    R2 (a := 4096) (b := 1024) (r.2.mem ((c.tc : Thread nD τ).loc main_v45_0)) (fun i j => (A c).dq (j / 128) i (j % 128)) := by
  obtain ⟨aft, hL, hA⟩ := h.exists_exact c
  have key := ((rdat m (fun c => goalN (A c).nums) c).withAfter aft).arrAt_forall_of_covers (7 : Fin 12)
    (fun i v => v = (((A c).dq ((i (1 : Fin 2)).val / 128) (i (0 : Fin 2)).val ((i (1 : Fin 2)).val % 128) : ℝ) : EReal)) covers_7
    (fun t hf y => ?_)
  · intro i j
    exact (congrFun (hA (7 : Fin 12)) (ix2 i j)).trans (key (ix2 i j))
  · obtain ⟨Y, -, hX⟩ := hL (7 : Fin 12) t hf
    have h9 := flush_7 t hf
    have hX' := hX h9
    have e0 := (cfgA.win (7 : Fin 12)).rect_emb_val t y (0 : Fin 2)
    have e1 := (cfgA.win (7 : Fin 12)).rect_emb_val t y (1 : Fin 2)
    rw [index_7 t] at e0 e1
    let Y' : S4096x256.Idx := (cfgA.win (7 : Fin 12)).xinj (cfgA.grid.coords t) y
    refine (R2.at hX' Y').trans (congrArg Real.toEReal ?_)
    exact fin_7 (A c) (Nat.mod_lt _ (by decide)) h9 e0 e1 (Y' 0).isLt (Y' 1).isLt

set_option maxHeartbeats 1000000 in
/-- The gradient of the keys, at the end of the run. -/
theorem res_8 (r : PUnit.{1} × MemSt nD τ sig (Elt Ideal)) (A : Dev nD → Args)
    (h : RDat.FramePost (cfgA) (rdat m (fun c => goalN (A c).nums)) (V m) r) (c : Dev nD) :
    R2 (a := 4096) (b := 1024) (r.2.mem ((c.tc : Thread nD τ).loc main_v45_1)) (fun i j => (A c).dk (j / 128) i (j % 128)) := by
  obtain ⟨aft, hL, hA⟩ := h.exists_exact c
  have key := ((rdat m (fun c => goalN (A c).nums) c).withAfter aft).arrAt_forall_of_covers (8 : Fin 12)
    (fun i v => v = (((A c).dk ((i (1 : Fin 2)).val / 128) (i (0 : Fin 2)).val ((i (1 : Fin 2)).val % 128) : ℝ) : EReal)) covers_8
    (fun t hf y => ?_)
  · intro i j
    exact (congrFun (hA (8 : Fin 12)) (ix2 i j)).trans (key (ix2 i j))
  · obtain ⟨Y, -, hX⟩ := hL (8 : Fin 12) t hf
    have h9 := flush_8 t hf
    have hX' := hX h9
    have e0 := (cfgA.win (8 : Fin 12)).rect_emb_val t y (0 : Fin 2)
    have e1 := (cfgA.win (8 : Fin 12)).rect_emb_val t y (1 : Fin 2)
    rw [index_8 t] at e0 e1
    let Y' : S1024x256.Idx := (cfgA.win (8 : Fin 12)).xinj (cfgA.grid.coords t) y
    refine (R2.at hX' Y').trans (congrArg Real.toEReal ?_)
    exact fin_8 (A c) (Nat.mod_lt _ (by decide)) h9 e0 e1 (Y' 0).isLt (Y' 1).isLt

set_option maxHeartbeats 1000000 in
/-- The gradient of the values, at the end of the run. -/
theorem res_9 (r : PUnit.{1} × MemSt nD τ sig (Elt Ideal)) (A : Dev nD → Args)
    (h : RDat.FramePost (cfgA) (rdat m (fun c => goalN (A c).nums)) (V m) r) (c : Dev nD) :
    R2 (a := 4096) (b := 1024) (r.2.mem ((c.tc : Thread nD τ).loc main_v45_2)) (fun i j => (A c).dv (j / 128) i (j % 128)) := by
  obtain ⟨aft, hL, hA⟩ := h.exists_exact c
  have key := ((rdat m (fun c => goalN (A c).nums) c).withAfter aft).arrAt_forall_of_covers (9 : Fin 12)
    (fun i v => v = (((A c).dv ((i (1 : Fin 2)).val / 128) (i (0 : Fin 2)).val ((i (1 : Fin 2)).val % 128) : ℝ) : EReal)) covers_9
    (fun t hf y => ?_)
  · intro i j
    exact (congrFun (hA (9 : Fin 12)) (ix2 i j)).trans (key (ix2 i j))
  · obtain ⟨Y, -, hX⟩ := hL (9 : Fin 12) t hf
    have h9 := flush_9 t hf
    have hX' := hX h9
    have e0 := (cfgA.win (9 : Fin 12)).rect_emb_val t y (0 : Fin 2)
    have e1 := (cfgA.win (9 : Fin 12)).rect_emb_val t y (1 : Fin 2)
    rw [index_9 t] at e0 e1
    let Y' : S1024x256.Idx := (cfgA.win (9 : Fin 12)).xinj (cfgA.grid.coords t) y
    refine (R2.at hX' Y').trans (congrArg Real.toEReal ?_)
    exact fin_9 (A c) (Nat.mod_lt _ (by decide)) h9 e0 e1 (Y' 0).isLt (Y' 1).isLt

set_option maxHeartbeats 1000000 in
/-- The gradient of the forget gates' sums at the keys, at the end of the run. -/
theorem res_10 (r : PUnit.{1} × MemSt nD τ sig (Elt Ideal)) (A : Dev nD → Args)
    (h : RDat.FramePost (cfgA) (rdat m (fun c => goalN (A c).nums)) (V m) r) (c : Dev nD) :
    R3 (a := 8) (b := 1) (c := 4096) (r.2.mem ((c.tc : Thread nD τ).loc main_v45_3)) (fun i _ j => (A c).dfk i j) := by
  obtain ⟨aft, hL, hA⟩ := h.exists_exact c
  have key := ((rdat m (fun c => goalN (A c).nums) c).withAfter aft).arrAt_forall_of_covers (10 : Fin 12)
    (fun i v => v = (((A c).dfk (i (0 : Fin 3)).val (i (2 : Fin 3)).val : ℝ) : EReal)) covers_10
    (fun t hf y => ?_)
  · intro i k j
    exact (congrFun (hA (10 : Fin 12)) (ix3 i k j)).trans (key (ix3 i k j))
  · obtain ⟨Y, -, hX⟩ := hL (10 : Fin 12) t hf
    have h9 := flush_10 t hf
    have hX' := hX h9
    have e0 := (cfgA.win (10 : Fin 12)).rect_emb_val t y (0 : Fin 3)
    have e2 := (cfgA.win (10 : Fin 12)).rect_emb_val t y (2 : Fin 3)
    rw [index_10 t] at e0 e2
    let Y' : S2x1x1024.Idx := (cfgA.win (10 : Fin 12)).xinj (cfgA.grid.coords t) y
    refine (R3.at hX' Y').trans (congrArg Real.toEReal ?_)
    exact fin_10 (A c) (y1 := 0) (i1 := 0) (Nat.mod_lt _ (by decide)) h9 e0 e2 (Y' 0).isLt (Y' 2).isLt

set_option maxHeartbeats 1000000 in
/-- The gradient of the forget gates' sums at the queries, at the end of the run. -/
theorem res_11 (r : PUnit.{1} × MemSt nD τ sig (Elt Ideal)) (A : Dev nD → Args)
    (h : RDat.FramePost (cfgA) (rdat m (fun c => goalN (A c).nums)) (V m) r) (c : Dev nD) :
    R3 (a := 8) (b := 1) (c := 4096) (r.2.mem ((c.tc : Thread nD τ).loc main_v45_4)) (fun i _ j => (A c).dfq i j) := by
  obtain ⟨aft, hL, hA⟩ := h.exists_exact c
  have key := ((rdat m (fun c => goalN (A c).nums) c).withAfter aft).arrAt_forall_of_covers (11 : Fin 12)
    (fun i v => v = (((A c).dfq (i (0 : Fin 3)).val (i (2 : Fin 3)).val : ℝ) : EReal)) covers_11
    (fun t hf y => ?_)
  · intro i k j
    exact (congrFun (hA (11 : Fin 12)) (ix3 i k j)).trans (key (ix3 i k j))
  · obtain ⟨Y, -, hX⟩ := hL (11 : Fin 12) t hf
    have h9 := flush_11 t hf
    have hX' := hX h9
    have e0 := (cfgA.win (11 : Fin 12)).rect_emb_val t y (0 : Fin 3)
    have e2 := (cfgA.win (11 : Fin 12)).rect_emb_val t y (2 : Fin 3)
    rw [index_11 t] at e0 e2
    let Y' : S2x1x4096.Idx := (cfgA.win (11 : Fin 12)).xinj (cfgA.grid.coords t) y
    refine (R3.at hX' Y').trans (congrArg Real.toEReal ?_)
    exact fin_11 (A c) (y1 := 0) (i1 := 0) (Nat.mod_lt _ (by decide)) h9 e0 e2 (Y' 0).isLt (Y' 2).isLt

end Cert.KernelIdeal.Attn

end
-- ==== Proof.Finite.lean ====
/- The precondition: where every element of the arguments is finite the arguments hold real numbers. -/
module

public import proofs.«01_k».proof.Defs
public import proofs.«01_k».proof.Proof.Gen.KernelIdeal
public import proofs.«01_k».proof.Proof.Final
public import Idealize.ShloMosaic.Lib.ReduceAll

@[expose] public section

noncomputable section

namespace Cert.KernelIdeal.Attn

open Cert.KernelIdeal Cert.KernelIdeal.Gen Cert.Attn
open Idealize.ShloMosaic

/-- The side conditions of the precondition. -/
theorem finite_facts : Cert.Pre_finite.Facts where
  bitsLt_bf16_f32 := by decide
  bcast_S_S4096x5120 := by decide
  reducesTo_S4096x5120_S_d0_1 := by decide
  h_S_ := by decide
  bcast_S_S8x4096 := by decide
  reducesTo_S8x4096_S_d0_1 := by decide
  bcast_S_S4096x1024 := by decide
  reducesTo_S4096x1024_S_d0_1 := by decide

theorem pos_inf : Ideal.ofBits .f32 0x7F800000#32 = (⊤ : EReal) := by simp [Ideal.ofBits, Ideal.ieee]

/-- An extended real whose absolute value is below `⊤` is a real number. -/
theorem real_of_lt (x : EReal) (h : FloatOps.cmpf (F := Ideal) (φ := .f32) .olt (FloatOps.absf (F := Ideal) (φ := .f32) x) (Ideal.ofBits .f32 0x7F800000#32) = 1#1) :
    ∃ y : ℝ, x = (y : EReal) := by
  rw [pos_inf] at h
  induction x with
  | bot => exact absurd h (by simp [FloatOps.cmpf, FloatOps.absf, Ideal.cmp])
  | top => exact absurd h (by simp [FloatOps.cmpf, FloatOps.absf, Ideal.cmp])
  | coe y => exact ⟨y, rfl⟩

theorem and_one : ∀ a b : BitVec 1, IntOp.andi a b = 1#1 → a = 1#1 ∧ b = 1#1 := by decide

theorem and_split (a b : IVec Cert.Pre_finite.S_ 1) (h : andi a b = fun _ => 1#1) : (a = fun _ => 1#1) ∧ (b = fun _ => 1#1) := by
  constructor <;> funext i <;> have := congrFun h i
  · exact (and_one _ _ this).1
  · exact (and_one _ _ this).2

theorem real_of_all {s : Shape} (X : FVec Ideal s .f32) (hb : Cert.Pre_finite.S_.BroadcastsInDim s ![]) (axes : List (Fin s.rank))
    (hr : s.ReducesTo axes Cert.Pre_finite.S_) (hp : 0 < Cert.Pre_finite.S_.numel)
    (h : Host.reduce IntOp.andi (cmpf .olt (Host.absf X) (broadcastInDim s ![] hb (constant (F := Ideal) Cert.Pre_finite.S_ .f32 0x7F800000#32)))
      (constantI Cert.Pre_finite.S_ 1 1#1) hr hp = fun _ => 1#1) (i : s.Idx) : ∃ y : ℝ, X i = (y : EReal) := by
  have : Subsingleton Cert.Pre_finite.S_.Idx := ⟨fun _ _ => funext fun k => k.elim0⟩
  exact real_of_lt (X i) (Host.reduce_andi_all _ _ hr hp (fun k => k.elim0) (congrFun h _) i)

/-- A matrix each of whose elements is real holds real numbers. -/
theorem exists_R2 {a b : ℕ} (X : (⟨2, ![a, b]⟩ : Shape).Idx → EReal) (h : ∀ i, ∃ y : ℝ, X i = (y : EReal)) : ∃ B, R2 X B := by
  choose y hy using h
  refine ⟨fun i j => if hi : i < a then if hj : j < b then y (ix2 ⟨i, hi⟩ ⟨j, hj⟩) else 0 else 0, fun i j => ?_⟩
  dsimp only
  rw [hy, dif_pos i.isLt, dif_pos j.isLt]

/-- Where the precondition holds, the arguments of every device hold real numbers. -/
theorem exists_holds (m : (ℓ : Loc nD τ sig) → Buf (Elt Ideal) ℓ) (h : Cert.Pre_KernelIdeal_finite (hPre_finite := finite_facts) m) :
    ∃ A : Dev nD → Args, ∀ c, Holds m c (A c) := by
  have key : ∀ c, ∃ A : Args, Holds m c A := by
    intro c
    have hc := h c
    unfold Cert.Pre_finite.fn at hc
    dsimp only at hc
    obtain ⟨h12, h3⟩ := and_split _ _ hc
    obtain ⟨h1, h2⟩ := and_split _ _ h12
    obtain ⟨Z, hZ⟩ := exists_R2 (a := 4096) (b := 5120) (argz m c) (fun i => real_of_all _ _ _ _ _ h1 i)
    obtain ⟨F, hF⟩ := exists_R2 (a := 8) (b := 4096) (argf m c) (fun i => real_of_all _ _ _ _ _ h2 i)
    obtain ⟨D, hD⟩ := exists_R2 (a := 4096) (b := 1024) (argd m c) (fun i => real_of_all _ _ _ _ _ h3 i)
    exact ⟨⟨Z, F, D⟩, hZ, hF, hD⟩
  choose A hA using key
  exact ⟨A, hA⟩

end Cert.KernelIdeal.Attn

end
-- ==== Proof.Ref.lean ====
/- The reference on real numbers: where its arguments hold real numbers its five results are attention's gradients. -/
module

public import proofs.«01_k».proof.Proof.Saved
public import proofs.«01_k».proof.Proof.Gen.ReferenceIdeal.Read

@[expose] public section

set_option maxHeartbeats 1000000

noncomputable section

namespace Cert.ReferenceIdeal.Attn

open Cert.ReferenceIdeal Cert.ReferenceIdeal.Read
open Cert.KernelIdeal.Attn
open Idealize.ShloMosaic

theorem lit_one : Ideal.ofBits .f32 0x3F800000#32 = ((1 : ℝ) : EReal) := by
  simp [Ideal.ofBits, Ideal.ieee]
  rw [← EReal.coe_mul]
  norm_num

variable {A : Args} {z : (⟨S4096x5120, .bf16⟩ : BufTy).Contents (Elt Ideal)} {f : (⟨S8x4096, .f32⟩ : BufTy).Contents (Elt Ideal)}
  {d : (⟨S4096x1024, .bf16⟩ : BufTy).Contents (Elt Ideal)}

theorem q_r (hz : R2 (a := 4096) (b := 5120) z A.z) : R3 (a := 8) (b := 4096) (c := 128) (val_main_v3 (F := Ideal) z) (fun h r k => A.z r (128 * h + k)) := by
  intro h r k
  pointwise [val_main_v3, val_main_v2, val_main_v1, val_main_v0]
  exact (hz _ _).trans (congrArg (fun n => ((A.z r (n + k) : ℝ) : EReal)) (Nat.mul_comm _ _))

theorem k_r (hz : R2 (a := 4096) (b := 5120) z A.z) : R3 (a := 8) (b := 4096) (c := 128) (val_main_v7 (F := Ideal) z) (fun h r k => A.z r (1024 + (128 * h + k))) := by
  intro h r k
  pointwise [val_main_v7, val_main_v6, val_main_v5, val_main_v4]
  exact (hz _ _).trans (congrArg (fun n => ((A.z r (1024 + (n + k)) : ℝ) : EReal)) (Nat.mul_comm _ _))

theorem v_r (hz : R2 (a := 4096) (b := 5120) z A.z) : R3 (a := 8) (b := 4096) (c := 128) (val_main_v11 (F := Ideal) z) (fun h r k => A.z r (2048 + (128 * h + k))) := by
  intro h r k
  pointwise [val_main_v11, val_main_v10, val_main_v9, val_main_v8]
  exact (hz _ _).trans (congrArg (fun n => ((A.z r (2048 + (n + k)) : ℝ) : EReal)) (Nat.mul_comm _ _))

theorem d_r (hd : R2 (a := 4096) (b := 1024) d A.d) : R3 (a := 8) (b := 4096) (c := 128) (val_main_v59 (F := Ideal) d) (fun h r k => A.d r (128 * h + k)) := by
  intro h r k
  pointwise [val_main_v59, val_main_v58, val_main_v57]
  exact (hd _ _).trans (congrArg (fun n => ((A.d r (n + k) : ℝ) : EReal)) (Nat.mul_comm _ _))

/-- The masked logits. -/
theorem log_r (hz : R2 (a := 4096) (b := 5120) z A.z) (hf : R2 (a := 8) (b := 4096) f A.f) (h : Fin 8) (r s : Fin 4096) :
    val_main_v27_0 (F := Ideal) z f (ix3 h r s) = if s.val ≤ r.val then ((A.sc h r s + A.f h r : ℝ) : EReal) else ⊥ := by
  pointwise [val_main_v27_0, val_main_v27_1, val_main_v26, val_main_v25, val_main_v24, val_main_v23, val_main_v22, val_main_v21, val_main_v20, val_main_v19,
    val_main_v18, val_main_v17, val_main_v16, val_main_v15, val_main_v14, val_main_v13, val_main_v12, val_main_cst, val_main_cst_0, val_main_call0_v0, val_main_call0_v2]
  simp only [q_r hz _ _ _, k_r hz _ _ _, hf _ _, sel, csw, neg_inf, id, ← EReal.coe_mul, ← EReal.coe_sub, ← EReal.coe_add, ← coe_fsum]
  split_ifs
  · refine congrArg Real.toEReal ?_
    unfold Args.sc Args.qk
    ring
  · exact neg_inf

/-- The largest of a row. -/
theorem red_max (h1 : S8x4096x4096.ReducesTo [2] S8x4096) (h2 : 0 < S_.numel) (x : (⟨S8x4096x4096, .f32⟩ : BufTy).Contents (Elt Ideal)) (h : Fin 8) (r : Fin 4096) :
    Host.reduce (FloatOps.maximumf (F := Ideal) (φ := .f32)) x (constant (F := Ideal) S_ .f32 0xFF800000#32) h1 h2 (ix2 h r)
      = Finset.univ.fold max (Ideal.ofBits .f32 0xFF800000#32) (fun k : Fin 4096 => x (ix3 h r k)) := by
  pointwise []

theorem v28_at (h : Fin 8) (r : Fin 4096) :
    val_main_v28 (F := Ideal) z f (ix2 h r) = Finset.univ.fold max (Ideal.ofBits .f32 0xFF800000#32) (fun k : Fin 4096 => val_main_v27_0 (F := Ideal) z f (ix3 h r k)) := by
  unfold val_main_v28 val_main_cst_1
  generalize val_main_v27_0 (F := Ideal) z f = x
  exact red_max _ _ x h r

theorem v34_at (h : Fin 8) (r : Fin 4096) : val_main_v34 (F := Ideal) (ix2 h r) = (⊥ : EReal) := by
  pointwise [val_main_v34, val_main_cst_3]
  exact neg_inf

theorem v35_at (h : Fin 8) (r : Fin 4096) :
    val_main_v35 (F := Ideal) z f (ix2 h r) = val_main_v28 (F := Ideal) z f (ix2 h r) := by
  refine (val_main_v35_apply z f (ix2 h r)).trans ?_
  rw [v34_at]
  generalize val_main_v28 (F := Ideal) z f (ix2 h r) = x
  exact max_eq_right (bot_le : (⊥ : EReal) ≤ x)

theorem max_at (hz : R2 (a := 4096) (b := 5120) z A.z) (hf : R2 (a := 8) (b := 4096) f A.f) (h : Fin 8) (r : Fin 4096) :
    ∃ M : ℝ, val_main_v35 (F := Ideal) z f (ix2 h r) = (M : EReal) := by
  obtain ⟨M, hM⟩ := max_real (fun s : Fin 4096 => s.val ≤ r.val) (fun s => A.sc h r s + A.f h r) r (le_refl _)
  refine ⟨M, ?_⟩
  rw [v35_at, v28_at, neg_inf, ← hM]
  refine congrArg (fun g => Finset.univ.fold max (⊥ : EReal) g) (funext fun k => ?_)
  exact log_r hz hf h r k

/-- The largest logits are real. -/
theorem max_r (hz : R2 (a := 4096) (b := 5120) z A.z) (hf : R2 (a := 8) (b := 4096) f A.f) :
    ∃ N : ℕ → ℕ → ℝ, R2 (a := 8) (b := 4096) (val_main_v35 (F := Ideal) z f) (fun h r => N h r + A.f h r) := by
  have hM := max_at hz hf
  choose M hM using hM
  refine ⟨fun h r => (if hh : h < 8 then if hr : r < 4096 then M ⟨h, hh⟩ ⟨r, hr⟩ else 0 else 0) - A.f h r, fun h r => ?_⟩
  dsimp only
  rw [hM h r, dif_pos h.isLt, dif_pos r.isLt, sub_add_cancel]

/-- The exponentials, the denominators, the probabilities. -/
theorem exp_r (hz : R2 (a := 4096) (b := 5120) z A.z) (hf : R2 (a := 8) (b := 4096) f A.f) {N : ℕ → ℕ → ℝ}
    (hN : R2 (a := 8) (b := 4096) (val_main_v35 (F := Ideal) z f) (fun h r => N h r + A.f h r)) :
    R3 (a := 8) (b := 4096) (c := 4096) (val_main_v48 (F := Ideal) z f) (fun h r s => if s ≤ r then Real.exp (A.sc h r s) / Real.exp (N h r) else 0) := by
  intro h r s
  pointwise [val_main_v48, val_main_v47, val_main_v46, val_main_v45]
  simp only [log_r hz hf, hN _ _]
  split_ifs
  · rw [← EReal.coe_sub, ← Real.exp_sub, add_sub_add_right_eq_sub]; rfl
  · simp

variable {N : ℕ → ℕ → ℝ}

theorem den_r (he : R3 (a := 8) (b := 4096) (c := 4096) (val_main_v48 (F := Ideal) z f) (fun h r s => if s ≤ r then Real.exp (A.sc h r s) / Real.exp (N h r) else 0)) :
    R3 (a := 8) (b := 4096) (c := 1) (val_main_v50 (F := Ideal) z f) (fun h r _ => A.den h r / Real.exp (N h r)) := by
  intro h r k
  pointwise [val_main_v50, val_main_v49, val_main_cst_9]
  simp only [he _ _ _, ← coe_fsum]
  congr 1
  rw [Args.den, Finset.sum_div]
  refine Finset.sum_congr rfl fun t _ => ?_
  split_ifs
  · rfl
  · rw [zero_div]

theorem P_r (he : R3 (a := 8) (b := 4096) (c := 4096) (val_main_v48 (F := Ideal) z f) (fun h r s => if s ≤ r then Real.exp (A.sc h r s) / Real.exp (N h r) else 0)) :
    R3 (a := 8) (b := 4096) (c := 4096) (val_main_v52 (F := Ideal) z f) A.P := by
  intro h r s
  have hd := A.den_pos h r r.isLt
  pointwise [val_main_v52, val_main_v51]
  simp only [he _ _ _, den_r he _ _ _]
  rw [div_real _ _ (div_pos hd (Real.exp_pos _)).ne']
  unfold Args.P
  split_ifs
  · rw [div_div_div_cancel_right₀ (Real.exp_pos _).ne']
  · rw [zero_div]

theorem dp_r (hz : R2 (a := 4096) (b := 5120) z A.z) (hd : R2 (a := 4096) (b := 1024) d A.d) :
    R3 (a := 8) (b := 4096) (c := 4096) (val_main_v62 (F := Ideal) z d) A.dp := by
  intro h r s
  pointwise [val_main_v62]
  simp only [d_r hd _ _ _, v_r hz _ _ _, ← EReal.coe_mul, ← coe_fsum]
  rfl

/-- The mean of the gradients over a row, by the denominator, with its sign turned. -/
theorem dl_r (hz : R2 (a := 4096) (b := 5120) z A.z) (hd : R2 (a := 4096) (b := 1024) d A.d) (he : R3 (a := 8) (b := 4096) (c := 4096) (val_main_v48 (F := Ideal) z f) (fun h r s => if s ≤ r then Real.exp (A.sc h r s) / Real.exp (N h r) else 0)) :
    R2 (a := 8) (b := 4096) (val_main_v71 (F := Ideal) z f d) (fun h r => -(A.dl h r / (A.den h r / Real.exp (N h r)))) := by
  intro h r
  have hl := A.den_pos h r r.isLt
  pointwise [val_main_v71, val_main_v68, val_main_v67, val_main_v66, val_main_v65, val_main_v64, val_main_v63, val_main_v55, val_main_v54, val_main_v53, val_main_cst_10,
    val_main_cst_11, val_main_cst_12]
  simp only [he _ _ _, den_r he _ _ _, dp_r hz hd _ _ _, lit_one, ← EReal.coe_mul]
  rw [← EReal.coe_one]
  have hn := (div_pos hl (Real.exp_pos (N h r))).ne'
  simp only [div_real _ _ (mul_ne_zero hn hn), ← EReal.coe_mul, ← coe_fsum, ← EReal.coe_neg]
  refine congrArg Real.toEReal ?_
  rw [Fin.sum_univ_one, Args.dl, Finset.sum_div]
  refine congrArg Neg.neg (Finset.sum_congr rfl fun t _ => ?_)
  unfold Args.P
  have hx := (Real.exp_pos (N h r)).ne'
  have hl' := hl.ne'
  split_ifs
  · field_simp
  · simp

/-- The gradient of the logits. -/
theorem dS_r (hz : R2 (a := 4096) (b := 5120) z A.z) (hd : R2 (a := 4096) (b := 1024) d A.d) (he : R3 (a := 8) (b := 4096) (c := 4096) (val_main_v48 (F := Ideal) z f) (fun h r s => if s ≤ r then Real.exp (A.sc h r s) / Real.exp (N h r) else 0)) :
    R3 (a := 8) (b := 4096) (c := 4096) (val_main_v75 (F := Ideal) z f d) A.dS := by
  intro h r s
  have hl := A.den_pos h r r.isLt
  pointwise [val_main_v75, val_main_v74, val_main_v73, val_main_v72, val_main_v70, val_main_v69, val_main_call1_v0, val_main_call1_cst,
    val_main_v27_1, val_main_v26, val_main_v25, val_main_v24, val_main_v23, val_main_v22, val_main_v12]
  have hn := (div_pos hl (Real.exp_pos (N h r))).ne'
  simp only [he _ _ _, den_r he _ _ _, dp_r hz hd _ _ _, dl_r hz hd he _ _, sel, div_real _ _ hn, ← EReal.coe_add, ← EReal.coe_mul]
  have hx := (Real.exp_pos (N h r)).ne'
  have hl' := hl.ne'
  unfold Args.dS Args.P
  split_ifs
  · refine congrArg Real.toEReal ?_
    field_simp
    ring
  · simp

/-- The five results. -/
theorem ref_dfk (hS : R3 (a := 8) (b := 4096) (c := 4096) (val_main_v75 (F := Ideal) z f d) A.dS) :
    R3 (a := 8) (b := 1) (c := 4096) (val_main_v96 (F := Ideal) z f d) (fun h _ s => A.dfk h s) := by
  intro h k s
  pointwise [val_main_v96, val_main_v79, val_main_v78, val_main_v77, val_main_v76, val_main_cst_13, val_main_cst_14]
  simp only [hS _ _ _, ← coe_fsum, ← EReal.coe_neg]
  rw [Fin.sum_univ_one, Finset.sum_neg_distrib]
  rfl

theorem ref_dfq (hS : R3 (a := 8) (b := 4096) (c := 4096) (val_main_v75 (F := Ideal) z f d) A.dS) :
    R3 (a := 8) (b := 1) (c := 4096) (val_main_v97 (F := Ideal) z f d) (fun h _ r => A.dfq h r) := by
  intro h k s
  pointwise [val_main_v97, val_main_v82, val_main_v81, val_main_v80, val_main_cst_15, val_main_cst_16]
  simp only [hS _ _ _, ← coe_fsum, ← EReal.coe_neg]
  rw [Fin.sum_univ_one]
  rfl

theorem ref_dq (hz : R2 (a := 4096) (b := 5120) z A.z) (hS : R3 (a := 8) (b := 4096) (c := 4096) (val_main_v75 (F := Ideal) z f d) A.dS) :
    R2 (a := 4096) (b := 1024) (val_main_v89 (F := Ideal) z f d) (fun i j => A.dq (j / 128) i (j % 128)) := by
  intro i j
  pointwise [val_main_v89, val_main_v88, val_main_v87, val_main_v86, val_main_v84, val_main_v83, val_main_cst_17]
  simp only [hS _ _ _, k_r hz _ _ _, csw, ← EReal.coe_mul, ← coe_fsum]
  refine congrArg Real.toEReal ?_
  unfold Args.dq
  rw [Finset.sum_mul]
  refine Finset.sum_congr rfl fun t _ => ?_
  ring

theorem ref_dk (hz : R2 (a := 4096) (b := 5120) z A.z) (hS : R3 (a := 8) (b := 4096) (c := 4096) (val_main_v75 (F := Ideal) z f d) A.dS) :
    R2 (a := 4096) (b := 1024) (val_main_v92 (F := Ideal) z f d) (fun i j => A.dk (j / 128) i (j % 128)) := by
  intro i j
  pointwise [val_main_v92, val_main_v91, val_main_v90, val_main_v85, val_main_v84, val_main_v83, val_main_cst_17]
  simp only [hS _ _ _, q_r hz _ _ _, csw, ← EReal.coe_mul, ← coe_fsum]
  refine congrArg Real.toEReal ?_
  unfold Args.dk
  rw [Finset.sum_mul]
  refine Finset.sum_congr rfl fun t _ => ?_
  ring

theorem ref_dv (hd : R2 (a := 4096) (b := 1024) d A.d) (hP : R3 (a := 8) (b := 4096) (c := 4096) (val_main_v52 (F := Ideal) z f) A.P) :
    R2 (a := 4096) (b := 1024) (val_main_v95 (F := Ideal) z f d) (fun i j => A.dv (j / 128) i (j % 128)) := by
  intro i j
  pointwise [val_main_v95, val_main_v94, val_main_v93, val_main_v61, val_main_v60]
  simp only [hP _ _ _, d_r hd _ _ _, ← EReal.coe_mul, ← coe_fsum]
  refine congrArg Real.toEReal ?_
  unfold Args.dv
  refine Finset.sum_congr rfl fun t _ => ?_
  ring

end Cert.ReferenceIdeal.Attn

end
-- ==== Proof.lean ====
/- The claims of the attention backward, the matrix products, the norms, the loss and the optimiser, put together from the modules under Proof/. -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.ReferenceIdeal.Read
public import proofs.«01_k».proof.Proof.Frame
public import proofs.«01_k».proof.Proof.FrameBits
public import proofs.«01_k».proof.Proof.InProj
public import proofs.«01_k».proof.Proof.OutProj
public import proofs.«01_k».proof.Proof.Ff1
public import proofs.«01_k».proof.Proof.Ff2
public import proofs.«01_k».proof.Proof.Ff2Dw
public import proofs.«01_k».proof.Proof.Ff2Dlhs
public import proofs.«01_k».proof.Proof.Ff1Dlhs
public import proofs.«01_k».proof.Proof.Ff1Dw
public import proofs.«01_k».proof.Proof.OutProjDw
public import proofs.«01_k».proof.Proof.OutProjDlhs
public import proofs.«01_k».proof.Proof.InProjDw
public import proofs.«01_k».proof.Proof.InProjDlhs
public import proofs.«01_k».proof.Proof.AdamwIn
public import proofs.«01_k».proof.Proof.AdamwOut
public import proofs.«01_k».proof.Proof.AdamwFf
public import proofs.«01_k».proof.Proof.NormMixBwd
public import proofs.«01_k».proof.Proof.NormFfnBwd
public import proofs.«01_k».proof.Proof.LossHead
public import proofs.«01_k».proof.Proof.NormFfn
public import proofs.«01_k».proof.Proof.GateDw
public import proofs.«01_k».proof.Proof.GateDlhs
public import proofs.«01_k».proof.Proof.AdamwEarly
public import proofs.«01_k».proof.Proof.AdamwLate
public import proofs.«01_k».proof.Proof.ForgetBwd
public import proofs.«01_k».proof.Proof.ForgetFwd
public import proofs.«01_k».proof.Proof.NormMix
public import proofs.«01_k».proof.Proof.AddHalves
public import proofs.«01_k».proof.Proof.Finite
public import proofs.«01_k».proof.Proof.Ref
public import Idealize.ShloMosaic.Adequacy
public import Idealize.ShloMosaic.Init
public import Idealize.ShloMosaic.Lib.Quiescent

@[expose] public section

noncomputable section

namespace Cert.Proof

open Idealize.ShloMosaic Idealize.SL.Sem

/-- The named constants stand for their words. -/
theorem preserves : Cert.preserves_Kernel_KernelIdeal :=
  ⟨IdealRules.named_const.statement Cert.KernelIdeal.κ "scale2" .f32 0x3E0293EE#32 _ rfl,
   IdealRules.named_const.statement Cert.KernelIdeal.κ "log2e" .f32 0x3FB8AA3B#32 _ rfl⟩

section
open Cert.ReferenceIdeal

/-- The reference ends with its arguments as they were and every counter at zero. -/
theorem reference_frame (m : (ℓ : Loc nD τ sig) → Buf (Elt Ideal) ℓ) (g : Dev nD → PrngReg) :
    θ_run (defs (F := Ideal)) (onTc (τ := τ) (main (F := Ideal))) ⟨m, fun _ => 0, g⟩ fun r =>
      (∀ c : Dev nD, r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2))
      ∧ r.2.sem = fun _ => 0 :=
  (θ_run defs _ _).mono (fun r h => ⟨fun c => ⟨(h c).2.2.2.2.2.1, (h c).2.2.2.2.2.2.1, (h c).2.2.2.2.2.2.2⟩,
    sem_eq_zero_of_no_sems (by decide) r.2⟩) (Cert.ReferenceIdeal.Value.run m g)

end

section
open Cert.KernelIdeal.Attn

/-- The five gradients of a device whose arguments hold the numbers `A`. -/
def gq (A : Args) : (⟨2, ![4096, 1024]⟩ : Shape).Idx → EReal := fun y => ((A.dq ((y 1).val / 128) (y 0).val ((y 1).val % 128) : ℝ) : EReal)
def gk (A : Args) : (⟨2, ![4096, 1024]⟩ : Shape).Idx → EReal := fun y => ((A.dk ((y 1).val / 128) (y 0).val ((y 1).val % 128) : ℝ) : EReal)
def gv (A : Args) : (⟨2, ![4096, 1024]⟩ : Shape).Idx → EReal := fun y => ((A.dv ((y 1).val / 128) (y 0).val ((y 1).val % 128) : ℝ) : EReal)
def gfk (A : Args) : (⟨3, ![8, 1, 4096]⟩ : Shape).Idx → EReal := fun y => ((A.dfk (y 0).val (y 2).val : ℝ) : EReal)
def gfq (A : Args) : (⟨3, ![8, 1, 4096]⟩ : Shape).Idx → EReal := fun y => ((A.dfq (y 0).val (y 2).val : ℝ) : EReal)

/-- The kernel ends with the five gradients, its arguments as they were. -/
theorem kernel_run (m : (ℓ : Loc Cert.KernelIdeal.nD Cert.KernelIdeal.τ Cert.KernelIdeal.sig) → Buf (Elt Ideal) ℓ) (g : Dev Cert.KernelIdeal.nD → PrngReg)
    (A : Dev Cert.KernelIdeal.nD → Args) (hA : ∀ c, Holds m c (A c)) :
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_v45_0) = gq (A c)
      ∧ r.2.mem ((c.tc : Thread Cert.KernelIdeal.nD Cert.KernelIdeal.τ).loc Cert.KernelIdeal.main_v45_1) = gk (A c)
      ∧ r.2.mem ((c.tc : Thread Cert.KernelIdeal.nD Cert.KernelIdeal.τ).loc Cert.KernelIdeal.main_v45_2) = gv (A c)
      ∧ r.2.mem ((c.tc : Thread Cert.KernelIdeal.nD Cert.KernelIdeal.τ).loc Cert.KernelIdeal.main_v45_3) = gfk (A c)
      ∧ r.2.mem ((c.tc : Thread Cert.KernelIdeal.nD Cert.KernelIdeal.τ).loc Cert.KernelIdeal.main_v45_4) = gfq (A c)
      ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)) :=
  (θ_run Cert.KernelIdeal.defs _ _).mono (fun r h c =>
    ⟨funext fun y => (res_7 m r A h.1 c).at y, funext fun y => (res_8 m r A h.1 c).at y, funext fun y => (res_9 m r A h.1 c).at y,
      funext fun y => (res_10 m r A h.1 c).at y, funext fun y => (res_11 m r A h.1 c).at y,
      arr_arg0 m _ r h.1 c, arr_arg1 m _ r h.1 c, arr_arg2 m _ r h.1 c⟩)
    (run_main m (fun c => goalN (A c).nums) g (fun c _ _ _ _ _ h0 => absurd rfl h0) (fun c => step m c _ (blocks m c (A c) (hA c))))

end

section
open Cert.KernelIdeal.Attn Cert.ReferenceIdeal Cert.ReferenceIdeal.Read Cert.ReferenceIdeal.Attn

/-- The reference ends with the five gradients, its arguments as they were. -/
theorem reference_run (m : (ℓ : Loc nD τ sig) → Buf (Elt Ideal) ℓ) (g : Dev nD → PrngReg) (A : Dev nD → Args)
    (hz : ∀ c : Dev nD, R2 (a := 4096) (b := 5120) (m ((c.tc : Thread nD τ).loc main_arg0)) (A c).z)
    (hf : ∀ c : Dev nD, R2 (a := 8) (b := 4096) (m ((c.tc : Thread nD τ).loc main_arg1)) (A c).f)
    (hd : ∀ c : Dev nD, R2 (a := 4096) (b := 1024) (m ((c.tc : Thread nD τ).loc main_arg2)) (A c).d) :
    θ_run (defs (F := Ideal)) (onTc (τ := τ) (main (F := Ideal))) ⟨m, fun _ => 0, g⟩ fun r => ∀ c : Dev nD,
      r.2.mem ((c.tc : Thread nD τ).loc main_v89) = gq (A c)
      ∧ r.2.mem ((c.tc : Thread nD τ).loc main_v92) = gk (A c)
      ∧ r.2.mem ((c.tc : Thread nD τ).loc main_v95) = gv (A c)
      ∧ r.2.mem ((c.tc : Thread nD τ).loc main_v96) = gfk (A c)
      ∧ r.2.mem ((c.tc : Thread nD τ).loc main_v97) = gfq (A c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) := by
  refine (θ_run defs _ _).mono (fun r h c => ?_) (Cert.ReferenceIdeal.Value.run m g)
  obtain ⟨h1, h2, h3, h4, h5, h6, h7, h8⟩ := h c
  obtain ⟨N, hN⟩ := max_r (hz c) (hf c)
  have he := exp_r (hz c) (hf c) hN
  have hS := dS_r (hz c) (hd c) he
  exact ⟨(h1.trans (val_main_v89_eq m c)).trans (funext fun y => (ref_dq (hz c) hS).at y),
    (h2.trans (val_main_v92_eq m c)).trans (funext fun y => (ref_dk (hz c) hS).at y),
    (h3.trans (val_main_v95_eq m c)).trans (funext fun y => (ref_dv (hd c) (P_r he)).at y),
    (h4.trans (val_main_v96_eq m c)).trans (funext fun y => (ref_dfk hS).at y),
    (h5.trans (val_main_v97_eq m c)).trans (funext fun y => (ref_dfq hS).at y), h6, h7, h8⟩

end

/-- From finite arguments the kernel and the reference end with the same five results. -/
theorem algebraic : Cert.algebraic_KernelIdeal_ReferenceIdeal_pre_finite (hKernelIdeal := Cert.KernelIdeal.Gen.facts)
    (hReferenceIdeal := Cert.ReferenceIdeal.Gen.facts) (hPre_finite := Cert.KernelIdeal.Attn.finite_facts) := by
  intro m g m' g' hpre harg
  obtain ⟨A, hA⟩ := Cert.KernelIdeal.Attn.exists_holds m hpre
  refine ⟨fun c => gq (A c), fun c => gk (A c), fun c => gv (A c), fun c => gfk (A c), fun c => gfq (A c), kernel_run m g A hA, ?_⟩
  refine reference_run m' g' A (fun c => ?_) (fun c => ?_) (fun c => ?_)
  · rw [(harg c).1]; exact (hA c).z
  · rw [(harg c).2.1]; exact (hA c).f
  · rw [(harg c).2.2]; exact (hA c).d

/-- The claims. -/
theorem claim : Cert.Claim :=
  ⟨Cert.Kernel.Gen.facts, Cert.KernelIdeal.Gen.facts, Cert.ReferenceIdeal.Gen.facts, Cert.InProj.Gen.facts, Cert.InProjIdeal.Gen.facts,
    Cert.InProjReferenceIdeal.Gen.facts, Cert.OutProj.Gen.facts, Cert.OutProjIdeal.Gen.facts, Cert.OutProjReferenceIdeal.Gen.facts, Cert.Ff1.Gen.facts,
    Cert.Ff1Ideal.Gen.facts, Cert.Ff1ReferenceIdeal.Gen.facts, Cert.Ff2.Gen.facts, Cert.Ff2Ideal.Gen.facts, Cert.Ff2ReferenceIdeal.Gen.facts,
    Cert.Ff2Dw.Gen.facts, Cert.Ff2DwIdeal.Gen.facts, Cert.Ff2DwReferenceIdeal.Gen.facts, Cert.Ff2Dlhs.Gen.facts, Cert.Ff2DlhsIdeal.Gen.facts,
    Cert.Ff2DlhsReferenceIdeal.Gen.facts, Cert.Ff1Dlhs.Gen.facts, Cert.Ff1DlhsIdeal.Gen.facts, Cert.Ff1DlhsReferenceIdeal.Gen.facts,
    Cert.Ff1Dw.Gen.facts, Cert.Ff1DwIdeal.Gen.facts, Cert.Ff1DwReferenceIdeal.Gen.facts, Cert.OutProjDw.Gen.facts, Cert.OutProjDwIdeal.Gen.facts,
    Cert.OutProjDwReferenceIdeal.Gen.facts, Cert.OutProjDlhs.Gen.facts, Cert.OutProjDlhsIdeal.Gen.facts, Cert.OutProjDlhsReferenceIdeal.Gen.facts,
    Cert.InProjDw.Gen.facts, Cert.InProjDwIdeal.Gen.facts, Cert.InProjDwReferenceIdeal.Gen.facts, Cert.InProjDlhs.Gen.facts,
    Cert.InProjDlhsIdeal.Gen.facts, Cert.InProjDlhsReferenceIdeal.Gen.facts, Cert.AdamwIn.Gen.facts, Cert.AdamwInIdeal.Gen.facts,
    Cert.AdamwInReferenceIdeal.Gen.facts, Cert.AdamwOut.Gen.facts, Cert.AdamwOutIdeal.Gen.facts, Cert.AdamwOutReferenceIdeal.Gen.facts,
    Cert.AdamwFf.Gen.facts, Cert.AdamwFfIdeal.Gen.facts, Cert.AdamwFfReferenceIdeal.Gen.facts, Cert.NormMixBwd.Gen.facts,
    Cert.NormMixBwdIdeal.Gen.facts, Cert.NormMixBwdReferenceIdeal.Gen.facts, Cert.NormFfnBwd.Gen.facts, Cert.NormFfnBwdIdeal.Gen.facts,
    Cert.NormFfnBwdReferenceIdeal.Gen.facts, Cert.LossHead.Gen.facts, Cert.LossHeadIdeal.Gen.facts, Cert.LossHeadReferenceIdeal.Gen.facts,
    Cert.NormFfn.Gen.facts, Cert.NormFfnIdeal.Gen.facts, Cert.NormFfnReferenceIdeal.Gen.facts, Cert.GateDw.Gen.facts, Cert.GateDwIdeal.Gen.facts,
    Cert.GateDwReferenceIdeal.Gen.facts, Cert.GateDlhs.Gen.facts, Cert.GateDlhsIdeal.Gen.facts, Cert.GateDlhsReferenceIdeal.Gen.facts,
    Cert.AdamwEarly.Gen.facts, Cert.AdamwEarlyIdeal.Gen.facts, Cert.AdamwEarlyReferenceIdeal.Gen.facts, Cert.AdamwLate.Gen.facts,
    Cert.AdamwLateIdeal.Gen.facts, Cert.AdamwLateReferenceIdeal.Gen.facts, Cert.ForgetBwd.Gen.facts, Cert.ForgetBwdIdeal.Gen.facts,
    Cert.ForgetBwdReferenceIdeal.Gen.facts, Cert.ForgetFwd.Gen.facts, Cert.ForgetFwdIdeal.Gen.facts, Cert.ForgetFwdReferenceIdeal.Gen.facts,
    Cert.NormMix.Gen.facts, Cert.NormMixIdeal.Gen.facts, Cert.NormMixReferenceIdeal.Gen.facts, Cert.AddHalves.Gen.facts, Cert.AddHalvesIdeal.Gen.facts,
    Cert.AddHalvesReferenceIdeal.Gen.facts, Cert.KernelIdeal.Attn.finite_facts, Cert.Halves.facts,
    fun m g _ => Cert.Kernel.Attn.frame m g,
    fun m g _ => Cert.KernelIdeal.Attn.frame m g,
    fun m g _ => Cert.KernelIdeal.Attn.frame m g,
    fun m g _ => reference_frame m g,
    fun m g _ => reference_frame m g,
    fun m g _ => Cert.InProj.Gen.frame m g,
    fun m g _ => Cert.InProjIdeal.Gen.frame m g,
    Cert.InProjIdeal.Product.reference_frame,
    fun m g _ => Cert.OutProj.Gen.frame m g,
    fun m g _ => Cert.OutProjIdeal.Gen.frame m g,
    Cert.OutProjIdeal.Product.reference_frame,
    fun m g _ => Cert.Ff1.Gen.frame m g,
    fun m g _ => Cert.Ff1Ideal.Gen.frame m g,
    Cert.Ff1Ideal.Product.reference_frame,
    fun m g _ => Cert.Ff2.Gen.frame m g,
    fun m g _ => Cert.Ff2Ideal.Gen.frame m g,
    Cert.Ff2Ideal.Product.reference_frame,
    fun m g _ => Cert.Ff2Dw.Gen.frame m g,
    fun m g _ => Cert.Ff2DwIdeal.Gen.frame m g,
    Cert.Ff2DwIdeal.Product.reference_frame,
    fun m g _ => Cert.Ff2Dlhs.Gen.frame m g,
    fun m g _ => Cert.Ff2DlhsIdeal.Gen.frame m g,
    Cert.Ff2DlhsIdeal.Product.reference_frame,
    fun m g _ => Cert.Ff1Dlhs.Gen.frame m g,
    fun m g _ => Cert.Ff1DlhsIdeal.Gen.frame m g,
    Cert.Ff1DlhsIdeal.Product.reference_frame,
    fun m g _ => Cert.Ff1Dw.Gen.frame m g,
    fun m g _ => Cert.Ff1DwIdeal.Gen.frame m g,
    Cert.Ff1DwIdeal.Product.reference_frame,
    fun m g _ => Cert.OutProjDw.Gen.frame m g,
    fun m g _ => Cert.OutProjDwIdeal.Gen.frame m g,
    Cert.OutProjDwIdeal.Product.reference_frame,
    fun m g _ => Cert.OutProjDlhs.Gen.frame m g,
    fun m g _ => Cert.OutProjDlhsIdeal.Gen.frame m g,
    Cert.OutProjDlhsIdeal.Product.reference_frame,
    fun m g _ => Cert.InProjDw.Gen.frame m g,
    fun m g _ => Cert.InProjDwIdeal.Gen.frame m g,
    Cert.InProjDwIdeal.Product.reference_frame,
    fun m g _ => Cert.InProjDlhs.Gen.frame m g,
    fun m g _ => Cert.InProjDlhsIdeal.Gen.frame m g,
    Cert.InProjDlhsIdeal.Product.reference_frame,
    fun m g _ => Cert.AdamwIn.Gen.frame m g,
    fun m g _ => Cert.AdamwInIdeal.Gen.frame m g,
    Cert.AdamwInIdeal.Step.reference_frame,
    fun m g _ => Cert.AdamwOut.Gen.frame m g,
    fun m g _ => Cert.AdamwOutIdeal.Gen.frame m g,
    Cert.AdamwOutIdeal.Step.reference_frame,
    fun m g _ => Cert.AdamwFf.Gen.frame m g,
    fun m g _ => Cert.AdamwFfIdeal.Gen.frame m g,
    Cert.AdamwFfIdeal.Step.reference_frame,
    fun m g _ => Cert.NormMixBwd.Gen.frame m g,
    fun m g _ => Cert.NormMixBwdIdeal.Gen.frame m g,
    Cert.NormMixBwdIdeal.Norm.reference_frame,
    fun m g _ => Cert.NormFfnBwd.Gen.frame m g,
    fun m g _ => Cert.NormFfnBwdIdeal.Gen.frame m g,
    Cert.NormFfnBwdIdeal.Norm.reference_frame,
    fun m g _ => Cert.LossHead.Gen.frame m g,
    fun m g _ => Cert.LossHeadIdeal.Gen.frame m g,
    Cert.LossHeadIdeal.Norm.reference_frame,
    fun m g _ => Cert.NormFfn.Gen.frame m g,
    fun m g _ => Cert.NormFfnIdeal.Gen.frame m g,
    Cert.NormFfnIdeal.Norm.reference_frame,
    fun m g _ => Cert.GateDw.Gen.frame m g,
    fun m g _ => Cert.GateDwIdeal.Gen.frame m g,
    Cert.GateDwIdeal.Product.reference_frame,
    fun m g _ => Cert.GateDlhs.Gen.frame m g,
    fun m g _ => Cert.GateDlhsIdeal.Gen.frame m g,
    Cert.GateDlhsIdeal.Product.reference_frame,
    fun m g _ => Cert.AdamwEarly.Gen.frame m g trivial,
    fun m g _ => Cert.AdamwEarlyIdeal.Gen.frame m g trivial,
    Cert.AdamwEarlyIdeal.Step.reference_frame,
    fun m g _ => Cert.AdamwLate.Gen.frame m g trivial,
    fun m g _ => Cert.AdamwLateIdeal.Gen.frame m g trivial,
    Cert.AdamwLateIdeal.Step.reference_frame,
    fun m g _ => Cert.ForgetBwd.Gen.frame m g,
    fun m g _ => Cert.ForgetBwdIdeal.Gen.frame m g,
    Cert.ForgetBwdIdeal.Gates.reference_frame,
    fun m g _ => Cert.ForgetFwd.Gen.frame m g,
    fun m g _ => Cert.ForgetFwdIdeal.Gen.frame m g,
    Cert.ForgetFwdIdeal.Gates.reference_frame,
    fun m g _ => Cert.NormMix.Gen.frame m g trivial,
    fun m g _ => Cert.NormMixIdeal.Gen.frame m g trivial,
    Cert.NormMixIdeal.Norm.reference_frame,
    fun m g h => Cert.AddHalves.Gen.frame m g (Cert.AddHalves.Halves.ok m h),
    fun m g h => Cert.AddHalvesIdeal.Gen.frame m g (Cert.AddHalvesIdeal.Halves.ok m h),
    Cert.AddHalvesIdeal.Halves.reference_frame,
    preserves,
    algebraic,
    trivial,
    Cert.InProjIdeal.Product.algebraic,
    trivial,
    Cert.OutProjIdeal.Product.algebraic,
    trivial,
    Cert.Ff1Ideal.Product.algebraic,
    trivial,
    Cert.Ff2Ideal.Product.algebraic,
    trivial,
    Cert.Ff2DwIdeal.Product.algebraic,
    trivial,
    Cert.Ff2DlhsIdeal.Product.algebraic,
    trivial,
    Cert.Ff1DlhsIdeal.Product.algebraic,
    trivial,
    Cert.Ff1DwIdeal.Product.algebraic,
    trivial,
    Cert.OutProjDwIdeal.Product.algebraic,
    trivial,
    Cert.OutProjDlhsIdeal.Product.algebraic,
    trivial,
    Cert.InProjDwIdeal.Product.algebraic,
    trivial,
    Cert.InProjDlhsIdeal.Product.algebraic,
    trivial,
    Cert.AdamwInIdeal.Step.algebraic,
    trivial,
    Cert.AdamwOutIdeal.Step.algebraic,
    trivial,
    Cert.AdamwFfIdeal.Step.algebraic,
    trivial,
    Cert.NormMixBwdIdeal.Norm.algebraic,
    trivial,
    Cert.NormFfnBwdIdeal.Norm.algebraic,
    trivial,
    Cert.LossHeadIdeal.Norm.algebraic,
    trivial,
    Cert.NormFfnIdeal.Norm.algebraic,
    trivial,
    Cert.GateDwIdeal.Product.algebraic,
    trivial,
    Cert.GateDlhsIdeal.Product.algebraic,
    trivial,
    Cert.AdamwEarlyIdeal.Step.algebraic,
    trivial,
    Cert.AdamwLateIdeal.Step.algebraic,
    trivial,
    Cert.ForgetBwdIdeal.Gates.algebraic,
    trivial,
    Cert.ForgetFwdIdeal.Gates.algebraic,
    trivial,
    Cert.NormMixIdeal.Norm.algebraic,
    trivial,
    Cert.AddHalvesIdeal.Halves.algebraic⟩

end Cert.Proof

end
